-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite3 [hPre_finite3 : Cert.Pre_finite3.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite3.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite3 [hPre_finite3 : Cert.Pre_finite3.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite3.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite3 [hKernel8Ideal : Cert.Kernel8Ideal.Facts] [hPre_finite3 : Cert.Pre_finite3.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite3 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite3 [hReference8Ideal : Cert.Reference8Ideal.Facts] [hPre_finite3 : Cert.Pre_finite3.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite3 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25)) (v1 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_v23) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v1)) (v1 : (c : Dev Cert.Kernel6Ideal.nD) → Buf (Elt Ideal) ((c.tc : Thread Cert.Kernel6Ideal.nD Cert.Kernel6Ideal.τ).loc Cert.Kernel6Ideal.main_v2_2)) (v2 : (c : Dev Cert.Kernel6Ideal.nD) → Buf (Elt Ideal) ((c.tc : Thread Cert.Kernel6Ideal.nD Cert.Kernel6Ideal.τ).loc Cert.Kernel6Ideal.main_v2_3)) (v3 : (c : Dev Cert.Kernel6Ideal.nD) → Buf (Elt Ideal) ((c.tc : Thread Cert.Kernel6Ideal.nD Cert.Kernel6Ideal.τ).loc Cert.Kernel6Ideal.main_v4)) (v4 : (c : Dev Cert.Kernel6Ideal.nD) → Buf (Elt Ideal) ((c.tc : Thread Cert.Kernel6Ideal.nD Cert.Kernel6Ideal.τ).loc Cert.Kernel6Ideal.main_v6)) (v5 : (c : Dev Cert.Kernel6Ideal.nD) → Buf (Elt Ideal) ((c.tc : Thread Cert.Kernel6Ideal.nD Cert.Kernel6Ideal.τ).loc Cert.Kernel6Ideal.main_v5)) (v6 : (c : Dev Cert.Kernel6Ideal.nD) → Buf (Elt Ideal) ((c.tc : Thread Cert.Kernel6Ideal.nD Cert.Kernel6Ideal.τ).loc Cert.Kernel6Ideal.main_v7)) (v7 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_v2_2) = v1 c
          ∧ r.2.mem ((c.tc : Thread Cert.Kernel6Ideal.nD Cert.Kernel6Ideal.τ).loc Cert.Kernel6Ideal.main_v2_3) = v2 c
          ∧ r.2.mem ((c.tc : Thread Cert.Kernel6Ideal.nD Cert.Kernel6Ideal.τ).loc Cert.Kernel6Ideal.main_v4) = v3 c
          ∧ r.2.mem ((c.tc : Thread Cert.Kernel6Ideal.nD Cert.Kernel6Ideal.τ).loc Cert.Kernel6Ideal.main_v6) = v4 c
          ∧ r.2.mem ((c.tc : Thread Cert.Kernel6Ideal.nD Cert.Kernel6Ideal.τ).loc Cert.Kernel6Ideal.main_v5) = v5 c
          ∧ r.2.mem ((c.tc : Thread Cert.Kernel6Ideal.nD Cert.Kernel6Ideal.τ).loc Cert.Kernel6Ideal.main_v7) = v6 c
          ∧ r.2.mem ((c.tc : Thread Cert.Kernel6Ideal.nD Cert.Kernel6Ideal.τ).loc Cert.Kernel6Ideal.main_v3) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_v52) = v3 c
          ∧ r.2.mem ((c.tc : Thread Cert.Reference6Ideal.nD Cert.Reference6Ideal.τ).loc Cert.Reference6Ideal.main_v53) = v4 c
          ∧ r.2.mem ((c.tc : Thread Cert.Reference6Ideal.nD Cert.Reference6Ideal.τ).loc Cert.Reference6Ideal.main_v54) = v5 c
          ∧ r.2.mem ((c.tc : Thread Cert.Reference6Ideal.nD Cert.Reference6Ideal.τ).loc Cert.Reference6Ideal.main_v55) = v6 c
          ∧ r.2.mem ((c.tc : Thread Cert.Reference6Ideal.nD Cert.Reference6Ideal.τ).loc Cert.Reference6Ideal.main_v56) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_v54) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite3 [hKernel8Ideal : Cert.Kernel8Ideal.Facts] [hReference8Ideal : Cert.Reference8Ideal.Facts] [hPre_finite3 : Cert.Pre_finite3.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite3 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v238) = v0 c
          ∧ r.2.mem ((c.tc : Thread Cert.Reference8Ideal.nD Cert.Reference8Ideal.τ).loc Cert.Reference8Ideal.main_v236) = v1 c
          ∧ r.2.mem ((c.tc : Thread Cert.Reference8Ideal.nD Cert.Reference8Ideal.τ).loc Cert.Reference8Ideal.main_v237) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v79) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite3 (hKernel8Ideal := hKernel8Ideal) (hPre_finite3 := hPre_finite3)
    ∧ quiescent_Reference8Ideal (hReference8Ideal := hReference8Ideal)
    ∧ quiescent_Reference8Ideal_pre_finite3 (hReference8Ideal := hReference8Ideal) (hPre_finite3 := hPre_finite3)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite3 (hKernel8Ideal := hKernel8Ideal) (hReference8Ideal := hReference8Ideal) (hPre_finite3 := hPre_finite3)
    ∧ preserves_Kernel9_Kernel9Ideal
    ∧ algebraic_Kernel9Ideal_Reference9Ideal (hKernel9Ideal := hKernel9Ideal) (hReference9Ideal := hReference9Ideal)
-- ==== Pre_finite.lean ====
abbrev S4096x5120 : Shape := ⟨2, ![4096, 5120]⟩
abbrev S4096x512 : Shape := ⟨2, ![4096, 512]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x5120 .bf16) (main_arg1 : FVec F S4096x512 .bf16) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  main_v10
-- ==== Pre_finite2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  main_v20

def fn {F : FTy → Type} [FloatOps F] (main_arg0 : FVec F S4096x1024 .f32) (main_arg1 : FVec F S1x1024 .f32) (main_arg2 : FVec F S1024x5632 .bf16) (main_arg3 : FVec F S2816x1024 .bf16) (main_arg4 : FVec F S4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x5632 .f32 := (extf .f32 · bitsLt_bf16_f32) main_arg2
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v3 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  let main_v16 : FVec F S4096x1024 .f32 := Host.absf main_arg4
  let main_cst_4 : FVec F S_ .f32 := constant S_ .f32 0x7F800000#32
  fn_part1 (F := F) main_v15 main_v16 main_cst_4
-- ==== Pre_finite3.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x2048 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Kernel.lean ====
abbrev S4096x5120 : Shape := ⟨2, ![4096, 5120]⟩
abbrev S4096x512 : Shape := ⟨2, ![4096, 512]⟩
abbrev S512x128 : Shape := ⟨2, ![512, 128]⟩
abbrev S4096x128 : Shape := ⟨2, ![4096, 128]⟩
abbrev S256x256 : Shape := ⟨2, ![256, 256]⟩
abbrev S128x128 : Shape := ⟨2, ![128, 128]⟩
abbrev S256x128 : Shape := ⟨2, ![256, 128]⟩
abbrev S384x128 : Shape := ⟨2, ![384, 128]⟩
abbrev S128x256 : Shape := ⟨2, ![128, 256]⟩
abbrev S384x256 : Shape := ⟨2, ![384, 256]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 26
  | .smem => 0
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x512, .bf16⟩
  | .hbm, ⟨5, _⟩ => ⟨S4096x512, .f32⟩
  | .hbm, ⟨6, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S512x128, .f32⟩
  | .local _ .vmem, ⟨17, _⟩ => ⟨S512x128, .f32⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c4_i32 : BitVec 32 := 4#32
  let v31 : BitVec 32 := Scalar.muli arg1 c4_i32
  let c3_i32 : BitVec 32 := 3#32
  let v32 : BitVec 32 := Scalar.addi v31 c3_i32
  let c128_i32_7 : BitVec 32 := 128#32
  let v33 : BitVec 32 := Scalar.muli v32 c128_i32_7
  v33
def k0_mult2 (i : grid0.Coords) : BitVec 32 :=
  let arg1 : BitVec 32 := BitVec.ofNat 32 (i 1).val
  let c4_i32_8 : BitVec 32 := 4#32
  let v35 : BitVec 32 := Scalar.muli arg1 c4_i32_8
  let c2_i32 : BitVec 32 := 2#32
  let v36 : BitVec 32 := Scalar.addi v35 c2_i32
  let c128_i32_9 : BitVec 32 := 128#32
  let v37 : BitVec 32 := Scalar.muli v36 c128_i32_9
  v37
def k0_mult3 (i : grid0.Coords) : BitVec 32 :=
  let arg1 : BitVec 32 := BitVec.ofNat 32 (i 1).val
  let c4_i32_10 : BitVec 32 := 4#32
  let v39 : BitVec 32 := Scalar.muli arg1 c4_i32_10
  let c1_i32 : BitVec 32 := 1#32
  let v40 : BitVec 32 := Scalar.addi v39 c1_i32
  let c128_i32_11 : BitVec 32 := 128#32
  let v41 : BitVec 32 := Scalar.muli v40 c128_i32_11
  v41
def k0_mult4 (i : grid0.Coords) : BitVec 32 :=
  let arg1 : BitVec 32 := BitVec.ofNat 32 (i 1).val
  let c4_i32_12 : BitVec 32 := 4#32
  let v43 : BitVec 32 := Scalar.muli arg1 c4_i32_12
  let c0_i32 : BitVec 32 := 0#32
  let v44 : BitVec 32 := Scalar.addi v43 c0_i32
  let c128_i32_13 : BitVec 32 := 128#32
  let v45 : BitVec 32 := Scalar.muli v44 c128_i32_13
  v45
def k0_off1 (i : grid0.Coords) (c3_i32 : BitVec 32) : Fin 2 → Nat :=
  let arg1 : BitVec 32 := BitVec.ofNat 32 (i 1).val
  let c4_i32 : BitVec 32 := 4#32
  let v31 : BitVec 32 := Scalar.muli arg1 c4_i32
  let v32 : BitVec 32 := Scalar.addi v31 c3_i32
  let c128_i32_7 : BitVec 32 := 128#32
  let v33 : BitVec 32 := Scalar.muli v32 c128_i32_7
  let v34 : BitVec 32 := v33
  let v47 : Index := Scalar.indexCast v34
  let c0_14 : Index := 0#32
  ![v47.toNat, 0]
@[reducible] def k0_t1_loop (i : grid0.Coords) : Scf.Loop 32 :=
  let c0_i32_79 : BitVec 32 := 0#32
  let arg1 : BitVec 32 := BitVec.ofNat 32 (i 1).val
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let c1_i32_81 : BitVec 32 := 1#32
  ⟨c0_i32_79, v386, c1_i32_81⟩
def k0_mult5 (i : grid0.Coords) (k0_t1 : Fin (k0_t1_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let c1_i32_81 : BitVec 32 := 1#32
  let arg7 : BitVec 32 := Scf.iv c0_i32_79 c1_i32_81 k0_t1
  let v393 : BitVec 32 := Scalar.subi v392 arg7
  let c4_i32_88 : BitVec 32 := 4#32
  let v394 : BitVec 32 := Scalar.muli v393 c4_i32_88
  let c3_i32_89 : BitVec 32 := 3#32
  let v395 : BitVec 32 := Scalar.addi v394 c3_i32_89
  let c128_i32_90 : BitVec 32 := 128#32
  let v396 : BitVec 32 := Scalar.muli v395 c128_i32_90
  v396
def k0_mult6 (i : grid0.Coords) (k0_t1 : Fin (k0_t1_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let c1_i32_81 : BitVec 32 := 1#32
  let arg7 : BitVec 32 := Scf.iv c0_i32_79 c1_i32_81 k0_t1
  let v393 : BitVec 32 := Scalar.subi v392 arg7
  let c4_i32_91 : BitVec 32 := 4#32
  let v398 : BitVec 32 := Scalar.muli v393 c4_i32_91
  let c2_i32_92 : BitVec 32 := 2#32
  let v399 : BitVec 32 := Scalar.addi v398 c2_i32_92
  let c128_i32_93 : BitVec 32 := 128#32
  let v400 : BitVec 32 := Scalar.muli v399 c128_i32_93
  v400
def k0_mult7 (i : grid0.Coords) (k0_t1 : Fin (k0_t1_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let c1_i32_81 : BitVec 32 := 1#32
  let arg7 : BitVec 32 := Scf.iv c0_i32_79 c1_i32_81 k0_t1
  let v393 : BitVec 32 := Scalar.subi v392 arg7
  let c4_i32_94 : BitVec 32 := 4#32
  let v402 : BitVec 32 := Scalar.muli v393 c4_i32_94
  let c1_i32_95 : BitVec 32 := 1#32
  let v403 : BitVec 32 := Scalar.addi v402 c1_i32_95
  let c128_i32_96 : BitVec 32 := 128#32
  let v404 : BitVec 32 := Scalar.muli v403 c128_i32_96
  v404
def k0_mult8 (i : grid0.Coords) (k0_t1 : Fin (k0_t1_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let c1_i32_81 : BitVec 32 := 1#32
  let arg7 : BitVec 32 := Scf.iv c0_i32_79 c1_i32_81 k0_t1
  let v393 : BitVec 32 := Scalar.subi v392 arg7
  let c4_i32_97 : BitVec 32 := 4#32
  let v406 : BitVec 32 := Scalar.muli v393 c4_i32_97
  let c0_i32_98 : BitVec 32 := 0#32
  let v407 : BitVec 32 := Scalar.addi v406 c0_i32_98
  let c128_i32_99 : BitVec 32 := 128#32
  let v408 : BitVec 32 := Scalar.muli v407 c128_i32_99
  v408
def k0_off2 (i : grid0.Coords) (k0_t1 : Fin (k0_t1_loop i).trips) (c3_i32_89 : BitVec 32) : Fin 2 → Nat :=
  let arg1 : BitVec 32 := BitVec.ofNat 32 (i 1).val
  let c1_i32_87 : BitVec 32 := 1#32
  let v392 : BitVec 32 := Scalar.subi arg1 c1_i32_87
  let c0_i32_79 : BitVec 32 := 0#32
  let c1_i32_81 : BitVec 32 := 1#32
  let arg7 : BitVec 32 := Scf.iv c0_i32_79 c1_i32_81 k0_t1
  let v393 : BitVec 32 := Scalar.subi v392 arg7
  let c4_i32_88 : BitVec 32 := 4#32
  let v394 : BitVec 32 := Scalar.muli v393 c4_i32_88
  let v395 : BitVec 32 := Scalar.addi v394 c3_i32_89
  let c128_i32_90 : BitVec 32 := 128#32
  let v396 : BitVec 32 := Scalar.muli v395 c128_i32_90
  let v397 : BitVec 32 := v396
  let v410 : Index := Scalar.indexCast v397
  let c0_100 : Index := 0#32
  ![v410.toNat, 0]
@[reducible] def k0_t2_loop (i : grid0.Coords) : Scf.Loop 32 :=
  let c0_i32_79 : BitVec 32 := 0#32
  let arg1 : BitVec 32 := BitVec.ofNat 32 (i 1).val
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let v383 : BitVec 32 := Scalar.addi c0_i32_79 v382
  let c1_i32_82 : BitVec 32 := 1#32
  ⟨v386, v383, c1_i32_82⟩
def k0_mult9 (i : grid0.Coords) (k0_t2 : Fin (k0_t2_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let c1_i32_82 : BitVec 32 := 1#32
  let arg7 : BitVec 32 := Scf.iv v386 c1_i32_82 k0_t2
  let v393 : BitVec 32 := Scalar.subi v392 arg7
  let c4_i32_88 : BitVec 32 := 4#32
  let v394 : BitVec 32 := Scalar.muli v393 c4_i32_88
  let c3_i32_89 : BitVec 32 := 3#32
  let v395 : BitVec 32 := Scalar.addi v394 c3_i32_89
  let c128_i32_90 : BitVec 32 := 128#32
  let v396 : BitVec 32 := Scalar.muli v395 c128_i32_90
  v396
def k0_mult10 (i : grid0.Coords) (k0_t2 : Fin (k0_t2_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let c1_i32_82 : BitVec 32 := 1#32
  let arg7 : BitVec 32 := Scf.iv v386 c1_i32_82 k0_t2
  let v393 : BitVec 32 := Scalar.subi v392 arg7
  let c4_i32_91 : BitVec 32 := 4#32
  let v398 : BitVec 32 := Scalar.muli v393 c4_i32_91
  let c2_i32_92 : BitVec 32 := 2#32
  let v399 : BitVec 32 := Scalar.addi v398 c2_i32_92
  let c128_i32_93 : BitVec 32 := 128#32
  let v400 : BitVec 32 := Scalar.muli v399 c128_i32_93
  v400
def k0_mult11 (i : grid0.Coords) (k0_t2 : Fin (k0_t2_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let c1_i32_82 : BitVec 32 := 1#32
  let arg7 : BitVec 32 := Scf.iv v386 c1_i32_82 k0_t2
  let v393 : BitVec 32 := Scalar.subi v392 arg7
  let c4_i32_94 : BitVec 32 := 4#32
  let v402 : BitVec 32 := Scalar.muli v393 c4_i32_94
  let c1_i32_95 : BitVec 32 := 1#32
  let v403 : BitVec 32 := Scalar.addi v402 c1_i32_95
  let c128_i32_96 : BitVec 32 := 128#32
  let v404 : BitVec 32 := Scalar.muli v403 c128_i32_96
  v404
def k0_mult12 (i : grid0.Coords) (k0_t2 : Fin (k0_t2_loop i).trips) : BitVec 32 :=
  let arg1 : BitVec 32 := BitVec.ofNat 32 (i 1).val
  let c1_i32_87 : BitVec 32 := 1#32
  let v392 : BitVec 32 := Scalar.subi arg1 c1_i32_87
  let c0_i32_79 : BitVec 32 := 0#32
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let c1_i32_82 : BitVec 32 := 1#32
  let arg7 : BitVec 32 := Scf.iv v386 c1_i32_82 k0_t2
  let v393 : BitVec 32 := Scalar.subi v392 arg7
  let c4_i32_97 : BitVec 32 := 4#32
  let v406 : BitVec 32 := Scalar.muli v393 c4_i32_97
  let c0_i32_98 : BitVec 32 := 0#32
  let v407 : BitVec 32 := Scalar.addi v406 c0_i32_98
  let c128_i32_99 : BitVec 32 := 128#32
  let v408 : BitVec 32 := Scalar.muli v407 c128_i32_99
  v408
def k0_off3 (i : grid0.Coords) (k0_t2 : Fin (k0_t2_loop i).trips) (c3_i32_89 : BitVec 32) : Fin 2 → Nat :=
  let arg1 : BitVec 32 := BitVec.ofNat 32 (i 1).val
  let c1_i32_87 : BitVec 32 := 1#32
  let v392 : BitVec 32 := Scalar.subi arg1 c1_i32_87
  let c0_i32_79 : BitVec 32 := 0#32
  let v382 : BitVec 32 := Scalar.subi arg1 c0_i32_79
  let c1_i32_80 : BitVec 32 := 1#32
  let v384 : BitVec 32 := Scalar.divsi v382 c1_i32_80
  let v385 : BitVec 32 := Scalar.muli v384 c1_i32_80
  let v386 : BitVec 32 := Scalar.addi c0_i32_79 v385
  let c1_i32_82 : BitVec 32 := 1#32
  let arg7 : BitVec 32 := Scf.iv v386 c1_i32_82 k0_t2
  let v393 : BitVec 32 := Scalar.subi v392 arg7
  let c4_i32_88 : BitVec 32 := 4#32
  let v394 : BitVec 32 := Scalar.muli v393 c4_i32_88
  let v395 : BitVec 32 := Scalar.addi v394 c3_i32_89
  let c128_i32_90 : BitVec 32 := 128#32
  let v396 : BitVec 32 := Scalar.muli v395 c128_i32_90
  let v397 : BitVec 32 := v396
  let v410 : Index := Scalar.indexCast v397
  let c0_100 : Index := 0#32
  ![v410.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c4_i32 : BitVec 32 := 4#32
  let v62 : BitVec 32 := Scalar.muli arg1 c4_i32
  let c3_i32 : BitVec 32 := 3#32
  let v63 : BitVec 32 := Scalar.addi v62 c3_i32
  let c128_i32_20 : BitVec 32 := 128#32
  let v64 : BitVec 32 := Scalar.muli v63 c128_i32_20
  v64
def k1_mult2 (i : grid1.Coords) : BitVec 32 :=
  let arg1 : BitVec 32 := BitVec.ofNat 32 (i 1).val
  let c4_i32_21 : BitVec 32 := 4#32
  let v66 : BitVec 32 := Scalar.muli arg1 c4_i32_21
  let c2_i32 : BitVec 32 := 2#32
  let v67 : BitVec 32 := Scalar.addi v66 c2_i32
  let c128_i32_22 : BitVec 32 := 128#32
  let v68 : BitVec 32 := Scalar.muli v67 c128_i32_22
  v68
def k1_mult3 (i : grid1.Coords) : BitVec 32 :=
  let arg1 : BitVec 32 := BitVec.ofNat 32 (i 1).val
  let c4_i32_23 : BitVec 32 := 4#32
  let v70 : BitVec 32 := Scalar.muli arg1 c4_i32_23
  let c1_i32 : BitVec 32 := 1#32
  let v71 : BitVec 32 := Scalar.addi v70 c1_i32
  let c128_i32_24 : BitVec 32 := 128#32
  let v72 : BitVec 32 := Scalar.muli v71 c128_i32_24
  v72
def k1_mult4 (i : grid1.Coords) : BitVec 32 :=
  let arg1 : BitVec 32 := BitVec.ofNat 32 (i 1).val
  let c4_i32_25 : BitVec 32 := 4#32
  let v74 : BitVec 32 := Scalar.muli arg1 c4_i32_25
  let c0_i32_26 : BitVec 32 := 0#32
  let v75 : BitVec 32 := Scalar.addi v74 c0_i32_26
  let c128_i32_27 : BitVec 32 := 128#32
  let v76 : BitVec 32 := Scalar.muli v75 c128_i32_27
  v76
def k1_off1 (i : grid1.Coords) (c3_i32 : BitVec 32) : Fin 2 → Nat :=
  let arg1 : BitVec 32 := BitVec.ofNat 32 (i 1).val
  let c4_i32 : BitVec 32 := 4#32
  let v62 : BitVec 32 := Scalar.muli arg1 c4_i32
  let v63 : BitVec 32 := Scalar.addi v62 c3_i32
  let c128_i32_20 : BitVec 32 := 128#32
  let v64 : BitVec 32 := Scalar.muli v63 c128_i32_20
  let v65 : BitVec 32 := v64
  let v78 : Index := Scalar.indexCast v65
  let c0_28 : Index := 0#32
  ![v78.toNat, 0]
@[reducible] def k1_t1_loop (i : grid1.Coords) : Scf.Loop 32 :=
  let c0_i32_145 : BitVec 32 := 0#32
  let arg1 : BitVec 32 := BitVec.ofNat 32 (i 1).val
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let c1_i32_147 : BitVec 32 := 1#32
  ⟨c0_i32_145, v728, c1_i32_147⟩
def k1_mult5 (i : grid1.Coords) (k1_t1 : Fin (k1_t1_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let c1_i32_147 : BitVec 32 := 1#32
  let arg10 : BitVec 32 := Scf.iv c0_i32_145 c1_i32_147 k1_t1
  let v736 : BitVec 32 := Scalar.subi v735 arg10
  let c4_i32_153 : BitVec 32 := 4#32
  let v737 : BitVec 32 := Scalar.muli v736 c4_i32_153
  let c3_i32_154 : BitVec 32 := 3#32
  let v738 : BitVec 32 := Scalar.addi v737 c3_i32_154
  let c128_i32_155 : BitVec 32 := 128#32
  let v739 : BitVec 32 := Scalar.muli v738 c128_i32_155
  v739
def k1_mult6 (i : grid1.Coords) (k1_t1 : Fin (k1_t1_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let c1_i32_147 : BitVec 32 := 1#32
  let arg10 : BitVec 32 := Scf.iv c0_i32_145 c1_i32_147 k1_t1
  let v736 : BitVec 32 := Scalar.subi v735 arg10
  let c4_i32_156 : BitVec 32 := 4#32
  let v741 : BitVec 32 := Scalar.muli v736 c4_i32_156
  let c2_i32_157 : BitVec 32 := 2#32
  let v742 : BitVec 32 := Scalar.addi v741 c2_i32_157
  let c128_i32_158 : BitVec 32 := 128#32
  let v743 : BitVec 32 := Scalar.muli v742 c128_i32_158
  v743
def k1_mult7 (i : grid1.Coords) (k1_t1 : Fin (k1_t1_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let c1_i32_147 : BitVec 32 := 1#32
  let arg10 : BitVec 32 := Scf.iv c0_i32_145 c1_i32_147 k1_t1
  let v736 : BitVec 32 := Scalar.subi v735 arg10
  let c4_i32_159 : BitVec 32 := 4#32
  let v745 : BitVec 32 := Scalar.muli v736 c4_i32_159
  let c1_i32_160 : BitVec 32 := 1#32
  let v746 : BitVec 32 := Scalar.addi v745 c1_i32_160
  let c128_i32_161 : BitVec 32 := 128#32
  let v747 : BitVec 32 := Scalar.muli v746 c128_i32_161
  v747
def k1_mult8 (i : grid1.Coords) (k1_t1 : Fin (k1_t1_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let c1_i32_147 : BitVec 32 := 1#32
  let arg10 : BitVec 32 := Scf.iv c0_i32_145 c1_i32_147 k1_t1
  let v736 : BitVec 32 := Scalar.subi v735 arg10
  let c4_i32_162 : BitVec 32 := 4#32
  let v749 : BitVec 32 := Scalar.muli v736 c4_i32_162
  let c0_i32_163 : BitVec 32 := 0#32
  let v750 : BitVec 32 := Scalar.addi v749 c0_i32_163
  let c128_i32_164 : BitVec 32 := 128#32
  let v751 : BitVec 32 := Scalar.muli v750 c128_i32_164
  v751
def k1_off2 (i : grid1.Coords) (k1_t1 : Fin (k1_t1_loop i).trips) (c3_i32_154 : BitVec 32) : Fin 2 → Nat :=
  let arg1 : BitVec 32 := BitVec.ofNat 32 (i 1).val
  let c1_i32_152 : BitVec 32 := 1#32
  let v735 : BitVec 32 := Scalar.subi arg1 c1_i32_152
  let c0_i32_145 : BitVec 32 := 0#32
  let c1_i32_147 : BitVec 32 := 1#32
  let arg10 : BitVec 32 := Scf.iv c0_i32_145 c1_i32_147 k1_t1
  let v736 : BitVec 32 := Scalar.subi v735 arg10
  let c4_i32_153 : BitVec 32 := 4#32
  let v737 : BitVec 32 := Scalar.muli v736 c4_i32_153
  let v738 : BitVec 32 := Scalar.addi v737 c3_i32_154
  let c128_i32_155 : BitVec 32 := 128#32
  let v739 : BitVec 32 := Scalar.muli v738 c128_i32_155
  let v740 : BitVec 32 := v739
  let v753 : Index := Scalar.indexCast v740
  let c0_165 : Index := 0#32
  ![v753.toNat, 0]
@[reducible] def k1_t2_loop (i : grid1.Coords) : Scf.Loop 32 :=
  let c0_i32_145 : BitVec 32 := 0#32
  let arg1 : BitVec 32 := BitVec.ofNat 32 (i 1).val
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let v725 : BitVec 32 := Scalar.addi c0_i32_145 v724
  let c1_i32_148 : BitVec 32 := 1#32
  ⟨v728, v725, c1_i32_148⟩
def k1_mult9 (i : grid1.Coords) (k1_t2 : Fin (k1_t2_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let c1_i32_148 : BitVec 32 := 1#32
  let arg10 : BitVec 32 := Scf.iv v728 c1_i32_148 k1_t2
  let v736 : BitVec 32 := Scalar.subi v735 arg10
  let c4_i32_153 : BitVec 32 := 4#32
  let v737 : BitVec 32 := Scalar.muli v736 c4_i32_153
  let c3_i32_154 : BitVec 32 := 3#32
  let v738 : BitVec 32 := Scalar.addi v737 c3_i32_154
  let c128_i32_155 : BitVec 32 := 128#32
  let v739 : BitVec 32 := Scalar.muli v738 c128_i32_155
  v739
def k1_mult10 (i : grid1.Coords) (k1_t2 : Fin (k1_t2_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let c1_i32_148 : BitVec 32 := 1#32
  let arg10 : BitVec 32 := Scf.iv v728 c1_i32_148 k1_t2
  let v736 : BitVec 32 := Scalar.subi v735 arg10
  let c4_i32_156 : BitVec 32 := 4#32
  let v741 : BitVec 32 := Scalar.muli v736 c4_i32_156
  let c2_i32_157 : BitVec 32 := 2#32
  let v742 : BitVec 32 := Scalar.addi v741 c2_i32_157
  let c128_i32_158 : BitVec 32 := 128#32
  let v743 : BitVec 32 := Scalar.muli v742 c128_i32_158
  v743
def k1_mult11 (i : grid1.Coords) (k1_t2 : Fin (k1_t2_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let c1_i32_148 : BitVec 32 := 1#32
  let arg10 : BitVec 32 := Scf.iv v728 c1_i32_148 k1_t2
  let v736 : BitVec 32 := Scalar.subi v735 arg10
  let c4_i32_159 : BitVec 32 := 4#32
  let v745 : BitVec 32 := Scalar.muli v736 c4_i32_159
  let c1_i32_160 : BitVec 32 := 1#32
  let v746 : BitVec 32 := Scalar.addi v745 c1_i32_160
  let c128_i32_161 : BitVec 32 := 128#32
  let v747 : BitVec 32 := Scalar.muli v746 c128_i32_161
  v747
def k1_mult12 (i : grid1.Coords) (k1_t2 : Fin (k1_t2_loop i).trips) : BitVec 32 :=
  let arg1 : BitVec 32 := BitVec.ofNat 32 (i 1).val
  let c1_i32_152 : BitVec 32 := 1#32
  let v735 : BitVec 32 := Scalar.subi arg1 c1_i32_152
  let c0_i32_145 : BitVec 32 := 0#32
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let c1_i32_148 : BitVec 32 := 1#32
  let arg10 : BitVec 32 := Scf.iv v728 c1_i32_148 k1_t2
  let v736 : BitVec 32 := Scalar.subi v735 arg10
  let c4_i32_162 : BitVec 32 := 4#32
  let v749 : BitVec 32 := Scalar.muli v736 c4_i32_162
  let c0_i32_163 : BitVec 32 := 0#32
  let v750 : BitVec 32 := Scalar.addi v749 c0_i32_163
  let c128_i32_164 : BitVec 32 := 128#32
  let v751 : BitVec 32 := Scalar.muli v750 c128_i32_164
  v751
def k1_off3 (i : grid1.Coords) (k1_t2 : Fin (k1_t2_loop i).trips) (c3_i32_154 : BitVec 32) : Fin 2 → Nat :=
  let arg1 : BitVec 32 := BitVec.ofNat 32 (i 1).val
  let c1_i32_152 : BitVec 32 := 1#32
  let v735 : BitVec 32 := Scalar.subi arg1 c1_i32_152
  let c0_i32_145 : BitVec 32 := 0#32
  let v724 : BitVec 32 := Scalar.subi arg1 c0_i32_145
  let c1_i32_146 : BitVec 32 := 1#32
  let v726 : BitVec 32 := Scalar.divsi v724 c1_i32_146
  let v727 : BitVec 32 := Scalar.muli v726 c1_i32_146
  let v728 : BitVec 32 := Scalar.addi c0_i32_145 v727
  let c1_i32_148 : BitVec 32 := 1#32
  let arg10 : BitVec 32 := Scf.iv v728 c1_i32_148 k1_t2
  let v736 : BitVec 32 := Scalar.subi v735 arg10
  let c4_i32_153 : BitVec 32 := 4#32
  let v737 : BitVec 32 := Scalar.muli v736 c4_i32_153
  let v738 : BitVec 32 := Scalar.addi v737 c3_i32_154
  let c128_i32_155 : BitVec 32 := 128#32
  let v739 : BitVec 32 := Scalar.muli v738 c128_i32_155
  let v740 : BitVec 32 := v739
  let v753 : Index := Scalar.indexCast v740
  let c0_165 : Index := 0#32
  ![v753.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4096x5120 : Shape := ⟨2, ![4096, 5120]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 183
  | .vmem => 0
  | .smem => 0
  | _ => 0

abbrev hbmTy0_0 (i : Nat) : BufTy := match i % 128 with
  | 0 => ⟨S4096x5120, .bf16⟩
  | 1 => ⟨S4096x512, .bf16⟩
  | 2 => ⟨S4096x512, .bf16⟩
  | 3 => ⟨S4096x512, .f32⟩
  | 4 => ⟨S4096x512, .bf16⟩
  | 5 => ⟨S4096x512, .f32⟩
  | 6 => ⟨S4096x512, .bf16⟩
  | 7 => ⟨S4096x512, .f32⟩
  | 8 => ⟨S4096x8x64, .f32⟩
  | 9 => ⟨S8x4096x64, .f32⟩
  | 10 => ⟨S4096x8x64, .f32⟩
  | 11 => ⟨S8x4096x64, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x5120, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S4096x8x64, .f32⟩
  | 12 => ⟨S8x4096x64, .f32⟩
  | 13 => ⟨S8x4096x64, .f32⟩
  | 14 => ⟨S4096x8x64, .f32⟩
  | 15 => ⟨S4096x512, .f32⟩
  | 16 => ⟨S4096x512, .f32⟩
  | 17 => ⟨S4096x8x64, .f32⟩
  | 18 => ⟨S8x4096x64, .f32⟩
  | 19 => ⟨S8x64x4096, .f32⟩
  | 20 => ⟨S8x4096x64, .f32⟩
  | 21 => ⟨S8x4096x4096, .f32⟩
  | 22 => ⟨S4096x8x64, .f32⟩
  | 23 => ⟨S4096x512, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S_, .f32⟩
  | 33 => ⟨S_, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .f32⟩
  | 39 => ⟨S8x4096x4096, .f32⟩
  | 40 => ⟨S8x4096x4096, .f32⟩
  | 41 => ⟨S8x4096x4096, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .f32⟩
  | 47 => ⟨S8x4096x64, .f32⟩
  | 48 => ⟨S8x4096x64, .f32⟩
  | 49 => ⟨S4096x8x64, .f32⟩
  | 50 => ⟨S4096x512, .f32⟩
  | 51 => ⟨S4096x8x64, .f32⟩
  | 52 => ⟨S4096x512, .f32⟩
  | 53 => ⟨S4096x512, .bf16⟩
  | 54 => ⟨S4096x512, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_call5_cst : Ref sig .tc := ⟨.hbm, 152, rfl⟩
abbrev main_call5_v0 : Ref sig .tc := ⟨.hbm, 153, rfl⟩
abbrev main_v41 : Ref sig .tc := ⟨.hbm, 154, rfl⟩
abbrev main_v42 : Ref sig .tc := ⟨.hbm, 155, rfl⟩
abbrev main_call6_v0 : Ref sig .tc := ⟨.hbm, 156, rfl⟩
abbrev main_call6_v1 : Ref sig .tc := ⟨.hbm, 157, rfl⟩
abbrev main_v43 : Ref sig .tc := ⟨.hbm, 158, rfl⟩
abbrev main_v44 : Ref sig .tc := ⟨.hbm, 159, rfl⟩
abbrev main_call7_cst : Ref sig .tc := ⟨.hbm, 160, rfl⟩
abbrev main_call7_v0 : Ref sig .tc := ⟨.hbm, 161, rfl⟩
abbrev main_v45 : Ref sig .tc := ⟨.hbm, 162, rfl⟩
abbrev main_v46 : Ref sig .tc := ⟨.hbm, 163, rfl⟩
abbrev main_call8_cst : Ref sig .tc := ⟨.hbm, 164, rfl⟩
abbrev main_call8_v0 : Ref sig .tc := ⟨.hbm, 165, rfl⟩
abbrev main_v47 : Ref sig .tc := ⟨.hbm, 166, rfl⟩
abbrev main_call9_v0 : Ref sig .tc := ⟨.hbm, 167, rfl⟩
abbrev main_call9_v1 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_cst_2 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S256x1024 : Shape := ⟨2, ![256, 1024]⟩
abbrev S256x2816 : Shape := ⟨2, ![256, 2816]⟩
abbrev S256x5632 : Shape := ⟨2, ![256, 5632]⟩
abbrev S4096x1408 : Shape := ⟨2, ![4096, 1408]⟩
abbrev S4096x512 : Shape := ⟨2, ![4096, 512]⟩
abbrev S1408x512 : Shape := ⟨2, ![1408, 512]⟩
abbrev S1024x512 : Shape := ⟨2, ![1024, 512]⟩

abbrev nBuf : Space → Nat
  | .hbm => 42
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .bf16⟩
  | .hbm, ⟨35, _⟩ => ⟨S4096x2816, .bf16⟩
  | .hbm, ⟨36, _⟩ => ⟨S4096x2816, .bf16⟩
  | .hbm, ⟨37, _⟩ => ⟨S4096x5632, .bf16⟩
  | .hbm, ⟨38, _⟩ => ⟨S4096x2816, .bf16⟩
  | .hbm, ⟨39, _⟩ => ⟨S2816x1024, .bf16⟩
  | .hbm, ⟨40, _⟩ => ⟨S4096x1024, .bf16⟩
  | .hbm, ⟨41, _⟩ => ⟨S1024x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | .local _ .vmem, ⟨9, _⟩ => ⟨S4096x1408, .bf16⟩
  | .local _ .vmem, ⟨10, _⟩ => ⟨S4096x1408, .bf16⟩
  | .local _ .vmem, ⟨11, _⟩ => ⟨S4096x512, .bf16⟩
  | .local _ .vmem, ⟨12, _⟩ => ⟨S4096x512, .bf16⟩
  | .local _ .vmem, ⟨13, _⟩ => ⟨S1408x512, .bf16⟩
  | .local _ .vmem, ⟨14, _⟩ => ⟨S1408x512, .bf16⟩
  | .local _ .vmem, ⟨15, _⟩ => ⟨S4096x1024, .bf16⟩
  | .local _ .vmem, ⟨16, _⟩ => ⟨S4096x512, .bf16⟩
  | .local _ .vmem, ⟨17, _⟩ => ⟨S4096x512, .bf16⟩
  | .local _ .vmem, ⟨18, _⟩ => ⟨S1024x512, .bf16⟩
  | .local _ .vmem, ⟨19, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S5632x1024, .f32⟩
  | .hbm, ⟨57, _⟩ => ⟨S1024x5632, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1024x5632, .bf16⟩
  | .hbm, ⟨84, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x5632, .bf16⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x5632, .bf16⟩
  | .hbm, ⟨4, _⟩ => ⟨S4096x1024, .f32⟩
  | .hbm, ⟨5, _⟩ => ⟨S1024x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x5632, .f32⟩
  | .hbm, ⟨27, _⟩ => ⟨S5632x1024, .f32⟩
  | .hbm, ⟨28, _⟩ => ⟨S1024x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x1280 : Shape := ⟨2, ![1024, 1280]⟩
abbrev S4096x640 : Shape := ⟨2, ![4096, 640]⟩
abbrev S1024x640 : Shape := ⟨2, ![1024, 640]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .bf16⟩
  | .hbm, ⟨3, _⟩ => ⟨S4096x5120, .bf16⟩
  | .hbm, ⟨4, _⟩ => ⟨S4096x1024, .bf16⟩
  | .hbm, ⟨5, _⟩ => ⟨S4096x5120, .bf16⟩
  | .hbm, ⟨6, _⟩ => ⟨S1024x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1280, .bf16⟩
  | .local _ .vmem, ⟨8, _⟩ => ⟨S1024x1280, .bf16⟩
  | .local _ .vmem, ⟨9, _⟩ => ⟨S1024x1280, .bf16⟩
  | .local _ .vmem, ⟨10, _⟩ => ⟨S1024x1280, .bf16⟩
  | .local _ .vmem, ⟨11, _⟩ => ⟨S4096x1024, .bf16⟩
  | .local _ .vmem, ⟨12, _⟩ => ⟨S4096x640, .bf16⟩
  | .local _ .vmem, ⟨13, _⟩ => ⟨S4096x640, .bf16⟩
  | .local _ .vmem, ⟨14, _⟩ => ⟨S1024x640, .bf16⟩
  | .local _ .vmem, ⟨15, _⟩ => ⟨S1024x640, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x640 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference4Ideal.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S5120x1024 : Shape := ⟨2, ![5120, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .bf16⟩
  | .hbm, ⟨3, _⟩ => ⟨S4096x5120, .bf16⟩
  | .hbm, ⟨4, _⟩ => ⟨S1024x5120, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5120, .f32⟩
  | .hbm, ⟨25, _⟩ => ⟨S4096x5120, .bf16⟩
  | .hbm, ⟨26, _⟩ => ⟨S4096x5120, .f32⟩
  | .hbm, ⟨27, _⟩ => ⟨S5120x1024, .f32⟩
  | .hbm, ⟨28, _⟩ => ⟨S1024x5120, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x5120, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S256x5120 : Shape := ⟨2, ![256, 5120]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .bf16⟩
  | .hbm, ⟨3, _⟩ => ⟨S4096x5120, .bf16⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S256x5120, .bf16⟩
  | .local _ .vmem, ⟨1, _⟩ => ⟨S256x5120, .bf16⟩
  | .local _ .vmem, ⟨2, _⟩ => ⟨S1024x5120, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S5120x1024 : Shape := ⟨2, ![5120, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .bf16⟩
  | .hbm, ⟨3, _⟩ => ⟨S4096x5120, .bf16⟩
  | .hbm, ⟨4, _⟩ => ⟨S4096x1024, .f32⟩
  | .hbm, ⟨5, _⟩ => ⟨S1024x5120, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5120, .f32⟩
  | .hbm, ⟨26, _⟩ => ⟨S4096x5120, .f32⟩
  | .hbm, ⟨27, _⟩ => ⟨S5120x1024, .f32⟩
  | .hbm, ⟨28, _⟩ => ⟨S1024x5120, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S4096x5120 : Shape := ⟨2, ![4096, 5120]⟩
abbrev S4096x512 : Shape := ⟨2, ![4096, 512]⟩
abbrev S512x1024 : Shape := ⟨2, ![512, 1024]⟩
abbrev S1024x1024 : Shape := ⟨2, ![1024, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 21
  | .vmem => 67
  | .smem => 0
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S1024x1024, .bf16⟩
  | .hbm, ⟨17, _⟩ => ⟨S4096x512, .bf16⟩
  | .hbm, ⟨18, _⟩ => ⟨S512x1024, .bf16⟩
  | .hbm, ⟨19, _⟩ => ⟨S4096x512, .bf16⟩
  | .hbm, ⟨20, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S4096x1024, .bf16⟩
  | .local _ .vmem, ⟨43, _⟩ => ⟨S4096x512, .bf16⟩
  | .local _ .vmem, ⟨44, _⟩ => ⟨S4096x512, .bf16⟩
  | .local _ .vmem, ⟨45, _⟩ => ⟨S1024x512, .bf16⟩
  | .local _ .vmem, ⟨46, _⟩ => ⟨S1024x512, .bf16⟩
  | .local _ .vmem, ⟨47, _⟩ => ⟨S1024x1024, .bf16⟩
  | .local _ .vmem, ⟨48, _⟩ => ⟨S1024x1024, .bf16⟩
  | .local _ .vmem, ⟨49, _⟩ => ⟨S512x1024, .bf16⟩
  | .local _ .vmem, ⟨50, _⟩ => ⟨S1024x512, .bf16⟩
  | .local _ .vmem, ⟨51, _⟩ => ⟨S1024x512, .bf16⟩
  | .local _ .vmem, ⟨52, _⟩ => ⟨S4096x512, .bf16⟩
  | .local _ .vmem, ⟨53, _⟩ => ⟨S4096x512, .bf16⟩
  | .local _ .vmem, ⟨54, _⟩ => ⟨S4096x512, .bf16⟩
  | .local _ .vmem, ⟨55, _⟩ => ⟨S512x512, .bf16⟩
  | .local _ .vmem, ⟨56, _⟩ => ⟨S512x512, .bf16⟩
  | .local _ .vmem, ⟨57, _⟩ => ⟨S1024x1024, .bf16⟩
  | .local _ .vmem, ⟨58, _⟩ => ⟨S1024x1024, .bf16⟩
  | .local _ .vmem, ⟨59, _⟩ => ⟨S512x1024, .bf16⟩
  | .local _ .vmem, ⟨60, _⟩ => ⟨S1024x512, .bf16⟩
  | .local _ .vmem, ⟨61, _⟩ => ⟨S1024x512, .bf16⟩
  | .local _ .vmem, ⟨62, _⟩ => ⟨S4096x512, .bf16⟩
  | .local _ .vmem, ⟨63, _⟩ => ⟨S4096x512, .bf16⟩
  | .local _ .vmem, ⟨64, _⟩ => ⟨S4096x512, .bf16⟩
  | .local _ .vmem, ⟨65, _⟩ => ⟨S512x512, .bf16⟩
  | .local _ .vmem, ⟨66, _⟩ => ⟨S512x512, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg2_1 : Ref sig .tc := ⟨.vmem, 51, rfl⟩
abbrev cc5_stg0_0 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg2_1 : Ref sig .tc := ⟨.vmem, 61, rfl⟩
abbrev cc7_stg0_0 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg2_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem1_0 : DmaSem sig := 43
abbrev cc3_sem1_1 : DmaSem sig := 44
abbrev cc3_sem2_0 : DmaSem sig := 45
abbrev cc3_sem2_1 : DmaSem sig := 46
abbrev cc4_sem0_0 : DmaSem sig := 47
abbrev cc4_sem0_1 : DmaSem sig := 48
abbrev cc4_sem1_0 : DmaSem sig := 49
abbrev cc4_sem2_0 : DmaSem sig := 50
abbrev cc4_sem2_1 : DmaSem sig := 51
abbrev cc5_sem0_0 : DmaSem sig := 52
abbrev cc5_sem1_0 : DmaSem sig := 53
abbrev cc5_sem1_1 : DmaSem sig := 54
abbrev cc5_sem2_0 : DmaSem sig := 55
abbrev cc5_sem2_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem2_1 : DmaSem sig := 61
abbrev cc7_sem0_0 : DmaSem sig := 62
abbrev cc7_sem1_0 : DmaSem sig := 63
abbrev cc7_sem1_1 : DmaSem sig := 64
abbrev cc7_sem2_0 : DmaSem sig := 65
abbrev cc7_sem2_1 : DmaSem sig := 66

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_3 (i : grid2.Coords) : Fin 2 → Nat :=
  let arg0 : BitVec 32 := BitVec.ofNat 32 (i 0).val
  let c4_i32 : BitVec 32 := 4#32
  let c0_i32 : BitVec 32 := 0#32
  ![arg0.toNat, c4_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S512x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S4096x512 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference6Ideal.lean ====
abbrev S4096x5120 : Shape := ⟨2, ![4096, 5120]⟩
abbrev S4096x512 : Shape := ⟨2, ![4096, 512]⟩
abbrev S512x1024 : Shape := ⟨2, ![512, 1024]⟩
abbrev S1024x1024 : Shape := ⟨2, ![1024, 1024]⟩
abbrev S4096x1024 : Shape := ⟨2, ![4096, 1024]⟩
abbrev S4096x3072 : Shape := ⟨2, ![4096, 3072]⟩
abbrev S_ : Shape := ⟨0, ![]⟩
abbrev S1024x512 : Shape := ⟨2, ![1024, 512]⟩

abbrev nBuf : Space → Nat
  | .hbm => 71
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x5120, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1024x1024, .f32⟩
  | .hbm, ⟨50, _⟩ => ⟨S1024x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1024x512, .f32⟩
  | .hbm, ⟨55, _⟩ => ⟨S512x1024, .f32⟩
  | .hbm, ⟨56, _⟩ => ⟨S4096x512, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1024x512, .f32⟩
  | .hbm, ⟨61, _⟩ => ⟨S512x1024, .f32⟩
  | .hbm, ⟨62, _⟩ => ⟨S4096x512, .f32⟩
  | .hbm, ⟨63, _⟩ => ⟨S4096x1024, .f32⟩
  | .hbm, ⟨64, _⟩ => ⟨S4096x1024, .bf16⟩
  | .hbm, ⟨65, _⟩ => ⟨S4096x1024, .bf16⟩
  | .hbm, ⟨66, _⟩ => ⟨S4096x512, .bf16⟩
  | .hbm, ⟨67, _⟩ => ⟨S4096x512, .bf16⟩
  | .hbm, ⟨68, _⟩ => ⟨S512x1024, .bf16⟩
  | .hbm, ⟨69, _⟩ => ⟨S512x1024, .bf16⟩
  | .hbm, ⟨70, _⟩ => ⟨S1024x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_24 : BitVec 32 := 0#32
  let v53 : BitVec 1 := Scalar.cmpi .ne v52 c0_i32_24
  v53

def k0_cond2 (i : grid0.Coords) : BitVec 1 :=
  let arg0 : BitVec 32 := BitVec.ofNat 32 (i 0).val
  let c0_i32 : BitVec 32 := 0#32
  let v51 : BitVec 1 := Scalar.cmpi .eq arg0 c0_i32
  let v_true : BitVec 1 := 1#1
  let v54 : BitVec 1 := Scalar.xori v51 v_true
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel8.lean ====
abbrev S4096x1024 : Shape := ⟨2, ![4096, 1024]⟩
abbrev S256x2048 : Shape := ⟨2, ![256, 2048]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x1024, .f32⟩
  | .hbm, ⟨5, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_18 : BitVec 32 := 0#32
  let v34 : BitVec 1 := Scalar.cmpi .ne v33 c0_i32_18
  v34

def k0_cond2 (i : grid0.Coords) : BitVec 1 :=
  let arg1 : BitVec 32 := BitVec.ofNat 32 (i 1).val
  let c0_i32 : BitVec 32 := 0#32
  let v32 : BitVec 1 := Scalar.cmpi .eq arg1 c0_i32
  let v_true : BitVec 1 := 1#1
  let v35 : BitVec 1 := Scalar.xori v32 v_true
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S4096x1024 : Shape := ⟨2, ![4096, 1024]⟩
abbrev S256x2048 : Shape := ⟨2, ![256, 2048]⟩
abbrev S4096x256 : Shape := ⟨2, ![4096, 256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S256x1024 : Shape := ⟨2, ![256, 1024]⟩

abbrev nBuf : Space → Nat
  | .hbm => 298
  | .vmem => 0
  | .smem => 0
  | _ => 0

abbrev hbmTy0_0 (i : Nat) : BufTy := match i % 128 with
  | 0 => ⟨S4096x1024, .bf16⟩
  | 1 => ⟨S256x2048, .bf16⟩
  | 2 => ⟨S4096x1024, .bf16⟩
  | 3 => ⟨S4096x1024, .f32⟩
  | 4 => ⟨S4096x256, .f32⟩
  | 5 => ⟨S4096x256, .f32⟩
  | 6 => ⟨S4096x256, .f32⟩
  | 7 => ⟨S4096x256, .f32⟩
  | 8 => ⟨S256x2048, .f32⟩
  | 9 => ⟨S256x256, .f32⟩
  | 10 => ⟨S256x256, .f32⟩
  | 11 => ⟨S256x256, .f32⟩
  | 12 => ⟨S256x256, .f32⟩
  | 13 => ⟨S256x256, .f32⟩
  | 14 => ⟨S256x256, .f32⟩
  | 15 => ⟨S256x256, .f32⟩
  | 16 => ⟨S256x256, .f32⟩
  | 17 => ⟨S4096x1024, .f32⟩
  | 18 => ⟨S4096x256, .f32⟩
  | 19 => ⟨S4096x256, .f32⟩
  | 20 => ⟨S4096x256, .f32⟩
  | 21 => ⟨S4096x256, .f32⟩
  | 22 => ⟨S256x256, .f32⟩
  | 23 => ⟨S4096x256, .f32⟩
  | 24 => ⟨S_, .f32⟩
  | 25 => ⟨S4096x256, .f32⟩
  | 26 => ⟨S4096x256, .f32⟩
  | 27 => ⟨S_, .f32⟩
  | 28 => ⟨S4096, .f32⟩
  | 29 => ⟨S4096x1, .f32⟩
  | 30 => ⟨S4096x256, .f32⟩
  | 31 => ⟨S4096x256, .i1⟩
  | 32 => ⟨S4096x256, .f32⟩
  | 33 => ⟨S_, .f32⟩
  | 34 => ⟨S4096, .f32⟩
  | 35 => ⟨S_, .f32⟩
  | 36 => ⟨S4096, .f32⟩
  | 37 => ⟨S4096, .f32⟩
  | 38 => ⟨S_, .f32⟩
  | 39 => ⟨S4096, .f32⟩
  | 40 => ⟨S4096, .i1⟩
  | 41 => ⟨S_, .f32⟩
  | 42 => ⟨S4096, .f32⟩
  | 43 => ⟨S4096, .i1⟩
  | 44 => ⟨S_, .f32⟩
  | 45 => ⟨S4096, .f32⟩
  | 46 => ⟨S_, .f32⟩
  | 47 => ⟨S4096, .f32⟩
  | 48 => ⟨S_, .f32⟩
  | 49 => ⟨S4096, .f32⟩
  | 50 => ⟨S4096, .f32⟩
  | 51 => ⟨S4096, .f32⟩
  | 52 => ⟨S4096x1, .f32⟩
  | 53 => ⟨S4096x256, .f32⟩
  | 54 => ⟨S4096x256, .f32⟩
  | 55 => ⟨S4096x256, .f32⟩
  | 56 => ⟨S_, .f32⟩
  | 57 => ⟨S4096, .f32⟩
  | 58 => ⟨S4096x1, .f32⟩
  | 59 => ⟨S4096x256, .f32⟩
  | 60 => ⟨S4096x256, .f32⟩
  | 61 => ⟨S4096x1, .f32⟩
  | 62 => ⟨S_, .f32⟩
  | 63 => ⟨S4096x1, .f32⟩
  | 64 => ⟨S4096x1, .f32⟩
  | 65 => ⟨S4096x256, .f32⟩
  | 66 => ⟨S256x256, .f32⟩
  | 67 => ⟨S256x256, .f32⟩
  | 68 => ⟨S4096x256, .f32⟩
  | 69 => ⟨S4096x256, .f32⟩
  | 70 => ⟨S4096x256, .f32⟩
  | 71 => ⟨S4096x256, .f32⟩
  | 72 => ⟨S_, .f32⟩
  | 73 => ⟨S4096, .f32⟩
  | 74 => ⟨S4096x1, .f32⟩
  | 75 => ⟨S4096x1, .f32⟩
  | 76 => ⟨S4096x256, .f32⟩
  | 77 => ⟨S4096x256, .f32⟩
  | 78 => ⟨S_, .f32⟩
  | 79 => ⟨S4096, .f32⟩
  | 80 => ⟨S4096x256, .f32⟩
  | 81 => ⟨S4096x256, .f32⟩
  | 82 => ⟨S4096x256, .f32⟩
  | 83 => ⟨S_, .f32⟩
  | 84 => ⟨S4096x256, .f32⟩
  | 85 => ⟨S4096x256, .f32⟩
  | 86 => ⟨S256x256, .f32⟩
  | 87 => ⟨S256x256, .f32⟩
  | 88 => ⟨S4096x256, .f32⟩
  | 89 => ⟨S256x256, .f32⟩
  | 90 => ⟨S256x256, .f32⟩
  | 91 => ⟨S4096x256, .f32⟩
  | 92 => ⟨S_, .f32⟩
  | 93 => ⟨S4096x256, .f32⟩
  | 94 => ⟨S4096x256, .f32⟩
  | 95 => ⟨S_, .f32⟩
  | 96 => ⟨S4096, .f32⟩
  | 97 => ⟨S4096x1, .f32⟩
  | 98 => ⟨S4096x256, .f32⟩
  | 99 => ⟨S4096x256, .i1⟩
  | 100 => ⟨S4096x256, .f32⟩
  | 101 => ⟨S_, .f32⟩
  | 102 => ⟨S4096, .f32⟩
  | 103 => ⟨S_, .f32⟩
  | 104 => ⟨S4096, .f32⟩
  | 105 => ⟨S4096, .f32⟩
  | 106 => ⟨S_, .f32⟩
  | 107 => ⟨S4096, .f32⟩
  | 108 => ⟨S4096, .i1⟩
  | 109 => ⟨S_, .f32⟩
  | 110 => ⟨S4096, .f32⟩
  | 111 => ⟨S4096, .i1⟩
  | 112 => ⟨S_, .f32⟩
  | 113 => ⟨S4096, .f32⟩
  | 114 => ⟨S_, .f32⟩
  | 115 => ⟨S4096, .f32⟩
  | 116 => ⟨S_, .f32⟩
  | 117 => ⟨S4096, .f32⟩
  | 118 => ⟨S4096, .f32⟩
  | 119 => ⟨S4096, .f32⟩
  | 120 => ⟨S4096x1, .f32⟩
  | 121 => ⟨S4096x256, .f32⟩
  | 122 => ⟨S4096x256, .f32⟩
  | 123 => ⟨S4096x256, .f32⟩
  | 124 => ⟨S_, .f32⟩
  | 125 => ⟨S4096, .f32⟩
  | 126 => ⟨S4096x1, .f32⟩
  | 127 => ⟨S4096x256, .f32⟩
  | _ => ⟨S4096x1024, .bf16⟩

abbrev hbmTy0_1 (i : Nat) : BufTy := match i % 128 with
  | 0 => ⟨S4096x256, .f32⟩
  | 1 => ⟨S4096x1, .f32⟩
  | 2 => ⟨S_, .f32⟩
  | 3 => ⟨S4096x1, .f32⟩
  | 4 => ⟨S4096x1, .f32⟩
  | 5 => ⟨S4096x256, .f32⟩
  | 6 => ⟨S256x256, .f32⟩
  | 7 => ⟨S256x256, .f32⟩
  | 8 => ⟨S4096x256, .f32⟩
  | 9 => ⟨S4096x256, .f32⟩
  | 10 => ⟨S4096x256, .f32⟩
  | 11 => ⟨S4096x256, .f32⟩
  | 12 => ⟨S_, .f32⟩
  | 13 => ⟨S4096, .f32⟩
  | 14 => ⟨S4096x1, .f32⟩
  | 15 => ⟨S4096x1, .f32⟩
  | 16 => ⟨S4096x256, .f32⟩
  | 17 => ⟨S4096x256, .f32⟩
  | 18 => ⟨S_, .f32⟩
  | 19 => ⟨S4096, .f32⟩
  | 20 => ⟨S4096x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S256x256, .f32⟩
  | 27 => ⟨S256x256, .f32⟩
  | 28 => ⟨S4096x256, .f32⟩
  | 29 => ⟨S256x256, .f32⟩
  | 30 => ⟨S256x256, .f32⟩
  | 31 => ⟨S4096x256, .f32⟩
  | 32 => ⟨S_, .f32⟩
  | 33 => ⟨S4096x256, .f32⟩
  | 34 => ⟨S4096x256, .f32⟩
  | 35 => ⟨S_, .f32⟩
  | 36 => ⟨S4096, .f32⟩
  | 37 => ⟨S4096x1, .f32⟩
  | 38 => ⟨S4096x256, .f32⟩
  | 39 => ⟨S4096x256, .i1⟩
  | 40 => ⟨S4096x256, .f32⟩
  | 41 => ⟨S_, .f32⟩
  | 42 => ⟨S4096, .f32⟩
  | 43 => ⟨S_, .f32⟩
  | 44 => ⟨S4096, .f32⟩
  | 45 => ⟨S4096, .f32⟩
  | 46 => ⟨S_, .f32⟩
  | 47 => ⟨S4096, .f32⟩
  | 48 => ⟨S4096, .i1⟩
  | 49 => ⟨S_, .f32⟩
  | 50 => ⟨S4096, .f32⟩
  | 51 => ⟨S4096, .i1⟩
  | 52 => ⟨S_, .f32⟩
  | 53 => ⟨S4096, .f32⟩
  | 54 => ⟨S_, .f32⟩
  | 55 => ⟨S4096, .f32⟩
  | 56 => ⟨S_, .f32⟩
  | 57 => ⟨S4096, .f32⟩
  | 58 => ⟨S4096, .f32⟩
  | 59 => ⟨S4096, .f32⟩
  | 60 => ⟨S4096x1, .f32⟩
  | 61 => ⟨S4096x256, .f32⟩
  | 62 => ⟨S4096x256, .f32⟩
  | 63 => ⟨S4096x256, .f32⟩
  | 64 => ⟨S_, .f32⟩
  | 65 => ⟨S4096, .f32⟩
  | 66 => ⟨S4096x1, .f32⟩
  | 67 => ⟨S4096x256, .f32⟩
  | 68 => ⟨S4096x256, .f32⟩
  | 69 => ⟨S4096x1, .f32⟩
  | 70 => ⟨S_, .f32⟩
  | 71 => ⟨S4096x1, .f32⟩
  | 72 => ⟨S4096x1, .f32⟩
  | 73 => ⟨S4096x256, .f32⟩
  | 74 => ⟨S256x256, .f32⟩
  | 75 => ⟨S256x256, .f32⟩
  | 76 => ⟨S4096x256, .f32⟩
  | 77 => ⟨S4096x256, .f32⟩
  | 78 => ⟨S4096x256, .f32⟩
  | 79 => ⟨S4096x256, .f32⟩
  | 80 => ⟨S_, .f32⟩
  | 81 => ⟨S4096, .f32⟩
  | 82 => ⟨S4096x1, .f32⟩
  | 83 => ⟨S4096x1, .f32⟩
  | 84 => ⟨S4096x256, .f32⟩
  | 85 => ⟨S4096x256, .f32⟩
  | 86 => ⟨S_, .f32⟩
  | 87 => ⟨S4096, .f32⟩
  | 88 => ⟨S4096x256, .f32⟩
  | 89 => ⟨S4096x256, .f32⟩
  | 90 => ⟨S4096x256, .f32⟩
  | 91 => ⟨S_, .f32⟩
  | 92 => ⟨S4096x256, .f32⟩
  | 93 => ⟨S4096x256, .f32⟩
  | 94 => ⟨S256x256, .f32⟩
  | 95 => ⟨S256x256, .f32⟩
  | 96 => ⟨S4096x256, .f32⟩
  | 97 => ⟨S256x256, .f32⟩
  | 98 => ⟨S256x256, .f32⟩
  | 99 => ⟨S4096x256, .f32⟩
  | 100 => ⟨S_, .f32⟩
  | 101 => ⟨S4096x256, .f32⟩
  | 102 => ⟨S4096x256, .f32⟩
  | 103 => ⟨S_, .f32⟩
  | 104 => ⟨S4096, .f32⟩
  | 105 => ⟨S4096x1, .f32⟩
  | 106 => ⟨S4096x256, .f32⟩
  | 107 => ⟨S4096x256, .i1⟩
  | 108 => ⟨S4096x256, .f32⟩
  | 109 => ⟨S_, .f32⟩
  | 110 => ⟨S4096, .f32⟩
  | 111 => ⟨S_, .f32⟩
  | 112 => ⟨S4096, .f32⟩
  | 113 => ⟨S4096, .f32⟩
  | 114 => ⟨S_, .f32⟩
  | 115 => ⟨S4096, .f32⟩
  | 116 => ⟨S4096, .i1⟩
  | 117 => ⟨S_, .f32⟩
  | 118 => ⟨S4096, .f32⟩
  | 119 => ⟨S4096, .i1⟩
  | 120 => ⟨S_, .f32⟩
  | 121 => ⟨S4096, .f32⟩
  | 122 => ⟨S_, .f32⟩
  | 123 => ⟨S4096, .f32⟩
  | 124 => ⟨S_, .f32⟩
  | 125 => ⟨S4096, .f32⟩
  | 126 => ⟨S4096, .f32⟩
  | 127 => ⟨S4096, .f32⟩
  | _ => ⟨S4096x1024, .bf16⟩

abbrev hbmTy0_2 (i : Nat) : BufTy := match i % 128 with
  | 0 => ⟨S4096x1, .f32⟩
  | 1 => ⟨S4096x256, .f32⟩
  | 2 => ⟨S4096x256, .f32⟩
  | 3 => ⟨S4096x256, .f32⟩
  | 4 => ⟨S_, .f32⟩
  | 5 => ⟨S4096, .f32⟩
  | 6 => ⟨S4096x1, .f32⟩
  | 7 => ⟨S4096x256, .f32⟩
  | 8 => ⟨S4096x256, .f32⟩
  | 9 => ⟨S4096x1, .f32⟩
  | 10 => ⟨S_, .f32⟩
  | 11 => ⟨S4096x1, .f32⟩
  | 12 => ⟨S4096x1, .f32⟩
  | 13 => ⟨S4096x256, .f32⟩
  | 14 => ⟨S256x256, .f32⟩
  | 15 => ⟨S256x256, .f32⟩
  | 16 => ⟨S4096x256, .f32⟩
  | 17 => ⟨S4096x256, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S4096x1, .f32⟩
  | 24 => ⟨S4096x256, .f32⟩
  | 25 => ⟨S4096x256, .f32⟩
  | 26 => ⟨S_, .f32⟩
  | 27 => ⟨S4096, .f32⟩
  | 28 => ⟨S4096x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S256x256, .f32⟩
  | 35 => ⟨S256x256, .f32⟩
  | 36 => ⟨S4096x256, .f32⟩
  | 37 => ⟨S256x256, .f32⟩
  | 38 => ⟨S4096x1024, .f32⟩
  | 39 => ⟨S256x1024, .f32⟩
  | 40 => ⟨S256x1024, .f32⟩
  | 41 => ⟨S4096x1024, .bf16⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_13 : Ref sig .tc := ⟨.hbm, 92, rfl⟩
abbrev main_v75 : Ref sig .tc := ⟨.hbm, 93, rfl⟩
abbrev main_v76 : Ref sig .tc := ⟨.hbm, 94, rfl⟩
abbrev main_cst_14 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_15 : Ref sig .tc := ⟨.hbm, 101, rfl⟩
abbrev main_v82 : Ref sig .tc := ⟨.hbm, 102, rfl⟩
abbrev main_cst_16 : Ref sig .tc := ⟨.hbm, 103, rfl⟩
abbrev main_v83 : Ref sig .tc := ⟨.hbm, 104, rfl⟩
abbrev main_v84 : Ref sig .tc := ⟨.hbm, 105, rfl⟩
abbrev main_cst_17 : Ref sig .tc := ⟨.hbm, 106, rfl⟩
abbrev main_v85 : Ref sig .tc := ⟨.hbm, 107, rfl⟩
abbrev main_v86 : Ref sig .tc := ⟨.hbm, 108, rfl⟩
abbrev main_cst_18 : Ref sig .tc := ⟨.hbm, 109, rfl⟩
abbrev main_v87 : Ref sig .tc := ⟨.hbm, 110, rfl⟩
abbrev main_v88 : Ref sig .tc := ⟨.hbm, 111, rfl⟩
abbrev main_cst_19 : Ref sig .tc := ⟨.hbm, 112, rfl⟩
abbrev main_v89 : Ref sig .tc := ⟨.hbm, 113, rfl⟩
abbrev main_cst_20 : Ref sig .tc := ⟨.hbm, 114, rfl⟩
abbrev main_v90 : Ref sig .tc := ⟨.hbm, 115, rfl⟩
abbrev main_cst_21 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_22 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_23 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_24 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_25 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_26 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_27 : Ref sig .tc := ⟨.hbm, 160, rfl⟩
abbrev main_v129 : Ref sig .tc := ⟨.hbm, 161, rfl⟩
abbrev main_v130 : Ref sig .tc := ⟨.hbm, 162, rfl⟩
abbrev main_cst_28 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_29 : Ref sig .tc := ⟨.hbm, 169, rfl⟩
abbrev main_v136 : Ref sig .tc := ⟨.hbm, 170, rfl⟩
abbrev main_cst_30 : Ref sig .tc := ⟨.hbm, 171, rfl⟩
abbrev main_v137 : Ref sig .tc := ⟨.hbm, 172, rfl⟩
abbrev main_v138 : Ref sig .tc := ⟨.hbm, 173, rfl⟩
abbrev main_cst_31 : Ref sig .tc := ⟨.hbm, 174, rfl⟩
abbrev main_v139 : Ref sig .tc := ⟨.hbm, 175, rfl⟩
abbrev main_v140 : Ref sig .tc := ⟨.hbm, 176, rfl⟩
abbrev main_cst_32 : Ref sig .tc := ⟨.hbm, 177, rfl⟩
abbrev main_v141 : Ref sig .tc := ⟨.hbm, 178, rfl⟩
abbrev main_v142 : Ref sig .tc := ⟨.hbm, 179, rfl⟩
abbrev main_cst_33 : Ref sig .tc := ⟨.hbm, 180, rfl⟩
abbrev main_v143 : Ref sig .tc := ⟨.hbm, 181, rfl⟩
abbrev main_cst_34 : Ref sig .tc := ⟨.hbm, 182, rfl⟩
abbrev main_v144 : Ref sig .tc := ⟨.hbm, 183, rfl⟩
abbrev main_cst_35 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_36 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_37 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_38 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_39 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_40 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_41 : Ref sig .tc := ⟨.hbm, 228, rfl⟩
abbrev main_v183 : Ref sig .tc := ⟨.hbm, 229, rfl⟩
abbrev main_v184 : Ref sig .tc := ⟨.hbm, 230, rfl⟩
abbrev main_cst_42 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_cst_43 : Ref sig .tc := ⟨.hbm, 237, rfl⟩
abbrev main_v190 : Ref sig .tc := ⟨.hbm, 238, rfl⟩
abbrev main_cst_44 : Ref sig .tc := ⟨.hbm, 239, rfl⟩
abbrev main_v191 : Ref sig .tc := ⟨.hbm, 240, rfl⟩
abbrev main_v192 : Ref sig .tc := ⟨.hbm, 241, rfl⟩
abbrev main_cst_45 : Ref sig .tc := ⟨.hbm, 242, rfl⟩
abbrev main_v193 : Ref sig .tc := ⟨.hbm, 243, rfl⟩
abbrev main_v194 : Ref sig .tc := ⟨.hbm, 244, rfl⟩
abbrev main_cst_46 : Ref sig .tc := ⟨.hbm, 245, rfl⟩
abbrev main_v195 : Ref sig .tc := ⟨.hbm, 246, rfl⟩
abbrev main_v196 : Ref sig .tc := ⟨.hbm, 247, rfl⟩
abbrev main_cst_47 : Ref sig .tc := ⟨.hbm, 248, rfl⟩
abbrev main_v197 : Ref sig .tc := ⟨.hbm, 249, rfl⟩
abbrev main_cst_48 : Ref sig .tc := ⟨.hbm, 250, rfl⟩
abbrev main_v198 : Ref sig .tc := ⟨.hbm, 251, rfl⟩
abbrev main_cst_49 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_cst_50 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_51 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_cst_52 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_53 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_54 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩

abbrev nD : Nat := 1
abbrev τ : Topo := Topo.v7x

variable {F : FTy → Type} [FloatOps F]
-- ==== Kernel9.lean ====
abbrev S4096x1024 : Shape := ⟨2, ![4096, 1024]⟩
abbrev S256x2048 : Shape := ⟨2, ![256, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x1024 : Shape := ⟨2, ![4096, 1024]⟩
abbrev S256x2048 : Shape := ⟨2, ![256, 2048]⟩
abbrev S4096x256 : Shape := ⟨2, ![4096, 256]⟩
abbrev S256x256 : Shape := ⟨2, ![256, 256]⟩
abbrev S_ : Shape := ⟨0, ![]⟩
abbrev S4096 : Shape := ⟨1, ![4096]⟩
abbrev S4096x1 : Shape := ⟨2, ![4096, 1]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S256x2048, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S256x256, .f32⟩
  | .hbm, ⟨37, _⟩ => ⟨S4096x256, .f32⟩
  | .hbm, ⟨38, _⟩ => ⟨S_, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S256x256, .f32⟩
  | .hbm, ⟨57, _⟩ => ⟨S4096x256, .f32⟩
  | .hbm, ⟨58, _⟩ => ⟨S_, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S256x256, .f32⟩
  | .hbm, ⟨77, _⟩ => ⟨S4096x256, .f32⟩
  | .hbm, ⟨78, _⟩ => ⟨S_, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096x1, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x1024, .f32⟩
  | .hbm, ⟨97, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_7 : Ref sig .tc := ⟨.hbm, 58, rfl⟩
abbrev main_v48 : Ref sig .tc := ⟨.hbm, 59, rfl⟩
abbrev main_v49 : Ref sig .tc := ⟨.hbm, 60, rfl⟩
abbrev main_cst_8 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_10 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_11 : Ref sig .tc := ⟨.hbm, 78, rfl⟩
abbrev main_v64 : Ref sig .tc := ⟨.hbm, 79, rfl⟩
abbrev main_v65 : Ref sig .tc := ⟨.hbm, 80, rfl⟩
abbrev main_cst_12 : Ref sig .tc := ⟨.hbm, 81, rfl⟩
abbrev main_v66 : Ref sig .tc := ⟨.hbm, 82, rfl⟩
abbrev main_cst_13 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_14 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Proof.Tiles.lean ====
/-
  The tile functions of the two kernels: what one tile of 128 keys contributes to the walk over the keys, as a function of the tiles it reads. They are the kernels' own
  operations in the kernels' own order, over any float values; only the places the tiles are read from are left out. A tile counts for some of the block's 512 queries: for all
  of them when it lies before the block, and for the queries from its own first row on when it lies on the diagonal. `Part` says which rows these are and how the rest is kept.
-/
module

public import proofs.«01_k».proof.Proof.Gen.KernelIdeal.Skeleton
public import Idealize.ShloMosaic.Lib.VecWindow
public import Idealize.ShloMosaic.Lib.ValueIdxCore

@[expose] public section

noncomputable section

namespace Cert.Attn

open Cert.KernelIdeal Cert.KernelIdeal.Gen
open Idealize.ShloMosaic Idealize.ShloMosaic.ValueIdx

variable {F : FTy → Type} [FloatOps F]

/-- What the forward walk carries: the two heads' running sums of logarithms, and the output so far. -/
abbrev Fwd (F : FTy → Type) : Type := FVec F S512x128 .f32 × FVec F S512x128 .f32 × FVec F S512x128 .f32

/-- What the backward walk carries: the two heads' running sums of logarithms, their running sums of weight gradients, and the gradient of the queries so far. -/
abbrev Bwd (F : FTy → Type) : Type :=
  FVec F S512x128 .f32 × FVec F S512x128 .f32 × FVec F S512x128 .f32 × FVec F S512x128 .f32 × FVec F S512x128 .f32

/-- The 128 rows of a whole column block from row `o` on. -/
def tile {e : EltTy} (x : Vec F S4096x128 e) (o : ℕ) : Vec F S128x128 e :=
  fun y => x (ix2 (n0 := 4096) (n1 := 128) ⟨(o + (y 0).val) % 4096, Nat.mod_lt _ (Nat.succ_pos 4095)⟩ (y 1))

/-- A whole column block with 128 rows from row `o` on replaced. -/
def setTile {e : EltTy} (x : Vec F S4096x128 e) (o : ℕ) (w : Vec F S128x128 e) : Vec F S4096x128 e :=
  VecWindow.put x ![o, 0] S128x128.size w

/-- `n` rows and 128 columns. -/
abbrev nar (n : ℕ) : Shape := ⟨2, ![n, 128]⟩

/-- `n` rows and 256 columns: the two heads' 128 keys side by side. -/
abbrev dbl (n : ℕ) : Shape := ⟨2, ![n, 256]⟩

/-- The `n` rows of the block of queries a tile of keys counts for. `tail` takes them out of the block, `add` adds to them in the block, `keep` clears the entries that do not
    count, and the other fields are the shapes of the products and slices taken on these rows. -/
structure Part (F : FTy → Type) [FloatOps F] (n : ℕ) where
  tail : ∀ {φ : FTy}, FVec F S512x128 φ → FVec F (nar n) φ
  add : FVec F S512x128 .f32 → FVec F (nar n) .f32 → FVec F S512x128 .f32
  keep : FVec F (nar n) .f32 → FVec F (nar n) .f32
  dotZ : DotDims (nar n) S256x128 (dbl n)
  dotS : DotDims (dbl n) S256x256 (dbl n)
  dotA : DotDims (dbl n) S256x128 (nar n)
  dotR : DotDims (dbl n) (nar n) S256x128
  left : (dbl n).Slices ![0, 0] (nar n)
  right : (dbl n).Slices ![0, 128] (nar n)
  beside : Shape.Concatenates [nar n, nar n] (dbl n) 1

/-- A tile of keys before the block: all 512 rows, every entry counts. -/
def pFull : Part F 512 where
  tail := fun x => x
  add := fun x d => addf x d
  keep := fun x => x
  dotZ := dot_S512x128_S256x128_S512x256_1_1_0_0_n_n
  dotS := dot_S512x256_S256x256_S512x256_1_0_0_1_n_n
  dotA := dot_S512x256_S256x128_S512x128_1_0_0_1_n_n
  dotR := dot_S512x256_S512x128_S256x128_0_0_1_1_n_n
  left := slices_S512x256_o0_0_S512x128
  right := slices_S512x256_o0_128_S512x128
  beside := concatenates_S512x128_S512x128_S512x256_d1

/-- The first tile of the diagonal: all 512 rows, the entries before the diagonal count. -/
def pDiag0 : Part F 512 where
  tail := fun x => x
  add := fun x d => addf x d
  keep := fun x => select (cmpi .slt k0_pay130 (broadcast S512x128 0#32)) x (broadcast S512x128 (Scalar.ofBits .f32 0x00000000#32))
  dotZ := dot_S512x128_S256x128_S512x256_1_1_0_0_n_n
  dotS := dot_S512x256_S256x256_S512x256_1_0_0_1_n_n
  dotA := dot_S512x256_S256x128_S512x128_1_0_0_1_n_n
  dotR := dot_S512x256_S512x128_S256x128_0_0_1_1_n_n
  left := slices_S512x256_o0_0_S512x128
  right := slices_S512x256_o0_128_S512x128
  beside := concatenates_S512x128_S512x128_S512x256_d1

/-- The second tile of the diagonal: the last 384 rows. -/
def pDiag1 : Part F 384 where
  tail := fun x => extractStridedSlice S384x128 ![128, 0] x slices_S512x128_o128_0_S384x128
  add := fun x d => concatenate S512x128 0 [⟨S128x128, extractStridedSlice S128x128 ![0, 0] x slices_S512x128_o0_0_S128x128⟩,
    ⟨S384x128, addf (extractStridedSlice S384x128 ![128, 0] x slices_S512x128_o128_0_S384x128) d⟩] concatenates_S128x128_S384x128_S512x128_d0
  keep := fun x => select (cmpi .slt (extractStridedSlice S384x128 ![128, 0] k0_pay130 slices_S512x128_o128_0_S384x128) (broadcast S384x128 4294967168#32)) x
    (broadcast S384x128 (Scalar.ofBits .f32 0x00000000#32))
  dotZ := dot_S384x128_S256x128_S384x256_1_1_0_0_n_n
  dotS := dot_S384x256_S256x256_S384x256_1_0_0_1_n_n
  dotA := dot_S384x256_S256x128_S384x128_1_0_0_1_n_n
  dotR := dot_S384x256_S384x128_S256x128_0_0_1_1_n_n
  left := slices_S384x256_o0_0_S384x128
  right := slices_S384x256_o0_128_S384x128
  beside := concatenates_S384x128_S384x128_S384x256_d1

/-- The third tile of the diagonal: the last 256 rows. -/
def pDiag2 : Part F 256 where
  tail := fun x => extractStridedSlice S256x128 ![256, 0] x slices_S512x128_o256_0_S256x128
  add := fun x d => concatenate S512x128 0 [⟨S256x128, extractStridedSlice S256x128 ![0, 0] x slices_S512x128_o0_0_S256x128⟩,
    ⟨S256x128, addf (extractStridedSlice S256x128 ![256, 0] x slices_S512x128_o256_0_S256x128) d⟩] concatenates_S256x128_S256x128_S512x128_d0
  keep := fun x => select (cmpi .slt (extractStridedSlice S256x128 ![256, 0] k0_pay130 slices_S512x128_o256_0_S256x128) (broadcast S256x128 4294967040#32)) x
    (broadcast S256x128 (Scalar.ofBits .f32 0x00000000#32))
  dotZ := dot_S256x128_S256x128_S256x256_1_1_0_0_n_n
  dotS := dot_S256x256_S256x256_S256x256_1_0_0_1_n_n
  dotA := dot_S256x256_S256x128_S256x128_1_0_0_1_n_n
  dotR := dot_S256x256_S256x128_S256x128_0_0_1_1_n_n
  left := slices_S256x256_o0_0_S256x128
  right := slices_S256x256_o0_128_S256x128
  beside := concatenates_S256x128_S256x128_S256x256_d1

/-- The last tile of the diagonal: the last 128 rows. -/
def pDiag3 : Part F 128 where
  tail := fun x => extractStridedSlice S128x128 ![384, 0] x slices_S512x128_o384_0_S128x128
  add := fun x d => concatenate S512x128 0 [⟨S384x128, extractStridedSlice S384x128 ![0, 0] x slices_S512x128_o0_0_S384x128⟩,
    ⟨S128x128, addf (extractStridedSlice S128x128 ![384, 0] x slices_S512x128_o384_0_S128x128) d⟩] concatenates_S384x128_S128x128_S512x128_d0
  keep := fun x => select (cmpi .slt (extractStridedSlice S128x128 ![384, 0] k0_pay130 slices_S512x128_o384_0_S128x128) (broadcast S128x128 4294966912#32)) x
    (broadcast S128x128 (Scalar.ofBits .f32 0x00000000#32))
  dotZ := dot_S128x128_S256x128_S128x256_1_1_0_0_n_n
  dotS := dot_S128x256_S256x256_S128x256_1_0_0_1_n_n
  dotA := dot_S128x256_S256x128_S128x128_1_0_0_1_n_n
  dotR := dot_S128x256_S128x128_S256x128_0_0_1_1_n_n
  left := slices_S128x256_o0_0_S128x128
  right := slices_S128x256_o0_128_S128x128
  beside := concatenates_S128x128_S128x128_S128x256_d1

/-- A tile cleared once outside the first head's lanes and once outside the second's, one above the other. -/
def both (m n : FVec F S128x128 .bf16) (k : Vec F S128x128 .bf16) : FVec F S256x128 .bf16 :=
  concatenate S256x128 0 [⟨S128x128, mulf k m⟩, ⟨S128x128, mulf k n⟩] concatenates_S128x128_S128x128_S256x128_d0

/-- The logarithm the walk adds up: softplus. -/
def softp {s : Shape} (x : FVec F s .f32) : FVec F s .f32 :=
  addf (maximumf x (broadcast s (Scalar.ofBits .f32 0x00000000#32)))
    (log (addf (broadcast s (Scalar.ofBits .f32 0x3F800000#32)) (exp (subf (broadcast s (Scalar.ofBits .f32 0x00000000#32)) (absf x)))))

namespace Part

variable {n : ℕ} (P : Part F n)

/-- The first head's half. -/
def lft (x : FVec F (dbl n) .f32) : FVec F (nar n) .f32 := extractStridedSlice (nar n) ![0, 0] x P.left

/-- The second head's half. -/
def rgt (x : FVec F (dbl n) .f32) : FVec F (nar n) .f32 := extractStridedSlice (nar n) ![0, 128] x P.right

/-- Two halves side by side. -/
def pair (x y : FVec F (nar n) .bf16) : FVec F (dbl n) .bf16 := concatenate (dbl n) 1 [⟨nar n, x⟩, ⟨nar n, y⟩] P.beside

/-- The products of the rows with both heads' keys. -/
def logits (q : FVec F S512x128 .bf16) (kk : FVec F S256x128 .bf16) : FVec F (dbl n) .f32 :=
  matmul P.dotZ none (P.tail q) kk (constant (dbl n) .f32 0x00000000#32)

/-- The sums over the columns `M` says, and over all columns, taken of a value split in its rounding and the rest. -/
def sums (M : FVec F S256x256 .bf16) (x : FVec F (nar n) .f32) : FVec F (dbl n) .f32 :=
  matmul P.dotS none (P.pair (truncf .bf16 x bitsLt_bf16_f32) (truncf .bf16 (subf x (extf .f32 (truncf .bf16 x bitsLt_bf16_f32) bitsLt_bf16_f32)) bitsLt_bf16_f32)) M
    (constant (dbl n) .f32 0x00000000#32)

/-- The weights of a tile. -/
def weight (L : FVec F S256x256 .bf16) (z : FVec F (nar n) .f32) (c : FVec F S512x128 .f32) : FVec F (nar n) .bf16 :=
  truncf .bf16 (P.keep (exp (subf (subf z (softp z)) (addf (P.lft (P.sums L (P.keep (softp z)))) (P.tail c))))) bitsLt_bf16_f32

/-- The sum of logarithms carried on. -/
def nextC (L : FVec F S256x256 .bf16) (z : FVec F (nar n) .f32) (c : FVec F S512x128 .f32) : FVec F S512x128 .f32 :=
  P.add c (P.rgt (P.sums L (P.keep (softp z))))

/-- One tile of the forward walk. -/
def fwd (L : FVec F S256x256 .bf16) (q : FVec F S512x128 .bf16) (m n' : FVec F S128x128 .bf16) (K V : Vec F S128x128 .bf16) (s : Fwd F) : Fwd F :=
  (P.nextC L (P.lft (P.logits q (both m n' K))) s.1, P.nextC L (P.rgt (P.logits q (both m n' K))) s.2.1,
   P.add s.2.2 (matmul P.dotA none (P.pair (P.weight L (P.lft (P.logits q (both m n' K))) s.1) (P.weight L (P.rgt (P.logits q (both m n' K))) s.2.1)) (both m n' V)
     (constant (nar n) .f32 0x00000000#32)))

/-- Weight times weight gradient. -/
def prod (w : FVec F (nar n) .bf16) (d : FVec F (nar n) .f32) : FVec F (nar n) .f32 := mulf (extf .f32 w bitsLt_bf16_f32) d

/-- The gradient of the logits of a tile. -/
def dlogits (I : FVec F S256x256 .bf16) (z g : FVec F (nar n) .f32) (d t : FVec F S512x128 .f32) : FVec F (nar n) .bf16 :=
  truncf .bf16 (P.keep (subf (mulf g (subf (broadcast (nar n) (Scalar.ofBits .f32 0x3F800000#32)) (exp (subf z (softp z)))))
    (mulf (subf (P.tail t) (addf (P.lft (P.sums I g)) (P.tail d))) (exp (subf z (softp z)))))) bitsLt_bf16_f32

/-- The sum of weight gradients carried on. -/
def nextD (I : FVec F S256x256 .bf16) (g : FVec F (nar n) .f32) (d : FVec F S512x128 .f32) : FVec F S512x128 .f32 := P.add d (P.rgt (P.sums I g))

/-- The words of the backward walk that stay the same: the two matrices of the sums, the scaled queries, the output gradient, the two heads' lanes, and the two heads' totals. -/
structure _root_.Cert.Attn.Wd (F : FTy → Type) where
  L : FVec F S256x256 .bf16
  I : FVec F S256x256 .bf16
  q : FVec F S512x128 .bf16
  o : Vec F S512x128 .bf16
  m : FVec F S128x128 .bf16
  n : FVec F S128x128 .bf16
  t : FVec F S512x128 .f32
  u : FVec F S512x128 .f32
  h : IVec S128x128 1

variable (W : Wd F) (K V : Vec F S128x128 .bf16) (s : Bwd F)

/-- The two heads' weights of a tile. -/
def w0 : FVec F (nar n) .bf16 := P.weight W.L (P.lft (P.logits W.q (both W.m W.n K))) s.1
def w1 : FVec F (nar n) .bf16 := P.weight W.L (P.rgt (P.logits W.q (both W.m W.n K))) s.2.1

/-- The two heads' weights times weight gradients. -/
def g0 : FVec F (nar n) .f32 := prod (P.w0 W K s) (P.lft (P.logits W.o (both W.m W.n V)))
def g1 : FVec F (nar n) .f32 := prod (P.w1 W K s) (P.rgt (P.logits W.o (both W.m W.n V)))

/-- The two heads' gradients of the logits. -/
def e0 : FVec F (nar n) .bf16 := P.dlogits W.I (P.lft (P.logits W.q (both W.m W.n K))) (P.g0 W K V s) s.2.2.1 W.t
def e1 : FVec F (nar n) .bf16 := P.dlogits W.I (P.rgt (P.logits W.q (both W.m W.n K))) (P.g1 W K V s) s.2.2.2.1 W.u

/-- One tile of the backward walk: the state carried on. -/
def bwd : Bwd F :=
  (P.nextC W.L (P.lft (P.logits W.q (both W.m W.n K))) s.1, P.nextC W.L (P.rgt (P.logits W.q (both W.m W.n K))) s.2.1,
   P.nextD W.I (P.g0 W K V s) s.2.2.1, P.nextD W.I (P.g1 W K V s) s.2.2.2.1,
   P.add s.2.2.2.2 (matmul P.dotA none (P.pair (P.e0 W K V s) (P.e1 W K V s)) (both W.m W.n K) (constant (nar n) .f32 0x00000000#32)))

/-- A tile of a gradient in memory with the products over the rows of two halves and of a block added, each head's in its own lanes. -/
def keys (x y : FVec F (nar n) .bf16) (b : FVec F S512x128 .bf16) (r : Vec F S128x128 .f32) : Vec F S128x128 .f32 :=
  addf (shapeCast S128x128 r shapeCasts_S128x128_S128x128)
    (select W.h (extractStridedSlice S128x128 ![0, 0] (matmul P.dotR none (P.pair x y) (P.tail b) (constant S256x128 .f32 0x00000000#32)) slices_S256x128_o0_0_S128x128)
      (extractStridedSlice S128x128 ![128, 0] (matmul P.dotR none (P.pair x y) (P.tail b) (constant S256x128 .f32 0x00000000#32)) slices_S256x128_o128_0_S128x128))

/-- One tile of the backward walk: the gradient of the keys. -/
def dk (r : Vec F S128x128 .f32) : Vec F S128x128 .f32 := P.keys W (P.e0 W K V s) (P.e1 W K V s) W.q r

/-- One tile of the backward walk: the gradient of the values. -/
def dv (r : Vec F S128x128 .f32) : Vec F S128x128 .f32 := P.keys W (P.w0 W K s) (P.w1 W K s) W.o r

end Part

end Cert.Attn

end
-- ==== Proof.Walk.lean ====
/-
  The walks of the two kernels over the groups of keys, as functions of the blocks they read, over any float values: the state after the group of the diagonal and after
  each further group towards the first key. A group is four tiles of keys, walked from the last to the first. `i` is the number of the block of 512 queries, `j` the number of
  groups walked after the diagonal's.
-/
module

public import proofs.«01_k».proof.Proof.Tiles

@[expose] public section

noncomputable section

namespace Cert.Attn

open Cert.KernelIdeal Cert.KernelIdeal.Gen
open Idealize.ShloMosaic Idealize.ShloMosaic.ValueIdx

variable {F : FTy → Type} [FloatOps F]

/-- The first key of the group walked as number `j` after the diagonal's. -/
def grp (i j : ℕ) : ℕ := 512 * (i - 1 - j)

/-- The forward walk over four tiles. -/
def fwdGroup {n3 n2 n1 n0 : ℕ} (P3 : Part F n3) (P2 : Part F n2) (P1 : Part F n1) (P0 : Part F n0) (L : FVec F S256x256 .bf16) (q : FVec F S512x128 .bf16)
    (m n : FVec F S128x128 .bf16) (K3 K2 K1 K0 V3 V2 V1 V0 : Vec F S128x128 .bf16) (s : Fwd F) : Fwd F :=
  P0.fwd L q m n K0 V0 (P1.fwd L q m n K1 V1 (P2.fwd L q m n K2 V2 (P3.fwd L q m n K3 V3 s)))

/-- The state before any key. -/
def fwd0 : Fwd F := (k0_pay136, k0_pay136, k0_pay136)

/-- The forward walk's state after `j` groups. -/
def fwdIter (i : ℕ) (q : Vec F S512x128 .bf16) (k v : Vec F S4096x128 .bf16) : ℕ → Fwd F
  | 0 => fwdGroup pDiag3 pDiag2 pDiag1 pDiag0 (k0_pay131 (F := F)) (k0_pay132 q) (k0_pay134 (F := F)) (k0_pay135 (F := F))
      (tile k (512 * i + 384)) (tile k (512 * i + 256)) (tile k (512 * i + 128)) (tile k (512 * i))
      (tile v (512 * i + 384)) (tile v (512 * i + 256)) (tile v (512 * i + 128)) (tile v (512 * i)) fwd0
  | j + 1 => fwdGroup pFull pFull pFull pFull (k0_pay131 (F := F)) (k0_pay132 q) (k0_pay134 (F := F)) (k0_pay135 (F := F))
      (tile k (grp i j + 384)) (tile k (grp i j + 256)) (tile k (grp i j + 128)) (tile k (grp i j))
      (tile v (grp i j + 384)) (tile v (grp i j + 256)) (tile v (grp i j + 128)) (tile v (grp i j)) (fwdIter i q k v j)

/-- The output block of the forward kernel before it is rounded. -/
def fwdOut (i : ℕ) (q : Vec F S512x128 .bf16) (k v : Vec F S4096x128 .bf16) : Vec F S512x128 .f32 := (fwdIter i q k v i).2.2

/-- What the backward walk holds: the carried state, and the gradients of the keys and of the values. -/
abbrev BwdSt (F : FTy → Type) : Type := Bwd F × Vec F S4096x128 .f32 × Vec F S4096x128 .f32

/-- The backward walk over the tile from key `o` on. -/
def bwdTile {n : ℕ} (P : Part F n) (W : Wd F) (k v : Vec F S4096x128 .bf16) (o : ℕ) (s : BwdSt F) : BwdSt F :=
  (P.bwd W (tile k o) (tile v o) s.1, setTile s.2.1 o (P.dk W (tile k o) (tile v o) s.1 (tile s.2.1 o)), setTile s.2.2 o (P.dv W (tile k o) s.1 (tile s.2.2 o)))

/-- The backward walk over the four tiles from key `o` on. -/
def bwdGroup {n3 n2 n1 n0 : ℕ} (P3 : Part F n3) (P2 : Part F n2) (P1 : Part F n1) (P0 : Part F n0) (W : Wd F) (k v : Vec F S4096x128 .bf16) (o : ℕ) (s : BwdSt F) : BwdSt F :=
  bwdTile P0 W k v o (bwdTile P1 W k v (o + 128) (bwdTile P2 W k v (o + 256) (bwdTile P3 W k v (o + 384) s)))

/-- The words of the backward walk, from the block of queries, the output gradient and the output. -/
def words (q dO : Vec F S512x128 .bf16) (o32 : Vec F S512x128 .f32) : Wd F where
  L := k1_pay261
  I := k1_pay262
  q := k1_pay263 q
  o := dO
  m := k1_pay269 k1_pay265 k1_pay266 k1_pay267
  n := k1_pay270 k1_pay265 k1_pay266 k1_pay267
  t := k1_pay272 (k1_pay264 dO o32)
  u := k1_pay273 (k1_pay264 dO o32)
  h := k1_pay274

/-- The state before any key. -/
def bwd0 : Bwd F := (k1_pay275, k1_pay275, k1_pay275, k1_pay275, k1_pay275)

/-- The backward walk's state after `j` groups. -/
def bwdIter (i : ℕ) (q dO : Vec F S512x128 .bf16) (o32 : Vec F S512x128 .f32) (k v : Vec F S4096x128 .bf16) (dk dv : Vec F S4096x128 .f32) : ℕ → BwdSt F
  | 0 => bwdGroup pDiag3 pDiag2 pDiag1 pDiag0 (words q dO o32) k v (512 * i) (bwd0, dk, dv)
  | j + 1 => bwdGroup pFull pFull pFull pFull (words q dO o32) k v (grp i j) (bwdIter i q dO o32 k v dk dv j)

/-- A rectangle of 128 whole rows that lies in the column block is a tile of it. -/
theorem window_eq_tile {e : EltTy} (x : Vec F S4096x128 e) {off : Fin 2 → ℕ} (o : ℕ) (h : off = ![o, 0]) (ho : o + 128 ≤ 4096)
    (inb : ∀ a, off a + S128x128.size a ≤ S4096x128.size a) : VecWindow.window x off S128x128.size inb = tile x o := by
  subst h
  funext y
  have h0 : (y 0).val < 128 := (y 0).isLt
  show x _ = x _
  congr 1
  funext a
  refine Fin.ext ?_
  match a with
  | ⟨0, _⟩ =>
    show o + 1 * (y 0).val = (o + (y 0).val) % 4096
    rw [Nat.mod_eq_of_lt (by omega)]; omega
  | ⟨1, _⟩ =>
    show 0 + 1 * (y 1).val = (y 1).val
    omega

/-- Reading a tile that the last writing left alone. -/
theorem tile_setTile_ne {e : EltTy} (x : Vec F S4096x128 e) (o o' : ℕ) (w : Vec F S128x128 e) (h : o' + 128 ≤ o ∨ o + 128 ≤ o') (ho' : o' + 128 ≤ 4096) :
    tile (setTile x o w) o' = tile x o' := by
  have inb : ∀ a, (![o', 0] : Fin 2 → ℕ) a + S128x128.size a ≤ S4096x128.size a := fun a => by
    match a with
    | ⟨0, _⟩ => exact ho'
    | ⟨1, _⟩ => exact le_refl _
  rw [← window_eq_tile (setTile x o w) o' rfl ho' inb, ← window_eq_tile x o' rfl ho' inb]
  exact VecWindow.window_put_of_disjoint (s := S4096x128) x ![o, 0] S128x128.size ![o', 0] S128x128.size inb w 0 h

section
variable {n3 n2 n1 n0 : ℕ} (P3 : Part F n3) (P2 : Part F n2) (P1 : Part F n1) (P0 : Part F n0) (W : Wd F)

/-- The carried state after four tiles, from the tiles. -/
def bwdAcc (K3 K2 K1 K0 V3 V2 V1 V0 : Vec F S128x128 .bf16) (s : Bwd F) : Bwd F :=
  P0.bwd W K0 V0 (P1.bwd W K1 V1 (P2.bwd W K2 V2 (P3.bwd W K3 V3 s)))

/-- Four tiles replaced, the last one first. -/
def set4 (x : Vec F S4096x128 .f32) (o : ℕ) (w3 w2 w1 w0 : Vec F S128x128 .f32) : Vec F S4096x128 .f32 :=
  setTile (setTile (setTile (setTile x (o + 384) w3) (o + 256) w2) (o + 128) w1) o w0

/-- The gradient of the keys after four tiles: each tile of it is read as it was before the group. -/
theorem bwdGroup_dk (k v : Vec F S4096x128 .bf16) (o : ℕ) (ho : o + 512 ≤ 4096) (a : Bwd F) (x y : Vec F S4096x128 .f32) :
    (bwdGroup P3 P2 P1 P0 W k v o (a, x, y)).2.1 = set4 x o
      (P3.dk W (tile k (o + 384)) (tile v (o + 384)) a (tile x (o + 384)))
      (P2.dk W (tile k (o + 256)) (tile v (o + 256)) (P3.bwd W (tile k (o + 384)) (tile v (o + 384)) a) (tile x (o + 256)))
      (P1.dk W (tile k (o + 128)) (tile v (o + 128)) (P2.bwd W (tile k (o + 256)) (tile v (o + 256)) (P3.bwd W (tile k (o + 384)) (tile v (o + 384)) a)) (tile x (o + 128)))
      (P0.dk W (tile k o) (tile v o) (P1.bwd W (tile k (o + 128)) (tile v (o + 128)) (P2.bwd W (tile k (o + 256)) (tile v (o + 256))
        (P3.bwd W (tile k (o + 384)) (tile v (o + 384)) a))) (tile x o)) := by
  simp only [bwdGroup, bwdTile, set4]
  rw [tile_setTile_ne _ _ o _ (by omega) (by omega), tile_setTile_ne _ _ o _ (by omega) (by omega), tile_setTile_ne _ _ o _ (by omega) (by omega),
    tile_setTile_ne _ _ (o + 128) _ (by omega) (by omega), tile_setTile_ne _ _ (o + 128) _ (by omega) (by omega), tile_setTile_ne _ _ (o + 256) _ (by omega) (by omega)]

/-- The gradient of the values after four tiles. -/
theorem bwdGroup_dv (k v : Vec F S4096x128 .bf16) (o : ℕ) (ho : o + 512 ≤ 4096) (a : Bwd F) (x y : Vec F S4096x128 .f32) :
    (bwdGroup P3 P2 P1 P0 W k v o (a, x, y)).2.2 = set4 y o
      (P3.dv W (tile k (o + 384)) a (tile y (o + 384)))
      (P2.dv W (tile k (o + 256)) (P3.bwd W (tile k (o + 384)) (tile v (o + 384)) a) (tile y (o + 256)))
      (P1.dv W (tile k (o + 128)) (P2.bwd W (tile k (o + 256)) (tile v (o + 256)) (P3.bwd W (tile k (o + 384)) (tile v (o + 384)) a)) (tile y (o + 128)))
      (P0.dv W (tile k o) (P1.bwd W (tile k (o + 128)) (tile v (o + 128)) (P2.bwd W (tile k (o + 256)) (tile v (o + 256))
        (P3.bwd W (tile k (o + 384)) (tile v (o + 384)) a))) (tile y o)) := by
  simp only [bwdGroup, bwdTile, set4]
  rw [tile_setTile_ne _ _ o _ (by omega) (by omega), tile_setTile_ne _ _ o _ (by omega) (by omega), tile_setTile_ne _ _ o _ (by omega) (by omega),
    tile_setTile_ne _ _ (o + 128) _ (by omega) (by omega), tile_setTile_ne _ _ (o + 128) _ (by omega) (by omega), tile_setTile_ne _ _ (o + 256) _ (by omega) (by omega)]

end

end Cert.Attn

end
-- ==== Proof.Offs.lean ====
/-
  Where the loops of the two kernels read and write: the offsets in closed form, and the number of trips.
-/
module

public import proofs.«01_k».proof.Proof.Walk
public import proofs.«01_k».proof.Proof.Gen.KernelIdeal
public import Idealize.ShloMosaic.Lib.Tactic

@[expose] public section

noncomputable section

namespace Cert.Attn

open Cert.KernelIdeal Cert.KernelIdeal.Gen
open Idealize.ShloMosaic Idealize.ShloMosaic.ValueIdx

variable {F : FTy → Type} [FloatOps F]

theorem trips0 : ∀ i : grid0.Coords, (k0_t1_loop i).trips = (i 1).val := by decide +kernel

theorem trips1 : ∀ i : grid1.Coords, (k1_t1_loop i).trips = (i 1).val := by decide +kernel

theorem trips0' : ∀ i : grid0.Coords, (k0_t2_loop i).trips = 0 := by decide +kernel

theorem trips1' : ∀ i : grid1.Coords, (k1_t2_loop i).trips = 0 := by decide +kernel

theorem k0_off2_eq : ∀ (i : grid0.Coords) (k : Fin (k0_t1_loop i).trips) (r : Fin 4),
    k0_off2 i k (BitVec.ofNat 32 r.val) = ![512 * ((i 1).val - 1 - k.val) + 128 * r.val, 0] := by decide +kernel

theorem k1_off2_eq : ∀ (i : grid1.Coords) (k : Fin (k1_t1_loop i).trips) (r : Fin 4),
    k1_off2 i k (BitVec.ofNat 32 r.val) = ![512 * ((i 1).val - 1 - k.val) + 128 * r.val, 0] := by decide +kernel

instance closedOff_k1_off2_0 (i : grid1.Coords) (k : Fin (k1_t1_loop i).trips) : ClosedOff (k1_off2 i k (BitVec.ofNat 32 0)) :=
  ⟨![512 * ((i 1).val - 1 - k.val) + 128 * 0, 0], k1_off2_eq i k ⟨0, by decide⟩⟩

instance closedOff_k1_off2_1 (i : grid1.Coords) (k : Fin (k1_t1_loop i).trips) : ClosedOff (k1_off2 i k (BitVec.ofNat 32 1)) :=
  ⟨![512 * ((i 1).val - 1 - k.val) + 128 * 1, 0], k1_off2_eq i k ⟨1, by decide⟩⟩

instance closedOff_k1_off2_2 (i : grid1.Coords) (k : Fin (k1_t1_loop i).trips) : ClosedOff (k1_off2 i k (BitVec.ofNat 32 2)) :=
  ⟨![512 * ((i 1).val - 1 - k.val) + 128 * 2, 0], k1_off2_eq i k ⟨2, by decide⟩⟩

instance closedOff_k1_off2_3 (i : grid1.Coords) (k : Fin (k1_t1_loop i).trips) : ClosedOff (k1_off2 i k (BitVec.ofNat 32 3)) :=
  ⟨![512 * ((i 1).val - 1 - k.val) + 128 * 3, 0], k1_off2_eq i k ⟨3, by decide⟩⟩

theorem grp_le (i j : ℕ) (hi : i ≤ 7) : grp i j + 512 ≤ 4096 := by unfold grp; omega

end Cert.Attn

end
-- ==== Proof.RunFwd.lean ====
/-
  One run of the forward kernel's body: from the blocks of queries, keys and values it leaves the rounded output block and the output block.
-/
module

public import proofs.«01_k».proof.Proof.Offs
public import proofs.«01_k».proof.Proof.Gen.KernelIdeal.Loops
public import Idealize.ShloMosaic.Lib.Tactic
public import Idealize.ShloMosaic.Lib.Pipeline.Frame
public import Idealize.ShloMosaic.Lib.Pipeline.FrameBody

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Loop

variable (c : Dev nD) (i : grid0.Coords) (M2 : Memref sig .tc .vmem S512x128 .bf16) (h2 : M2.IsWhole)
    (M3 : Memref sig .tc .vmem S4096x128 .bf16) (h3 : M3.IsWhole) (M4 : Memref sig .tc .vmem S4096x128 .bf16) (h4 : M4.IsWhole)
    (M5 : Memref sig .tc .vmem S512x128 .bf16) (h5 : M5.IsWhole) (M6 : Memref sig .tc .vmem S512x128 .f32) (h6 : M6.IsWhole)
    (x3 x4 : Vec F S4096x128 .bf16)

theorem off2_tile0 (M : Memref sig .tc .vmem S4096x128 .bf16) (hM : M.IsWhole) (x : Vec F S4096x128 .bf16) (k : Fin (k0_t1_loop i).trips) (r : Fin 4)
    (inb : ∀ a, k0_off2 i k (BitVec.ofNat 32 r.val) a + S128x128.size a ≤ S4096x128.size a) :
    View.readAt (Elt F) M.view (Rect.unit (s := S4096x128) (k0_off2 i k (BitVec.ofNat 32 r.val)) S128x128.size inb).toLoadRect (hM.unread x)
      = tile x (grp (i 1).val k.val + 128 * r.val) := by
  have hr : r.val < 4 := r.isLt
  have hi : (i 1).val ≤ 7 := Nat.le_of_lt_succ (i 1).isLt
  have hg := grp_le (i 1).val k.val hi
  rw [View.readAt_unit M.view _ inb (k0_off2_eq i k r) (by rw [← k0_off2_eq i k r]; exact inb), hM.read_unread]
  exact window_eq_tile x _ rfl (by unfold grp at hg; omega) _

theorem trip_eq (arg1 : BitVec 32) (v2 : IVec S512x128 32) (v14 : FVec F S256x256 .bf16) (v19 : FVec F S512x128 .bf16) (v26 v29 : FVec F S128x128 .bf16) (w : BitVec 32)
    (k : Fin (k0_t1_loop i).trips) (s : Fwd F) :
    tripR_k0_t1 (F := F) Variants.none c none i M2 h2 M3 h3 M4 h4 M5 h5 M6 h6 arg1 v2 v14 v19 v26 v29 w (h3.unread x3) (h4.unread x4) k s
      = fwdGroup pFull pFull pFull pFull v14 v19 v26 v29 (tile x3 (grp (i 1).val k.val + 384)) (tile x3 (grp (i 1).val k.val + 256))
          (tile x3 (grp (i 1).val k.val + 128)) (tile x3 (grp (i 1).val k.val)) (tile x4 (grp (i 1).val k.val + 384)) (tile x4 (grp (i 1).val k.val + 256))
          (tile x4 (grp (i 1).val k.val + 128)) (tile x4 (grp (i 1).val k.val)) s := by
  have e := fun r M hM x inb => off2_tile0 (F := F) i M hM x k r inb
  have a3 := (e 3 M3 h3 x3 (k0_off2_inb i k 3)).trans (congrArg (tile x3) (show grp (i 1).val k.val + 128 * (3 : Fin 4).val = grp (i 1).val k.val + 384 from rfl))
  have a2 := (e 2 M3 h3 x3 (k0_off2_inb i k 2)).trans (congrArg (tile x3) (show grp (i 1).val k.val + 128 * (2 : Fin 4).val = grp (i 1).val k.val + 256 from rfl))
  have a1 := (e 1 M3 h3 x3 (k0_off2_inb i k 1)).trans (congrArg (tile x3) (show grp (i 1).val k.val + 128 * (1 : Fin 4).val = grp (i 1).val k.val + 128 from rfl))
  have a0 := (e 0 M3 h3 x3 (k0_off2_inb i k 0)).trans (congrArg (tile x3) (show grp (i 1).val k.val + 128 * (0 : Fin 4).val = grp (i 1).val k.val from rfl))
  have b3 := (e 3 M4 h4 x4 (k0_off2_inb i k 3)).trans (congrArg (tile x4) (show grp (i 1).val k.val + 128 * (3 : Fin 4).val = grp (i 1).val k.val + 384 from rfl))
  have b2 := (e 2 M4 h4 x4 (k0_off2_inb i k 2)).trans (congrArg (tile x4) (show grp (i 1).val k.val + 128 * (2 : Fin 4).val = grp (i 1).val k.val + 256 from rfl))
  have b1 := (e 1 M4 h4 x4 (k0_off2_inb i k 1)).trans (congrArg (tile x4) (show grp (i 1).val k.val + 128 * (1 : Fin 4).val = grp (i 1).val k.val + 128 from rfl))
  have b0 := (e 0 M4 h4 x4 (k0_off2_inb i k 0)).trans (congrArg (tile x4) (show grp (i 1).val k.val + 128 * (0 : Fin 4).val = grp (i 1).val k.val from rfl))
  rw [← a3, ← a2, ← a1, ← a0, ← b3, ← b2, ← b1, ← b0]
  unfold tripR_k0_t1 trip_k0_t1
  rfl

theorem st_eq (arg1 : BitVec 32) (v2 : IVec S512x128 32) (w : BitVec 32) (x2 : Vec F S512x128 .bf16) (init : Fwd F)
    (hinit : init = fwdIter (i 1).val x2 x3 x4 0) : ∀ k, k ≤ (i 1).val →
    st_k0_t1 (F := F) Variants.none c none i M2 h2 M3 h3 M4 h4 M5 h5 M6 h6 arg1 v2 (k0_pay131 (F := F)) (k0_pay132 x2) (k0_pay134 (F := F)) (k0_pay135 (F := F)) w
      (h3.unread x3) (h4.unread x4) init k = fwdIter (i 1).val x2 x3 x4 k
  | 0, _ => hinit
  | k + 1, hk => by
    rw [st_k0_t1_succ Variants.none c none i M2 h2 M3 h3 M4 h4 M5 h5 M6 h6 arg1 v2 _ _ _ _ _ _ _ init ⟨k, by rw [trips0]; omega⟩, st_eq arg1 v2 w x2 init hinit k (by omega),
      trip_eq]
    rfl

theorem st'_eq (arg1 : BitVec 32) (v2 : IVec S512x128 32) (v14 : FVec F S256x256 .bf16) (v19 : FVec F S512x128 .bf16) (v26 v29 : FVec F S128x128 .bf16) (w : BitVec 32)
    (X3 : BufTy.Contents (Elt F) M3.view.ty) (X4 : BufTy.Contents (Elt F) M4.view.ty) (init : Fwd F) :
    st_k0_t2 (F := F) Variants.none c none i M2 h2 M3 h3 M4 h4 M5 h5 M6 h6 arg1 v2 v14 v19 v26 v29 w X3 X4 init (k0_t2_loop i).trips = init := by
  rw [trips0']; rfl

end Loop

theorem off1_tile0 (i : grid0.Coords) (M : Memref sig .tc .vmem S4096x128 .bf16) (hM : M.IsWhole) (x : Vec F S4096x128 .bf16) (r : Fin 4)
    (inb : ∀ a, k0_off1 i (BitVec.ofNat 32 r.val) a + S128x128.size a ≤ S4096x128.size a) :
    View.readAt (Elt F) M.view (Rect.unit (s := S4096x128) (k0_off1 i (BitVec.ofNat 32 r.val)) S128x128.size inb).toLoadRect (hM.unread x)
      = tile x (512 * (i 1).val + 128 * r.val) := by
  have hr : r.val < 4 := r.isLt
  have hi : (i 1).val < 8 := (i 1).isLt
  rw [View.readAt_unit M.view _ inb (k0_off1_eq i r) (by rw [← k0_off1_eq i r]; exact inb), hM.read_unread]
  exact window_eq_tile x _ rfl (by omega) _

/-- A tile of the diagonal's group as the forward kernel loads it. -/
def ld (i : grid0.Coords) (M : Memref sig .tc .vmem S4096x128 .bf16) (hM : M.IsWhole) (x : Vec F S4096x128 .bf16) (r : Fin 4) : Vec F S128x128 .bf16 :=
  View.readAt (Elt F) M.view (Rect.unit (s := S4096x128) (k0_off1 i (BitVec.ofNat 32 r.val)) S128x128.size (k0_off1_inb i r)).toLoadRect (hM.unread x)

/-- The state the forward loop starts from, spelt with the loads. -/
theorem diag_eq (i : grid0.Coords) (M3 : Memref sig .tc .vmem S4096x128 .bf16) (h3 : M3.IsWhole) (M4 : Memref sig .tc .vmem S4096x128 .bf16) (h4 : M4.IsWhole)
    (x2 : Vec F S512x128 .bf16) (x3 x4 : Vec F S4096x128 .bf16) :
    fwdGroup pDiag3 pDiag2 pDiag1 pDiag0 (k0_pay131 (F := F)) (k0_pay132 x2) (k0_pay134 (F := F)) (k0_pay135 (F := F))
      (ld i M3 h3 x3 3) (ld i M3 h3 x3 2) (ld i M3 h3 x3 1) (ld i M3 h3 x3 0) (ld i M4 h4 x4 3) (ld i M4 h4 x4 2) (ld i M4 h4 x4 1) (ld i M4 h4 x4 0) fwd0
      = fwdIter (i 1).val x2 x3 x4 0 := by
  have e := fun r M hM x => off1_tile0 (F := F) i M hM x r (k0_off1_inb i r)
  have a3 : ld i M3 h3 x3 3 = tile x3 (512 * (i 1).val + 384) := (e 3 M3 h3 x3).trans (congrArg (tile x3) (show 512 * (i 1).val + 128 * (3 : Fin 4).val = 512 * (i 1).val + 384 from rfl))
  have a2 : ld i M3 h3 x3 2 = tile x3 (512 * (i 1).val + 256) := (e 2 M3 h3 x3).trans (congrArg (tile x3) (show 512 * (i 1).val + 128 * (2 : Fin 4).val = 512 * (i 1).val + 256 from rfl))
  have a1 : ld i M3 h3 x3 1 = tile x3 (512 * (i 1).val + 128) := (e 1 M3 h3 x3).trans (congrArg (tile x3) (show 512 * (i 1).val + 128 * (1 : Fin 4).val = 512 * (i 1).val + 128 from rfl))
  have a0 : ld i M3 h3 x3 0 = tile x3 (512 * (i 1).val) := (e 0 M3 h3 x3).trans (congrArg (tile x3) (show 512 * (i 1).val + 128 * (0 : Fin 4).val = 512 * (i 1).val from rfl))
  have b3 : ld i M4 h4 x4 3 = tile x4 (512 * (i 1).val + 384) := (e 3 M4 h4 x4).trans (congrArg (tile x4) (show 512 * (i 1).val + 128 * (3 : Fin 4).val = 512 * (i 1).val + 384 from rfl))
  have b2 : ld i M4 h4 x4 2 = tile x4 (512 * (i 1).val + 256) := (e 2 M4 h4 x4).trans (congrArg (tile x4) (show 512 * (i 1).val + 128 * (2 : Fin 4).val = 512 * (i 1).val + 256 from rfl))
  have b1 : ld i M4 h4 x4 1 = tile x4 (512 * (i 1).val + 128) := (e 1 M4 h4 x4).trans (congrArg (tile x4) (show 512 * (i 1).val + 128 * (1 : Fin 4).val = 512 * (i 1).val + 128 from rfl))
  have b0 : ld i M4 h4 x4 0 = tile x4 (512 * (i 1).val) := (e 0 M4 h4 x4).trans (congrArg (tile x4) (show 512 * (i 1).val + 128 * (0 : Fin 4).val = 512 * (i 1).val from rfl))
  rw [a3, a2, a1, a0, b3, b2, b1, b0]
  rfl

theorem fwdRun (c : Dev nD) (i : grid0.Coords) (M2 : Memref sig .tc .vmem S512x128 .bf16) (h2 : M2.IsWhole)
    (M3 : Memref sig .tc .vmem S4096x128 .bf16) (h3 : M3.IsWhole) (M4 : Memref sig .tc .vmem S4096x128 .bf16) (h4 : M4.IsWhole)
    (M5 : Memref sig .tc .vmem S512x128 .bf16) (h5 : M5.IsWhole) (M6 : Memref sig .tc .vmem S512x128 .f32) (h6 : M6.IsWhole)
    (x2 : Vec F S512x128 .bf16) (x3 x4 : Vec F S4096x128 .bf16) (E : Set ℕ) (K : PUnit → sProp 𝕄) :
    iprop(owns (c : Thread nD τ) M2 fullShare x2 ∗ owns (c : Thread nD τ) M3 fullShare x3 ∗ owns (c : Thread nD τ) M4 fullShare x4
        ∗ (∃ d, owns (c : Thread nD τ) M5 fullShare d) ∗ (∃ d, owns (c : Thread nD τ) M6 fullShare d)
        ∗ (iprop(owns (c : Thread nD τ) M2 fullShare x2 ∗ owns (c : Thread nD τ) M3 fullShare x3 ∗ owns (c : Thread nD τ) M4 fullShare x4
            ∗ owns (c : Thread nD τ) M5 fullShare (k0_pay15 (fwdOut (i 1).val x2 x3 x4)) ∗ owns (c : Thread nD τ) M6 fullShare (fwdOut (i 1).val x2 x3 x4)) -∗ K ⟨⟩))
      ⊢ wp frame (wpE (defs₀ (F := F)) Variants.none c none) E (cc0_sb_attn_fwd i M2 h2 M3 h3 M4 h4 M5 h5 M6 h6) K := by
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := h2.eq_unread hf2; obtain rfl := h3.eq_unread hf3; obtain rfl := h4.eq_unread hf4
  sl_unfold [cc0_sb_attn_fwd]
  sl_exec!
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    sl_unfold_words
    rw [View.read_writes_full, st'_eq, View.readAt_full, h2.read_unread]
    refine congrArg (fun s : Fwd F => k0_pay15 s.2.2) ((st_eq c i M2 h2 M3 h3 M4 h4 M5 h5 M6 h6 x3 x4 _ _ _ x2 _ ?_ _ (le_of_eq (trips0 i))).trans
      (congrArg (fwdIter (i 1).val x2 x3 x4) (trips0 i)))
    refine Eq.trans ?_ (diag_eq i M3 h3 M4 h4 x2 x3 x4)
    simp only [k0_pay1, k0_pay2, k0_pay3, k0_pay4, k0_pay5, k0_pay6, k0_pay7, k0_pay8, k0_pay9, k0_pay10, k0_pay11, k0_pay12, k0_pay13, k0_pay14, k0_pay15, k0_pay137, k0_pay138,
      k0_pay139, k0_pay140, k0_pay141, k0_pay142, k0_pay143, k0_pay144, k0_pay145, k0_pay146, k0_pay147, k0_pay148, k0_pay149, k0_pay150, k0_pay151, k0_pay152, k0_pay153,
      k0_pay154, k0_pay155, k0_pay156, k0_pay157, k0_pay158, k0_pay159, k0_pay160, k0_pay161, k0_pay162, k0_pay163, k0_pay164, k0_pay165, k0_pay166, k0_pay167, k0_pay168,
      k0_pay169, k0_pay170, k0_pay171, k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195, k0_pay196, k0_pay197, k0_pay198,
      k0_pay199, k0_pay200, k0_pay201, k0_pay202, k0_pay203, k0_pay204, k0_pay205, k0_pay206, k0_pay207, k0_pay208, k0_pay209, k0_pay210, k0_pay211, k0_pay212, k0_pay213,
      k0_pay214, fwdGroup, Part.fwd, Part.nextC, Part.weight, Part.sums, Part.logits, Part.pair, Part.lft, Part.rgt, pDiag0, pDiag1, pDiag2, pDiag3, both, softp, fwd0]
    rfl
  iexists _; isplitr; swap; · iexact H6
  ipureintro
  sl_unfold_words
  rw [View.read_writes_full, st'_eq, View.readAt_full, h2.read_unread]
  refine congrArg (fun s : Fwd F => s.2.2) ((st_eq c i M2 h2 M3 h3 M4 h4 M5 h5 M6 h6 x3 x4 _ _ _ x2 _ ?_ _ (le_of_eq (trips0 i))).trans
    (congrArg (fwdIter (i 1).val x2 x3 x4) (trips0 i)))
  refine Eq.trans ?_ (diag_eq i M3 h3 M4 h4 x2 x3 x4)
  simp only [k0_pay1, k0_pay2, k0_pay3, k0_pay4, k0_pay5, k0_pay6, k0_pay7, k0_pay8, k0_pay9, k0_pay10, k0_pay11, k0_pay12, k0_pay13, k0_pay14, k0_pay15, k0_pay137, k0_pay138,
      k0_pay139, k0_pay140, k0_pay141, k0_pay142, k0_pay143, k0_pay144, k0_pay145, k0_pay146, k0_pay147, k0_pay148, k0_pay149, k0_pay150, k0_pay151, k0_pay152, k0_pay153,
      k0_pay154, k0_pay155, k0_pay156, k0_pay157, k0_pay158, k0_pay159, k0_pay160, k0_pay161, k0_pay162, k0_pay163, k0_pay164, k0_pay165, k0_pay166, k0_pay167, k0_pay168,
      k0_pay169, k0_pay170, k0_pay171, k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195, k0_pay196, k0_pay197, k0_pay198,
      k0_pay199, k0_pay200, k0_pay201, k0_pay202, k0_pay203, k0_pay204, k0_pay205, k0_pay206, k0_pay207, k0_pay208, k0_pay209, k0_pay210, k0_pay211, k0_pay212, k0_pay213,
      k0_pay214, fwdGroup, Part.fwd, Part.nextC, Part.weight, Part.sums, Part.logits, Part.pair, Part.lft, Part.rgt, pDiag0, pDiag1, pDiag2, pDiag3, both, softp, fwd0]
  rfl

end Cert.Attn

end
-- ==== Proof.RunHead.lean ====
/-
  The start of the backward kernel's body: at the first block of queries it clears the gradients of the keys and of the values, and it prepares the words of the walk.
-/
module

public import proofs.«01_k».proof.Proof.Offs
public import Idealize.ShloMosaic.Lib.Tactic
public import Idealize.ShloMosaic.Lib.Pipeline.Frame
public import Idealize.ShloMosaic.Lib.Pipeline.FrameBody

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A gradient buffer as the walk of a block of queries finds it: cleared at the first block. -/
def start (i : ℕ) (z d : Vec F S4096x128 .f32) : Vec F S4096x128 .f32 := if i = 0 then z else d

theorem cond_true (i : grid1.Coords) (h : (i 1).val = 0) :
    Scalar.cmpi .ne (Scalar.extui (Scalar.cmpi .eq (BitVec.ofNat 32 (i 1).val) 0#32)) 0#32 = 1#1 := by rw [h]; decide

theorem cond_false (i : grid1.Coords) (h : (i 1).val ≠ 0) :
    ¬ Scalar.cmpi .ne (Scalar.extui (Scalar.cmpi .eq (BitVec.ofNat 32 (i 1).val) 0#32)) 0#32 = 1#1 := by
  have : ∀ j : Fin 8, j.val ≠ 0 → ¬ Scalar.cmpi .ne (Scalar.extui (Scalar.cmpi .eq (BitVec.ofNat 32 j.val) 0#32)) 0#32 = 1#1 := by decide +kernel
  exact this ⟨(i 1).val, (i 1).isLt⟩ h

theorem bwdHeadRun (c : Dev nD) (i : grid1.Coords) (M2 : Memref sig .tc .vmem S512x128 .bf16) (h2 : M2.IsWhole)
    (M3 : Memref sig .tc .vmem S4096x128 .bf16) (h3 : M3.IsWhole) (M4 : Memref sig .tc .vmem S4096x128 .bf16) (h4 : M4.IsWhole)
    (M5 : Memref sig .tc .vmem S512x128 .f32) (h5 : M5.IsWhole) (M6 : Memref sig .tc .vmem S512x128 .bf16) (h6 : M6.IsWhole)
    (M7 : Memref sig .tc .vmem S512x128 .bf16) (h7 : M7.IsWhole) (M8 : Memref sig .tc .vmem S4096x128 .f32) (h8 : M8.IsWhole)
    (M9 : Memref sig .tc .vmem S4096x128 .f32) (h9 : M9.IsWhole) (x2 : Vec F S512x128 .bf16) (x5 : Vec F S512x128 .f32) (x6 : Vec F S512x128 .bf16)
    (d8 d9 : Vec F S4096x128 .f32) (E : Set ℕ) :
    (iprop((M2.view.loc (c : Thread nD τ) ↦[M2.view.set]{fullShare} h2.unread x2) ∗ (M5.view.loc (c : Thread nD τ) ↦[M5.view.set]{fullShare} h5.unread x5)
      ∗ (M6.view.loc (c : Thread nD τ) ↦[M6.view.set]{fullShare} h6.unread x6)
      ∗ (M8.view.loc (c : Thread nD τ) ↦[M8.view.set]{fullShare} h8.unread d8) ∗ (M9.view.loc (c : Thread nD τ) ↦[M9.view.set]{fullShare} h9.unread d9)) : sProp 𝕄)
      ⊢ wp frame (wpE (defs₀ (F := F)) Variants.none (c : Thread nD τ) none) E
          (k1_part23 (F := F) i M2 h2 M3 h3 M4 h4 M5 h5 M6 h6 M7 h7 M8 h8 M9 h9)
          (fun r => iprop(⌜r = ⟨BitVec.ofNat 32 (i 1).val, k1_pay258, k1_pay261 (F := F), k1_pay262 (F := F), k1_pay263 x2, x6, k1_pay264 x6 x5, k1_pay265,
              k1_pay266 (F := F), k1_pay267 (F := F)⟩⌝
            ∗ (M2.view.loc (c : Thread nD τ) ↦[M2.view.set]{fullShare} h2.unread x2) ∗ (M5.view.loc (c : Thread nD τ) ↦[M5.view.set]{fullShare} h5.unread x5)
            ∗ (M6.view.loc (c : Thread nD τ) ↦[M6.view.set]{fullShare} h6.unread x6)
            ∗ (∃ f, ⌜View.read (Elt F) M8.view f = start (i 1).val (k1_pay256 (F := F)) d8⌝ ∗ (M8.view.loc (c : Thread nD τ) ↦[M8.view.set]{fullShare} f))
            ∗ (∃ f, ⌜View.read (Elt F) M9.view f = start (i 1).val (k1_pay257 (F := F)) d9⌝ ∗ (M9.view.loc (c : Thread nD τ) ↦[M9.view.set]{fullShare} f)))) := by
  by_cases hi : (i 1).val = 0
  · have hc := cond_true i hi
    rw [k1_part23_eq_skeleton]
    unfold k1_part23_skel
    simp only [hc, dif_pos]
    iintro ⟨H2, H5, H6, H8, H9⟩
    sl_exec!
    sl_step
    isplitr
    · ipureintro
      sl_unfold_words
      rw [View.readAt_full, h2.read_unread, View.readAt_full, h6.read_unread, View.readAt_full, h5.read_unread]
    isplitl [H2]; · iexact H2
    isplitl [H5]; · iexact H5
    isplitl [H6]; · iexact H6
    isplitl [H8]
    · iexists _; isplitr; swap; · iexact H8
      ipureintro
      sl_unfold_words
      rw [View.read_writes_full]
      simp only [start, hi, if_pos]
    iexists _; isplitr; swap; · iexact H9
    ipureintro
    sl_unfold_words
    rw [View.read_writes_full]
    simp only [start, hi, if_pos]
  · have hc := cond_false i hi
    rw [k1_part23_eq_skeleton]
    unfold k1_part23_skel
    simp only [hc, dif_neg, not_false_eq_true]
    iintro ⟨H2, H5, H6, H8, H9⟩
    sl_exec!
    sl_step
    isplitr
    · ipureintro
      sl_unfold_words
      rw [View.readAt_full, h2.read_unread, View.readAt_full, h6.read_unread, View.readAt_full, h5.read_unread]
    isplitl [H2]; · iexact H2
    isplitl [H5]; · iexact H5
    isplitl [H6]; · iexact H6
    isplitl [H8]
    · iexists _; isplitr; swap; · iexact H8
      ipureintro
      rw [h8.read_unread, start, if_neg hi]
    iexists _; isplitr; swap; · iexact H9
    ipureintro
    rw [h9.read_unread, start, if_neg hi]

end Cert.Attn

end
-- ==== Proof.RunTrip.lean ====
/-
  One trip of the backward kernel's loop: it adds one group of keys to the carried state and to the two gradients held in memory.
-/
module

public import proofs.«01_k».proof.Proof.Offs
public import proofs.«01_k».proof.Proof.Gen.KernelIdeal.Loops
public import Idealize.ShloMosaic.Lib.Tactic
public import Idealize.ShloMosaic.Lib.Pipeline.Frame
public import Idealize.ShloMosaic.Lib.Pipeline.FrameBody

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off2_tile1 {e : EltTy} (i : grid1.Coords) (M : Memref sig .tc .vmem S4096x128 e) (X : BufTy.Contents (Elt F) M.view.ty) (k : Fin (k1_t1_loop i).trips) (r : Fin 4)
    (inb : ∀ a, k1_off2 i k (BitVec.ofNat 32 r.val) a + S128x128.size a ≤ S4096x128.size a) :
    View.readAt (Elt F) M.view (Rect.unit (s := S4096x128) (k1_off2 i k (BitVec.ofNat 32 r.val)) S128x128.size inb).toLoadRect X
      = tile (F := F) (View.read (Elt F) M.view X) (grp (i 1).val k.val + 128 * r.val) := by
  have hr : r.val < 4 := r.isLt
  have hi : (i 1).val ≤ 7 := Nat.le_of_lt_succ (i 1).isLt
  have hg := grp_le (i 1).val k.val hi
  rw [View.readAt_unit M.view _ inb (k1_off2_eq i k r) (by rw [← k1_off2_eq i k r]; exact inb)]
  exact window_eq_tile (F := F) (View.read (Elt F) M.view X) _ rfl (by unfold grp at hg; omega) _

/-- A buffer after a trip's four stores, the first tile's last. -/
theorem read_four (i : grid1.Coords) (M : Memref sig .tc .vmem S4096x128 .f32) (X : BufTy.Contents (Elt F) M.view.ty) (k : Fin (k1_t1_loop i).trips)
    (w3 w2 w1 w0 : Vec F S128x128 .f32) :
    View.read (Elt F) M.view (M.view.writes (Elt F) X
      [⟨Rect.unit (s := S4096x128) (k1_off2 i k 0#32) S128x128.size (k1_off2_inb i k 0), w0⟩,
       ⟨Rect.unit (s := S4096x128) (k1_off2 i k 1#32) S128x128.size (k1_off2_inb i k 1), w1⟩,
       ⟨Rect.unit (s := S4096x128) (k1_off2 i k 2#32) S128x128.size (k1_off2_inb i k 2), w2⟩,
       ⟨Rect.unit (s := S4096x128) (k1_off2 i k 3#32) S128x128.size (k1_off2_inb i k 3), w3⟩])
      = set4 (F := F) (View.read (Elt F) M.view X) (grp (i 1).val k.val) w3 w2 w1 w0 := by
  refine (View.read_writes_cons_put M.view X (k1_off2_inb i k 0) w0 _ (k1_off2_eq i k 0)).trans ?_
  refine congrArg (fun y : Vec F S4096x128 .f32 => setTile (F := F) y (grp (i 1).val k.val) w0) ((View.read_writes_cons_put M.view X (k1_off2_inb i k 1) w1 _ (k1_off2_eq i k 1)).trans ?_)
  refine congrArg (fun y : Vec F S4096x128 .f32 => setTile (F := F) y (grp (i 1).val k.val + 128) w1)
    ((View.read_writes_cons_put M.view X (k1_off2_inb i k 2) w2 _ (k1_off2_eq i k 2)).trans ?_)
  refine congrArg (fun y : Vec F S4096x128 .f32 => setTile (F := F) y (grp (i 1).val k.val + 256) w2)
    ((View.read_writes_cons_put M.view X (k1_off2_inb i k 3) w3 [] (k1_off2_eq i k 3)).trans ?_)
  rfl

theorem bwdTripRun (c : Dev nD) (i : grid1.Coords) (M2 : Memref sig .tc .vmem S512x128 .bf16) (h2 : M2.IsWhole)
    (M3 : Memref sig .tc .vmem S4096x128 .bf16) (h3 : M3.IsWhole) (M4 : Memref sig .tc .vmem S4096x128 .bf16) (h4 : M4.IsWhole)
    (M5 : Memref sig .tc .vmem S512x128 .f32) (h5 : M5.IsWhole) (M6 : Memref sig .tc .vmem S512x128 .bf16) (h6 : M6.IsWhole)
    (M7 : Memref sig .tc .vmem S512x128 .bf16) (h7 : M7.IsWhole) (M8 : Memref sig .tc .vmem S4096x128 .f32) (h8 : M8.IsWhole)
    (M9 : Memref sig .tc .vmem S4096x128 .f32) (h9 : M9.IsWhole)
    (arg1 : BitVec 32) (v5 : IVec S512x128 32) (W : Wd F) (w : BitVec 32)
    (X3 : BufTy.Contents (Elt F) M3.view.ty) (X4 : BufTy.Contents (Elt F) M4.view.ty)
    (X8 : BufTy.Contents (Elt F) M8.view.ty) (X9 : BufTy.Contents (Elt F) M9.view.ty)
    (k : Fin (k1_t1_loop i).trips) (acc : Bwd F) (st : BwdSt F)
    (hst : st = bwdGroup pFull pFull pFull pFull W (View.read (Elt F) M3.view X3) (View.read (Elt F) M4.view X4) (grp (i 1).val k.val)
      (acc, View.read (Elt F) M8.view X8, View.read (Elt F) M9.view X9)) (E : Set ℕ) :
    (iprop((M3.view.loc (c : Thread nD τ) ↦[M3.view.set]{fullShare} X3) ∗ (M4.view.loc (c : Thread nD τ) ↦[M4.view.set]{fullShare} X4)
      ∗ (M8.view.loc (c : Thread nD τ) ↦[M8.view.set]{fullShare} X8) ∗ (M9.view.loc (c : Thread nD τ) ↦[M9.view.set]{fullShare} X9)) : sProp 𝕄)
      ⊢ wp frame (wpE (defs₀ (F := F)) Variants.none (c : Thread nD τ) none) E
          (k1_t1_body (F := F) i M2 h2 M3 h3 M4 h4 M5 h5 M6 h6 M7 h7 M8 h8 M9 h9 arg1 v5 W.L W.I W.q W.o W.m W.n W.t W.u W.h w k acc)
          (fun yld => iprop(⌜yld = st.1⌝
            ∗ (M3.view.loc (c : Thread nD τ) ↦[M3.view.set]{fullShare} X3) ∗ (M4.view.loc (c : Thread nD τ) ↦[M4.view.set]{fullShare} X4)
            ∗ (∃ f, ⌜View.read (Elt F) M8.view f = st.2.1⌝ ∗ (M8.view.loc (c : Thread nD τ) ↦[M8.view.set]{fullShare} f))
            ∗ (∃ f, ⌜View.read (Elt F) M9.view f = st.2.2⌝ ∗ (M9.view.loc (c : Thread nD τ) ↦[M9.view.set]{fullShare} f)))) := by
  have hi : (i 1).val ≤ 7 := Nat.le_of_lt_succ (i 1).isLt
  have hg := grp_le (i 1).val k.val hi
  have e := fun (e : EltTy) r M X => off2_tile1 (F := F) (e := e) i M X k r (k1_off2_inb i k r)
  have a3 := (e _ 3 M3 X3).trans (congrArg (tile (F := F) (View.read (Elt F) M3.view X3)) (show grp (i 1).val k.val + 128 * (3 : Fin 4).val = grp (i 1).val k.val + 384 from rfl))
  have a2 := (e _ 2 M3 X3).trans (congrArg (tile (F := F) (View.read (Elt F) M3.view X3)) (show grp (i 1).val k.val + 128 * (2 : Fin 4).val = grp (i 1).val k.val + 256 from rfl))
  have a1 := (e _ 1 M3 X3).trans (congrArg (tile (F := F) (View.read (Elt F) M3.view X3)) (show grp (i 1).val k.val + 128 * (1 : Fin 4).val = grp (i 1).val k.val + 128 from rfl))
  have a0 := (e _ 0 M3 X3).trans (congrArg (tile (F := F) (View.read (Elt F) M3.view X3)) (show grp (i 1).val k.val + 128 * (0 : Fin 4).val = grp (i 1).val k.val from rfl))
  have b3 := (e _ 3 M4 X4).trans (congrArg (tile (F := F) (View.read (Elt F) M4.view X4)) (show grp (i 1).val k.val + 128 * (3 : Fin 4).val = grp (i 1).val k.val + 384 from rfl))
  have b2 := (e _ 2 M4 X4).trans (congrArg (tile (F := F) (View.read (Elt F) M4.view X4)) (show grp (i 1).val k.val + 128 * (2 : Fin 4).val = grp (i 1).val k.val + 256 from rfl))
  have b1 := (e _ 1 M4 X4).trans (congrArg (tile (F := F) (View.read (Elt F) M4.view X4)) (show grp (i 1).val k.val + 128 * (1 : Fin 4).val = grp (i 1).val k.val + 128 from rfl))
  have b0 := (e _ 0 M4 X4).trans (congrArg (tile (F := F) (View.read (Elt F) M4.view X4)) (show grp (i 1).val k.val + 128 * (0 : Fin 4).val = grp (i 1).val k.val from rfl))
  have c3 := (e _ 3 M8 X8).trans (congrArg (tile (F := F) (View.read (Elt F) M8.view X8)) (show grp (i 1).val k.val + 128 * (3 : Fin 4).val = grp (i 1).val k.val + 384 from rfl))
  have c2 := (e _ 2 M8 X8).trans (congrArg (tile (F := F) (View.read (Elt F) M8.view X8)) (show grp (i 1).val k.val + 128 * (2 : Fin 4).val = grp (i 1).val k.val + 256 from rfl))
  have c1 := (e _ 1 M8 X8).trans (congrArg (tile (F := F) (View.read (Elt F) M8.view X8)) (show grp (i 1).val k.val + 128 * (1 : Fin 4).val = grp (i 1).val k.val + 128 from rfl))
  have c0 := (e _ 0 M8 X8).trans (congrArg (tile (F := F) (View.read (Elt F) M8.view X8)) (show grp (i 1).val k.val + 128 * (0 : Fin 4).val = grp (i 1).val k.val from rfl))
  have d3 := (e _ 3 M9 X9).trans (congrArg (tile (F := F) (View.read (Elt F) M9.view X9)) (show grp (i 1).val k.val + 128 * (3 : Fin 4).val = grp (i 1).val k.val + 384 from rfl))
  have d2 := (e _ 2 M9 X9).trans (congrArg (tile (F := F) (View.read (Elt F) M9.view X9)) (show grp (i 1).val k.val + 128 * (2 : Fin 4).val = grp (i 1).val k.val + 256 from rfl))
  have d1 := (e _ 1 M9 X9).trans (congrArg (tile (F := F) (View.read (Elt F) M9.view X9)) (show grp (i 1).val k.val + 128 * (1 : Fin 4).val = grp (i 1).val k.val + 128 from rfl))
  have d0 := (e _ 0 M9 X9).trans (congrArg (tile (F := F) (View.read (Elt F) M9.view X9)) (show grp (i 1).val k.val + 128 * (0 : Fin 4).val = grp (i 1).val k.val from rfl))
  unfold k1_t1_body
  iintro ⟨H3, H4, H8, H9⟩
  sl_exec!
  sl_step
  isplitr
  · ipureintro
    sl_unfold_words
    rw [hst]
    show _ = bwdAcc pFull pFull pFull pFull W (tile _ _) (tile _ _) (tile _ _) (tile _ _) (tile _ _) (tile _ _) (tile _ _) (tile _ _) acc
    rw [← a3, ← a2, ← a1, ← a0, ← b3, ← b2, ← b1, ← b0]
    simp only [bwdAcc, k1_pay1, k1_pay4, k1_pay5, k1_pay6, k1_pay7, k1_pay8, k1_pay9, k1_pay10, k1_pay11, k1_pay12, k1_pay13, k1_pay14, k1_pay15, k1_pay16, k1_pay17, k1_pay18,
      k1_pay19, k1_pay20, k1_pay21, k1_pay22, k1_pay23, k1_pay24, k1_pay25, k1_pay26, k1_pay27, k1_pay28, k1_pay29, k1_pay30, k1_pay31, k1_pay32, k1_pay33, k1_pay34,
      k1_pay35, k1_pay36, k1_pay37, k1_pay38, k1_pay39, k1_pay40, k1_pay41, k1_pay42, k1_pay43, k1_pay44, k1_pay45, k1_pay46, k1_pay47, k1_pay48, k1_pay49, k1_pay50,
      k1_pay51, k1_pay52, k1_pay53, k1_pay54, k1_pay55, k1_pay56, k1_pay57, k1_pay58, k1_pay59, k1_pay60, k1_pay61, k1_pay62, k1_pay63, k1_pay64, k1_pay65, k1_pay66,
      k1_pay67, k1_pay68, k1_pay69, k1_pay70, k1_pay71, k1_pay72, k1_pay73, k1_pay74, k1_pay75, k1_pay76, k1_pay77, k1_pay78, k1_pay79, k1_pay80, k1_pay81, k1_pay82,
      k1_pay83, k1_pay84, k1_pay85, k1_pay86, k1_pay87, k1_pay88, k1_pay89, k1_pay90, k1_pay91, k1_pay92, k1_pay93, k1_pay94, k1_pay95, k1_pay96, k1_pay97, k1_pay98,
      k1_pay99, k1_pay100, k1_pay101, k1_pay102, k1_pay103, k1_pay104, k1_pay105, k1_pay106, k1_pay107, k1_pay108, k1_pay109, k1_pay110, k1_pay111, k1_pay112, k1_pay113,
      k1_pay114, k1_pay115, k1_pay116, k1_pay117, k1_pay118, k1_pay119, k1_pay120, k1_pay121, k1_pay122, k1_pay123, k1_pay124, k1_pay125, k1_pay126, k1_pay127, Part.bwd,
      Part.dk, Part.dv, Part.keys, Part.e0, Part.e1, Part.g0, Part.g1, Part.w0, Part.w1, Part.prod, Part.dlogits, Part.nextC, Part.nextD, Part.weight, Part.sums,
      Part.logits, Part.pair, Part.lft, Part.rgt, pFull, both, softp]
  isplitl [H3]; · iexact H3
  isplitl [H4]; · iexact H4
  isplitl [H8]
  · iexists _; isplitr; swap; · iexact H8
    ipureintro
    sl_unfold_words
    refine (read_four i M8 X8 k _ _ _ _).trans ?_
    rw [hst, bwdGroup_dk _ _ _ _ _ _ _ _ hg acc _ _, ← a3, ← a2, ← a1, ← a0, ← b3, ← b2, ← b1, ← b0, ← c3, ← c2, ← c1, ← c0]
    simp only [k1_pay1, k1_pay4, k1_pay5, k1_pay6, k1_pay7, k1_pay8, k1_pay9, k1_pay10, k1_pay11, k1_pay12, k1_pay13, k1_pay14, k1_pay15, k1_pay16, k1_pay17, k1_pay18, k1_pay19,
      k1_pay20, k1_pay21, k1_pay22, k1_pay23, k1_pay24, k1_pay25, k1_pay26, k1_pay27, k1_pay28, k1_pay29, k1_pay30, k1_pay31, k1_pay32, k1_pay33, k1_pay34, k1_pay35,
      k1_pay36, k1_pay37, k1_pay38, k1_pay39, k1_pay40, k1_pay41, k1_pay42, k1_pay43, k1_pay44, k1_pay45, k1_pay46, k1_pay47, k1_pay48, k1_pay49, k1_pay50, k1_pay51,
      k1_pay52, k1_pay53, k1_pay54, k1_pay55, k1_pay56, k1_pay57, k1_pay58, k1_pay59, k1_pay60, k1_pay61, k1_pay62, k1_pay63, k1_pay64, k1_pay65, k1_pay66, k1_pay67,
      k1_pay68, k1_pay69, k1_pay70, k1_pay71, k1_pay72, k1_pay73, k1_pay74, k1_pay75, k1_pay76, k1_pay77, k1_pay78, k1_pay79, k1_pay80, k1_pay81, k1_pay82, k1_pay83,
      k1_pay84, k1_pay85, k1_pay86, k1_pay87, k1_pay88, k1_pay89, k1_pay90, k1_pay91, k1_pay92, k1_pay93, k1_pay94, k1_pay95, k1_pay96, k1_pay97, k1_pay98, k1_pay99,
      k1_pay100, k1_pay101, k1_pay102, k1_pay103, k1_pay104, k1_pay105, k1_pay106, k1_pay107, k1_pay108, k1_pay109, k1_pay110, k1_pay111, k1_pay112, k1_pay113, k1_pay114,
      k1_pay115, k1_pay116, k1_pay117, k1_pay118, k1_pay119, k1_pay120, k1_pay121, k1_pay122, k1_pay123, k1_pay124, k1_pay125, k1_pay126, k1_pay127, Part.bwd, Part.dk,
      Part.dv, Part.keys, Part.e0, Part.e1, Part.g0, Part.g1, Part.w0, Part.w1, Part.prod, Part.dlogits, Part.nextC, Part.nextD, Part.weight, Part.sums, Part.logits,
      Part.pair, Part.lft, Part.rgt, pFull, both, softp]
  iexists _; isplitr; swap; · iexact H9
  ipureintro
  sl_unfold_words
  refine (read_four i M9 X9 k _ _ _ _).trans ?_
  rw [hst, bwdGroup_dv _ _ _ _ _ _ _ _ hg acc _ _, ← a3, ← a2, ← a1, ← a0, ← b3, ← b2, ← b1, ← d3, ← d2, ← d1, ← d0]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19,
    k1_pay20, k1_pay21, k1_pay22, k1_pay23, k1_pay24, k1_pay25, k1_pay26, k1_pay27, k1_pay28, k1_pay29, k1_pay30, k1_pay31, k1_pay32, k1_pay33, k1_pay34, k1_pay35,
    k1_pay36, k1_pay37, k1_pay38, k1_pay39, k1_pay40, k1_pay41, k1_pay42, k1_pay43, k1_pay44, k1_pay45, k1_pay46, k1_pay47, k1_pay48, k1_pay49, k1_pay50, k1_pay51,
    k1_pay52, k1_pay53, k1_pay54, k1_pay55, k1_pay56, k1_pay57, k1_pay58, k1_pay59, k1_pay60, k1_pay61, k1_pay62, k1_pay63, k1_pay64, k1_pay65, k1_pay66, k1_pay67,
    k1_pay68, k1_pay69, k1_pay70, k1_pay71, k1_pay72, k1_pay73, k1_pay74, k1_pay75, k1_pay76, k1_pay77, k1_pay78, k1_pay79, k1_pay80, k1_pay81, k1_pay82, k1_pay83,
    k1_pay84, k1_pay85, k1_pay86, k1_pay87, k1_pay88, k1_pay89, k1_pay90, k1_pay91, k1_pay92, k1_pay93, k1_pay94, k1_pay95, k1_pay96, k1_pay97, k1_pay98, k1_pay99,
    k1_pay100, k1_pay101, k1_pay102, k1_pay103, k1_pay104, k1_pay105, k1_pay106, k1_pay107, k1_pay108, k1_pay109, k1_pay110, k1_pay111, k1_pay112, k1_pay113, k1_pay114,
    k1_pay115, k1_pay116, k1_pay117, k1_pay118, k1_pay119, k1_pay120, k1_pay121, k1_pay122, k1_pay123, k1_pay124, k1_pay125, k1_pay126, k1_pay127, Part.bwd, Part.dk,
    Part.dv, Part.keys, Part.e0, Part.e1, Part.g0, Part.g1, Part.w0, Part.w1, Part.prod, Part.dlogits, Part.nextC, Part.nextD, Part.weight, Part.sums, Part.logits,
    Part.pair, Part.lft, Part.rgt, pFull, both, softp]
  rfl

end Cert.Attn

end
-- ==== Proof.RunBwd.lean ====
/-
  One run of the backward kernel's body: from the blocks of queries, keys, values, outputs and output gradients it leaves the block of the queries' gradient, and it adds
  this block's share to the gradients of the keys and of the values.
-/
module

public import proofs.«01_k».proof.Proof.RunHead
public import proofs.«01_k».proof.Proof.RunTrip
public import Idealize.ShloMosaic.Lib.LoopRemainder

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off1_tile1 {e : EltTy} (i : grid1.Coords) (M : Memref sig .tc .vmem S4096x128 e) (X : BufTy.Contents (Elt F) M.view.ty) (r : Fin 4)
    (inb : ∀ a, k1_off1 i (BitVec.ofNat 32 r.val) a + S128x128.size a ≤ S4096x128.size a) :
    View.readAt (Elt F) M.view (Rect.unit (s := S4096x128) (k1_off1 i (BitVec.ofNat 32 r.val)) S128x128.size inb).toLoadRect X
      = tile (F := F) (View.read (Elt F) M.view X) (512 * (i 1).val + 128 * r.val) := by
  have hr : r.val < 4 := r.isLt
  have hi : (i 1).val < 8 := (i 1).isLt
  rw [View.readAt_unit M.view _ inb (k1_off1_eq i r) (by rw [← k1_off1_eq i r]; exact inb)]
  exact window_eq_tile (F := F) (View.read (Elt F) M.view X) _ rfl (by omega) _

/-- A buffer after the diagonal's four stores, the first tile's last. -/
theorem read_four1 (i : grid1.Coords) (M : Memref sig .tc .vmem S4096x128 .f32) (X : BufTy.Contents (Elt F) M.view.ty) (w3 w2 w1 w0 : Vec F S128x128 .f32) :
    View.read (Elt F) M.view (M.view.writes (Elt F) X
      [⟨Rect.unit (s := S4096x128) (k1_off1 i 0#32) S128x128.size (k1_off1_inb i 0), w0⟩,
       ⟨Rect.unit (s := S4096x128) (k1_off1 i 1#32) S128x128.size (k1_off1_inb i 1), w1⟩,
       ⟨Rect.unit (s := S4096x128) (k1_off1 i 2#32) S128x128.size (k1_off1_inb i 2), w2⟩,
       ⟨Rect.unit (s := S4096x128) (k1_off1 i 3#32) S128x128.size (k1_off1_inb i 3), w3⟩])
      = set4 (F := F) (View.read (Elt F) M.view X) (512 * (i 1).val) w3 w2 w1 w0 := by
  refine (View.read_writes_cons_put M.view X (k1_off1_inb i 0) w0 _ (k1_off1_eq i 0)).trans ?_
  refine congrArg (fun y : Vec F S4096x128 .f32 => setTile (F := F) y (512 * (i 1).val) w0) ((View.read_writes_cons_put M.view X (k1_off1_inb i 1) w1 _ (k1_off1_eq i 1)).trans ?_)
  refine congrArg (fun y : Vec F S4096x128 .f32 => setTile (F := F) y (512 * (i 1).val + 128) w1)
    ((View.read_writes_cons_put M.view X (k1_off1_inb i 2) w2 _ (k1_off1_eq i 2)).trans ?_)
  refine congrArg (fun y : Vec F S4096x128 .f32 => setTile (F := F) y (512 * (i 1).val + 256) w2)
    ((View.read_writes_cons_put M.view X (k1_off1_inb i 3) w3 [] (k1_off1_eq i 3)).trans ?_)
  rfl

/-- What the loop holds before trip `j`: the walk's state after `j` groups. -/
def bwdInv (c : Dev nD) (i : grid1.Coords) (M3 : Memref sig .tc .vmem S4096x128 .bf16) (h3 : M3.IsWhole) (M4 : Memref sig .tc .vmem S4096x128 .bf16)
    (h4 : M4.IsWhole) (M8 M9 : Memref sig .tc .vmem S4096x128 .f32) (x2 : Vec F S512x128 .bf16) (x3 x4 : Vec F S4096x128 .bf16) (x5 : Vec F S512x128 .f32)
    (x6 : Vec F S512x128 .bf16) (D8 D9 : Vec F S4096x128 .f32) (j : ℕ) (acc : Bwd F) : sProp 𝕄 :=
  iprop(⌜acc = (bwdIter (i 1).val x2 x6 x5 x3 x4 D8 D9 j).1⌝
    ∗ (M3.view.loc (c : Thread nD τ) ↦[M3.view.set]{fullShare} h3.unread x3) ∗ (M4.view.loc (c : Thread nD τ) ↦[M4.view.set]{fullShare} h4.unread x4)
    ∗ (∃ f, ⌜View.read (Elt F) M8.view f = (bwdIter (i 1).val x2 x6 x5 x3 x4 D8 D9 j).2.1⌝ ∗ (M8.view.loc (c : Thread nD τ) ↦[M8.view.set]{fullShare} f))
    ∗ (∃ f, ⌜View.read (Elt F) M9.view f = (bwdIter (i 1).val x2 x6 x5 x3 x4 D8 D9 j).2.2⌝ ∗ (M9.view.loc (c : Thread nD τ) ↦[M9.view.set]{fullShare} f)))

theorem bwdRun (c : Dev nD) (i : grid1.Coords) (M2 : Memref sig .tc .vmem S512x128 .bf16) (h2 : M2.IsWhole)
    (M3 : Memref sig .tc .vmem S4096x128 .bf16) (h3 : M3.IsWhole) (M4 : Memref sig .tc .vmem S4096x128 .bf16) (h4 : M4.IsWhole)
    (M5 : Memref sig .tc .vmem S512x128 .f32) (h5 : M5.IsWhole) (M6 : Memref sig .tc .vmem S512x128 .bf16) (h6 : M6.IsWhole)
    (M7 : Memref sig .tc .vmem S512x128 .bf16) (h7 : M7.IsWhole) (M8 : Memref sig .tc .vmem S4096x128 .f32) (h8 : M8.IsWhole)
    (M9 : Memref sig .tc .vmem S4096x128 .f32) (h9 : M9.IsWhole) (x2 : Vec F S512x128 .bf16) (x3 x4 : Vec F S4096x128 .bf16) (x5 : Vec F S512x128 .f32)
    (x6 : Vec F S512x128 .bf16) (d8 d9 : Vec F S4096x128 .f32) (E : Set ℕ) (K : PUnit → sProp 𝕄) :
    iprop(owns (c : Thread nD τ) M2 fullShare x2 ∗ owns (c : Thread nD τ) M3 fullShare x3 ∗ owns (c : Thread nD τ) M4 fullShare x4
        ∗ owns (c : Thread nD τ) M5 fullShare x5 ∗ owns (c : Thread nD τ) M6 fullShare x6
        ∗ (∃ d, owns (c : Thread nD τ) M7 fullShare d) ∗ owns (c : Thread nD τ) M8 fullShare d8 ∗ owns (c : Thread nD τ) M9 fullShare d9
        ∗ (iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6
            ∗ owns (c : Thread nD τ) M7 fullShare (k1_pay3 (bwdIter (i 1).val x2 x6 x5 x3 x4 (start (i 1).val (k1_pay256 (F := F)) d8) (start (i 1).val (k1_pay257 (F := F)) d9) (i 1).val).1.2.2.2.2)
            ∗ owns (c : Thread nD τ) M8 fullShare (bwdIter (i 1).val x2 x6 x5 x3 x4 (start (i 1).val (k1_pay256 (F := F)) d8) (start (i 1).val (k1_pay257 (F := F)) d9) (i 1).val).2.1
            ∗ owns (c : Thread nD τ) M9 fullShare (bwdIter (i 1).val x2 x6 x5 x3 x4 (start (i 1).val (k1_pay256 (F := F)) d8) (start (i 1).val (k1_pay257 (F := F)) d9) (i 1).val).2.2) -∗ K ⟨⟩))
      ⊢ wp frame (wpE (defs₀ (F := F)) Variants.none c none) E (cc1_sb_attn_bwd i M2 h2 M3 h3 M4 h4 M5 h5 M6 h6 M7 h7 M8 h8 M9 h9) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := h2.eq_unread hf2; obtain rfl := h3.eq_unread hf3; obtain rfl := h4.eq_unread hf4
  obtain rfl := h5.eq_unread hf5; obtain rfl := h6.eq_unread hf6; obtain rfl := h8.eq_unread hf8; obtain rfl := h9.eq_unread hf9
  generalize hD8 : start (i 1).val (k1_pay256 (F := F)) d8 = D8
  generalize hD9 : start (i 1).val (k1_pay257 (F := F)) d9 = D9
  unfold cc1_sb_attn_bwd
  rw [Idealize.SL.Sem.wp_bind]
  ihave Hw := (bwdHeadRun c i M2 h2 M3 h3 M4 h4 M5 h5 M6 h6 M7 h7 M8 h8 M9 h9 x2 x5 x6 d8 d9 E) $$ [H2 H5 H6 H8 H9]
  · isplitl [H2]; · iexact H2
    isplitl [H5]; · iexact H5
    isplitl [H6]; · iexact H6
    isplitl [H8]; · iexact H8
    iexact H9
  iapply (Idealize.SL.Sem.wp_wand _ _ _) $$ Hw
  iintro %r ⟨%hr, H2, H5, H6, ⟨%X8, %hX8, H8⟩, ⟨%X9, %hX9, H9⟩⟩
  subst hr
  obtain rfl : View.read (Elt F) M8.view X8 = D8 := hX8.trans hD8
  obtain rfl : View.read (Elt F) M9.view X9 = D9 := hX9.trans hD9
  have e := fun (e : EltTy) r M X => off1_tile1 (F := F) (e := e) i M X r (k1_off1_inb i r)
  have a3 := (e _ 3 M3 (h3.unread x3)).trans (congrArg (tile (F := F) (View.read (Elt F) M3.view (h3.unread x3))) (show 512 * (i 1).val + 128 * (3 : Fin 4).val = 512 * (i 1).val + 384 from rfl))
  have a2 := (e _ 2 M3 (h3.unread x3)).trans (congrArg (tile (F := F) (View.read (Elt F) M3.view (h3.unread x3))) (show 512 * (i 1).val + 128 * (2 : Fin 4).val = 512 * (i 1).val + 256 from rfl))
  have a1 := (e _ 1 M3 (h3.unread x3)).trans (congrArg (tile (F := F) (View.read (Elt F) M3.view (h3.unread x3))) (show 512 * (i 1).val + 128 * (1 : Fin 4).val = 512 * (i 1).val + 128 from rfl))
  have a0 := (e _ 0 M3 (h3.unread x3)).trans (congrArg (tile (F := F) (View.read (Elt F) M3.view (h3.unread x3))) (show 512 * (i 1).val + 128 * (0 : Fin 4).val = 512 * (i 1).val from rfl))
  have b3 := (e _ 3 M4 (h4.unread x4)).trans (congrArg (tile (F := F) (View.read (Elt F) M4.view (h4.unread x4))) (show 512 * (i 1).val + 128 * (3 : Fin 4).val = 512 * (i 1).val + 384 from rfl))
  have b2 := (e _ 2 M4 (h4.unread x4)).trans (congrArg (tile (F := F) (View.read (Elt F) M4.view (h4.unread x4))) (show 512 * (i 1).val + 128 * (2 : Fin 4).val = 512 * (i 1).val + 256 from rfl))
  have b1 := (e _ 1 M4 (h4.unread x4)).trans (congrArg (tile (F := F) (View.read (Elt F) M4.view (h4.unread x4))) (show 512 * (i 1).val + 128 * (1 : Fin 4).val = 512 * (i 1).val + 128 from rfl))
  have b0 := (e _ 0 M4 (h4.unread x4)).trans (congrArg (tile (F := F) (View.read (Elt F) M4.view (h4.unread x4))) (show 512 * (i 1).val + 128 * (0 : Fin 4).val = 512 * (i 1).val from rfl))
  have c3 := (e _ 3 M8 X8).trans (congrArg (tile (F := F) (View.read (Elt F) M8.view X8)) (show 512 * (i 1).val + 128 * (3 : Fin 4).val = 512 * (i 1).val + 384 from rfl))
  have c2 := (e _ 2 M8 X8).trans (congrArg (tile (F := F) (View.read (Elt F) M8.view X8)) (show 512 * (i 1).val + 128 * (2 : Fin 4).val = 512 * (i 1).val + 256 from rfl))
  have c1 := (e _ 1 M8 X8).trans (congrArg (tile (F := F) (View.read (Elt F) M8.view X8)) (show 512 * (i 1).val + 128 * (1 : Fin 4).val = 512 * (i 1).val + 128 from rfl))
  have c0 := (e _ 0 M8 X8).trans (congrArg (tile (F := F) (View.read (Elt F) M8.view X8)) (show 512 * (i 1).val + 128 * (0 : Fin 4).val = 512 * (i 1).val from rfl))
  have d3 := (e _ 3 M9 X9).trans (congrArg (tile (F := F) (View.read (Elt F) M9.view X9)) (show 512 * (i 1).val + 128 * (3 : Fin 4).val = 512 * (i 1).val + 384 from rfl))
  have d2 := (e _ 2 M9 X9).trans (congrArg (tile (F := F) (View.read (Elt F) M9.view X9)) (show 512 * (i 1).val + 128 * (2 : Fin 4).val = 512 * (i 1).val + 256 from rfl))
  have d1 := (e _ 1 M9 X9).trans (congrArg (tile (F := F) (View.read (Elt F) M9.view X9)) (show 512 * (i 1).val + 128 * (1 : Fin 4).val = 512 * (i 1).val + 128 from rfl))
  have d0 := (e _ 0 M9 X9).trans (congrArg (tile (F := F) (View.read (Elt F) M9.view X9)) (show 512 * (i 1).val + 128 * (0 : Fin 4).val = 512 * (i 1).val from rfl))
  rw [h3.read_unread] at a3 a2 a1 a0
  rw [h4.read_unread] at b3 b2 b1 b0
  have hg : 512 * (i 1).val + 512 ≤ 4096 := by
    have hi : (i 1).val < 8 := (i 1).isLt
    omega
  have ht : (k1_t1_loop i).trips = (i 1).val := trips1 i
  sl_exec!
  sl_for (bwdInv c i M3 h3 M4 h4 M8 M9 x2 x3 x4 x5 x6 (View.read (Elt F) M8.view X8) (View.read (Elt F) M9.view X9)) $$ [H3 H4 H8 H9]
  case region =>
    intro k acc
    unfold bwdInv
    iintro ⟨%hacc, H3, H4, ⟨%f8, %hf8, H8⟩, ⟨%f9, %hf9, H9⟩⟩
    iapply (bwdTripRun c i M2 h2 M3 h3 M4 h4 M5 h5 M6 h6 M7 h7 M8 h8 M9 h9 _ _ (words x2 x6 x5) _ (h3.unread x3) (h4.unread x4) f8 f9 k acc
      (bwdIter (i 1).val x2 x6 x5 x3 x4 (View.read (Elt F) M8.view X8) (View.read (Elt F) M9.view X9) (k.val + 1)) (by
        rw [h3.read_unread, h4.read_unread, hf8, hf9, hacc]; rfl) E)
    isplitl [H3]; · iexact H3
    isplitl [H4]; · iexact H4
    isplitl [H8]; · iexact H8
    iexact H9
  · unfold bwdInv
    isplitr
    · ipureintro
      sl_unfold_words
      show _ = bwdAcc pDiag3 pDiag2 pDiag1 pDiag0 (words x2 x6 x5) (tile _ _) (tile _ _) (tile _ _) (tile _ _) (tile _ _) (tile _ _) (tile _ _) (tile _ _) bwd0
      rw [← a3, ← a2, ← a1, ← a0, ← b3, ← b2, ← b1, ← b0]
      simp only [k1_pay1, k1_pay2, k1_pay268, k1_pay271, k1_pay276, k1_pay277, k1_pay278, k1_pay279, k1_pay280, k1_pay281, k1_pay282, k1_pay283, k1_pay284, k1_pay285, k1_pay286,
        k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316,
        k1_pay317, k1_pay318, k1_pay319, k1_pay320, k1_pay321, k1_pay322, k1_pay323, k1_pay324, k1_pay325, k1_pay326, k1_pay327, k1_pay328, k1_pay329, k1_pay330, k1_pay331,
        k1_pay332, k1_pay333, k1_pay334, k1_pay335, k1_pay336, k1_pay337, k1_pay338, k1_pay339, k1_pay340, k1_pay341, k1_pay342, k1_pay343, k1_pay344, k1_pay345, k1_pay346,
        k1_pay347, k1_pay348, k1_pay349, k1_pay350, k1_pay351, k1_pay352, k1_pay353, k1_pay354, k1_pay355, k1_pay356, k1_pay357, k1_pay358, k1_pay359, k1_pay360, k1_pay361,
        k1_pay362, k1_pay363, k1_pay364, k1_pay365, k1_pay366, k1_pay367, k1_pay368, k1_pay369, k1_pay370, k1_pay371, k1_pay372, k1_pay373, k1_pay374, k1_pay375, k1_pay376,
        k1_pay377, k1_pay378, k1_pay379, k1_pay380, k1_pay381, k1_pay382, k1_pay383, k1_pay384, k1_pay385, k1_pay386, k1_pay387, k1_pay388, k1_pay389, k1_pay390, k1_pay391,
        k1_pay392, k1_pay393, k1_pay394, k1_pay395, k1_pay396, k1_pay397, k1_pay398, k1_pay399, k1_pay400, k1_pay401, k1_pay402, k1_pay403, k1_pay404, k1_pay405, k1_pay406,
        k1_pay407, k1_pay408, k1_pay409, k1_pay410, k1_pay411, k1_pay412, k1_pay413, k1_pay414, k1_pay415, bwdAcc, Part.bwd, Part.dk, Part.dv, Part.keys, Part.e0, Part.e1,
        Part.g0, Part.g1, Part.w0, Part.w1, Part.prod, Part.dlogits, Part.nextC, Part.nextD, Part.weight, Part.sums, Part.logits, Part.pair, Part.lft, Part.rgt, pDiag0,
        pDiag1, pDiag2, pDiag3, both, softp, words, bwd0]
      rfl
    isplitl [H3]; · iexact H3
    isplitl [H4]; · iexact H4
    isplitl [H8]
    · iexists _; isplitr; swap; · iexact H8
      ipureintro
      sl_unfold_words
      refine (read_four1 i M8 X8 _ _ _ _).trans ?_
      refine Eq.trans ?_ (bwdGroup_dk pDiag3 pDiag2 pDiag1 pDiag0 (words x2 x6 x5) x3 x4 _ hg bwd0 (View.read (Elt F) M8.view X8) (View.read (Elt F) M9.view X9)).symm
      rw [← a3, ← a2, ← a1, ← a0, ← b3, ← b2, ← b1, ← b0, ← c3, ← c2, ← c1, ← c0]
      simp only [k1_pay1, k1_pay2, k1_pay268, k1_pay271, k1_pay276, k1_pay277, k1_pay278, k1_pay279, k1_pay280, k1_pay281, k1_pay282, k1_pay283, k1_pay284, k1_pay285, k1_pay286,
        k1_pay287, k1_pay288, k1_pay289, k1_pay290, k1_pay291, k1_pay292, k1_pay293, k1_pay294, k1_pay295, k1_pay296, k1_pay297, k1_pay298, k1_pay299, k1_pay300, k1_pay301,
        k1_pay302, k1_pay303, k1_pay304, k1_pay305, k1_pay306, k1_pay307, k1_pay308, k1_pay309, k1_pay310, k1_pay311, k1_pay312, k1_pay313, k1_pay314, k1_pay315, k1_pay316,
        k1_pay317, k1_pay318, k1_pay319, k1_pay320, k1_pay321, k1_pay322, k1_pay323, k1_pay324, k1_pay325, k1_pay326, k1_pay327, k1_pay328, k1_pay329, k1_pay330, k1_pay331,
        k1_pay332, k1_pay333, k1_pay334, k1_pay335, k1_pay336, k1_pay337, k1_pay338, k1_pay339, k1_pay340, k1_pay341, k1_pay342, k1_pay343, k1_pay344, k1_pay345, k1_pay346,
        k1_pay347, k1_pay348, k1_pay349, k1_pay350, k1_pay351, k1_pay352, k1_pay353, k1_pay354, k1_pay355, k1_pay356, k1_pay357, k1_pay358, k1_pay359, k1_pay360, k1_pay361,
        k1_pay362, k1_pay363, k1_pay364, k1_pay365, k1_pay366, k1_pay367, k1_pay368, k1_pay369, k1_pay370, k1_pay371, k1_pay372, k1_pay373, k1_pay374, k1_pay375, k1_pay376,
        k1_pay377, k1_pay378, k1_pay379, k1_pay380, k1_pay381, k1_pay382, k1_pay383, k1_pay384, k1_pay385, k1_pay386, k1_pay387, k1_pay388, k1_pay389, k1_pay390, k1_pay391,
        k1_pay392, k1_pay393, k1_pay394, k1_pay395, k1_pay396, k1_pay397, k1_pay398, k1_pay399, k1_pay400, k1_pay401, k1_pay402, k1_pay403, k1_pay404, k1_pay405, k1_pay406,
        k1_pay407, k1_pay408, k1_pay409, k1_pay410, k1_pay411, k1_pay412, k1_pay413, k1_pay414, k1_pay415, bwdAcc, Part.bwd, Part.dk, Part.dv, Part.keys, Part.e0, Part.e1,
        Part.g0, Part.g1, Part.w0, Part.w1, Part.prod, Part.dlogits, Part.nextC, Part.nextD, Part.weight, Part.sums, Part.logits, Part.pair, Part.lft, Part.rgt, pDiag0,
        pDiag1, pDiag2, pDiag3, both, softp, words, bwd0]
      rfl
    iexists _; isplitr; swap; · iexact H9
    ipureintro
    sl_unfold_words
    refine (read_four1 i M9 X9 _ _ _ _).trans ?_
    refine Eq.trans ?_ (bwdGroup_dv pDiag3 pDiag2 pDiag1 pDiag0 (words x2 x6 x5) x3 x4 _ hg bwd0 (View.read (Elt F) M8.view X8) (View.read (Elt F) M9.view X9)).symm
    rw [← a3, ← a2, ← a1, ← a0, ← b3, ← b2, ← b1, ← d3, ← d2, ← d1, ← d0]
    simp only [k1_pay1, k1_pay2, k1_pay268, k1_pay271, k1_pay276, k1_pay277, k1_pay278, k1_pay279, k1_pay280, k1_pay281, k1_pay282, k1_pay283, k1_pay284, k1_pay285, k1_pay286,
      k1_pay287, k1_pay288, k1_pay289, k1_pay290, k1_pay291, k1_pay292, k1_pay293, k1_pay294, k1_pay295, k1_pay296, k1_pay297, k1_pay298, k1_pay299, k1_pay300, k1_pay301,
      k1_pay302, k1_pay303, k1_pay304, k1_pay305, k1_pay306, k1_pay307, k1_pay308, k1_pay309, k1_pay310, k1_pay311, k1_pay312, k1_pay313, k1_pay314, k1_pay315, k1_pay316,
      k1_pay317, k1_pay318, k1_pay319, k1_pay320, k1_pay321, k1_pay322, k1_pay323, k1_pay324, k1_pay325, k1_pay326, k1_pay327, k1_pay328, k1_pay329, k1_pay330, k1_pay331,
      k1_pay332, k1_pay333, k1_pay334, k1_pay335, k1_pay336, k1_pay337, k1_pay338, k1_pay339, k1_pay340, k1_pay341, k1_pay342, k1_pay343, k1_pay344, k1_pay345, k1_pay346,
      k1_pay347, k1_pay348, k1_pay349, k1_pay350, k1_pay351, k1_pay352, k1_pay353, k1_pay354, k1_pay355, k1_pay356, k1_pay357, k1_pay358, k1_pay359, k1_pay360, k1_pay361,
      k1_pay362, k1_pay363, k1_pay364, k1_pay365, k1_pay366, k1_pay367, k1_pay368, k1_pay369, k1_pay370, k1_pay371, k1_pay372, k1_pay373, k1_pay374, k1_pay375, k1_pay376,
      k1_pay377, k1_pay378, k1_pay379, k1_pay380, k1_pay381, k1_pay382, k1_pay383, k1_pay384, k1_pay385, k1_pay386, k1_pay387, k1_pay388, k1_pay389, k1_pay390, k1_pay391,
      k1_pay392, k1_pay393, k1_pay394, k1_pay395, k1_pay396, k1_pay397, k1_pay398, k1_pay399, k1_pay400, k1_pay401, k1_pay402, k1_pay403, k1_pay404, k1_pay405, k1_pay406,
      k1_pay407, k1_pay408, k1_pay409, k1_pay410, k1_pay411, k1_pay412, k1_pay413, k1_pay414, k1_pay415, bwdAcc, Part.bwd, Part.dk, Part.dv, Part.keys, Part.e0, Part.e1,
      Part.g0, Part.g1, Part.w0, Part.w1, Part.prod, Part.dlogits, Part.nextC, Part.nextD, Part.weight, Part.sums, Part.logits, Part.pair, Part.lft, Part.rgt, pDiag0,
      pDiag1, pDiag2, pDiag3, both, softp, words, bwd0]
    rfl
  iintro %acc HI
  unfold bwdInv
  icases HI with ⟨%hacc, H3, H4, ⟨%f8, %hf8, H8⟩, ⟨%f9, %hf9, H9⟩⟩
  sl_exec!
  sl_step
  have hacc' := hacc.trans (congrArg (fun n => (bwdIter (i 1).val x2 x6 x5 x3 x4 (View.read (Elt F) M8.view X8) (View.read (Elt F) M9.view X9) n).1) ht)
  have hf8' := hf8.trans (congrArg (fun n => (bwdIter (i 1).val x2 x6 x5 x3 x4 (View.read (Elt F) M8.view X8) (View.read (Elt F) M9.view X9) n).2.1) ht)
  have hf9' := hf9.trans (congrArg (fun n => (bwdIter (i 1).val x2 x6 x5 x3 x4 (View.read (Elt F) M8.view X8) (View.read (Elt F) M9.view X9) n).2.2) ht)
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [View.read_writes_full]
    exact congrArg (fun s : Bwd F => k1_pay3 s.2.2.2.2) hacc'
  isplitl [H8]
  · iexists _; isplitr; · ipureintro; exact hf8'
    iexact H8
  iexists _; isplitr; · ipureintro; exact hf9'
  iexact H9

end Cert.Attn

end
-- ==== Proof.Data.lean ====
/-
  The proof data of the two kernel launches: what each window's staging buffer holds after every point of the grid, from the arrays the launch finds.
-/
module

public import proofs.«01_k».proof.Proof.RunFwd
public import proofs.«01_k».proof.Proof.RunBwd
public import proofs.«01_k».proof.Proof.Gen.KernelIdeal.Launch
public import proofs.«01_k».proof.Proof.Gen.KernelIdeal.Points

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What every buffer of every core holds. -/
abbrev Bufs (F : FTy → Type) [FloatOps F] : Type := (c : Dev nD) → (b : Ref sig .tc) → Buf (Elt F) ((c : Thread nD τ).loc b)

variable (V : Bufs F)

/-- Window `w`'s block of the forward launch at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the backward launch at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The number of the block of queries at a point of the forward grid, and of the backward grid. -/
def qb0 (t : Fin cfg0.N) : ℕ := ((grid0.coords t) 1).val
def qb1 (t : Fin cfg1.N) : ℕ := ((grid1.coords t) 1).val

theorem qb0_eq (t : Fin cfg0.N) : qb0 t = t.val % 8 := by
  have : ∀ t : Fin grid0.N, ((grid0.coords t) 1).val = t.val % 8 := by decide +kernel
  exact this t

theorem qb1_eq (t : Fin cfg1.N) : qb1 t = t.val % 8 := by
  have : ∀ t : Fin grid1.N, ((grid1.coords t) 1).val = t.val % 8 := by decide +kernel
  exact this t

/-- The output block of the forward launch at point `t`. -/
def out0 (c : Dev nD) (t : Fin cfg0.N) : Vec F S512x128 .f32 := fwdOut (qb0 t) (blk0 V c 0 t) (blk0 V c 1 t) (blk0 V c 2 t)

/-- The backward walk at point `t`, from what the two gradient buffers held. -/
def walk1 (c : Dev nD) (t : Fin cfg1.N) (dk dv : Vec F S4096x128 .f32) : BwdSt F :=
  bwdIter (qb1 t) (blk1 V c 0 t) (blk1 V c 4 t) (blk1 V c 3 t) (blk1 V c 1 t) (blk1 V c 2 t)
    (start (qb1 t) (k1_pay256 (F := F)) dk) (start (qb1 t) (k1_pay257 (F := F)) dv) (qb1 t)

/-- The backward walk's state after the body at point `n`. -/
def acc1 (c : Dev nD) : (n : ℕ) → n < cfg1.N → BwdSt F
  | 0, h => walk1 V c ⟨0, h⟩ (k1_pay256 (F := F)) (k1_pay257 (F := F))
  | n + 1, h => walk1 V c ⟨n + 1, h⟩ (acc1 c n (Nat.lt_of_succ_lt h)).2.1 (acc1 c n (Nat.lt_of_succ_lt h)).2.2

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay15 (out0 V c t)
    | ⟨4, _⟩ => out0 V c t
  Φ _ := Pipeline.ΦA spec0 c
  q w := Pipeline.shareOf spec0 w
  owed _ := 0

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay3 (acc1 V c t.val t.isLt).1.2.2.2.2
    | ⟨6, _⟩ => (acc1 V c t.val t.isLt).2.1
    | ⟨7, _⟩ => (acc1 V c t.val t.isLt).2.2
  Φ _ := Pipeline.ΦA spec1 c
  q w := Pipeline.shareOf spec1 w
  owed _ := 0

theorem A_eq0 (c : Dev nD) (w : Fin cfg0.W) : (dat0 V c).A w = V c (Pipeline.arrRef spec0 w) := rfl
theorem A_eq1 (c : Dev nD) (w : Fin cfg1.W) : (dat1 V c).A w = V c (Pipeline.arrRef spec1 w) := rfl

theorem before0_0 (c : Dev nD) (t : Fin cfg0.N) (d) : (dat0 V c).before 0 t d = blk0 V c 0 t :=
  ((dat0 V c).before_in_eq_fetched 0 rfl (fun _ => rfl) (fun _ _ _ => rfl) (fun t => by dsimp only [dat0]; unfold Dat.blockOf blk0; rfl) t d).trans
    (by unfold Dat.fetched Dat.blockOf blk0; rfl)
theorem before0_1 (c : Dev nD) (t : Fin cfg0.N) (d) : (dat0 V c).before 1 t d = blk0 V c 1 t :=
  ((dat0 V c).before_in_eq_fetched 1 rfl (fun _ => rfl) (fun _ _ _ => rfl) (fun t => by dsimp only [dat0]; unfold Dat.blockOf blk0; rfl) t d).trans
    (by unfold Dat.fetched Dat.blockOf blk0; rfl)
theorem before0_2 (c : Dev nD) (t : Fin cfg0.N) (d) : (dat0 V c).before 2 t d = blk0 V c 2 t :=
  ((dat0 V c).before_in_eq_fetched 2 rfl (fun _ => rfl) (fun _ _ _ => rfl) (fun t => by dsimp only [dat0]; unfold Dat.blockOf blk0; rfl) t d).trans
    (by unfold Dat.fetched Dat.blockOf blk0; rfl)

theorem before1_0 (c : Dev nD) (t : Fin cfg1.N) (d) : (dat1 V c).before 0 t d = blk1 V c 0 t :=
  ((dat1 V c).before_in_eq_fetched 0 rfl (fun _ => rfl) (fun _ _ _ => rfl) (fun t => by dsimp only [dat1]; unfold Dat.blockOf blk1; rfl) t d).trans
    (by unfold Dat.fetched Dat.blockOf blk1; rfl)
theorem before1_1 (c : Dev nD) (t : Fin cfg1.N) (d) : (dat1 V c).before 1 t d = blk1 V c 1 t :=
  ((dat1 V c).before_in_eq_fetched 1 rfl (fun _ => rfl) (fun _ _ _ => rfl) (fun t => by dsimp only [dat1]; unfold Dat.blockOf blk1; rfl) t d).trans
    (by unfold Dat.fetched Dat.blockOf blk1; rfl)
theorem before1_2 (c : Dev nD) (t : Fin cfg1.N) (d) : (dat1 V c).before 2 t d = blk1 V c 2 t :=
  ((dat1 V c).before_in_eq_fetched 2 rfl (fun _ => rfl) (fun _ _ _ => rfl) (fun t => by dsimp only [dat1]; unfold Dat.blockOf blk1; rfl) t d).trans
    (by unfold Dat.fetched Dat.blockOf blk1; rfl)
theorem before1_3 (c : Dev nD) (t : Fin cfg1.N) (d) : (dat1 V c).before 3 t d = blk1 V c 3 t :=
  ((dat1 V c).before_in_eq_fetched 3 rfl (fun _ => rfl) (fun _ _ _ => rfl) (fun t => by dsimp only [dat1]; unfold Dat.blockOf blk1; rfl) t d).trans
    (by unfold Dat.fetched Dat.blockOf blk1; rfl)
theorem before1_4 (c : Dev nD) (t : Fin cfg1.N) (d) : (dat1 V c).before 4 t d = blk1 V c 4 t :=
  ((dat1 V c).before_in_eq_fetched 4 rfl (fun _ => rfl) (fun _ _ _ => rfl) (fun t => by dsimp only [dat1]; unfold Dat.blockOf blk1; rfl) t d).trans
    (by unfold Dat.fetched Dat.blockOf blk1; rfl)

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay15 (out0 V c t) := by dsimp only [dat0]
theorem after0_4 (c : Dev nD) (t : Fin cfg0.N) : (dat0 V c).after 4 t = out0 V c t := by dsimp only [dat0]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = k1_pay3 (acc1 V c t.val t.isLt).1.2.2.2.2 := by dsimp only [dat1]
theorem after1_6 (c : Dev nD) (t : Fin cfg1.N) : (dat1 V c).after 6 t = (acc1 V c t.val t.isLt).2.1 := by dsimp only [dat1]
theorem after1_7 (c : Dev nD) (t : Fin cfg1.N) : (dat1 V c).after 7 t = (acc1 V c t.val t.isLt).2.2 := by dsimp only [dat1]

theorem walk1_reset (c : Dev nD) (t : Fin cfg1.N) (h : t.val % 8 = 0) (d8 d9 e8 e9 : Vec F S4096x128 .f32) : walk1 V c t d8 d9 = walk1 V c t e8 e9 := by
  unfold walk1 start
  have h0 : qb1 t = 0 := (qb1_eq t).trans h
  simp only [if_pos h0]

/-- The state after a point is the walk from what the gradient buffers hold before it: anything at a first block of queries, else what the point before left. -/
theorem acc1_eq (c : Dev nD) (t : Fin cfg1.N) (d6 d7) : acc1 V c t.val t.isLt = walk1 V c t ((dat1 V c).before 6 t d6) ((dat1 V c).before 7 t d7) := by
  obtain ⟨n, hn⟩ := t
  match n, hn with
  | 0, hn => exact walk1_reset V c ⟨0, hn⟩ rfl _ _ _ _
  | n + 1, hn =>
    by_cases h : (n + 1) % 8 = 0
    · exact walk1_reset V c ⟨n + 1, hn⟩ h _ _ _ _
    · have hf6 : (cfg1.win 6).flush ⟨n, Nat.lt_of_succ_lt hn⟩ = false := by
        rw [Bool.eq_false_iff]; intro hc; have := (flush1_6 _).1 hc; dsimp only at this; omega
      have hf7 : (cfg1.win 7).flush ⟨n, Nat.lt_of_succ_lt hn⟩ = false := by
        rw [Bool.eq_false_iff]; intro hc; have := (flush1_7 _).1 hc; dsimp only at this; omega
      have h6 : (dat1 V c).before 6 ⟨n + 1, hn⟩ d6 = (acc1 V c n (Nat.lt_of_succ_lt hn)).2.1 :=
        ((dat1 V c).before_out_kept 6 rfl ⟨n + 1, hn⟩ (Nat.succ_ne_zero n) hf6 (fun _ => rfl) (fun _ _ => rfl) d6).trans (after1_6 V c ⟨n, Nat.lt_of_succ_lt hn⟩)
      have h7 : (dat1 V c).before 7 ⟨n + 1, hn⟩ d7 = (acc1 V c n (Nat.lt_of_succ_lt hn)).2.2 :=
        ((dat1 V c).before_out_kept 7 rfl ⟨n + 1, hn⟩ (Nat.succ_ne_zero n) hf7 (fun _ => rfl) (fun _ _ => rfl) d7).trans (after1_7 V c ⟨n, Nat.lt_of_succ_lt hn⟩)
      rw [h6, h7]
      rfl

theorem body0 (c : Dev nD) : BodyObligation (dat0 V c) (defs₀ (F := F)) Variants.none () Set.univ := fun t => by
  rw [bigSep_W0, bigSep_W0]
  sl_whnfR [defs₀, Defs.onTc]
  simp only [before0_0, before0_1, before0_2]
  rw [show (dat0 V c).Φ t.succ = (dat0 V c).Φ t.castSucc from rfl,
    show (dat0 V c).owesAt () t.succ = (dat0 V c).owesAt () t.castSucc from rfl, after0_0, after0_1, after0_2, after0_3, after0_4]
  iintro ⟨HΦ, Ho, ⟨%d0, H0⟩, ⟨%d1, H1⟩, ⟨%d2, H2⟩, ⟨%d3, H3⟩, ⟨%d4, H4⟩⟩
  iapply (fwdRun c _ _ _ _ _ _ _ _ _ _ _ (blk0 V c 0 t) (blk0 V c 1 t) (blk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body1 (c : Dev nD) : BodyObligation (dat1 V c) (defs₀ (F := F)) Variants.none () Set.univ := fun t => by
  rw [bigSep_W1, bigSep_W1]
  sl_whnfR [defs₀, Defs.onTc]
  simp only [before1_0, before1_1, before1_2, before1_3, before1_4]
  rw [show (dat1 V c).Φ t.succ = (dat1 V c).Φ t.castSucc from rfl,
    show (dat1 V c).owesAt () t.succ = (dat1 V c).owesAt () t.castSucc from rfl, after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [acc1_eq V c t d6 d7]
  iapply (bwdRun c _ _ _ _ _ _ _ _ _ _ _ _ _ _ _ _ _ (blk1 V c 0 t) (blk1 V c 1 t) (blk1 V c 2 t) (blk1 V c 3 t) (blk1 V c 4 t)
    ((dat1 V c).before 6 t d6) ((dat1 V c).before 7 t d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Attn

end
-- ==== Proof.RunMain.lean ====
/-
  The whole program's run: the forward launch, then the backward launch, and what every array holds at the end.
-/
module

public import proofs.«01_k».proof.Proof.Data
public import proofs.«01_k».proof.Proof.Gen.KernelIdeal.Regions
public import Idealize.ShloMosaic.Lib.Pipeline.FrameSuffix
public import Idealize.ShloMosaic.Lib.Pipeline.RegionArrays
public import Idealize.ShloMosaic.Lib.Pipeline.RegionsLoop

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays at the launch, after the forward call, and after the backward call. -/
def mem0 (c : Dev nD) : Valuation τ sig (Elt F) := fun b => m (c, b)
def mem1 (c : Dev nD) : Valuation τ sig (Elt F) :=
  Pipeline.withArrays spec0 c (mem0 m c) fun w => (dat0 (fun c b => mem0 m c b) c).arrAt w cfg0.N
def mem2 (c : Dev nD) : Valuation τ sig (Elt F) :=
  Pipeline.withArrays spec1 c (mem1 m c) fun w => (dat1 (fun c b => mem1 m c b) c).arrAt w cfg1.N

/-- The same read at the references. -/
def b0 : Bufs F := fun c b => mem0 m c b
def b1 : Bufs F := fun c b => mem1 m c b
def b2 : Bufs F := fun c b => mem2 m c b

theorem w1_arr (c : Dev nD) (w : Fin cfg0.W) : mem1 m c (Proc.devRef .tc (Pipeline.arrRef spec0 w)) = (dat0 (b0 m) c).arrAt w cfg0.N := by
  unfold mem1
  exact (dat0 (b0 m) c).withArrays_arrAt launch₀0.sharedIn _ (A_eq0 (b0 m) c) w

theorem w1_of_ne (c : Dev nD) (b : Ref sig .tc) (hb : ∀ w, Pipeline.arrRef spec0 w ≠ b) : mem1 m c (Proc.devRef .tc b) = mem0 m c (Proc.devRef .tc b) := by
  unfold mem1
  exact Pipeline.withArrays_of_ne spec0 c _ _ b hb

theorem join0 (c : Dev nD) (w : Fin cfg0.W) : (dat0 (b0 m) c).arrAt w cfg0.N = b1 m c (Pipeline.arrRef spec0 w) := (w1_arr m c w).symm

theorem rest0 (c : Dev nD) : ∀ b, b ∉ Finset.univ.image (Pipeline.arrRef spec0) → b1 m c b = b0 m c b :=
  fun b hb => w1_of_ne m c b fun w e => hb (Finset.mem_image.mpr ⟨w, Finset.mem_univ _, e⟩)

theorem w2_arr (c : Dev nD) (w : Fin cfg1.W) : mem2 m c (Proc.devRef .tc (Pipeline.arrRef spec1 w)) = (dat1 (b1 m) c).arrAt w cfg1.N := by
  unfold mem2
  exact (dat1 (b1 m) c).withArrays_arrAt launch₀1.sharedIn _ (A_eq1 (b1 m) c) w

theorem w2_of_ne (c : Dev nD) (b : Ref sig .tc) (hb : ∀ w, Pipeline.arrRef spec1 w ≠ b) : mem2 m c (Proc.devRef .tc b) = mem1 m c (Proc.devRef .tc b) := by
  unfold mem2
  exact Pipeline.withArrays_of_ne spec1 c _ _ b hb

theorem join1 (c : Dev nD) (w : Fin cfg1.W) : (dat1 (b1 m) c).arrAt w cfg1.N = b2 m c (Pipeline.arrRef spec1 w) := (w2_arr m c w).symm

theorem rest1 (c : Dev nD) : ∀ b, b ∉ Finset.univ.image (Pipeline.arrRef spec1) → b2 m c b = b1 m c b :=
  fun b hb => w2_of_ne m c b fun w e => hb (Finset.mem_image.mpr ⟨w, Finset.mem_univ _, e⟩)

/-- The proof data of both launches. -/
def pdats : (p : Fin 2) → (c : Dev nD) → Dat τ (Elt F) Unit ℕ (UR sig nD τ) ℕ (cfgs p) c
  | 0 => dat0 (b0 m)
  | 1 => dat1 (b1 m)
  | ⟨_ + 2, h⟩ => absurd h (Nat.not_lt.2 (Nat.le_add_left _ _))

/-- No core owes another anything. -/
abbrev lset : GSem nD τ sig → Finset Unit := fun _ => ∅
abbrev lval : GSem nD τ sig → Unit → ℕ := fun _ _ => 0

/-- What rides beside the arrays: the generator register and an empty debt. -/
abbrev ride (c : Dev nD) : sProp 𝕄 := iprop((∃ r, prngReg c r) ∗ ∃ W, owes (c : Thread nD τ) (0 : CellTallies nD τ sig Unit) W)

/-- What is held at the end, the debt apart. -/
abbrev fin (c : Dev nD) : sProp 𝕄 := iprop(StableHlo.held (c : Thread nD τ) (Pipeline.ucRefs τ sig) (mem2 m c) ∗ ∃ r, prngReg c r)

set_option backward.isDefEq.respectTransparency.types false in
def region0 : Pipeline.RegionSeg (pcfgs (F := F)) adm (pdats m) () defs₀ Variants.none lset lval 0 where
  win := launch₀0.win
  block_pos := launch₀0.block_pos
  stage_whole := launch₀0.stage_whole
  K := PEmpty
  osem k := k.elim
  ho := Pipeline.OwnSemFacts.none _
  hbody c := (body0 (b0 m) c).loose
  hwaits := Pipeline.hwaits_of_owed_zero _ _ _ _ lset lval 0 fun _ _ => rfl
  pre c := iprop(StableHlo.held (c : Thread nD τ) (Pipeline.ucRefs τ sig) (mem0 m c) ∗ ride c)
  post c := iprop(StableHlo.held (c : Thread nD τ) (Pipeline.ucRefs τ sig) (mem1 m c) ∗ ride c)
  X c := iprop(∃ r, prngReg c r)
  Y c := iprop(∃ r, prngReg c r)
  Z c := Pipeline.unscopedRest (Ix := Unit) (Name := ℕ) (U := UR sig nD τ) (Lvl := ℕ) spec0 c (b0 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (b0 m c) (A_eq0 (b0 m) c)
    rw [show unscopedBufs c (b0 m c) = StableHlo.held (c : Thread nD τ) (Pipeline.ucRefs τ sig) (mem0 m c) from Pipeline.unscopedBufs_held c (mem0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (b0 m c) (b1 m c) ((pdats m 0 c).arrAt · cfg0.N) (join0 m c) (rest0 m c)
    rw [show unscopedBufs c (b1 m c) = StableHlo.held (c : Thread nD τ) (Pipeline.ucRefs τ sig) (mem1 m c) from Pipeline.unscopedBufs_held c (mem1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdats m) () defs₀ Variants.none lset lval 1 where
  win := launch₀1.win
  block_pos := launch₀1.block_pos
  stage_whole := launch₀1.stage_whole
  K := PEmpty
  osem k := k.elim
  ho := Pipeline.OwnSemFacts.none _
  hbody c := (body1 (b1 m) c).loose
  hwaits := Pipeline.hwaits_of_owed_zero _ _ _ _ lset lval 1 fun _ _ => rfl
  pre c := iprop(StableHlo.held (c : Thread nD τ) (Pipeline.ucRefs τ sig) (mem1 m c) ∗ ride c)
  post c := iprop(fin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (b1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (b1 m c) (A_eq1 (b1 m) c)
    rw [show unscopedBufs c (b1 m c) = StableHlo.held (c : Thread nD τ) (Pipeline.ucRefs τ sig) (mem1 m c) from Pipeline.unscopedBufs_held c (mem1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (b1 m c) (b2 m c) ((pdats m 1 c).arrAt · cfg1.N) (join1 m c) (rest1 m c)
    rw [show unscopedBufs c (b2 m c) = StableHlo.held (c : Thread nD τ) (Pipeline.ucRefs τ sig) (mem2 m c) from Pipeline.unscopedBufs_held c (mem2 m c)] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev mySegs : List (Pipeline.Seg (pcfgs (F := F)) adm (pdats m) () defs₀ Variants.none lset lval) := [.region (region0 m), .region (region1 m)]

theorem main_run (c : Dev nD) : main (F := F) c = Pipeline.Seg.run (mySegs m) := (main_chain c).trans (by chain_rfl)

theorem mem_uc (r : Ref sig .tc) (h : ¬ (Proc.devRef (τ := τ) .tc r).isScoped = true := by decide) : Proc.devRef .tc r ∈ Pipeline.ucRefs τ sig :=
  Finset.mem_filter.mpr ⟨StableHlo.devRef_mem_tcRefs r, h⟩

set_option backward.isDefEq.respectTransparency.types false in
/-- Every execution ends, with every array at its contents after the two launches and every counter at zero. -/
theorem run_main (ρ : Dev nD → PrngReg) :
    θ_run defs (onTc (τ := τ) (main (F := F))) ⟨m, fun _ => 0, ρ⟩
      (fun r => (∀ c : Dev nD, ∀ b ∈ Pipeline.ucRefs τ sig, r.2.mem (((c : Thread nD τ)).1, b) = mem2 m c b) ∧ r.2.sem = fun _ => 0) :=
  Pipeline.θ_run_regions_kit_sems (pcfgs (F := F)) adm (pdats m) () cellOf_inj emb₁ defs₀ Variants.none lset lval m ρ main (mySegs m)
    (fun c Q => by rw [main_run m c])
    (by simp only [mySegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ ride c)) (Tₙ := fin m)
    (hch := ⟨fun _ => .rfl, fun _ => .rfl, fun _ => .rfl⟩)
    (hinit := by
      refine Pipeline.initEach lset lval fun c => ?_
      rw [show unscopedBufs c (fun b => m ((c : Thread nD τ).loc b)) = StableHlo.held (c : Thread nD τ) (Pipeline.ucRefs τ sig) (mem0 m c) from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem2 m c b)
    (hfin := fun c s' => by
      iintro ⟨⟨Hh, -⟩, HSI⟩
      unfold StableHlo.held
      imodintro
      iapply (pointsTo_read_all (Pipeline.ucRefs τ sig) (fun b => (((c : Thread nD τ)).1, b)) (mem2 m c) s')
      isplitl [Hh] <;> iassumption)
    (hQ := fun s h hz => ⟨h, funext fun g => hz g (.inr (regions_no_unscoped g.2))⟩)

theorem w2_in1 (c : Dev nD) (w : Fin cfg1.W) (hw : (cfg1.win w).isOut = false) : mem2 m c (Proc.devRef .tc (Pipeline.arrRef spec1 w)) = mem1 m c (Proc.devRef .tc (Pipeline.arrRef spec1 w)) :=
  (w2_arr m c w).trans (((dat1 (b1 m) c).arrAt_in w hw cfg1.N).trans (A_eq1 (b1 m) c w))

theorem w1_in0 (c : Dev nD) (w : Fin cfg0.W) (hw : (cfg0.win w).isOut = false) : mem1 m c (Proc.devRef .tc (Pipeline.arrRef spec0 w)) = mem0 m c (Proc.devRef .tc (Pipeline.arrRef spec0 w)) :=
  (w1_arr m c w).trans (((dat0 (b0 m) c).arrAt_in w hw cfg0.N).trans (A_eq0 (b0 m) c w))

/-- The two arguments are unchanged. -/
theorem w2_arg0 (c : Dev nD) : mem2 m c (Proc.devRef .tc main_arg0) = m ((c : Thread nD τ).loc main_arg0) :=
  (w2_in1 m c 0 rfl).trans (w1_in0 m c 0 rfl)
theorem w2_arg1 (c : Dev nD) : mem2 m c (Proc.devRef .tc main_arg1) = m ((c : Thread nD τ).loc main_arg1) :=
  (w2_in1 m c 4 rfl).trans (w1_of_ne m c main_arg1 (by decide))

/-- The run as the frame claim states it. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c _ (mem_uc main_arg0)).trans (w2_arg0 m c), (h.1 c _ (mem_uc main_arg1)).trans (w2_arg1 m c)⟩, h.2⟩) (run_main m ρ)

end Cert.Attn

end
-- ==== Proof.Frames.lean ====
/-
  The frame claims: the kernel's run at words and at extended reals, and the reference's run.
-/
module

public import proofs.«01_k».proof.Defs
public import proofs.«01_k».proof.Proof.RunMain
public import proofs.«01_k».proof.Proof.Gen.Kernel
public import proofs.«01_k».proof.Proof.Gen.ReferenceIdeal.Run
public import Idealize.ShloMosaic.Lib.Quiescent

@[expose] public section

noncomputable section

namespace Cert.Attn

open Idealize.ShloMosaic Idealize.ShloMosaic.TcCoe Idealize.SL.Sem

attribute [local instance] Cert.Kernel.Gen.facts Cert.KernelIdeal.Gen.facts Cert.ReferenceIdeal.Gen.facts

/-- The two printed programs have the same kernel bodies. -/
theorem bodies_same : Cert.Kernel.defs₀ (F := Bits) = Cert.KernelIdeal.defs₀ (F := Bits) := by
  unfold Cert.Kernel.defs₀ Cert.KernelIdeal.defs₀
  congr 1
  funext k x
  match k, x with
  | 0, (t, s) => rfl
  | 1, (t, s) => rfl

theorem defs_same : Cert.Kernel.defs (F := Bits) = Cert.KernelIdeal.defs (F := Bits) := by
  unfold Cert.Kernel.defs Cert.KernelIdeal.defs
  exact congrArg (Pipeline.defs (Cert.KernelIdeal.pcfgs (F := Bits))) bodies_same

theorem frame_kernel : Cert.quiescent_Kernel := fun m ρ _ => by
  have h := run_frame (F := Bits) m ρ
  rw [← defs_same] at h
  exact h

theorem frame_ideal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Attn

end
-- ==== Proof.Reals.lean ====
/-
  The kernels' vector operations on real entries. `rv s φ f` is the vector of shape `s` whose entry in row `a`, column `b` is the real number `f a b`, with `f` a function of two
  natural numbers. At the extended reals each operation the two kernels use takes such vectors to such vectors: this module says to which.
-/
module

public import proofs.«01_k».proof.Proof.Tiles
public import Idealize.ShloMosaic.PureOps.Ideal.Laws
public import Idealize.ShloMosaic.Lib.IdealHost
public import Idealize.ShloMosaic.Lib.MatmulPlain
public import Idealize.ShloMosaic.Lib.Pipeline.Value

@[expose] public section

noncomputable section

namespace Cert.Attn

open Cert.KernelIdeal Cert.KernelIdeal.Gen
open Idealize.ShloMosaic Idealize.ShloMosaic.ValueIdx
open scoped BigOperators

/-- A real function of a row and a column. -/
abbrev Mat : Type := ℕ → ℕ → ℝ

/-- Coordinate `k` of an index as a number; 0 past the rank. -/
def crd {s : Shape} (i : s.Idx) (k : ℕ) : ℕ := if h : k < s.rank then (i ⟨k, h⟩).val else 0

/-- The vector of real entries `f`. -/
def rv (s : Shape) (φ : FTy) (f : Mat) : FVec Ideal s φ := fun i => ((f (crd i 0) (crd i 1) : ℝ) : EReal)

/-- The mask of the entries where `p` holds. -/
def mk (s : Shape) (p : ℕ → ℕ → Bool) : IVec s 1 := fun i => BitVec.ofBool (p (crd i 0) (crd i 1))

theorem rv_ix2 {n0 n1 : ℕ} (φ : FTy) (f : Mat) (a : Fin n0) (b : Fin n1) : rv ⟨2, ![n0, n1]⟩ φ f (ix2 a b) = ((f a.val b.val : ℝ) : EReal) := rfl

theorem mk_ix2 {n0 n1 : ℕ} (p : ℕ → ℕ → Bool) (a : Fin n0) (b : Fin n1) : mk ⟨2, ![n0, n1]⟩ p (ix2 a b) = BitVec.ofBool (p a.val b.val) := rfl

/-- Two vectors of real entries are equal where the functions are, on the indices of the shape. -/
theorem rv_congr {n0 n1 : ℕ} (φ : FTy) {f g : Mat} (h : ∀ a < n0, ∀ b < n1, f a b = g a b) : rv ⟨2, ![n0, n1]⟩ φ f = rv ⟨2, ![n0, n1]⟩ φ g := by
  funext i
  exact congrArg _ (h _ (i 0).isLt _ (i 1).isLt)

/-! ## The functions -/

def expF (f : Mat) : Mat := fun a b => Real.exp (f a b)
def l1p (f : Mat) : Mat := fun a b => Real.log (1 + Real.exp (f a b))
def absF (f : Mat) : Mat := fun a b => |f a b|
def maxF (f g : Mat) : Mat := fun a b => max (f a b) (g a b)
/-- Two blocks of 128 columns side by side. -/
def hcat (f g : Mat) : Mat := fun a b => if b < 128 then f a b else g a (b - 128)
/-- Two blocks of 128 rows on top of each other. -/
def vcat (f g : Mat) : Mat := fun a b => if a < 128 then f a b else g (a - 128) b
/-- The rows from 128 on. -/
def down (f : Mat) : Mat := fun a b => f (128 + a) b
def iteF (p : ℕ → ℕ → Bool) (f g : Mat) : Mat := fun a b => if p a b then f a b else g a b
/-- The sum of the columns after `b`. -/
def suf (f : Mat) : Mat := fun a b => ∑ x ∈ Finset.Ico (b + 1) 128, f a x
/-- The sum of the columns from `b` on. -/
def sufi (f : Mat) : Mat := fun a b => ∑ x ∈ Finset.Ico b 128, f a x
/-- The sum of all columns. -/
def tot (f : Mat) : Mat := fun a _ => ∑ x ∈ Finset.Ico 0 128, f a x
def nt (f g : Mat) : Mat := fun a b => ∑ x ∈ Finset.range 128, f a x * g b x
def nn (f g : Mat) : Mat := fun a b => ∑ x ∈ Finset.range 128, f a x * g x b
def tn (n : ℕ) (f g : Mat) : Mat := fun a b => ∑ x ∈ Finset.range n, f x a * g x b
def laterM : Mat := fun a b => if b < a % 128 ∨ 128 ≤ b then 1 else 0
def laterIM : Mat := fun a b => if b ≤ a % 128 ∨ 128 ≤ b then 1 else 0
def headM : Mat := fun _ b => if b < 64 then 1 else 0
/-- The entries before the diagonal. -/
def below : ℕ → ℕ → Bool := fun a b => decide (b < a)
def headB : ℕ → ℕ → Bool := fun _ b => decide (b < 64)

theorem down_vcat (f g : Mat) : down (vcat f g) = g := by funext a b; simp [down, vcat]
theorem down_zero : down 0 = 0 := rfl

/-! ## Elementwise -/

section
variable {s : Shape} {φ : FTy} (f g : Mat)

theorem rv_addf : addf (rv s φ f) (rv s φ g) = rv s φ (f + g) := by
  funext i; exact (EReal.coe_add _ _).symm
theorem rv_subf : subf (rv s φ f) (rv s φ g) = rv s φ (f - g) := by
  funext i; exact (EReal.coe_sub _ _).symm
theorem rv_mulf : mulf (rv s φ f) (rv s φ g) = rv s φ (f * g) := by
  funext i; exact (EReal.coe_mul _ _).symm
theorem rv_maximumf : maximumf (rv s φ f) (rv s φ g) = rv s φ (maxF f g) := by
  funext i; exact ((EReal.coe_strictMono.monotone).map_max (a := f _ _) (b := g _ _)).symm
theorem rv_absf : absf (rv s φ f) = rv s φ (absF f) := by
  funext i
  show max ((f _ _ : ℝ) : EReal) (-((f _ _ : ℝ) : EReal)) = ((|f _ _| : ℝ) : EReal)
  rw [← EReal.coe_neg, abs, ← (EReal.coe_strictMono.monotone).map_max]
theorem rv_exp : exp (rv s φ f) = rv s φ (expF f) := by
  funext i; exact Ideal.exp_coe _
theorem rv_log1p : log (rv s φ (1 + expF f)) = rv s φ (l1p f) := by
  funext i
  have h : (0 : ℝ) < 1 + Real.exp (f (crd i 0) (crd i 1)) := by positivity
  exact (Ideal.log_coe _).trans (if_neg (not_le.mpr h))
theorem rv_truncf {ψ : FTy} (h) : truncf ψ (rv s φ f) h = rv s ψ f := rfl
theorem rv_extf {ψ : FTy} (h) : extf ψ (rv s φ f) h = rv s ψ f := rfl
theorem rv_shapeCast (h) : shapeCast s (rv s φ f) h = rv s φ f := shapeCast_self _ _
theorem rv_select (p : ℕ → ℕ → Bool) : select (mk s p) (rv s φ f) (rv s φ g) = rv s φ (iteF p f g) := by
  funext i
  show Scalar.select (BitVec.ofBool (p (crd i 0) (crd i 1))) _ _ = ((iteF p f g (crd i 0) (crd i 1) : ℝ) : EReal)
  unfold iteF
  cases p (crd i 0) (crd i 1) <;> rfl

theorem ofBits_zero : (Scalar.ofBits .f32 0x00000000#32 : Ideal .f32) = ((0 : ℝ) : EReal) := by
  simp [Scalar.ofBits, Ideal.ofBits, Ideal.ieee, -EReal.coe_mul]
theorem ofBits_one : (Scalar.ofBits .f32 0x3F800000#32 : Ideal .f32) = ((1 : ℝ) : EReal) := by
  simp [Scalar.ofBits, Ideal.ofBits, Ideal.ieee, -EReal.coe_mul]; norm_num
theorem ofBits_eighth : (Scalar.ofBits .f32 0x3E000000#32 : Ideal .f32) = ((1 / 8 : ℝ) : EReal) := by
  simp [Scalar.ofBits, Ideal.ofBits, Ideal.ieee, -EReal.coe_mul]; norm_num
theorem rv_zero : broadcast s (Scalar.ofBits .f32 0x00000000#32 : Ideal .f32) = rv s .f32 0 := by
  funext i; exact ofBits_zero
theorem rv_one : broadcast s (Scalar.ofBits .f32 0x3F800000#32 : Ideal .f32) = rv s .f32 1 := by
  funext i; exact ofBits_one
theorem rv_eighth : broadcast s (Scalar.ofBits .f32 0x3E000000#32 : Ideal .f32) = rv s .f32 (fun _ _ => 1 / 8) := by
  funext i; exact ofBits_eighth
theorem rv_constant : (constant s .f32 0x00000000#32 : FVec Ideal s .f32) = rv s .f32 0 := by
  funext i; exact ofBits_zero

end

end Cert.Attn

end
-- ==== Proof.RealsShape.lean ====
/-
  The kernels' slices, concatenations and matrix products on real entries (`rv`, in `Proof.Reals`), at the shapes they are used at.
-/
module

public import proofs.«01_k».proof.Proof.Reals

@[expose] public section

noncomputable section

namespace Cert.Attn

open Cert.KernelIdeal Cert.KernelIdeal.Gen
open Idealize.ShloMosaic Idealize.ShloMosaic.ValueIdx
open scoped BigOperators

variable {φ : FTy} (f g : Mat)

/-! ## Slices -/

theorem rv_slice (n0 n1 m0 m1 o0 o1 : ℕ) (h : (⟨2, ![n0, n1]⟩ : Shape).Slices ![o0, o1] ⟨2, ![m0, m1]⟩) :
    extractStridedSlice ⟨2, ![m0, m1]⟩ ![o0, o1] (rv ⟨2, ![n0, n1]⟩ φ f) h = rv ⟨2, ![m0, m1]⟩ φ (fun a b => f (o0 + a) (o1 + b)) := rfl

theorem rv_upper (h) : extractStridedSlice S128x128 ![0, 0] (rv S256x128 φ f) h = rv S128x128 φ f :=
  (rv_slice _ _ _ _ _ _ _ h).trans (rv_congr _ fun a _ b hb => by simp)
theorem rv_lower (h) : extractStridedSlice S128x128 ![128, 0] (rv S256x128 φ f) h = rv S128x128 φ (down f) :=
  (rv_slice _ _ _ _ _ _ _ h).trans (rv_congr _ fun a _ b hb => by simp [down])
theorem rv_vcat_upper : rv S128x128 φ (vcat f g) = rv S128x128 φ f := rv_congr _ fun a ha b _ => by simp [vcat, ha]

/-! ## Concatenations -/

theorem rv_beside (m : ℕ) (h : Shape.Concatenates [(⟨2, ![m, 128]⟩ : Shape), ⟨2, ![m, 128]⟩] ⟨2, ![m, 256]⟩ 1) :
    concatenate ⟨2, ![m, 256]⟩ 1 [⟨⟨2, ![m, 128]⟩, rv ⟨2, ![m, 128]⟩ φ f⟩, ⟨⟨2, ![m, 128]⟩, rv ⟨2, ![m, 128]⟩ φ g⟩] h
      = rv ⟨2, ![m, 256]⟩ φ (hcat f g) := by
  funext j
  by_cases hb : (j 1).val < 128
  · refine (concatenate_pair_apply_left (t := ⟨2, ![m, 256]⟩) (s₁ := ⟨2, ![m, 128]⟩) (s₂ := ⟨2, ![m, 128]⟩) (1 : Fin 2) _ _ h j rfl
      (ix2 (n0 := m) (n1 := 128) (j 0) ⟨(j 1).val, hb⟩) (fun d => by match d with | ⟨0, _⟩ => rfl | ⟨1, _⟩ => rfl)).trans ?_
    exact congrArg (fun x : ℝ => (x : EReal)) (if_pos hb).symm
  · have h1 : (j 1).val < 256 := (j 1).isLt
    refine (concatenate_pair_apply_right (t := ⟨2, ![m, 256]⟩) (s₁ := ⟨2, ![m, 128]⟩) (s₂ := ⟨2, ![m, 128]⟩) (1 : Fin 2) _ _ h j rfl rfl
      (ix2 (n0 := m) (n1 := 128) (j 0) ⟨(j 1).val - 128, by omega⟩)
      (fun d hd => by match d, hd with | ⟨0, _⟩, _ => rfl | ⟨1, _⟩, hd => exact absurd rfl hd) (show (j 1).val - 128 + 128 = (j 1).val by omega)).trans ?_
    exact congrArg (fun x : ℝ => (x : EReal)) (if_neg hb).symm

/-- Two blocks of 128 rows on top of each other. -/
def stack (x y : FVec Ideal S128x128 φ) : FVec Ideal S256x128 φ := concatenate S256x128 0 [⟨S128x128, x⟩, ⟨S128x128, y⟩] concatenates_S128x128_S128x128_S256x128_d0

theorem stack_eq (x y : FVec Ideal S128x128 φ) (h) : concatenate S256x128 0 [⟨S128x128, x⟩, ⟨S128x128, y⟩] h = stack x y := rfl

theorem rv_stack : stack (rv S128x128 φ f) (rv S128x128 φ g) = rv S256x128 φ (vcat f g) := by
  have h := concatenates_S128x128_S128x128_S256x128_d0
  funext j
  by_cases hb : (j 0).val < 128
  · refine (concatenate_pair_apply_left (t := S256x128) (s₁ := S128x128) (s₂ := S128x128) (0 : Fin 2) _ _ h j rfl
      (ix2 (n0 := 128) (n1 := 128) ⟨(j 0).val, hb⟩ (j 1)) (fun d => by match d with | ⟨0, _⟩ => rfl | ⟨1, _⟩ => rfl)).trans ?_
    exact congrArg (fun x : ℝ => (x : EReal)) (if_pos hb).symm
  · have h1 : (j 0).val < 256 := (j 0).isLt
    refine (concatenate_pair_apply_right (t := S256x128) (s₁ := S128x128) (s₂ := S128x128) (0 : Fin 2) _ _ h j rfl rfl
      (ix2 (n0 := 128) (n1 := 128) ⟨(j 0).val - 128, by omega⟩ (j 1))
      (fun d hd => by match d, hd with | ⟨0, _⟩, hd => exact absurd rfl hd | ⟨1, _⟩, _ => rfl) (show (j 0).val - 128 + 128 = (j 0).val by omega)).trans ?_
    exact congrArg (fun x : ℝ => (x : EReal)) (if_neg hb).symm

/-- The first `r` rows of one block and then the rows of another. -/
def over (r : ℕ) (f g : Mat) : Mat := fun a b => if a < r then f a b else g (a - r) b

theorem rv_over (r n m : ℕ) (e : r + n = m) (h : Shape.Concatenates [(⟨2, ![r, 128]⟩ : Shape), ⟨2, ![n, 128]⟩] ⟨2, ![m, 128]⟩ 0) :
    concatenate ⟨2, ![m, 128]⟩ 0 [⟨⟨2, ![r, 128]⟩, rv ⟨2, ![r, 128]⟩ φ f⟩, ⟨⟨2, ![n, 128]⟩, rv ⟨2, ![n, 128]⟩ φ g⟩] h
      = rv ⟨2, ![m, 128]⟩ φ (over r f g) := by
  funext j
  by_cases hb : (j 0).val < r
  · refine (concatenate_pair_apply_left (t := ⟨2, ![m, 128]⟩) (s₁ := ⟨2, ![r, 128]⟩) (s₂ := ⟨2, ![n, 128]⟩) (0 : Fin 2) _ _ h j rfl
      (ix2 (n0 := r) (n1 := 128) ⟨(j 0).val, hb⟩ (j 1)) (fun d => by match d with | ⟨0, _⟩ => rfl | ⟨1, _⟩ => rfl)).trans ?_
    exact congrArg (fun x : ℝ => (x : EReal)) (if_pos hb).symm
  · have h1 : (j 0).val < m := (j 0).isLt
    refine (concatenate_pair_apply_right (t := ⟨2, ![m, 128]⟩) (s₁ := ⟨2, ![r, 128]⟩) (s₂ := ⟨2, ![n, 128]⟩) (0 : Fin 2) _ _ h j rfl rfl
      (ix2 (n0 := n) (n1 := 128) ⟨(j 0).val - r, by omega⟩ (j 1))
      (fun d hd => by match d, hd with | ⟨0, _⟩, hd => exact absurd rfl hd | ⟨1, _⟩, _ => rfl) (show (j 0).val - r + r = (j 0).val by omega)).trans ?_
    exact congrArg (fun x : ℝ => (x : EReal)) (if_neg hb).symm

/-! ## Matrix products -/

theorem coe_sum {ι : Type} (s : Finset ι) (f : ι → ℝ) : ((∑ x ∈ s, f x : ℝ) : EReal) = ∑ x ∈ s, (f x : EReal) :=
  map_sum (⟨⟨fun x : ℝ => (x : EReal), rfl⟩, EReal.coe_add⟩ : ℝ →+ EReal) f s

theorem coe_sum_mul (n : ℕ) (f g : ℕ → ℝ) : ∑ k : Fin n, ((f k.val : ℝ) : EReal) * ((g k.val : ℝ) : EReal) = ((∑ x ∈ Finset.range n, f x * g x : ℝ) : EReal) := by
  rw [coe_sum, ← Fin.sum_univ_eq_sum_range (fun x => ((f x * g x : ℝ) : EReal)) n]
  exact Finset.sum_congr rfl fun k _ => (EReal.coe_mul _ _).symm

theorem rv_plain (M K N : ℕ) {φ₁ φ₂ : FTy} : FloatOps.matmul (DotDims.plain M K N) none (rv ⟨2, ![M, K]⟩ φ₁ f) (rv ⟨2, ![K, N]⟩ φ₂ g) (rv ⟨2, ![M, N]⟩ .f32 0)
    = rv ⟨2, ![M, N]⟩ .f32 (fun a b => ∑ x ∈ Finset.range K, f a x * g x b) := by
  funext j
  obtain ⟨a, b, rfl⟩ : ∃ (a : Fin M) (b : Fin N), j = ix2 a b := ⟨j 0, j 1, eq_ix2 j⟩
  rw [Ideal.matmul_plain_apply]
  show ((0 : ℝ) : EReal) + ∑ k : Fin K, ((f a.val k.val : ℝ) : EReal) * ((g k.val b.val : ℝ) : EReal) = _
  rw [coe_sum_mul K (fun x => f a.val x) (fun x => g x b.val), EReal.coe_zero, zero_add]
  rfl

theorem rv_transposed (M K N : ℕ) {φ₁ φ₂ : FTy} : FloatOps.matmul (DotDims.transposedRhs M K N) none (rv ⟨2, ![M, K]⟩ φ₁ f) (rv ⟨2, ![N, K]⟩ φ₂ g) (rv ⟨2, ![M, N]⟩ .f32 0)
    = rv ⟨2, ![M, N]⟩ .f32 (fun a b => ∑ x ∈ Finset.range K, f a x * g b x) := by
  funext j
  obtain ⟨a, b, rfl⟩ : ∃ (a : Fin M) (b : Fin N), j = ix2 a b := ⟨j 0, j 1, eq_ix2 j⟩
  rw [Ideal.matmul_transposedRhs_apply]
  show ((0 : ℝ) : EReal) + ∑ k : Fin K, ((f a.val k.val : ℝ) : EReal) * ((g b.val k.val : ℝ) : EReal) = _
  rw [coe_sum_mul K (fun x => f a.val x) (fun x => g b.val x), EReal.coe_zero, zero_add]
  rfl

/-- The sum over the rows of the first operand: a product of the first operand transposed. -/
theorem rv_rows {M K N : ℕ} {φ₁ φ₂ : FTy} (d : DotDims ⟨2, ![K, M]⟩ ⟨2, ![K, N]⟩ ⟨2, ![M, N]⟩) (hr : d.contr.rank = 1) (hs : d.contr.size ⟨0, by omega⟩ = K)
    (hl : ∀ (a : Fin M) (b : Fin N) (q : d.contr.Idx), ((d.lhsIdx (ix2 a b) q) 0).val = (q ⟨0, by omega⟩).val ∧ ((d.lhsIdx (ix2 a b) q) 1).val = a.val)
    (hh : ∀ (a : Fin M) (b : Fin N) (q : d.contr.Idx), ((d.rhsIdx (ix2 a b) q) 0).val = (q ⟨0, by omega⟩).val ∧ ((d.rhsIdx (ix2 a b) q) 1).val = b.val) :
    FloatOps.matmul d none (rv ⟨2, ![K, M]⟩ φ₁ f) (rv ⟨2, ![K, N]⟩ φ₂ g) (rv ⟨2, ![M, N]⟩ .f32 0) = rv ⟨2, ![M, N]⟩ .f32 (tn K f g) := by
  funext j
  obtain ⟨a, b, rfl⟩ : ∃ (a : Fin M) (b : Fin N), j = ix2 a b := ⟨j 0, j 1, eq_ix2 j⟩
  rw [Ideal.matmul_apply, ← Equiv.sum_comp (contrEquiv1 d K hr hs).symm]
  have e : ∀ k : Fin K, rv ⟨2, ![K, M]⟩ φ₁ f (d.lhsIdx (ix2 a b) ((contrEquiv1 d K hr hs).symm k)) * rv ⟨2, ![K, N]⟩ φ₂ g (d.rhsIdx (ix2 a b) ((contrEquiv1 d K hr hs).symm k))
      = ((f k.val a.val : ℝ) : EReal) * ((g k.val b.val : ℝ) : EReal) := by
    intro k
    have hk := contrEquiv1_symm_val d K hr hs k
    obtain ⟨l0, l1⟩ := hl a b ((contrEquiv1 d K hr hs).symm k)
    obtain ⟨r0, r1⟩ := hh a b ((contrEquiv1 d K hr hs).symm k)
    rw [hk] at l0 r0
    show ((f ((d.lhsIdx (ix2 a b) _) 0).val ((d.lhsIdx (ix2 a b) _) 1).val : ℝ) : EReal) * ((g ((d.rhsIdx (ix2 a b) _) 0).val ((d.rhsIdx (ix2 a b) _) 1).val : ℝ) : EReal) = _
    rw [l0, l1, r0, r1]
  rw [Finset.sum_congr rfl fun k _ => e k, coe_sum_mul K (fun x => f x a.val) (fun x => g x b.val)]
  show ((0 : ℝ) : EReal) + _ = _
  rw [EReal.coe_zero, zero_add]
  rfl

theorem sum_256 (f : ℕ → ℝ) : ∑ x ∈ Finset.range 256, f x = ∑ x ∈ Finset.range 128, f x + ∑ x ∈ Finset.range 128, f (128 + x) :=
  Finset.sum_range_add f 128 128

section
variable (u w : Mat) {φ₁ φ₂ : FTy}

theorem sum_hcat_vcat (a b : ℕ) : ∑ x ∈ Finset.range 256, hcat u w a x * vcat f g x b = (nn u f + nn w g) a b := by
  rw [sum_256]
  refine congr (congrArg _ (Finset.sum_congr rfl fun x hx => ?_)) (Finset.sum_congr rfl fun x hx => ?_)
  · have := Finset.mem_range.mp hx; simp [hcat, vcat, this]
  · simp [hcat, vcat]

theorem tn_hcat (n : ℕ) : tn n (hcat u w) f = vcat (tn n u f) (tn n w f) := by
  funext a b
  by_cases h : a < 128 <;> simp [tn, hcat, vcat, h]

end

/-! ## The sums over later columns, which the kernels take as a product of a value split in two parts with a 0/1 matrix: the parts are the value and its difference from itself. -/

theorem split_sum (M : Mat) (a b : ℕ) : ∑ x ∈ Finset.range 256, hcat f (f - f) a x * M x b = ∑ x ∈ Finset.range 128, f a x * M x b := by
  rw [sum_256, Finset.sum_eq_zero (s := Finset.range 128) (f := fun x => hcat f (f - f) a (128 + x) * M (128 + x) b) (fun x _ => by simp [hcat]), add_zero]
  exact Finset.sum_congr rfl fun x hx => by have := Finset.mem_range.mp hx; simp [hcat, this]

theorem split_later (a b : ℕ) : ∑ x ∈ Finset.range 256, hcat f (f - f) a x * laterM x b = hcat (suf f) (tot f) a b := by
  rw [split_sum]
  by_cases hb : b < 128
  · simp only [hcat, if_pos hb, suf]
    rw [← Finset.sum_subset (s₁ := Finset.Ico (b + 1) 128)]
    · refine Finset.sum_congr rfl fun x hx => ?_
      obtain ⟨h1, h2⟩ := Finset.mem_Ico.mp hx
      rw [laterM, if_pos (Or.inl (by rw [Nat.mod_eq_of_lt h2]; omega)), mul_one]
    · intro x hx; simp only [Finset.mem_Ico, Finset.mem_range] at *; omega
    · intro x hx hn
      simp only [Finset.mem_Ico, Finset.mem_range] at *
      rw [laterM, if_neg (by rw [Nat.mod_eq_of_lt hx]; omega), mul_zero]
  · simp only [hcat, if_neg hb, tot, ← Finset.range_eq_Ico]
    exact Finset.sum_congr rfl fun x _ => by rw [laterM, if_pos (Or.inr (by omega)), mul_one]

theorem split_laterI (a b : ℕ) : ∑ x ∈ Finset.range 256, hcat f (f - f) a x * laterIM x b = hcat (sufi f) (tot f) a b := by
  rw [split_sum]
  by_cases hb : b < 128
  · simp only [hcat, if_pos hb, sufi]
    rw [← Finset.sum_subset (s₁ := Finset.Ico b 128)]
    · refine Finset.sum_congr rfl fun x hx => ?_
      obtain ⟨h1, h2⟩ := Finset.mem_Ico.mp hx
      rw [laterIM, if_pos (Or.inl (by rw [Nat.mod_eq_of_lt h2]; omega)), mul_one]
    · intro x hx; simp only [Finset.mem_Ico, Finset.mem_range] at *; omega
    · intro x hx hn
      simp only [Finset.mem_Ico, Finset.mem_range] at *
      rw [laterIM, if_neg (by rw [Nat.mod_eq_of_lt hx]; omega), mul_zero]
  · simp only [hcat, if_neg hb, tot, ← Finset.range_eq_Ico]
    exact Finset.sum_congr rfl fun x _ => by rw [laterIM, if_pos (Or.inr (by omega)), mul_one]

/-! ## The rows a tile counts for -/

/-- The rows from `o` on. -/
def sub (X : Mat) (o : ℕ) : Mat := fun a l => X (o + a) l

/-- What a part does on real entries: its rows are those from `r` on, and the entries where `p` holds are kept. -/
structure Law {n : ℕ} (P : Part Ideal n) (r : ℕ) (p : ℕ → ℕ → Bool) : Prop where
  tail : ∀ (φ : FTy) (f : Mat), P.tail (rv S512x128 φ f) = rv (nar n) φ (sub f r)
  add : ∀ f g : Mat, P.add (rv S512x128 .f32 f) (rv (nar n) .f32 g) = rv S512x128 .f32 (over r f (sub f r + g))
  keep : ∀ f : Mat, P.keep (rv (nar n) .f32 f) = rv (nar n) .f32 (iteF p f 0)
  dotZ : P.dotZ = DotDims.transposedRhs n 128 256
  dotS : P.dotS = DotDims.plain n 256 256
  dotA : P.dotA = DotDims.plain n 256 128
  dotR : ∀ (φ₁ φ₂ : FTy) (f g : Mat), matmul P.dotR none (rv (dbl n) φ₁ f) (rv (nar n) φ₂ g) (rv S256x128 .f32 0) = rv S256x128 .f32 (tn n f g)

namespace Law

variable {n : ℕ} {P : Part Ideal n} {r : ℕ} {p : ℕ → ℕ → Bool} (h : Law P r p) (u w f g : Mat)
include h

theorem lft : P.lft (rv (dbl n) .f32 (hcat f g)) = rv (nar n) .f32 f :=
  (rv_slice _ _ _ _ _ _ _ _).trans (rv_congr _ fun a _ b hb => by simp [hcat, hb])

theorem rgt : P.rgt (rv (dbl n) .f32 (hcat f g)) = rv (nar n) .f32 g :=
  (rv_slice _ _ _ _ _ _ _ _).trans (rv_congr _ fun a _ b hb => by simp [hcat])

theorem pair : P.pair (rv (nar n) .bf16 f) (rv (nar n) .bf16 g) = rv (dbl n) .bf16 (hcat f g) := rv_beside f g n P.beside

theorem nts : matmul P.dotZ none (rv (nar n) .bf16 u) (rv S256x128 .bf16 (vcat f g)) (rv (dbl n) .f32 0) = rv (dbl n) .f32 (hcat (nt u f) (nt u g)) := by
  rw [h.dotZ]
  exact (rv_transposed u (vcat f g) n 128 256).trans (rv_congr _ fun a _ b hb => by by_cases h : b < 128 <;> simp [hcat, vcat, nt, h])

theorem nns : matmul P.dotA none (rv (dbl n) .bf16 (hcat u w)) (rv S256x128 .bf16 (vcat f g)) (rv (nar n) .f32 0) = rv (nar n) .f32 (nn u f + nn w g) := by
  rw [h.dotA]
  exact (rv_plain (hcat u w) (vcat f g) n 256 128).trans (rv_congr _ fun a _ b _ => sum_hcat_vcat f g u w a b)

theorem later : matmul P.dotS none (rv (dbl n) .bf16 (hcat f (f - f))) (rv S256x256 .bf16 laterM) (rv (dbl n) .f32 0) = rv (dbl n) .f32 (hcat (suf f) (tot f)) := by
  rw [h.dotS]
  exact (rv_plain _ _ n 256 256).trans (rv_congr _ fun a _ b _ => split_later f a b)

theorem laterI : matmul P.dotS none (rv (dbl n) .bf16 (hcat f (f - f))) (rv S256x256 .bf16 laterIM) (rv (dbl n) .f32 0) = rv (dbl n) .f32 (hcat (sufi f) (tot f)) := by
  rw [h.dotS]
  exact (rv_plain _ _ n 256 256).trans (rv_congr _ fun a _ b _ => split_laterI f a b)

theorem tns : matmul P.dotR none (rv (dbl n) .bf16 (hcat u w)) (rv (nar n) .bf16 f) (rv S256x128 .f32 0) = rv S256x128 .f32 (vcat (tn n u f) (tn n w f)) :=
  (h.dotR _ _ _ _).trans (congrArg _ (tn_hcat f u w n))

end Law

end Cert.Attn

end
-- ==== Proof.ValFwd.lean ====
/-
  The forward kernel's constants, the rows its tiles count for, and one tile of its walk, on real entries.
-/
module

public import proofs.«01_k».proof.Proof.RealsShape

@[expose] public section

noncomputable section

namespace Cert.Attn

open Cert.KernelIdeal Cert.KernelIdeal.Gen
open Idealize.ShloMosaic Idealize.ShloMosaic.ValueIdx
open scoped BigOperators

/-! ## Masks and constants -/

theorem slt_small (a b : ℕ) (ha : a < 2 ^ 20) (hb : b < 2 ^ 20) : (BitVec.ofNat 32 a).slt (BitVec.ofNat 32 b) = decide (a < b) := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  simp [BitVec.slt, h1, h2]

theorem sle_small (a b : ℕ) (ha : a < 2 ^ 20) (hb : b < 2 ^ 20) : (BitVec.ofNat 32 a).sle (BitVec.ofNat 32 b) = decide (a ≤ b) := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  simp [BitVec.sle, h1, h2]

theorem toInt_small (a : ℕ) (ha : a < 2 ^ 20) : (BitVec.ofNat 32 a).toInt = a := by
  rw [BitVec.toInt_eq_toNat_of_lt] <;> simp <;> omega

theorem toInt_sub_small (a b : ℕ) (ha : a < 2 ^ 20) (hb : b < 2 ^ 20) : (BitVec.ofNat 32 b - BitVec.ofNat 32 a).toInt = (b : ℤ) - a := by
  rw [BitVec.toInt_sub, toInt_small a ha, toInt_small b hb]
  apply Int.bmod_eq_of_le <;> omega

/-- The difference of two small coordinates is below `-r` where the second, counted from `r` on, is the larger. -/
theorem sub_slt (r a b : ℕ) (hr : r < 512) (ha : a < 512) (hb : b < 512) (w : BitVec 32) (hw : w.toInt = -(r : ℤ)) :
    (BitVec.ofNat 32 b - BitVec.ofNat 32 (r + a)).slt w = decide (b < a) := by
  rw [BitVec.slt, toInt_sub_small (r + a) b (by omega) (by omega), hw]
  exact decide_eq_decide.mpr (by omega)

theorem mask0 : cmpi .slt k0_pay130 (broadcast S512x128 0#32) = mk S512x128 below := by
  funext j
  obtain ⟨a, b, rfl⟩ : ∃ (a : Fin 512) (b : Fin 128), j = ix2 a b := ⟨j 0, j 1, eq_ix2 j⟩
  show BitVec.ofBool ((BitVec.ofNat 32 (0 * 128 + b.val) - BitVec.ofNat 32 (0 * 512 + a.val)).slt 0#32) = _
  rw [show 0 * 128 + b.val = b.val by omega, show 0 * 512 + a.val = 0 + a.val by omega, sub_slt 0 _ _ (by omega) (by omega) (by omega) _ (by decide)]
  rfl

theorem mask1 (h) : cmpi .slt (extractStridedSlice S384x128 ![128, 0] k0_pay130 h) (broadcast S384x128 4294967168#32) = mk S384x128 below := by
  funext j
  obtain ⟨a, b, rfl⟩ : ∃ (a : Fin 384) (b : Fin 128), j = ix2 a b := ⟨j 0, j 1, eq_ix2 j⟩
  show BitVec.ofBool ((BitVec.ofNat 32 (0 * 128 + (0 + b.val)) - BitVec.ofNat 32 (0 * 512 + (128 + a.val))).slt 4294967168#32) = _
  rw [show 0 * 128 + (0 + b.val) = b.val by omega, show 0 * 512 + (128 + a.val) = 128 + a.val by omega, sub_slt 128 _ _ (by omega) (by omega) (by omega) _ (by decide)]
  rfl

theorem mask2 (h) : cmpi .slt (extractStridedSlice S256x128 ![256, 0] k0_pay130 h) (broadcast S256x128 4294967040#32) = mk S256x128 below := by
  funext j
  obtain ⟨a, b, rfl⟩ : ∃ (a : Fin 256) (b : Fin 128), j = ix2 a b := ⟨j 0, j 1, eq_ix2 j⟩
  show BitVec.ofBool ((BitVec.ofNat 32 (0 * 128 + (0 + b.val)) - BitVec.ofNat 32 (0 * 512 + (256 + a.val))).slt 4294967040#32) = _
  rw [show 0 * 128 + (0 + b.val) = b.val by omega, show 0 * 512 + (256 + a.val) = 256 + a.val by omega, sub_slt 256 _ _ (by omega) (by omega) (by omega) _ (by decide)]
  rfl

theorem mask3 (h) : cmpi .slt (extractStridedSlice S128x128 ![384, 0] k0_pay130 h) (broadcast S128x128 4294966912#32) = mk S128x128 below := by
  funext j
  obtain ⟨a, b, rfl⟩ : ∃ (a : Fin 128) (b : Fin 128), j = ix2 a b := ⟨j 0, j 1, eq_ix2 j⟩
  show BitVec.ofBool ((BitVec.ofNat 32 (0 * 128 + (0 + b.val)) - BitVec.ofNat 32 (0 * 512 + (384 + a.val))).slt 4294966912#32) = _
  rw [show 0 * 128 + (0 + b.val) = b.val by omega, show 0 * 512 + (384 + a.val) = 384 + a.val by omega, sub_slt 384 _ _ (by omega) (by omega) (by omega) _ (by decide)]
  rfl

/-- Every entry. -/
def always : ℕ → ℕ → Bool := fun _ _ => true

theorem sub_zero' (f : Mat) : sub f 0 = f := by funext a b; simp [sub]
theorem over_zero (f g : Mat) : over 0 f g = g := by funext a b; simp [over]
theorem rv_rest (r n : ℕ) (φ : FTy) (f : Mat) (h : S512x128.Slices ![r, 0] (nar n)) : extractStridedSlice (nar n) ![r, 0] (rv S512x128 φ f) h = rv (nar n) φ (sub f r) :=
  (rv_slice _ _ _ _ _ _ _ h).trans (rv_congr _ fun a _ b _ => by simp [sub])
theorem rv_first (n : ℕ) (φ : FTy) (f : Mat) (h : S512x128.Slices ![0, 0] (nar n)) : extractStridedSlice (nar n) ![0, 0] (rv S512x128 φ f) h = rv (nar n) φ f :=
  (rv_slice _ _ _ _ _ _ _ h).trans (rv_congr _ fun a _ b _ => by simp)

theorem lawFull : Law pFull 0 always where
  tail φ f := by rw [sub_zero']; rfl
  add f g := by rw [over_zero, sub_zero']; exact rv_addf f g
  keep f := rfl
  dotZ := rfl
  dotS := rfl
  dotA := rfl
  dotR _ _ f g := rv_rows f g pFull.dotR rfl rfl (fun _ _ _ => ⟨rfl, rfl⟩) (fun _ _ _ => ⟨rfl, rfl⟩)

theorem law0 : Law pDiag0 0 below where
  tail φ f := by rw [sub_zero']; rfl
  add f g := by rw [over_zero, sub_zero']; exact rv_addf f g
  keep f := by simp only [pDiag0, mask0, rv_zero, rv_select]
  dotZ := rfl
  dotS := rfl
  dotA := rfl
  dotR _ _ f g := rv_rows f g pDiag0.dotR rfl rfl (fun _ _ _ => ⟨rfl, rfl⟩) (fun _ _ _ => ⟨rfl, rfl⟩)

theorem law1 : Law pDiag1 128 below where
  tail φ f := rv_rest 128 384 φ f slices_S512x128_o128_0_S384x128
  add f g := by
    dsimp only [pDiag1]
    rw [rv_first 128, rv_rest 128 384, rv_addf]
    exact (rv_over f (sub f 128 + g) 128 384 512 rfl _)
  keep f := by simp only [pDiag1, mask1, rv_zero, rv_select]
  dotZ := rfl
  dotS := rfl
  dotA := rfl
  dotR _ _ f g := rv_rows f g pDiag1.dotR rfl rfl (fun _ _ _ => ⟨rfl, rfl⟩) (fun _ _ _ => ⟨rfl, rfl⟩)

theorem law2 : Law pDiag2 256 below where
  tail φ f := rv_rest 256 256 φ f slices_S512x128_o256_0_S256x128
  add f g := by
    dsimp only [pDiag2]
    rw [rv_first 256, rv_rest 256 256, rv_addf]
    exact rv_over f (sub f 256 + g) 256 256 512 rfl _
  keep f := by simp only [pDiag2, mask2, rv_zero, rv_select]
  dotZ := rfl
  dotS := rfl
  dotA := rfl
  dotR _ _ f g := rv_rows f g pDiag2.dotR rfl rfl (fun _ _ _ => ⟨rfl, rfl⟩) (fun _ _ _ => ⟨rfl, rfl⟩)

theorem law3 : Law pDiag3 384 below where
  tail φ f := rv_rest 384 128 φ f slices_S512x128_o384_0_S128x128
  add f g := by
    dsimp only [pDiag3]
    rw [rv_first 384, rv_rest 384 128, rv_addf]
    exact rv_over f (sub f 384 + g) 384 128 512 rfl _
  keep f := by simp only [pDiag3, mask3, rv_zero, rv_select]
  dotZ := rfl
  dotS := rfl
  dotA := rfl
  dotR _ _ f g := rv_rows f g pDiag3.dotR rfl rfl (fun _ _ _ => ⟨rfl, rfl⟩) (fun _ _ _ => ⟨rfl, rfl⟩)

theorem ofNat_and (a : ℕ) (h : a < 256) : BitVec.ofNat 32 a &&& 127#32 = BitVec.ofNat 32 (a % 128) := by
  apply BitVec.eq_of_toNat_eq
  simp only [BitVec.toNat_and, BitVec.toNat_ofNat]
  rw [Nat.mod_eq_of_lt (by omega : a < 2 ^ 32), show 127 % 2 ^ 32 = 2 ^ 7 - 1 by norm_num, Nat.and_two_pow_sub_one_eq_mod]
  omega

theorem rv_if (s : Shape) (p : ℕ → ℕ → Bool) : rv s .f32 (iteF p 1 0) = select (mk s p) (rv s .f32 1) (rv s .f32 0) := (rv_select _ _ _).symm

theorem later_bit (a b : ℕ) (ha : a < 256) (hb : b < 256) :
    IntOp.ori (IntOp.cmpi .sgt (IntOp.andi (BitVec.ofNat 32 a) 127#32) (BitVec.ofNat 32 b)) (IntOp.cmpi .sge (BitVec.ofNat 32 b) 128#32)
      = BitVec.ofBool (decide (b < a % 128 ∨ 128 ≤ b)) := by
  show BitVec.ofBool ((BitVec.ofNat 32 b).slt (BitVec.ofNat 32 a &&& 127#32)) ||| BitVec.ofBool ((128#32).sle (BitVec.ofNat 32 b)) = _
  rw [ofNat_and a ha, slt_small _ _ (by omega) (by omega), sle_small 128 b (by omega) (by omega)]
  by_cases h1 : b < a % 128 <;> by_cases h2 : 128 ≤ b <;> simp [h1, h2]

theorem laterI_bit (a b : ℕ) (ha : a < 256) (hb : b < 256) :
    IntOp.ori (IntOp.cmpi .sge (IntOp.andi (BitVec.ofNat 32 a) 127#32) (BitVec.ofNat 32 b)) (IntOp.cmpi .sge (BitVec.ofNat 32 b) 128#32)
      = BitVec.ofBool (decide (b ≤ a % 128 ∨ 128 ≤ b)) := by
  show BitVec.ofBool ((BitVec.ofNat 32 b).sle (BitVec.ofNat 32 a &&& 127#32)) ||| BitVec.ofBool ((128#32).sle (BitVec.ofNat 32 b)) = _
  rw [ofNat_and a ha, sle_small _ _ (by omega) (by omega), sle_small 128 b (by omega) (by omega)]
  by_cases h1 : b ≤ a % 128 <;> by_cases h2 : 128 ≤ b <;> simp [h1, h2]

theorem sel_bit (p : Prop) [Decidable p] : (Scalar.select (BitVec.ofBool (decide p)) (Scalar.ofBits .f32 0x3F800000#32 : Ideal .f32) (Scalar.ofBits .f32 0x00000000#32 : Ideal .f32))
    = (((if p then 1 else 0 : ℝ)) : EReal) := by
  by_cases h : p
  · simp only [h, decide_true, if_true]; exact ofBits_one
  · simp only [h, decide_false, if_false]; exact ofBits_zero

theorem pay131_eq : (k0_pay131 (F := Ideal)) = rv S256x256 .bf16 laterM := by
  funext j
  obtain ⟨a, b, rfl⟩ : ∃ (a : Fin 256) (b : Fin 256), j = ix2 a b := ⟨j 0, j 1, eq_ix2 j⟩
  show Scalar.select (IntOp.ori (IntOp.cmpi .sgt (IntOp.andi (BitVec.ofNat 32 (0 * 256 + a.val)) 127#32) (BitVec.ofNat 32 (0 * 256 + b.val)))
    (IntOp.cmpi .sge (BitVec.ofNat 32 (0 * 256 + b.val)) 128#32)) (Scalar.ofBits .f32 0x3F800000#32 : Ideal .f32) (Scalar.ofBits .f32 0x00000000#32 : Ideal .f32) = _
  rw [show 0 * 256 + a.val = a.val by omega, show 0 * 256 + b.val = b.val by omega, later_bit _ _ a.isLt b.isLt, sel_bit]
  rfl

theorem head_bit (b : ℕ) (hb : b < 256) : IntOp.cmpi .slt (BitVec.ofNat 32 b) 64#32 = BitVec.ofBool (decide (b < 64)) := by
  show BitVec.ofBool ((BitVec.ofNat 32 b).slt (BitVec.ofNat 32 64)) = _
  rw [slt_small _ _ (by omega) (by omega)]

theorem pay133_eq : (k0_pay133 (F := Ideal)) = rv S128x128 .f32 headM := by
  funext j
  obtain ⟨a, b, rfl⟩ : ∃ (a : Fin 128) (b : Fin 128), j = ix2 a b := ⟨j 0, j 1, eq_ix2 j⟩
  show Scalar.select (IntOp.cmpi .slt (BitVec.ofNat 32 (0 * 128 + b.val)) 64#32) (Scalar.ofBits .f32 0x3F800000#32 : Ideal .f32) (Scalar.ofBits .f32 0x00000000#32 : Ideal .f32) = _
  rw [show 0 * 128 + b.val = b.val by omega, head_bit _ (by omega), sel_bit]
  rfl

theorem pay134_eq : (k0_pay134 (F := Ideal)) = rv S128x128 .bf16 headM := by
  simp only [k0_pay134, pay133_eq, rv_truncf]
theorem pay135_eq : (k0_pay135 (F := Ideal)) = rv S128x128 .bf16 (1 - headM) := by
  simp only [k0_pay135, pay133_eq, rv_truncf, rv_one, rv_subf]
theorem pay136_eq : (k0_pay136 (F := Ideal)) = rv S512x128 .f32 0 := by
  simp only [k0_pay136, rv_zero]
theorem pay132_eq (q : Mat) : k0_pay132 (rv S512x128 .bf16 q) = rv S512x128 .bf16 (q * fun _ _ => 1 / 8) := by
  simp only [k0_pay132, rv_extf, rv_truncf, rv_eighth, rv_mulf]

/-! ## One tile -/

/-- The logarithm the walk adds up: softplus. -/
def spF (z : Mat) : Mat := maxF z 0 + l1p (0 - absF z)

/-- The logarithms of a tile that count. -/
def spK (p : ℕ → ℕ → Bool) (z : Mat) : Mat := iteF p (spF z) 0

/-- The weights of a tile, from its logits and the sum of the logarithms of the later tiles. -/
def wgt (p : ℕ → ℕ → Bool) (z c : Mat) : Mat := iteF p (expF ((z - spF z) - (suf (spK p z) + c))) 0

/-- A head's logits of a tile for the rows from `r` on. -/
def zT (r : ℕ) (q m k : Mat) : Mat := nt (sub q r) (k * m)

/-- The sums carried on: those of the rows from `r` on have grown. -/
def grow (r : ℕ) (f g : Mat) : Mat := over r f (sub f r + g)

/-- The walk's state after a tile, from the block of scaled queries, the two head masks, the tile of keys and of values, and the state before. -/
def fTile (r : ℕ) (p : ℕ → ℕ → Bool) (q m n k v : Mat) (s : Mat × Mat × Mat) : Mat × Mat × Mat :=
  (grow r s.1 (tot (spK p (zT r q m k))), grow r s.2.1 (tot (spK p (zT r q n k))),
   grow r s.2.2 (nn (wgt p (zT r q m k) (sub s.1 r)) (v * m) + nn (wgt p (zT r q n k) (sub s.2.1 r)) (v * n)))

/-- A state of the forward walk with real entries. -/
def rvF (x : Mat × Mat × Mat) : Fwd Ideal := (rv S512x128 .f32 x.1, rv S512x128 .f32 x.2.1, rv S512x128 .f32 x.2.2)

theorem both_rv (m n k : Mat) : both (rv S128x128 .bf16 m) (rv S128x128 .bf16 n) (rv S128x128 .bf16 k) = rv S256x128 .bf16 (vcat (k * m) (k * n)) := by
  simp only [both, rv_mulf, stack_eq, rv_stack]

theorem softp_rv (s : Shape) (z : Mat) : softp (rv s .f32 z) = rv s .f32 (spF z) := by
  simp only [softp, rv_zero, rv_one, rv_maximumf, rv_absf, rv_subf, rv_exp, rv_addf, rv_log1p]
  rfl

namespace Law

variable {n' : ℕ} {P : Part Ideal n'} {r : ℕ} {p : ℕ → ℕ → Bool} (h : Law P r p)
include h

theorem logits (q f g : Mat) : P.logits (rv S512x128 .bf16 q) (rv S256x128 .bf16 (vcat f g)) = rv (dbl n') .f32 (hcat (nt (sub q r) f) (nt (sub q r) g)) := by
  simp only [Part.logits, h.tail, rv_constant, h.nts]

theorem sumsL (f : Mat) : P.sums (rv S256x256 .bf16 laterM) (rv (nar n') .f32 f) = rv (dbl n') .f32 (hcat (suf f) (tot f)) := by
  simp only [Part.sums, rv_truncf, rv_extf, rv_subf, h.pair, rv_constant, h.later]

theorem sumsI (f : Mat) : P.sums (rv S256x256 .bf16 laterIM) (rv (nar n') .f32 f) = rv (dbl n') .f32 (hcat (sufi f) (tot f)) := by
  simp only [Part.sums, rv_truncf, rv_extf, rv_subf, h.pair, rv_constant, h.laterI]

theorem weight (z c : Mat) : P.weight (rv S256x256 .bf16 laterM) (rv (nar n') .f32 z) (rv S512x128 .f32 c) = rv (nar n') .bf16 (wgt p z (sub c r)) := by
  simp only [Part.weight, softp_rv, h.keep, h.sumsL, h.lft, h.tail, rv_subf, rv_addf, rv_exp, rv_truncf]
  rfl

theorem nextC (z c : Mat) : P.nextC (rv S256x256 .bf16 laterM) (rv (nar n') .f32 z) (rv S512x128 .f32 c) = rv S512x128 .f32 (grow r c (tot (spK p z))) := by
  simp only [Part.nextC, softp_rv, h.keep, h.sumsL, h.rgt, h.add]
  rfl

theorem fwd (q m n k v : Mat) (s : Mat × Mat × Mat) :
    P.fwd (rv S256x256 .bf16 laterM) (rv S512x128 .bf16 q) (rv S128x128 .bf16 m) (rv S128x128 .bf16 n) (rv S128x128 .bf16 k) (rv S128x128 .bf16 v) (rvF s)
      = rvF (fTile r p q m n k v s) := by
  simp only [Part.fwd, rvF, h.logits, h.lft, h.rgt, h.nextC, h.weight, h.pair, both_rv, rv_constant, h.nns, h.add]
  rfl

end Law

end Cert.Attn

end
-- ==== Proof.ValBwd.lean ====
/-
  One tile of the backward kernel's walk, and the kernel's constants, on real entries.
-/
module

public import proofs.«01_k».proof.Proof.ValFwd
public import proofs.«01_k».proof.Proof.Walk

@[expose] public section

noncomputable section

namespace Cert.Attn

open Cert.KernelIdeal Cert.KernelIdeal.Gen
open Idealize.ShloMosaic Idealize.ShloMosaic.ValueIdx
open scoped BigOperators

/-- The gradient of the logits of a tile, from the logits `z`, the products `g` of weight and weight gradient, their sum `d` over the later tiles and over all keys `t`. -/
def dlg (p : ℕ → ℕ → Bool) (z g d t : Mat) : Mat := iteF p (g * (1 - expF (z - spF z)) - (t - (sufi g + d)) * expF (z - spF z)) 0

/-- A head's products of weight and weight gradient, and its gradients of the logits. `c`, `d` are the sums carried in, `t` the sum over all keys. -/
def gT (r : ℕ) (p : ℕ → ℕ → Bool) (q o m k v c : Mat) : Mat := wgt p (zT r q m k) (sub c r) * zT r o m v
def eT (r : ℕ) (p : ℕ → ℕ → Bool) (q o m k v c d t : Mat) : Mat := dlg p (zT r q m k) (gT r p q o m k v c) (sub d r) (sub t r)

/-- What the backward walk carries on: two sums of logarithms, two sums of weight gradients, the gradient of the queries. -/
structure BSt where
  c0 : Mat
  c1 : Mat
  d0 : Mat
  d1 : Mat
  dq : Mat

/-- A carried state with real entries. -/
def rvB (x : BSt) : Bwd Ideal := (rv S512x128 .f32 x.c0, rv S512x128 .f32 x.c1, rv S512x128 .f32 x.d0, rv S512x128 .f32 x.d1, rv S512x128 .f32 x.dq)

/-- The carried state after a tile. -/
def bTile (r : ℕ) (p : ℕ → ℕ → Bool) (q o m n t u k v : Mat) (s : BSt) : BSt where
  c0 := grow r s.c0 (tot (spK p (zT r q m k)))
  c1 := grow r s.c1 (tot (spK p (zT r q n k)))
  d0 := grow r s.d0 (tot (gT r p q o m k v s.c0))
  d1 := grow r s.d1 (tot (gT r p q o n k v s.c1))
  dq := grow r s.dq (nn (eT r p q o m k v s.c0 s.d0 t) (k * m) + nn (eT r p q o n k v s.c1 s.d1 u) (k * n))

/-- The words of the walk with real entries. -/
def rvW (q o m n t u : Mat) : Wd Ideal where
  L := rv S256x256 .bf16 laterM
  I := rv S256x256 .bf16 laterIM
  q := rv S512x128 .bf16 q
  o := rv S512x128 .bf16 o
  m := rv S128x128 .bf16 m
  n := rv S128x128 .bf16 n
  t := rv S512x128 .f32 t
  u := rv S512x128 .f32 u
  h := mk S128x128 headB

namespace Law

variable {n' : ℕ} {P : Part Ideal n'} {r : ℕ} {p : ℕ → ℕ → Bool} (h : Law P r p) (q o m n t u k v x : Mat) (s : BSt)
include h

theorem dlogits (z g d t : Mat) :
    P.dlogits (rv S256x256 .bf16 laterIM) (rv (nar n') .f32 z) (rv (nar n') .f32 g) (rv S512x128 .f32 d) (rv S512x128 .f32 t)
      = rv (nar n') .bf16 (dlg p z g (sub d r) (sub t r)) := by
  simp only [Part.dlogits, softp_rv, h.keep, h.sumsI, h.lft, h.tail, rv_subf, rv_addf, rv_mulf, rv_exp, rv_one, rv_truncf]
  rfl

theorem nextD (g d : Mat) : P.nextD (rv S256x256 .bf16 laterIM) (rv (nar n') .f32 g) (rv S512x128 .f32 d) = rv S512x128 .f32 (grow r d (tot g)) := by
  simp only [Part.nextD, h.sumsI, h.rgt, h.add]
  rfl

theorem w0 : P.w0 (rvW q o m n t u) (rv S128x128 .bf16 k) (rvB s) = rv (nar n') .bf16 (wgt p (zT r q m k) (sub s.c0 r)) := by
  simp only [Part.w0, rvW, rvB, both_rv, h.logits, h.lft, h.weight]
  rfl
theorem w1 : P.w1 (rvW q o m n t u) (rv S128x128 .bf16 k) (rvB s) = rv (nar n') .bf16 (wgt p (zT r q n k) (sub s.c1 r)) := by
  simp only [Part.w1, rvW, rvB, both_rv, h.logits, h.rgt, h.weight]
  rfl

theorem g0 : P.g0 (rvW q o m n t u) (rv S128x128 .bf16 k) (rv S128x128 .bf16 v) (rvB s) = rv (nar n') .f32 (gT r p q o m k v s.c0) := by
  rw [Part.g0, h.w0]
  simp only [Part.prod, rvW, both_rv, h.logits, h.lft, rv_extf, rv_mulf]
  rfl
theorem g1 : P.g1 (rvW q o m n t u) (rv S128x128 .bf16 k) (rv S128x128 .bf16 v) (rvB s) = rv (nar n') .f32 (gT r p q o n k v s.c1) := by
  rw [Part.g1, h.w1]
  simp only [Part.prod, rvW, both_rv, h.logits, h.rgt, rv_extf, rv_mulf]
  rfl

theorem e0 : P.e0 (rvW q o m n t u) (rv S128x128 .bf16 k) (rv S128x128 .bf16 v) (rvB s) = rv (nar n') .bf16 (eT r p q o m k v s.c0 s.d0 t) := by
  rw [Part.e0, h.g0]
  simp only [rvW, rvB, both_rv, h.logits, h.lft, h.dlogits]
  rfl
theorem e1 : P.e1 (rvW q o m n t u) (rv S128x128 .bf16 k) (rv S128x128 .bf16 v) (rvB s) = rv (nar n') .bf16 (eT r p q o n k v s.c1 s.d1 u) := by
  rw [Part.e1, h.g1]
  simp only [rvW, rvB, both_rv, h.logits, h.rgt, h.dlogits]
  rfl

theorem bwd : P.bwd (rvW q o m n t u) (rv S128x128 .bf16 k) (rv S128x128 .bf16 v) (rvB s) = rvB (bTile r p q o m n t u k v s) := by
  rw [Part.bwd, h.g0, h.g1, h.e0, h.e1]
  simp only [rvW, rvB, both_rv, h.logits, h.lft, h.rgt, h.nextC, h.nextD, h.pair, rv_constant, h.nns, h.add]
  rfl

theorem keys (e e' b : Mat) : P.keys (rvW q o m n t u) (rv (nar n') .bf16 e) (rv (nar n') .bf16 e') (rv S512x128 .bf16 b) (rv S128x128 .f32 x)
    = rv S128x128 .f32 (x + iteF headB (tn n' e (sub b r)) (tn n' e' (sub b r))) := by
  simp only [Part.keys, rvW, h.tail, h.pair, rv_constant, h.tns, rv_upper, rv_lower, down_vcat, rv_vcat_upper, rv_shapeCast, rv_select, rv_addf]

theorem dk : P.dk (rvW q o m n t u) (rv S128x128 .bf16 k) (rv S128x128 .bf16 v) (rvB s) (rv S128x128 .f32 x)
    = rv S128x128 .f32 (x + iteF headB (tn n' (eT r p q o m k v s.c0 s.d0 t) (sub q r)) (tn n' (eT r p q o n k v s.c1 s.d1 u) (sub q r))) := by
  rw [Part.dk, h.e0, h.e1]
  exact h.keys q o m n t u x _ _ q

theorem dv : P.dv (rvW q o m n t u) (rv S128x128 .bf16 k) (rvB s) (rv S128x128 .f32 x)
    = rv S128x128 .f32 (x + iteF headB (tn n' (wgt p (zT r q m k) (sub s.c0 r)) (sub o r)) (tn n' (wgt p (zT r q n k) (sub s.c1 r)) (sub o r))) := by
  rw [Part.dv, h.w0, h.w1]
  exact h.keys q o m n t u x _ _ o

end Law

/-! ## Masks and constants -/

theorem headM_eq : headM = iteF headB 1 0 := by
  funext a b
  by_cases h : b < 64 <;> simp [headM, iteF, headB, h]

theorem pay261_eq : (k1_pay261 (F := Ideal)) = rv S256x256 .bf16 laterM := pay131_eq

theorem pay262_eq : (k1_pay262 (F := Ideal)) = rv S256x256 .bf16 laterIM := by
  funext j
  obtain ⟨a, b, rfl⟩ : ∃ (a : Fin 256) (b : Fin 256), j = ix2 a b := ⟨j 0, j 1, eq_ix2 j⟩
  show Scalar.select (IntOp.ori (IntOp.cmpi .sge (IntOp.andi (BitVec.ofNat 32 (0 * 256 + a.val)) 127#32) (BitVec.ofNat 32 (0 * 256 + b.val)))
    (IntOp.cmpi .sge (BitVec.ofNat 32 (0 * 256 + b.val)) 128#32)) (Scalar.ofBits .f32 0x3F800000#32 : Ideal .f32) (Scalar.ofBits .f32 0x00000000#32 : Ideal .f32) = _
  rw [show 0 * 256 + a.val = a.val by omega, show 0 * 256 + b.val = b.val by omega, laterI_bit _ _ a.isLt b.isLt, sel_bit]
  rfl

theorem pay263_eq (q : Mat) : k1_pay263 (rv S512x128 .bf16 q) = rv S512x128 .bf16 (q * fun _ _ => 1 / 8) := pay132_eq q

theorem pay265_eq : k1_pay265 = mk S128x128 headB := by
  funext j
  obtain ⟨a, b, rfl⟩ : ∃ (a : Fin 128) (b : Fin 128), j = ix2 a b := ⟨j 0, j 1, eq_ix2 j⟩
  show IntOp.cmpi .slt (BitVec.ofNat 32 (0 * 128 + b.val)) 64#32 = _
  rw [show 0 * 128 + b.val = b.val by omega, head_bit _ (by omega)]
  rfl

theorem pay271_eq : k1_pay271 = mk S512x128 headB := by
  funext j
  obtain ⟨a, b, rfl⟩ : ∃ (a : Fin 512) (b : Fin 128), j = ix2 a b := ⟨j 0, j 1, eq_ix2 j⟩
  show IntOp.cmpi .slt (BitVec.ofNat 32 (0 * 128 + b.val)) 64#32 = _
  rw [show 0 * 128 + b.val = b.val by omega, head_bit _ (by omega)]
  rfl

theorem pay274_eq : k1_pay274 = mk S128x128 headB := by
  rw [k1_pay274, pay271_eq]
  funext j
  obtain ⟨a, b, rfl⟩ : ∃ (a : Fin 128) (b : Fin 128), j = ix2 a b := ⟨j 0, j 1, eq_ix2 j⟩
  show BitVec.ofBool (headB (0 + a.val) (0 + b.val)) = _
  rw [Nat.zero_add, Nat.zero_add]
  rfl

theorem pay269_eq : k1_pay269 k1_pay265 (k1_pay266 (F := Ideal)) (k1_pay267 (F := Ideal)) = rv S128x128 .bf16 headM := by
  simp only [k1_pay269, k1_pay268, k1_pay266, k1_pay267, pay265_eq, rv_one, rv_zero, rv_select, rv_truncf, headM_eq]

theorem pay270_eq : k1_pay270 k1_pay265 (k1_pay266 (F := Ideal)) (k1_pay267 (F := Ideal)) = rv S128x128 .bf16 (1 - headM) := by
  simp only [k1_pay270, k1_pay268, k1_pay266, k1_pay267, pay265_eq, rv_one, rv_zero, rv_select, rv_truncf, headM_eq, rv_subf]

theorem pay275_eq : (k1_pay275 (F := Ideal)) = rv S512x128 .f32 0 := by
  simp only [k1_pay275, rv_zero]

theorem pay264_eq (o o32 : Mat) : k1_pay264 (rv S512x128 .bf16 o) (rv S512x128 .f32 o32) = rv S512x128 .f32 (o * o32) := by
  simp only [k1_pay264, rv_extf, rv_shapeCast, rv_mulf]

/-- A row's sum, in every column. -/
theorem rv_rowsum (f : Mat) (h : S512x128.Reduces [1] S512) (h1 h2 h3 h4 h5) :
    broadcastTo S512x128 (shapeCast S512x1 (shapeCast S512x1 (multiReduction .add [1] S512 (rv S512x128 .f32 f) 0x00000000#32 h h1 h2) h3) h4) h5 = rv S512x128 .f32 (tot f) := by
  funext j
  obtain ⟨a, b, rfl⟩ : ∃ (a : Fin 512) (b : Fin 128), j = ix2 a b := ⟨j 0, j 1, eq_ix2 j⟩
  rw [shapeCast_self, broadcastTo_apply (s := S512x1) _ h5 (ix2 a b) (ix2 (n0 := 512) (n1 := 1) a 0) (fun d => by match d with | ⟨0, _⟩ => rfl | ⟨1, _⟩ => rfl),
    shapeCast_apply (s := S512) (t := S512x1) _ h3 (ix2 (n0 := 512) (n1 := 1) a 0) (ix1 (n := 512) a) (by rw [Shape.rowMajor_val_one, Shape.rowMajor_val_two]; show a.val = a.val * 1 + 0; omega), Ideal.multiReduction_add_single]
  have e : ∀ k : Fin 128, rv S512x128 .f32 f (h.lift (ix1 (n := 512) a) k) = ((f a.val k.val : ℝ) : EReal) := fun k => rfl
  have e' : ∑ k : Fin 128, rv S512x128 .f32 f (h.lift (ix1 (n := 512) a) k) = rv S512x128 .f32 (tot f) (ix2 a b) := by
    rw [Finset.sum_congr rfl fun k _ => e k, Fin.sum_univ_eq_sum_range (fun x => ((f a.val x : ℝ) : EReal)) 128, ← coe_sum, Finset.range_eq_Ico]
    rfl
  exact e'

theorem pay272_eq (x : Mat) : k1_pay272 (rv S512x128 .f32 x) = rv S512x128 .f32 (tot (iteF headB x 0)) := by
  simp only [k1_pay272, pay271_eq, rv_zero, rv_select]
  exact rv_rowsum _ _ _ _ _ _ _

/-- The lanes of the second head. -/
def headC : ℕ → ℕ → Bool := fun _ b => !decide (b < 64)

theorem xor_head : xori (mk S512x128 headB) (constantI S512x128 1 1#1) = mk S512x128 headC := by
  funext j
  show IntOp.xori (BitVec.ofBool (headB (crd j 0) (crd j 1))) 1#1 = BitVec.ofBool (headC (crd j 0) (crd j 1))
  unfold headB headC
  cases decide (crd j 1 < 64) <;> rfl

theorem pay273_eq (x : Mat) : k1_pay273 (rv S512x128 .f32 x) = rv S512x128 .f32 (tot (iteF headC x 0)) := by
  simp only [k1_pay273, pay271_eq, xor_head, rv_zero, rv_select]
  exact rv_rowsum _ _ _ _ _ _ _

/-- The scaled queries. -/
def eighth (q : Mat) : Mat := q * fun _ _ => 1 / 8

theorem words_rv (q o o32 : Mat) : words (rv S512x128 .bf16 q) (rv S512x128 .bf16 o) (rv S512x128 .f32 o32)
    = rvW (eighth q) o headM (1 - headM) (tot (iteF headB (o * o32) 0)) (tot (iteF headC (o * o32) 0)) := by
  rw [words, pay261_eq, pay262_eq, pay263_eq, pay269_eq, pay270_eq, pay264_eq, pay272_eq, pay273_eq, pay274_eq]
  rfl

end Cert.Attn

end
-- ==== Proof.Sem.lean ====
/-
  What the two walks compute, as sums over keys. A row `t` of queries meets the keys `s` before it; the sums below run over the keys under a bound `U` past the row. The states of
  the walks are those sums over the keys visited so far.
-/
module

public import proofs.«01_k».proof.Proof.ValBwd

@[expose] public section

noncomputable section

namespace Cert.Attn

open scoped BigOperators

/-- The same entries in every row. -/
def rows (μ : ℕ → ℝ) : Mat := fun _ l => μ l

/-- The sum of `p` over the keys from `S` up to `U`. -/
def tail (p : ℕ → ℝ) (U S : ℕ) : ℝ := ∑ x ∈ Finset.Ico S U, p x

section
variable {f : Mat} {p : ℕ → ℝ} {a o U : ℕ}

theorem sum_shift (p : ℕ → ℝ) (o b c : ℕ) : ∑ x ∈ Finset.Ico b c, p (o + x) = ∑ x ∈ Finset.Ico (o + b) (o + c), p x := by
  rw [Finset.sum_Ico_add p b c o, add_comm b, add_comm c]

theorem sufi_tail (h : ∀ x < 128, f a x = p (o + x)) (hU : o + 128 ≤ U) {b : ℕ} (hb : b ≤ 128) : sufi f a b + tail p U (o + 128) = tail p U (o + b) := by
  have e : sufi f a b = ∑ x ∈ Finset.Ico (o + b) (o + 128), p x := by
    rw [← sum_shift]
    exact Finset.sum_congr rfl fun x hx => h x (Finset.mem_Ico.1 hx).2
  rw [e, tail, tail, Finset.sum_Ico_consecutive _ (by omega) hU]

theorem suf_tail (h : ∀ x < 128, f a x = p (o + x)) (hU : o + 128 ≤ U) {b : ℕ} (hb : b < 128) : suf f a b + tail p U (o + 128) = tail p U (o + b + 1) :=
  sufi_tail (b := b + 1) h hU hb

theorem tot_tail (h : ∀ x < 128, f a x = p (o + x)) (hU : o + 128 ≤ U) (b : ℕ) : tail p U (o + 128) + tot f a b = tail p U o := by
  rw [add_comm]; exact sufi_tail (b := 0) h hU (by omega)

end

/-! ## One head -/

/-- `max z 0 + log (1 + exp (-|z|))`. -/
def sp (z : ℝ) : ℝ := max z 0 + Real.log (1 + Real.exp (0 - |z|))

theorem spF_apply (z : Mat) (a b : ℕ) : spF z a b = sp (z a b) := rfl

section
variable (Q D K V : Mat) (μ : ℕ → ℝ) (T : ℕ → ℝ) (U : ℕ)

/-- The logit of row `t` and key `s`. -/
def zz (t s : ℕ) : ℝ := ∑ l ∈ Finset.range 128, Q t l * (K s l * μ l)
/-- What key `s` adds to the logarithm of row `t`. -/
def pp (t s : ℕ) : ℝ := if s < t then sp (zz Q K μ t s) else 0
/-- The sum of the logarithms of the keys from `S` on. -/
def cc (t S : ℕ) : ℝ := tail (pp Q K μ t) U S
/-- The weight of key `s` in row `t`. -/
def aa (t s : ℕ) : ℝ := if s < t then Real.exp ((zz Q K μ t s - sp (zz Q K μ t s)) - cc Q K μ U t (s + 1)) else 0
/-- The weight times its gradient. -/
def gg (t s : ℕ) : ℝ := aa Q K μ U t s * ∑ l ∈ Finset.range 128, D t l * (V s l * μ l)
/-- Its sum over the keys from `S` on. -/
def dd (t S : ℕ) : ℝ := tail (gg Q D K V μ U t) U S
/-- The gradient of the logit; `T t` is the sum of `gg` over all keys. -/
def ee (t s : ℕ) : ℝ :=
  if s < t then gg Q D K V μ U t s * (1 - Real.exp (zz Q K μ t s - sp (zz Q K μ t s)))
      - (T t - dd Q D K V μ U t s) * Real.exp (zz Q K μ t s - sp (zz Q K μ t s)) else 0

/-- The rows from `R` on of a function of row and key, the key's place kept. -/
def colr (f : ℕ → ℕ → ℝ) (R S : ℕ) : Mat := fun a _ => f (R + a) S

theorem nt_sub (R o : ℕ) : nt (sub Q R) (sub K o * rows μ) = fun a b => zz Q K μ (R + a) (o + b) := rfl

variable {Q D K V μ T U}

theorem pp_zero {t s : ℕ} (h : t ≤ s) : pp Q K μ t s = 0 := if_neg (by omega)
theorem aa_zero {t s : ℕ} (h : t ≤ s) : aa Q K μ U t s = 0 := if_neg (by omega)
theorem gg_zero {t s : ℕ} (h : t ≤ s) : gg Q D K V μ U t s = 0 := by rw [gg, aa_zero h, zero_mul]
theorem ee_zero {t s : ℕ} (h : t ≤ s) : ee Q D K V μ T U t s = 0 := if_neg (by omega)

/-! ### A tile: keys from `o` on, rows from `R` on

The entries kept are those where the key comes before the row. Before the diagonal that is every entry. -/

section
variable {p : ℕ → ℕ → Bool} {n R o : ℕ} (hp : ∀ a < n, ∀ b < 128, p a b = decide (o + b < R + a)) (hU : o + 128 ≤ U)
include hp

theorem tile_p {a x : ℕ} (ha : a < n) (hx : x < 128) : spK p (nt (sub Q R) (sub K o * rows μ)) a x = pp Q K μ (R + a) (o + x) := by
  rw [nt_sub]
  unfold spK iteF pp
  rw [hp a ha x hx]
  by_cases h : o + x < R + a
  · rw [if_pos (by simpa using h), if_pos h]; rfl
  · rw [if_neg (by simpa using h), if_neg h]; rfl

include hU

theorem tile_c {a : ℕ} (ha : a < n) (b : ℕ) : (colr (cc Q K μ U) R (o + 128) + tot (spK p (nt (sub Q R) (sub K o * rows μ)))) a b = cc Q K μ U (R + a) o :=
  tot_tail (fun _ hx => tile_p hp ha hx) hU b

theorem tile_w {a b : ℕ} (ha : a < n) (hb : b < 128) :
    wgt p (nt (sub Q R) (sub K o * rows μ)) (colr (cc Q K μ U) R (o + 128)) a b = aa Q K μ U (R + a) (o + b) := by
  unfold wgt iteF aa
  rw [hp a ha b hb]
  by_cases h : o + b < R + a
  · rw [if_pos (by simpa using h), if_pos h]
    exact congrArg (fun y => Real.exp (_ - y)) (suf_tail (fun _ hx => tile_p hp ha hx) hU hb)
  · rw [if_neg (by simpa using h), if_neg h]; rfl

theorem tile_g {a b : ℕ} (ha : a < n) (hb : b < 128) :
    (wgt p (nt (sub Q R) (sub K o * rows μ)) (colr (cc Q K μ U) R (o + 128)) * nt (sub D R) (sub V o * rows μ)) a b = gg Q D K V μ U (R + a) (o + b) := by
  rw [gg, ← tile_w hp hU ha hb]; rfl

theorem tile_d {a : ℕ} (ha : a < n) (b : ℕ) :
    (colr (dd Q D K V μ U) R (o + 128) + tot (wgt p (nt (sub Q R) (sub K o * rows μ)) (colr (cc Q K μ U) R (o + 128)) * nt (sub D R) (sub V o * rows μ))) a b
      = dd Q D K V μ U (R + a) o :=
  tot_tail (fun _ hx => tile_g hp hU ha hx) hU b

theorem tile_e {a b : ℕ} (ha : a < n) (hb : b < 128) :
    dlg p (nt (sub Q R) (sub K o * rows μ)) (wgt p (nt (sub Q R) (sub K o * rows μ)) (colr (cc Q K μ U) R (o + 128)) * nt (sub D R) (sub V o * rows μ))
      (colr (dd Q D K V μ U) R (o + 128)) (fun a _ => T (R + a)) a b = ee Q D K V μ T U (R + a) (o + b) := by
  unfold dlg iteF ee
  rw [hp a ha b hb]
  by_cases h : o + b < R + a
  · rw [if_pos (by simpa using h), if_pos h, ← tile_g hp hU ha hb, dd, ← sufi_tail (fun _ hx => tile_g hp hU ha hx) hU hb.le]
    rfl
  · rw [if_neg (by simpa using h), if_neg h]; rfl

end

end

/-! ## Products with the tiles -/

theorem nn_sum {w f X : Mat} {F : ℕ → ℕ → ℝ} {R o a b : ℕ} (hw : ∀ x < 128, w a x = F (R + a) (o + x)) (hf : ∀ x, f x b = X (o + x) b) :
    nn w f a b = ∑ s ∈ Finset.Ico o (o + 128), F (R + a) s * X s b := by
  rw [show Finset.Ico o (o + 128) = Finset.Ico (o + 0) (o + 128) from rfl, ← sum_shift (fun s => F (R + a) s * X s b), ← Finset.range_eq_Ico]
  exact Finset.sum_congr rfl fun x hx => by rw [hw x (Finset.mem_range.1 hx), hf]

end Cert.Attn

end
-- ==== Proof.RefOps.lean ====
/-
  The reference's array operations on real entries: `rv3 s φ f` is the array of rank three whose entry at `a`, `b`, `c` is the real number `f a b c`. The operations of the reference take
  such arrays to such arrays.
-/
module

public import proofs.«01_k».proof.Proof.Sem
public import proofs.«01_k».proof.ReferenceIdeal

@[expose] public section

noncomputable section

namespace Cert.Attn

open Cert.ReferenceIdeal
open Idealize.ShloMosaic Idealize.ShloMosaic.ValueIdx
open scoped BigOperators

/-- A real function of a head, a row and a column. -/
abbrev Ten : Type := ℕ → ℕ → ℕ → ℝ

/-- The array of real entries `f`. -/
def rv3 (s : Shape) (φ : FTy) (f : Ten) : FVec Ideal s φ := fun i => ((f (crd i 0) (crd i 1) (crd i 2) : ℝ) : EReal)

/-- The mask of the entries where `p` holds. -/
def mk3 (s : Shape) (p : ℕ → ℕ → ℕ → Bool) : IVec s 1 := fun i => BitVec.ofBool (p (crd i 0) (crd i 1) (crd i 2))

/-- Column `c` before row `b`. -/
def before : ℕ → ℕ → ℕ → Bool := fun _ b c => decide (c < b)

def exp3 (f : Ten) : Ten := fun a b c => Real.exp (f a b c)
def ite3 (p : ℕ → ℕ → ℕ → Bool) (f g : Ten) : Ten := fun a b c => if p a b c then f a b c else g a b c
def sp3 (f : Ten) : Ten := fun a b c => sp (f a b c)

section
variable {s : Shape} {φ : FTy} (f g : Ten)

theorem rv3_addf : addf (rv3 s φ f) (rv3 s φ g) = rv3 s φ (f + g) := by
  funext i; exact (EReal.coe_add _ _).symm
theorem rv3_subf : subf (rv3 s φ f) (rv3 s φ g) = rv3 s φ (f - g) := by
  funext i; exact (EReal.coe_sub _ _).symm
theorem rv3_mulf : mulf (rv3 s φ f) (rv3 s φ g) = rv3 s φ (f * g) := by
  funext i; exact (EReal.coe_mul _ _).symm
theorem rv3_negf : Host.negf (rv3 s φ f) = rv3 s φ (-f) := by
  funext i; exact (EReal.coe_neg _).symm
theorem rv3_exp : Host.exp (rv3 s φ f) = rv3 s φ (exp3 f) := by
  funext i; exact Ideal.exp_coe _
theorem rv3_select (p : ℕ → ℕ → ℕ → Bool) : select (mk3 s p) (rv3 s φ f) (rv3 s φ g) = rv3 s φ (ite3 p f g) := by
  funext i
  show Scalar.select (BitVec.ofBool (p (crd i 0) (crd i 1) (crd i 2))) _ _ = ((ite3 p f g (crd i 0) (crd i 1) (crd i 2) : ℝ) : EReal)
  unfold ite3
  cases p (crd i 0) (crd i 1) (crd i 2) <;> rfl

theorem rv3_zero (h : S_.BroadcastsInDim s (![] : Fin 0 → Fin s.rank)) :
    broadcastInDim s ![] h (constant S_ .f32 0x00000000#32 : FVec Ideal S_ .f32) = rv3 s .f32 0 := by
  funext i; exact ofBits_zero
theorem rv3_zero' (h : S_.BroadcastsInDim s (![] : Fin 0 → Fin s.rank)) :
    broadcastInDim s ![] h (id (constant S_ .f32 0x00000000#32 : FVec Ideal S_ .f32)) = rv3 s .f32 0 := rv3_zero h
theorem rv3_eighth (h : S_.BroadcastsInDim s (![] : Fin 0 → Fin s.rank)) :
    broadcastInDim s ![] h (constant S_ .f32 0x3E000000#32 : FVec Ideal S_ .f32) = rv3 s .f32 (fun _ _ _ => 1 / 8) := by
  funext i; exact ofBits_eighth

/-- No entry differs from itself. -/
theorem select_une {x : FVec Ideal s φ} {α : Type} (u w : s.Idx → α) : select (cmpf .une x x) u w = w := by
  funext i
  show Scalar.select (BitVec.ofBool (decide (x i ≠ x i))) _ _ = _
  rw [decide_eq_false (by simp)]; rfl

theorem ofBits_inf : (Scalar.ofBits .f32 0x7F800000#32 : Ideal .f32) = (⊤ : EReal) := by
  simp [Scalar.ofBits, Ideal.ofBits, Ideal.ieee]

/-- No real entry is infinite. -/
theorem select_inf (h : S_.BroadcastsInDim s (![] : Fin 0 → Fin s.rank)) {α : Type} (u w : s.Idx → α) :
    select (cmpf .oeq (rv3 s .f32 f) (broadcastInDim s ![] h (constant S_ .f32 0x7F800000#32 : FVec Ideal S_ .f32))) u w = w := by
  funext i
  show Scalar.select (BitVec.ofBool (decide (((f (crd i 0) (crd i 1) (crd i 2) : ℝ) : EReal) = (Scalar.ofBits .f32 0x7F800000#32 : Ideal .f32)))) _ _ = _
  rw [ofBits_inf, decide_eq_false (EReal.coe_ne_top _)]; rfl

/-- The logarithm of one plus the exponential, as it prints. -/
theorem rv3_softplus : addf (maximumf (rv3 s φ f) (rv3 s φ 0)) (Host.log1p (Host.exp (Host.negf (Host.absf (rv3 s φ f))))) = rv3 s φ (sp3 f) := by
  funext i
  obtain ⟨z, hz⟩ : ∃ z, z = f (crd i 0) (crd i 1) (crd i 2) := ⟨_, rfl⟩
  have ha : max ((z : ℝ) : EReal) (-((z : ℝ) : EReal)) = ((|z| : ℝ) : EReal) := by
    rw [← EReal.coe_neg, abs, ← (EReal.coe_strictMono.monotone).map_max]
  have h0 : max ((z : ℝ) : EReal) ((0 : ℝ) : EReal) = ((max z 0 : ℝ) : EReal) := ((EReal.coe_strictMono.monotone).map_max).symm
  have hl : Ideal.log1p (Ideal.exp (-((|z| : ℝ) : EReal))) = ((Real.log (1 + Real.exp (0 - |z|)) : ℝ) : EReal) := by
    rw [zero_sub, ← EReal.coe_neg, Ideal.exp_coe]
    show Ideal.log (((1 : ℝ) : EReal) + _) = _
    rw [← EReal.coe_add, Ideal.log_coe, if_neg (not_le.2 (by positivity))]
  show max ((f (crd i 0) (crd i 1) (crd i 2) : ℝ) : EReal) ((0 : ℝ) : EReal)
      + Ideal.log1p (Ideal.exp (-(max ((f (crd i 0) (crd i 1) (crd i 2) : ℝ) : EReal) (-((f (crd i 0) (crd i 1) (crd i 2) : ℝ) : EReal))))) = ((sp (f (crd i 0) (crd i 1) (crd i 2)) : ℝ) : EReal)
  rw [← hz, ha, h0, hl, ← EReal.coe_add]
  rfl

end

/-! ## Products -/

theorem dot_sum {sl sr so : Shape} (d : DotDims sl sr so) (K : ℕ) (hr : d.contr.rank = 1) (hs : d.contr.size ⟨0, by omega⟩ = K)
    (x : FVec Ideal sl .f32) (y : FVec Ideal sr .f32) (u v : so.Idx → ℕ → ℝ)
    (hx : ∀ j (q : d.contr.Idx), x (d.lhsIdx j q) = ((u j (q ⟨0, by omega⟩).val : ℝ) : EReal))
    (hy : ∀ j (q : d.contr.Idx), y (d.rhsIdx j q) = ((v j (q ⟨0, by omega⟩).val : ℝ) : EReal)) :
    Host.dotGeneral d none x y = fun j => ((∑ k ∈ Finset.range K, u j k * v j k : ℝ) : EReal) := by
  funext j
  show FloatOps.dotGeneral d none _ x y j = _
  rw [Ideal.dotGeneral_apply, ← Equiv.sum_comp (contrEquiv1 d K hr hs).symm]
  have e : ∀ k : Fin K, x (d.lhsIdx j ((contrEquiv1 d K hr hs).symm k)) * y (d.rhsIdx j ((contrEquiv1 d K hr hs).symm k))
      = ((u j k.val : ℝ) : EReal) * ((v j k.val : ℝ) : EReal) := by
    intro k
    have hk := contrEquiv1_symm_val d K hr hs k
    rw [hx, hy, hk]
  rw [Finset.sum_congr rfl fun k _ => e k, coe_sum_mul K (u j) (v j)]

/-! ## The mask -/

theorem mask_eq (h1 h2 h3 h4 h5) :
    broadcastInDim S8x4096x4096 ![1, 2] h1 (cmpi .slt (broadcastInDim S4096x4096 ![0, 1] h2 (broadcastInDim S1x4096 ![1] h3 (iotaInDim S4096 32 0)))
      (broadcastInDim S4096x4096 ![0, 1] h4 (broadcastInDim S4096x1 ![0] h5 (iotaInDim S4096 32 0)))) = mk3 S8x4096x4096 before := by
  funext j
  obtain ⟨a, b, c, rfl⟩ : ∃ (a : Fin 8) (b c : Fin 4096), j = ix3 a b c := ⟨j 0, j 1, j 2, eq_ix3 j⟩
  show BitVec.ofBool ((BitVec.ofNat 32 c.val).slt (BitVec.ofNat 32 b.val)) = BitVec.ofBool (decide (c.val < b.val))
  have hb := b.isLt
  have hc := c.isLt
  have eb : (BitVec.ofNat 32 b.val).toInt = b.val := by
    rw [BitVec.toInt_eq_toNat_cond, BitVec.toNat_ofNat, Nat.mod_eq_of_lt (by omega), if_pos (by omega)]
  have ec : (BitVec.ofNat 32 c.val).toInt = c.val := by
    rw [BitVec.toInt_eq_toNat_cond, BitVec.toNat_ofNat, Nat.mod_eq_of_lt (by omega), if_pos (by omega)]
  rw [BitVec.slt, eb, ec]
  congr 1
  exact decide_eq_decide.2 Nat.cast_lt

/-! ## Heads -/

/-- The columns of a head apart. -/
theorem split_heads (Y : Mat) (h1 h2) :
    transpose S8x4096x64 [1, 0, 2] (shapeCast S4096x8x64 (rv S4096x512 .f32 Y) h1) h2 = rv3 S8x4096x64 .f32 (fun h t d => Y t (64 * h + d)) := by
  funext j
  obtain ⟨a, b, c, rfl⟩ : ∃ (a : Fin 8) (b : Fin 4096) (c : Fin 64), j = ix3 a b c := ⟨j 0, j 1, j 2, eq_ix3 j⟩
  have e : h2.src (ix3 a b c) = (ix3 b a c : S4096x8x64.Idx) := by
    funext k; match k with | ⟨0, _⟩ => rfl | ⟨1, _⟩ => rfl | ⟨2, _⟩ => rfl
  show shapeCast S4096x8x64 _ h1 (h2.src (ix3 a b c)) = _
  rw [e]
  have ha := a.isLt
  have hc := c.isLt
  refine (shapeCast_apply _ h1 (ix3 b a c) (ix2 b ⟨64 * a.val + c.val, by omega⟩) ?_).trans rfl
  rw [Shape.rowMajor_val_three, Shape.rowMajor_val_two]
  show b.val * 512 + (64 * a.val + c.val) = (b.val * 8 + a.val) * 64 + c.val
  omega

/-- The columns of all heads beside each other. -/
theorem join_heads (f : Ten) (h1 h2) :
    shapeCast S4096x512 (transpose S4096x8x64 [1, 0, 2] (rv3 S8x4096x64 .f32 f) h1) h2 = rv S4096x512 .f32 (fun t j => f (j / 64) t (j % 64)) := by
  funext j
  obtain ⟨a, b, rfl⟩ : ∃ (a : Fin 4096) (b : Fin 512), j = ix2 a b := ⟨j 0, j 1, eq_ix2 j⟩
  have hb := b.isLt
  refine (shapeCast_apply _ h2 (ix2 a b) (ix3 a ⟨b.val / 64, by omega⟩ ⟨b.val % 64, by omega⟩) ?_).trans ?_
  · rw [Shape.rowMajor_val_three, Shape.rowMajor_val_two]
    show (a.val * 8 + b.val / 64) * 64 + b.val % 64 = a.val * 512 + b.val
    omega
  · show rv3 S8x4096x64 .f32 f (h1.src _) = _
    have e : h1.src (ix3 a ⟨b.val / 64, by omega⟩ ⟨b.val % 64, by omega⟩ : S4096x8x64.Idx) = (ix3 ⟨b.val / 64, by omega⟩ a ⟨b.val % 64, by omega⟩ : S8x4096x64.Idx) := by
      funext k; match k with | ⟨0, _⟩ => rfl | ⟨1, _⟩ => rfl | ⟨2, _⟩ => rfl
    rw [e]; rfl

/-! ## Sums along a row -/

/-- The sum of the columns from `c` on. -/
def fromC (f : Ten) : Ten := fun a b c => ∑ x ∈ Finset.Ico c 4096, f a b x
/-- The sum of the columns up to `c`. -/
def upTo (f : Ten) : Ten := fun a b c => ∑ x ∈ Finset.range (c + 1), f a b x

theorem foldl_sum {n : ℕ} (g : Fin n → EReal) (v : EReal) : (List.finRange n).foldl (fun r k => r + g k) v = v + ∑ k : Fin n, g k := by
  have h : ∀ (l : List (Fin n)) (v : EReal), l.foldl (fun r k => r + g k) v = v + (l.map g).sum := by
    intro l
    induction l with
    | nil => intro v; simp
    | cons k l ih => intro v; rw [List.foldl_cons, ih, List.map_cons, List.sum_cons, add_assoc]
  rw [h, ← List.ofFn_eq_map, List.sum_ofFn]

section
variable {n0 n1 N : ℕ}

/-- The shape of a window that is a whole row. -/
abbrev rowWin (N : ℕ) : Shape := ⟨3, ![1, 1, N]⟩

theorem sum_rowWin (g : (rowWin N).Idx → EReal) : ∑ n : Fin (rowWin N).numel, g ((rowWin N).rowMajor.symm n) = ∑ k : Fin N, g (ix3 0 0 k) := by
  rw [Equiv.sum_comp (rowWin N).rowMajor.symm g]
  refine (Fintype.sum_equiv ⟨fun k : Fin N => (ix3 (0 : Fin 1) (0 : Fin 1) k : (rowWin N).Idx), fun i => i 2, fun k => rfl, fun i => ?_⟩ _ _ fun k => rfl).symm
  funext d
  match d with
  | ⟨0, _⟩ => exact Fin.ext (by have := (i 0).isLt; change (i 0).val < 1 at this; show 0 = (i 0).val; omega)
  | ⟨1, _⟩ => exact Fin.ext (by have := (i 1).isLt; change (i 1).val < 1 at this; show 0 = (i 1).val; omega)
  | ⟨2, _⟩ => rfl

theorem window_sum (lo hi : Fin 3 → ℕ) (f : Ten) {u : Shape} (h : (⟨3, ![n0, n1, N]⟩ : Shape).ReduceWindows (![1, 1, N] : Fin 3 → ℕ) ![1, 1, 1] lo hi ⟨3, ![n0, n1, N]⟩)
    (h0 : lo 0 = 0) (h1 : lo 1 = 0) (z : FVec Ideal u .f32) (hu : 0 < u.numel) (hz : ∀ i, z i = ((0 : ℝ) : EReal)) (a : Fin n0) (b : Fin n1) (c : Fin N) :
    Host.reduceWindowAdd (s := ⟨3, ![n0, n1, N]⟩) ![1, 1, N] ![1, 1, 1] lo hi (rv3 ⟨3, ![n0, n1, N]⟩ .f32 f) z h hu (ix3 a b c)
      = ((∑ k ∈ Finset.range N, (if lo 2 ≤ c.val + k ∧ c.val + k - lo 2 < N then f a.val b.val (c.val + k - lo 2) else 0) : ℝ) : EReal) := by
  unfold Host.reduceWindowAdd
  show Host.reduceWindow (s := ⟨3, ![n0, n1, N]⟩) _ _ _ _ _ _ _ h _ (ix3 a b c) = _
  unfold Host.reduceWindow
  refine (foldl_sum _ _).trans ?_
  have hz' : z (Shape.Idx.first hu) = ((0 : ℝ) : EReal) := hz _
  have e : ∀ (w : (rowWin N).Idx) (_ : Decidable (∀ d : Fin 3, lo d ≤ ((ix3 a b c : (⟨3, ![n0, n1, N]⟩ : Shape).Idx) d).val * (![1, 1, 1] : Fin 3 → ℕ) d + (w d).val
        ∧ ((ix3 a b c : (⟨3, ![n0, n1, N]⟩ : Shape).Idx) d).val * (![1, 1, 1] : Fin 3 → ℕ) d + (w d).val - lo d < (![n0, n1, N] : Fin 3 → ℕ) d)), (if hin : ∀ d : Fin 3, lo d ≤ ((ix3 a b c : (⟨3, ![n0, n1, N]⟩ : Shape).Idx) d).val * (![1, 1, 1] : Fin 3 → ℕ) d + (w d).val
        ∧ ((ix3 a b c : (⟨3, ![n0, n1, N]⟩ : Shape).Idx) d).val * (![1, 1, 1] : Fin 3 → ℕ) d + (w d).val - lo d < (![n0, n1, N] : Fin 3 → ℕ) d then
        rv3 ⟨3, ![n0, n1, N]⟩ .f32 f (fun d => ⟨_, (hin d).2⟩) else z (Shape.Idx.first hu))
      = (((if lo 2 ≤ c.val + (w 2).val ∧ c.val + (w 2).val - lo 2 < N then f a.val b.val (c.val + (w 2).val - lo 2) else 0) : ℝ) : EReal) := by
    intro w _
    have w0 := (w 0).isLt
    have w1 := (w 1).isLt
    change (w 0).val < 1 at w0
    change (w 1).val < 1 at w1
    have a0 := a.isLt
    have b0 := b.isLt
    by_cases hc : lo 2 ≤ c.val + (w 2).val ∧ c.val + (w 2).val - lo 2 < N
    · rw [if_pos hc, dif_pos]
      · show ((f (a.val * 1 + (w 0).val - lo 0) (b.val * 1 + (w 1).val - lo 1) (c.val * 1 + (w 2).val - lo 2) : ℝ) : EReal) = _
        rw [h0, h1, Nat.mul_one, Nat.mul_one, Nat.mul_one, show (w 0).val = 0 by omega, show (w 1).val = 0 by omega]
        rfl
      · intro d
        match d with
        | ⟨0, _⟩ => show lo 0 ≤ a.val * 1 + (w 0).val ∧ a.val * 1 + (w 0).val - lo 0 < n0; omega
        | ⟨1, _⟩ => show lo 1 ≤ b.val * 1 + (w 1).val ∧ b.val * 1 + (w 1).val - lo 1 < n1; omega
        | ⟨2, _⟩ => show lo 2 ≤ c.val * 1 + (w 2).val ∧ c.val * 1 + (w 2).val - lo 2 < N; omega
    · rw [if_neg hc, dif_neg]
      · exact hz'
      intro hin
      have h2 := hin 2
      change lo 2 ≤ c.val * 1 + (w 2).val ∧ c.val * 1 + (w 2).val - lo 2 < N at h2
      omega
  refine (congrArg (fun y => y + _) hz').trans ?_
  rw [EReal.coe_zero, zero_add]
  let G : (rowWin N).Idx → EReal := fun w => (((if lo 2 ≤ c.val + (w 2).val ∧ c.val + (w 2).val - lo 2 < N then f a.val b.val (c.val + (w 2).val - lo 2) else 0) : ℝ) : EReal)
  refine Eq.trans (b := ∑ n : Fin (rowWin N).numel, G ((rowWin N).rowMajor.symm n)) (Finset.sum_congr rfl fun n _ => e ((rowWin N).rowMajor.symm n) _) ?_
  refine (sum_rowWin G).trans ?_
  rw [coe_sum, ← Fin.sum_univ_eq_sum_range (fun k => (((if lo 2 ≤ c.val + k ∧ c.val + k - lo 2 < N then f a.val b.val (c.val + k - lo 2) else 0) : ℝ) : EReal)) N]
  rfl

end

theorem sum_later (f : ℕ → ℝ) (N c : ℕ) (hc : c < N) : ∑ k ∈ Finset.range N, (if 0 ≤ c + k ∧ c + k - 0 < N then f (c + k - 0) else 0) = ∑ x ∈ Finset.Ico c N, f x := by
  rw [← Finset.sum_filter, Finset.sum_Ico_eq_sum_range]
  refine Finset.sum_congr ?_ fun x _ => rfl
  ext x
  simp only [Finset.mem_filter, Finset.mem_range]
  omega

theorem sum_upTo (f : ℕ → ℝ) (M c : ℕ) (hc : c < M + 1) :
    ∑ k ∈ Finset.range (M + 1), (if M ≤ c + k ∧ c + k - M < M + 1 then f (c + k - M) else 0) = ∑ x ∈ Finset.range (c + 1), f x := by
  rw [← Finset.sum_filter]
  refine Finset.sum_bij' (fun k _ => c + k - M) (fun x _ => x + M - c) ?_ ?_ ?_ ?_ ?_
  · intro k hk; simp only [Finset.mem_filter, Finset.mem_range] at hk ⊢; omega
  · intro x hx; simp only [Finset.mem_filter, Finset.mem_range] at hx ⊢; omega
  · intro k hk; simp only [Finset.mem_filter, Finset.mem_range] at hk ⊢; omega
  · intro x hx; simp only [Finset.mem_range] at hx ⊢; omega
  · intro k _; rfl

theorem rv3_fromC (f : Ten) (h hu hb) :
    Host.reduceWindowAdd ![1, 1, 4096] ![1, 1, 1] ![0, 0, 0] ![0, 0, 4095] (rv3 S8x4096x4096 .f32 f) (broadcastInDim S_ ![] hb (constant S_ .f32 0x00000000#32 : FVec Ideal S_ .f32))
      h hu = rv3 S8x4096x4096 .f32 (fromC f) := by
  funext j
  obtain ⟨a, b, c, rfl⟩ : ∃ (a : Fin 8) (b c : Fin 4096), j = ix3 a b c := ⟨j 0, j 1, j 2, eq_ix3 j⟩
  refine (window_sum ![0, 0, 0] ![0, 0, 4095] f h rfl rfl _ hu (fun _ => ofBits_zero) a b c).trans ?_
  exact congrArg (fun x : ℝ => (x : EReal)) (sum_later (f a.val b.val) 4096 c.val c.isLt)

theorem rv3_upTo (f : Ten) (h hu hb) :
    Host.reduceWindowAdd ![1, 1, 4096] ![1, 1, 1] ![0, 0, 4095] ![0, 0, 0] (rv3 S8x4096x4096 .f32 f) (broadcastInDim S_ ![] hb (constant S_ .f32 0x00000000#32 : FVec Ideal S_ .f32))
      h hu = rv3 S8x4096x4096 .f32 (upTo f) := by
  funext j
  obtain ⟨a, b, c, rfl⟩ : ∃ (a : Fin 8) (b c : Fin 4096), j = ix3 a b c := ⟨j 0, j 1, j 2, eq_ix3 j⟩
  refine (window_sum ![0, 0, 4095] ![0, 0, 0] f h rfl rfl _ hu (fun _ => ofBits_zero) a b c).trans ?_
  exact congrArg (fun x : ℝ => (x : EReal)) (sum_upTo (f a.val b.val) 4095 c.val c.isLt)

end Cert.Attn

end
-- ==== Proof.Finite.lean ====
/-
  What the precondition says: every entry of the two arguments is a real number.
-/
module

public import proofs.«01_k».proof.Proof.Gen.Pre_finite
public import proofs.«01_k».proof.Proof.RefOps
public import Idealize.ShloMosaic.Lib.ReduceAll

@[expose] public section

noncomputable section

namespace Cert.Attn

open Idealize.ShloMosaic

/-- An extended real whose magnitude is below infinity is a real number. -/
theorem real_of_lt {x : EReal} (h : max x (-x) < ⊤) : ((x.toReal : ℝ) : EReal) = x := by
  refine EReal.coe_toReal (fun e => ?_) (fun e => ?_) <;> subst e <;> simp at h

/-- The index of a row and a column, when they are in range. -/
def at2 {n0 n1 : ℕ} (a b : ℕ) (ha : a < n0) (hb : b < n1) : (⟨2, ![n0, n1]⟩ : Shape).Idx := fun d => match d with
  | ⟨0, _⟩ => ⟨a, ha⟩
  | ⟨1, _⟩ => ⟨b, hb⟩

/-- An array whose entries are all real numbers. -/
theorem exists_rv {n0 n1 : ℕ} {φ : FTy} (x : FVec Ideal ⟨2, ![n0, n1]⟩ φ) (h : ∀ i, max (x i : EReal) (-(x i : EReal)) < ⊤) : ∃ X : Mat, x = rv ⟨2, ![n0, n1]⟩ φ X := by
  refine ⟨fun a b => if hab : a < n0 ∧ b < n1 then EReal.toReal (x (at2 a b hab.1 hab.2)) else 0, ?_⟩
  funext i
  have h0 : crd i 0 < n0 := (i 0).isLt
  have h1 : crd i 1 < n1 := (i 1).isLt
  have e : at2 (crd i 0) (crd i 1) h0 h1 = i := by
    funext d
    match d with
    | ⟨0, _⟩ => rfl
    | ⟨1, _⟩ => rfl
  show x i = ((if hab : crd i 0 < n0 ∧ crd i 1 < n1 then EReal.toReal (x (at2 (crd i 0) (crd i 1) hab.1 hab.2)) else 0 : ℝ) : EReal)
  rw [dif_pos ⟨h0, h1⟩, e, real_of_lt (h i)]

theorem lt_of_bit {p : Prop} [Decidable p] (h : BitVec.ofBool (decide p) = 1#1) : p := by
  by_contra hp
  simp [hp] at h

theorem and_bits {x y : BitVec 1} (h : IntOp.andi x y = 1#1) : x = 1#1 ∧ y = 1#1 := by
  revert x y; decide

section
variable [Cert.Pre_finite.Facts]
open Cert.Pre_finite

theorem args_real (x : FVec Ideal S4096x5120 .bf16) (y : FVec Ideal S4096x512 .bf16) (h : fn (F := Ideal) x y = fun _ => 1#1) :
    (∃ X : Mat, x = rv S4096x5120 .bf16 X) ∧ ∃ D : Mat, y = rv S4096x512 .bf16 D := by
  have hs : Subsingleton S_.Idx := ⟨fun a b => funext fun d => d.elim0⟩
  have h' := and_bits (congrFun h (fun d => d.elim0))
  refine ⟨exists_rv x fun i => ?_, exists_rv y fun i => ?_⟩
  · have e := Host.reduce_andi_all _ _ _ _ _ h'.1 i
    have e' := lt_of_bit (p := max (x i : EReal) (-(x i : EReal)) < Scalar.ofBits (F := Ideal) .f32 0x7F800000#32) e
    rwa [ofBits_inf] at e'
  · have e := Host.reduce_andi_all _ _ _ _ _ h'.2 i
    have e' := lt_of_bit (p := max (y i : EReal) (-(y i : EReal)) < Scalar.ofBits (F := Ideal) .f32 0x7F800000#32) e
    rwa [ofBits_inf] at e'

end

end Cert.Attn

end
-- ==== Proof.Rows.lean ====
/-
  Operations on vectors of extended reals, for the products and the normalisations of the channel mixer. `ev s φ f` is the vector of shape `s` whose entry in row `a`, column `b` is `f a b`.
  The module says what the operations do to such vectors: entry by entry, sums over a row or a column, vectors of rank one laid out as a column or as a row, a column or a row repeated,
  constants, and products and transposes of matrices of any size. Nothing is assumed of the entries.
-/
module

public import proofs.«01_k».proof.Proof.RealsShape
public import proofs.«01_k».proof.Proof.RefOps
public import proofs.«01_k».proof.Proof.Finite
public import Idealize.ShloMosaic.Lib.ValueLayout
public import Idealize.ShloMosaic.Lib.ValueLayoutCasts
public import Idealize.ShloMosaic.Lib.Pointwise.Reduce

@[expose] public section

noncomputable section

namespace Cert.Ffn

open Cert.Attn (Mat rv crd at2 ofBits_zero ofBits_one)
open Idealize.ShloMosaic Idealize.ShloMosaic.ValueIdx
open scoped BigOperators

/-! ## The functions -/

/-- An extended real for each row and column. -/
abbrev EMat : Type := ℕ → ℕ → EReal

/-- The vector of the entries `f`. -/
def ev (s : Shape) (φ : FTy) (f : EMat) : FVec Ideal s φ := fun i => (f (crd i 0) (crd i 1) : EReal)

/-- The rows from `o` on. -/
def subE (f : EMat) (o : ℕ) : EMat := fun a b => f (o + a) b
/-- The sum of the first `m` entries of a row, in every column. -/
def rsum (m : ℕ) (f : EMat) : EMat := fun a _ => ∑ x ∈ Finset.range m, f a x
/-- The sum of the first `n` entries of a column, in every row. -/
def csum (n : ℕ) (f : EMat) : EMat := fun _ b => ∑ x ∈ Finset.range n, f x b
/-- Column 0 in every column. -/
def colF (f : EMat) : EMat := fun a _ => f a 0
/-- Row 0 in every row. -/
def rowF (f : EMat) : EMat := fun _ b => f 0 b
def constF (c : EReal) : EMat := fun _ _ => c
def divF (f g : EMat) : EMat := fun a b => Ideal.div (f a b) (g a b)
def rsqrtF (f : EMat) : EMat := fun a b => Ideal.rsqrt (f a b)
def logisticF (f : EMat) : EMat := fun a b => Ideal.logistic (f a b)
def expF (f : EMat) : EMat := fun a b => Ideal.exp (f a b)
def transF (f : EMat) : EMat := fun a b => f b a
/-- Rows times columns. -/
def nnF (n : ℕ) (f g : EMat) : EMat := fun a b => ∑ x ∈ Finset.range n, f a x * g x b
/-- Rows times rows. -/
def ntF (n : ℕ) (f g : EMat) : EMat := fun a b => ∑ x ∈ Finset.range n, f a x * g b x
/-- Columns times columns. -/
def tnF (n : ℕ) (f g : EMat) : EMat := fun a b => ∑ x ∈ Finset.range n, f x a * g x b
/-- `m` columns of `f`, then `g`. -/
def besideF (m : ℕ) (f g : EMat) : EMat := fun a b => if b < m then f a b else g a (b - m)
/-- The columns from `o` on. -/
def rightF (o : ℕ) (f : EMat) : EMat := fun a b => f a (o + b)

theorem ev_congr {n0 n1 : ℕ} (φ : FTy) {f g : EMat} (h : ∀ a < n0, ∀ b < n1, f a b = g a b) : ev ⟨2, ![n0, n1]⟩ φ f = ev ⟨2, ![n0, n1]⟩ φ g := by
  funext i
  exact h _ (i 0).isLt _ (i 1).isLt

/-- Every vector of rank 2 is one. -/
theorem exists_ev {n0 n1 : ℕ} {φ : FTy} (x : FVec Ideal ⟨2, ![n0, n1]⟩ φ) : ∃ X : EMat, x = ev ⟨2, ![n0, n1]⟩ φ X := by
  refine ⟨fun a b => if hab : a < n0 ∧ b < n1 then x (at2 a b hab.1 hab.2) else (0 : EReal), ?_⟩
  funext i
  have h0 : crd i 0 < n0 := (i 0).isLt
  have h1 : crd i 1 < n1 := (i 1).isLt
  have e : at2 (crd i 0) (crd i 1) h0 h1 = i := by
    funext d
    match d with
    | ⟨0, _⟩ => rfl
    | ⟨1, _⟩ => rfl
  show x i = (if hab : crd i 0 < n0 ∧ crd i 1 < n1 then x (at2 (crd i 0) (crd i 1) hab.1 hab.2) else (0 : EReal))
  rw [dif_pos ⟨h0, h1⟩, e]

theorem fin_sum (n : ℕ) (u : ℕ → EReal) : (∑ k : Fin n, u k.val) = ∑ k ∈ Finset.range n, u k := (Finset.sum_range u).symm

section
variable {s : Shape} {φ : FTy} (f g : EMat)

theorem ev_addf : addf (ev s φ f) (ev s φ g) = ev s φ (f + g) := rfl
theorem ev_subf : subf (ev s φ f) (ev s φ g) = ev s φ (f - g) := rfl
theorem ev_mulf : mulf (ev s φ f) (ev s φ g) = ev s φ (f * g) := rfl
theorem ev_divf : divf (ev s φ f) (ev s φ g) = ev s φ (divF f g) := rfl
theorem host_divf : Host.divf (ev s φ f) (ev s φ g) = ev s φ (divF f g) := rfl
theorem ev_rsqrt : rsqrt (ev s φ f) = ev s φ (rsqrtF f) := rfl
theorem host_rsqrt : Host.rsqrt (ev s φ f) = ev s φ (rsqrtF f) := rfl
theorem ev_truncf {ψ : FTy} (h) : truncf ψ (ev s φ f) h = ev s ψ f := rfl
theorem ev_extf {ψ : FTy} (h) : extf ψ (ev s φ f) h = ev s ψ f := rfl
theorem ev_shapeCast (h) : shapeCast s (ev s φ f) h = ev s φ f := shapeCast_self _ _
theorem ev_constant : (constant s .f32 0x00000000#32 : FVec Ideal s .f32) = ev s .f32 0 := by
  funext i; exact ofBits_zero

end

section
variable (f g : EMat) {n m : ℕ} {φ : FTy}

/-! ## Sums -/

theorem ev_rowSum (acc h hφ hacc) : multiReduction .add [1] ⟨1, ![n]⟩ (ev ⟨2, ![n, m]⟩ .f32 f) acc h hφ hacc = ev ⟨1, ![n]⟩ .f32 (rsum m f) := by
  funext j
  rw [multiReduction_add_apply, Ideal.reduceAdd_def, Ideal.reduceAdd_r2_a1]
  exact fin_sum m (fun k => f (j 0).val k)

theorem ev_colSum (acc h hφ hacc) : multiReduction .add [0] ⟨1, ![m]⟩ (ev ⟨2, ![n, m]⟩ .f32 f) acc h hφ hacc = ev ⟨1, ![m]⟩ .f32 (transF (csum n f)) := by
  funext j
  rw [multiReduction_add_apply, Ideal.reduceAdd_def, Ideal.reduceAdd_r2_a0]
  exact fin_sum n (fun k => f k (j 0).val)

theorem host_rowSum (h hu) : Host.reduceAdd (axes := [1]) (t := ⟨1, ![n]⟩) (ev ⟨2, ![n, m]⟩ .f32 f) (constant ⟨0, ![]⟩ .f32 0x00000000#32 : FVec Ideal ⟨0, ![]⟩ .f32) h hu = ev ⟨1, ![n]⟩ .f32 (rsum m f) := by
  funext j
  rw [Host.reduceAdd_apply, Ideal.hostReduceAdd_def, Ideal.hostReduceAdd_r2_a1]
  refine (congrArg₂ (· + ·) ofBits_zero (fin_sum m (fun k => f (j 0).val k))).trans ?_
  rw [EReal.coe_zero, zero_add]; rfl

theorem host_colSum (h hu) : Host.reduceAdd (axes := [0]) (t := ⟨1, ![m]⟩) (ev ⟨2, ![n, m]⟩ .f32 f) (constant ⟨0, ![]⟩ .f32 0x00000000#32 : FVec Ideal ⟨0, ![]⟩ .f32) h hu = ev ⟨1, ![m]⟩ .f32 (transF (csum n f)) := by
  funext j
  rw [Host.reduceAdd_apply, Ideal.hostReduceAdd_def, Ideal.hostReduceAdd_r2_a0]
  refine (congrArg₂ (· + ·) ofBits_zero (fin_sum n (fun k => f k (j 0).val))).trans ?_
  rw [EReal.coe_zero, zero_add]; rfl

/-! ## Layouts -/

theorem ev_asCol (h) : shapeCast ⟨2, ![n, 1]⟩ (ev ⟨1, ![n]⟩ φ f) h = ev ⟨2, ![n, 1]⟩ φ (colF f) := by
  funext j
  obtain ⟨a, b, rfl⟩ : ∃ (a : Fin n) (b : Fin 1), j = ValueIdx.ix2 a b := ⟨j 0, j 1, ValueIdx.eq_ix2 j⟩
  exact shapeCast_a_a1_apply _ h a b

theorem ev_asRow (h) : shapeCast ⟨2, ![1, n]⟩ (ev ⟨1, ![n]⟩ φ f) h = ev ⟨2, ![1, n]⟩ φ (fun _ b => f b 0) := by
  funext j
  obtain ⟨a, b, rfl⟩ : ∃ (a : Fin 1) (b : Fin n), j = ValueIdx.ix2 a b := ⟨j 0, j 1, ValueIdx.eq_ix2 j⟩
  exact shapeCast_a_1a_apply _ h a b

theorem ev_spreadCol (h) : broadcastTo ⟨2, ![n, m]⟩ (ev ⟨2, ![n, 1]⟩ φ f) h = ev ⟨2, ![n, m]⟩ φ (colF f) := by
  funext j
  obtain ⟨a, b, rfl⟩ : ∃ (a : Fin n) (b : Fin m), j = ValueIdx.ix2 a b := ⟨j 0, j 1, ValueIdx.eq_ix2 j⟩
  refine broadcastTo_apply _ h (ValueIdx.ix2 a b) (ValueIdx.ix2 a (0 : Fin 1)) fun x => ?_
  match x with
  | ⟨0, _⟩ =>
    show a.val = if n = 1 then 0 else a.val
    split <;> omega
  | ⟨1, _⟩ => rfl

theorem ev_spreadRow (h) : broadcastTo ⟨2, ![n, m]⟩ (ev ⟨2, ![1, m]⟩ φ f) h = ev ⟨2, ![n, m]⟩ φ (rowF f) := by
  funext j
  obtain ⟨a, b, rfl⟩ : ∃ (a : Fin n) (b : Fin m), j = ValueIdx.ix2 a b := ⟨j 0, j 1, ValueIdx.eq_ix2 j⟩
  exact broadcastTo_1b_ab_apply _ h a b

theorem host_spreadCol (h) : broadcastInDim ⟨2, ![n, m]⟩ ![0, 1] h (ev ⟨2, ![n, 1]⟩ φ f) = ev ⟨2, ![n, m]⟩ φ (colF f) := by
  funext j
  obtain ⟨a, b, rfl⟩ : ∃ (a : Fin n) (b : Fin m), j = ValueIdx.ix2 a b := ⟨j 0, j 1, ValueIdx.eq_ix2 j⟩
  refine broadcastInDim_apply _ h _ (ValueIdx.ix2 a b) (ValueIdx.ix2 a (0 : Fin 1)) fun x => ?_
  match x with
  | ⟨0, _⟩ =>
    show a.val = if n = 1 then 0 else a.val
    split <;> omega
  | ⟨1, _⟩ => rfl

theorem host_spreadRow (h) : broadcastInDim ⟨2, ![n, m]⟩ ![0, 1] h (ev ⟨2, ![1, m]⟩ φ f) = ev ⟨2, ![n, m]⟩ φ (rowF f) := by
  funext j
  obtain ⟨a, b, rfl⟩ : ∃ (a : Fin n) (b : Fin m), j = ValueIdx.ix2 a b := ⟨j 0, j 1, ValueIdx.eq_ix2 j⟩
  refine broadcastInDim_apply _ h _ (ValueIdx.ix2 a b) (ValueIdx.ix2 (0 : Fin 1) b) fun x => ?_
  match x with
  | ⟨0, _⟩ => rfl
  | ⟨1, _⟩ =>
    show b.val = if m = 1 then 0 else b.val
    split <;> omega

theorem host_spread1 (h) : broadcastInDim ⟨2, ![n, m]⟩ ![0] h (ev ⟨1, ![n]⟩ φ f) = ev ⟨2, ![n, m]⟩ φ (colF f) := by
  funext j
  obtain ⟨a, b, rfl⟩ : ∃ (a : Fin n) (b : Fin m), j = ValueIdx.ix2 a b := ⟨j 0, j 1, ValueIdx.eq_ix2 j⟩
  refine broadcastInDim_apply _ h _ (ValueIdx.ix2 a b) (ValueIdx.ix1 a) fun x => ?_
  match x with
  | ⟨0, _⟩ =>
    show a.val = if n = 1 then 0 else a.val
    split <;> omega

theorem ev_transpose (h) : transpose ⟨2, ![m, n]⟩ [1, 0] (ev ⟨2, ![n, m]⟩ φ f) h = ev ⟨2, ![m, n]⟩ φ (transF f) := by
  funext j
  obtain ⟨a, b, rfl⟩ : ∃ (a : Fin m) (b : Fin n), j = ValueIdx.ix2 a b := ⟨j 0, j 1, ValueIdx.eq_ix2 j⟩
  exact transpose_ix2_apply _ h a b

theorem ev_besideF (k : ℕ) (N : ℕ) (h : Shape.Concatenates [(⟨2, ![m, k]⟩ : Shape), ⟨2, ![m, n]⟩] ⟨2, ![m, N]⟩ 1) (hN : N = k + n) :
    concatenate ⟨2, ![m, N]⟩ 1 [⟨⟨2, ![m, k]⟩, ev ⟨2, ![m, k]⟩ φ f⟩, ⟨⟨2, ![m, n]⟩, ev ⟨2, ![m, n]⟩ φ g⟩] h
      = ev ⟨2, ![m, N]⟩ φ (besideF k f g) := by
  funext j
  by_cases hb : (j 1).val < k
  · refine (concatenate_pair_apply_left (t := ⟨2, ![m, N]⟩) (s₁ := ⟨2, ![m, k]⟩) (s₂ := ⟨2, ![m, n]⟩) (1 : Fin 2) _ _ h j rfl
      (ValueIdx.ix2 (n0 := m) (n1 := k) (j 0) ⟨(j 1).val, hb⟩) (fun d => by match d with | ⟨0, _⟩ => rfl | ⟨1, _⟩ => rfl)).trans ?_
    exact (if_pos hb).symm
  · have h1 : (j 1).val < N := (j 1).isLt
    refine (concatenate_pair_apply_right (t := ⟨2, ![m, N]⟩) (s₁ := ⟨2, ![m, k]⟩) (s₂ := ⟨2, ![m, n]⟩) (1 : Fin 2) _ _ h j rfl rfl
      (ValueIdx.ix2 (n0 := m) (n1 := n) (j 0) ⟨(j 1).val - k, by omega⟩)
      (fun d hd => by match d, hd with | ⟨0, _⟩, _ => rfl | ⟨1, _⟩, hd => exact absurd rfl hd) (show (j 1).val - k + k = (j 1).val by omega)).trans ?_
    exact (if_neg hb).symm

variable {s : Shape}

/-! ## Constants -/

theorem ofBits_1024 : (Scalar.ofBits .f32 0x44800000#32 : Ideal .f32) = ((1024 : ℝ) : EReal) := by
  simp [Scalar.ofBits, Ideal.ofBits, Ideal.ieee, -EReal.coe_mul]; norm_num

theorem ofBits_half : (Scalar.ofBits .f32 0xBF000000#32 : Ideal .f32) = ((-(1 / 2) : ℝ) : EReal) := by
  simp [Scalar.ofBits, Ideal.ofBits, Ideal.ieee, -EReal.coe_mul]; norm_num

theorem ofBits_small : ∃ e : ℝ, 0 < e ∧ (Scalar.ofBits .f32 0x358637BD#32 : Ideal .f32) = ((e : ℝ) : EReal) := by
  refine ⟨_, ?_, by simp [Scalar.ofBits, Ideal.ofBits, Ideal.ieee, -EReal.coe_mul]; rfl⟩
  positivity

/-- What is added to the mean of the squares: a positive number. -/
def eps : ℝ := ofBits_small.choose
theorem eps_pos : 0 < eps := ofBits_small.choose_spec.1
theorem ofBits_eps : (Scalar.ofBits .f32 0x358637BD#32 : Ideal .f32) = ((eps : ℝ) : EReal) := ofBits_small.choose_spec.2

theorem ev_const {w : BitVec 32} {c : EReal} (h : (Scalar.ofBits .f32 w : Ideal .f32) = c) : broadcast s (Scalar.ofBits .f32 w : Ideal .f32) = ev s .f32 (constF c) := by
  funext i; exact h

theorem host_const {w : BitVec 32} {c : EReal} (h : (Scalar.ofBits .f32 w : Ideal .f32) = c) (hb) :
    broadcastInDim s ![] hb (constant ⟨0, ![]⟩ .f32 w : FVec Ideal ⟨0, ![]⟩ .f32) = ev s .f32 (constF c) := by
  funext i
  exact (broadcastInDim_scalar_apply hb _ i).trans h

end

/-! ## Products -/

section
variable (f g : EMat) {M K N : ℕ} {φ₁ φ₂ : FTy}

theorem ev_nt (M K N : ℕ) : FloatOps.matmul (DotDims.transposedRhs M K N) none (ev ⟨2, ![M, K]⟩ φ₁ f) (ev ⟨2, ![N, K]⟩ φ₂ g) (ev ⟨2, ![M, N]⟩ .f32 0)
    = ev ⟨2, ![M, N]⟩ .f32 (ntF K f g) := by
  funext j
  obtain ⟨a, b, rfl⟩ : ∃ (a : Fin M) (b : Fin N), j = ValueIdx.ix2 a b := ⟨j 0, j 1, ValueIdx.eq_ix2 j⟩
  rw [Ideal.matmul_transposedRhs_apply]
  show (0 : EReal) + ∑ k : Fin K, f a.val k.val * g b.val k.val = _
  rw [zero_add, fin_sum K (fun k => f a.val k * g b.val k)]
  rfl

/-- The terms of a product whose one summed coordinate has `K` values. -/
theorem dot_terms {sl sr so : Shape} (d : DotDims sl sr so) (hr : d.contr.rank = 1) (hs : d.contr.size ⟨0, by omega⟩ = K) (j : so.Idx)
    (x : FVec Ideal sl φ₁) (y : FVec Ideal sr φ₂) (u v : ℕ → EReal)
    (hx : ∀ q : d.contr.Idx, x (d.lhsIdx j q) = u (q ⟨0, by omega⟩).val) (hy : ∀ q : d.contr.Idx, y (d.rhsIdx j q) = v (q ⟨0, by omega⟩).val) :
    (∑ q : d.contr.Idx, (x (d.lhsIdx j q) * y (d.rhsIdx j q) : EReal)) = ∑ k ∈ Finset.range K, u k * v k := by
  rw [← Equiv.sum_comp (contrEquiv1 d K hr hs).symm]
  refine (Finset.sum_congr rfl fun k _ => ?_).trans (fin_sum K (fun k => u k * v k))
  rw [hx, hy, contrEquiv1_symm_val d K hr hs k]

theorem ev_tn (d : DotDims ⟨2, ![K, M]⟩ ⟨2, ![K, N]⟩ ⟨2, ![M, N]⟩) (hr : d.contr.rank = 1) (hs : d.contr.size ⟨0, by omega⟩ = K)
    (hl : ∀ j (q : d.contr.Idx), ((d.lhsIdx j q) 0).val = (q ⟨0, by omega⟩).val ∧ ((d.lhsIdx j q) 1).val = (j 0).val)
    (hh : ∀ j (q : d.contr.Idx), ((d.rhsIdx j q) 0).val = (q ⟨0, by omega⟩).val ∧ ((d.rhsIdx j q) 1).val = (j 1).val) :
    FloatOps.matmul d none (ev ⟨2, ![K, M]⟩ φ₁ f) (ev ⟨2, ![K, N]⟩ φ₂ g) (ev ⟨2, ![M, N]⟩ .f32 0) = ev ⟨2, ![M, N]⟩ .f32 (tnF K f g) := by
  funext j
  rw [Ideal.matmul_apply, dot_terms d hr hs j _ _ (fun k => f k (j 0).val) (fun k => g k (j 1).val)
    (fun q => congrArg₂ f (hl j q).1 (hl j q).2) (fun q => congrArg₂ g (hh j q).1 (hh j q).2)]
  show (0 : EReal) + _ = _
  rw [zero_add]
  rfl

theorem host_nn (d : DotDims ⟨2, ![M, K]⟩ ⟨2, ![K, N]⟩ ⟨2, ![M, N]⟩) (hr : d.contr.rank = 1) (hs : d.contr.size ⟨0, by omega⟩ = K)
    (hl : ∀ j (q : d.contr.Idx), ((d.lhsIdx j q) 0).val = (j 0).val ∧ ((d.lhsIdx j q) 1).val = (q ⟨0, by omega⟩).val)
    (hh : ∀ j (q : d.contr.Idx), ((d.rhsIdx j q) 0).val = (q ⟨0, by omega⟩).val ∧ ((d.rhsIdx j q) 1).val = (j 1).val) :
    Host.dotGeneral d none (ev ⟨2, ![M, K]⟩ .f32 f) (ev ⟨2, ![K, N]⟩ .f32 g) = ev ⟨2, ![M, N]⟩ .f32 (nnF K f g) := by
  funext j
  show FloatOps.dotGeneral d none _ (ev ⟨2, ![M, K]⟩ .f32 f) (ev ⟨2, ![K, N]⟩ .f32 g) j = _
  rw [Ideal.dotGeneral_apply, dot_terms d hr hs j _ _ (fun k => f (j 0).val k) (fun k => g k (j 1).val)
    (fun q => congrArg₂ f (hl j q).1 (hl j q).2) (fun q => congrArg₂ g (hh j q).1 (hh j q).2)]
  rfl

theorem host_nt (d : DotDims ⟨2, ![M, K]⟩ ⟨2, ![N, K]⟩ ⟨2, ![M, N]⟩) (hr : d.contr.rank = 1) (hs : d.contr.size ⟨0, by omega⟩ = K)
    (hl : ∀ j (q : d.contr.Idx), ((d.lhsIdx j q) 0).val = (j 0).val ∧ ((d.lhsIdx j q) 1).val = (q ⟨0, by omega⟩).val)
    (hh : ∀ j (q : d.contr.Idx), ((d.rhsIdx j q) 0).val = (j 1).val ∧ ((d.rhsIdx j q) 1).val = (q ⟨0, by omega⟩).val) :
    Host.dotGeneral d none (ev ⟨2, ![M, K]⟩ .f32 f) (ev ⟨2, ![N, K]⟩ .f32 g) = ev ⟨2, ![M, N]⟩ .f32 (ntF K f g) := by
  funext j
  show FloatOps.dotGeneral d none _ (ev ⟨2, ![M, K]⟩ .f32 f) (ev ⟨2, ![N, K]⟩ .f32 g) j = _
  rw [Ideal.dotGeneral_apply, dot_terms d hr hs j _ _ (fun k => f (j 0).val k) (fun k => g (j 1).val k)
    (fun q => congrArg₂ f (hl j q).1 (hl j q).2) (fun q => congrArg₂ g (hh j q).1 (hh j q).2)]
  rfl

theorem host_tn (d : DotDims ⟨2, ![K, M]⟩ ⟨2, ![K, N]⟩ ⟨2, ![M, N]⟩) (hr : d.contr.rank = 1) (hs : d.contr.size ⟨0, by omega⟩ = K)
    (hl : ∀ j (q : d.contr.Idx), ((d.lhsIdx j q) 0).val = (q ⟨0, by omega⟩).val ∧ ((d.lhsIdx j q) 1).val = (j 0).val)
    (hh : ∀ j (q : d.contr.Idx), ((d.rhsIdx j q) 0).val = (q ⟨0, by omega⟩).val ∧ ((d.rhsIdx j q) 1).val = (j 1).val) :
    Host.dotGeneral d none (ev ⟨2, ![K, M]⟩ .f32 f) (ev ⟨2, ![K, N]⟩ .f32 g) = ev ⟨2, ![M, N]⟩ .f32 (tnF K f g) := by
  funext j
  show FloatOps.dotGeneral d none _ (ev ⟨2, ![K, M]⟩ .f32 f) (ev ⟨2, ![K, N]⟩ .f32 g) j = _
  rw [Ideal.dotGeneral_apply, dot_terms d hr hs j _ _ (fun k => f k (j 0).val) (fun k => g k (j 1).val)
    (fun q => congrArg₂ f (hl j q).1 (hl j q).2) (fun q => congrArg₂ g (hh j q).1 (hh j q).2)]
  rfl

end

end Cert.Ffn

end
-- ==== Proof.Places.lean ====
/-
  What a block of an array holds, for every window of every call: the block whose index is `(p, q)` begins at row `p` times its height and at column `q` times its width. So, read out of a matrix, it is the matrix
  from there on; and an entry lies in it when its row and its column lie in the block's range. Each call's own statements follow from these by naming the window and its index.
-/
module

public import proofs.«01_k».proof.Proof.Rows
public import Idealize.ShloMosaic.Lib.Pipeline.Value

@[expose] public section

namespace Cert.Ffn

open Idealize.ShloMosaic

/-- The origin of a matrix. -/
theorem origin : (![0, 0] : Fin 2 → ℕ) = fun _ => 0 := by funext a; fin_cases a <;> rfl

/-- Where the entries of a block lie in the array, from the block's index on two axes. -/
theorem at_place {sig : RefSig} {G : Pipeline.Grid} (w : Pipeline.Window sig G) (hk : w.kind = .blocked) {t : Fin G.N} {a b : Fin w.shape.rank} {p q : ℕ}
    (h : w.index t a = p ∧ w.index t b = q) (y : (w.xblock (G.coords t)).Idx) :
    ((w.rect t).emb y a : ℕ) = p * w.size a + y a ∧ ((w.rect t).emb y b : ℕ) = q * w.size b + y b :=
  ⟨by rw [Pipeline.Window.rect_emb_val w t y a hk, h.1], by rw [Pipeline.Window.rect_emb_val w t y b hk, h.2]⟩

section
variable {N0 N1 n0 n1 p q : ℕ} {φ : FTy} (X : EMat) {e : (⟨2, ![n0, n1]⟩ : Shape).Idx → (⟨2, ![N0, N1]⟩ : Shape).Idx}

/-- A block in the middle of the matrix. -/
theorem shown_part (h : ∀ y, (e y 0 : ℕ) = p * n0 + y 0 ∧ (e y 1 : ℕ) = q * n1 + y 1) :
    (fun y => ev ⟨2, ![N0, N1]⟩ φ X (e y)) = ev ⟨2, ![n0, n1]⟩ φ (subE (rightF (n1 * q) X) (n0 * p)) := by
  funext y
  show X (e y 0).val (e y 1).val = X (n0 * p + (y 0).val) (n1 * q + (y 1).val)
  rw [(h y).1, (h y).2, mul_comm p, mul_comm q]

/-- A block of whole rows. -/
theorem shown_rows (h : ∀ y, (e y 0 : ℕ) = p * n0 + y 0 ∧ (e y 1 : ℕ) = 0 * n1 + y 1) :
    (fun y => ev ⟨2, ![N0, N1]⟩ φ X (e y)) = ev ⟨2, ![n0, n1]⟩ φ (subE X (n0 * p)) := by
  funext y
  show X (e y 0).val (e y 1).val = X (n0 * p + (y 0).val) (y 1).val
  rw [(h y).1, (h y).2, mul_comm p, zero_mul, zero_add]

/-- A block of whole columns. -/
theorem shown_cols (h : ∀ y, (e y 0 : ℕ) = 0 * n0 + y 0 ∧ (e y 1 : ℕ) = q * n1 + y 1) :
    (fun y => ev ⟨2, ![N0, N1]⟩ φ X (e y)) = ev ⟨2, ![n0, n1]⟩ φ (rightF (n1 * q) X) := by
  funext y
  show X (e y 0).val (e y 1).val = X (y 0).val (n1 * q + (y 1).val)
  rw [(h y).1, (h y).2, mul_comm q, zero_mul, zero_add]

/-- The whole matrix in one block, or its first block. -/
theorem shown_all (h : ∀ y, (e y 0 : ℕ) = 0 * n0 + y 0 ∧ (e y 1 : ℕ) = 0 * n1 + y 1) :
    (fun y => ev ⟨2, ![N0, N1]⟩ φ X (e y)) = ev ⟨2, ![n0, n1]⟩ φ X := by
  funext y
  show X (e y 0).val (e y 1).val = X (y 0).val (y 1).val
  rw [(h y).1, (h y).2, zero_mul, zero_mul, zero_add, zero_add]

/-- An entry whose row and column lie in the ranges of the block with index `(p, q)` lies in the block. -/
theorem in_place (p q n0 n1 : ℕ) {i : (⟨2, ![N0, N1]⟩ : Shape).Idx} {off size : Fin 2 → ℕ} (h0 : off 0 = p * n0) (h1 : off 1 = q * n1) (hs : size 0 = n0 ∧ size 1 = n1)
    (b0 : p * n0 ≤ (i 0).val ∧ (i 0).val < p * n0 + n0) (b1 : q * n1 ≤ (i 1).val ∧ (i 1).val < q * n1 + n1) (a : Fin 2) :
    off a ≤ (i a).val ∧ (i a).val < off a + size a := by
  match a with
  | ⟨0, _⟩ => exact (h0.symm ▸ hs.1.symm ▸ b0 : off 0 ≤ (i 0).val ∧ (i 0).val < off 0 + size 0)
  | ⟨1, _⟩ => exact (h1.symm ▸ hs.2.symm ▸ b1 : off 1 ≤ (i 1).val ∧ (i 1).val < off 1 + size 1)

end

end Cert.Ffn
-- ==== Proof.SemWalk.lean ====
/-
  The states of the two walks: one tile takes the sums over the keys from its end on to the sums over the keys from its start on. A tile on the diagonal counts for the rows from its own
  place on; the rows before have no key in it, and their sums stay as they are.
-/
module

public import proofs.«01_k».proof.Proof.Sem

@[expose] public section

noncomputable section

namespace Cert.Attn

open scoped BigOperators

section
variable (Q D K V : Mat) (μ ν : ℕ → ℝ) (T S : ℕ → ℝ) (U : ℕ)

/-- Lane `b` of row `t` of the output, over the keys from `lo` on. -/
def oSum (lo t b : ℕ) : ℝ :=
  (∑ s ∈ Finset.Ico lo U, aa Q K μ U t s * (V s b * μ b)) + ∑ s ∈ Finset.Ico lo U, aa Q K ν U t s * (V s b * ν b)
/-- Lane `b` of row `t` of the gradient of the scaled queries, over the keys from `lo` on. -/
def qSum (lo t b : ℕ) : ℝ :=
  (∑ s ∈ Finset.Ico lo U, ee Q D K V μ T U t s * (K s b * μ b)) + ∑ s ∈ Finset.Ico lo U, ee Q D K V ν S U t s * (K s b * ν b)

/-- The forward walk's state when it has come down to key `lo`, for the rows from `R` on. -/
def fInv (R lo : ℕ) : Mat × Mat × Mat := (colr (cc Q K μ U) R lo, colr (cc Q K ν U) R lo, fun a b => oSum Q K V μ ν U lo (R + a) b)

/-- The backward walk's. -/
def bInv (R lo : ℕ) : BSt where
  c0 := colr (cc Q K μ U) R lo
  c1 := colr (cc Q K ν U) R lo
  d0 := colr (dd Q D K V μ U) R lo
  d1 := colr (dd Q D K V ν U) R lo
  dq := fun a b => qSum Q D K V μ ν T S U lo (R + a) b

end

/-- The sum over the keys from `lo` on, the first 128 apart. -/
theorem sum_head (p : ℕ → ℝ) {lo U : ℕ} (h : lo + 128 ≤ U) :
    ∑ s ∈ Finset.Ico lo U, p s = ∑ s ∈ Finset.Ico (lo + 128) U, p s + ∑ s ∈ Finset.Ico lo (lo + 128), p s := by
  rw [add_comm, Finset.sum_Ico_consecutive _ (by omega) h]

section
variable {Q D K V : Mat} {μ ν : ℕ → ℝ} {T S : ℕ → ℝ} {U R o : ℕ}

theorem oSum_step (h : o + 128 ≤ U) (t b : ℕ) :
    oSum Q K V μ ν U o t b = oSum Q K V μ ν U (o + 128) t b
      + ((∑ s ∈ Finset.Ico o (o + 128), aa Q K μ U t s * (V s b * μ b)) + ∑ s ∈ Finset.Ico o (o + 128), aa Q K ν U t s * (V s b * ν b)) := by
  unfold oSum
  rw [sum_head (fun s => aa Q K μ U t s * (V s b * μ b)) h, sum_head (fun s => aa Q K ν U t s * (V s b * ν b)) h]
  ring

theorem qSum_step (h : o + 128 ≤ U) (t b : ℕ) :
    qSum Q D K V μ ν T S U o t b = qSum Q D K V μ ν T S U (o + 128) t b
      + ((∑ s ∈ Finset.Ico o (o + 128), ee Q D K V μ T U t s * (K s b * μ b)) + ∑ s ∈ Finset.Ico o (o + 128), ee Q D K V ν S U t s * (K s b * ν b)) := by
  unfold qSum
  rw [sum_head (fun s => ee Q D K V μ T U t s * (K s b * μ b)) h, sum_head (fun s => ee Q D K V ν S U t s * (K s b * ν b)) h]
  ring

theorem oSum_zero {lo t : ℕ} (h : t ≤ lo) (b : ℕ) : oSum Q K V μ ν U lo t b = 0 := by
  unfold oSum
  rw [Finset.sum_eq_zero, Finset.sum_eq_zero, add_zero] <;>
  · intro s hs
    rw [aa_zero (h.trans (Finset.mem_Ico.1 hs).1), zero_mul]

theorem qSum_zero {lo t : ℕ} (h : t ≤ lo) (b : ℕ) : qSum Q D K V μ ν T S U lo t b = 0 := by
  unfold qSum
  rw [Finset.sum_eq_zero, Finset.sum_eq_zero, add_zero] <;>
  · intro s hs
    rw [ee_zero (h.trans (Finset.mem_Ico.1 hs).1), zero_mul]

theorem cc_zero {t lo : ℕ} (h : t ≤ lo) : cc Q K μ U t lo = 0 := Finset.sum_eq_zero fun _ hs => pp_zero (h.trans (Finset.mem_Ico.1 hs).1)
theorem dd_zero {t lo : ℕ} (h : t ≤ lo) : dd Q D K V μ U t lo = 0 := Finset.sum_eq_zero fun _ hs => gg_zero (h.trans (Finset.mem_Ico.1 hs).1)
theorem colr_cc_end (R : ℕ) : colr (cc Q K μ U) R U = 0 := by
  funext a b; simp [colr, cc, tail]
theorem colr_dd_end (R : ℕ) : colr (dd Q D K V μ U) R U = 0 := by
  funext a b; simp [colr, dd, tail]

/-! ## A tile -/

theorem sub_sub' (X : Mat) (R r : ℕ) : sub (sub X R) r = sub X (R + r) := by funext a b; simp only [sub, add_assoc]
theorem sub_colr (f : ℕ → ℕ → ℝ) (R r lo : ℕ) : sub (colr f R lo) r = colr f (R + r) lo := by funext a b; simp only [sub, colr, add_assoc]
theorem sub_fun (T : ℕ → ℝ) (R r : ℕ) : sub (fun a _ => T (R + a)) r = fun a _ => T (R + r + a) := by funext a b; simp only [sub, add_assoc]

/-- Sums that stay as they are for the rows before `r`, and grow for the rows from `r` on. -/
theorem grow_eq {X Y G : Mat} {r n m : ℕ} (hm : r + n = m) (h0 : ∀ a < r, ∀ b, X a b = Y a b) (h1 : ∀ a < n, ∀ b, (sub X r + G) a b = Y (r + a) b) :
    ∀ a < m, ∀ b, grow r X G a b = Y a b := by
  intro a ha b
  unfold grow over
  by_cases h : a < r
  · rw [if_pos h, h0 a h b]
  · rw [if_neg h, h1 _ (by omega), show r + (a - r) = a by omega]

/-- A sum over `m` rows whose first `r` terms vanish. -/
theorem sum_rest {f : ℕ → ℝ} {r n m : ℕ} (hm : r + n = m) (h : ∀ x < r, f x = 0) : ∑ x ∈ Finset.range m, f x = ∑ x ∈ Finset.range n, f (r + x) := by
  rw [← hm, Finset.sum_range_add, Finset.sum_eq_zero (s := Finset.range r) fun x hx => h x (Finset.mem_range.1 hx), zero_add]

section
variable {p : ℕ → ℕ → Bool} {n r : ℕ} (hp : ∀ a < n, ∀ b < 128, p a b = decide (o + b < R + r + a)) (hz : ∀ a < r, R + a ≤ o) (hU : o + 128 ≤ U) (hm : r + n = 512)
include hp hU

theorem tile_nn {a : ℕ} (ha : a < n) (b : ℕ) :
    nn (wgt p (zT r (sub Q R) (rows μ) (sub K o)) (sub (colr (cc Q K μ U) R (o + 128)) r)) (sub V o * rows μ) a b
      = ∑ s ∈ Finset.Ico o (o + 128), aa Q K μ U (R + r + a) s * (V s b * μ b) := by
  rw [zT, sub_sub', sub_colr]
  exact nn_sum (X := fun s l => V s l * μ l) (fun _ hx => tile_w hp hU ha hx) (fun _ => rfl)

theorem tile_eT {a b : ℕ} (ha : a < n) (hb : b < 128) :
    eT r p (sub Q R) (sub D R) (rows μ) (sub K o) (sub V o) (colr (cc Q K μ U) R (o + 128)) (colr (dd Q D K V μ U) R (o + 128)) (fun a _ => T (R + a)) a b
      = ee Q D K V μ T U (R + r + a) (o + b) := by
  rw [eT, gT, zT, zT, sub_sub', sub_sub', sub_colr, sub_colr, sub_fun]
  exact tile_e hp hU ha hb

theorem tile_nne {a : ℕ} (ha : a < n) (b : ℕ) :
    nn (eT r p (sub Q R) (sub D R) (rows μ) (sub K o) (sub V o) (colr (cc Q K μ U) R (o + 128)) (colr (dd Q D K V μ U) R (o + 128)) (fun a _ => T (R + a)))
        (sub K o * rows μ) a b
      = ∑ s ∈ Finset.Ico o (o + 128), ee Q D K V μ T U (R + r + a) s * (K s b * μ b) :=
  nn_sum (X := fun s l => K s l * μ l) (fun _ hx => tile_eT hp hU ha hx) (fun _ => rfl)

include hz hm

theorem tile_cT (a : ℕ) (ha : a < 512) (b : ℕ) :
    grow r (colr (cc Q K μ U) R (o + 128)) (tot (spK p (zT r (sub Q R) (rows μ) (sub K o)))) a b = colr (cc Q K μ U) R o a b := by
  refine grow_eq hm (fun a ha b => ?_) (fun a ha b => ?_) a ha b
  · have := hz a ha
    exact (cc_zero (by omega)).trans (cc_zero this).symm
  · rw [zT, sub_sub', sub_colr]
    exact (tile_c hp hU ha b).trans (by rw [colr, add_assoc])

theorem tile_dT (a : ℕ) (ha : a < 512) (b : ℕ) :
    grow r (colr (dd Q D K V μ U) R (o + 128)) (tot (gT r p (sub Q R) (sub D R) (rows μ) (sub K o) (sub V o) (colr (cc Q K μ U) R (o + 128)))) a b
      = colr (dd Q D K V μ U) R o a b := by
  refine grow_eq hm (fun a ha b => ?_) (fun a ha b => ?_) a ha b
  · have := hz a ha
    exact (dd_zero (by omega)).trans (dd_zero this).symm
  · rw [gT, zT, zT, sub_sub', sub_sub', sub_colr, sub_colr]
    exact (tile_d hp hU ha b).trans (by rw [colr, add_assoc])

theorem tile_oT (a : ℕ) (ha : a < 512) (b : ℕ) :
    grow r (fun a b => oSum Q K V μ ν U (o + 128) (R + a) b)
      (nn (wgt p (zT r (sub Q R) (rows μ) (sub K o)) (sub (colr (cc Q K μ U) R (o + 128)) r)) (sub V o * rows μ)
        + nn (wgt p (zT r (sub Q R) (rows ν) (sub K o)) (sub (colr (cc Q K ν U) R (o + 128)) r)) (sub V o * rows ν)) a b
      = oSum Q K V μ ν U o (R + a) b := by
  refine grow_eq hm (Y := fun a b => oSum Q K V μ ν U o (R + a) b) (fun a ha b => ?_) (fun a ha b => ?_) a ha b
  · have := hz a ha
    exact (oSum_zero (by omega) b).trans (oSum_zero this b).symm
  · show oSum Q K V μ ν U (o + 128) (R + (r + a)) b + (_ + _) = oSum Q K V μ ν U o (R + (r + a)) b
    rw [tile_nn hp hU ha, tile_nn hp hU ha, ← add_assoc R, ← oSum_step hU]

theorem tile_qT (a : ℕ) (ha : a < 512) (b : ℕ) :
    grow r (fun a b => qSum Q D K V μ ν T S U (o + 128) (R + a) b)
      (nn (eT r p (sub Q R) (sub D R) (rows μ) (sub K o) (sub V o) (colr (cc Q K μ U) R (o + 128)) (colr (dd Q D K V μ U) R (o + 128)) (fun a _ => T (R + a))) (sub K o * rows μ)
        + nn (eT r p (sub Q R) (sub D R) (rows ν) (sub K o) (sub V o) (colr (cc Q K ν U) R (o + 128)) (colr (dd Q D K V ν U) R (o + 128)) (fun a _ => S (R + a)))
          (sub K o * rows ν)) a b
      = qSum Q D K V μ ν T S U o (R + a) b := by
  refine grow_eq hm (Y := fun a b => qSum Q D K V μ ν T S U o (R + a) b) (fun a ha b => ?_) (fun a ha b => ?_) a ha b
  · have := hz a ha
    exact (qSum_zero (by omega) b).trans (qSum_zero this b).symm
  · show qSum Q D K V μ ν T S U (o + 128) (R + (r + a)) b + (_ + _) = qSum Q D K V μ ν T S U o (R + (r + a)) b
    rw [tile_nne hp hU ha, tile_nne hp hU ha, ← add_assoc R, ← qSum_step hU]

/-! ### The states -/

theorem fTile_inv :
    rvF (fTile r p (sub Q R) (rows μ) (rows ν) (sub K o) (sub V o) (fInv Q K V μ ν U R (o + 128))) = rvF (fInv Q K V μ ν U R o) :=
  Prod.ext (rv_congr .f32 fun a ha b _ => tile_cT hp hz hU hm a ha b) (Prod.ext (rv_congr .f32 fun a ha b _ => tile_cT hp hz hU hm a ha b)
    (rv_congr .f32 fun a ha b _ => tile_oT hp hz hU hm a ha b))

theorem bTile_inv :
    rvB (bTile r p (sub Q R) (sub D R) (rows μ) (rows ν) (fun a _ => T (R + a)) (fun a _ => S (R + a)) (sub K o) (sub V o) (bInv Q D K V μ ν T S U R (o + 128)))
      = rvB (bInv Q D K V μ ν T S U R o) :=
  Prod.ext (rv_congr .f32 fun a ha b _ => tile_cT hp hz hU hm a ha b) (Prod.ext (rv_congr .f32 fun a ha b _ => tile_cT hp hz hU hm a ha b)
    (Prod.ext (rv_congr .f32 fun a ha b _ => tile_dT hp hz hU hm a ha b) (Prod.ext (rv_congr .f32 fun a ha b _ => tile_dT hp hz hU hm a ha b)
      (rv_congr .f32 fun a ha b _ => tile_qT hp hz hU hm a ha b))))

/-! ### What a tile adds to the gradients of keys and values -/

variable (q : Mat) {a : ℕ} (ha : a < 128) (b : ℕ)
include ha

theorem tn_e :
    tn n (eT r p (sub Q R) (sub D R) (rows μ) (sub K o) (sub V o) (colr (cc Q K μ U) R (o + 128)) (colr (dd Q D K V μ U) R (o + 128)) (fun a _ => T (R + a))) (sub q r) a b
      = ∑ x ∈ Finset.range 512, ee Q D K V μ T U (R + x) (o + a) * q x b := by
  rw [sum_rest hm fun x hx => by have := hz x hx; rw [ee_zero (by omega), zero_mul]]
  exact Finset.sum_congr rfl fun x hx => by rw [tile_eT hp hU (Finset.mem_range.1 hx) ha, ← add_assoc]; rfl

theorem tn_w :
    tn n (wgt p (zT r (sub Q R) (rows μ) (sub K o)) (sub (colr (cc Q K μ U) R (o + 128)) r)) (sub q r) a b
      = ∑ x ∈ Finset.range 512, aa Q K μ U (R + x) (o + a) * q x b := by
  rw [sum_rest hm fun x hx => by have := hz x hx; rw [aa_zero (by omega), zero_mul], zT, sub_sub', sub_colr]
  exact Finset.sum_congr rfl fun x hx => by rw [tile_w hp hU (Finset.mem_range.1 hx) ha, ← add_assoc]; rfl

end

end

end Cert.Attn

end
-- ==== Proof.SemIter.lean ====
/-
  The walks on real entries from start to end: the output block of the forward kernel, and for the backward kernel the carried state and what the block of queries adds to the
  gradients of the keys and of the values.
-/
module

public import proofs.«01_k».proof.Proof.SemWalk
public import proofs.«01_k».proof.Proof.Walk

@[expose] public section

noncomputable section

namespace Cert.Attn

open Cert.KernelIdeal Cert.KernelIdeal.Gen
open Idealize.ShloMosaic Idealize.ShloMosaic.ValueIdx
open scoped BigOperators

/-! ## Tiles -/

theorem tile_rv (f : Mat) {o : ℕ} (ho : o + 128 ≤ 4096) : tile (F := Ideal) (e := .bf16) (rv S4096x128 .bf16 f) o = rv S128x128 .bf16 (sub f o) := by
  funext j
  obtain ⟨a, b, rfl⟩ : ∃ (a : Fin 128) (b : Fin 128), j = ix2 a b := ⟨j 0, j 1, eq_ix2 j⟩
  show ((f ((o + a.val) % 4096) b.val : ℝ) : EReal) = ((f (o + a.val) b.val : ℝ) : EReal)
  rw [Nat.mod_eq_of_lt (by omega)]

theorem tile_rv32 (f : Mat) {o : ℕ} (ho : o + 128 ≤ 4096) : tile (F := Ideal) (e := .f32) (rv S4096x128 .f32 f) o = rv S128x128 .f32 (sub f o) := by
  funext j
  obtain ⟨a, b, rfl⟩ : ∃ (a : Fin 128) (b : Fin 128), j = ix2 a b := ⟨j 0, j 1, eq_ix2 j⟩
  show ((f ((o + a.val) % 4096) b.val : ℝ) : EReal) = ((f (o + a.val) b.val : ℝ) : EReal)
  rw [Nat.mod_eq_of_lt (by omega)]

/-- The rows from `o` on, 128 of them, replaced. -/
def putM (f : Mat) (o : ℕ) (w : Mat) : Mat := fun a b => if o ≤ a ∧ a < o + 128 then w (a - o) b else f a b

theorem setTile_rv (f w : Mat) (o : ℕ) : setTile (F := Ideal) (e := .f32) (rv S4096x128 .f32 f) o (rv S128x128 .f32 w) = rv S4096x128 .f32 (putM f o w) := by
  funext j
  obtain ⟨a, b, rfl⟩ : ∃ (a : Fin 4096) (b : Fin 128), j = ix2 a b := ⟨j 0, j 1, eq_ix2 j⟩
  unfold setTile VecWindow.put
  show _ = ((putM f o w a.val b.val : ℝ) : EReal)
  unfold putM
  by_cases h : o ≤ a.val ∧ a.val < o + 128
  · rw [if_pos h, dif_pos (fun d => by match d with | ⟨0, _⟩ => exact h | ⟨1, _⟩ => exact ⟨Nat.zero_le _, by show b.val < 0 + 128; omega⟩)]
    rfl
  · rw [if_neg h, dif_neg (fun hc => h (hc 0))]
    rfl

/-- The first head's lanes, and the second's. -/
def mu0 (l : ℕ) : ℝ := if l < 64 then 1 else 0
def mu1 (l : ℕ) : ℝ := 1 - mu0 l

theorem headM_rows : headM = rows mu0 := rfl
theorem headN_rows : 1 - headM = rows mu1 := rfl
theorem eighth_sub (Q : Mat) (R : ℕ) : eighth (sub Q R) = sub (eighth Q) R := rfl

/-! ## Where a tile lies -/

/-- A tile of keys from `o` on and a part, for the block of rows from `R` on: the part's rows meet the tile's keys as its predicate says, the rows before them meet none. -/
structure Fits (n r : ℕ) (p : ℕ → ℕ → Bool) (R o : ℕ) : Prop where
  kept : ∀ a < n, ∀ b < 128, p a b = decide (o + b < R + r + a)
  before : ∀ a < r, R + a ≤ o
  size : r + n = 512

theorem fitsFull {R o : ℕ} (h : o + 128 ≤ R) : Fits 512 0 always R o :=
  ⟨fun a _ b hb => (decide_eq_true (by omega)).symm, fun a ha => by omega, rfl⟩

theorem fitsDiag {n r R o : ℕ} (h : o = R + r) (hn : r + n = 512) : Fits n r below R o :=
  ⟨fun a _ b _ => decide_eq_decide.mpr (by omega), fun a ha => by omega, hn⟩

section
variable (Q D O K V : Mat) (i : ℕ)

theorem fwdTile_rv {n r : ℕ} {p : ℕ → ℕ → Bool} {P : Part Ideal n} {R o lo U : ℕ} (L : Law P r p) (F : Fits n r p R o) (hlo : lo = o + 128) (hU : o + 128 ≤ U) (ho : o + 128 ≤ 4096) :
    P.fwd (k0_pay131 (F := Ideal)) (k0_pay132 (rv S512x128 .bf16 (sub Q R))) (k0_pay134 (F := Ideal)) (k0_pay135 (F := Ideal)) (tile (rv S4096x128 .bf16 K) o)
      (tile (rv S4096x128 .bf16 V) o) (rvF (fInv (eighth Q) K V mu0 mu1 U R lo)) = rvF (fInv (eighth Q) K V mu0 mu1 U R o) := by
  subst hlo
  rw [tile_rv _ ho, tile_rv _ ho, pay131_eq, pay132_eq, pay134_eq, pay135_eq, L.fwd]
  exact fTile_inv (Q := eighth Q) (μ := mu0) (ν := mu1) F.kept F.before hU F.size

theorem fwd0_rv (R U : ℕ) : fwd0 (F := Ideal) = rvF (fInv (eighth Q) K V mu0 mu1 U R U) := by
  rw [fwd0, pay136_eq, fInv, colr_cc_end, colr_cc_end, show (fun a b => oSum (eighth Q) K V mu0 mu1 U U (R + a) b) = 0 by funext a b; simp [oSum]]
  rfl

theorem fwdIter_rv (hi : i < 8) (j : ℕ) (hj : j ≤ i) :
    fwdIter (F := Ideal) i (rv S512x128 .bf16 (sub Q (512 * i))) (rv S4096x128 .bf16 K) (rv S4096x128 .bf16 V) j
      = rvF (fInv (eighth Q) K V mu0 mu1 (512 * i + 512) (512 * i) (512 * (i - j))) := by
  induction j with
  | zero =>
    rw [fwdIter, fwdGroup, fwd0_rv Q K V (512 * i) (512 * i + 512),
      fwdTile_rv Q K V law3 (fitsDiag rfl rfl) rfl (by omega) (by omega), fwdTile_rv Q K V law2 (fitsDiag rfl rfl) rfl (by omega) (by omega),
      fwdTile_rv Q K V law1 (fitsDiag rfl rfl) rfl (by omega) (by omega), fwdTile_rv Q K V law0 (fitsDiag (Nat.add_zero _).symm rfl) rfl (by omega) (by omega)]
    rfl
  | succ j ih =>
    rw [fwdIter, fwdGroup, ih (by omega), grp,
      fwdTile_rv Q K V lawFull (fitsFull (by omega)) (by omega) (by omega) (by omega), fwdTile_rv Q K V lawFull (fitsFull (by omega)) (by omega) (by omega) (by omega),
      fwdTile_rv Q K V lawFull (fitsFull (by omega)) (by omega) (by omega) (by omega), fwdTile_rv Q K V lawFull (fitsFull (by omega)) (by omega) (by omega) (by omega),
      show i - (j + 1) = i - 1 - j by omega]

/-! ## The backward walk -/

/-- Lane `b` of row `t`'s product with the output, summed over a head's lanes. -/
def tt0 (t : ℕ) : ℝ := tot (iteF headB (D * O) 0) t 0
def tt1 (t : ℕ) : ℝ := tot (iteF headC (D * O) 0) t 0

theorem tt0_eq (R : ℕ) : tot (iteF headB (sub D R * sub O R) 0) = fun a _ => tt0 D O (R + a) := rfl
theorem tt1_eq (R : ℕ) : tot (iteF headC (sub D R * sub O R) 0) = fun a _ => tt1 D O (R + a) := rfl

/-- A function of key and lane, on the keys from `lo` up to `hi`. -/
def onKeys (X : Mat) (lo hi : ℕ) : Mat := fun a b => if lo ≤ a ∧ a < hi then X a b else 0

/-- What the 512 rows from `R` on add to the gradient of the keys; `E0`, `E1` are the two heads' logit gradients. And to that of the values, with the weights. -/
def kAdd (E0 E1 : ℕ → ℕ → ℝ) (Q : Mat) (R : ℕ) : Mat :=
  fun a b => if b < 64 then ∑ r ∈ Finset.range 512, E0 (R + r) a * Q (R + r) b else ∑ r ∈ Finset.range 512, E1 (R + r) a * Q (R + r) b

theorem put_keys {f X w : Mat} {o hi : ℕ} (ho : o + 128 ≤ hi) (h : ∀ a < 128, ∀ b, w a b = X (o + a) b) :
    putM (f + onKeys X (o + 128) hi) o (sub (f + onKeys X (o + 128) hi) o + w) = f + onKeys X o hi := by
  funext a b
  show (if o ≤ a ∧ a < o + 128 then f (o + (a - o)) b + onKeys X (o + 128) hi (o + (a - o)) b + w (a - o) b
    else f a b + onKeys X (o + 128) hi a b) = f a b + onKeys X o hi a b
  unfold onKeys
  by_cases c : o ≤ a ∧ a < o + 128
  · rw [if_pos c, if_neg (by omega), if_pos (by omega), h _ (by omega), show o + (a - o) = a by omega, add_zero]
  · rw [if_neg c]
    by_cases c2 : o + 128 ≤ a ∧ a < hi
    · rw [if_pos c2, if_pos (by omega)]
    · rw [if_neg c2, if_neg (by omega)]

theorem onKeys_empty (X : Mat) (a : ℕ) : onKeys X a a = 0 := by
  funext x b; exact if_neg (by omega)

theorem iteF_headB (f g : Mat) (a b : ℕ) : iteF headB f g a b = if b < 64 then f a b else g a b := by
  unfold iteF headB; by_cases h : b < 64 <;> simp [h]

/-- The logit gradients and weights of the two heads. -/
abbrev E0 (U : ℕ) : ℕ → ℕ → ℝ := ee (eighth Q) D K V mu0 (tt0 D O) U
abbrev E1 (U : ℕ) : ℕ → ℕ → ℝ := ee (eighth Q) D K V mu1 (tt1 D O) U
abbrev A0 (U : ℕ) : ℕ → ℕ → ℝ := aa (eighth Q) K mu0 U
abbrev A1 (U : ℕ) : ℕ → ℕ → ℝ := aa (eighth Q) K mu1 U

/-- The backward walk's state when it has come down to key `lo`, from gradients `x` of the keys and `y` of the values. -/
def bState (x y : Mat) (U lo : ℕ) : BwdSt Ideal :=
  (rvB (bInv (eighth Q) D K V mu0 mu1 (tt0 D O) (tt1 D O) U (512 * i) lo),
   rv S4096x128 .f32 (x + onKeys (kAdd (E0 Q D O K V U) (E1 Q D O K V U) (eighth Q) (512 * i)) lo U),
   rv S4096x128 .f32 (y + onKeys (kAdd (A0 Q K U) (A1 Q K U) D (512 * i)) lo U))

/-- The words of the walk for a block of queries. -/
theorem words_sub (R : ℕ) : words (rv S512x128 .bf16 (sub Q R)) (rv S512x128 .bf16 (sub D R)) (rv S512x128 .f32 (sub O R))
    = rvW (sub (eighth Q) R) (sub D R) (rows mu0) (rows mu1) (fun a _ => tt0 D O (R + a)) (fun a _ => tt1 D O (R + a)) := by
  rw [words_rv, tt0_eq, tt1_eq, headN_rows, headM_rows, eighth_sub]

theorem bwdTile_rv {n r : ℕ} {p : ℕ → ℕ → Bool} {P : Part Ideal n} {o lo U : ℕ} (L : Law P r p) (F : Fits n r p (512 * i) o) (hlo : lo = o + 128) (hU : o + 128 ≤ U)
    (ho : o + 128 ≤ 4096) (x y : Mat) :
    bwdTile P (words (rv S512x128 .bf16 (sub Q (512 * i))) (rv S512x128 .bf16 (sub D (512 * i))) (rv S512x128 .f32 (sub O (512 * i))))
      (rv S4096x128 .bf16 K) (rv S4096x128 .bf16 V) o (bState Q D O K V i x y U lo) = bState Q D O K V i x y U o := by
  subst hlo
  rw [words_sub]
  unfold bwdTile bState
  dsimp only
  rw [tile_rv _ ho, tile_rv _ ho, tile_rv32 _ ho, tile_rv32 _ ho, L.bwd, L.dk, L.dv, setTile_rv, setTile_rv]
  refine Prod.ext ?_ (Prod.ext (congrArg (rv S4096x128 .f32) (put_keys hU fun a ha b => ?_)) (congrArg (rv S4096x128 .f32) (put_keys hU fun a ha b => ?_)))
  · exact bTile_inv (Q := eighth Q) (T := tt0 D O) (S := tt1 D O) (μ := mu0) (ν := mu1) F.kept F.before hU F.size
  · rw [iteF_headB, kAdd]
    congr 1
    · exact tn_e (Q := eighth Q) (T := tt0 D O) F.kept F.before hU F.size _ ha b
    · exact tn_e (Q := eighth Q) (T := tt1 D O) F.kept F.before hU F.size _ ha b
  · rw [iteF_headB, kAdd]
    congr 1
    · exact tn_w (Q := eighth Q) F.kept F.before hU F.size _ ha b
    · exact tn_w (Q := eighth Q) F.kept F.before hU F.size _ ha b

theorem bwd0_rv (x y : Mat) (U : ℕ) : (bwd0 (F := Ideal), rv S4096x128 .f32 x, rv S4096x128 .f32 y) = bState Q D O K V i x y U U := by
  unfold bState bInv
  rw [onKeys_empty, onKeys_empty, add_zero, add_zero, bwd0, pay275_eq, colr_cc_end, colr_cc_end, colr_dd_end, colr_dd_end,
    show (fun a b => qSum (eighth Q) D K V mu0 mu1 (tt0 D O) (tt1 D O) U U (512 * i + a) b) = 0 by funext a b; simp [qSum]]
  rfl

theorem bwdIter_rv (hi : i < 8) (x y : Mat) (j : ℕ) (hj : j ≤ i) :
    bwdIter (F := Ideal) i (rv S512x128 .bf16 (sub Q (512 * i))) (rv S512x128 .bf16 (sub D (512 * i))) (rv S512x128 .f32 (sub O (512 * i)))
      (rv S4096x128 .bf16 K) (rv S4096x128 .bf16 V) (rv S4096x128 .f32 x) (rv S4096x128 .f32 y) j
      = bState Q D O K V i x y (512 * i + 512) (512 * (i - j)) := by
  induction j with
  | zero =>
    rw [bwdIter, bwdGroup, bwd0_rv Q D O K V i x y (512 * i + 512),
      bwdTile_rv Q D O K V i law3 (fitsDiag rfl rfl) rfl (by omega) (by omega), bwdTile_rv Q D O K V i law2 (fitsDiag rfl rfl) rfl (by omega) (by omega),
      bwdTile_rv Q D O K V i law1 (fitsDiag rfl rfl) rfl (by omega) (by omega), bwdTile_rv Q D O K V i law0 (fitsDiag (Nat.add_zero _).symm rfl) rfl (by omega) (by omega)]
    rfl
  | succ j ih =>
    rw [bwdIter, bwdGroup, ih (by omega), grp,
      bwdTile_rv Q D O K V i lawFull (fitsFull (by omega)) (by omega) (by omega) (by omega), bwdTile_rv Q D O K V i lawFull (fitsFull (by omega)) (by omega) (by omega) (by omega),
      bwdTile_rv Q D O K V i lawFull (fitsFull (by omega)) (by omega) (by omega) (by omega), bwdTile_rv Q D O K V i lawFull (fitsFull (by omega)) (by omega) (by omega) (by omega),
      show i - (j + 1) = i - 1 - j by omega]

end

end Cert.Attn

end
-- ==== Proof.SemFull.lean ====
/-
  The walks' results with the sums over all 4096 keys: past a row's own place every term is zero, so the bound under which a block of queries takes its sums does not matter.
-/
module

public import proofs.«01_k».proof.Proof.SemIter

@[expose] public section

noncomputable section

namespace Cert.Attn

open Cert.KernelIdeal Cert.KernelIdeal.Gen
open Idealize.ShloMosaic Idealize.ShloMosaic.ValueIdx
open scoped BigOperators

theorem tail_bound {p : ℕ → ℝ} {t U W : ℕ} (hp : ∀ s, t ≤ s → p s = 0) (hU : t ≤ U) (hW : U ≤ W) (S : ℕ) : tail p U S = tail p W S := by
  unfold tail
  by_cases h : S ≤ U
  · rw [← Finset.sum_Ico_consecutive p h hW, Finset.sum_eq_zero (s := Finset.Ico U W) fun s hs => hp s (hU.trans (Finset.mem_Ico.1 hs).1), add_zero]
  · rw [Finset.Ico_eq_empty (by omega), Finset.sum_empty, Finset.sum_eq_zero fun s hs => hp s (by have := (Finset.mem_Ico.1 hs).1; omega)]

section
variable {Q D K V : Mat} {μ ν : ℕ → ℝ} {T S' : ℕ → ℝ} {t U W : ℕ} (hU : t ≤ U) (hW : U ≤ W)
include hU hW

theorem cc_bound (S : ℕ) : cc Q K μ U t S = cc Q K μ W t S := tail_bound (fun _ => pp_zero) hU hW S
theorem aa_bound (s : ℕ) : aa Q K μ U t s = aa Q K μ W t s := by unfold aa; rw [cc_bound hU hW]
theorem gg_bound (s : ℕ) : gg Q D K V μ U t s = gg Q D K V μ W t s := by unfold gg; rw [aa_bound hU hW]
theorem dd_bound (S : ℕ) : dd Q D K V μ U t S = dd Q D K V μ W t S := by
  unfold dd
  rw [show gg Q D K V μ U t = gg Q D K V μ W t from funext (gg_bound hU hW)]
  exact tail_bound (fun _ => gg_zero) hU hW S
theorem ee_bound (s : ℕ) : ee Q D K V μ T U t s = ee Q D K V μ T W t s := by unfold ee; rw [gg_bound hU hW, dd_bound hU hW]

theorem oSum_bound (b : ℕ) : oSum Q K V μ ν U 0 t b = oSum Q K V μ ν W 0 t b := by
  unfold oSum
  simp only [aa_bound hU hW]
  congr 1 <;> exact tail_bound (p := fun s => _ * (V s b * _)) (fun s h => by rw [aa_zero h, zero_mul]) hU hW 0
theorem qSum_bound (b : ℕ) : qSum Q D K V μ ν T S' U 0 t b = qSum Q D K V μ ν T S' W 0 t b := by
  unfold qSum
  simp only [ee_bound hU hW]
  congr 1 <;> exact tail_bound (p := fun s => _ * (K s b * _)) (fun s h => by rw [ee_zero h, zero_mul]) hU hW 0

end

section
variable (Q D O K V : Mat) (i : ℕ)

/-- The attention output of a pair of heads, and the gradient of its queries before the scale. -/
def oFull : Mat := fun t b => oSum (eighth Q) K V mu0 mu1 4096 0 t b
def qFull : Mat := fun t b => qSum (eighth Q) D K V mu0 mu1 (tt0 D O) (tt1 D O) 4096 0 t b
/-- The gradients of its keys and of its values from the first `N` rows. -/
def kFull (N : ℕ) : Mat := fun s b =>
  if b < 64 then ∑ t ∈ Finset.range N, E0 Q D O K V 4096 t s * eighth Q t b else ∑ t ∈ Finset.range N, E1 Q D O K V 4096 t s * eighth Q t b
def vFull (N : ℕ) : Mat := fun s b =>
  if b < 64 then ∑ t ∈ Finset.range N, A0 Q K 4096 t s * D t b else ∑ t ∈ Finset.range N, A1 Q K 4096 t s * D t b

variable (hi : i < 8)
include hi

theorem fwdOut_rv :
    fwdOut (F := Ideal) i (rv S512x128 .bf16 (sub Q (512 * i))) (rv S4096x128 .bf16 K) (rv S4096x128 .bf16 V) = rv S512x128 .f32 (sub (oFull Q K V) (512 * i)) := by
  unfold fwdOut
  rw [fwdIter_rv Q K V i hi i (le_refl i), Nat.sub_self]
  exact rv_congr _ fun a ha b _ => oSum_bound (by omega) (by omega) b

theorem onKeys_kFull (a b : ℕ) :
    onKeys (kAdd (E0 Q D O K V (512 * i + 512)) (E1 Q D O K V (512 * i + 512)) (eighth Q) (512 * i)) 0 (512 * i + 512) a b
      = kAdd (E0 Q D O K V 4096) (E1 Q D O K V 4096) (eighth Q) (512 * i) a b := by
  have h : kAdd (E0 Q D O K V (512 * i + 512)) (E1 Q D O K V (512 * i + 512)) (eighth Q) (512 * i) a b
      = kAdd (E0 Q D O K V 4096) (E1 Q D O K V 4096) (eighth Q) (512 * i) a b := by
    unfold kAdd
    congr 1 <;> exact Finset.sum_congr rfl fun r hr => by
      have := Finset.mem_range.1 hr
      exact congrArg (· * _) (ee_bound (by omega) (show 512 * i + 512 ≤ 4096 by omega) a)
  rw [← h]
  unfold onKeys
  by_cases c : a < 512 * i + 512
  · rw [if_pos ⟨Nat.zero_le a, c⟩]
  · rw [if_neg (by omega), kAdd, Finset.sum_eq_zero, Finset.sum_eq_zero, ite_self] <;>
    · intro r hr
      have := Finset.mem_range.1 hr
      exact mul_eq_zero_of_left (ee_zero (by omega)) _

theorem onKeys_vFull (a b : ℕ) :
    onKeys (kAdd (A0 Q K (512 * i + 512)) (A1 Q K (512 * i + 512)) D (512 * i)) 0 (512 * i + 512) a b
      = kAdd (A0 Q K 4096) (A1 Q K 4096) D (512 * i) a b := by
  have h : kAdd (A0 Q K (512 * i + 512)) (A1 Q K (512 * i + 512)) D (512 * i) a b
      = kAdd (A0 Q K 4096) (A1 Q K 4096) D (512 * i) a b := by
    unfold kAdd
    congr 1 <;> exact Finset.sum_congr rfl fun r hr => by
      have := Finset.mem_range.1 hr
      exact congrArg (· * _) (aa_bound (by omega) (show 512 * i + 512 ≤ 4096 by omega) a)
  rw [← h]
  unfold onKeys
  by_cases c : a < 512 * i + 512
  · rw [if_pos ⟨Nat.zero_le a, c⟩]
  · rw [if_neg (by omega), kAdd, Finset.sum_eq_zero, Finset.sum_eq_zero, ite_self] <;>
    · intro r hr
      have := Finset.mem_range.1 hr
      exact mul_eq_zero_of_left (aa_zero (by omega)) _

/-- The state at the end of a block of queries, the gradients before it being those of the rows before the block. -/
theorem bwdIter_full :
    bwdIter (F := Ideal) i (rv S512x128 .bf16 (sub Q (512 * i))) (rv S512x128 .bf16 (sub D (512 * i))) (rv S512x128 .f32 (sub O (512 * i)))
      (rv S4096x128 .bf16 K) (rv S4096x128 .bf16 V) (rv S4096x128 .f32 (kFull Q D O K V (512 * i))) (rv S4096x128 .f32 (vFull Q D K (512 * i))) i
      = (((rvB (bInv (eighth Q) D K V mu0 mu1 (tt0 D O) (tt1 D O) (512 * i + 512) (512 * i) 0)) : Bwd Ideal),
          rv S4096x128 .f32 (kFull Q D O K V (512 * (i + 1))), rv S4096x128 .f32 (vFull Q D K (512 * (i + 1)))) := by
  rw [bwdIter_rv Q D O K V i hi _ _ i (le_refl i), Nat.sub_self]
  refine Prod.ext rfl (Prod.ext (rv_congr .f32 fun a _ b _ => ?_) (rv_congr .f32 fun a _ b _ => ?_))
  · show kFull Q D O K V (512 * i) a b + onKeys _ 0 _ a b = _
    rw [onKeys_kFull Q D O K V i hi]
    unfold kFull kAdd
    by_cases hb : b < 64
    · rw [if_pos hb, if_pos hb, if_pos hb, ← Finset.sum_range_add]; rfl
    · rw [if_neg hb, if_neg hb, if_neg hb, ← Finset.sum_range_add]; rfl
  · show vFull Q D K (512 * i) a b + onKeys _ 0 _ a b = _
    rw [onKeys_vFull Q D K i hi]
    unfold vFull kAdd
    by_cases hb : b < 64
    · rw [if_pos hb, if_pos hb, if_pos hb, ← Finset.sum_range_add]; rfl
    · rw [if_neg hb, if_neg hb, if_neg hb, ← Finset.sum_range_add]; rfl

/-- The block of the gradient of the queries. -/
theorem bwd_dq :
    k1_pay3 (rvB (bInv (eighth Q) D K V mu0 mu1 (tt0 D O) (tt1 D O) (512 * i + 512) (512 * i) 0)).2.2.2.2
      = rv S512x128 .bf16 (sub (eighth (qFull Q D O K V)) (512 * i)) := by
  simp only [k1_pay3, rvB, rv_eighth, rv_mulf, rv_truncf]
  exact rv_congr _ fun a ha b _ => congrArg (· * (1 / 8 : ℝ)) (qSum_bound (by omega) (by omega) b)

end

end Cert.Attn

end
-- ==== Proof.Grid.lean ====
/-
  The two launches on real entries: which part of an array each window shows at a point of the grid, and what the result arrays hold at the end.
-/
module

public import proofs.«01_k».proof.Proof.Places
public import proofs.«01_k».proof.Proof.SemFull
public import proofs.«01_k».proof.Proof.RunMain

@[expose] public section

noncomputable section

namespace Cert.Attn

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The columns of array `X` from `128 * p` on. -/
def pair (X : Mat) (p : ℕ) : Mat := fun a l => X a (128 * p + l)

/-! ## The windows' places -/

theorem index0 : ∀ t : Fin grid0.N, (win0_0.index t 0 = t.val % 8 ∧ win0_0.index t 1 = t.val / 8) ∧ (win0_1.index t 0 = 0 ∧ win0_1.index t 1 = 4 + t.val / 8)
    ∧ (win0_2.index t 0 = 0 ∧ win0_2.index t 1 = 8 + t.val / 8) ∧ (win0_3.index t 0 = t.val % 8 ∧ win0_3.index t 1 = t.val / 8)
    ∧ (win0_4.index t 0 = t.val % 8 ∧ win0_4.index t 1 = t.val / 8) := by decide +kernel

theorem index1 : ∀ t : Fin grid1.N, (win1_0.index t 0 = t.val % 8 ∧ win1_0.index t 1 = t.val / 8) ∧ (win1_1.index t 0 = 0 ∧ win1_1.index t 1 = 4 + t.val / 8)
    ∧ (win1_2.index t 0 = 0 ∧ win1_2.index t 1 = 8 + t.val / 8) ∧ (win1_3.index t 0 = t.val % 8 ∧ win1_3.index t 1 = t.val / 8)
    ∧ (win1_4.index t 0 = t.val % 8 ∧ win1_4.index t 1 = t.val / 8) ∧ (win1_5.index t 0 = t.val % 8 ∧ win1_5.index t 1 = t.val / 8)
    ∧ (win1_6.index t 0 = 0 ∧ win1_6.index t 1 = t.val / 8) ∧ (win1_7.index t 0 = 0 ∧ win1_7.index t 1 = t.val / 8) := by decide +kernel

section
variable (X : Mat)

theorem read0_0 (t : Fin cfg0.N) : ((cfg0.win 0).blk t).view.read (Elt Ideal) (rv S4096x5120 .bf16 X) = rv S512x128 .bf16 (sub (pair X (t.val / 8)) (512 * (t.val % 8))) :=
  Ffn.shown_part (φ := .bf16) (fun a l => X a l) (Ffn.at_place win0_0 rfl (index0 t).1)

theorem read0_1 (t : Fin cfg0.N) : ((cfg0.win 1).blk t).view.read (Elt Ideal) (rv S4096x5120 .bf16 X) = rv S4096x128 .bf16 (pair X (4 + t.val / 8)) :=
  Ffn.shown_cols (φ := .bf16) (fun a l => X a l) (Ffn.at_place win0_1 rfl (index0 t).2.1)

theorem read0_2 (t : Fin cfg0.N) : ((cfg0.win 2).blk t).view.read (Elt Ideal) (rv S4096x5120 .bf16 X) = rv S4096x128 .bf16 (pair X (8 + t.val / 8)) :=
  Ffn.shown_cols (φ := .bf16) (fun a l => X a l) (Ffn.at_place win0_2 rfl (index0 t).2.2.1)

theorem read0_3 (t : Fin cfg0.N) : ((cfg0.win 3).blk t).view.read (Elt Ideal) (rv S4096x512 .bf16 X) = rv S512x128 .bf16 (sub (pair X (t.val / 8)) (512 * (t.val % 8))) :=
  Ffn.shown_part (φ := .bf16) (fun a l => X a l) (Ffn.at_place win0_3 rfl (index0 t).2.2.2.1)

theorem read0_4 (t : Fin cfg0.N) : ((cfg0.win 4).blk t).view.read (Elt Ideal) (rv S4096x512 .f32 X) = rv S512x128 .f32 (sub (pair X (t.val / 8)) (512 * (t.val % 8))) :=
  Ffn.shown_part (φ := .f32) (fun a l => X a l) (Ffn.at_place win0_4 rfl (index0 t).2.2.2.2)

theorem read1_0 (t : Fin cfg1.N) : ((cfg1.win 0).blk t).view.read (Elt Ideal) (rv S4096x5120 .bf16 X) = rv S512x128 .bf16 (sub (pair X (t.val / 8)) (512 * (t.val % 8))) :=
  Ffn.shown_part (φ := .bf16) (fun a l => X a l) (Ffn.at_place win1_0 rfl (index1 t).1)

theorem read1_1 (t : Fin cfg1.N) : ((cfg1.win 1).blk t).view.read (Elt Ideal) (rv S4096x5120 .bf16 X) = rv S4096x128 .bf16 (pair X (4 + t.val / 8)) :=
  Ffn.shown_cols (φ := .bf16) (fun a l => X a l) (Ffn.at_place win1_1 rfl (index1 t).2.1)

theorem read1_2 (t : Fin cfg1.N) : ((cfg1.win 2).blk t).view.read (Elt Ideal) (rv S4096x5120 .bf16 X) = rv S4096x128 .bf16 (pair X (8 + t.val / 8)) :=
  Ffn.shown_cols (φ := .bf16) (fun a l => X a l) (Ffn.at_place win1_2 rfl (index1 t).2.2.1)

theorem read1_3 (t : Fin cfg1.N) : ((cfg1.win 3).blk t).view.read (Elt Ideal) (rv S4096x512 .f32 X) = rv S512x128 .f32 (sub (pair X (t.val / 8)) (512 * (t.val % 8))) :=
  Ffn.shown_part (φ := .f32) (fun a l => X a l) (Ffn.at_place win1_3 rfl (index1 t).2.2.2.1)

theorem read1_4 (t : Fin cfg1.N) : ((cfg1.win 4).blk t).view.read (Elt Ideal) (rv S4096x512 .bf16 X) = rv S512x128 .bf16 (sub (pair X (t.val / 8)) (512 * (t.val % 8))) :=
  Ffn.shown_part (φ := .bf16) (fun a l => X a l) (Ffn.at_place win1_4 rfl (index1 t).2.2.2.2.1)

theorem read1_5 (t : Fin cfg1.N) : ((cfg1.win 5).blk t).view.read (Elt Ideal) (rv S4096x512 .bf16 X) = rv S512x128 .bf16 (sub (pair X (t.val / 8)) (512 * (t.val % 8))) :=
  Ffn.shown_part (φ := .bf16) (fun a l => X a l) (Ffn.at_place win1_5 rfl (index1 t).2.2.2.2.2.1)

theorem read1_6 (t : Fin cfg1.N) : ((cfg1.win 6).blk t).view.read (Elt Ideal) (rv S4096x512 .f32 X) = rv S4096x128 .f32 (pair X (t.val / 8)) :=
  Ffn.shown_cols (φ := .f32) (fun a l => X a l) (Ffn.at_place win1_6 rfl (index1 t).2.2.2.2.2.2.1)

theorem read1_7 (t : Fin cfg1.N) : ((cfg1.win 7).blk t).view.read (Elt Ideal) (rv S4096x512 .f32 X) = rv S4096x128 .f32 (pair X (t.val / 8)) :=
  Ffn.shown_cols (φ := .f32) (fun a l => X a l) (Ffn.at_place win1_7 rfl (index1 t).2.2.2.2.2.2.2)

end

end Cert.Attn

end
-- ==== Proof.Final.lean ====
/-
  What the result arrays hold when the two launches are done, for arguments with real entries.
-/
module

public import proofs.«01_k».proof.Proof.Grid

@[expose] public section

noncomputable section

namespace Cert.Attn

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The matrix whose columns from `128 * p` on are those of `f p`. -/
def wide (f : ℕ → Mat) : Mat := fun a j => f (j / 128) a (j % 128)

theorem pair_wide (f : ℕ → Mat) (p a : ℕ) {l : ℕ} (hl : l < 128) : pair (wide f) p a l = f p a l := by
  unfold pair wide
  rw [show (128 * p + l) / 128 = p by omega, show (128 * p + l) % 128 = l by omega]

/-! ## Every index lies in some window written back -/

section
variable (i : S4096x512.Idx)

/-- The grid point of an index, where each block of queries has its own place. -/
def pt : ℕ := 8 * ((i 1).val / 128) + (i 0).val / 512
theorem pt_lt : pt i < 32 := by
  have h0 : (i 0).val < 4096 := (i 0).isLt
  have h1 : (i 1).val < 512 := (i 1).isLt
  unfold pt; omega
/-- The last grid point of an index's pair of heads. -/
def lastPt : ℕ := 8 * ((i 1).val / 128) + 7
theorem lastPt_lt : lastPt i < 32 := by
  have h1 : (i 1).val < 512 := (i 1).isLt
  unfold lastPt; omega

theorem cover0_3 : ∃ t : Fin cfg0.N, (cfg0.win 3).flush t = true ∧ i ∈ ((cfg0.win 3).blk t).view.set := by
  have h0 : (i 0).val < 4096 := (i 0).isLt
  have h1 : (i 1).val < 512 := (i 1).isLt
  refine ⟨⟨pt i, pt_lt i⟩, flush0_3 _, ?_⟩
  show i ∈ ((View.whole main_v0_0).slice (win0_3.rect ⟨pt i, pt_lt i⟩)).set
  rw [View.set_slice_whole, Rect.mem_set_unit]
  intro a
  match a with
  | ⟨0, _⟩ =>
    show win0_3.index ⟨pt i, pt_lt i⟩ 0 * 512 ≤ (i 0).val ∧ (i 0).val < win0_3.index ⟨pt i, pt_lt i⟩ 0 * 512 + 512
    rw [(index0 ⟨pt i, pt_lt i⟩).2.2.2.1.1]; show pt i % 8 * 512 ≤ (i 0).val ∧ (i 0).val < pt i % 8 * 512 + 512; unfold pt; omega
  | ⟨1, _⟩ =>
    show win0_3.index ⟨pt i, pt_lt i⟩ 1 * 128 ≤ (i 1).val ∧ (i 1).val < win0_3.index ⟨pt i, pt_lt i⟩ 1 * 128 + 128
    rw [(index0 ⟨pt i, pt_lt i⟩).2.2.2.1.2]; show pt i / 8 * 128 ≤ (i 1).val ∧ (i 1).val < pt i / 8 * 128 + 128; unfold pt; omega

theorem cover0_4 : ∃ t : Fin cfg0.N, (cfg0.win 4).flush t = true ∧ i ∈ ((cfg0.win 4).blk t).view.set := by
  have h0 : (i 0).val < 4096 := (i 0).isLt
  have h1 : (i 1).val < 512 := (i 1).isLt
  refine ⟨⟨pt i, pt_lt i⟩, flush0_4 _, ?_⟩
  show i ∈ ((View.whole main_v0_1).slice (win0_4.rect ⟨pt i, pt_lt i⟩)).set
  rw [View.set_slice_whole, Rect.mem_set_unit]
  intro a
  match a with
  | ⟨0, _⟩ =>
    show win0_4.index ⟨pt i, pt_lt i⟩ 0 * 512 ≤ (i 0).val ∧ (i 0).val < win0_4.index ⟨pt i, pt_lt i⟩ 0 * 512 + 512
    rw [(index0 ⟨pt i, pt_lt i⟩).2.2.2.2.1]; show pt i % 8 * 512 ≤ (i 0).val ∧ (i 0).val < pt i % 8 * 512 + 512; unfold pt; omega
  | ⟨1, _⟩ =>
    show win0_4.index ⟨pt i, pt_lt i⟩ 1 * 128 ≤ (i 1).val ∧ (i 1).val < win0_4.index ⟨pt i, pt_lt i⟩ 1 * 128 + 128
    rw [(index0 ⟨pt i, pt_lt i⟩).2.2.2.2.2]; show pt i / 8 * 128 ≤ (i 1).val ∧ (i 1).val < pt i / 8 * 128 + 128; unfold pt; omega

theorem cover1_5 : ∃ t : Fin cfg1.N, (cfg1.win 5).flush t = true ∧ i ∈ ((cfg1.win 5).blk t).view.set := by
  have h0 : (i 0).val < 4096 := (i 0).isLt
  have h1 : (i 1).val < 512 := (i 1).isLt
  refine ⟨⟨pt i, pt_lt i⟩, flush1_5 _, ?_⟩
  show i ∈ ((View.whole main_v1_0).slice (win1_5.rect ⟨pt i, pt_lt i⟩)).set
  rw [View.set_slice_whole, Rect.mem_set_unit]
  intro a
  match a with
  | ⟨0, _⟩ =>
    show win1_5.index ⟨pt i, pt_lt i⟩ 0 * 512 ≤ (i 0).val ∧ (i 0).val < win1_5.index ⟨pt i, pt_lt i⟩ 0 * 512 + 512
    rw [(index1 ⟨pt i, pt_lt i⟩).2.2.2.2.2.1.1]; show pt i % 8 * 512 ≤ (i 0).val ∧ (i 0).val < pt i % 8 * 512 + 512; unfold pt; omega
  | ⟨1, _⟩ =>
    show win1_5.index ⟨pt i, pt_lt i⟩ 1 * 128 ≤ (i 1).val ∧ (i 1).val < win1_5.index ⟨pt i, pt_lt i⟩ 1 * 128 + 128
    rw [(index1 ⟨pt i, pt_lt i⟩).2.2.2.2.2.1.2]; show pt i / 8 * 128 ≤ (i 1).val ∧ (i 1).val < pt i / 8 * 128 + 128; unfold pt; omega

theorem cover1_6 : ∃ t : Fin cfg1.N, (cfg1.win 6).flush t = true ∧ i ∈ ((cfg1.win 6).blk t).view.set := by
  have h0 : (i 0).val < 4096 := (i 0).isLt
  have h1 : (i 1).val < 512 := (i 1).isLt
  refine ⟨⟨lastPt i, lastPt_lt i⟩, (flush1_6 _).2 (by show lastPt i % 8 = 7; unfold lastPt; omega), ?_⟩
  show i ∈ ((View.whole main_v1_1).slice (win1_6.rect ⟨lastPt i, lastPt_lt i⟩)).set
  rw [View.set_slice_whole, Rect.mem_set_unit]
  intro a
  match a with
  | ⟨0, _⟩ =>
    show win1_6.index ⟨lastPt i, lastPt_lt i⟩ 0 * 4096 ≤ (i 0).val ∧ (i 0).val < win1_6.index ⟨lastPt i, lastPt_lt i⟩ 0 * 4096 + 4096
    rw [(index1 ⟨lastPt i, lastPt_lt i⟩).2.2.2.2.2.2.1.1]; omega
  | ⟨1, _⟩ =>
    show win1_6.index ⟨lastPt i, lastPt_lt i⟩ 1 * 128 ≤ (i 1).val ∧ (i 1).val < win1_6.index ⟨lastPt i, lastPt_lt i⟩ 1 * 128 + 128
    rw [(index1 ⟨lastPt i, lastPt_lt i⟩).2.2.2.2.2.2.1.2]; show lastPt i / 8 * 128 ≤ (i 1).val ∧ (i 1).val < lastPt i / 8 * 128 + 128; unfold lastPt; omega

theorem cover1_7 : ∃ t : Fin cfg1.N, (cfg1.win 7).flush t = true ∧ i ∈ ((cfg1.win 7).blk t).view.set := by
  have h0 : (i 0).val < 4096 := (i 0).isLt
  have h1 : (i 1).val < 512 := (i 1).isLt
  refine ⟨⟨lastPt i, lastPt_lt i⟩, (flush1_7 _).2 (by show lastPt i % 8 = 7; unfold lastPt; omega), ?_⟩
  show i ∈ ((View.whole main_v1_2).slice (win1_7.rect ⟨lastPt i, lastPt_lt i⟩)).set
  rw [View.set_slice_whole, Rect.mem_set_unit]
  intro a
  match a with
  | ⟨0, _⟩ =>
    show win1_7.index ⟨lastPt i, lastPt_lt i⟩ 0 * 4096 ≤ (i 0).val ∧ (i 0).val < win1_7.index ⟨lastPt i, lastPt_lt i⟩ 0 * 4096 + 4096
    rw [(index1 ⟨lastPt i, lastPt_lt i⟩).2.2.2.2.2.2.2.1]; omega
  | ⟨1, _⟩ =>
    show win1_7.index ⟨lastPt i, lastPt_lt i⟩ 1 * 128 ≤ (i 1).val ∧ (i 1).val < win1_7.index ⟨lastPt i, lastPt_lt i⟩ 1 * 128 + 128
    rw [(index1 ⟨lastPt i, lastPt_lt i⟩).2.2.2.2.2.2.2.2]; show lastPt i / 8 * 128 ≤ (i 1).val ∧ (i 1).val < lastPt i / 8 * 128 + 128; unfold lastPt; omega

end

section
variable (V : Bufs Ideal) (c : Dev nD) (X : Mat)

/-- The output of a pair of heads, and all outputs. -/
def oP (p : ℕ) : Mat := oFull (pair X p) (pair X (4 + p)) (pair X (8 + p))

theorem out0_rv (h0 : V c main_arg0 = rv S4096x5120 .bf16 X) (t : Fin cfg0.N) :
    out0 V c t = rv S512x128 .f32 (sub (oP X (t.val / 8)) (512 * (t.val % 8))) := by
  unfold out0
  rw [qb0_eq, show blk0 V c 0 t = _ from (congrArg (((cfg0.win 0).blk t).view.read (Elt Ideal)) h0).trans (read0_0 X t),
    show blk0 V c 1 t = _ from (congrArg (((cfg0.win 1).blk t).view.read (Elt Ideal)) h0).trans (read0_1 X t),
    show blk0 V c 2 t = _ from (congrArg (((cfg0.win 2).blk t).view.read (Elt Ideal)) h0).trans (read0_2 X t)]
  exact fwdOut_rv _ _ _ _ (by omega)

theorem final0_3 (h0 : V c main_arg0 = rv S4096x5120 .bf16 X) : (dat0 V c).arrAt 3 cfg0.N = rv S4096x512 .bf16 (wide (oP X)) := by
  refine (dat0 V c).arrAt_eq_of_cover 3 (rv S4096x512 .bf16 (wide (oP X))) (fun t _ => ?_) cover0_3
  show (cfg0.win 3).cut (grid0.coords t) ((dat0 V c).after 3 t) = _
  rw [after0_3, out0_rv V c X h0, read0_3]
  exact rv_congr .bf16 fun a _ b hb => (pair_wide (oP X) _ _ hb).symm

theorem final0_4 (h0 : V c main_arg0 = rv S4096x5120 .bf16 X) : (dat0 V c).arrAt 4 cfg0.N = rv S4096x512 .f32 (wide (oP X)) := by
  refine (dat0 V c).arrAt_eq_of_cover 4 (rv S4096x512 .f32 (wide (oP X))) (fun t _ => ?_) cover0_4
  show (cfg0.win 4).cut (grid0.coords t) ((dat0 V c).after 4 t) = _
  rw [after0_4, out0_rv V c X h0, read0_4]
  exact rv_congr .f32 fun a _ b hb => (pair_wide (oP X) _ _ hb).symm

/-! ## The backward launch -/

variable (D : Mat)

/-- The gradient of a pair's queries, and those of its keys and of its values from the first `N` rows. -/
def qP (p : ℕ) : Mat := eighth (qFull (pair X p) (pair D p) (oP X p) (pair X (4 + p)) (pair X (8 + p)))
def kP (N p : ℕ) : Mat := kFull (pair X p) (pair D p) (oP X p) (pair X (4 + p)) (pair X (8 + p)) N
def vP (N p : ℕ) : Mat := vFull (pair X p) (pair D p) (pair X (4 + p)) N
/-- The carried state at the end of the walk of pair `p`'s block `i`. -/
def sP (p i : ℕ) : BSt := bInv (eighth (pair X p)) (pair D p) (pair X (4 + p)) (pair X (8 + p)) mu0 mu1 (tt0 (pair D p) (oP X p)) (tt1 (pair D p) (oP X p)) (512 * i + 512) (512 * i) 0

section
variable (h0 : V c main_arg0 = rv S4096x5120 .bf16 X) (h1 : V c main_arg1 = rv S4096x512 .bf16 D) (h2 : V c main_v0_1 = rv S4096x512 .f32 (wide (oP X)))
include h0 h1 h2

theorem walk1_rv (t : Fin cfg1.N) (x y : Vec Ideal S4096x128 .f32)
    (hx : start (qb1 t) (k1_pay256 (F := Ideal)) x = rv S4096x128 .f32 (kP X D (512 * (t.val % 8)) (t.val / 8)))
    (hy : start (qb1 t) (k1_pay257 (F := Ideal)) y = rv S4096x128 .f32 (vP X D (512 * (t.val % 8)) (t.val / 8))) :
    walk1 V c t x y = ((rvB (sP X D (t.val / 8) (t.val % 8)) : Bwd Ideal), rv S4096x128 .f32 (kP X D (512 * (t.val % 8 + 1)) (t.val / 8)),
      rv S4096x128 .f32 (vP X D (512 * (t.val % 8 + 1)) (t.val / 8))) := by
  have h3 : (rv S512x128 .f32 (sub (pair (wide (oP X)) (t.val / 8)) (512 * (t.val % 8))) : FVec Ideal S512x128 .f32)
      = rv S512x128 .f32 (sub (oP X (t.val / 8)) (512 * (t.val % 8))) := rv_congr .f32 fun a _ b hb => pair_wide (oP X) _ _ hb
  unfold walk1
  rw [hx, hy, qb1_eq, show blk1 V c 0 t = _ from (congrArg (((cfg1.win 0).blk t).view.read (Elt Ideal)) h0).trans (read1_0 X t),
    show blk1 V c 1 t = _ from (congrArg (((cfg1.win 1).blk t).view.read (Elt Ideal)) h0).trans (read1_1 X t),
    show blk1 V c 2 t = _ from (congrArg (((cfg1.win 2).blk t).view.read (Elt Ideal)) h0).trans (read1_2 X t),
    show blk1 V c 3 t = _ from ((congrArg (((cfg1.win 3).blk t).view.read (Elt Ideal)) h2).trans (read1_3 _ t)).trans h3,
    show blk1 V c 4 t = _ from (congrArg (((cfg1.win 4).blk t).view.read (Elt Ideal)) h1).trans (read1_4 D t)]
  exact bwdIter_full _ _ _ _ _ _ (by omega)

theorem zero_k (p : ℕ) : (k1_pay256 (F := Ideal)) = rv S4096x128 .f32 (kP X D 0 p) := by
  rw [k1_pay256, rv_zero]
  exact rv_congr .f32 fun a _ b _ => by simp [kP, kFull]
theorem zero_v (p : ℕ) : (k1_pay257 (F := Ideal)) = rv S4096x128 .f32 (vP X D 0 p) := by
  rw [k1_pay257, rv_zero]
  exact rv_congr .f32 fun a _ b _ => by simp [vP, vFull]

theorem acc1_rv : ∀ (n : ℕ) (hn : n < cfg1.N), acc1 V c n hn = ((rvB (sP X D (n / 8) (n % 8)) : Bwd Ideal),
      rv S4096x128 .f32 (kP X D (512 * (n % 8 + 1)) (n / 8)), rv S4096x128 .f32 (vP X D (512 * (n % 8 + 1)) (n / 8)))
  | 0, hn => walk1_rv V c X D h0 h1 h2 ⟨0, hn⟩ _ _ ((if_pos (qb1_eq _)).trans (zero_k V c X D h0 h1 h2 0)) ((if_pos (qb1_eq _)).trans (zero_v V c X D h0 h1 h2 0))
  | n + 1, hn => by
    refine walk1_rv V c X D h0 h1 h2 ⟨n + 1, hn⟩ _ _ ?_ ?_
    · unfold start
      rw [qb1_eq]
      dsimp only
      by_cases h : (n + 1) % 8 = 0
      · rw [if_pos h, h]; exact zero_k V c X D h0 h1 h2 _
      · rw [if_neg h, acc1_rv n]
        dsimp only
        rw [show (n + 1) % 8 = n % 8 + 1 by omega, show (n + 1) / 8 = n / 8 by omega]
    · unfold start
      rw [qb1_eq]
      dsimp only
      by_cases h : (n + 1) % 8 = 0
      · rw [if_pos h, h]; exact zero_v V c X D h0 h1 h2 _
      · rw [if_neg h, acc1_rv n]
        dsimp only
        rw [show (n + 1) % 8 = n % 8 + 1 by omega, show (n + 1) / 8 = n / 8 by omega]

theorem final1_5 : (dat1 V c).arrAt 5 cfg1.N = rv S4096x512 .bf16 (wide (qP X D)) := by
  refine (dat1 V c).arrAt_eq_of_cover 5 (rv S4096x512 .bf16 (wide (qP X D))) (fun t _ => ?_) cover1_5
  show (cfg1.win 5).cut (grid1.coords t) ((dat1 V c).after 5 t) = _
  rw [after1_5, acc1_rv V c X D h0 h1 h2, read1_5]
  exact (bwd_dq _ _ _ _ _ _ (by omega)).trans (rv_congr .bf16 fun a _ b hb => (pair_wide (qP X D) _ _ hb).symm)

theorem final1_6 : (dat1 V c).arrAt 6 cfg1.N = rv S4096x512 .f32 (wide (kP X D 4096)) := by
  refine (dat1 V c).arrAt_eq_of_cover 6 (rv S4096x512 .f32 (wide (kP X D 4096))) (fun t hf => ?_) cover1_6
  show (cfg1.win 6).cut (grid1.coords t) ((dat1 V c).after 6 t) = _
  rw [after1_6, acc1_rv V c X D h0 h1 h2, read1_6, (flush1_6 t).1 hf]
  exact rv_congr .f32 fun a _ b hb => (pair_wide (kP X D 4096) _ _ hb).symm

theorem final1_7 : (dat1 V c).arrAt 7 cfg1.N = rv S4096x512 .f32 (wide (vP X D 4096)) := by
  refine (dat1 V c).arrAt_eq_of_cover 7 (rv S4096x512 .f32 (wide (vP X D 4096))) (fun t hf => ?_) cover1_7
  show (cfg1.win 7).cut (grid1.coords t) ((dat1 V c).after 7 t) = _
  rw [after1_7, acc1_rv V c X D h0 h1 h2, read1_7, (flush1_7 t).1 hf]
  exact rv_congr .f32 fun a _ b hb => (pair_wide (vP X D 4096) _ _ hb).symm

end

end

/-! ## The whole program -/

section
variable (m : (ℓ : Loc nD τ sig) → Buf (Elt Ideal) ℓ) (c : Dev nD) (X D : Mat)
variable (h0 : m ((c : Thread nD τ).loc main_arg0) = rv S4096x5120 .bf16 X) (h1 : m ((c : Thread nD τ).loc main_arg1) = rv S4096x512 .bf16 D)
include h0

theorem b1_arg0 : b1 m c main_arg0 = rv S4096x5120 .bf16 X := (w1_in0 m c 0 rfl).trans h0
theorem b1_o32 : b1 m c main_v0_1 = rv S4096x512 .f32 (wide (oP X)) := (w1_arr m c 4).trans (final0_4 (b0 m) c X h0)

theorem res_o : mem2 m c (Proc.devRef .tc main_v0_0) = rv S4096x512 .bf16 (wide (oP X)) :=
  (w2_of_ne m c main_v0_0 (by decide)).trans ((w1_arr m c 3).trans (final0_3 (b0 m) c X h0))

include h1

theorem b1_arg1 : b1 m c main_arg1 = rv S4096x512 .bf16 D := (w1_of_ne m c main_arg1 (by decide)).trans h1

theorem res_dq : mem2 m c (Proc.devRef .tc main_v1_0) = rv S4096x512 .bf16 (wide (qP X D)) :=
  (w2_arr m c 5).trans (final1_5 (b1 m) c X D (b1_arg0 m c X h0) (b1_arg1 m c X D h0 h1) (b1_o32 m c X h0))
theorem res_dk : mem2 m c (Proc.devRef .tc main_v1_1) = rv S4096x512 .f32 (wide (kP X D 4096)) :=
  (w2_arr m c 6).trans (final1_6 (b1 m) c X D (b1_arg0 m c X h0) (b1_arg1 m c X D h0 h1) (b1_o32 m c X h0))
theorem res_dv : mem2 m c (Proc.devRef .tc main_v1_2) = rv S4096x512 .f32 (wide (vP X D 4096)) :=
  (w2_arr m c 7).trans (final1_7 (b1 m) c X D (b1_arg0 m c X h0) (b1_arg1 m c X D h0 h1) (b1_o32 m c X h0))

end

end Cert.Attn

end
-- ==== Proof.RefVal.lean ====
/-
  What the reference computes of real arguments: attention's output and the three gradients, as sums over heads, rows and keys.
-/
module

public import proofs.«01_k».proof.Proof.RefOps
public import proofs.«01_k».proof.Proof.Gen.ReferenceIdeal.Run

@[expose] public section

noncomputable section

namespace Cert.Attn

open Cert.ReferenceIdeal Cert.ReferenceIdeal.Gen Cert.ReferenceIdeal.Value
open Idealize.ShloMosaic Idealize.ShloMosaic.ValueIdx Idealize.ShloMosaic.StableHlo
open scoped BigOperators

section
variable (X D : Mat)

/-- The heads of the 512 columns from `o` on. -/
def heads (Y : Mat) (o : ℕ) : Ten := fun h t d => Y t (o + (64 * h + d))
/-- The scaled logits. -/
def zR : Ten := fun h t s => (∑ d ∈ Finset.range 64, heads X 0 h t d * heads X 512 h s d) * (1 / 8)
/-- The logarithms of what a key leaves to those before it. -/
def lfR : Ten := ite3 before (-sp3 (zR X)) 0
/-- The weights, before the mask. -/
def wR : Ten := exp3 (-sp3 (-zR X) + (fromC (lfR X) - lfR X))
/-- The weights. -/
def aR : Ten := ite3 before (wR X) 0
/-- The gradient of the weights' logarithms. -/
def gR : Ten := ite3 before (fun h t s => ∑ d ∈ Finset.range 64, heads D 0 h t d * heads X 1024 h s d) 0 * wR X
/-- The gradient of the logits before the scale. -/
def eR : Ten := (-(-gR X D * exp3 (-zR X - sp3 (-zR X))) + -(-(-ite3 before (-gR X D + upTo (gR X D)) 0 * exp3 (zR X - sp3 (zR X))))) * fun _ _ _ => 1 / 8
/-- The output. -/
def oR : Ten := fun h t d => ∑ s ∈ Finset.range 4096, aR X h t s * heads X 1024 h s d
/-- The gradients of the queries, the keys and the values. -/
def dqR : Ten := fun h t d => ∑ s ∈ Finset.range 4096, eR X D h t s * heads X 512 h s d
def dkR : Ten := fun h s d => ∑ t ∈ Finset.range 4096, eR X D h t s * heads X 0 h t d
def dvR : Ten := fun h s d => ∑ t ∈ Finset.range 4096, heads D 0 h t d * aR X h t s

/-- The heads side by side. -/
def joined (f : Ten) : Mat := fun t j => f (j / 64) t (j % 64)

end

variable (V0 : Valuation τ sig (Elt Ideal)) (X D : Mat) (h0 : V0 (Proc.devRef .tc main_arg0) = rv S4096x5120 .bf16 X) (h1 : V0 (Proc.devRef .tc main_arg1) = rv S4096x512 .bf16 D)

theorem slice_heads (o : ℕ) (h1 h2 h3 h4) :
    transpose S8x4096x64 [1, 0, 2] (shapeCast S4096x8x64 (extf .f32 (extractStridedSlice S4096x512 ![0, o] (rv S4096x5120 .bf16 X) h1) h2) h3) h4
      = rv3 S8x4096x64 .f32 (heads X o) := by
  refine (split_heads (fun a b => X (0 + a) (o + b)) h3 h4).trans ?_
  simp only [Nat.zero_add]
  rfl

include h0 in
theorem v7_eq : res_main_v7 V0 = rv3 S8x4096x64 .f32 (heads X 0) := by
  unfold res_main_v7; rw [h0]; exact slice_heads X 0 _ _ _ _
include h0 in
theorem v9_eq : res_main_v9 V0 = rv3 S8x4096x64 .f32 (heads X 512) := by
  unfold res_main_v9; rw [h0]; exact slice_heads X 512 _ _ _ _
include h0 in
theorem v29_eq : res_main_v29 V0 = rv3 S8x4096x64 .f32 (heads X 1024) := by
  unfold res_main_v29; rw [h0]; exact slice_heads X 1024 _ _ _ _
include h1 in
theorem v35_eq : res_main_v35 V0 = rv3 S8x4096x64 .f32 (heads D 0) := by
  unfold res_main_v35; rw [h1]
  refine (split_heads D _ _).trans ?_
  unfold heads
  simp only [Nat.zero_add]

/-- Rows times rows. -/
theorem dot_nt (f g : Ten) : Host.dotGeneral dot_S8x4096x64_S8x4096x64_S8x4096x4096_2_2_1_1_0_0 none (rv3 S8x4096x64 .f32 f) (rv3 S8x4096x64 .f32 g)
    = rv3 S8x4096x4096 .f32 (fun h t s => ∑ d ∈ Finset.range 64, f h t d * g h s d) :=
  (dot_sum _ 64 rfl rfl _ _ (fun j k => f (j 0).val (j 1).val k) (fun j k => g (j 0).val (j 2).val k) (fun _ _ => rfl) (fun _ _ => rfl)).trans rfl
/-- Rows times columns. -/
theorem dot_nn (f g : Ten) : Host.dotGeneral dot_S8x4096x4096_S8x4096x64_S8x4096x64_2_1_1_2_0_0 none (rv3 S8x4096x4096 .f32 f) (rv3 S8x4096x64 .f32 g)
    = rv3 S8x4096x64 .f32 (fun h t d => ∑ s ∈ Finset.range 4096, f h t s * g h s d) :=
  (dot_sum _ 4096 rfl rfl _ _ (fun j k => f (j 0).val (j 1).val k) (fun j k => g (j 0).val k (j 2).val) (fun _ _ => rfl) (fun _ _ => rfl)).trans rfl
/-- Columns times columns. -/
theorem dot_tn (f g : Ten) : Host.dotGeneral dot_S8x4096x4096_S8x4096x64_S8x4096x64_1_1_2_2_0_0 none (rv3 S8x4096x4096 .f32 f) (rv3 S8x4096x64 .f32 g)
    = rv3 S8x4096x64 .f32 (fun h s d => ∑ t ∈ Finset.range 4096, f h t s * g h t d) :=
  (dot_sum _ 4096 rfl rfl _ _ (fun j k => f (j 0).val k (j 1).val) (fun j k => g (j 0).val k (j 2).val) (fun _ _ => rfl) (fun _ _ => rfl)).trans rfl
/-- The same of the operands exchanged, transposed back. -/
theorem dot_tn' (f g : Ten) (h) : transpose S8x4096x64 [0, 2, 1]
      (Host.dotGeneral dot_S8x4096x64_S8x4096x4096_S8x64x4096_1_1_2_2_0_0 none (rv3 S8x4096x64 .f32 f) (rv3 S8x4096x4096 .f32 g)) h
    = rv3 S8x4096x64 .f32 (fun h s d => ∑ t ∈ Finset.range 4096, f h t d * g h t s) := by
  rw [dot_sum dot_S8x4096x64_S8x4096x4096_S8x64x4096_1_1_2_2_0_0 4096 rfl rfl _ _ (fun j k => f (j 0).val k (j 1).val) (fun j k => g (j 0).val k (j 2).val) (fun _ _ => rfl) (fun _ _ => rfl)]
  rfl

theorem v18_eq (h) : broadcastInDim S8x4096x4096 ![1, 2] h (res_main_v18 V0) = mk3 S8x4096x4096 before := mask_eq _ _ _ _ _

include h0 in
theorem v12_eq : res_main_v12 V0 = rv3 S8x4096x4096 .f32 (zR X) := by
  unfold res_main_v12
  rw [v7_eq V0 X h0, v9_eq V0 X h0, dot_nt, rv3_eighth]
  exact rv3_mulf _ _

include h0 in
theorem c0_eq : res_main_call0_v0 V0 = rv3 S8x4096x4096 .f32 (zR X) := by
  unfold res_main_call0_v0
  rw [v12_eq V0 X h0]
  exact ((congrArg Host.negf (rv3_negf (s := S8x4096x4096) (φ := .f32) _)).trans (rv3_negf _)).trans (by rw [neg_neg])
include h0 in
theorem c0_v3_eq : res_main_call0_call0_v3 V0 = rv3 S8x4096x4096 .f32 (zR X) := by
  unfold res_main_call0_call0_v3 res_main_call0_call0_cst
  rw [c0_eq V0 X h0, rv3_zero]
  exact (rv3_subf (s := S8x4096x4096) _ _).trans (by rw [sub_zero])
include h0 in
theorem c0_v1_eq : res_main_call0_v1_0 V0 = rv3 S8x4096x4096 .f32 (sp3 (zR X)) := by
  unfold res_main_call0_v1_0 res_main_call0_call0_cst
  rw [select_une, c0_eq V0 X h0, c0_v3_eq V0 X h0, rv3_zero]
  exact rv3_softplus _
include h0 in
theorem c3_eq : res_main_call3_v0 V0 = rv3 S8x4096x4096 .f32 (-zR X) := by
  unfold res_main_call3_v0
  rw [v12_eq V0 X h0]
  exact rv3_negf _
include h0 in
theorem c3_v3_eq : res_main_call3_call0_v3 V0 = rv3 S8x4096x4096 .f32 (-zR X) := by
  unfold res_main_call3_call0_v3 res_main_call3_call0_cst
  rw [c3_eq V0 X h0, rv3_zero]
  exact (rv3_subf (s := S8x4096x4096) _ _).trans (by rw [sub_zero])
include h0 in
theorem c3_v1_eq : res_main_call3_v1_0 V0 = rv3 S8x4096x4096 .f32 (sp3 (-zR X)) := by
  unfold res_main_call3_v1_0 res_main_call3_call0_cst
  rw [select_une, c3_eq V0 X h0, c3_v3_eq V0 X h0, rv3_zero]
  exact rv3_softplus _

section
variable (f g u : Ten)

theorem masked : select (mk3 S8x4096x4096 before) (rv3 S8x4096x4096 .f32 f) (broadcastInDim S8x4096x4096 ![] bcast_S_S8x4096x4096 (constant S_ .f32 0x00000000#32))
    = rv3 S8x4096x4096 .f32 (ite3 before f 0) := by
  rw [rv3_zero, rv3_select]

theorem masked_neg : select (mk3 S8x4096x4096 before) (Host.negf (rv3 S8x4096x4096 .f32 f))
    (broadcastInDim S8x4096x4096 ![] bcast_S_S8x4096x4096 (constant S_ .f32 0x00000000#32)) = rv3 S8x4096x4096 .f32 (ite3 before (-f) 0) := by
  rw [rv3_negf, masked]

theorem weight_ops : Host.exp (addf (Host.negf (rv3 S8x4096x4096 .f32 f)) (subf (Host.reduceWindowAdd ![1, 1, 4096] ![1, 1, 1] ![0, 0, 0] ![0, 0, 4095] (rv3 S8x4096x4096 .f32 g)
      (broadcastInDim S_ ![] bcast_S_S_ (constant S_ .f32 0x00000000#32 : FVec Ideal S_ .f32)) reduceWindows_S8x4096x4096_S8x4096x4096_w1s1p0_0_w1s1p0_0_w4096s1p0_4095 h_S_)
      (rv3 S8x4096x4096 .f32 g))) = rv3 S8x4096x4096 .f32 (exp3 (-f + (fromC g - g))) := by
  rw [rv3_fromC, rv3_subf, rv3_negf, rv3_addf, rv3_exp]

theorem masked_mul : mulf (select (mk3 S8x4096x4096 before) (rv3 S8x4096x4096 .f32 f)
      (broadcastInDim S8x4096x4096 ![] bcast_S_S8x4096x4096 (constant S_ .f32 0x00000000#32))) (rv3 S8x4096x4096 .f32 g)
    = rv3 S8x4096x4096 .f32 (ite3 before f 0 * g) := by
  rw [masked, rv3_mulf]

theorem masked_upTo : select (mk3 S8x4096x4096 before) (addf (Host.negf (rv3 S8x4096x4096 .f32 g))
      (Host.reduceWindowAdd ![1, 1, 4096] ![1, 1, 1] ![0, 0, 4095] ![0, 0, 0] (rv3 S8x4096x4096 .f32 g)
        (broadcastInDim S_ ![] bcast_S_S_ (constant S_ .f32 0x00000000#32 : FVec Ideal S_ .f32)) reduceWindows_S8x4096x4096_S8x4096x4096_w1s1p0_0_w1s1p0_0_w4096s1p4095_0 h_S_))
      (broadcastInDim S8x4096x4096 ![] bcast_S_S8x4096x4096 (constant S_ .f32 0x00000000#32)) = rv3 S8x4096x4096 .f32 (ite3 before (-g + upTo g) 0) := by
  rw [rv3_upTo, rv3_negf, rv3_addf, masked]

/-- A difference whose terms are compared with infinity first. -/
theorem diff_eq (f g : Ten) : subf
      (select (cmpf .oeq (rv3 S8x4096x4096 .f32 f) (broadcastInDim S8x4096x4096 ![] bcast_S_S8x4096x4096 (constant S_ .f32 0x7F800000#32)))
        (broadcastInDim S8x4096x4096 ![] bcast_S_S8x4096x4096 (constant S_ .f32 0x00000000#32)) (rv3 S8x4096x4096 .f32 f))
      (select (cmpf .oeq (rv3 S8x4096x4096 .f32 g) (broadcastInDim S8x4096x4096 ![] bcast_S_S8x4096x4096 (constant S_ .f32 0x7F800000#32)))
        (broadcastInDim S8x4096x4096 ![] bcast_S_S8x4096x4096 (constant S_ .f32 0x00000000#32)) (rv3 S8x4096x4096 .f32 g)) = rv3 S8x4096x4096 .f32 (f - g) := by
  rw [select_inf, select_inf, rv3_subf]

theorem logit_ops (v w : Ten) : mulf (addf (Host.negf (mulf (Host.negf (rv3 S8x4096x4096 .f32 g)) (Host.exp (rv3 S8x4096x4096 .f32 v))))
      (Host.negf (Host.negf (mulf (Host.negf (rv3 S8x4096x4096 .f32 u)) (Host.exp (rv3 S8x4096x4096 .f32 w))))))
      (broadcastInDim S8x4096x4096 ![] bcast_S_S8x4096x4096 (constant S_ .f32 0x3E000000#32))
    = rv3 S8x4096x4096 .f32 ((-(-g * exp3 v) + -(-(-u * exp3 w))) * fun _ _ _ => 1 / 8) := by
  simp only [rv3_negf, rv3_addf, rv3_mulf, rv3_exp]
  rw [rv3_eighth, rv3_mulf]

end

include h0 in
theorem v21_eq : res_main_v21_0 V0 = rv3 S8x4096x4096 .f32 (lfR X) := by
  unfold res_main_v21_0 res_main_v21_1
  rw [v18_eq, c0_v1_eq V0 X h0]
  exact masked_neg _
include h0 in
theorem v26_eq : res_main_v26 V0 = rv3 S8x4096x4096 .f32 (wR X) := by
  unfold res_main_v26
  rw [v21_eq V0 X h0, c3_v1_eq V0 X h0]
  exact weight_ops _ _
include h0 in
theorem v27_eq : res_main_v27_0 V0 = rv3 S8x4096x4096 .f32 (aR X) := by
  unfold res_main_v27_0 res_main_v27_1
  rw [v18_eq, v26_eq V0 X h0]
  exact masked _
include h0 h1 in
theorem v42_eq : res_main_v42 V0 = rv3 S8x4096x4096 .f32 (gR X D) := by
  unfold res_main_v42 res_main_v27_1
  rw [v18_eq, v26_eq V0 X h0, v35_eq V0 D h1, v29_eq V0 X h0, dot_nt]
  exact masked_mul _ _
include h0 h1 in
theorem v52_eq : res_main_v52 V0 = rv3 S8x4096x4096 .f32 (eR X D) := by
  unfold res_main_v52 res_main_v21_1
  rw [v18_eq, v42_eq V0 X D h0 h1, c3_eq V0 X h0, c3_v1_eq V0 X h0, c0_eq V0 X h0, c0_v1_eq V0 X h0]
  refine (congr (congrArg (fun (x y z : FVec Ideal S8x4096x4096 .f32) =>
    mulf (addf (Host.negf (mulf _ (Host.exp x))) (Host.negf (Host.negf (mulf (Host.negf z) (Host.exp y))))) _) (diff_eq _ _) |> congr <| diff_eq _ _) (masked_upTo _)).trans ?_
  exact logit_ops _ _ _ _

/-! ## The results -/

include h0 in
theorem ref_o (h2 h3 h4) : truncf .bf16 (shapeCast S4096x512 (transpose S4096x8x64 [1, 0, 2]
      (Host.dotGeneral (φ₁ := .f32) (φ₂ := .f32) dot_S8x4096x4096_S8x4096x64_S8x4096x64_2_1_1_2_0_0 none (res_main_v27_0 V0) (res_main_v29 V0)) h2) h3) h4 = rv S4096x512 .bf16 (joined (oR X)) := by
  rw [v27_eq V0 X h0, v29_eq V0 X h0, dot_nn, join_heads]
  rfl
include h0 h1 in
theorem ref_dq (h2 h3 h4) : truncf .bf16 (shapeCast S4096x512 (transpose S4096x8x64 [1, 0, 2]
      (Host.dotGeneral (φ₁ := .f32) (φ₂ := .f32) dot_S8x4096x4096_S8x4096x64_S8x4096x64_2_1_1_2_0_0 none (res_main_v52 V0) (res_main_v9 V0)) h2) h3) h4 = rv S4096x512 .bf16 (joined (dqR X D)) := by
  rw [v52_eq V0 X D h0 h1, v9_eq V0 X h0, dot_nn, join_heads]
  rfl
include h0 h1 in
theorem ref_dk (h2 h3) : shapeCast S4096x512 (transpose S4096x8x64 [1, 0, 2]
      (Host.dotGeneral (φ₁ := .f32) (φ₂ := .f32) dot_S8x4096x4096_S8x4096x64_S8x4096x64_1_1_2_2_0_0 none (res_main_v52 V0) (res_main_v7 V0)) h2) h3 = rv S4096x512 .f32 (joined (dkR X D)) := by
  rw [v52_eq V0 X D h0 h1, v7_eq V0 X h0, dot_tn, join_heads]
  rfl
include h0 h1 in
theorem ref_dv (h2 h3 h4) : shapeCast S4096x512 (transpose S4096x8x64 [1, 0, 2] (transpose S8x4096x64 [0, 2, 1]
      (Host.dotGeneral (φ₁ := .f32) (φ₂ := .f32) dot_S8x4096x64_S8x4096x4096_S8x64x4096_1_1_2_2_0_0 none (res_main_v35 V0) (res_main_v27_0 V0)) h2) h3) h4 = rv S4096x512 .f32 (joined (dvR X D)) := by
  rw [v35_eq V0 D h1, v27_eq V0 X h0, dot_tn', join_heads]
  rfl

end Cert.Attn

end
-- ==== Proof.Equation.lean ====
/-
  The kernels' sums are the reference's. A pair of heads lies in 128 columns; a head takes 64 of them, `o` being its first. The kernels sum over all 128 columns with the weight `μ`, which
  is 1 on the head's columns and 0 on the others, scale the queries before the product and take the gradient of the logits from one sum over all keys and a sum over the later ones; the
  reference sums over the head's columns, scales after the product and sums over the earlier keys.
-/
module

public import proofs.«01_k».proof.Proof.Final
public import proofs.«01_k».proof.Proof.RefVal

@[expose] public section

noncomputable section

namespace Cert.Attn

open scoped BigOperators

theorem sp_neg (z : ℝ) : -sp (-z) = z - sp z := by
  have h : max (-z) 0 = max z 0 - z := by
    rcases le_total z 0 with h | h
    · rw [max_eq_left (by linarith), max_eq_right h]; ring
    · rw [max_eq_right (by linarith), max_eq_left h]; ring
  unfold sp
  rw [h, abs_neg]; ring

/-- Softplus undoes into the logistic function: the two exponentials add up to one. -/
theorem exp_sp (z : ℝ) : Real.exp (-sp z) = 1 - Real.exp (z - sp z) := by
  have e : Real.exp (sp z) = 1 + Real.exp z := by
    unfold sp
    rw [Real.exp_add, Real.exp_log (by positivity), mul_add, mul_one, ← Real.exp_add]
    rcases le_total z 0 with h | h
    · rw [max_eq_right h, abs_of_nonpos h, Real.exp_zero, zero_add]; congr 2; ring
    · rw [max_eq_left h, abs_of_nonneg h, add_comm (1 : ℝ)]; congr 1
      rw [show z + (0 - z) = 0 by ring, Real.exp_zero]
  have h0 : Real.exp (sp z) ≠ 0 := (Real.exp_pos _).ne'
  rw [Real.exp_sub, Real.exp_neg, eq_sub_iff_add_eq, inv_eq_one_div, ← add_div, ← e, div_self h0]

section
variable (X D : Mat) {μ : ℕ → ℝ} {o h p : ℕ}
variable (hμ : ∀ f : ℕ → ℝ, ∑ l ∈ Finset.range 128, f l * μ l = ∑ d ∈ Finset.range 64, f (o + d)) (hh : 64 * h = 128 * p + o)

theorem pair_heads (Y : Mat) (k : ℕ) (hh : 64 * h = 128 * p + o) (t d : ℕ) : pair Y (4 * k + p) t (o + d) = heads Y (512 * k) h t d := by
  unfold pair heads
  congr 1
  omega

include hμ hh

theorem zz_eq (t s : ℕ) : zz (eighth (pair X p)) (pair X (4 + p)) μ t s = zR X h t s := by
  have e : ∀ l, eighth (pair X p) t l * (pair X (4 + p) s l * μ l) = (pair X p t l * pair X (4 + p) s l * (1 / 8)) * μ l := by
    intro l; show pair X p t l * (1 / 8) * (pair X (4 + p) s l * μ l) = _; ring
  unfold zz zR
  rw [Finset.sum_congr rfl fun l _ => e l, hμ (fun l => pair X p t l * pair X (4 + p) s l * (1 / 8)), Finset.sum_mul]
  refine Finset.sum_congr rfl fun d _ => ?_
  rw [← pair_heads X 0 hh, ← pair_heads X 1 hh]
  simp only [Nat.mul_zero, Nat.mul_one, Nat.zero_add]

theorem cc_eq (t : ℕ) {s : ℕ} (hs : s < 4096) : (fromC (lfR X) - lfR X) h t s = -cc (eighth (pair X p)) (pair X (4 + p)) μ 4096 t (s + 1) := by
  have e : ∀ x, lfR X h t x = -pp (eighth (pair X p)) (pair X (4 + p)) μ t x := by
    intro x
    unfold pp
    rw [zz_eq X hμ hh]
    show (if decide (x < t) = true then -sp (zR X h t x) else 0) = _
    by_cases hx : x < t <;> simp [hx]
  show (∑ x ∈ Finset.Ico s 4096, lfR X h t x) - lfR X h t s = _
  rw [Finset.sum_eq_sum_Ico_succ_bot hs, add_sub_cancel_left, Finset.sum_congr rfl fun x _ => e x, Finset.sum_neg_distrib]
  rfl

theorem w_eq (t : ℕ) {s : ℕ} (hs : s < 4096) (hst : s < t) : wR X h t s = aa (eighth (pair X p)) (pair X (4 + p)) μ 4096 t s := by
  unfold aa
  rw [if_pos hst, zz_eq X hμ hh, sub_eq_add_neg _ (cc _ _ _ _ _ _), ← cc_eq X hμ hh t hs, ← sp_neg]
  rfl

theorem aa_eq (t : ℕ) {s : ℕ} (hs : s < 4096) : aa (eighth (pair X p)) (pair X (4 + p)) μ 4096 t s = aR X h t s := by
  show _ = if decide (s < t) = true then wR X h t s else 0
  by_cases hst : s < t
  · rw [if_pos (by simpa using hst), w_eq X hμ hh t hs hst]
  · rw [if_neg (by simpa using hst), aa_zero (by omega)]

theorem gg_eq (t : ℕ) {s : ℕ} (hs : s < 4096) : gg (eighth (pair X p)) (pair D p) (pair X (4 + p)) (pair X (8 + p)) μ 4096 t s = gR X D h t s := by
  show _ = (if decide (s < t) = true then ∑ d ∈ Finset.range 64, heads D 0 h t d * heads X 1024 h s d else 0) * wR X h t s
  by_cases hst : s < t
  · rw [if_pos (by simpa using hst), w_eq X hμ hh t hs hst, mul_comm]
    unfold gg
    congr 1
    rw [Finset.sum_congr rfl fun l _ => (mul_assoc (pair D p t l) (pair X (8 + p) s l) (μ l)).symm, hμ (fun l => pair D p t l * pair X (8 + p) s l)]
    refine Finset.sum_congr rfl fun d _ => ?_
    rw [← pair_heads D 0 hh, ← pair_heads X 2 hh]
    simp only [Nat.mul_zero, Nat.zero_add]
  · rw [if_neg (by simpa using hst), zero_mul, gg_zero (by omega)]

theorem ee_eq {T : ℕ → ℝ} (t : ℕ) {s : ℕ} (hs : s < 4096) (hT : T t = dd (eighth (pair X p)) (pair D p) (pair X (4 + p)) (pair X (8 + p)) μ 4096 t 0) :
    ee (eighth (pair X p)) (pair D p) (pair X (4 + p)) (pair X (8 + p)) μ T 4096 t s * (1 / 8) = eR X D h t s := by
  have hd : ∀ S ≤ 4096, dd (eighth (pair X p)) (pair D p) (pair X (4 + p)) (pair X (8 + p)) μ 4096 t S = ∑ x ∈ Finset.Ico S 4096, gR X D h t x := fun S _ =>
    Finset.sum_congr rfl fun x hx => gg_eq X D hμ hh t (Finset.mem_Ico.1 hx).2
  show _ = (-(-gR X D h t s * Real.exp (-zR X h t s - sp (-zR X h t s)))
    + -(-(-(if decide (s < t) = true then -gR X D h t s + ∑ x ∈ Finset.range (s + 1), gR X D h t x else 0) * Real.exp (zR X h t s - sp (zR X h t s))))) * (1 / 8)
  congr 1
  by_cases hst : s < t
  · unfold ee
    rw [if_pos hst, if_pos (by simpa using hst), hT, hd 0 (by omega), hd s hs.le, gg_eq X D hμ hh t hs, zz_eq X hμ hh, Finset.sum_range_succ,
      show -zR X h t s - sp (-zR X h t s) = -sp (zR X h t s) by rw [sub_eq_add_neg, sp_neg]; ring, exp_sp, Finset.range_eq_Ico,
      ← Finset.sum_Ico_consecutive (fun x => gR X D h t x) (Nat.zero_le s) hs.le]
    ring
  · rw [ee_zero (by omega), if_neg (by simpa using hst), ← gg_eq X D hμ hh t hs, gg_zero (by omega)]
    ring

/-- A head's part of a row of the output. -/
theorem o_eq (t d : ℕ) (h1 : μ (o + d) = 1) :
    ∑ s ∈ Finset.Ico 0 4096, aa (eighth (pair X p)) (pair X (4 + p)) μ 4096 t s * (pair X (8 + p) s (o + d) * μ (o + d)) = oR X h t d := by
  unfold oR
  rw [Finset.range_eq_Ico]
  refine Finset.sum_congr rfl fun s hs => ?_
  rw [aa_eq X hμ hh t (Finset.mem_Ico.1 hs).2, h1, mul_one, ← pair_heads X 2 hh]

/-- The sum of the output times its gradient is the sum of the weights' gradients over all keys. -/
theorem total_eq (t : ℕ) : ∑ d ∈ Finset.range 64, pair D p t (o + d) * oR X h t d
    = dd (eighth (pair X p)) (pair D p) (pair X (4 + p)) (pair X (8 + p)) μ 4096 t 0 := by
  unfold dd tail oR
  rw [← Finset.range_eq_Ico]
  simp only [Finset.mul_sum]
  rw [Finset.sum_comm]
  refine Finset.sum_congr rfl fun s hs => ?_
  unfold gg
  rw [aa_eq X hμ hh t (Finset.mem_range.1 hs), Finset.sum_congr rfl fun l _ => (mul_assoc (pair D p t l) (pair X (8 + p) s l) (μ l)).symm,
    hμ (fun l => pair D p t l * pair X (8 + p) s l), Finset.mul_sum]
  refine Finset.sum_congr rfl fun d _ => ?_
  rw [show heads X 1024 h s d = pair X (8 + p) s (o + d) from (pair_heads X 2 hh s d).symm]
  ring

end

/-! ## The two heads of a pair -/

theorem sum_mu0 (f : ℕ → ℝ) : ∑ l ∈ Finset.range 128, f l * mu0 l = ∑ d ∈ Finset.range 64, f (0 + d) := by
  rw [show (128 : ℕ) = 64 + 64 from rfl, Finset.sum_range_add, ← add_zero (∑ d ∈ Finset.range 64, f (0 + d))]
  congr 1
  · refine Finset.sum_congr rfl fun d hd => ?_
    rw [mu0, if_pos (Finset.mem_range.1 hd), mul_one, Nat.zero_add]
  · refine Finset.sum_eq_zero fun d _ => ?_
    rw [mu0, if_neg (by omega), mul_zero]

theorem sum_mu1 (f : ℕ → ℝ) : ∑ l ∈ Finset.range 128, f l * mu1 l = ∑ d ∈ Finset.range 64, f (64 + d) := by
  rw [show (128 : ℕ) = 64 + 64 from rfl, Finset.sum_range_add, ← zero_add (∑ d ∈ Finset.range 64, f (64 + d))]
  congr 1
  · refine Finset.sum_eq_zero fun d hd => ?_
    rw [mu1, mu0, if_pos (Finset.mem_range.1 hd), sub_self, mul_zero]
  · refine Finset.sum_congr rfl fun d _ => ?_
    rw [mu1, mu0, if_neg (by omega), sub_zero, mul_one]

theorem mu0_low {d : ℕ} (h : d < 64) : mu0 (0 + d) = 1 := if_pos (by omega)
theorem mu1_low {d : ℕ} (h : d < 64) : mu1 (0 + d) = 0 := by rw [mu1, mu0_low h, sub_self]
theorem mu0_high (d : ℕ) : mu0 (64 + d) = 0 := if_neg (by omega)
theorem mu1_high (d : ℕ) : mu1 (64 + d) = 1 := by rw [mu1, mu0_high, sub_zero]

section
variable (X D : Mat) (p t : ℕ)

theorem low_head : 64 * (2 * p) = 128 * p + 0 := by omega
theorem high_head : 64 * (2 * p + 1) = 128 * p + 64 := by omega

theorem oP_low {d : ℕ} (hd : d < 64) : oP X p t (0 + d) = oR X (2 * p) t d := by
  unfold oP oFull oSum
  rw [o_eq X sum_mu0 (low_head p) t d (mu0_low hd), mu1_low hd]
  simp only [mul_zero, Finset.sum_const_zero, add_zero]

theorem oP_high (d : ℕ) : oP X p t (64 + d) = oR X (2 * p + 1) t d := by
  unfold oP oFull oSum
  rw [o_eq X sum_mu1 (high_head p) t d (mu1_high d), mu0_high]
  simp only [mul_zero, Finset.sum_const_zero, zero_add]

theorem tt0_total : tt0 (pair D p) (oP X p) t = dd (eighth (pair X p)) (pair D p) (pair X (4 + p)) (pair X (8 + p)) mu0 4096 t 0 := by
  rw [← total_eq X D sum_mu0 (low_head p) t]
  show ∑ l ∈ Finset.Ico 0 128, (if decide (l < 64) = true then pair D p t l * oP X p t l else 0) = _
  have e : ∀ l, (if decide (l < 64) = true then pair D p t l * oP X p t l else 0) = pair D p t l * oP X p t l * mu0 l := by
    intro l; unfold mu0; by_cases hl : l < 64 <;> simp [hl]
  rw [Finset.sum_congr rfl fun l _ => e l, ← Finset.range_eq_Ico, sum_mu0 (fun l => pair D p t l * oP X p t l)]
  exact Finset.sum_congr rfl fun d hd => by rw [oP_low X p t (Finset.mem_range.1 hd)]

theorem tt1_total : tt1 (pair D p) (oP X p) t = dd (eighth (pair X p)) (pair D p) (pair X (4 + p)) (pair X (8 + p)) mu1 4096 t 0 := by
  rw [← total_eq X D sum_mu1 (high_head p) t]
  have e : ∀ l, iteF headC (pair D p * oP X p) 0 t l = pair D p t l * oP X p t l * mu1 l := by
    intro l
    show (if headC t l = true then pair D p t l * oP X p t l else 0) = _
    unfold mu1 mu0 headC
    by_cases hl : l < 64 <;> simp [hl]
  show ∑ l ∈ Finset.Ico 0 128, iteF headC (pair D p * oP X p) 0 t l = _
  rw [Finset.sum_congr rfl fun l _ => e l, ← Finset.range_eq_Ico, sum_mu1 (fun l => pair D p t l * oP X p t l)]
  exact Finset.sum_congr rfl fun d hd => by rw [oP_high X p t]

theorem E0_eq {s : ℕ} (hs : s < 4096) : E0 (pair X p) (pair D p) (oP X p) (pair X (4 + p)) (pair X (8 + p)) 4096 t s * (1 / 8) = eR X D (2 * p) t s :=
  ee_eq X D sum_mu0 (low_head p) t hs (tt0_total X D p t)
theorem E1_eq {s : ℕ} (hs : s < 4096) : E1 (pair X p) (pair D p) (oP X p) (pair X (4 + p)) (pair X (8 + p)) 4096 t s * (1 / 8) = eR X D (2 * p + 1) t s :=
  ee_eq X D sum_mu1 (high_head p) t hs (tt1_total X D p t)

end

/-! ## The results, column by column -/

section
variable (X D : Mat)

/-- A function that agrees with another on the columns of either head of every pair agrees with it everywhere. -/
theorem wide_joined {f : ℕ → Mat} {g : Ten} {t : ℕ} (h0 : ∀ p, ∀ d < 64, f p t (0 + d) = g (2 * p) t d) (h1 : ∀ p, ∀ d < 64, f p t (64 + d) = g (2 * p + 1) t d) (j : ℕ) :
    wide f t j = joined g t j := by
  show f (j / 128) t (j % 128) = g (j / 64) t (j % 64)
  rcases lt_or_ge (j % 128) 64 with h | h
  · rw [show j / 64 = 2 * (j / 128) by omega, ← h0 _ _ (Nat.mod_lt _ (by omega))]
    congr 1; omega
  · rw [show j / 64 = 2 * (j / 128) + 1 by omega, ← h1 _ _ (Nat.mod_lt _ (by omega))]
    congr 1; omega

theorem o_same (t j : ℕ) : wide (oP X) t j = joined (oR X) t j :=
  wide_joined (fun p _ hd => oP_low X p t hd) (fun p d _ => oP_high X p t d) j

theorem dq_same (t j : ℕ) : wide (qP X D) t j = joined (dqR X D) t j := by
  refine wide_joined (fun p d hd => ?_) (fun p d _ => ?_) j
  · show qFull _ _ _ _ _ t (0 + d) * (1 / 8) = ∑ s ∈ Finset.range 4096, eR X D (2 * p) t s * heads X 512 (2 * p) s d
    unfold qFull qSum
    rw [mu0_low hd, mu1_low hd, Finset.range_eq_Ico]
    simp only [mul_zero, Finset.sum_const_zero, add_zero, mul_one]
    rw [Finset.sum_mul]
    refine Finset.sum_congr rfl fun s hs => ?_
    rw [← E0_eq X D p t (Finset.mem_Ico.1 hs).2, ← pair_heads X 1 (low_head p)]
    exact mul_right_comm _ _ _
  · show qFull _ _ _ _ _ t (64 + d) * (1 / 8) = ∑ s ∈ Finset.range 4096, eR X D (2 * p + 1) t s * heads X 512 (2 * p + 1) s d
    unfold qFull qSum
    rw [mu0_high, mu1_high, Finset.range_eq_Ico]
    simp only [mul_zero, Finset.sum_const_zero, zero_add, mul_one]
    rw [Finset.sum_mul]
    refine Finset.sum_congr rfl fun s hs => ?_
    rw [← E1_eq X D p t (Finset.mem_Ico.1 hs).2, ← pair_heads X 1 (high_head p)]
    exact mul_right_comm _ _ _

theorem scale_left (e q : ℝ) : e * (q * (1 / 8)) = e * (1 / 8) * q := by ring

theorem eighth_pair (p t b : ℕ) : eighth (pair X p) t b = pair X p t b * (1 / 8) := rfl

theorem dk_same {s : ℕ} (hs : s < 4096) (j : ℕ) : wide (kP X D 4096) s j = joined (dkR X D) s j := by
  refine wide_joined (fun p d hd => ?_) (fun p d _ => ?_) j
  · show kFull _ _ _ _ _ 4096 s (0 + d) = ∑ t ∈ Finset.range 4096, eR X D (2 * p) t s * heads X 0 (2 * p) t d
    unfold kFull
    rw [if_pos (by omega)]
    refine Finset.sum_congr rfl fun t _ => ?_
    rw [← E0_eq X D p t hs, ← pair_heads X 0 (low_head p), eighth_pair, scale_left]
    simp only [Nat.mul_zero, Nat.zero_add]
  · show kFull _ _ _ _ _ 4096 s (64 + d) = ∑ t ∈ Finset.range 4096, eR X D (2 * p + 1) t s * heads X 0 (2 * p + 1) t d
    unfold kFull
    rw [if_neg (by omega)]
    refine Finset.sum_congr rfl fun t _ => ?_
    rw [← E1_eq X D p t hs, ← pair_heads X 0 (high_head p), eighth_pair, scale_left]
    simp only [Nat.mul_zero, Nat.zero_add]

theorem dv_same {s : ℕ} (hs : s < 4096) (j : ℕ) : wide (vP X D 4096) s j = joined (dvR X D) s j := by
  refine wide_joined (fun p d hd => ?_) (fun p d _ => ?_) j
  · show vFull _ _ _ 4096 s (0 + d) = ∑ t ∈ Finset.range 4096, heads D 0 (2 * p) t d * aR X (2 * p) t s
    unfold vFull
    rw [if_pos (by omega)]
    refine Finset.sum_congr rfl fun t _ => ?_
    rw [← pair_heads D 0 (low_head p), ← aa_eq X sum_mu0 (low_head p) t hs, mul_comm]
    simp only [Nat.mul_zero, Nat.zero_add]
  · show vFull _ _ _ 4096 s (64 + d) = ∑ t ∈ Finset.range 4096, heads D 0 (2 * p + 1) t d * aR X (2 * p + 1) t s
    unfold vFull
    rw [if_neg (by omega)]
    refine Finset.sum_congr rfl fun t _ => ?_
    rw [← pair_heads D 0 (high_head p), ← aa_eq X sum_mu1 (high_head p) t hs, mul_comm]
    simp only [Nat.mul_zero, Nat.zero_add]

end

end Cert.Attn

end
-- ==== Proof.Algebra.lean ====
/-
  The kernels compute the reference's function over the extended reals, on arguments whose entries are real numbers.
-/
module

public import proofs.«01_k».proof.Defs
public import proofs.«01_k».proof.Proof.Frames
public import proofs.«01_k».proof.Proof.Equation
public import proofs.«01_k».proof.Proof.Finite

@[expose] public section

noncomputable section

namespace Cert.Attn

open Idealize.ShloMosaic Idealize.ShloMosaic.TcCoe Idealize.SL.Sem

attribute [local instance] Cert.Kernel.Gen.facts Cert.KernelIdeal.Gen.facts Cert.ReferenceIdeal.Gen.facts Cert.Pre_finite.Gen.facts

theorem frame_ideal_finite : Cert.quiescent_KernelIdeal_pre_finite := fun m ρ _ => frame_ideal m ρ trivial

theorem frame_reference_finite : Cert.quiescent_ReferenceIdeal_pre_finite := fun m ρ _ => frame_reference m ρ trivial

theorem algebraic : Cert.algebraic_KernelIdeal_ReferenceIdeal_pre_finite := by
  intro m g m' g' hpre hargs
  have hX := fun c => (args_real _ _ (hpre c)).1
  have hD := fun c => (args_real _ _ (hpre c)).2
  choose X h0 using hX
  choose D h1 using hD
  refine ⟨fun c => rv Cert.KernelIdeal.S4096x512 .bf16 (wide (oP (X c))), fun c => rv Cert.KernelIdeal.S4096x512 .bf16 (wide (qP (X c) (D c))),
    fun c => rv Cert.KernelIdeal.S4096x512 .f32 (wide (kP (X c) (D c) 4096)), fun c => rv Cert.KernelIdeal.S4096x512 .f32 (wide (vP (X c) (D c) 4096)), ?_, ?_⟩
  · refine (θ_run Cert.KernelIdeal.defs _ _).mono (fun r h c => ?_) (run_main m g)
    exact ⟨(h.1 c _ (mem_uc Cert.KernelIdeal.main_v0_0)).trans (res_o m c (X c) (h0 c)), (h.1 c _ (mem_uc Cert.KernelIdeal.main_v1_0)).trans (res_dq m c (X c) (D c) (h0 c) (h1 c)),
      (h.1 c _ (mem_uc Cert.KernelIdeal.main_v1_1)).trans (res_dk m c (X c) (D c) (h0 c) (h1 c)), (h.1 c _ (mem_uc Cert.KernelIdeal.main_v1_2)).trans (res_dv m c (X c) (D c) (h0 c) (h1 c)),
      (h.1 c _ (mem_uc Cert.KernelIdeal.main_arg0)).trans (w2_arg0 m c), (h.1 c _ (mem_uc Cert.KernelIdeal.main_arg1)).trans (w2_arg1 m c)⟩
  · refine (θ_run Cert.ReferenceIdeal.defs _ _).mono (fun r h c => ?_) (Cert.ReferenceIdeal.Value.run (F := Ideal) m' g')
    have e0 := (hargs c).1.trans (h0 c)
    have e1 := (hargs c).2.trans (h1 c)
    obtain ⟨ho, hq, hk, hv, ha, hb⟩ := h c
    refine ⟨(ho.trans (ref_o (StableHlo.launchContents m' c) (X c) e0 _ _ _)).trans ?_, (hq.trans (ref_dq (StableHlo.launchContents m' c) (X c) (D c) e0 e1 _ _ _)).trans ?_,
      (hk.trans (ref_dk (StableHlo.launchContents m' c) (X c) (D c) e0 e1 _ _)).trans ?_, (hv.trans (ref_dv (StableHlo.launchContents m' c) (X c) (D c) e0 e1 _ _ _)).trans ?_, ha, hb⟩
    · exact rv_congr .bf16 fun t _ j _ => (o_same (X c) t j).symm
    · exact rv_congr .bf16 fun t _ j _ => (dq_same (X c) (D c) t j).symm
    · exact rv_congr .f32 fun s hs j _ => (dk_same (X c) (D c) hs j).symm
    · exact rv_congr .f32 fun s hs j _ => (dv_same (X c) (D c) hs j).symm

end Cert.Attn

end
-- ==== Proof.MixFrames.lean ====
/-
  The frame claims of the second program.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

noncomputable section

namespace Cert.Ffn

open Idealize.ShloMosaic Idealize.ShloMosaic.TcCoe Idealize.SL.Sem

attribute [local instance] Cert.Kernel2.Gen.facts Cert.Kernel2Ideal.Gen.facts Cert.Reference2Ideal.Gen.facts

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)

end Cert.Ffn

end
-- ==== Proof.NormBlock.lean ====
/-
  The gradient through the root-mean-square normalisation, on one block of rows: what the launch computes from the block. `D` is the gradient of the product that follows
  the normalisation, `W` the weights of that product, `X` the rows normalised, `G` the scale of the normalisation and `R` the gradient that comes past it.
-/
module

public import proofs.«01_k».proof.Proof.Places
public import proofs.«01_k».proof.Proof.Rows
public import proofs.«01_k».proof.Proof.Gen.Kernel3Ideal.Value

@[expose] public section

noncomputable section

namespace Cert.Ffn

open Cert.Kernel3Ideal Cert.Kernel3Ideal.Gen
open Idealize.ShloMosaic Idealize.ShloMosaic.TcCoe
open Idealize.SL.Sem
open scoped BigOperators

/-- The mean of the squares of a row of `n` entries, the number of them read as 1024, and a little more. -/
def varN (n : ℕ) (X : EMat) : EMat := divF (rsum n (X * X)) (constF (1024 : ℝ)) + constF (eps : ℝ)
def invN (n : ℕ) (X : EMat) : EMat := rsqrtF (varN n X)
def normN (n : ℕ) (X : EMat) : EMat := X * invN n X
/-- The gradient of the rows, from the gradient `P` of the rows normalised and scaled. -/
def dinP (n : ℕ) (P X G : EMat) : EMat := invN n X * (P * rowF G - normN n X * divF (rsum n (P * rowF G * normN n X)) (constF (1024 : ℝ)))
/-- The gradient of the scale from the first `N` rows. -/
def dgP (n N : ℕ) (P X : EMat) : EMat := csum N (P * normN n X)
def dxN (n k : ℕ) (D W X G R : EMat) : EMat := R + dinP n (ntF k D W) X G
def dgN (n k N : ℕ) (D W X : EMat) : EMat := dgP n N (ntF k D W) X

theorem sub_dxN (n k : ℕ) (D W X G R : EMat) (o : ℕ) : dxN n k (subE D o) W (subE X o) G (subE R o) = subE (dxN n k D W X G R) o := rfl

theorem dgP_add (n N M : ℕ) (P X : EMat) : dgP n N P X + dgP n M (subE P N) (subE X N) = dgP n (N + M) P X := by
  funext a b
  exact (Finset.sum_range_add (fun x => (P * normN n X) x b) N M).symm

theorem dgN_add (n k N M : ℕ) (D W X : EMat) : dgN n k N D W X + dgN n k M (subE D N) W (subE X N) = dgN n k (N + M) D W X :=
  dgP_add n N M (ntF k D W) X

theorem dgN_start (n k N o : ℕ) (ho : o = 0) (D W X : EMat) : dgN n k N (subE D (256 * o)) W (subE X (256 * o)) = dgN n k (256 * o + N) D W X := by
  have e : dgN n k 0 D W X = 0 := by funext a b; exact Finset.sum_range_zero (fun x => (ntF k D W * normN n X) x b)
  rw [ho, mul_zero, ← dgN_add n k 0 N, e, zero_add]

/-- The reciprocal of a row's root mean square. -/
abbrev invF (X : EMat) : EMat := invN 1024 X
/-- The rows normalised, before the scale. -/
abbrev normF (X : EMat) : EMat := normN 1024 X
/-- The gradient of the rows. -/
abbrev dxF (D W X G R : EMat) : EMat := dxN 1024 5632 D W X G R
/-- The gradient of the scale from the first `N` rows. -/
abbrev dgF (N : ℕ) (D W X : EMat) : EMat := dgN 1024 5632 N D W X

section
variable (D W X G R : EMat)

theorem pay2_ev : k0_pay2 (F := Ideal) (ev S256x5632 .bf16 D) (ev S1024x5632 .bf16 W) = ev S256x1024 .f32 (ntF 5632 D W) := by
  unfold k0_pay2
  rw [ev_constant]
  exact ev_nt D W 256 5632 1024

/-- The mean of each row, as a column. -/
def means (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- The sum of each column, as a row. -/
def totals (v : FVec Ideal S256x1024 .f32) : FVec Ideal S1x1024 .f32 :=
  shapeCast S1x1024 (multiReduction .add [0] S1024 v 0x00000000#32 reduces_S256x1024_S1024 (.inl rfl) rfl) shapeCasts_S1024_S1x1024

theorem means_ev (f : EMat) : means (ev S256x1024 .f32 f) = ev S256x1 .f32 (divF (rsum 1024 f) (constF (1024 : ℝ))) := by
  refine (congrArg₂ divf (congrArg (fun v => shapeCast S256x1 v shapeCasts_S256_S256x1) (ev_rowSum f _ _ _ _)) (ev_const ofBits_1024)).trans ?_
  rw [ev_asCol, ev_divf]
  rfl

theorem totals_ev (f : EMat) : totals (ev S256x1024 .f32 f) = ev S1x1024 .f32 (csum 256 f) := by
  refine (congrArg (fun v => shapeCast S1x1024 v shapeCasts_S1024_S1x1024) (ev_colSum f _ _ _ _)).trans ?_
  rw [ev_asRow]
  rfl

theorem pay3_ev : k0_pay3 (F := Ideal) (ev S256x1024 .f32 X) = ev S256x1 .f32 (invF X) := by
  show rsqrt (addf (means (mulf (ev S256x1024 .f32 X) (ev S256x1024 .f32 X))) (broadcast S256x1 (Scalar.ofBits .f32 0x358637BD#32))) = _
  rw [ev_mulf, means_ev, ev_const ofBits_eps, ev_addf]
  exact ev_rsqrt _

theorem pay4_ev : k0_pay4 (F := Ideal) (ev S256x1024 .f32 X) = ev S256x1024 .f32 (normF X) := by
  unfold k0_pay4
  rw [pay3_ev, ev_spreadCol]
  dsimp only
  rw [ev_mulf]
  rfl

theorem pay5_ev : k0_pay5 (F := Ideal) (ev S256x5632 .bf16 D) (ev S1024x5632 .bf16 W) (ev S256x1024 .f32 X) (ev S1x1024 .f32 G) (ev S256x1024 .f32 R)
    = ev S256x1024 .f32 (dxF D W X G R) := by
  show addf (ev S256x1024 .f32 R) (mulf (broadcastTo S256x1024 (k0_pay3 (F := Ideal) (ev S256x1024 .f32 X)) broadcasts_S256x1_S256x1024)
    (subf (mulf (k0_pay2 (F := Ideal) (ev S256x5632 .bf16 D) (ev S1024x5632 .bf16 W)) (broadcastTo S256x1024 (ev S1x1024 .f32 G : FVec Ideal S1x1024 .f32) broadcasts_S1x1024_S256x1024))
      (mulf (k0_pay4 (F := Ideal) (ev S256x1024 .f32 X)) (broadcastTo S256x1024 (means (mulf
        (mulf (k0_pay2 (F := Ideal) (ev S256x5632 .bf16 D) (ev S1024x5632 .bf16 W)) (broadcastTo S256x1024 (ev S1x1024 .f32 G : FVec Ideal S1x1024 .f32) broadcasts_S1x1024_S256x1024))
        (k0_pay4 (F := Ideal) (ev S256x1024 .f32 X)))) broadcasts_S256x1_S256x1024)))) = _
  rw [pay2_ev, pay3_ev, pay4_ev, ev_spreadRow, ev_mulf, ev_mulf, means_ev, ev_spreadCol, ev_spreadCol, ev_mulf, ev_subf, ev_mulf, ev_addf]
  rfl

theorem pay6_ev : k0_pay6 (F := Ideal) (ev S256x5632 .bf16 D) (ev S1024x5632 .bf16 W) (ev S256x1024 .f32 X) (ev S1x1024 .f32 G) (ev S256x1024 .f32 R)
    = ev S256x1024 .bf16 (dxF D W X G R) := by
  unfold k0_pay6
  rw [pay5_ev]
  exact ev_truncf _ _

theorem pay7_ev : k0_pay7 (F := Ideal) (ev S256x5632 .bf16 D) (ev S1024x5632 .bf16 W) (ev S256x1024 .f32 X) = ev S1x1024 .f32 (dgF 256 D W X) := by
  show totals (mulf (k0_pay2 (F := Ideal) (ev S256x5632 .bf16 D) (ev S1024x5632 .bf16 W)) (k0_pay4 (F := Ideal) (ev S256x1024 .f32 X))) = _
  rw [pay2_ev, pay4_ev, ev_mulf, totals_ev]
  rfl

theorem pay1_ev (f g : EMat) : k0_pay1 (F := Ideal) (ev S1x1024 .f32 f) (ev S1x1024 .f32 g) = ev S1x1024 .f32 (g + f) := by
  unfold k0_pay1
  rw [ev_shapeCast]
  exact ev_addf _ _

end

/-! ## What a point of the grid leaves -/

section
variable (m : (ℓ : Loc nD τ sig) → Buf (Elt Ideal) ℓ) (c : Dev nD) (t : Fin cfg0.N)

theorem first (h0 : t.val % 16 = 0) (h1 : ¬1 ≤ t.val) : outsAt0 m c t.val t.isLt
    = (k0_pay5 (iblk m c 0 t) (iblk m c 1 t) (iblk m c 2 t) (iblk m c 3 t) (iblk m c 4 t),
       k0_pay6 (iblk m c 0 t) (iblk m c 1 t) (iblk m c 2 t) (iblk m c 3 t) (iblk m c 4 t),
       k0_pay7 (iblk m c 0 t) (iblk m c 1 t) (iblk m c 2 t)) := by
  rw [outsAt0_A m c t h0 h1]
  unfold out0_A_5 out0_A_6 out0_A_7
  rw [View.read_writes_eq_canon _ _ _ (cover0_A_5 _ _ _ _ _ _ _ _ _ _ _ _ _ _ _ _ _ _ _ _ _ _ _ _ _), View.read_writes_eq_canon _ _ _ (cover0_A_6 _ _ _ _ _ _ _ _ _ _ _ _ _ _ _ _ _ _ _ _ _ _ _ _ _), View.read_writes_eq_canon _ _ _ (cover0_A_7 _ _ _ _ _ _ _ _ _ _ _ _ _ _ _ _ _ _ _ _ _ _ _ _ _)]
  unfold kernelRun0_A
  dsimp only
  sl_unfold_words
  rw [View.canon_unit_zero origin, View.canon_unit_zero origin, View.canon_unit_zero origin]
  simp only [View.readAt_eq_ld, Memref.IsWhole.read_unread (hs0_0 t), Memref.IsWhole.read_unread (hs0_1 t), Memref.IsWhole.read_unread (hs0_2 t),
    Memref.IsWhole.read_unread (hs0_3 t), Memref.IsWhole.read_unread (hs0_4 t), View.ld_unit_zero (S := S256x5632) origin, View.ld_unit_zero (S := S1024x5632) origin,
    View.ld_unit_zero (S := S256x1024) origin, View.ld_unit_zero (S := S1x1024) origin]

theorem later (h0 : ¬t.val % 16 = 0) (h1 : 1 ≤ t.val) : outsAt0 m c t.val t.isLt
    = (k0_pay5 (iblk m c 0 t) (iblk m c 1 t) (iblk m c 2 t) (iblk m c 3 t) (iblk m c 4 t),
       k0_pay6 (iblk m c 0 t) (iblk m c 1 t) (iblk m c 2 t) (iblk m c 3 t) (iblk m c 4 t),
       k0_pay1 (k0_pay7 (iblk m c 0 t) (iblk m c 1 t) (iblk m c 2 t)) (outsAt0 m c (t.val - 1) (Nat.lt_of_le_of_lt (Nat.sub_le _ _) t.isLt)).2.2) := by
  rw [outsAt0_B m c t h0 h1]
  unfold out0_B_5 out0_B_6 out0_B_7
  rw [View.read_writes_eq_canon _ _ _ (cover0_B_5 _ _ _ _ _ _ _ _ _ _ _ _ _ _ _ _ _ _ _ _ _ _ _ _ _ _), View.read_writes_eq_canon _ _ _ (cover0_B_6 _ _ _ _ _ _ _ _ _ _ _ _ _ _ _ _ _ _ _ _ _ _ _ _ _ _), View.read_writes_eq_canon _ _ _ (cover0_B_7 _ _ _ _ _ _ _ _ _ _ _ _ _ _ _ _ _ _ _ _ _ _ _ _ _ _)]
  unfold kernelRun0_B
  dsimp only
  sl_unfold_words
  rw [View.canon_unit_zero origin, View.canon_unit_zero origin, View.canon_unit_zero origin]
  simp only [View.readAt_eq_ld, Memref.IsWhole.read_unread (hs0_0 t), Memref.IsWhole.read_unread (hs0_1 t), Memref.IsWhole.read_unread (hs0_2 t),
    Memref.IsWhole.read_unread (hs0_3 t), Memref.IsWhole.read_unread (hs0_4 t), Memref.IsWhole.read_unread (hs0_7 t),
    View.ld_unit_zero (S := S256x5632) origin, View.ld_unit_zero (S := S1024x5632) origin, View.ld_unit_zero (S := S256x1024) origin, View.ld_unit_zero (S := S1x1024) origin]

end

end Cert.Ffn

end
-- ==== Proof.NormRef.lean ====
/-
  The reference's gradient through the normalisation, on extended reals, and the equation with the kernel's.
-/
module

public import proofs.«01_k».proof.Proof.NormBlock
public import proofs.«01_k».proof.Proof.Gen.Reference3Ideal.Run

@[expose] public section

noncomputable section

namespace Cert.Ffn.Ref

open Cert.Reference3Ideal Cert.Reference3Ideal.Gen
open Idealize.ShloMosaic Idealize.ShloMosaic.TcCoe Idealize.SL.Sem

attribute [local instance] Cert.Reference3Ideal.Gen.facts

/-! ## The reference's values, in its order -/

/-- Minus half of the derivative of `1/√v`. -/
def slopeN (n : ℕ) (X : EMat) : EMat := constF (-(1 / 2) : ℝ) * divF (invN n X) (varN n X)
/-- What the row's mean square passes back to each entry. -/
def backP (n : ℕ) (P X G : EMat) : EMat := colF (rsum 1 (divF (colF (rsum n (X * (P * rowF G))) * slopeN n X) (constF (1024 : ℝ))))
def refP (n : ℕ) (P X G R : EMat) : EMat := ((R + P * rowF G * invN n X) + X * backP n P X G) + backP n P X G * X
def backN (n k : ℕ) (D W X G : EMat) : EMat := backP n (ntF k D W) X G
def refN (n k : ℕ) (D W X G R : EMat) : EMat := refP n (ntF k D W) X G R

/-- A product with a number that is not negative, over a sum. -/
theorem sum_scale (n : ℕ) (u : ℕ → EReal) (r : ℝ) (hr : 0 ≤ r) : ∑ x ∈ Finset.range n, u x * (r : EReal) = (∑ x ∈ Finset.range n, u x) * (r : EReal) := by
  induction n with
  | zero => rw [Finset.sum_range_zero, Finset.sum_range_zero, zero_mul]
  | succ n ih => rw [Finset.sum_range_succ, Finset.sum_range_succ, ih, EReal.right_distrib_of_nonneg_of_ne_top (EReal.coe_nonneg.2 hr) (EReal.coe_ne_top r)]

theorem div_num (x : EReal) (r : ℝ) (hr : r ≠ 0) : Ideal.div x (r : EReal) = x * ((r⁻¹ : ℝ) : EReal) := by
  unfold Ideal.div
  rw [if_neg (fun h => hr (EReal.coe_eq_zero.1 h)), EReal.coe_inv]

/-- A positive extended real has a reciprocal square root that is a number `r ≥ 0`; over the extended real itself it is `r³`. -/
theorem root_num (v : EReal) (hv : 0 < v) : ∃ r : ℝ, 0 ≤ r ∧ Ideal.rsqrt v = (r : EReal) ∧ Ideal.div (Ideal.rsqrt v) v = ((r * r * r : ℝ) : EReal) := by
  induction v with
  | bot => exact absurd hv (not_lt.2 bot_le)
  | top =>
    refine ⟨0, le_refl _, rfl, ?_⟩
    show Ideal.div 0 ⊤ = _
    unfold Ideal.div
    rw [if_neg EReal.top_ne_zero, zero_mul, mul_zero, EReal.coe_zero]
  | coe v =>
    have h : 0 < v := EReal.coe_pos.1 hv
    have e : Ideal.rsqrt (v : EReal) = (((Real.sqrt v)⁻¹ : ℝ) : EReal) := by rw [Ideal.rsqrt_coe, if_neg (not_lt.mpr h.le), if_neg h.ne']
    have q : v⁻¹ = (Real.sqrt v)⁻¹ * (Real.sqrt v)⁻¹ := (congrArg _ (Real.mul_self_sqrt h.le).symm).trans (mul_inv _ _)
    exact ⟨(Real.sqrt v)⁻¹, inv_nonneg.2 (Real.sqrt_nonneg v), e, by rw [e, div_num _ v h.ne', ← EReal.coe_mul, q, mul_assoc]⟩

theorem sq_nonneg' (x : EReal) : 0 ≤ x * x := by
  induction x with
  | bot => rw [EReal.bot_mul_bot]; exact le_top
  | top => rw [EReal.top_mul_top]; exact le_top
  | coe x => rw [← EReal.coe_mul]; exact EReal.coe_nonneg.2 (mul_self_nonneg x)

theorem varN_pos (n : ℕ) (X : EMat) (a b : ℕ) : 0 < varN n X a b := by
  have h : 0 ≤ ∑ x ∈ Finset.range n, X a x * X a x := Finset.sum_nonneg fun x _ => sq_nonneg' _
  show 0 < Ideal.div (∑ x ∈ Finset.range n, X a x * X a x) ((1024 : ℝ) : EReal) + ((eps : ℝ) : EReal)
  rw [div_num _ 1024 (by norm_num)]
  exact lt_of_lt_of_le (EReal.coe_pos.2 eps_pos) (le_add_of_nonneg_left (mul_nonneg h (EReal.coe_nonneg.2 (by norm_num))))

/-- Half of a product with minus a number, twice. -/
theorem neg_halves (u : EReal) (c : ℝ) (hc : 0 ≤ c) : u * ((-c : ℝ) : EReal) + u * ((-c : ℝ) : EReal) = -(u * ((c + c : ℝ) : EReal)) := by
  have h : 0 ≤ (c : EReal) := EReal.coe_nonneg.2 hc
  rw [EReal.coe_neg, mul_neg, EReal.coe_add, EReal.left_distrib_of_nonneg h h]
  generalize u * (c : EReal) = w
  induction w with
  | bot => rfl
  | top => rfl
  | coe w => rw [← EReal.coe_neg, ← EReal.coe_add, ← EReal.coe_add, ← EReal.coe_neg, neg_add]

/-- The two orders of the same gradient. -/
theorem refP_eq (n : ℕ) (P X G R : EMat) : refP n P X G R = R + dinP n P X G := by
  funext a b
  obtain ⟨r, h0, hr, hq⟩ := root_num (varN n X a 0) (varN_pos n X a 0)
  have hi : ∀ x, invN n X a x = (r : EReal) := fun x => hr
  let H : ℕ → EReal := fun x => P a x * G 0 x
  let S : EReal := ∑ x ∈ Finset.range n, X a x * H x
  have hS : ∑ x ∈ Finset.range n, (P * rowF G * normN n X) a x = S * (r : EReal) := by
    rw [← sum_scale n _ r h0]
    refine Finset.sum_congr rfl fun x _ => ?_
    show H x * (X a x * invN n X a x) = X a x * H x * (r : EReal)
    rw [hi, ← mul_assoc, mul_comm (H x)]
  have hb : backP n P X G a b = S * ((-(1 / 2) * (r * r * r) * 1024⁻¹ : ℝ) : EReal) := by
    show ∑ x ∈ Finset.range 1, _ = _
    rw [Finset.sum_range_one]
    show Ideal.div (S * (((-(1 / 2) : ℝ) : EReal) * Ideal.div (Ideal.rsqrt (varN n X a 0)) (varN n X a 0))) ((1024 : ℝ) : EReal) = _
    rw [hq, div_num _ 1024 (by norm_num), mul_assoc, ← EReal.coe_mul, ← EReal.coe_mul]
  show ((R a b + H b * invN n X a b) + X a b * backP n P X G a b) + backP n P X G a b * X a b
    = R a b + invN n X a b * (H b - X a b * invN n X a b * Ideal.div (∑ x ∈ Finset.range n, (P * rowF G * normN n X) a x) ((1024 : ℝ) : EReal))
  have hc : (0 : ℝ) ≤ 1 / 2 * (r * r * r) * 1024⁻¹ := by positivity
  have e1 : (-(1 / 2) * (r * r * r) * 1024⁻¹ : ℝ) = -(1 / 2 * (r * r * r) * 1024⁻¹) := by ring
  have e2 : ((1 / 2 * (r * r * r) * 1024⁻¹ + 1 / 2 * (r * r * r) * 1024⁻¹ : ℝ)) = r * (r * (r * 1024⁻¹)) := by ring
  rw [hS, hb, hi, div_num _ 1024 (by norm_num), mul_comm (S * _) (X a b), ← mul_assoc, add_assoc, e1, neg_halves _ _ hc, e2, sub_eq_add_neg,
    EReal.left_distrib_of_nonneg_of_ne_top (EReal.coe_nonneg.2 h0) (EReal.coe_ne_top r), mul_comm (H b), add_assoc, mul_neg]
  refine congrArg (fun w => R a b + ((r : EReal) * H b + -w)) ?_
  rw [EReal.coe_mul, EReal.coe_mul, EReal.coe_mul]
  generalize ((1024⁻¹ : ℝ) : EReal) = k'
  generalize (r : EReal) = r'
  generalize X a b = x
  generalize S = S'
  ac_rfl

theorem refN_eq (n k : ℕ) (D W X G R : EMat) : refN n k D W X G R = dxN n k D W X G R := refP_eq n (ntF k D W) X G R

section
variable (m : (ℓ : Loc nD τ sig) → Buf (Elt Ideal) ℓ) (c : Dev nD) (X G W D R : EMat)
variable (hX : m ((c.tc : Thread nD τ).loc main_arg0) = ev S4096x1024 .f32 X) (hG : m ((c.tc : Thread nD τ).loc main_arg1) = ev S1x1024 .f32 G)
  (hW : m ((c.tc : Thread nD τ).loc main_arg2) = ev S1024x5632 .bf16 W) (hD : m ((c.tc : Thread nD τ).loc main_arg3) = ev S4096x5632 .bf16 D)
  (hR : m ((c.tc : Thread nD τ).loc main_arg4) = ev S4096x1024 .f32 R)

/-- The mean square of a row, with the small constant. -/
def vars (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem vars_ev : vars (ev S4096x1024 .f32 X) = ev S4096x1 .f32 (varN 1024 X) := by
  unfold vars
  rw [ev_mulf, host_rowSum, host_spread1, host_const ofBits_1024, host_const ofBits_eps, host_divf, ev_addf]
  rfl

theorem inv_ev : Host.rsqrt (vars (ev S4096x1024 .f32 X)) = ev S4096x1 .f32 (invN 1024 X) := by
  rw [vars_ev]
  exact host_rsqrt _

def slopes (x : FVec Ideal S4096x1024 .f32) : FVec Ideal S4096x1 .f32 :=
  mulf (broadcastInDim S4096x1 ![] bcast_S_S4096x1 (constant S_ .f32 0xBF000000#32)) (Host.divf (Host.rsqrt (vars x)) (vars x))

theorem slopes_ev : slopes (ev S4096x1024 .f32 X) = ev S4096x1 .f32 (slopeN 1024 X) := by
  unfold slopes
  rw [inv_ev, vars_ev, host_const ofBits_half, host_divf, ev_mulf]
  rfl

def dots (d : FVec Ideal S4096x5632 .bf16) (w : FVec Ideal S1024x5632 .bf16) : FVec Ideal S4096x1024 .f32 :=
  Host.dotGeneral dot_S4096x5632_S1024x5632_S4096x1024_1_1_0_0_n_n none (extf .f32 d bitsLt_bf16_f32) (extf .f32 w bitsLt_bf16_f32)

theorem dots_ev : dots (ev S4096x5632 .bf16 D) (ev S1024x5632 .bf16 W) = ev S4096x1024 .f32 (ntF 5632 D W) :=
  host_nt D W dot_S4096x5632_S1024x5632_S4096x1024_1_1_0_0_n_n rfl rfl (fun _ _ => ⟨rfl, rfl⟩) (fun _ _ => ⟨rfl, rfl⟩)

def scaled (d : FVec Ideal S4096x5632 .bf16) (w : FVec Ideal S1024x5632 .bf16) (g : FVec Ideal S1x1024 .f32) : FVec Ideal S4096x1024 .f32 :=
  mulf (dots d w) (broadcastInDim S4096x1024 ![0, 1] bcast_S1x1024_S4096x1024_0_1 g)

theorem scaled_ev : scaled (ev S4096x5632 .bf16 D) (ev S1024x5632 .bf16 W) (ev S1x1024 .f32 G) = ev S4096x1024 .f32 (ntF 5632 D W * rowF G) := by
  unfold scaled
  rw [dots_ev, host_spreadRow, ev_mulf]

def backs (d : FVec Ideal S4096x5632 .bf16) (w : FVec Ideal S1024x5632 .bf16) (x : FVec Ideal S4096x1024 .f32) (g : FVec Ideal S1x1024 .f32) : FVec Ideal S4096x1024 .f32 :=
  broadcastInDim S4096x1024 ![0] bcast_S4096_S4096x1024_0 (Host.reduceAdd (Host.divf (mulf (shapeCast S4096x1 (Host.reduceAdd (mulf x (scaled d w g)) (constant S_ .f32 0x00000000#32) reducesTo_S4096x1024_S4096_d1 h_S_) shapeCasts_S4096_S4096x1) (slopes x))
    (broadcastInDim S4096x1 ![] bcast_S_S4096x1 (constant S_ .f32 0x44800000#32))) (constant S_ .f32 0x00000000#32) reducesTo_S4096x1_S4096_d1 h_S_)

theorem backs_ev : backs (ev S4096x5632 .bf16 D) (ev S1024x5632 .bf16 W) (ev S4096x1024 .f32 X) (ev S1x1024 .f32 G) = ev S4096x1024 .f32 (backN 1024 5632 D W X G) := by
  unfold backs
  rw [scaled_ev, slopes_ev, ev_mulf, host_rowSum, ev_asCol, ev_mulf, host_const ofBits_1024, host_divf, host_rowSum, host_spread1]
  rfl

def inputs (d : FVec Ideal S4096x5632 .bf16) (w : FVec Ideal S1024x5632 .bf16) (x : FVec Ideal S4096x1024 .f32) (g : FVec Ideal S1x1024 .f32) (y : FVec Ideal S4096x1024 .f32) : FVec Ideal S4096x1024 .f32 :=
  addf (addf (addf y (mulf (scaled d w g) (broadcastInDim S4096x1024 ![0, 1] bcast_S4096x1_S4096x1024_0_1 (Host.rsqrt (vars x))))) (mulf x (backs d w x g))) (mulf (backs d w x g) x)

theorem inputs_ev : inputs (ev S4096x5632 .bf16 D) (ev S1024x5632 .bf16 W) (ev S4096x1024 .f32 X) (ev S1x1024 .f32 G) (ev S4096x1024 .f32 R) = ev S4096x1024 .f32 (dxF D W X G R) := by
  unfold inputs
  rw [scaled_ev, inv_ev, backs_ev, host_spreadCol, ev_mulf, ev_mulf, ev_mulf, ev_addf, ev_addf, ev_addf]
  exact congrArg (ev S4096x1024 .f32) (refN_eq 1024 5632 D W X G R)

def scales (d : FVec Ideal S4096x5632 .bf16) (w : FVec Ideal S1024x5632 .bf16) (x : FVec Ideal S4096x1024 .f32) : FVec Ideal S1x1024 .f32 :=
  shapeCast S1x1024 (Host.reduceAdd (mulf (mulf x (broadcastInDim S4096x1024 ![0, 1] bcast_S4096x1_S4096x1024_0_1 (Host.rsqrt (vars x)))) (dots d w)) (constant S_ .f32 0x00000000#32) reducesTo_S4096x1024_S1024_d0 h_S_) shapeCasts_S1024_S1x1024

theorem scales_ev : scales (ev S4096x5632 .bf16 D) (ev S1024x5632 .bf16 W) (ev S4096x1024 .f32 X) = ev S1x1024 .f32 (dgF 4096 D W X) := by
  unfold scales
  rw [dots_ev, inv_ev, host_spreadCol, ev_mulf, ev_mulf, host_colSum, ev_asRow, mul_comm]
  rfl

include hX hG hW hD hR

theorem ref_dx : Value.res_out0 m c = ev S4096x1024 .f32 (dxF D W X G R) := by
  refine Eq.trans ?_ (inputs_ev X G W D R)
  rw [← hX, ← hG, ← hW, ← hD, ← hR]
  rfl

theorem ref_dxb : Value.res_out1 m c = ev S4096x1024 .bf16 (dxF D W X G R) := by
  refine Eq.trans ?_ (congrArg (fun v => truncf .bf16 v bitsLt_bf16_f32) (inputs_ev X G W D R))
  rw [← hX, ← hG, ← hW, ← hD, ← hR]
  rfl

end

end Cert.Ffn.Ref

end
-- ==== Proof.MixMath.lean ====
/-
  The channel mixer and the gradient through its gate, on extended reals. `A` is the gate, `U` the up projection, `E` the gradient of the activation. The two orders in which the gradient is
  computed agree where these are real numbers, and they are real numbers where the scale of the normalisation, the weights and the output's gradient are; of the rows themselves nothing
  is needed, since a row with an infinite entry is normalised to zeros.
-/
module

public import proofs.«01_k».proof.Proof.NormRef

@[expose] public section

noncomputable section

namespace Cert.Ffn

open Cert.Attn (Mat)
open Idealize.ShloMosaic
open scoped BigOperators

/-- The rows normalised and scaled. -/
def hfF (X G : EMat) : EMat := X * colF (invN 1024 X) * rowF G
/-- The gate's columns and the up projection's, side by side. -/
def guF (X G W : EMat) : EMat := nnF 1024 (hfF X G) W
def oneF : EMat := constF ((1 : ℝ) : EReal)
def siluF (A : EMat) : EMat := A * logisticF A
def actF (A U : EMat) : EMat := siluF A * U
/-- The gradients of the gate and of the up projection, side by side, as the kernel has them; `m` columns each. -/
def gradsF (m : ℕ) (E A U : EMat) : EMat := besideF m (E * U * (logisticF A * (oneF + A * (oneF - logisticF A)))) (E * siluF A)
/-- The same as the reference has them. -/
def gradsR (m : ℕ) (E A U : EMat) : EMat := besideF m (E * U * logisticF A + A * (E * U) * (logisticF A * (oneF - logisticF A))) (siluF A * E)

/-- Real entries. -/
def AllReal (f : EMat) : Prop := ∀ a b, ∃ r : ℝ, f a b = (r : EReal)

theorem grads_eq (m : ℕ) (E A U : EMat) (hE : AllReal E) (hA : AllReal A) (hU : AllReal U) : gradsR m E A U = gradsF m E A U := by
  have e1 : E * U * logisticF A + A * (E * U) * (logisticF A * (oneF - logisticF A)) = E * U * (logisticF A * (oneF + A * (oneF - logisticF A))) := by
    funext a b
    obtain ⟨e, he⟩ := hE a b
    obtain ⟨g, hg⟩ := hA a b
    obtain ⟨u, hu⟩ := hU a b
    show E a b * U a b * Ideal.logistic (A a b) + A a b * (E a b * U a b) * (Ideal.logistic (A a b) * (((1 : ℝ) : EReal) - Ideal.logistic (A a b)))
      = E a b * U a b * (Ideal.logistic (A a b) * (((1 : ℝ) : EReal) + A a b * (((1 : ℝ) : EReal) - Ideal.logistic (A a b))))
    rw [he, hg, hu, Ideal.logistic_coe]
    generalize (1 + Real.exp (-g))⁻¹ = s
    simp only [← EReal.coe_mul, ← EReal.coe_sub, ← EReal.coe_add]
    exact congrArg _ (by ring)
  unfold gradsR gradsF
  rw [e1, mul_comm (siluF A) E]

theorem sum_real (n : ℕ) (u : ℕ → EReal) (h : ∀ x < n, ∃ r : ℝ, u x = (r : EReal)) : ∃ r : ℝ, ∑ x ∈ Finset.range n, u x = (r : EReal) := by
  induction n with
  | zero => exact ⟨0, Finset.sum_range_zero u⟩
  | succ n ih =>
    obtain ⟨r, hr⟩ := ih fun x hx => h x (Nat.lt_succ_of_lt hx)
    obtain ⟨s, hs⟩ := h n (Nat.lt_succ_self n)
    exact ⟨r + s, by rw [Finset.sum_range_succ, hr, hs, EReal.coe_add]⟩

theorem mul_real {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul r s).symm⟩

theorem real_of (F : Mat) : AllReal fun a b => (F a b : EReal) := fun a b => ⟨F a b, rfl⟩

theorem nt_real (n : ℕ) (f g : EMat) (hf : AllReal f) (hg : AllReal g) : AllReal (ntF n f g) := fun a b => sum_real n _ fun x _ => mul_real (hf a x) (hg b x)

/-- A row with an infinite entry has an infinite mean square. -/
theorem var_top (n : ℕ) (X : EMat) (a b : ℕ) (hb : b < n) (h : X a b = ⊤ ∨ X a b = ⊥) : varN n X a 0 = ⊤ := by
  have e : X a b * X a b = ⊤ := by
    rcases h with h | h <;> rw [h]
    · exact EReal.top_mul_top
    · exact EReal.bot_mul_bot
  have s : ∑ x ∈ Finset.range n, X a x * X a x = ⊤ :=
    top_le_iff.1 (e.symm.le.trans (Finset.single_le_sum (f := fun x => X a x * X a x) (fun x _ => Ref.sq_nonneg' _) (Finset.mem_range.2 hb)))
  show Ideal.div (∑ x ∈ Finset.range n, X a x * X a x) ((1024 : ℝ) : EReal) + ((eps : ℝ) : EReal) = ⊤
  rw [s, Ref.div_num _ 1024 (by norm_num), EReal.top_mul_coe_of_pos (by norm_num), EReal.top_add_coe]

/-- The normalised rows are real numbers, whatever the rows are. -/
theorem hf_real (X G : EMat) (hG : AllReal G) (a b : ℕ) (hb : b < 1024) : ∃ r : ℝ, hfF X G a b = (r : EReal) := by
  refine mul_real ?_ (hG 0 b)
  show ∃ r : ℝ, X a b * Ideal.rsqrt (varN 1024 X a 0) = (r : EReal)
  by_cases h : X a b = ⊤ ∨ X a b = ⊥
  · refine ⟨0, ?_⟩
    rw [var_top 1024 X a b hb h]
    exact (mul_zero (X a b)).trans EReal.coe_zero.symm
  · obtain ⟨r, -, hr, -⟩ := Ref.root_num _ (Ref.varN_pos 1024 X a 0)
    exact mul_real ⟨_, (EReal.coe_toReal (fun e => h (.inl e)) (fun e => h (.inr e))).symm⟩ ⟨r, hr⟩

theorem gu_real (X G W : EMat) (hG : AllReal G) (hW : AllReal W) : AllReal (guF X G W) := fun a b =>
  sum_real 1024 _ fun x hx => mul_real (hf_real X G hG a x hx) (hW x b)

/-! ## The two weight gradients, in the reference's order and in the kernel's -/

theorem tn_swap (n : ℕ) (f g : EMat) : transF (tnF n f g) = tnF n g f := by
  funext a b
  show ∑ x ∈ Finset.range n, f x b * g x a = ∑ x ∈ Finset.range n, g x a * f x b
  exact Finset.sum_congr rfl fun x _ => mul_comm (f x b) (g x a)

/-- A block of columns of the first factor and one of the second. -/
theorem tn_block (n o p : ℕ) (f g : EMat) : tnF n (rightF o f) (rightF p g) = subE (rightF p (tnF n f g)) o := rfl

theorem grads_block (m k o : ℕ) (D W A U : EMat) : gradsF m (ntF k (subE D o) W) (subE A o) (subE U o) = subE (gradsF m (ntF k D W) A U) o := by
  funext a b
  show (if b < m then _ else _) = (if b < m then _ else _)
  split <;> rfl

end Cert.Ffn

end
-- ==== Proof.MixBlock.lean ====
/-
  The three launches of the channel mixer's weight gradients, on extended reals: what each computes from one block, which part of an array each window shows, and what the result arrays hold.
-/
module

public import proofs.«01_k».proof.Proof.Places
public import proofs.«01_k».proof.Proof.MixMath
public import proofs.«01_k».proof.Proof.Gen.Kernel2Ideal.Frame
public import Idealize.ShloMosaic.Lib.ValueIdx

@[expose] public section

noncomputable section

namespace Cert.Ffn.Mix

open Cert.Attn (ofBits_one)
open Cert.Kernel2Ideal Cert.Kernel2Ideal.Gen
open Idealize.ShloMosaic Idealize.ShloMosaic.TcCoe
open Idealize.SL.Sem
open Idealize.ShloMosaic.Pipeline (Dat Cfg Window)

/-! ## From one block -/

section
variable (D W A U : EMat)

/-- The gradients of the gate and of the up projection of a block of rows. -/
def both (E g u : FVec Ideal S256x2816 .f32) : FVec Ideal S256x5632 .f32 :=
  concatenate S256x5632 1 [⟨S256x2816, mulf (mulf E u) (mulf (logistic g) (addf (broadcast S256x2816 (Scalar.ofBits .f32 0x3F800000#32))
      (mulf g (subf (broadcast S256x2816 (Scalar.ofBits .f32 0x3F800000#32)) (logistic g)))))⟩, ⟨S256x2816, mulf E (mulf g (logistic g))⟩]
    concatenates_S256x2816_S256x2816_S256x5632_d1

theorem both_ev (E : EMat) : both (ev S256x2816 .f32 E) (ev S256x2816 .f32 A) (ev S256x2816 .f32 U) = ev S256x5632 .f32 (gradsF 2816 E A U) := by
  have e : (broadcast S256x2816 (Scalar.ofBits .f32 0x3F800000#32 : Ideal .f32) : FVec Ideal S256x2816 .f32) = ev S256x2816 .f32 oneF := ev_const ofBits_one
  unfold both
  rw [e]
  exact ev_besideF (φ := .f32) (m := 256) (n := 2816) (E * U * (logisticF A * (oneF + A * (oneF - logisticF A)))) (E * siluF A) 2816 5632 concatenates_S256x2816_S256x2816_S256x5632_d1 rfl

theorem pay0_ev : k0_pay1 (F := Ideal) (ev S256x1024 .bf16 D) (ev S2816x1024 .bf16 W) (ev S256x2816 .bf16 A) (ev S256x2816 .bf16 U)
    = ev S256x5632 .bf16 (gradsF 2816 (ntF 1024 D W) A U) := by
  refine Eq.trans ?_ (congrArg (fun v => truncf .bf16 v bitsLt_bf16_f32) (both_ev A U (ntF 1024 D W)))
  have e : matmul dot_S256x1024_S2816x1024_S256x2816_1_1_0_0_n_n none (ev S256x1024 .bf16 D : FVec Ideal S256x1024 .bf16) (ev S2816x1024 .bf16 W : FVec Ideal S2816x1024 .bf16) (constant S256x2816 .f32 0x00000000#32)
      = ev S256x2816 .f32 (ntF 1024 D W) := by
    rw [ev_constant]
    exact ev_nt D W 256 1024 2816
  rw [← e]
  unfold k0_pay1
  rw [ev_shapeCast, ev_shapeCast, ev_shapeCast]
  rfl

theorem pay1_ev : k1_pay1 (F := Ideal) (ev S4096x1408 .bf16 A) (ev S4096x512 .bf16 D) = ev S1408x512 .bf16 (tnF 4096 A D) := by
  unfold k1_pay1
  rw [ev_shapeCast, ev_shapeCast, ev_constant]
  exact congrArg (fun v => truncf .bf16 v bitsLt_bf16_f32)
    (ev_tn A D dot_S4096x1408_S4096x512_S1408x512_0_0_1_1_n_n rfl rfl (fun _ _ => ⟨rfl, rfl⟩) (fun _ _ => ⟨rfl, rfl⟩))

theorem pay2_ev : k2_pay1 (F := Ideal) (ev S4096x1024 .bf16 A) (ev S4096x512 .bf16 D) = ev S1024x512 .bf16 (tnF 4096 A D) := by
  unfold k2_pay1
  rw [ev_shapeCast, ev_shapeCast, ev_constant]
  exact congrArg (fun v => truncf .bf16 v bitsLt_bf16_f32)
    (ev_tn A D dot_S4096x1024_S4096x512_S1024x512_0_0_1_1_n_n rfl rfl (fun _ _ => ⟨rfl, rfl⟩) (fun _ _ => ⟨rfl, rfl⟩))

theorem out0_ev : out0_4 (F := Ideal) (ev S256x1024 .bf16 D) (ev S2816x1024 .bf16 W) (ev S256x2816 .bf16 A) (ev S256x2816 .bf16 U)
    = ev S256x5632 .bf16 (gradsF 2816 (ntF 1024 D W) A U) := by
  unfold out0_4
  rw [View.canon_unit_zero origin, View.ld_unit_zero (S := S256x1024) origin, View.ld_unit_zero (S := S2816x1024) origin, View.ld_unit_zero (S := S256x2816) origin, View.ld_unit_zero (S := S256x2816) origin]
  exact pay0_ev D W A U

theorem out1_ev : out1_2 (F := Ideal) (ev S4096x1408 .bf16 A) (ev S4096x512 .bf16 D) = ev S1408x512 .bf16 (tnF 4096 A D) := by
  unfold out1_2
  rw [View.canon_unit_zero origin, View.ld_unit_zero (S := S4096x1408) origin, View.ld_unit_zero (S := S4096x512) origin]
  exact pay1_ev D A

theorem out2_ev : out2_2 (F := Ideal) (ev S4096x1024 .bf16 A) (ev S4096x512 .bf16 D) = ev S1024x512 .bf16 (tnF 4096 A D) := by
  unfold out2_2
  rw [View.canon_unit_zero origin, View.ld_unit_zero (S := S4096x1024) origin, View.ld_unit_zero (S := S4096x512) origin]
  exact pay2_ev D A

end

/-! ## The windows' places -/

theorem place0 : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0) := by decide +kernel

theorem place1 : ∀ t : Fin grid1.N, (win1_0.index t 0 = 0 ∧ win1_0.index t 1 = t.val / 2) ∧ (win1_1.index t 0 = 0 ∧ win1_1.index t 1 = t.val % 2)
    ∧ (win1_2.index t 0 = t.val / 2 ∧ win1_2.index t 1 = t.val % 2) := by decide +kernel

theorem place2 : ∀ t : Fin grid2.N, (win2_0.index t 0 = 0 ∧ win2_0.index t 1 = 0) ∧ (win2_1.index t 0 = 0 ∧ win2_1.index t 1 = t.val)
    ∧ (win2_2.index t 0 = 0 ∧ win2_2.index t 1 = t.val) := by decide +kernel

/-! ## What the windows show -/

section
variable (X : EMat) (t : Fin cfg0.N)

theorem shown0_0 : ((cfg0.win 0).blk t).view.read (Elt Ideal) (ev S4096x1024 .bf16 X) = ev S256x1024 .bf16 (subE X (256 * t.val)) :=
  shown_rows X (at_place win0_0 rfl (place0 t).1)

theorem shown0_1 : ((cfg0.win 1).blk t).view.read (Elt Ideal) (ev S2816x1024 .bf16 X) = ev S2816x1024 .bf16 X :=
  shown_all X (at_place win0_1 rfl (place0 t).2.1)

theorem shown0_2 : ((cfg0.win 2).blk t).view.read (Elt Ideal) (ev S4096x2816 .bf16 X) = ev S256x2816 .bf16 (subE X (256 * t.val)) :=
  shown_rows X (at_place win0_2 rfl (place0 t).2.2.1)

theorem shown0_3 : ((cfg0.win 3).blk t).view.read (Elt Ideal) (ev S4096x2816 .bf16 X) = ev S256x2816 .bf16 (subE X (256 * t.val)) :=
  shown_rows X (at_place win0_3 rfl (place0 t).2.2.2.1)

theorem shown0_4 : ((cfg0.win 4).blk t).view.read (Elt Ideal) (ev S4096x5632 .bf16 X) = ev S256x5632 .bf16 (subE X (256 * t.val)) :=
  shown_rows X (at_place win0_4 rfl (place0 t).2.2.2.2)

end

section
variable (X : EMat) (t : Fin cfg1.N)

theorem shown1_0 : ((cfg1.win 0).blk t).view.read (Elt Ideal) (ev S4096x2816 .bf16 X) = ev S4096x1408 .bf16 (rightF (1408 * (t.val / 2)) X) :=
  shown_cols X (at_place win1_0 rfl (place1 t).1)

theorem shown1_1 : ((cfg1.win 1).blk t).view.read (Elt Ideal) (ev S4096x1024 .bf16 X) = ev S4096x512 .bf16 (rightF (512 * (t.val % 2)) X) :=
  shown_cols X (at_place win1_1 rfl (place1 t).2.1)

theorem shown1_2 : ((cfg1.win 2).blk t).view.read (Elt Ideal) (ev S2816x1024 .bf16 X) = ev S1408x512 .bf16 (subE (rightF (512 * (t.val % 2)) X) (1408 * (t.val / 2))) :=
  shown_part X (at_place win1_2 rfl (place1 t).2.2)

end

section
variable (X : EMat) (t : Fin cfg2.N)

theorem shown2_0 : ((cfg2.win 0).blk t).view.read (Elt Ideal) (ev S4096x1024 .bf16 X) = ev S4096x1024 .bf16 X :=
  shown_all X (at_place win2_0 rfl (place2 t).1)

theorem shown2_1 : ((cfg2.win 1).blk t).view.read (Elt Ideal) (ev S4096x5632 .bf16 X) = ev S4096x512 .bf16 (rightF (512 * t.val) X) :=
  shown_cols X (at_place win2_1 rfl (place2 t).2.1)

theorem shown2_2 : ((cfg2.win 2).blk t).view.read (Elt Ideal) (ev S1024x5632 .bf16 X) = ev S1024x512 .bf16 (rightF (512 * t.val) X) :=
  shown_cols X (at_place win2_2 rfl (place2 t).2.2)

end

/-! ## Every index lies in some window written back -/

theorem covered0 (i : S4096x5632.Idx) : ∃ t : Fin cfg0.N, (cfg0.win 4).flush t = true ∧ i ∈ ((cfg0.win 4).blk t).view.set := by
  have h0 : (i 0).val < 4096 := (i 0).isLt
  have h1 : (i 1).val < 5632 := (i 1).isLt
  have ht : (i 0).val / 256 < 16 := by omega
  refine ⟨⟨(i 0).val / 256, ht⟩, flush0_4 _, ?_⟩
  show i ∈ ((View.whole main_v21).slice (win0_4.rect ⟨(i 0).val / 256, ht⟩)).set
  rw [View.set_slice_whole, Rect.mem_set_unit]
  have hp := (place0 ⟨(i 0).val / 256, ht⟩).2.2.2.2
  refine in_place ((i 0).val / 256) 0 256 5632 ?_ ?_ ?_ ?_ ?_
  exacts [congrArg (· * 256) hp.1, congrArg (· * 5632) hp.2, ⟨rfl, rfl⟩, by omega, by omega]

theorem covered1 (i : S2816x1024.Idx) : ∃ t : Fin cfg1.N, (cfg1.win 2).flush t = true ∧ i ∈ ((cfg1.win 2).blk t).view.set := by
  have h0 : (i 0).val < 2816 := (i 0).isLt
  have h1 : (i 1).val < 1024 := (i 1).isLt
  have ht : 2 * ((i 0).val / 1408) + (i 1).val / 512 < 4 := by omega
  refine ⟨⟨2 * ((i 0).val / 1408) + (i 1).val / 512, ht⟩, flush1_2 _, ?_⟩
  show i ∈ ((View.whole main_v23).slice (win1_2.rect ⟨2 * ((i 0).val / 1408) + (i 1).val / 512, ht⟩)).set
  rw [View.set_slice_whole, Rect.mem_set_unit]
  have hp := (place1 ⟨2 * ((i 0).val / 1408) + (i 1).val / 512, ht⟩).2.2
  refine in_place ((2 * ((i 0).val / 1408) + (i 1).val / 512) / 2) ((2 * ((i 0).val / 1408) + (i 1).val / 512) % 2) 1408 512 ?_ ?_ ?_ ?_ ?_
  exacts [congrArg (· * 1408) hp.1, congrArg (· * 512) hp.2, ⟨rfl, rfl⟩, by omega, by omega]

theorem covered2 (i : S1024x5632.Idx) : ∃ t : Fin cfg2.N, (cfg2.win 2).flush t = true ∧ i ∈ ((cfg2.win 2).blk t).view.set := by
  have h0 : (i 0).val < 1024 := (i 0).isLt
  have h1 : (i 1).val < 5632 := (i 1).isLt
  have ht : (i 1).val / 512 < 11 := by omega
  refine ⟨⟨(i 1).val / 512, ht⟩, flush2_2 _, ?_⟩
  show i ∈ ((View.whole main_v25).slice (win2_2.rect ⟨(i 1).val / 512, ht⟩)).set
  rw [View.set_slice_whole, Rect.mem_set_unit]
  have hp := (place2 ⟨(i 1).val / 512, ht⟩).2.2
  refine in_place 0 ((i 1).val / 512) 1024 512 ?_ ?_ ?_ ?_ ?_
  exacts [congrArg (· * 1024) hp.1, congrArg (· * 512) hp.2, ⟨rfl, rfl⟩, by omega, by omega]

/-! ## The result arrays -/

section
variable (V : (c : Dev nD) → (b : Ref sig .tc) → Buf (Elt Ideal) ((c : Thread nD τ).loc b)) (c : Dev nD) (D W A U H : EMat)

theorem res0 (hD : V c main_v18 = ev S4096x1024 .bf16 D) (hW : V c main_arg3 = ev S2816x1024 .bf16 W) (hA : V c main_v19 = ev S4096x2816 .bf16 A) (hU : V c main_v20 = ev S4096x2816 .bf16 U) :
    (dat0 V c).arrAt 4 cfg0.N = ev S4096x5632 .bf16 (gradsF 2816 (ntF 1024 D W) A U) := by
  refine (dat0 V c).arrAt_eq_of_cover 4 (ev S4096x5632 .bf16 (gradsF 2816 (ntF 1024 D W) A U)) (fun t _ => ?_) covered0
  show (cfg0.win 4).cut (grid0.coords t) ((dat0 V c).after 4 t) = _
  have e0 : iblk0 V c 0 t = ev S256x1024 .bf16 (subE D (256 * t.val)) := (congrArg (((cfg0.win 0).blk t).view.read (Elt Ideal)) hD).trans (shown0_0 D t)
  have e1 : iblk0 V c 1 t = ev S2816x1024 .bf16 W := (congrArg (((cfg0.win 1).blk t).view.read (Elt Ideal)) hW).trans (shown0_1 W t)
  have e2 : iblk0 V c 2 t = ev S256x2816 .bf16 (subE A (256 * t.val)) := (congrArg (((cfg0.win 2).blk t).view.read (Elt Ideal)) hA).trans (shown0_2 A t)
  have e3 : iblk0 V c 3 t = ev S256x2816 .bf16 (subE U (256 * t.val)) := (congrArg (((cfg0.win 3).blk t).view.read (Elt Ideal)) hU).trans (shown0_3 U t)
  have e : (dat0 V c).after 4 t = ev S256x5632 .bf16 (subE (gradsF 2816 (ntF 1024 D W) A U) (256 * t.val)) := by
    rw [after0_4, e0, e1, e2, e3]
    exact (out0_ev (subE D (256 * t.val)) W (subE A (256 * t.val)) (subE U (256 * t.val))).trans (congrArg (fun f => ev S256x5632 .bf16 f) (grads_block 2816 1024 (256 * t.val) D W A U))
  rw [e, shown0_4]
  rfl

theorem res1 (hA : V c main_v22 = ev S4096x2816 .bf16 A) (hD : V c main_v18 = ev S4096x1024 .bf16 D) :
    (dat1 V c).arrAt 2 cfg1.N = ev S2816x1024 .bf16 (tnF 4096 A D) := by
  refine (dat1 V c).arrAt_eq_of_cover 2 (ev S2816x1024 .bf16 (tnF 4096 A D)) (fun t _ => ?_) covered1
  show (cfg1.win 2).cut (grid1.coords t) ((dat1 V c).after 2 t) = _
  have e0 : iblk1 V c 0 t = ev S4096x1408 .bf16 (rightF (1408 * (t.val / 2)) A) := (congrArg (((cfg1.win 0).blk t).view.read (Elt Ideal)) hA).trans (shown1_0 A t)
  have e1 : iblk1 V c 1 t = ev S4096x512 .bf16 (rightF (512 * (t.val % 2)) D) := (congrArg (((cfg1.win 1).blk t).view.read (Elt Ideal)) hD).trans (shown1_1 D t)
  have e : (dat1 V c).after 2 t = ev S1408x512 .bf16 (subE (rightF (512 * (t.val % 2)) (tnF 4096 A D)) (1408 * (t.val / 2))) := by
    rw [after1_2, e0, e1]
    exact (out1_ev (rightF (512 * (t.val % 2)) D) (rightF (1408 * (t.val / 2)) A)).trans (congrArg (fun f => ev S1408x512 .bf16 f) (tn_block 4096 (1408 * (t.val / 2)) (512 * (t.val % 2)) A D))
  rw [e, shown1_2]
  rfl

theorem res2 (hH : V c main_v24 = ev S4096x1024 .bf16 H) (hD : V c main_v21 = ev S4096x5632 .bf16 D) :
    (dat2 V c).arrAt 2 cfg2.N = ev S1024x5632 .bf16 (tnF 4096 H D) := by
  refine (dat2 V c).arrAt_eq_of_cover 2 (ev S1024x5632 .bf16 (tnF 4096 H D)) (fun t _ => ?_) covered2
  show (cfg2.win 2).cut (grid2.coords t) ((dat2 V c).after 2 t) = _
  have e0 : iblk2 V c 0 t = ev S4096x1024 .bf16 H := (congrArg (((cfg2.win 0).blk t).view.read (Elt Ideal)) hH).trans (shown2_0 H t)
  have e1 : iblk2 V c 1 t = ev S4096x512 .bf16 (rightF (512 * t.val) D) := (congrArg (((cfg2.win 1).blk t).view.read (Elt Ideal)) hD).trans (shown2_1 D t)
  have e : (dat2 V c).after 2 t = ev S1024x512 .bf16 (rightF (512 * t.val) (tnF 4096 H D)) := by
    rw [after2_2, e0, e1]
    exact out2_ev (rightF (512 * t.val) D) H
  rw [e, shown2_2]
  rfl

end

end Cert.Ffn.Mix

end
-- ==== Proof.MixHost.lean ====
/-
  The lines of the channel mixer around the kernels: the rows normalised and scaled, the gate and the up projection, the activation; and the reference's lines for the two weight gradients. Each
  is read on extended reals.
-/
module

public import proofs.«01_k».proof.Proof.MixMath
public import proofs.«01_k».proof.Proof.Gen.Reference2Ideal.Run
public import Idealize.ShloMosaic.Lib.ValueIdx

@[expose] public section

noncomputable section

namespace Cert.Ffn.Lines

open Cert.Attn (ofBits_one)
open Cert.Reference2Ideal Cert.Reference2Ideal.Gen
open Idealize.ShloMosaic Idealize.ShloMosaic.TcCoe Idealize.SL.Sem

attribute [local instance] Cert.Reference2Ideal.Gen.facts

theorem ev_slice {n k m : ℕ} {φ : FTy} (f : EMat) (o : ℕ) (h : (⟨2, ![n, m]⟩ : Shape).Slices ![0, o] ⟨2, ![n, k]⟩) :
    extractStridedSlice ⟨2, ![n, k]⟩ ![0, o] (ev ⟨2, ![n, m]⟩ φ f) h = ev ⟨2, ![n, k]⟩ φ (rightF o f) := by
  funext j
  exact congrArg (fun a => f a (o + (j 1).val)) (Nat.zero_add (j 0).val)

theorem rightF_zero (f : EMat) : rightF 0 f = f := by
  funext a b
  exact congrArg (f a) (Nat.zero_add b)

/-! ## What the forward pass computes -/

def vars (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

def hfs (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (vars x)))) (broadcastInDim S4096x1024 ![0, 1] bcast_S1x1024_S4096x1024_0_1 g)

def gus (x : FVec Ideal S4096x1024 .f32) (g : FVec Ideal S1x1024 .f32) (w : FVec Ideal S1024x5632 .bf16) : FVec Ideal S4096x5632 .f32 :=
  Host.dotGeneral dot_S4096x1024_S1024x5632_S4096x5632_1_0_0_1_n_n none (hfs x g) (extf .f32 w bitsLt_bf16_f32)

def gates (x : FVec Ideal S4096x1024 .f32) (g : FVec Ideal S1x1024 .f32) (w : FVec Ideal S1024x5632 .bf16) : FVec Ideal S4096x2816 .f32 :=
  extractStridedSlice S4096x2816 ![0, 0] (gus x g w) slices_S4096x5632_S4096x2816_0_0

def ups (x : FVec Ideal S4096x1024 .f32) (g : FVec Ideal S1x1024 .f32) (w : FVec Ideal S1024x5632 .bf16) : FVec Ideal S4096x2816 .f32 :=
  extractStridedSlice S4096x2816 ![0, 2816] (gus x g w) slices_S4096x5632_S4096x2816_0_2816

def ones : FVec Ideal S4096x2816 .f32 := broadcastInDim S4096x2816 ![] bcast_S_S4096x2816 (constant S_ .f32 0x3F800000#32)

def sigs (a : FVec Ideal S4096x2816 .f32) : FVec Ideal S4096x2816 .f32 := Host.divf ones (addf ones (Host.exp (Host.negf a)))

def silus (a : FVec Ideal S4096x2816 .f32) : FVec Ideal S4096x2816 .f32 := mulf a (sigs a)

section
variable (X G W O D A U : EMat)

theorem vars_ev : vars (ev S4096x1024 .f32 X) = ev S4096x1 .f32 (varN 1024 X) := by
  unfold vars
  rw [ev_mulf, host_rowSum, host_spread1, host_const ofBits_1024, host_const ofBits_eps, host_divf, ev_addf]
  rfl

theorem hfs_ev : hfs (ev S4096x1024 .f32 X) (ev S1x1024 .f32 G) = ev S4096x1024 .f32 (hfF X G) := by
  unfold hfs
  rw [vars_ev, host_rsqrt, host_spreadCol, host_spreadRow, ev_mulf, ev_mulf]
  rfl

theorem gus_ev : gus (ev S4096x1024 .f32 X) (ev S1x1024 .f32 G) (ev S1024x5632 .bf16 W) = ev S4096x5632 .f32 (guF X G W) := by
  unfold gus
  rw [hfs_ev]
  exact host_nn (hfF X G) W dot_S4096x1024_S1024x5632_S4096x5632_1_0_0_1_n_n rfl rfl (fun _ _ => ⟨rfl, rfl⟩) (fun _ _ => ⟨rfl, rfl⟩)

theorem gates_ev : gates (ev S4096x1024 .f32 X) (ev S1x1024 .f32 G) (ev S1024x5632 .bf16 W) = ev S4096x2816 .f32 (guF X G W) := by
  unfold gates
  rw [gus_ev]
  exact (ev_slice (guF X G W) 0 slices_S4096x5632_S4096x2816_0_0).trans (congrArg (fun f => ev S4096x2816 .f32 f) (rightF_zero _))

theorem ups_ev : ups (ev S4096x1024 .f32 X) (ev S1x1024 .f32 G) (ev S1024x5632 .bf16 W) = ev S4096x2816 .f32 (rightF 2816 (guF X G W)) := by
  unfold ups
  rw [gus_ev]
  exact ev_slice (guF X G W) 2816 slices_S4096x5632_S4096x2816_0_2816

theorem ones_ev : ones = ev S4096x2816 .f32 oneF := host_const ofBits_one _

theorem sigs_ev : sigs (ev S4096x2816 .f32 A) = ev S4096x2816 .f32 (logisticF A) := by
  unfold sigs
  rw [ones_ev]
  funext i
  show Ideal.div ((1 : ℝ) : EReal) (((1 : ℝ) : EReal) + Ideal.exp (-(A (i 0).val (i 1).val))) = Ideal.logistic (A (i 0).val (i 1).val)
  rw [EReal.coe_one]
  rfl

theorem silus_ev : silus (ev S4096x2816 .f32 A) = ev S4096x2816 .f32 (siluF A) := by
  unfold silus
  rw [sigs_ev, ev_mulf]
  rfl

/-! ## The reference's two weight gradients -/

def das (o : FVec Ideal S2816x1024 .bf16) (d : FVec Ideal S4096x1024 .f32) : FVec Ideal S4096x2816 .f32 :=
  Host.dotGeneral dot_S4096x1024_S2816x1024_S4096x2816_1_1_0_0_n_n none (shapeCast S4096x1024 d shapeCasts_S4096x1024_S4096x1024) (extf .f32 o bitsLt_bf16_f32)

theorem das_ev : das (ev S2816x1024 .bf16 O) (ev S4096x1024 .f32 D) = ev S4096x2816 .f32 (ntF 1024 D O) := by
  unfold das
  rw [ev_shapeCast]
  exact host_nt D O dot_S4096x1024_S2816x1024_S4096x2816_1_1_0_0_n_n rfl rfl (fun _ _ => ⟨rfl, rfl⟩) (fun _ _ => ⟨rfl, rfl⟩)

/-- The gradients of the gate and of the up projection, side by side. -/
def both (e a u : FVec Ideal S4096x2816 .f32) : FVec Ideal S4096x5632 .f32 :=
  concatenate S4096x5632 1 [⟨S4096x2816, addf (mulf (mulf e u) (sigs a)) (mulf (mulf a (mulf e u)) (mulf (sigs a) (subf ones (sigs a))))⟩, ⟨S4096x2816, mulf (silus a) e⟩]
    concatenates_S4096x2816_S4096x2816_S4096x5632_d1

theorem both_ev (E : EMat) : both (ev S4096x2816 .f32 E) (ev S4096x2816 .f32 A) (ev S4096x2816 .f32 U) = ev S4096x5632 .f32 (gradsR 2816 E A U) := by
  unfold both
  rw [sigs_ev, silus_ev, ones_ev]
  exact ev_besideF (φ := .f32) (m := 4096) (n := 2816) (E * U * logisticF A + A * (E * U) * (logisticF A * (oneF - logisticF A))) (siluF A * E) 2816 5632 concatenates_S4096x2816_S4096x2816_S4096x5632_d1 rfl

def gradIn (h : FVec Ideal S4096x1024 .f32) (y : FVec Ideal S4096x5632 .f32) : FVec Ideal S1024x5632 .bf16 :=
  truncf .bf16 (transpose S1024x5632 [1, 0] (Host.dotGeneral dot_S4096x5632_S4096x1024_S5632x1024_0_0_1_1_n_n none y h) transposes_S5632x1024_S1024x5632_1_0) bitsLt_bf16_f32

theorem gradIn_ev (H Y : EMat) : gradIn (ev S4096x1024 .f32 H) (ev S4096x5632 .f32 Y) = ev S1024x5632 .bf16 (tnF 4096 H Y) := by
  have e : Host.dotGeneral dot_S4096x5632_S4096x1024_S5632x1024_0_0_1_1_n_n none (ev S4096x5632 .f32 Y : FVec Ideal S4096x5632 .f32) (ev S4096x1024 .f32 H : FVec Ideal S4096x1024 .f32)
      = ev S5632x1024 .f32 (tnF 4096 Y H) :=
    host_tn Y H dot_S4096x5632_S4096x1024_S5632x1024_0_0_1_1_n_n rfl rfl (fun _ _ => ⟨rfl, rfl⟩) (fun _ _ => ⟨rfl, rfl⟩)
  unfold gradIn
  rw [e, ev_transpose, tn_swap]
  rfl

def gradOut (d : FVec Ideal S4096x1024 .f32) (a : FVec Ideal S4096x2816 .f32) : FVec Ideal S2816x1024 .bf16 :=
  truncf .bf16 (transpose S2816x1024 [1, 0] (Host.dotGeneral dot_S4096x1024_S4096x2816_S1024x2816_0_0_1_1_n_n none (shapeCast S4096x1024 d shapeCasts_S4096x1024_S4096x1024) a) transposes_S1024x2816_S2816x1024_1_0) bitsLt_bf16_f32

theorem gradOut_ev (Y : EMat) : gradOut (ev S4096x1024 .f32 D) (ev S4096x2816 .f32 Y) = ev S2816x1024 .bf16 (tnF 4096 Y D) := by
  have e : Host.dotGeneral dot_S4096x1024_S4096x2816_S1024x2816_0_0_1_1_n_n none (ev S4096x1024 .f32 D : FVec Ideal S4096x1024 .f32) (ev S4096x2816 .f32 Y : FVec Ideal S4096x2816 .f32)
      = ev S1024x2816 .f32 (tnF 4096 D Y) :=
    host_tn D Y dot_S4096x1024_S4096x2816_S1024x2816_0_0_1_1_n_n rfl rfl (fun _ _ => ⟨rfl, rfl⟩) (fun _ _ => ⟨rfl, rfl⟩)
  unfold gradOut
  rw [ev_shapeCast, e, ev_transpose, tn_swap]
  rfl

end

/-! ## The reference's results -/

section
variable (m : (ℓ : Loc nD τ sig) → Buf (Elt Ideal) ℓ) (c : Dev nD) (X G W O D : EMat)
variable (hX : m ((c.tc : Thread nD τ).loc main_arg0) = ev S4096x1024 .f32 X) (hG : m ((c.tc : Thread nD τ).loc main_arg1) = ev S1x1024 .f32 G)
  (hW : m ((c.tc : Thread nD τ).loc main_arg2) = ev S1024x5632 .bf16 W) (hO : m ((c.tc : Thread nD τ).loc main_arg3) = ev S2816x1024 .bf16 O)
  (hD : m ((c.tc : Thread nD τ).loc main_arg4) = ev S4096x1024 .f32 D)

include hX hG hW hO hD in
theorem ref_in : Value.res_out0 m c = ev S1024x5632 .bf16 (tnF 4096 (hfF X G) (gradsR 2816 (ntF 1024 D O) (guF X G W) (rightF 2816 (guF X G W)))) := by
  refine Eq.trans ?_ (gradIn_ev (hfF X G) (gradsR 2816 (ntF 1024 D O) (guF X G W) (rightF 2816 (guF X G W))))
  rw [← both_ev, ← das_ev, ← gates_ev, ← ups_ev, ← hfs_ev, ← hX, ← hG, ← hW, ← hO, ← hD]
  rfl

end

theorem ref_out (x : FVec Ideal S4096x1024 .f32) (g : FVec Ideal S1x1024 .f32) (w : FVec Ideal S1024x5632 .bf16) (d : FVec Ideal S4096x1024 .f32) (X G W D : EMat)
    (hX : x = ev S4096x1024 .f32 X) (hG : g = ev S1x1024 .f32 G) (hW : w = ev S1024x5632 .bf16 W) (hD : d = ev S4096x1024 .f32 D) :
    gradOut d (mulf (silus (gates x g w)) (ups x g w)) = ev S2816x1024 .bf16 (tnF 4096 (actF (guF X G W) (rightF 2816 (guF X G W))) D) := by
  rw [hX, hG, hW, hD, gates_ev, ups_ev, silus_ev, ev_mulf, gradOut_ev]
  rfl

end Cert.Ffn.Lines

end
-- ==== Proof.MixRun.lean ====
/-
  The whole program of the channel mixer's weight gradients: what its buffers hold between the launches, and what its two results hold at the end.
-/
module

public import proofs.«01_k».proof.Proof.MixBlock
public import proofs.«01_k».proof.Proof.MixHost
public import Idealize.ShloMosaic.Lib.StableHlo.Run

@[expose] public section

noncomputable section

namespace Cert.Ffn.Mix

open Cert.Kernel2Ideal Cert.Kernel2Ideal.Gen
open Idealize.SL Idealize.SL.RA Idealize.SL.BI
open Idealize.ShloMosaic Idealize.ShloMosaic.TcCoe
open scoped Idealize.SL.BI
open Idealize.SL.BI.BIBase Idealize.SL.BI.Laws Idealize.SL.ProofMode Idealize.SL.Sem
open Idealize.ShloMosaic.Rounds
open Idealize.ShloMosaic.StableHlo (TRef after binary unary nullary)

attribute [local instance] Cert.Kernel2Ideal.Gen.facts Cert.Reference2Ideal.Gen.facts

/-! ## The lines before and between the launches -/

section
variable (V : Valuation τ sig (Elt Ideal))

theorem line_hf : after hostOps0 V (Proc.devRef .tc main_v11) = Lines.hfs (V (Proc.devRef .tc main_arg0)) (V (Proc.devRef .tc main_arg1)) := by
  simp only [hostOps0]
  after_results_simp <;> rfl

theorem line_gate : after hostOps0 V (Proc.devRef .tc main_v14) = Lines.gates (V (Proc.devRef .tc main_arg0)) (V (Proc.devRef .tc main_arg1)) (V (Proc.devRef .tc main_arg2)) := by
  simp only [hostOps0]
  after_results_simp <;> rfl

theorem line_up : after hostOps0 V (Proc.devRef .tc main_v15) = Lines.ups (V (Proc.devRef .tc main_arg0)) (V (Proc.devRef .tc main_arg1)) (V (Proc.devRef .tc main_arg2)) := by
  simp only [hostOps0]
  after_results_simp <;> rfl

theorem line_silu : after hostOps0_1 V (Proc.devRef .tc main_v16) = Lines.silus (V (Proc.devRef .tc main_v14)) := by
  simp only [hostOps0_1, TRef.binary, TRef.nullary, TRef.unary, TRef.toBuf, TRef.ofBuf, cast_eq]
  after_results_simp <;> rfl

theorem line_act : after hostOps0_2 V (Proc.devRef .tc main_v17)
    = (mulf (V (Proc.devRef .tc main_v16) : FVec Ideal S4096x2816 .f32) (V (Proc.devRef .tc main_v15)) : FVec Ideal S4096x2816 .f32) := by
  simp only [hostOps0_2]
  after_results_simp <;> rfl

theorem line_dy : after hostOps0_2 V (Proc.devRef .tc main_v18) = (truncf .bf16 (V (Proc.devRef .tc main_arg4) : FVec Ideal S4096x1024 .f32) bitsLt_bf16_f32 : FVec Ideal S4096x1024 .bf16) := by
  simp only [hostOps0_2]
  after_results_simp <;> rfl

theorem line_gate' : after hostOps0_2 V (Proc.devRef .tc main_v19) = (truncf .bf16 (V (Proc.devRef .tc main_v14) : FVec Ideal S4096x2816 .f32) bitsLt_bf16_f32 : FVec Ideal S4096x2816 .bf16) := by
  simp only [hostOps0_2]
  after_results_simp <;> rfl

theorem line_up' : after hostOps0_2 V (Proc.devRef .tc main_v20) = (truncf .bf16 (V (Proc.devRef .tc main_v15) : FVec Ideal S4096x2816 .f32) bitsLt_bf16_f32 : FVec Ideal S4096x2816 .bf16) := by
  simp only [hostOps0_2]
  after_results_simp <;> rfl

theorem line_act' : after hostOps1 V (Proc.devRef .tc main_v22) = (truncf .bf16 (V (Proc.devRef .tc main_v17) : FVec Ideal S4096x2816 .f32) bitsLt_bf16_f32 : FVec Ideal S4096x2816 .bf16) := by
  simp only [hostOps1]
  after_results_simp <;> rfl

theorem line_hf' : after hostOps2 V (Proc.devRef .tc main_v24) = (truncf .bf16 (V (Proc.devRef .tc main_v11) : FVec Ideal S4096x1024 .f32) bitsLt_bf16_f32 : FVec Ideal S4096x1024 .bf16) := by
  simp only [hostOps2]
  after_results_simp <;> rfl

end

/-! ## The buffers at each boundary -/

section
variable (m : (ℓ : Loc nD τ sig) → Buf (Elt Ideal) ℓ) (ρ : Dev nD → PrngReg) (c : Dev nD) (X G W O D : EMat)
variable (hX : m ((c : Thread nD τ).loc main_arg0) = ev S4096x1024 .f32 X) (hG : m ((c : Thread nD τ).loc main_arg1) = ev S1x1024 .f32 G)
  (hW : m ((c : Thread nD τ).loc main_arg2) = ev S1024x5632 .bf16 W) (hO : m ((c : Thread nD τ).loc main_arg3) = ev S2816x1024 .bf16 O)
  (hD : m ((c : Thread nD τ).loc main_arg4) = ev S4096x1024 .f32 D)

include hX hG in
theorem W1_hf : W1 m ρ c (Proc.devRef .tc main_v11) = ev S4096x1024 .f32 (hfF X G) :=
  (line_hf (W0 m ρ c)).trans ((congrArg₂ Lines.hfs hX hG).trans (Lines.hfs_ev X G))

include hX hG hW in
theorem W1_gate : W1 m ρ c (Proc.devRef .tc main_v14) = ev S4096x2816 .f32 (guF X G W) := by
  refine (line_gate (W0 m ρ c)).trans (Eq.trans ?_ (Lines.gates_ev X G W))
  rw [← hX, ← hG, ← hW]

include hX hG hW in
theorem W1_up : W1 m ρ c (Proc.devRef .tc main_v15) = ev S4096x2816 .f32 (rightF 2816 (guF X G W)) := by
  refine (line_up (W0 m ρ c)).trans (Eq.trans ?_ (Lines.ups_ev X G W))
  rw [← hX, ← hG, ← hW]

include hX hG hW in
theorem W2_gate : W2 m ρ c (Proc.devRef .tc main_v14) = ev S4096x2816 .f32 (guF X G W) :=
  (W2_of m ρ c main_v14 (by decide)).trans (W1_gate m ρ c X G W hX hG hW)

include hX hG hW in
theorem W2_up : W2 m ρ c (Proc.devRef .tc main_v15) = ev S4096x2816 .f32 (rightF 2816 (guF X G W)) :=
  (W2_of m ρ c main_v15 (by decide)).trans (W1_up m ρ c X G W hX hG hW)

include hX hG hW in
theorem W2_silu : W2 m ρ c (Proc.devRef .tc main_v16) = ev S4096x2816 .f32 (siluF (guF X G W)) :=
  (line_silu (W1 m ρ c)).trans ((congrArg Lines.silus (W1_gate m ρ c X G W hX hG hW)).trans (Lines.silus_ev (guF X G W)))

include hX hG hW in
theorem W3_act : W3 m ρ c (Proc.devRef .tc main_v17) = ev S4096x2816 .f32 (actF (guF X G W) (rightF 2816 (guF X G W))) := by
  refine (line_act (W2 m ρ c)).trans ?_
  rw [W2_silu m ρ c X G W hX hG hW, W2_up m ρ c X G W hX hG hW]
  rfl

include hD in
theorem W3_dy : W3 m ρ c (Proc.devRef .tc main_v18) = ev S4096x1024 .bf16 D := by
  refine (line_dy (W2 m ρ c)).trans ?_
  rw [W2_args m ρ c main_arg4 (by decide), hD]
  rfl

include hX hG hW in
theorem W3_gate : W3 m ρ c (Proc.devRef .tc main_v19) = ev S4096x2816 .bf16 (guF X G W) := by
  refine (line_gate' (W2 m ρ c)).trans ?_
  rw [W2_gate m ρ c X G W hX hG hW]
  rfl

include hX hG hW in
theorem W3_up : W3 m ρ c (Proc.devRef .tc main_v20) = ev S4096x2816 .bf16 (rightF 2816 (guF X G W)) := by
  refine (line_up' (W2 m ρ c)).trans ?_
  rw [W2_up m ρ c X G W hX hG hW]
  rfl

include hO in
theorem W3_wout : W3 m ρ c (Proc.devRef .tc main_arg3) = ev S2816x1024 .bf16 O := (W3_args m ρ c main_arg3 (by decide)).trans hO

/-- The gradients of the gate and of the up projection. -/
def dguF : EMat := gradsF 2816 (ntF 1024 D O) (guF X G W) (rightF 2816 (guF X G W))

include hX hG hW hO hD in
theorem W4_dgu : W4 m ρ c (Proc.devRef .tc main_v21) = ev S4096x5632 .bf16 (dguF X G W O D) :=
  (W4_arr m ρ c 4).trans (res0 (V3 m ρ) c D O (guF X G W) (rightF 2816 (guF X G W)) (W3_dy m ρ c D hD) (W3_wout m ρ c O hO) (W3_gate m ρ c X G W hX hG hW) (W3_up m ρ c X G W hX hG hW))

include hX hG hW in
theorem W5_act : W5 m ρ c (Proc.devRef .tc main_v22) = ev S4096x2816 .bf16 (actF (guF X G W) (rightF 2816 (guF X G W))) := by
  refine (line_act' (W4 m ρ c)).trans ?_
  rw [W4_of m ρ c main_v17 (by decide), W3_act m ρ c X G W hX hG hW]
  rfl

include hD in
theorem W5_dy : W5 m ρ c (Proc.devRef .tc main_v18) = ev S4096x1024 .bf16 D :=
  (W5_of m ρ c main_v18 (by decide)).trans ((W4_of m ρ c main_v18 (by decide)).trans (W3_dy m ρ c D hD))

include hX hG hW hD in
theorem W6_out : W6 m ρ c (Proc.devRef .tc main_v23) = ev S2816x1024 .bf16 (tnF 4096 (actF (guF X G W) (rightF 2816 (guF X G W))) D) :=
  (W6_arr m ρ c 2).trans (res1 (V5 m ρ) c D (actF (guF X G W) (rightF 2816 (guF X G W))) (W5_act m ρ c X G W hX hG hW) (W5_dy m ρ c D hD))

include hX hG in
theorem W7_hf : W7 m ρ c (Proc.devRef .tc main_v24) = ev S4096x1024 .bf16 (hfF X G) := by
  refine (line_hf' (W6 m ρ c)).trans ?_
  rw [W6_of m ρ c main_v11 (by decide), W5_of m ρ c main_v11 (by decide), W4_of m ρ c main_v11 (by decide), W3_of m ρ c main_v11 (by decide), W2_of m ρ c main_v11 (by decide),
    W1_hf m ρ c X G hX hG]
  rfl

include hX hG hW hO hD in
theorem W7_dgu : W7 m ρ c (Proc.devRef .tc main_v21) = ev S4096x5632 .bf16 (dguF X G W O D) :=
  (W7_of m ρ c main_v21 (by decide)).trans ((W6_of m ρ c main_v21 (by decide)).trans ((W5_of m ρ c main_v21 (by decide)).trans (W4_dgu m ρ c X G W O D hX hG hW hO hD)))

include hX hG hW hO hD in
theorem W8_in : W8 m ρ c (Proc.devRef .tc main_v25) = ev S1024x5632 .bf16 (tnF 4096 (hfF X G) (dguF X G W O D)) :=
  (W8_arr m ρ c 2).trans (res2 (V7 m ρ) c (dguF X G W O D) (hfF X G) (W7_hf m ρ c X G hX hG) (W7_dgu m ρ c X G W O D hX hG hW hO hD))

include hX hG hW hD in
theorem W8_out : W8 m ρ c (Proc.devRef .tc main_v23) = ev S2816x1024 .bf16 (tnF 4096 (actF (guF X G W) (rightF 2816 (guF X G W))) D) :=
  (W8_of m ρ c main_v23 (by decide)).trans ((W7_of m ρ c main_v23 (by decide)).trans (W6_out m ρ c X G W D hX hG hW hD))

end

/-! ## The launch -/

local notation "𝕄" => MT nD τ sig Unit (Elt Ideal) ℕ (UR sig nD τ) ℕ

set_option backward.isDefEq.respectTransparency.types false in
/-- Every run ends with the two results, and with the arguments, at the contents of the last boundary. -/
theorem run_contents (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_v23) = W8 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v25 (by decide)), h c _ (mem_uc main_v23 (by decide)),
       (h c _ (mem_uc main_arg0 (by decide))).trans (W8_main_arg0 m ρ c), (h c _ (mem_uc main_arg1 (by decide))).trans (W8_main_arg1 m ρ c),
       (h c _ (mem_uc main_arg2 (by decide))).trans (W8_main_arg2 m ρ c), (h c _ (mem_uc main_arg3 (by decide))).trans (W8_main_arg3 m ρ c),
       (h c _ (mem_uc main_arg4 (by decide))).trans (W8_main_arg4 m ρ c)⟩)

end Cert.Ffn.Mix

end
-- ==== Proof.MixEnd.lean ====
/-
  The claims of the second program under its precondition: its values, and the frames. The precondition says that the scale of the normalisation, the two weights and the output's gradient
  are real numbers.
-/
module

public import proofs.«01_k».proof.Defs
public import proofs.«01_k».proof.Proof.Finite
public import proofs.«01_k».proof.Proof.MixFrames
public import proofs.«01_k».proof.Proof.MixRun
public import proofs.«01_k».proof.Proof.Gen.Pre_finite2

@[expose] public section

noncomputable section

namespace Cert.Ffn

open Cert.Attn (Mat rv exists_rv lt_of_bit and_bits ofBits_inf)
open Idealize.ShloMosaic Idealize.ShloMosaic.TcCoe Idealize.SL.Sem

attribute [local instance] Cert.Kernel2.Gen.facts Cert.Kernel2Ideal.Gen.facts Cert.Reference2Ideal.Gen.facts Cert.Pre_finite2.Gen.facts

/-- Where every magnitude compares below infinity, the entries are real numbers. -/
theorem all_real {n0 n1 : ℕ} (y : FVec Ideal ⟨2, ![n0, n1]⟩ .f32) (hb hr hu j)
    (h : Host.reduce (axes := [0, 1]) (t := ⟨0, ![]⟩) IntOp.andi (cmpf .olt (Host.absf y) (broadcastInDim ⟨2, ![n0, n1]⟩ ![] hb (constant ⟨0, ![]⟩ .f32 0x7F800000#32))) (constantI ⟨0, ![]⟩ 1 1#1) hr hu j = 1#1) :
    ∃ X : Mat, y = rv ⟨2, ![n0, n1]⟩ .f32 X := by
  have hs : Subsingleton (⟨0, ![]⟩ : Shape).Idx := ⟨fun a b => funext fun d => d.elim0⟩
  refine exists_rv y fun i => ?_
  have e := Host.reduce_andi_all _ _ _ _ _ h i
  have e' := lt_of_bit (p := max (y i : EReal) (-(y i : EReal)) < Scalar.ofBits (F := Ideal) .f32 0x7F800000#32) e
  rwa [ofBits_inf] at e'

section
open Cert.Pre_finite2 Cert.Pre_finite2.Facts

theorem args_real2 (x : FVec Ideal S4096x1024 .f32) (g : FVec Ideal S1x1024 .f32) (w : FVec Ideal S1024x5632 .bf16) (o : FVec Ideal S2816x1024 .bf16) (y : FVec Ideal S4096x1024 .f32)
    (h : fn (F := Ideal) x g w o y = fun _ => 1#1) :
    (∃ G : Mat, g = rv S1x1024 .f32 G) ∧ (∃ W : Mat, w = rv S1024x5632 .bf16 W) ∧ (∃ O : Mat, o = rv S2816x1024 .bf16 O) ∧ ∃ D : Mat, y = rv S4096x1024 .f32 D := by
  have h3 := and_bits (congrFun h (fun d => d.elim0))
  have h2 := and_bits h3.1
  have h1 := and_bits h2.1
  exact ⟨all_real g _ _ _ _ h1.1, all_real (extf .f32 w bitsLt_bf16_f32) _ _ _ _ h1.2, all_real (extf .f32 o bitsLt_bf16_f32) _ _ _ _ h2.2, all_real y _ _ _ _ h3.2⟩

end

/-- A matrix of real numbers among the extended reals. -/
def upF (f : Mat) : EMat := fun a b => (f a b : EReal)

theorem grads_same (X : EMat) (G W O D : Mat) :
    gradsR 2816 (ntF 1024 (upF D) (upF O)) (guF X (upF G) (upF W)) (rightF 2816 (guF X (upF G) (upF W)))
      = Mix.dguF X (upF G) (upF W) (upF O) (upF D) := by
  have hA := gu_real X (upF G) (upF W) (real_of G) (real_of W)
  exact grads_eq 2816 _ _ _ (nt_real 1024 (upF D) (upF O) (real_of D) (real_of O)) hA (fun a b => hA a (2816 + b))

theorem frame_ideal2_finite : Cert.quiescent_Kernel2Ideal_pre_finite2 := fun m ρ _ => frame_ideal2 m ρ trivial
theorem frame_reference2_finite : Cert.quiescent_Reference2Ideal_pre_finite2 := fun m ρ _ => frame_reference2 m ρ trivial

theorem algebraic2 : Cert.algebraic_Kernel2Ideal_Reference2Ideal_pre_finite2 := by
  intro m g m' g' hpre hargs
  choose X hX using fun c : Dev Cert.Kernel2Ideal.nD => exists_ev (φ := .f32) (m ((c.tc : Thread Cert.Kernel2Ideal.nD Cert.Kernel2Ideal.τ).loc Cert.Kernel2Ideal.main_arg0))
  choose G hG using fun c => (args_real2 _ _ _ _ _ (hpre c)).1
  choose W hW using fun c => (args_real2 _ _ _ _ _ (hpre c)).2.1
  choose O hO using fun c => (args_real2 _ _ _ _ _ (hpre c)).2.2.1
  choose D hD using fun c => (args_real2 _ _ _ _ _ (hpre c)).2.2.2
  refine ⟨fun c => ev Cert.Kernel2Ideal.S1024x5632 .bf16 (tnF 4096 (hfF (X c) (upF (G c))) (Mix.dguF (X c) (upF (G c)) (upF (W c)) (upF (O c)) (upF (D c)))),
    fun c => ev Cert.Kernel2Ideal.S2816x1024 .bf16 (tnF 4096 (actF (guF (X c) (upF (G c)) (upF (W c))) (rightF 2816 (guF (X c) (upF (G c)) (upF (W c))))) (upF (D c))), ?_, ?_⟩
  · refine (θ_run Cert.Kernel2Ideal.defs _ _).mono (fun r h c => ?_) (Mix.run_contents m g)
    obtain ⟨h0, h1, hargs'⟩ := h c
    exact ⟨h0.trans (Mix.W8_in m g c (X c) (upF (G c)) (upF (W c)) (upF (O c)) (upF (D c)) (hX c) (hG c) (hW c) (hO c) (hD c)),
      h1.trans (Mix.W8_out m g c (X c) (upF (G c)) (upF (W c)) (upF (D c)) (hX c) (hG c) (hW c) (hD c)), hargs'⟩
  · refine (θ_run Cert.Reference2Ideal.defs _ _).mono (fun r h c => ?_) (Cert.Reference2Ideal.Value.run (F := Ideal) m' g')
    obtain ⟨a0, a1, a2, a3, a4⟩ := hargs c
    have eX := a0.trans (hX c)
    have eG := a1.trans (hG c)
    have eW := a2.trans (hW c)
    have eO := a3.trans (hO c)
    have eD := a4.trans (hD c)
    obtain ⟨h0, h1, hargs'⟩ := h c
    refine ⟨h0.trans ((Lines.ref_in m' c (X c) (upF (G c)) (upF (W c)) (upF (O c)) (upF (D c)) eX eG eW eO eD).trans ?_), h1.trans ?_, hargs'⟩
    · exact congrArg (fun f => ev Cert.Kernel2Ideal.S1024x5632 .bf16 (tnF 4096 (hfF (X c) (upF (G c))) f)) (grads_same (X c) (G c) (W c) (O c) (D c))
    · exact Eq.trans rfl (Lines.ref_out _ _ _ _ (X c) (upF (G c)) (upF (W c)) (upF (D c)) eX eG eW eD)

end Cert.Ffn

end
-- ==== Proof.NormFinal.lean ====
/-
  The launch of the gradient through the normalisation, on extended reals: which part of an array each window shows at a point of the grid, and what the three result arrays hold at the end.
-/
module

public import proofs.«01_k».proof.Proof.Places
public import proofs.«01_k».proof.Proof.NormBlock
public import Idealize.ShloMosaic.Lib.ValueIdx

@[expose] public section

noncomputable section

namespace Cert.Ffn

open Cert.Kernel3Ideal Cert.Kernel3Ideal.Gen
open Idealize.ShloMosaic Idealize.ShloMosaic.TcCoe
open Idealize.SL.Sem
open Idealize.ShloMosaic.Pipeline (Dat Cfg Window)
open scoped BigOperators

/-! ## The windows' places -/

theorem place : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0) ∧ (win0_7.index t 0 = 0 ∧ win0_7.index t 1 = 0) := by decide +kernel

section
variable (X : EMat) (t : Fin cfg0.N)

theorem shown_0 : ((cfg0.win 0).blk t).view.read (Elt Ideal) (ev S4096x5632 .bf16 X) = ev S256x5632 .bf16 (subE X (256 * t.val)) :=
  shown_rows X (at_place win0_0 rfl (place t).1)

theorem shown_1 : ((cfg0.win 1).blk t).view.read (Elt Ideal) (ev S1024x5632 .bf16 X) = ev S1024x5632 .bf16 (X) :=
  shown_all X (at_place win0_1 rfl (place t).2.1)

theorem shown_2 : ((cfg0.win 2).blk t).view.read (Elt Ideal) (ev S4096x1024 .f32 X) = ev S256x1024 .f32 (subE X (256 * t.val)) :=
  shown_rows X (at_place win0_2 rfl (place t).2.2.1)

theorem shown_3 : ((cfg0.win 3).blk t).view.read (Elt Ideal) (ev S1x1024 .f32 X) = ev S1x1024 .f32 (X) :=
  shown_all X (at_place win0_3 rfl (place t).2.2.2.1)

theorem shown_4 : ((cfg0.win 4).blk t).view.read (Elt Ideal) (ev S4096x1024 .f32 X) = ev S256x1024 .f32 (subE X (256 * t.val)) :=
  shown_rows X (at_place win0_4 rfl (place t).2.2.2.2.1)

theorem shown_5 : ((cfg0.win 5).blk t).view.read (Elt Ideal) (ev S4096x1024 .f32 X) = ev S256x1024 .f32 (subE X (256 * t.val)) :=
  shown_rows X (at_place win0_5 rfl (place t).2.2.2.2.2.1)

theorem shown_6 : ((cfg0.win 6).blk t).view.read (Elt Ideal) (ev S4096x1024 .bf16 X) = ev S256x1024 .bf16 (subE X (256 * t.val)) :=
  shown_rows X (at_place win0_6 rfl (place t).2.2.2.2.2.2.1)

theorem shown_7 : ((cfg0.win 7).blk t).view.read (Elt Ideal) (ev S1x1024 .f32 X) = ev S1x1024 .f32 (X) :=
  shown_all X (at_place win0_7 rfl (place t).2.2.2.2.2.2.2)

end

/-! ## Every index lies in some window written back -/

theorem covered_5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 256 < 16 := by omega
  refine ⟨⟨(i 0).val / 256, ht⟩, flush0_5 _, ?_⟩
  show i ∈ ((View.whole main_v0_0).slice (win0_5.rect ⟨(i 0).val / 256, ht⟩)).set
  rw [View.set_slice_whole, Rect.mem_set_unit]
  have hp := (place ⟨(i 0).val / 256, ht⟩).2.2.2.2.2.1
  refine in_place ((i 0).val / 256) 0 256 1024 ?_ ?_ ?_ ?_ ?_
  exacts [congrArg (· * 256) hp.1, congrArg (· * 1024) hp.2, ⟨rfl, rfl⟩, by omega, by omega]

theorem covered_6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : (i 0).val / 256 < 16 := by omega
  refine ⟨⟨(i 0).val / 256, ht⟩, flush0_6 _, ?_⟩
  show i ∈ ((View.whole main_v0_1).slice (win0_6.rect ⟨(i 0).val / 256, ht⟩)).set
  rw [View.set_slice_whole, Rect.mem_set_unit]
  have hp := (place ⟨(i 0).val / 256, ht⟩).2.2.2.2.2.2.1
  refine in_place ((i 0).val / 256) 0 256 1024 ?_ ?_ ?_ ?_ ?_
  exacts [congrArg (· * 256) hp.1, congrArg (· * 1024) hp.2, ⟨rfl, rfl⟩, by omega, by omega]

theorem covered_7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have ht : 15 < grid0.N := by decide
  refine ⟨⟨15, ht⟩, (flush0_7 _).2 rfl, ?_⟩
  show i ∈ ((View.whole main_v0_2).slice (win0_7.rect ⟨15, ht⟩)).set
  rw [View.set_slice_whole, Rect.mem_set_unit]
  have hp := (place ⟨15, ht⟩).2.2.2.2.2.2.2
  refine in_place 0 0 1 1024 ?_ ?_ ?_ ?_ ?_
  exacts [congrArg (· * 1) hp.1, congrArg (· * 1024) hp.2, ⟨rfl, rfl⟩, by omega, by omega]

/-! ## The three results -/

section
variable (m : (ℓ : Loc nD τ sig) → Buf (Elt Ideal) ℓ) (c : Dev nD) (X G W D R : EMat)
variable (hX : m ((c : Thread nD τ).loc main_arg0) = ev S4096x1024 .f32 X) (hG : m ((c : Thread nD τ).loc main_arg1) = ev S1x1024 .f32 G)
  (hW : m ((c : Thread nD τ).loc main_arg2) = ev S1024x5632 .bf16 W) (hD : m ((c : Thread nD τ).loc main_arg3) = ev S4096x5632 .bf16 D)
  (hR : m ((c : Thread nD τ).loc main_arg4) = ev S4096x1024 .f32 R)
include hX hG hW hD hR

theorem shows (t : Fin cfg0.N) : iblk m c 0 t = ev S256x5632 .bf16 (subE D (256 * t.val)) ∧ iblk m c 1 t = ev S1024x5632 .bf16 W
    ∧ iblk m c 2 t = ev S256x1024 .f32 (subE X (256 * t.val)) ∧ iblk m c 3 t = ev S1x1024 .f32 G ∧ iblk m c 4 t = ev S256x1024 .f32 (subE R (256 * t.val)) :=
  ⟨(congrArg (((cfg0.win 0).blk t).view.read (Elt Ideal)) hD).trans (shown_0 D t), (congrArg (((cfg0.win 1).blk t).view.read (Elt Ideal)) hW).trans (shown_1 W t),
    (congrArg (((cfg0.win 2).blk t).view.read (Elt Ideal)) hX).trans (shown_2 X t), (congrArg (((cfg0.win 3).blk t).view.read (Elt Ideal)) hG).trans (shown_3 G t),
    (congrArg (((cfg0.win 4).blk t).view.read (Elt Ideal)) hR).trans (shown_4 R t)⟩

/-- After the first point. -/
theorem left_first (t : Fin cfg0.N) (ht : t.val = 0) : outsAt0 m c t.val t.isLt = (ev S256x1024 .f32 (subE (dxF D W X G R) (256 * t.val)), ev S256x1024 .bf16 (subE (dxF D W X G R) (256 * t.val)),
      ev S1x1024 .f32 (dgF (256 * t.val + 256) D W X)) := by
  obtain ⟨e0, e1, e2, e3, e4⟩ := shows m c X G W D R hX hG hW hD hR t
  refine (first m c t (by rw [ht]) (by rw [ht]; omega)).trans ?_
  rw [e0, e1, e2, e3, e4]
  refine Prod.ext ((pay5_ev (subE D _) W (subE X _) G (subE R _)).trans (congrArg (ev S256x1024 .f32) (sub_dxN 1024 5632 D W X G R _)))
    (Prod.ext ((pay6_ev (subE D _) W (subE X _) G (subE R _)).trans (congrArg (ev S256x1024 .bf16) (sub_dxN 1024 5632 D W X G R _))) ?_)
  exact (pay7_ev (subE D (256 * t.val)) W (subE X (256 * t.val))).trans (congrArg (fun f => ev S1x1024 .f32 f) (dgN_start 1024 5632 256 t.val ht D W X))

/-- After a point: the block's rows of the two gradients, and the gradient of the scale from the rows so far. -/
theorem left : ∀ (n : ℕ) (hn : n < cfg0.N), outsAt0 m c n hn = (ev S256x1024 .f32 (subE (dxF D W X G R) (256 * n)), ev S256x1024 .bf16 (subE (dxF D W X G R) (256 * n)),
      ev S1x1024 .f32 (dgF (256 * n + 256) D W X)) := by
  intro n
  induction n with
  | zero => exact fun hn => left_first m c X G W D R hX hG hW hD hR ⟨0, hn⟩ rfl
  | succ n ih =>
    intro hn
    have hN : n + 1 < 16 := hn
    obtain ⟨e0, e1, e2, e3, e4⟩ := shows m c X G W D R hX hG hW hD hR ⟨n + 1, hn⟩
    refine (later m c ⟨n + 1, hn⟩ (by show ¬(n + 1) % 16 = 0; omega) (by show 1 ≤ n + 1; omega)).trans ?_
    rw [e0, e1, e2, e3, e4]
    refine Prod.ext ((pay5_ev (subE D _) W (subE X _) G (subE R _)).trans (congrArg (ev S256x1024 .f32) (sub_dxN 1024 5632 D W X G R _))) (Prod.ext ((pay6_ev (subE D _) W (subE X _) G (subE R _)).trans (congrArg (ev S256x1024 .bf16) (sub_dxN 1024 5632 D W X G R _))) ?_)
    have ih' := congrArg (fun o => o.2.2) (ih (Nat.lt_of_succ_lt hn))
    exact (congrArg₂ (k0_pay1 (F := Ideal)) (pay7_ev (subE D (256 * (n + 1))) W (subE X (256 * (n + 1)))) ih').trans
      ((pay1_ev (dgF 256 (subE D (256 * (n + 1))) W (subE X (256 * (n + 1)))) (dgF (256 * n + 256) D W X)).trans (congrArg (fun f => ev S1x1024 .f32 f) (dgN_add 1024 5632 (256 * n + 256) 256 D W X)))

theorem res_dx : (dats m 0 c).arrAt 5 cfg0.N = ev S4096x1024 .f32 (dxF D W X G R) := by
  refine (dats m 0 c).arrAt_eq_of_cover 5 (ev S4096x1024 .f32 (dxF D W X G R)) (fun t _ => ?_) covered_5
  show (cfg0.win 5).cut (grid0.coords t) ((dats m 0 c).after 5 t) = _
  rw [after0_5, left m c X G W D R hX hG hW hD hR, shown_5]
  rfl

theorem res_dxb : (dats m 0 c).arrAt 6 cfg0.N = ev S4096x1024 .bf16 (dxF D W X G R) := by
  refine (dats m 0 c).arrAt_eq_of_cover 6 (ev S4096x1024 .bf16 (dxF D W X G R)) (fun t _ => ?_) covered_6
  show (cfg0.win 6).cut (grid0.coords t) ((dats m 0 c).after 6 t) = _
  rw [after0_6, left m c X G W D R hX hG hW hD hR, shown_6]
  rfl

theorem res_dg : (dats m 0 c).arrAt 7 cfg0.N = ev S1x1024 .f32 (dgF 4096 D W X) := by
  refine (dats m 0 c).arrAt_eq_of_cover 7 (ev S1x1024 .f32 (dgF 4096 D W X)) (fun t hf => ?_) covered_7
  show (cfg0.win 7).cut (grid0.coords t) ((dats m 0 c).after 7 t) = _
  have h : t.val = 15 := by have h := (flush0_7 t).1 hf; have h' : t.val < 16 := t.isLt; omega
  rw [after0_7, left m c X G W D R hX hG hW hD hR, shown_7, h]
  rfl

end

end Cert.Ffn

end
-- ==== Proof.NormEnd.lean ====
/-
  The claims of the third program: its frames, and its values.
-/
module

public import proofs.«01_k».proof.Defs
public import proofs.«01_k».proof.Proof.NormFinal
public import proofs.«01_k».proof.Proof.NormRef
public import proofs.«01_k».proof.Proof.Gen.Kernel3.Frame
public import proofs.«01_k».proof.Proof.Gen.Kernel3Ideal.Value
public import Idealize.ShloMosaic.Lib.Quiescent

@[expose] public section

noncomputable section

namespace Cert.Ffn

open Idealize.ShloMosaic Idealize.ShloMosaic.TcCoe Idealize.SL.Sem

attribute [local instance] Cert.Kernel3.Gen.facts Cert.Kernel3Ideal.Gen.facts Cert.Reference3Ideal.Gen.facts

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2.2.2, sem_eq_zero_of_no_sems (by decide) r.2⟩) (Cert.Reference3Ideal.Value.run (F := Ideal) m ρ)

theorem algebraic3 : Cert.algebraic_Kernel3Ideal_Reference3Ideal := by
  intro m g m' g' _ hargs
  choose X hX using fun c : Dev Cert.Kernel3Ideal.nD => exists_ev (φ := .f32) (m ((c.tc : Thread Cert.Kernel3Ideal.nD Cert.Kernel3Ideal.τ).loc Cert.Kernel3Ideal.main_arg0))
  choose G hG using fun c : Dev Cert.Kernel3Ideal.nD => exists_ev (φ := .f32) (m ((c.tc : Thread Cert.Kernel3Ideal.nD Cert.Kernel3Ideal.τ).loc Cert.Kernel3Ideal.main_arg1))
  choose W hW using fun c : Dev Cert.Kernel3Ideal.nD => exists_ev (φ := .bf16) (m ((c.tc : Thread Cert.Kernel3Ideal.nD Cert.Kernel3Ideal.τ).loc Cert.Kernel3Ideal.main_arg2))
  choose D hD using fun c : Dev Cert.Kernel3Ideal.nD => exists_ev (φ := .bf16) (m ((c.tc : Thread Cert.Kernel3Ideal.nD Cert.Kernel3Ideal.τ).loc Cert.Kernel3Ideal.main_arg3))
  choose R hR using fun c : Dev Cert.Kernel3Ideal.nD => exists_ev (φ := .f32) (m ((c.tc : Thread Cert.Kernel3Ideal.nD Cert.Kernel3Ideal.τ).loc Cert.Kernel3Ideal.main_arg4))
  refine ⟨fun c => ev Cert.Kernel3Ideal.S4096x1024 .f32 (dxF (D c) (W c) (X c) (G c) (R c)), fun c => ev Cert.Kernel3Ideal.S4096x1024 .bf16 (dxF (D c) (W c) (X c) (G c) (R c)),
    fun c => ev Cert.Kernel3Ideal.S1x1024 .f32 (dgF 4096 (D c) (W c) (X c)), ?_, ?_⟩
  · refine (θ_run Cert.Kernel3Ideal.defs _ _).mono (fun r h c => ?_) (Cert.Kernel3Ideal.Value.run_blocks (F := Ideal) m g)
    obtain ⟨h5, h6, h7, hargs'⟩ := h c
    exact ⟨h5.trans (res_dx m c (X c) (G c) (W c) (D c) (R c) (hX c) (hG c) (hW c) (hD c) (hR c)), h6.trans (res_dxb m c (X c) (G c) (W c) (D c) (R c) (hX c) (hG c) (hW c) (hD c) (hR c)),
      h7.trans (res_dg m c (X c) (G c) (W c) (D c) (R c) (hX c) (hG c) (hW c) (hD c) (hR c)), hargs'⟩
  · refine (θ_run Cert.Reference3Ideal.defs _ _).mono (fun r h c => ?_) (Cert.Reference3Ideal.Value.run (F := Ideal) m' g')
    obtain ⟨a0, a1, a2, a3, a4⟩ := hargs c
    have eX := a0.trans (hX c)
    have eG := a1.trans (hG c)
    have eW := a2.trans (hW c)
    have eD := a3.trans (hD c)
    have eR := a4.trans (hR c)
    obtain ⟨h5, h6, h7, hargs'⟩ := h c
    refine ⟨h5.trans (Ref.ref_dx m' c _ _ _ _ _ eX eG eW eD eR), h6.trans (Ref.ref_dxb m' c _ _ _ _ _ eX eG eW eD eR), h7.trans ?_, hargs'⟩
    refine Eq.trans ?_ (Ref.scales_ev (X c) (W c) (D c))
    rw [← eX, ← eW, ← eD]
    rfl

end Cert.Ffn

end
-- ==== Proof.InFrames.lean ====
/-
  The frame claims of the fourth program and of the fifth.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

noncomputable section

namespace Cert.Ffn

open Idealize.ShloMosaic Idealize.ShloMosaic.TcCoe Idealize.SL.Sem

attribute [local instance] Cert.Kernel4.Gen.facts Cert.Kernel4Ideal.Gen.facts Cert.Reference4Ideal.Gen.facts Cert.Kernel5.Gen.facts Cert.Kernel5Ideal.Gen.facts Cert.Reference5Ideal.Gen.facts

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2.2, sem_eq_zero_of_no_sems (by decide) r.2⟩) (Cert.Reference5Ideal.Value.run (F := Ideal) m ρ)

end Cert.Ffn

end
-- ==== Proof.InBlock.lean ====
/-
  The three launches of the fourth program, on extended reals: the rows normalised, the input projection, and the gradient of its weights. What each computes from one block, which part of an
  array each window shows, and what the result arrays hold.
-/
module

public import proofs.«01_k».proof.Proof.Places
public import proofs.«01_k».proof.Proof.MixMath
public import proofs.«01_k».proof.Proof.Gen.Kernel4Ideal.Frame
public import Idealize.ShloMosaic.Lib.ValueIdx

@[expose] public section

noncomputable section

namespace Cert.Ffn.In

open Cert.Kernel4Ideal Cert.Kernel4Ideal.Gen
open Idealize.ShloMosaic Idealize.ShloMosaic.TcCoe
open Idealize.SL.Sem
open Idealize.ShloMosaic.Pipeline (Dat Cfg Window)

theorem ev_nn {M K N : ℕ} {φ₁ φ₂ : FTy} (f g : EMat) (d : DotDims ⟨2, ![M, K]⟩ ⟨2, ![K, N]⟩ ⟨2, ![M, N]⟩) (hr : d.contr.rank = 1) (hs : d.contr.size ⟨0, by omega⟩ = K)
    (hl : ∀ j (q : d.contr.Idx), ((d.lhsIdx j q) 0).val = (j 0).val ∧ ((d.lhsIdx j q) 1).val = (q ⟨0, by omega⟩).val)
    (hh : ∀ j (q : d.contr.Idx), ((d.rhsIdx j q) 0).val = (q ⟨0, by omega⟩).val ∧ ((d.rhsIdx j q) 1).val = (j 1).val) :
    FloatOps.matmul d none (ev ⟨2, ![M, K]⟩ φ₁ f) (ev ⟨2, ![K, N]⟩ φ₂ g) (ev ⟨2, ![M, N]⟩ .f32 0) = ev ⟨2, ![M, N]⟩ .f32 (nnF K f g) := by
  funext j
  rw [Ideal.matmul_apply, dot_terms d hr hs j _ _ (fun k => f (j 0).val k) (fun k => g k (j 1).val)
    (fun q => congrArg₂ f (hl j q).1 (hl j q).2) (fun q => congrArg₂ g (hh j q).1 (hh j q).2)]
  show (0 : EReal) + _ = _
  rw [zero_add]
  rfl

/-! ## From one block -/

section
variable (X G A B : EMat)

/-- The mean of each row, as a column. -/
def means (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

theorem means_ev (f : EMat) : means (ev S512x1024 .f32 f) = ev S512x1 .f32 (divF (rsum 1024 f) (constF (1024 : ℝ))) := by
  refine (congrArg₂ divf (congrArg (fun v => shapeCast S512x1 v shapeCasts_S512_S512x1) (ev_rowSum f _ _ _ _)) (ev_const ofBits_1024)).trans ?_
  rw [ev_asCol, ev_divf]
  rfl

/-- The rows normalised and scaled. -/
def hs (x : FVec Ideal S512x1024 .f32) (g : FVec Ideal S1x1024 .f32) : FVec Ideal S512x1024 .f32 :=
  mulf (mulf x (broadcastTo S512x1024 (rsqrt (addf (means (mulf x x)) (broadcast S512x1 (Scalar.ofBits .f32 0x358637BD#32)))) broadcasts_S512x1_S512x1024))
    (broadcastTo S512x1024 g broadcasts_S1x1024_S512x1024)

theorem hs_ev : hs (ev S512x1024 .f32 X) (ev S1x1024 .f32 G) = ev S512x1024 .f32 (hfF X G) := by
  unfold hs
  rw [ev_mulf, means_ev, ev_const ofBits_eps, ev_addf, ev_rsqrt, ev_spreadCol, ev_spreadRow, ev_mulf, ev_mulf]
  rfl

theorem pay0_ev : k0_pay1 (F := Ideal) (ev S512x1024 .f32 X) (ev S1x1024 .f32 G) = ev S512x1024 .bf16 (hfF X G) :=
  congrArg (fun v => truncf .bf16 v bitsLt_bf16_f32) (hs_ev X G)

theorem pay1_ev : k1_pay1 (F := Ideal) (ev S1024x1024 .bf16 A) (ev S1024x1280 .bf16 B) = ev S1024x1280 .bf16 (nnF 1024 A B) := by
  unfold k1_pay1
  rw [ev_shapeCast, ev_constant]
  exact congrArg (fun v => truncf .bf16 v bitsLt_bf16_f32)
    (ev_nn A B dot_S1024x1024_S1024x1280_S1024x1280_1_0_0_1_n_n rfl rfl (fun _ _ => ⟨rfl, rfl⟩) (fun _ _ => ⟨rfl, rfl⟩))

theorem pay2_ev : k2_pay1 (F := Ideal) (ev S4096x1024 .bf16 A) (ev S4096x640 .bf16 B) = ev S1024x640 .bf16 (tnF 4096 A B) := by
  unfold k2_pay1
  rw [ev_shapeCast, ev_constant]
  exact congrArg (fun v => truncf .bf16 v bitsLt_bf16_f32)
    (ev_tn A B dot_S4096x1024_S4096x640_S1024x640_0_0_1_1_n_n rfl rfl (fun _ _ => ⟨rfl, rfl⟩) (fun _ _ => ⟨rfl, rfl⟩))

theorem out0_ev : out0_2 (F := Ideal) (ev S512x1024 .f32 X) (ev S1x1024 .f32 G) = ev S512x1024 .bf16 (hfF X G) := by
  unfold out0_2
  rw [View.canon_unit_zero origin, View.ld_unit_zero (S := S512x1024) origin, View.ld_unit_zero (S := S1x1024) origin]
  exact pay0_ev X G

theorem out1_ev : out1_2 (F := Ideal) (ev S1024x1024 .bf16 A) (ev S1024x1280 .bf16 B) = ev S1024x1280 .bf16 (nnF 1024 A B) := by
  unfold out1_2
  rw [View.canon_unit_zero origin, View.ld_unit_zero (S := S1024x1024) origin, View.ld_unit_zero (S := S1024x1280) origin]
  exact pay1_ev A B

theorem out2_ev : out2_2 (F := Ideal) (ev S4096x1024 .bf16 A) (ev S4096x640 .bf16 B) = ev S1024x640 .bf16 (tnF 4096 A B) := by
  unfold out2_2
  rw [View.canon_unit_zero origin, View.ld_unit_zero (S := S4096x1024) origin, View.ld_unit_zero (S := S4096x640) origin]
  exact pay2_ev A B

end

/-! ## The windows' places -/

theorem place0 : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by decide +kernel

theorem place1 : ∀ t : Fin grid1.N, (win1_0.index t 0 = t.val / 4 ∧ win1_0.index t 1 = 0) ∧ (win1_1.index t 0 = 0 ∧ win1_1.index t 1 = t.val % 4) ∧ (win1_2.index t 0 = t.val / 4 ∧ win1_2.index t 1 = t.val % 4) := by decide +kernel

theorem place2 : ∀ t : Fin grid2.N, (win2_0.index t 0 = 0 ∧ win2_0.index t 1 = 0) ∧ (win2_1.index t 0 = 0 ∧ win2_1.index t 1 = t.val) ∧ (win2_2.index t 0 = 0 ∧ win2_2.index t 1 = t.val) := by decide +kernel

/-! ## What the windows show -/

section
variable (X : EMat) (t : Fin cfg0.N)

theorem shown0_0 : ((cfg0.win 0).blk t).view.read (Elt Ideal) (ev S4096x1024 .f32 X) = ev S512x1024 .f32 (subE X (512 * t.val)) :=
  shown_rows X (at_place win0_0 rfl (place0 t).1)

theorem shown0_1 : ((cfg0.win 1).blk t).view.read (Elt Ideal) (ev S1x1024 .f32 X) = ev S1x1024 .f32 X :=
  shown_all X (at_place win0_1 rfl (place0 t).2.1)

theorem shown0_2 : ((cfg0.win 2).blk t).view.read (Elt Ideal) (ev S4096x1024 .bf16 X) = ev S512x1024 .bf16 (subE X (512 * t.val)) :=
  shown_rows X (at_place win0_2 rfl (place0 t).2.2)

end

section
variable (X : EMat) (t : Fin cfg1.N)

theorem shown1_0 : ((cfg1.win 0).blk t).view.read (Elt Ideal) (ev S4096x1024 .bf16 X) = ev S1024x1024 .bf16 (subE X (1024 * (t.val / 4))) :=
  shown_rows X (at_place win1_0 rfl (place1 t).1)

theorem shown1_1 : ((cfg1.win 1).blk t).view.read (Elt Ideal) (ev S1024x5120 .bf16 X) = ev S1024x1280 .bf16 (rightF (1280 * (t.val % 4)) X) :=
  shown_cols X (at_place win1_1 rfl (place1 t).2.1)

theorem shown1_2 : ((cfg1.win 2).blk t).view.read (Elt Ideal) (ev S4096x5120 .bf16 X) = ev S1024x1280 .bf16 (subE (rightF (1280 * (t.val % 4)) X) (1024 * (t.val / 4))) :=
  shown_part X (at_place win1_2 rfl (place1 t).2.2)

end

section
variable (X : EMat) (t : Fin cfg2.N)

theorem shown2_0 : ((cfg2.win 0).blk t).view.read (Elt Ideal) (ev S4096x1024 .bf16 X) = ev S4096x1024 .bf16 X :=
  shown_all X (at_place win2_0 rfl (place2 t).1)

theorem shown2_1 : ((cfg2.win 1).blk t).view.read (Elt Ideal) (ev S4096x5120 .bf16 X) = ev S4096x640 .bf16 (rightF (640 * t.val) X) :=
  shown_cols X (at_place win2_1 rfl (place2 t).2.1)

theorem shown2_2 : ((cfg2.win 2).blk t).view.read (Elt Ideal) (ev S1024x5120 .bf16 X) = ev S1024x640 .bf16 (rightF (640 * t.val) X) :=
  shown_cols X (at_place win2_2 rfl (place2 t).2.2)

end

/-! ## Every index lies in some window written back -/

theorem covered0 (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 512 < 8 := by omega
  refine ⟨⟨(i 0).val / 512, ht⟩, flush0_2 _, ?_⟩
  show i ∈ ((View.whole main_v0).slice (win0_2.rect ⟨(i 0).val / 512, ht⟩)).set
  rw [View.set_slice_whole, Rect.mem_set_unit]
  have hp := (place0 ⟨(i 0).val / 512, ht⟩).2.2
  refine in_place ((i 0).val / 512) 0 512 1024 ?_ ?_ ?_ ?_ ?_
  exacts [congrArg (· * 512) hp.1, congrArg (· * 1024) hp.2, ⟨rfl, rfl⟩, by omega, by omega]

theorem covered1 (i : S4096x5120.Idx) : ∃ t : Fin cfg1.N, (cfg1.win 2).flush t = true ∧ i ∈ ((cfg1.win 2).blk t).view.set := by
  have h0 : (i 0).val < 4096 := (i 0).isLt
  have h1 : (i 1).val < 5120 := (i 1).isLt
  have ht : 4 * ((i 0).val / 1024) + (i 1).val / 1280 < 16 := by omega
  refine ⟨⟨4 * ((i 0).val / 1024) + (i 1).val / 1280, ht⟩, flush1_2 _, ?_⟩
  show i ∈ ((View.whole main_v1).slice (win1_2.rect ⟨4 * ((i 0).val / 1024) + (i 1).val / 1280, ht⟩)).set
  rw [View.set_slice_whole, Rect.mem_set_unit]
  have hp := (place1 ⟨4 * ((i 0).val / 1024) + (i 1).val / 1280, ht⟩).2.2
  refine in_place ((4 * ((i 0).val / 1024) + (i 1).val / 1280) / 4) ((4 * ((i 0).val / 1024) + (i 1).val / 1280) % 4) 1024 1280 ?_ ?_ ?_ ?_ ?_
  exacts [congrArg (· * 1024) hp.1, congrArg (· * 1280) hp.2, ⟨rfl, rfl⟩, by omega, by omega]

theorem covered2 (i : S1024x5120.Idx) : ∃ t : Fin cfg2.N, (cfg2.win 2).flush t = true ∧ i ∈ ((cfg2.win 2).blk t).view.set := by
  have h0 : (i 0).val < 1024 := (i 0).isLt
  have h1 : (i 1).val < 5120 := (i 1).isLt
  have ht : (i 1).val / 640 < 8 := by omega
  refine ⟨⟨(i 1).val / 640, ht⟩, flush2_2 _, ?_⟩
  show i ∈ ((View.whole main_v2).slice (win2_2.rect ⟨(i 1).val / 640, ht⟩)).set
  rw [View.set_slice_whole, Rect.mem_set_unit]
  have hp := (place2 ⟨(i 1).val / 640, ht⟩).2.2
  refine in_place 0 ((i 1).val / 640) 1024 640 ?_ ?_ ?_ ?_ ?_
  exacts [congrArg (· * 1024) hp.1, congrArg (· * 640) hp.2, ⟨rfl, rfl⟩, by omega, by omega]

/-! ## The result arrays -/

section
variable (V : (c : Dev nD) → (b : Ref sig .tc) → Buf (Elt Ideal) ((c : Thread nD τ).loc b)) (c : Dev nD) (X G W H D : EMat)

theorem res0 (hX : V c main_arg0 = ev S4096x1024 .f32 X) (hG : V c main_arg1 = ev S1x1024 .f32 G) : (dat0 V c).arrAt 2 cfg0.N = ev S4096x1024 .bf16 (hfF X G) := by
  refine (dat0 V c).arrAt_eq_of_cover 2 (ev S4096x1024 .bf16 (hfF X G)) (fun t _ => ?_) covered0
  show (cfg0.win 2).cut (grid0.coords t) ((dat0 V c).after 2 t) = _
  have e0 : iblk0 V c 0 t = ev S512x1024 .f32 (subE X (512 * t.val)) := (congrArg (((cfg0.win 0).blk t).view.read (Elt Ideal)) hX).trans (shown0_0 X t)
  have e1 : iblk0 V c 1 t = ev S1x1024 .f32 G := (congrArg (((cfg0.win 1).blk t).view.read (Elt Ideal)) hG).trans (shown0_1 G t)
  have e : (dat0 V c).after 2 t = ev S512x1024 .bf16 (subE (hfF X G) (512 * t.val)) := by
    rw [after0_2, e0, e1]
    exact out0_ev (subE X (512 * t.val)) G
  rw [e, shown0_2]
  rfl

theorem res1 (hH : V c main_v0 = ev S4096x1024 .bf16 H) (hW : V c main_arg2 = ev S1024x5120 .bf16 W) : (dat1 V c).arrAt 2 cfg1.N = ev S4096x5120 .bf16 (nnF 1024 H W) := by
  refine (dat1 V c).arrAt_eq_of_cover 2 (ev S4096x5120 .bf16 (nnF 1024 H W)) (fun t _ => ?_) covered1
  show (cfg1.win 2).cut (grid1.coords t) ((dat1 V c).after 2 t) = _
  have e0 : iblk1 V c 0 t = ev S1024x1024 .bf16 (subE H (1024 * (t.val / 4))) := (congrArg (((cfg1.win 0).blk t).view.read (Elt Ideal)) hH).trans (shown1_0 H t)
  have e1 : iblk1 V c 1 t = ev S1024x1280 .bf16 (rightF (1280 * (t.val % 4)) W) := (congrArg (((cfg1.win 1).blk t).view.read (Elt Ideal)) hW).trans (shown1_1 W t)
  have e : (dat1 V c).after 2 t = ev S1024x1280 .bf16 (subE (rightF (1280 * (t.val % 4)) (nnF 1024 H W)) (1024 * (t.val / 4))) := by
    rw [after1_2, e0, e1]
    exact out1_ev (subE H (1024 * (t.val / 4))) (rightF (1280 * (t.val % 4)) W)
  rw [e, shown1_2]
  rfl

theorem res2 (hH : V c main_v0 = ev S4096x1024 .bf16 H) (hD : V c main_arg3 = ev S4096x5120 .bf16 D) : (dat2 V c).arrAt 2 cfg2.N = ev S1024x5120 .bf16 (tnF 4096 H D) := by
  refine (dat2 V c).arrAt_eq_of_cover 2 (ev S1024x5120 .bf16 (tnF 4096 H D)) (fun t _ => ?_) covered2
  show (cfg2.win 2).cut (grid2.coords t) ((dat2 V c).after 2 t) = _
  have e0 : iblk2 V c 0 t = ev S4096x1024 .bf16 H := (congrArg (((cfg2.win 0).blk t).view.read (Elt Ideal)) hH).trans (shown2_0 H t)
  have e1 : iblk2 V c 1 t = ev S4096x640 .bf16 (rightF (640 * t.val) D) := (congrArg (((cfg2.win 1).blk t).view.read (Elt Ideal)) hD).trans (shown2_1 D t)
  have e : (dat2 V c).after 2 t = ev S1024x640 .bf16 (rightF (640 * t.val) (tnF 4096 H D)) := by
    rw [after2_2, e0, e1]
    exact out2_ev H (rightF (640 * t.val) D)
  rw [e, shown2_2]
  rfl

end

end Cert.Ffn.In

end
-- ==== Proof.InRun.lean ====
/-
  The whole fourth program: what its buffers hold between the launches, and what its two results hold at the end.
-/
module

public import proofs.«01_k».proof.Proof.InBlock
public import Idealize.ShloMosaic.Lib.StableHlo.Run

@[expose] public section

noncomputable section

namespace Cert.Ffn.In

open Cert.Kernel4Ideal Cert.Kernel4Ideal.Gen
open Idealize.SL Idealize.SL.RA Idealize.SL.BI
open Idealize.ShloMosaic Idealize.ShloMosaic.TcCoe
open scoped Idealize.SL.BI
open Idealize.SL.BI.BIBase Idealize.SL.BI.Laws Idealize.SL.ProofMode Idealize.SL.Sem
open Idealize.ShloMosaic.Rounds

attribute [local instance] Cert.Kernel4Ideal.Gen.facts

/-! ## The buffers at each boundary -/

section
variable (m : (ℓ : Loc nD τ sig) → Buf (Elt Ideal) ℓ) (ρ : Dev nD → PrngReg) (c : Dev nD) (X G W D : EMat)
variable (hX : m ((c : Thread nD τ).loc main_arg0) = ev S4096x1024 .f32 X) (hG : m ((c : Thread nD τ).loc main_arg1) = ev S1x1024 .f32 G)
  (hW : m ((c : Thread nD τ).loc main_arg2) = ev S1024x5120 .bf16 W) (hD : m ((c : Thread nD τ).loc main_arg3) = ev S4096x5120 .bf16 D)

include hX hG in
theorem W1_h : W1 m ρ c (Proc.devRef .tc main_v0) = ev S4096x1024 .bf16 (hfF X G) := (W1_arr m ρ c 2).trans (res0 (V0 m ρ) c X G hX hG)

include hX hG in
theorem W2_h : W2 m ρ c (Proc.devRef .tc main_v0) = ev S4096x1024 .bf16 (hfF X G) := (W2_of m ρ c main_v0 (by decide)).trans (W1_h m ρ c X G hX hG)

include hX hG hW in
theorem W2_proj : W2 m ρ c (Proc.devRef .tc main_v1) = ev S4096x5120 .bf16 (guF X G W) :=
  (W2_arr m ρ c 2).trans (res1 (V1 m ρ) c W (hfF X G) (W1_h m ρ c X G hX hG) ((W1_args m ρ c main_arg2 (by decide)).trans hW))

include hX hG hW in
theorem W3_proj : W3 m ρ c (Proc.devRef .tc main_v1) = ev S4096x5120 .bf16 (guF X G W) := (W3_of m ρ c main_v1 (by decide)).trans (W2_proj m ρ c X G W hX hG hW)

include hX hG hD in
theorem W3_gw : W3 m ρ c (Proc.devRef .tc main_v2) = ev S1024x5120 .bf16 (tnF 4096 (hfF X G) D) :=
  (W3_arr m ρ c 2).trans (res2 (V2 m ρ) c (hfF X G) D (W2_h m ρ c X G hX hG) ((W2_args m ρ c main_arg3 (by decide)).trans hD))

end

/-! ## The launch -/

local notation "𝕄" => MT nD τ sig Unit (Elt Ideal) ℕ (UR sig nD τ) ℕ

set_option backward.isDefEq.respectTransparency.types false in
/-- Every run ends with the two results, and with the arguments, at the contents of the last boundary. -/
theorem run_contents (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨h c _ (mem_uc main_v1 (by decide)), h c _ (mem_uc main_v2 (by decide)),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c)⟩)

end Cert.Ffn.In

end
-- ==== Proof.ProjBlock.lean ====
/-
  The gradient through the mixer's normalisation, on one block of rows: what the fifth program's launch computes from the block. The functions are those of the third program's launch, at the
  width of the input projection; of the rows' gradient there is no second copy.
-/
module

public import proofs.«01_k».proof.Proof.NormRef
public import proofs.«01_k».proof.Proof.Gen.Kernel5Ideal.Value

@[expose] public section

noncomputable section

namespace Cert.Ffn.Proj

open Cert.Kernel5Ideal Cert.Kernel5Ideal.Gen
open Idealize.ShloMosaic Idealize.ShloMosaic.TcCoe
open Idealize.SL.Sem

/-- The gradient of the rows. -/
abbrev dxF (D W X G R : EMat) : EMat := dxN 1024 5120 D W X G R
/-- The gradient of the scale from the first `N` rows. -/
abbrev dgF (N : ℕ) (D W X : EMat) : EMat := dgN 1024 5120 N D W X

section
variable (D W X G R : EMat)

theorem pay2_ev : k0_pay2 (F := Ideal) (ev S256x5120 .bf16 D) (ev S1024x5120 .bf16 W) = ev S256x1024 .f32 (ntF 5120 D W) := by
  unfold k0_pay2
  rw [ev_constant]
  exact ev_nt D W 256 5120 1024

theorem pay3_ev : k0_pay3 (F := Ideal) (ev S256x1024 .f32 X) = ev S256x1 .f32 (invF X) := Cert.Ffn.pay3_ev X

theorem pay4_ev : k0_pay4 (F := Ideal) (ev S256x1024 .f32 X) = ev S256x1024 .f32 (normF X) := Cert.Ffn.pay4_ev X

theorem pay5_ev : k0_pay5 (F := Ideal) (ev S256x5120 .bf16 D) (ev S1024x5120 .bf16 W) (ev S256x1024 .f32 X) (ev S1x1024 .f32 G) (ev S256x1024 .f32 R)
    = ev S256x1024 .f32 (dxF D W X G R) := by
  show addf (ev S256x1024 .f32 R) (mulf (broadcastTo S256x1024 (k0_pay3 (F := Ideal) (ev S256x1024 .f32 X)) broadcasts_S256x1_S256x1024)
    (subf (mulf (k0_pay2 (F := Ideal) (ev S256x5120 .bf16 D) (ev S1024x5120 .bf16 W)) (broadcastTo S256x1024 (ev S1x1024 .f32 G : FVec Ideal S1x1024 .f32) broadcasts_S1x1024_S256x1024))
      (mulf (k0_pay4 (F := Ideal) (ev S256x1024 .f32 X)) (broadcastTo S256x1024 (means (mulf
        (mulf (k0_pay2 (F := Ideal) (ev S256x5120 .bf16 D) (ev S1024x5120 .bf16 W)) (broadcastTo S256x1024 (ev S1x1024 .f32 G : FVec Ideal S1x1024 .f32) broadcasts_S1x1024_S256x1024))
        (k0_pay4 (F := Ideal) (ev S256x1024 .f32 X)))) broadcasts_S256x1_S256x1024)))) = _
  rw [pay2_ev, pay3_ev, pay4_ev, ev_spreadRow, ev_mulf, ev_mulf, means_ev, ev_spreadCol, ev_spreadCol, ev_mulf, ev_subf, ev_mulf, ev_addf]
  rfl

theorem pay6_ev : k0_pay6 (F := Ideal) (ev S256x5120 .bf16 D) (ev S1024x5120 .bf16 W) (ev S256x1024 .f32 X) = ev S1x1024 .f32 (dgF 256 D W X) := by
  show totals (mulf (k0_pay2 (F := Ideal) (ev S256x5120 .bf16 D) (ev S1024x5120 .bf16 W)) (k0_pay4 (F := Ideal) (ev S256x1024 .f32 X))) = _
  rw [pay2_ev, pay4_ev, ev_mulf, totals_ev]
  rfl

theorem pay1_ev (f g : EMat) : k0_pay1 (F := Ideal) (ev S1x1024 .f32 f) (ev S1x1024 .f32 g) = ev S1x1024 .f32 (g + f) := Cert.Ffn.pay1_ev f g

end

/-! ## What a point of the grid leaves -/

section
variable (m : (ℓ : Loc nD τ sig) → Buf (Elt Ideal) ℓ) (c : Dev nD) (t : Fin cfg0.N)

theorem first (h0 : t.val % 16 = 0) (h1 : ¬1 ≤ t.val) : outsAt0 m c t.val t.isLt
    = (k0_pay5 (iblk m c 0 t) (iblk m c 1 t) (iblk m c 2 t) (iblk m c 3 t) (iblk m c 4 t),
       k0_pay6 (iblk m c 0 t) (iblk m c 1 t) (iblk m c 2 t)) := by
  rw [outsAt0_A m c t h0 h1]
  unfold out0_A_5 out0_A_6
  rw [View.read_writes_eq_canon _ _ _ (cover0_A_5 _ _ _ _ _ _ _ _ _ _ _ _ _ _ _ _ _ _ _ _ _ _ _), View.read_writes_eq_canon _ _ _ (cover0_A_6 _ _ _ _ _ _ _ _ _ _ _ _ _ _ _ _ _ _ _ _ _ _ _)]
  unfold kernelRun0_A
  dsimp only
  sl_unfold_words
  rw [View.canon_unit_zero origin, View.canon_unit_zero origin]
  simp only [View.readAt_eq_ld, Memref.IsWhole.read_unread (hs0_0 t), Memref.IsWhole.read_unread (hs0_1 t), Memref.IsWhole.read_unread (hs0_2 t),
    Memref.IsWhole.read_unread (hs0_3 t), Memref.IsWhole.read_unread (hs0_4 t), View.ld_unit_zero (S := S256x5120) origin, View.ld_unit_zero (S := S1024x5120) origin,
    View.ld_unit_zero (S := S256x1024) origin, View.ld_unit_zero (S := S1x1024) origin]

theorem later (h0 : ¬t.val % 16 = 0) (h1 : 1 ≤ t.val) : outsAt0 m c t.val t.isLt
    = (k0_pay5 (iblk m c 0 t) (iblk m c 1 t) (iblk m c 2 t) (iblk m c 3 t) (iblk m c 4 t),
       k0_pay1 (k0_pay6 (iblk m c 0 t) (iblk m c 1 t) (iblk m c 2 t)) (outsAt0 m c (t.val - 1) (Nat.lt_of_le_of_lt (Nat.sub_le _ _) t.isLt)).2) := by
  rw [outsAt0_B m c t h0 h1]
  unfold out0_B_5 out0_B_6
  rw [View.read_writes_eq_canon _ _ _ (cover0_B_5 _ _ _ _ _ _ _ _ _ _ _ _ _ _ _ _ _ _ _ _ _ _ _ _), View.read_writes_eq_canon _ _ _ (cover0_B_6 _ _ _ _ _ _ _ _ _ _ _ _ _ _ _ _ _ _ _ _ _ _ _ _)]
  unfold kernelRun0_B
  dsimp only
  sl_unfold_words
  rw [View.canon_unit_zero origin, View.canon_unit_zero origin]
  simp only [View.readAt_eq_ld, Memref.IsWhole.read_unread (hs0_0 t), Memref.IsWhole.read_unread (hs0_1 t), Memref.IsWhole.read_unread (hs0_2 t),
    Memref.IsWhole.read_unread (hs0_3 t), Memref.IsWhole.read_unread (hs0_4 t), Memref.IsWhole.read_unread (hs0_6 t),
    View.ld_unit_zero (S := S256x5120) origin, View.ld_unit_zero (S := S1024x5120) origin, View.ld_unit_zero (S := S256x1024) origin, View.ld_unit_zero (S := S1x1024) origin]

end

end Cert.Ffn.Proj

end
-- ==== Proof.ProjFinal.lean ====
/-
  The fifth program's launch, on extended reals: which part of an array each window shows at a point of the grid, and what the two result arrays hold at the end.
-/
module

public import proofs.«01_k».proof.Proof.Places
public import proofs.«01_k».proof.Proof.ProjBlock
public import Idealize.ShloMosaic.Lib.ValueIdx

@[expose] public section

noncomputable section

namespace Cert.Ffn.Proj

open Cert.Kernel5Ideal Cert.Kernel5Ideal.Gen
open Idealize.ShloMosaic Idealize.ShloMosaic.TcCoe
open Idealize.SL.Sem
open Idealize.ShloMosaic.Pipeline (Dat Cfg Window)
open scoped BigOperators

/-! ## The windows' places -/

theorem place : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0) := by decide +kernel

section
variable (X : EMat) (t : Fin cfg0.N)

theorem shown_0 : ((cfg0.win 0).blk t).view.read (Elt Ideal) (ev S4096x5120 .bf16 X) = ev S256x5120 .bf16 (subE X (256 * t.val)) :=
  shown_rows X (at_place win0_0 rfl (place t).1)

theorem shown_1 : ((cfg0.win 1).blk t).view.read (Elt Ideal) (ev S1024x5120 .bf16 X) = ev S1024x5120 .bf16 (X) :=
  shown_all X (at_place win0_1 rfl (place t).2.1)

theorem shown_2 : ((cfg0.win 2).blk t).view.read (Elt Ideal) (ev S4096x1024 .f32 X) = ev S256x1024 .f32 (subE X (256 * t.val)) :=
  shown_rows X (at_place win0_2 rfl (place t).2.2.1)

theorem shown_3 : ((cfg0.win 3).blk t).view.read (Elt Ideal) (ev S1x1024 .f32 X) = ev S1x1024 .f32 (X) :=
  shown_all X (at_place win0_3 rfl (place t).2.2.2.1)

theorem shown_4 : ((cfg0.win 4).blk t).view.read (Elt Ideal) (ev S4096x1024 .f32 X) = ev S256x1024 .f32 (subE X (256 * t.val)) :=
  shown_rows X (at_place win0_4 rfl (place t).2.2.2.2.1)

theorem shown_5 : ((cfg0.win 5).blk t).view.read (Elt Ideal) (ev S4096x1024 .f32 X) = ev S256x1024 .f32 (subE X (256 * t.val)) :=
  shown_rows X (at_place win0_5 rfl (place t).2.2.2.2.2.1)

theorem shown_6 : ((cfg0.win 6).blk t).view.read (Elt Ideal) (ev S1x1024 .f32 X) = ev S1x1024 .f32 (X) :=
  shown_all X (at_place win0_6 rfl (place t).2.2.2.2.2.2)

end

/-! ## Every index lies in some window written back -/

theorem covered_5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 256 < 16 := by omega
  refine ⟨⟨(i 0).val / 256, ht⟩, flush0_5 _, ?_⟩
  show i ∈ ((View.whole main_v0_0).slice (win0_5.rect ⟨(i 0).val / 256, ht⟩)).set
  rw [View.set_slice_whole, Rect.mem_set_unit]
  have hp := (place ⟨(i 0).val / 256, ht⟩).2.2.2.2.2.1
  refine in_place ((i 0).val / 256) 0 256 1024 ?_ ?_ ?_ ?_ ?_
  exacts [congrArg (· * 256) hp.1, congrArg (· * 1024) hp.2, ⟨rfl, rfl⟩, by omega, by omega]

theorem covered_6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have ht : 15 < grid0.N := by decide
  refine ⟨⟨15, ht⟩, (flush0_6 _).2 rfl, ?_⟩
  show i ∈ ((View.whole main_v0_1).slice (win0_6.rect ⟨15, ht⟩)).set
  rw [View.set_slice_whole, Rect.mem_set_unit]
  have hp := (place ⟨15, ht⟩).2.2.2.2.2.2
  refine in_place 0 0 1 1024 ?_ ?_ ?_ ?_ ?_
  exacts [congrArg (· * 1) hp.1, congrArg (· * 1024) hp.2, ⟨rfl, rfl⟩, by omega, by omega]

/-! ## The two results -/

section
variable (m : (ℓ : Loc nD τ sig) → Buf (Elt Ideal) ℓ) (c : Dev nD) (X G W D R : EMat)
variable (hX : m ((c : Thread nD τ).loc main_arg0) = ev S4096x1024 .f32 X) (hG : m ((c : Thread nD τ).loc main_arg1) = ev S1x1024 .f32 G)
  (hW : m ((c : Thread nD τ).loc main_arg2) = ev S1024x5120 .bf16 W) (hD : m ((c : Thread nD τ).loc main_arg3) = ev S4096x5120 .bf16 D)
  (hR : m ((c : Thread nD τ).loc main_arg4) = ev S4096x1024 .f32 R)
include hX hG hW hD hR

theorem shows (t : Fin cfg0.N) : iblk m c 0 t = ev S256x5120 .bf16 (subE D (256 * t.val)) ∧ iblk m c 1 t = ev S1024x5120 .bf16 W
    ∧ iblk m c 2 t = ev S256x1024 .f32 (subE X (256 * t.val)) ∧ iblk m c 3 t = ev S1x1024 .f32 G ∧ iblk m c 4 t = ev S256x1024 .f32 (subE R (256 * t.val)) :=
  ⟨(congrArg (((cfg0.win 0).blk t).view.read (Elt Ideal)) hD).trans (shown_0 D t), (congrArg (((cfg0.win 1).blk t).view.read (Elt Ideal)) hW).trans (shown_1 W t),
    (congrArg (((cfg0.win 2).blk t).view.read (Elt Ideal)) hX).trans (shown_2 X t), (congrArg (((cfg0.win 3).blk t).view.read (Elt Ideal)) hG).trans (shown_3 G t),
    (congrArg (((cfg0.win 4).blk t).view.read (Elt Ideal)) hR).trans (shown_4 R t)⟩

/-- After the first point. -/
theorem left_first (t : Fin cfg0.N) (ht : t.val = 0) : outsAt0 m c t.val t.isLt = (ev S256x1024 .f32 (subE (dxF D W X G R) (256 * t.val)),
      ev S1x1024 .f32 (dgF (256 * t.val + 256) D W X)) := by
  obtain ⟨e0, e1, e2, e3, e4⟩ := shows m c X G W D R hX hG hW hD hR t
  refine (first m c t (by rw [ht]) (by rw [ht]; omega)).trans ?_
  rw [e0, e1, e2, e3, e4]
  refine Prod.ext ((pay5_ev (subE D _) W (subE X _) G (subE R _)).trans (congrArg (ev S256x1024 .f32) (sub_dxN 1024 5120 D W X G R _))) ?_
  exact (pay6_ev (subE D (256 * t.val)) W (subE X (256 * t.val))).trans (congrArg (fun f => ev S1x1024 .f32 f) (dgN_start 1024 5120 256 t.val ht D W X))

/-- After a point: the block's rows of the two gradients, and the gradient of the scale from the rows so far. -/
theorem left : ∀ (n : ℕ) (hn : n < cfg0.N), outsAt0 m c n hn = (ev S256x1024 .f32 (subE (dxF D W X G R) (256 * n)),
      ev S1x1024 .f32 (dgF (256 * n + 256) D W X)) := by
  intro n
  induction n with
  | zero => exact fun hn => left_first m c X G W D R hX hG hW hD hR ⟨0, hn⟩ rfl
  | succ n ih =>
    intro hn
    have hN : n + 1 < 16 := hn
    obtain ⟨e0, e1, e2, e3, e4⟩ := shows m c X G W D R hX hG hW hD hR ⟨n + 1, hn⟩
    refine (later m c ⟨n + 1, hn⟩ (by show ¬(n + 1) % 16 = 0; omega) (by show 1 ≤ n + 1; omega)).trans ?_
    rw [e0, e1, e2, e3, e4]
    refine Prod.ext ((pay5_ev (subE D _) W (subE X _) G (subE R _)).trans (congrArg (ev S256x1024 .f32) (sub_dxN 1024 5120 D W X G R _))) ?_
    have ih' := congrArg (fun o => o.2) (ih (Nat.lt_of_succ_lt hn))
    exact (congrArg₂ (k0_pay1 (F := Ideal)) (pay6_ev (subE D (256 * (n + 1))) W (subE X (256 * (n + 1)))) ih').trans
      ((pay1_ev (dgF 256 (subE D (256 * (n + 1))) W (subE X (256 * (n + 1)))) (dgF (256 * n + 256) D W X)).trans (congrArg (fun f => ev S1x1024 .f32 f) (dgN_add 1024 5120 (256 * n + 256) 256 D W X)))

theorem res_dx : (dats m 0 c).arrAt 5 cfg0.N = ev S4096x1024 .f32 (dxF D W X G R) := by
  refine (dats m 0 c).arrAt_eq_of_cover 5 (ev S4096x1024 .f32 (dxF D W X G R)) (fun t _ => ?_) covered_5
  show (cfg0.win 5).cut (grid0.coords t) ((dats m 0 c).after 5 t) = _
  rw [after0_5, left m c X G W D R hX hG hW hD hR, shown_5]
  rfl

theorem res_dg : (dats m 0 c).arrAt 6 cfg0.N = ev S1x1024 .f32 (dgF 4096 D W X) := by
  refine (dats m 0 c).arrAt_eq_of_cover 6 (ev S1x1024 .f32 (dgF 4096 D W X)) (fun t hf => ?_) covered_6
  show (cfg0.win 6).cut (grid0.coords t) ((dats m 0 c).after 6 t) = _
  have h : t.val = 15 := by have h := (flush0_6 t).1 hf; have h' : t.val < 16 := t.isLt; omega
  rw [after0_6, left m c X G W D R hX hG hW hD hR, shown_6, h]
  rfl

end

end Cert.Ffn.Proj

end
-- ==== Proof.ProjRef.lean ====
/-
  The fifth program's reference, on extended reals: the gradient through the mixer's normalisation, at the width of the input projection. The equation with the kernel's is that of the third program.
-/
module

public import proofs.«01_k».proof.Proof.ProjBlock
public import proofs.«01_k».proof.Proof.Gen.Reference5Ideal.Run

@[expose] public section

noncomputable section

namespace Cert.Ffn.Proj.Ref

open Cert.Ffn.Ref (slopeN backN refN refN_eq slopes slopes_ev inv_ev)
open Cert.Reference5Ideal Cert.Reference5Ideal.Gen
open Idealize.ShloMosaic Idealize.ShloMosaic.TcCoe Idealize.SL.Sem

attribute [local instance] Cert.Reference5Ideal.Gen.facts Cert.Reference3Ideal.Gen.facts

section
variable (m : (ℓ : Loc nD τ sig) → Buf (Elt Ideal) ℓ) (c : Dev nD) (X G W D R : EMat)
variable (hX : m ((c.tc : Thread nD τ).loc main_arg0) = ev S4096x1024 .f32 X) (hG : m ((c.tc : Thread nD τ).loc main_arg1) = ev S1x1024 .f32 G)
  (hW : m ((c.tc : Thread nD τ).loc main_arg2) = ev S1024x5120 .bf16 W) (hD : m ((c.tc : Thread nD τ).loc main_arg3) = ev S4096x5120 .bf16 D)
  (hR : m ((c.tc : Thread nD τ).loc main_arg4) = ev S4096x1024 .f32 R)

def dots (d : FVec Ideal S4096x5120 .bf16) (w : FVec Ideal S1024x5120 .bf16) : FVec Ideal S4096x1024 .f32 :=
  Host.dotGeneral dot_S4096x5120_S1024x5120_S4096x1024_1_1_0_0_n_n none (extf .f32 d bitsLt_bf16_f32) (extf .f32 w bitsLt_bf16_f32)

theorem dots_ev : dots (ev S4096x5120 .bf16 D) (ev S1024x5120 .bf16 W) = ev S4096x1024 .f32 (ntF 5120 D W) :=
  host_nt D W dot_S4096x5120_S1024x5120_S4096x1024_1_1_0_0_n_n rfl rfl (fun _ _ => ⟨rfl, rfl⟩) (fun _ _ => ⟨rfl, rfl⟩)

def scaled (d : FVec Ideal S4096x5120 .bf16) (w : FVec Ideal S1024x5120 .bf16) (g : FVec Ideal S1x1024 .f32) : FVec Ideal S4096x1024 .f32 :=
  mulf (dots d w) (broadcastInDim S4096x1024 ![0, 1] bcast_S1x1024_S4096x1024_0_1 g)

theorem scaled_ev : scaled (ev S4096x5120 .bf16 D) (ev S1024x5120 .bf16 W) (ev S1x1024 .f32 G) = ev S4096x1024 .f32 (ntF 5120 D W * rowF G) := by
  unfold scaled
  rw [dots_ev, host_spreadRow, ev_mulf]

def backs (d : FVec Ideal S4096x5120 .bf16) (w : FVec Ideal S1024x5120 .bf16) (x : FVec Ideal S4096x1024 .f32) (g : FVec Ideal S1x1024 .f32) : FVec Ideal S4096x1024 .f32 :=
  broadcastInDim S4096x1024 ![0] bcast_S4096_S4096x1024_0 (Host.reduceAdd (Host.divf (mulf (shapeCast S4096x1 (Host.reduceAdd (mulf x (scaled d w g)) (constant S_ .f32 0x00000000#32) reducesTo_S4096x1024_S4096_d1 h_S_) shapeCasts_S4096_S4096x1) (slopes x))
    (broadcastInDim S4096x1 ![] bcast_S_S4096x1 (constant S_ .f32 0x44800000#32))) (constant S_ .f32 0x00000000#32) reducesTo_S4096x1_S4096_d1 h_S_)

theorem backs_ev : backs (ev S4096x5120 .bf16 D) (ev S1024x5120 .bf16 W) (ev S4096x1024 .f32 X) (ev S1x1024 .f32 G) = ev S4096x1024 .f32 (backN 1024 5120 D W X G) := by
  unfold backs
  rw [scaled_ev, slopes_ev, ev_mulf, host_rowSum, ev_asCol, ev_mulf, host_const ofBits_1024, host_divf, host_rowSum, host_spread1]
  rfl

def inputs (d : FVec Ideal S4096x5120 .bf16) (w : FVec Ideal S1024x5120 .bf16) (x : FVec Ideal S4096x1024 .f32) (g : FVec Ideal S1x1024 .f32) (y : FVec Ideal S4096x1024 .f32) : FVec Ideal S4096x1024 .f32 :=
  addf (addf (addf y (mulf (scaled d w g) (broadcastInDim S4096x1024 ![0, 1] bcast_S4096x1_S4096x1024_0_1 (Host.rsqrt (Cert.Ffn.Ref.vars x))))) (mulf x (backs d w x g))) (mulf (backs d w x g) x)

theorem inputs_ev : inputs (ev S4096x5120 .bf16 D) (ev S1024x5120 .bf16 W) (ev S4096x1024 .f32 X) (ev S1x1024 .f32 G) (ev S4096x1024 .f32 R) = ev S4096x1024 .f32 (dxF D W X G R) := by
  unfold inputs
  rw [scaled_ev, inv_ev, backs_ev, host_spreadCol, ev_mulf, ev_mulf, ev_mulf, ev_addf, ev_addf, ev_addf]
  exact congrArg (ev S4096x1024 .f32) (refN_eq 1024 5120 D W X G R)

def scales (d : FVec Ideal S4096x5120 .bf16) (w : FVec Ideal S1024x5120 .bf16) (x : FVec Ideal S4096x1024 .f32) : FVec Ideal S1x1024 .f32 :=
  shapeCast S1x1024 (Host.reduceAdd (mulf (mulf x (broadcastInDim S4096x1024 ![0, 1] bcast_S4096x1_S4096x1024_0_1 (Host.rsqrt (Cert.Ffn.Ref.vars x)))) (dots d w)) (constant S_ .f32 0x00000000#32) reducesTo_S4096x1024_S1024_d0 h_S_) shapeCasts_S1024_S1x1024

theorem scales_ev : scales (ev S4096x5120 .bf16 D) (ev S1024x5120 .bf16 W) (ev S4096x1024 .f32 X) = ev S1x1024 .f32 (dgF 4096 D W X) := by
  unfold scales
  rw [dots_ev, inv_ev, host_spreadCol, ev_mulf, ev_mulf, host_colSum, ev_asRow, mul_comm]
  rfl

include hX hG hW hD hR

theorem ref_dx : Value.res_out0 m c = ev S4096x1024 .f32 (dxF D W X G R) := by
  refine Eq.trans ?_ (inputs_ev X G W D R)
  rw [← hX, ← hG, ← hW, ← hD, ← hR]
  rfl

end

end Cert.Ffn.Proj.Ref

end
-- ==== Proof.InEnd.lean ====
/-
  The claims of the fourth and the fifth program that speak of values. Neither has a precondition.
-/
module

public import proofs.«01_k».proof.Defs
public import proofs.«01_k».proof.Proof.InFrames
public import proofs.«01_k».proof.Proof.MixHost
public import proofs.«01_k».proof.Proof.InRun
public import proofs.«01_k».proof.Proof.ProjFinal
public import proofs.«01_k».proof.Proof.ProjRef
public import proofs.«01_k».proof.Proof.Gen.Reference4Ideal.Run

@[expose] public section

noncomputable section

namespace Cert.Ffn.In

open Cert.Reference4Ideal Cert.Reference4Ideal.Gen
open Idealize.ShloMosaic Idealize.ShloMosaic.TcCoe Idealize.SL.Sem

attribute [local instance] Cert.Reference4Ideal.Gen.facts Cert.Reference2Ideal.Gen.facts

/-! ## The fourth program's reference -/

section
variable (X G W D : EMat)

def projs (x : FVec Ideal S4096x1024 .f32) (g : FVec Ideal S1x1024 .f32) (w : FVec Ideal S1024x5120 .bf16) : FVec Ideal S4096x5120 .bf16 :=
  truncf .bf16 (Host.dotGeneral dot_S4096x1024_S1024x5120_S4096x5120_1_0_0_1_n_n none (Lines.hfs x g) (extf .f32 w bitsLt_bf16_f32)) bitsLt_bf16_f32

theorem projs_ev : projs (ev S4096x1024 .f32 X) (ev S1x1024 .f32 G) (ev S1024x5120 .bf16 W) = ev S4096x5120 .bf16 (guF X G W) := by
  unfold projs
  rw [Lines.hfs_ev]
  exact congrArg (fun v => truncf .bf16 v bitsLt_bf16_f32)
    (host_nn (hfF X G) W dot_S4096x1024_S1024x5120_S4096x5120_1_0_0_1_n_n rfl rfl (fun _ _ => ⟨rfl, rfl⟩) (fun _ _ => ⟨rfl, rfl⟩))

def gradW (x : FVec Ideal S4096x1024 .f32) (g : FVec Ideal S1x1024 .f32) (y : FVec Ideal S4096x5120 .bf16) : FVec Ideal S1024x5120 .bf16 :=
  truncf .bf16 (transpose S1024x5120 [1, 0] (Host.dotGeneral dot_S4096x5120_S4096x1024_S5120x1024_0_0_1_1_n_n none (extf .f32 y bitsLt_bf16_f32) (Lines.hfs x g)) transposes_S5120x1024_S1024x5120_1_0) bitsLt_bf16_f32

theorem gradW_ev : gradW (ev S4096x1024 .f32 X) (ev S1x1024 .f32 G) (ev S4096x5120 .bf16 D) = ev S1024x5120 .bf16 (tnF 4096 (hfF X G) D) := by
  have e : Host.dotGeneral dot_S4096x5120_S4096x1024_S5120x1024_0_0_1_1_n_n none (ev S4096x5120 .f32 D : FVec Ideal S4096x5120 .f32) (ev S4096x1024 .f32 (hfF X G) : FVec Ideal S4096x1024 .f32)
      = ev S5120x1024 .f32 (tnF 4096 D (hfF X G)) :=
    host_tn D (hfF X G) dot_S4096x5120_S4096x1024_S5120x1024_0_0_1_1_n_n rfl rfl (fun _ _ => ⟨rfl, rfl⟩) (fun _ _ => ⟨rfl, rfl⟩)
  unfold gradW
  rw [Lines.hfs_ev, ev_extf, e, ev_transpose, tn_swap]
  rfl

end

end Cert.Ffn.In

namespace Cert.Ffn

open Idealize.ShloMosaic Idealize.ShloMosaic.TcCoe Idealize.SL.Sem

attribute [local instance] Cert.Kernel4.Gen.facts Cert.Kernel4Ideal.Gen.facts Cert.Reference4Ideal.Gen.facts Cert.Kernel5.Gen.facts Cert.Kernel5Ideal.Gen.facts Cert.Reference5Ideal.Gen.facts

theorem algebraic4 : Cert.algebraic_Kernel4Ideal_Reference4Ideal := by
  intro m g m' g' _ hargs
  choose X hX using fun c : Dev Cert.Kernel4Ideal.nD => exists_ev (φ := .f32) (m ((c.tc : Thread Cert.Kernel4Ideal.nD Cert.Kernel4Ideal.τ).loc Cert.Kernel4Ideal.main_arg0))
  choose G hG using fun c : Dev Cert.Kernel4Ideal.nD => exists_ev (φ := .f32) (m ((c.tc : Thread Cert.Kernel4Ideal.nD Cert.Kernel4Ideal.τ).loc Cert.Kernel4Ideal.main_arg1))
  choose W hW using fun c : Dev Cert.Kernel4Ideal.nD => exists_ev (φ := .bf16) (m ((c.tc : Thread Cert.Kernel4Ideal.nD Cert.Kernel4Ideal.τ).loc Cert.Kernel4Ideal.main_arg2))
  choose D hD using fun c : Dev Cert.Kernel4Ideal.nD => exists_ev (φ := .bf16) (m ((c.tc : Thread Cert.Kernel4Ideal.nD Cert.Kernel4Ideal.τ).loc Cert.Kernel4Ideal.main_arg3))
  refine ⟨fun c => ev Cert.Kernel4Ideal.S4096x5120 .bf16 (guF (X c) (G c) (W c)), fun c => ev Cert.Kernel4Ideal.S1024x5120 .bf16 (tnF 4096 (hfF (X c) (G c)) (D c)), ?_, ?_⟩
  · refine (θ_run Cert.Kernel4Ideal.defs _ _).mono (fun r h c => ?_) (In.run_contents m g)
    obtain ⟨h0, h1, hargs'⟩ := h c
    exact ⟨h0.trans (In.W3_proj m g c (X c) (G c) (W c) (hX c) (hG c) (hW c)), h1.trans (In.W3_gw m g c (X c) (G c) (D c) (hX c) (hG c) (hD c)), hargs'⟩
  · refine (θ_run Cert.Reference4Ideal.defs _ _).mono (fun r h c => ?_) (Cert.Reference4Ideal.Value.run (F := Ideal) m' g')
    obtain ⟨a0, a1, a2, a3⟩ := hargs c
    have eX := a0.trans (hX c)
    have eG := a1.trans (hG c)
    have eW := a2.trans (hW c)
    have eD := a3.trans (hD c)
    obtain ⟨h0, h1, hargs'⟩ := h c
    refine ⟨h0.trans (Eq.trans ?_ (In.projs_ev (X c) (G c) (W c))), h1.trans (Eq.trans ?_ (In.gradW_ev (X c) (G c) (D c))), hargs'⟩
    · rw [← eX, ← eG, ← eW]
      rfl
    · rw [← eX, ← eG, ← eD]
      rfl

theorem algebraic5 : Cert.algebraic_Kernel5Ideal_Reference5Ideal := by
  intro m g m' g' _ hargs
  choose X hX using fun c : Dev Cert.Kernel5Ideal.nD => exists_ev (φ := .f32) (m ((c.tc : Thread Cert.Kernel5Ideal.nD Cert.Kernel5Ideal.τ).loc Cert.Kernel5Ideal.main_arg0))
  choose G hG using fun c : Dev Cert.Kernel5Ideal.nD => exists_ev (φ := .f32) (m ((c.tc : Thread Cert.Kernel5Ideal.nD Cert.Kernel5Ideal.τ).loc Cert.Kernel5Ideal.main_arg1))
  choose W hW using fun c : Dev Cert.Kernel5Ideal.nD => exists_ev (φ := .bf16) (m ((c.tc : Thread Cert.Kernel5Ideal.nD Cert.Kernel5Ideal.τ).loc Cert.Kernel5Ideal.main_arg2))
  choose D hD using fun c : Dev Cert.Kernel5Ideal.nD => exists_ev (φ := .bf16) (m ((c.tc : Thread Cert.Kernel5Ideal.nD Cert.Kernel5Ideal.τ).loc Cert.Kernel5Ideal.main_arg3))
  choose R hR using fun c : Dev Cert.Kernel5Ideal.nD => exists_ev (φ := .f32) (m ((c.tc : Thread Cert.Kernel5Ideal.nD Cert.Kernel5Ideal.τ).loc Cert.Kernel5Ideal.main_arg4))
  refine ⟨fun c => ev Cert.Kernel5Ideal.S4096x1024 .f32 (Proj.dxF (D c) (W c) (X c) (G c) (R c)),
    fun c => ev Cert.Kernel5Ideal.S1x1024 .f32 (Proj.dgF 4096 (D c) (W c) (X c)), ?_, ?_⟩
  · refine (θ_run Cert.Kernel5Ideal.defs _ _).mono (fun r h c => ?_) (Cert.Kernel5Ideal.Value.run_blocks (F := Ideal) m g)
    obtain ⟨h5, h6, hargs'⟩ := h c
    exact ⟨h5.trans (Proj.res_dx m c (X c) (G c) (W c) (D c) (R c) (hX c) (hG c) (hW c) (hD c) (hR c)),
      h6.trans (Proj.res_dg m c (X c) (G c) (W c) (D c) (R c) (hX c) (hG c) (hW c) (hD c) (hR c)), hargs'⟩
  · refine (θ_run Cert.Reference5Ideal.defs _ _).mono (fun r h c => ?_) (Cert.Reference5Ideal.Value.run (F := Ideal) m' g')
    obtain ⟨a0, a1, a2, a3, a4⟩ := hargs c
    have eX := a0.trans (hX c)
    have eG := a1.trans (hG c)
    have eW := a2.trans (hW c)
    have eD := a3.trans (hD c)
    have eR := a4.trans (hR c)
    obtain ⟨h5, h6, hargs'⟩ := h c
    refine ⟨h5.trans (Proj.Ref.ref_dx m' c _ _ _ _ _ eX eG eW eD eR), h6.trans ?_, hargs'⟩
    refine Eq.trans ?_ (Proj.Ref.scales_ev (X c) (W c) (D c))
    rw [← eX, ← eW, ← eD]
    rfl

end Cert.Ffn

end
-- ==== Proof.FwdFrames.lean ====
/-
  The frame claims of the sixth program and of the seventh.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

noncomputable section

namespace Cert.Ffn

open Idealize.ShloMosaic Idealize.ShloMosaic.TcCoe Idealize.SL.Sem

attribute [local instance] Cert.Kernel6.Gen.facts Cert.Kernel6Ideal.Gen.facts Cert.Reference6Ideal.Gen.facts Cert.Kernel7.Gen.facts Cert.Kernel7Ideal.Gen.facts Cert.Reference7Ideal.Gen.facts

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2.2.2.2.2.2.2.2, sem_eq_zero_of_no_sems (by decide) r.2⟩) (Cert.Reference6Ideal.Value.run (F := Ideal) m ρ)

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2.2.2.2, sem_eq_zero_of_no_sems (by decide) r.2⟩) (Cert.Reference7Ideal.Value.run (F := Ideal) m ρ)

end Cert.Ffn

end
-- ==== Proof.MergeMath.lean ====
/-
  The merge of two branches through their gates, and its gradients, on extended reals.
-/
module

public import proofs.«01_k».proof.Proof.Places
public import proofs.«01_k».proof.Proof.MixMath
public import proofs.«01_k».proof.Proof.InBlock

@[expose] public section

noncomputable section

namespace Cert.Ffn.Merge

open Idealize.ShloMosaic
open scoped BigOperators

/-- The two branches, each times its gate, added; `G` and `H` are what the gates are computed of. -/
def mergedF (G H A B : EMat) : EMat := logisticF G * A + logisticF H * B
/-- The gradient of what a gate is computed of; `E` is the gradient of the merged branches, `A` the branch. -/
def dgateF (E A G : EMat) : EMat := E * A * (logisticF G * (oneF - logisticF G))
/-- The gradient of a branch. -/
def dbranchF (E G : EMat) : EMat := E * logisticF G

/-- The merged branches, with the columns of `P` that the gates are computed of. -/
def mgF (P A B U W : EMat) : EMat := mergedF (rightF 3072 P) (rightF 4096 P) (nnF 512 A U) (nnF 512 B W)

theorem ev_logistic (s : Shape) (f : EMat) : logistic (ev s .f32 f) = ev s .f32 (logisticF f) := rfl

theorem ev_nt' {M K N : ℕ} {φ₁ φ₂ : FTy} (f g : EMat) (d : DotDims ⟨2, ![M, K]⟩ ⟨2, ![N, K]⟩ ⟨2, ![M, N]⟩) (hr : d.contr.rank = 1) (hs : d.contr.size ⟨0, by omega⟩ = K)
    (hl : ∀ j (q : d.contr.Idx), ((d.lhsIdx j q) 0).val = (j 0).val ∧ ((d.lhsIdx j q) 1).val = (q ⟨0, by omega⟩).val)
    (hh : ∀ j (q : d.contr.Idx), ((d.rhsIdx j q) 0).val = (j 1).val ∧ ((d.rhsIdx j q) 1).val = (q ⟨0, by omega⟩).val) :
    FloatOps.matmul d none (ev ⟨2, ![M, K]⟩ φ₁ f) (ev ⟨2, ![N, K]⟩ φ₂ g) (ev ⟨2, ![M, N]⟩ .f32 0) = ev ⟨2, ![M, N]⟩ .f32 (ntF K f g) := by
  funext j
  rw [Ideal.matmul_apply, dot_terms d hr hs j _ _ (fun k => f (j 0).val k) (fun k => g (j 1).val k)
    (fun q => congrArg₂ f (hl j q).1 (hl j q).2) (fun q => congrArg₂ g (hh j q).1 (hh j q).2)]
  show (0 : EReal) + _ = _
  rw [zero_add]
  rfl

end Cert.Ffn.Merge

end
-- ==== Proof.MergeGates.lean ====
/-
  The first three launches of the sixth program, on extended reals: the two branches merged through their gates, the output projection, and the gradients of the branches and of the gates.
  What each computes from one block, which part of an array each window shows, and what the result arrays hold.
-/
module

public import proofs.«01_k».proof.Proof.Places
public import proofs.«01_k».proof.Proof.MergeMath
public import proofs.«01_k».proof.Proof.Gen.Kernel6Ideal.Frame
public import Idealize.ShloMosaic.Lib.ValueIdx

@[expose] public section

noncomputable section

namespace Cert.Ffn.Merge

open Cert.Attn (ofBits_one)
open Cert.Kernel6Ideal Cert.Kernel6Ideal.Gen
open Idealize.ShloMosaic Idealize.ShloMosaic.TcCoe
open Idealize.SL.Sem
open Idealize.ShloMosaic.Pipeline (Dat Cfg Window)

/-! ## From one block -/

section
variable (A B U W G H X D : EMat)

theorem pay0_1_ev : k0_pay1 (F := Ideal) (ev S1024x512 .bf16 A) (ev S512x1024 .bf16 U) = ev S1024x1024 .f32 (nnF 512 A U) := by
  unfold k0_pay1
  rw [ev_constant]
  exact In.ev_nn A U dot_S1024x512_S512x1024_S1024x1024_1_0_0_1_n_n rfl rfl (fun _ _ => ⟨rfl, rfl⟩) (fun _ _ => ⟨rfl, rfl⟩)

theorem pay0_2_ev : k0_pay2 (F := Ideal) (ev S1024x512 .bf16 B) (ev S512x1024 .bf16 W) = ev S1024x1024 .f32 (nnF 512 B W) := pay0_1_ev B W

theorem pay0_5_ev : k0_pay5 (F := Ideal) (ev S1024x512 .bf16 A) (ev S512x1024 .bf16 U) (ev S1024x512 .bf16 B) (ev S512x1024 .bf16 W) (ev S1024x1024 .bf16 G) (ev S1024x1024 .bf16 H)
    = ev S1024x1024 .bf16 (mergedF G H (nnF 512 A U) (nnF 512 B W)) := by
  unfold k0_pay5
  rw [pay0_1_ev, pay0_2_ev]
  rfl

theorem pay1_1_ev : k1_pay1 (F := Ideal) (ev S1024x1024 .bf16 A) (ev S1024x1024 .bf16 U) (ev S1024x1024 .f32 X) = ev S1024x1024 .f32 (X + nnF 1024 A U) := by
  unfold k1_pay1
  rw [ev_shapeCast, ev_constant]
  exact congrArg (addf (ev S1024x1024 .f32 X)) (In.ev_nn A U dot_S1024x1024_S1024x1024_S1024x1024_1_0_0_1_n_n rfl rfl (fun _ _ => ⟨rfl, rfl⟩) (fun _ _ => ⟨rfl, rfl⟩))

theorem pay2_1_ev : k2_pay1 (F := Ideal) (ev S512x1024 .bf16 D) (ev S1024x1024 .bf16 W) = ev S512x1024 .f32 (ntF 1024 D W) := by
  unfold k2_pay1
  rw [ev_constant]
  exact ev_nt' D W dot_S512x1024_S1024x1024_S512x1024_1_1_0_0_n_n rfl rfl (fun _ _ => ⟨rfl, rfl⟩) (fun _ _ => ⟨rfl, rfl⟩)

theorem pay2_4_ev : k2_pay4 (F := Ideal) (ev S512x1024 .bf16 D) (ev S1024x1024 .bf16 W) (ev S512x1024 .bf16 G) = ev S512x1024 .bf16 (dbranchF (ntF 1024 D W) G) := by
  unfold k2_pay4
  rw [pay2_1_ev]
  rfl

theorem pay2_5_ev : k2_pay5 (F := Ideal) (ev S512x1024 .bf16 D) (ev S1024x1024 .bf16 W) (ev S512x1024 .bf16 G) = ev S512x1024 .bf16 (dbranchF (ntF 1024 D W) G) := by
  unfold k2_pay5
  rw [pay2_1_ev]
  rfl

theorem pay2_6_ev : k2_pay6 (F := Ideal) (ev S512x1024 .bf16 D) (ev S1024x1024 .bf16 W) (ev S512x1024 .bf16 G) (ev S512x1024 .bf16 A)
    = ev S512x1024 .bf16 (dgateF (ntF 1024 D W) A G) := by
  unfold k2_pay6
  rw [pay2_1_ev, ev_shapeCast]
  dsimp only
  rw [ev_const ofBits_one]
  rfl

theorem pay2_7_ev : k2_pay7 (F := Ideal) (ev S512x1024 .bf16 D) (ev S1024x1024 .bf16 W) (ev S512x1024 .bf16 G) (ev S512x1024 .bf16 A)
    = ev S512x1024 .bf16 (dgateF (ntF 1024 D W) A G) := by
  unfold k2_pay7
  rw [pay2_1_ev, ev_shapeCast]
  dsimp only
  rw [ev_const ofBits_one]
  rfl

end

section
variable (A B U W G H X D : EMat)

theorem out0_6_ev : out0_6 (F := Ideal) (ev S1024x512 .bf16 A) (ev S1024x512 .bf16 B) (ev S512x1024 .bf16 U) (ev S512x1024 .bf16 W) (ev S1024x1024 .bf16 G) (ev S1024x1024 .bf16 H) = ev S1024x1024 .bf16 (nnF 512 A U) := by
  unfold out0_6
  rw [View.canon_unit_zero origin, View.ld_unit_zero (S := S1024x512) origin, View.ld_unit_zero (S := S512x1024) origin]
  exact congrArg (fun v => truncf .bf16 v bitsLt_bf16_f32) (pay0_1_ev A U)

theorem out0_7_ev : out0_7 (F := Ideal) (ev S1024x512 .bf16 A) (ev S1024x512 .bf16 B) (ev S512x1024 .bf16 U) (ev S512x1024 .bf16 W) (ev S1024x1024 .bf16 G) (ev S1024x1024 .bf16 H) = ev S1024x1024 .bf16 (nnF 512 B W) := by
  unfold out0_7
  rw [View.canon_unit_zero origin, View.ld_unit_zero (S := S1024x512) origin, View.ld_unit_zero (S := S512x1024) origin]
  exact congrArg (fun v => truncf .bf16 v bitsLt_bf16_f32) (pay0_2_ev B W)

theorem out0_8_ev : out0_8 (F := Ideal) (ev S1024x512 .bf16 A) (ev S1024x512 .bf16 B) (ev S512x1024 .bf16 U) (ev S512x1024 .bf16 W) (ev S1024x1024 .bf16 G) (ev S1024x1024 .bf16 H) = ev S1024x1024 .bf16 (mergedF G H (nnF 512 A U) (nnF 512 B W)) := by
  unfold out0_8
  rw [View.canon_unit_zero origin, View.ld_unit_zero (S := S1024x512) origin, View.ld_unit_zero (S := S512x1024) origin, View.ld_unit_zero (S := S1024x512) origin, View.ld_unit_zero (S := S512x1024) origin, View.ld_unit_zero (S := S1024x1024) origin, View.ld_unit_zero (S := S1024x1024) origin]
  exact pay0_5_ev A B U W G H

theorem out1_3_ev : out1_3 (F := Ideal) (ev S1024x1024 .bf16 A) (ev S1024x1024 .bf16 U) (ev S1024x1024 .f32 X) = ev S1024x1024 .f32 (X + nnF 1024 A U) := by
  unfold out1_3
  rw [View.canon_unit_zero origin, View.ld_unit_zero (S := S1024x1024) origin, View.ld_unit_zero (S := S1024x1024) origin, View.ld_unit_zero (S := S1024x1024) origin]
  exact pay1_1_ev A U X

theorem out2_6_ev : out2_6 (F := Ideal) (ev S512x1024 .bf16 D) (ev S1024x1024 .bf16 W) (ev S512x1024 .bf16 G) (ev S512x1024 .bf16 H) (ev S512x1024 .bf16 A) (ev S512x1024 .bf16 B) = ev S512x1024 .bf16 (dbranchF (ntF 1024 D W) G) := by
  unfold out2_6
  rw [View.canon_unit_zero origin, View.ld_unit_zero (S := S512x1024) origin, View.ld_unit_zero (S := S1024x1024) origin, View.ld_unit_zero (S := S512x1024) origin]
  exact pay2_4_ev W G D

theorem out2_7_ev : out2_7 (F := Ideal) (ev S512x1024 .bf16 D) (ev S1024x1024 .bf16 W) (ev S512x1024 .bf16 G) (ev S512x1024 .bf16 H) (ev S512x1024 .bf16 A) (ev S512x1024 .bf16 B) = ev S512x1024 .bf16 (dbranchF (ntF 1024 D W) H) := by
  unfold out2_7
  rw [View.canon_unit_zero origin, View.ld_unit_zero (S := S512x1024) origin, View.ld_unit_zero (S := S1024x1024) origin, View.ld_unit_zero (S := S512x1024) origin]
  exact pay2_5_ev W H D

theorem out2_8_ev : out2_8 (F := Ideal) (ev S512x1024 .bf16 D) (ev S1024x1024 .bf16 W) (ev S512x1024 .bf16 G) (ev S512x1024 .bf16 H) (ev S512x1024 .bf16 A) (ev S512x1024 .bf16 B) = ev S512x1024 .bf16 (dgateF (ntF 1024 D W) A G) := by
  unfold out2_8
  rw [View.canon_unit_zero origin, View.ld_unit_zero (S := S512x1024) origin, View.ld_unit_zero (S := S1024x1024) origin, View.ld_unit_zero (S := S512x1024) origin, View.ld_unit_zero (S := S512x1024) origin]
  exact pay2_6_ev A W G D

theorem out2_9_ev : out2_9 (F := Ideal) (ev S512x1024 .bf16 D) (ev S1024x1024 .bf16 W) (ev S512x1024 .bf16 G) (ev S512x1024 .bf16 H) (ev S512x1024 .bf16 A) (ev S512x1024 .bf16 B) = ev S512x1024 .bf16 (dgateF (ntF 1024 D W) B H) := by
  unfold out2_9
  rw [View.canon_unit_zero origin, View.ld_unit_zero (S := S512x1024) origin, View.ld_unit_zero (S := S1024x1024) origin, View.ld_unit_zero (S := S512x1024) origin, View.ld_unit_zero (S := S512x1024) origin]
  exact pay2_7_ev B W H D

end

/-! ## The windows' places -/

theorem place0 : ∀ t : Fin grid0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 3) ∧ (win0_5.index t 0 = t.val ∧ win0_5.index t 1 = 4) ∧ (win0_6.index t 0 = t.val ∧ win0_6.index t 1 = 0) ∧ (win0_7.index t 0 = t.val ∧ win0_7.index t 1 = 0) ∧ (win0_8.index t 0 = t.val ∧ win0_8.index t 1 = 0) := by decide +kernel

theorem place1 : ∀ t : Fin grid1.N, (win1_0.index t 0 = t.val ∧ win1_0.index t 1 = 0) ∧ (win1_1.index t 0 = 0 ∧ win1_1.index t 1 = 0) ∧ (win1_2.index t 0 = t.val ∧ win1_2.index t 1 = 0) ∧ (win1_3.index t 0 = t.val ∧ win1_3.index t 1 = 0) := by decide +kernel

theorem place2 : ∀ t : Fin grid2.N, (win2_0.index t 0 = t.val ∧ win2_0.index t 1 = 0) ∧ (win2_1.index t 0 = 0 ∧ win2_1.index t 1 = 0) ∧ (win2_2.index t 0 = t.val ∧ win2_2.index t 1 = 3) ∧ (win2_3.index t 0 = t.val ∧ win2_3.index t 1 = 4) ∧ (win2_4.index t 0 = t.val ∧ win2_4.index t 1 = 0) ∧ (win2_5.index t 0 = t.val ∧ win2_5.index t 1 = 0) ∧ (win2_6.index t 0 = t.val ∧ win2_6.index t 1 = 0) ∧ (win2_7.index t 0 = t.val ∧ win2_7.index t 1 = 0) ∧ (win2_8.index t 0 = t.val ∧ win2_8.index t 1 = 0) ∧ (win2_9.index t 0 = t.val ∧ win2_9.index t 1 = 0) := by decide +kernel

/-! ## What the windows show -/

section
variable (X : EMat) (t : Fin cfg0.N)

theorem shown0_0 : ((cfg0.win 0).blk t).view.read (Elt Ideal) (ev S4096x512 .bf16 X) = ev S1024x512 .bf16 (subE X (1024 * t.val)) :=
  shown_rows X (at_place win0_0 rfl (place0 t).1)

theorem shown0_1 : ((cfg0.win 1).blk t).view.read (Elt Ideal) (ev S4096x512 .bf16 X) = ev S1024x512 .bf16 (subE X (1024 * t.val)) :=
  shown_rows X (at_place win0_1 rfl (place0 t).2.1)

theorem shown0_2 : ((cfg0.win 2).blk t).view.read (Elt Ideal) (ev S512x1024 .bf16 X) = ev S512x1024 .bf16 X :=
  shown_all X (at_place win0_2 rfl (place0 t).2.2.1)

theorem shown0_3 : ((cfg0.win 3).blk t).view.read (Elt Ideal) (ev S512x1024 .bf16 X) = ev S512x1024 .bf16 X :=
  shown_all X (at_place win0_3 rfl (place0 t).2.2.2.1)

theorem shown0_4 : ((cfg0.win 4).blk t).view.read (Elt Ideal) (ev S4096x5120 .bf16 X) = ev S1024x1024 .bf16 (subE (rightF 3072 X) (1024 * t.val)) :=
  shown_part X (at_place win0_4 rfl (place0 t).2.2.2.2.1)

theorem shown0_5 : ((cfg0.win 5).blk t).view.read (Elt Ideal) (ev S4096x5120 .bf16 X) = ev S1024x1024 .bf16 (subE (rightF 4096 X) (1024 * t.val)) :=
  shown_part X (at_place win0_5 rfl (place0 t).2.2.2.2.2.1)

theorem shown0_6 : ((cfg0.win 6).blk t).view.read (Elt Ideal) (ev S4096x1024 .bf16 X) = ev S1024x1024 .bf16 (subE X (1024 * t.val)) :=
  shown_rows X (at_place win0_6 rfl (place0 t).2.2.2.2.2.2.1)

theorem shown0_7 : ((cfg0.win 7).blk t).view.read (Elt Ideal) (ev S4096x1024 .bf16 X) = ev S1024x1024 .bf16 (subE X (1024 * t.val)) :=
  shown_rows X (at_place win0_7 rfl (place0 t).2.2.2.2.2.2.2.1)

theorem shown0_8 : ((cfg0.win 8).blk t).view.read (Elt Ideal) (ev S4096x1024 .bf16 X) = ev S1024x1024 .bf16 (subE X (1024 * t.val)) :=
  shown_rows X (at_place win0_8 rfl (place0 t).2.2.2.2.2.2.2.2)

end

section
variable (X : EMat) (t : Fin cfg1.N)

theorem shown1_0 : ((cfg1.win 0).blk t).view.read (Elt Ideal) (ev S4096x1024 .bf16 X) = ev S1024x1024 .bf16 (subE X (1024 * t.val)) :=
  shown_rows X (at_place win1_0 rfl (place1 t).1)

theorem shown1_1 : ((cfg1.win 1).blk t).view.read (Elt Ideal) (ev S1024x1024 .bf16 X) = ev S1024x1024 .bf16 X :=
  shown_all X (at_place win1_1 rfl (place1 t).2.1)

theorem shown1_2 : ((cfg1.win 2).blk t).view.read (Elt Ideal) (ev S4096x1024 .f32 X) = ev S1024x1024 .f32 (subE X (1024 * t.val)) :=
  shown_rows X (at_place win1_2 rfl (place1 t).2.2.1)

theorem shown1_3 : ((cfg1.win 3).blk t).view.read (Elt Ideal) (ev S4096x1024 .f32 X) = ev S1024x1024 .f32 (subE X (1024 * t.val)) :=
  shown_rows X (at_place win1_3 rfl (place1 t).2.2.2)

end

section
variable (X : EMat) (t : Fin cfg2.N)

theorem shown2_0 : ((cfg2.win 0).blk t).view.read (Elt Ideal) (ev S4096x1024 .bf16 X) = ev S512x1024 .bf16 (subE X (512 * t.val)) :=
  shown_rows X (at_place win2_0 rfl (place2 t).1)

theorem shown2_1 : ((cfg2.win 1).blk t).view.read (Elt Ideal) (ev S1024x1024 .bf16 X) = ev S1024x1024 .bf16 X :=
  shown_all X (at_place win2_1 rfl (place2 t).2.1)

theorem shown2_2 : ((cfg2.win 2).blk t).view.read (Elt Ideal) (ev S4096x5120 .bf16 X) = ev S512x1024 .bf16 (subE (rightF 3072 X) (512 * t.val)) :=
  shown_part X (at_place win2_2 rfl (place2 t).2.2.1)

theorem shown2_3 : ((cfg2.win 3).blk t).view.read (Elt Ideal) (ev S4096x5120 .bf16 X) = ev S512x1024 .bf16 (subE (rightF 4096 X) (512 * t.val)) :=
  shown_part X (at_place win2_3 rfl (place2 t).2.2.2.1)

theorem shown2_4 : ((cfg2.win 4).blk t).view.read (Elt Ideal) (ev S4096x1024 .bf16 X) = ev S512x1024 .bf16 (subE X (512 * t.val)) :=
  shown_rows X (at_place win2_4 rfl (place2 t).2.2.2.2.1)

theorem shown2_5 : ((cfg2.win 5).blk t).view.read (Elt Ideal) (ev S4096x1024 .bf16 X) = ev S512x1024 .bf16 (subE X (512 * t.val)) :=
  shown_rows X (at_place win2_5 rfl (place2 t).2.2.2.2.2.1)

theorem shown2_6 : ((cfg2.win 6).blk t).view.read (Elt Ideal) (ev S4096x1024 .bf16 X) = ev S512x1024 .bf16 (subE X (512 * t.val)) :=
  shown_rows X (at_place win2_6 rfl (place2 t).2.2.2.2.2.2.1)

theorem shown2_7 : ((cfg2.win 7).blk t).view.read (Elt Ideal) (ev S4096x1024 .bf16 X) = ev S512x1024 .bf16 (subE X (512 * t.val)) :=
  shown_rows X (at_place win2_7 rfl (place2 t).2.2.2.2.2.2.2.1)

theorem shown2_8 : ((cfg2.win 8).blk t).view.read (Elt Ideal) (ev S4096x1024 .bf16 X) = ev S512x1024 .bf16 (subE X (512 * t.val)) :=
  shown_rows X (at_place win2_8 rfl (place2 t).2.2.2.2.2.2.2.2.1)

theorem shown2_9 : ((cfg2.win 9).blk t).view.read (Elt Ideal) (ev S4096x1024 .bf16 X) = ev S512x1024 .bf16 (subE X (512 * t.val)) :=
  shown_rows X (at_place win2_9 rfl (place2 t).2.2.2.2.2.2.2.2.2)

end

/-! ## Every index lies in some window written back -/

theorem covered0_6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : (i 0).val / 1024 < 4 := by omega
  refine ⟨⟨(i 0).val / 1024, ht⟩, flush0_6 _, ?_⟩
  show i ∈ ((View.whole main_v0_0).slice (win0_6.rect ⟨(i 0).val / 1024, ht⟩)).set
  rw [View.set_slice_whole, Rect.mem_set_unit]
  have hp := (place0 ⟨(i 0).val / 1024, ht⟩).2.2.2.2.2.2.1
  refine in_place ((i 0).val / 1024) 0 1024 1024 ?_ ?_ ?_ ?_ ?_
  exacts [congrArg (· * 1024) hp.1, congrArg (· * 1024) hp.2, ⟨rfl, rfl⟩, by omega, by omega]

theorem covered0_7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have ht : (i 0).val / 1024 < 4 := by omega
  refine ⟨⟨(i 0).val / 1024, ht⟩, flush0_7 _, ?_⟩
  show i ∈ ((View.whole main_v0_1).slice (win0_7.rect ⟨(i 0).val / 1024, ht⟩)).set
  rw [View.set_slice_whole, Rect.mem_set_unit]
  have hp := (place0 ⟨(i 0).val / 1024, ht⟩).2.2.2.2.2.2.2.1
  refine in_place ((i 0).val / 1024) 0 1024 1024 ?_ ?_ ?_ ?_ ?_
  exacts [congrArg (· * 1024) hp.1, congrArg (· * 1024) hp.2, ⟨rfl, rfl⟩, by omega, by omega]

theorem covered0_8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have ht : (i 0).val / 1024 < 4 := by omega
  refine ⟨⟨(i 0).val / 1024, ht⟩, flush0_8 _, ?_⟩
  show i ∈ ((View.whole main_v0_2).slice (win0_8.rect ⟨(i 0).val / 1024, ht⟩)).set
  rw [View.set_slice_whole, Rect.mem_set_unit]
  have hp := (place0 ⟨(i 0).val / 1024, ht⟩).2.2.2.2.2.2.2.2
  refine in_place ((i 0).val / 1024) 0 1024 1024 ?_ ?_ ?_ ?_ ?_
  exacts [congrArg (· * 1024) hp.1, congrArg (· * 1024) hp.2, ⟨rfl, rfl⟩, by omega, by omega]

theorem covered1_3 (i : S4096x1024.Idx) : ∃ t : Fin cfg1.N, (cfg1.win 3).flush t = true ∧ i ∈ ((cfg1.win 3).blk t).view.set := by
  have h0 : (i 0).val < 4096 := (i 0).isLt
  have h1 : (i 1).val < 1024 := (i 1).isLt
  have ht : (i 0).val / 1024 < 4 := by omega
  refine ⟨⟨(i 0).val / 1024, ht⟩, flush1_3 _, ?_⟩
  show i ∈ ((View.whole main_v1).slice (win1_3.rect ⟨(i 0).val / 1024, ht⟩)).set
  rw [View.set_slice_whole, Rect.mem_set_unit]
  have hp := (place1 ⟨(i 0).val / 1024, ht⟩).2.2.2
  refine in_place ((i 0).val / 1024) 0 1024 1024 ?_ ?_ ?_ ?_ ?_
  exacts [congrArg (· * 1024) hp.1, congrArg (· * 1024) hp.2, ⟨rfl, rfl⟩, by omega, by omega]

theorem covered2_6 (i : S4096x1024.Idx) : ∃ t : Fin cfg2.N, (cfg2.win 6).flush t = true ∧ i ∈ ((cfg2.win 6).blk t).view.set := by
  have h0 : (i 0).val < 4096 := (i 0).isLt
  have h1 : (i 1).val < 1024 := (i 1).isLt
  have ht : (i 0).val / 512 < 8 := by omega
  refine ⟨⟨(i 0).val / 512, ht⟩, flush2_6 _, ?_⟩
  show i ∈ ((View.whole main_v2_0).slice (win2_6.rect ⟨(i 0).val / 512, ht⟩)).set
  rw [View.set_slice_whole, Rect.mem_set_unit]
  have hp := (place2 ⟨(i 0).val / 512, ht⟩).2.2.2.2.2.2.1
  refine in_place ((i 0).val / 512) 0 512 1024 ?_ ?_ ?_ ?_ ?_
  exacts [congrArg (· * 512) hp.1, congrArg (· * 1024) hp.2, ⟨rfl, rfl⟩, by omega, by omega]

theorem covered2_7 (i : S4096x1024.Idx) : ∃ t : Fin cfg2.N, (cfg2.win 7).flush t = true ∧ i ∈ ((cfg2.win 7).blk t).view.set := by
  have h0 : (i 0).val < 4096 := (i 0).isLt
  have h1 : (i 1).val < 1024 := (i 1).isLt
  have ht : (i 0).val / 512 < 8 := by omega
  refine ⟨⟨(i 0).val / 512, ht⟩, flush2_7 _, ?_⟩
  show i ∈ ((View.whole main_v2_1).slice (win2_7.rect ⟨(i 0).val / 512, ht⟩)).set
  rw [View.set_slice_whole, Rect.mem_set_unit]
  have hp := (place2 ⟨(i 0).val / 512, ht⟩).2.2.2.2.2.2.2.1
  refine in_place ((i 0).val / 512) 0 512 1024 ?_ ?_ ?_ ?_ ?_
  exacts [congrArg (· * 512) hp.1, congrArg (· * 1024) hp.2, ⟨rfl, rfl⟩, by omega, by omega]

theorem covered2_8 (i : S4096x1024.Idx) : ∃ t : Fin cfg2.N, (cfg2.win 8).flush t = true ∧ i ∈ ((cfg2.win 8).blk t).view.set := by
  have h0 : (i 0).val < 4096 := (i 0).isLt
  have h1 : (i 1).val < 1024 := (i 1).isLt
  have ht : (i 0).val / 512 < 8 := by omega
  refine ⟨⟨(i 0).val / 512, ht⟩, flush2_8 _, ?_⟩
  show i ∈ ((View.whole main_v2_2).slice (win2_8.rect ⟨(i 0).val / 512, ht⟩)).set
  rw [View.set_slice_whole, Rect.mem_set_unit]
  have hp := (place2 ⟨(i 0).val / 512, ht⟩).2.2.2.2.2.2.2.2.1
  refine in_place ((i 0).val / 512) 0 512 1024 ?_ ?_ ?_ ?_ ?_
  exacts [congrArg (· * 512) hp.1, congrArg (· * 1024) hp.2, ⟨rfl, rfl⟩, by omega, by omega]

theorem covered2_9 (i : S4096x1024.Idx) : ∃ t : Fin cfg2.N, (cfg2.win 9).flush t = true ∧ i ∈ ((cfg2.win 9).blk t).view.set := by
  have h0 : (i 0).val < 4096 := (i 0).isLt
  have h1 : (i 1).val < 1024 := (i 1).isLt
  have ht : (i 0).val / 512 < 8 := by omega
  refine ⟨⟨(i 0).val / 512, ht⟩, flush2_9 _, ?_⟩
  show i ∈ ((View.whole main_v2_3).slice (win2_9.rect ⟨(i 0).val / 512, ht⟩)).set
  rw [View.set_slice_whole, Rect.mem_set_unit]
  have hp := (place2 ⟨(i 0).val / 512, ht⟩).2.2.2.2.2.2.2.2.2
  refine in_place ((i 0).val / 512) 0 512 1024 ?_ ?_ ?_ ?_ ?_
  exacts [congrArg (· * 512) hp.1, congrArg (· * 1024) hp.2, ⟨rfl, rfl⟩, by omega, by omega]

/-! ## The result arrays -/

section
variable (V : (c : Dev nD) → (b : Ref sig .tc) → Buf (Elt Ideal) ((c : Thread nD τ).loc b)) (c : Dev nD) (A B U W X D Q : EMat)

theorem res0_6 (hA : V c main_arg1 = ev S4096x512 .bf16 A) (hB : V c main_arg2 = ev S4096x512 .bf16 B) (hU : V c main_arg3 = ev S512x1024 .bf16 U) (hW : V c main_arg4 = ev S512x1024 .bf16 W) (hQ : V c main_arg0 = ev S4096x5120 .bf16 Q) : (dat0 V c).arrAt 6 cfg0.N = ev S4096x1024 .bf16 (nnF 512 A U) := by
  refine (dat0 V c).arrAt_eq_of_cover 6 (ev S4096x1024 .bf16 (nnF 512 A U)) (fun t _ => ?_) covered0_6
  show (cfg0.win 6).cut (grid0.coords t) ((dat0 V c).after 6 t) = _
  have e0 : iblk0 V c 0 t = ev S1024x512 .bf16 (subE A (1024 * t.val)) := (congrArg (((cfg0.win 0).blk t).view.read (Elt Ideal)) hA).trans (shown0_0 A t)
  have e1 : iblk0 V c 1 t = ev S1024x512 .bf16 (subE B (1024 * t.val)) := (congrArg (((cfg0.win 1).blk t).view.read (Elt Ideal)) hB).trans (shown0_1 B t)
  have e2 : iblk0 V c 2 t = ev S512x1024 .bf16 U := (congrArg (((cfg0.win 2).blk t).view.read (Elt Ideal)) hU).trans (shown0_2 U t)
  have e3 : iblk0 V c 3 t = ev S512x1024 .bf16 W := (congrArg (((cfg0.win 3).blk t).view.read (Elt Ideal)) hW).trans (shown0_3 W t)
  have e4 : iblk0 V c 4 t = ev S1024x1024 .bf16 (subE (rightF 3072 Q) (1024 * t.val)) := (congrArg (((cfg0.win 4).blk t).view.read (Elt Ideal)) hQ).trans (shown0_4 Q t)
  have e5 : iblk0 V c 5 t = ev S1024x1024 .bf16 (subE (rightF 4096 Q) (1024 * t.val)) := (congrArg (((cfg0.win 5).blk t).view.read (Elt Ideal)) hQ).trans (shown0_5 Q t)
  have e : (dat0 V c).after 6 t = ev S1024x1024 .bf16 (subE (nnF 512 A U) (1024 * t.val)) := by
    rw [after0_6, e0, e1, e2, e3, e4, e5]
    exact out0_6_ev (subE A (1024 * t.val)) (subE B (1024 * t.val)) U W (subE (rightF 3072 Q) (1024 * t.val)) (subE (rightF 4096 Q) (1024 * t.val))
  rw [e, shown0_6]
  rfl

theorem res0_7 (hA : V c main_arg1 = ev S4096x512 .bf16 A) (hB : V c main_arg2 = ev S4096x512 .bf16 B) (hU : V c main_arg3 = ev S512x1024 .bf16 U) (hW : V c main_arg4 = ev S512x1024 .bf16 W) (hQ : V c main_arg0 = ev S4096x5120 .bf16 Q) : (dat0 V c).arrAt 7 cfg0.N = ev S4096x1024 .bf16 (nnF 512 B W) := by
  refine (dat0 V c).arrAt_eq_of_cover 7 (ev S4096x1024 .bf16 (nnF 512 B W)) (fun t _ => ?_) covered0_7
  show (cfg0.win 7).cut (grid0.coords t) ((dat0 V c).after 7 t) = _
  have e0 : iblk0 V c 0 t = ev S1024x512 .bf16 (subE A (1024 * t.val)) := (congrArg (((cfg0.win 0).blk t).view.read (Elt Ideal)) hA).trans (shown0_0 A t)
  have e1 : iblk0 V c 1 t = ev S1024x512 .bf16 (subE B (1024 * t.val)) := (congrArg (((cfg0.win 1).blk t).view.read (Elt Ideal)) hB).trans (shown0_1 B t)
  have e2 : iblk0 V c 2 t = ev S512x1024 .bf16 U := (congrArg (((cfg0.win 2).blk t).view.read (Elt Ideal)) hU).trans (shown0_2 U t)
  have e3 : iblk0 V c 3 t = ev S512x1024 .bf16 W := (congrArg (((cfg0.win 3).blk t).view.read (Elt Ideal)) hW).trans (shown0_3 W t)
  have e4 : iblk0 V c 4 t = ev S1024x1024 .bf16 (subE (rightF 3072 Q) (1024 * t.val)) := (congrArg (((cfg0.win 4).blk t).view.read (Elt Ideal)) hQ).trans (shown0_4 Q t)
  have e5 : iblk0 V c 5 t = ev S1024x1024 .bf16 (subE (rightF 4096 Q) (1024 * t.val)) := (congrArg (((cfg0.win 5).blk t).view.read (Elt Ideal)) hQ).trans (shown0_5 Q t)
  have e : (dat0 V c).after 7 t = ev S1024x1024 .bf16 (subE (nnF 512 B W) (1024 * t.val)) := by
    rw [after0_7, e0, e1, e2, e3, e4, e5]
    exact out0_7_ev (subE A (1024 * t.val)) (subE B (1024 * t.val)) U W (subE (rightF 3072 Q) (1024 * t.val)) (subE (rightF 4096 Q) (1024 * t.val))
  rw [e, shown0_7]
  rfl

theorem res0_8 (hA : V c main_arg1 = ev S4096x512 .bf16 A) (hB : V c main_arg2 = ev S4096x512 .bf16 B) (hU : V c main_arg3 = ev S512x1024 .bf16 U) (hW : V c main_arg4 = ev S512x1024 .bf16 W) (hQ : V c main_arg0 = ev S4096x5120 .bf16 Q) : (dat0 V c).arrAt 8 cfg0.N = ev S4096x1024 .bf16 (mergedF (rightF 3072 Q) (rightF 4096 Q) (nnF 512 A U) (nnF 512 B W)) := by
  refine (dat0 V c).arrAt_eq_of_cover 8 (ev S4096x1024 .bf16 (mergedF (rightF 3072 Q) (rightF 4096 Q) (nnF 512 A U) (nnF 512 B W))) (fun t _ => ?_) covered0_8
  show (cfg0.win 8).cut (grid0.coords t) ((dat0 V c).after 8 t) = _
  have e0 : iblk0 V c 0 t = ev S1024x512 .bf16 (subE A (1024 * t.val)) := (congrArg (((cfg0.win 0).blk t).view.read (Elt Ideal)) hA).trans (shown0_0 A t)
  have e1 : iblk0 V c 1 t = ev S1024x512 .bf16 (subE B (1024 * t.val)) := (congrArg (((cfg0.win 1).blk t).view.read (Elt Ideal)) hB).trans (shown0_1 B t)
  have e2 : iblk0 V c 2 t = ev S512x1024 .bf16 U := (congrArg (((cfg0.win 2).blk t).view.read (Elt Ideal)) hU).trans (shown0_2 U t)
  have e3 : iblk0 V c 3 t = ev S512x1024 .bf16 W := (congrArg (((cfg0.win 3).blk t).view.read (Elt Ideal)) hW).trans (shown0_3 W t)
  have e4 : iblk0 V c 4 t = ev S1024x1024 .bf16 (subE (rightF 3072 Q) (1024 * t.val)) := (congrArg (((cfg0.win 4).blk t).view.read (Elt Ideal)) hQ).trans (shown0_4 Q t)
  have e5 : iblk0 V c 5 t = ev S1024x1024 .bf16 (subE (rightF 4096 Q) (1024 * t.val)) := (congrArg (((cfg0.win 5).blk t).view.read (Elt Ideal)) hQ).trans (shown0_5 Q t)
  have e : (dat0 V c).after 8 t = ev S1024x1024 .bf16 (subE (mergedF (rightF 3072 Q) (rightF 4096 Q) (nnF 512 A U) (nnF 512 B W)) (1024 * t.val)) := by
    rw [after0_8, e0, e1, e2, e3, e4, e5]
    exact out0_8_ev (subE A (1024 * t.val)) (subE B (1024 * t.val)) U W (subE (rightF 3072 Q) (1024 * t.val)) (subE (rightF 4096 Q) (1024 * t.val))
  rw [e, shown0_8]
  rfl

theorem res1_3 (hA : V c main_v0_2 = ev S4096x1024 .bf16 A) (hU : V c main_arg5 = ev S1024x1024 .bf16 U) (hX : V c main_arg6 = ev S4096x1024 .f32 X) : (dat1 V c).arrAt 3 cfg1.N = ev S4096x1024 .f32 (X + nnF 1024 A U) := by
  refine (dat1 V c).arrAt_eq_of_cover 3 (ev S4096x1024 .f32 (X + nnF 1024 A U)) (fun t _ => ?_) covered1_3
  show (cfg1.win 3).cut (grid1.coords t) ((dat1 V c).after 3 t) = _
  have e0 : iblk1 V c 0 t = ev S1024x1024 .bf16 (subE A (1024 * t.val)) := (congrArg (((cfg1.win 0).blk t).view.read (Elt Ideal)) hA).trans (shown1_0 A t)
  have e1 : iblk1 V c 1 t = ev S1024x1024 .bf16 U := (congrArg (((cfg1.win 1).blk t).view.read (Elt Ideal)) hU).trans (shown1_1 U t)
  have e2 : iblk1 V c 2 t = ev S1024x1024 .f32 (subE X (1024 * t.val)) := (congrArg (((cfg1.win 2).blk t).view.read (Elt Ideal)) hX).trans (shown1_2 X t)
  have e : (dat1 V c).after 3 t = ev S1024x1024 .f32 (subE (X + nnF 1024 A U) (1024 * t.val)) := by
    rw [after1_3, e0, e1, e2]
    exact out1_3_ev (subE A (1024 * t.val)) U (subE X (1024 * t.val))
  rw [e, shown1_3]
  rfl

theorem res2_6 (hD : V c main_arg7 = ev S4096x1024 .bf16 D) (hW : V c main_arg5 = ev S1024x1024 .bf16 W) (hQ : V c main_arg0 = ev S4096x5120 .bf16 Q) (hA : V c main_v0_0 = ev S4096x1024 .bf16 A) (hB : V c main_v0_1 = ev S4096x1024 .bf16 B) : (dat2 V c).arrAt 6 cfg2.N = ev S4096x1024 .bf16 (dbranchF (ntF 1024 D W) (rightF 3072 Q)) := by
  refine (dat2 V c).arrAt_eq_of_cover 6 (ev S4096x1024 .bf16 (dbranchF (ntF 1024 D W) (rightF 3072 Q))) (fun t _ => ?_) covered2_6
  show (cfg2.win 6).cut (grid2.coords t) ((dat2 V c).after 6 t) = _
  have e0 : iblk2 V c 0 t = ev S512x1024 .bf16 (subE D (512 * t.val)) := (congrArg (((cfg2.win 0).blk t).view.read (Elt Ideal)) hD).trans (shown2_0 D t)
  have e1 : iblk2 V c 1 t = ev S1024x1024 .bf16 W := (congrArg (((cfg2.win 1).blk t).view.read (Elt Ideal)) hW).trans (shown2_1 W t)
  have e2 : iblk2 V c 2 t = ev S512x1024 .bf16 (subE (rightF 3072 Q) (512 * t.val)) := (congrArg (((cfg2.win 2).blk t).view.read (Elt Ideal)) hQ).trans (shown2_2 Q t)
  have e3 : iblk2 V c 3 t = ev S512x1024 .bf16 (subE (rightF 4096 Q) (512 * t.val)) := (congrArg (((cfg2.win 3).blk t).view.read (Elt Ideal)) hQ).trans (shown2_3 Q t)
  have e4 : iblk2 V c 4 t = ev S512x1024 .bf16 (subE A (512 * t.val)) := (congrArg (((cfg2.win 4).blk t).view.read (Elt Ideal)) hA).trans (shown2_4 A t)
  have e5 : iblk2 V c 5 t = ev S512x1024 .bf16 (subE B (512 * t.val)) := (congrArg (((cfg2.win 5).blk t).view.read (Elt Ideal)) hB).trans (shown2_5 B t)
  have e : (dat2 V c).after 6 t = ev S512x1024 .bf16 (subE (dbranchF (ntF 1024 D W) (rightF 3072 Q)) (512 * t.val)) := by
    rw [after2_6, e0, e1, e2, e3, e4, e5]
    exact out2_6_ev (subE A (512 * t.val)) (subE B (512 * t.val)) W (subE (rightF 3072 Q) (512 * t.val)) (subE (rightF 4096 Q) (512 * t.val)) (subE D (512 * t.val))
  rw [e, shown2_6]
  rfl

theorem res2_7 (hD : V c main_arg7 = ev S4096x1024 .bf16 D) (hW : V c main_arg5 = ev S1024x1024 .bf16 W) (hQ : V c main_arg0 = ev S4096x5120 .bf16 Q) (hA : V c main_v0_0 = ev S4096x1024 .bf16 A) (hB : V c main_v0_1 = ev S4096x1024 .bf16 B) : (dat2 V c).arrAt 7 cfg2.N = ev S4096x1024 .bf16 (dbranchF (ntF 1024 D W) (rightF 4096 Q)) := by
  refine (dat2 V c).arrAt_eq_of_cover 7 (ev S4096x1024 .bf16 (dbranchF (ntF 1024 D W) (rightF 4096 Q))) (fun t _ => ?_) covered2_7
  show (cfg2.win 7).cut (grid2.coords t) ((dat2 V c).after 7 t) = _
  have e0 : iblk2 V c 0 t = ev S512x1024 .bf16 (subE D (512 * t.val)) := (congrArg (((cfg2.win 0).blk t).view.read (Elt Ideal)) hD).trans (shown2_0 D t)
  have e1 : iblk2 V c 1 t = ev S1024x1024 .bf16 W := (congrArg (((cfg2.win 1).blk t).view.read (Elt Ideal)) hW).trans (shown2_1 W t)
  have e2 : iblk2 V c 2 t = ev S512x1024 .bf16 (subE (rightF 3072 Q) (512 * t.val)) := (congrArg (((cfg2.win 2).blk t).view.read (Elt Ideal)) hQ).trans (shown2_2 Q t)
  have e3 : iblk2 V c 3 t = ev S512x1024 .bf16 (subE (rightF 4096 Q) (512 * t.val)) := (congrArg (((cfg2.win 3).blk t).view.read (Elt Ideal)) hQ).trans (shown2_3 Q t)
  have e4 : iblk2 V c 4 t = ev S512x1024 .bf16 (subE A (512 * t.val)) := (congrArg (((cfg2.win 4).blk t).view.read (Elt Ideal)) hA).trans (shown2_4 A t)
  have e5 : iblk2 V c 5 t = ev S512x1024 .bf16 (subE B (512 * t.val)) := (congrArg (((cfg2.win 5).blk t).view.read (Elt Ideal)) hB).trans (shown2_5 B t)
  have e : (dat2 V c).after 7 t = ev S512x1024 .bf16 (subE (dbranchF (ntF 1024 D W) (rightF 4096 Q)) (512 * t.val)) := by
    rw [after2_7, e0, e1, e2, e3, e4, e5]
    exact out2_7_ev (subE A (512 * t.val)) (subE B (512 * t.val)) W (subE (rightF 3072 Q) (512 * t.val)) (subE (rightF 4096 Q) (512 * t.val)) (subE D (512 * t.val))
  rw [e, shown2_7]
  rfl

theorem res2_8 (hD : V c main_arg7 = ev S4096x1024 .bf16 D) (hW : V c main_arg5 = ev S1024x1024 .bf16 W) (hQ : V c main_arg0 = ev S4096x5120 .bf16 Q) (hA : V c main_v0_0 = ev S4096x1024 .bf16 A) (hB : V c main_v0_1 = ev S4096x1024 .bf16 B) : (dat2 V c).arrAt 8 cfg2.N = ev S4096x1024 .bf16 (dgateF (ntF 1024 D W) A (rightF 3072 Q)) := by
  refine (dat2 V c).arrAt_eq_of_cover 8 (ev S4096x1024 .bf16 (dgateF (ntF 1024 D W) A (rightF 3072 Q))) (fun t _ => ?_) covered2_8
  show (cfg2.win 8).cut (grid2.coords t) ((dat2 V c).after 8 t) = _
  have e0 : iblk2 V c 0 t = ev S512x1024 .bf16 (subE D (512 * t.val)) := (congrArg (((cfg2.win 0).blk t).view.read (Elt Ideal)) hD).trans (shown2_0 D t)
  have e1 : iblk2 V c 1 t = ev S1024x1024 .bf16 W := (congrArg (((cfg2.win 1).blk t).view.read (Elt Ideal)) hW).trans (shown2_1 W t)
  have e2 : iblk2 V c 2 t = ev S512x1024 .bf16 (subE (rightF 3072 Q) (512 * t.val)) := (congrArg (((cfg2.win 2).blk t).view.read (Elt Ideal)) hQ).trans (shown2_2 Q t)
  have e3 : iblk2 V c 3 t = ev S512x1024 .bf16 (subE (rightF 4096 Q) (512 * t.val)) := (congrArg (((cfg2.win 3).blk t).view.read (Elt Ideal)) hQ).trans (shown2_3 Q t)
  have e4 : iblk2 V c 4 t = ev S512x1024 .bf16 (subE A (512 * t.val)) := (congrArg (((cfg2.win 4).blk t).view.read (Elt Ideal)) hA).trans (shown2_4 A t)
  have e5 : iblk2 V c 5 t = ev S512x1024 .bf16 (subE B (512 * t.val)) := (congrArg (((cfg2.win 5).blk t).view.read (Elt Ideal)) hB).trans (shown2_5 B t)
  have e : (dat2 V c).after 8 t = ev S512x1024 .bf16 (subE (dgateF (ntF 1024 D W) A (rightF 3072 Q)) (512 * t.val)) := by
    rw [after2_8, e0, e1, e2, e3, e4, e5]
    exact out2_8_ev (subE A (512 * t.val)) (subE B (512 * t.val)) W (subE (rightF 3072 Q) (512 * t.val)) (subE (rightF 4096 Q) (512 * t.val)) (subE D (512 * t.val))
  rw [e, shown2_8]
  rfl

theorem res2_9 (hD : V c main_arg7 = ev S4096x1024 .bf16 D) (hW : V c main_arg5 = ev S1024x1024 .bf16 W) (hQ : V c main_arg0 = ev S4096x5120 .bf16 Q) (hA : V c main_v0_0 = ev S4096x1024 .bf16 A) (hB : V c main_v0_1 = ev S4096x1024 .bf16 B) : (dat2 V c).arrAt 9 cfg2.N = ev S4096x1024 .bf16 (dgateF (ntF 1024 D W) B (rightF 4096 Q)) := by
  refine (dat2 V c).arrAt_eq_of_cover 9 (ev S4096x1024 .bf16 (dgateF (ntF 1024 D W) B (rightF 4096 Q))) (fun t _ => ?_) covered2_9
  show (cfg2.win 9).cut (grid2.coords t) ((dat2 V c).after 9 t) = _
  have e0 : iblk2 V c 0 t = ev S512x1024 .bf16 (subE D (512 * t.val)) := (congrArg (((cfg2.win 0).blk t).view.read (Elt Ideal)) hD).trans (shown2_0 D t)
  have e1 : iblk2 V c 1 t = ev S1024x1024 .bf16 W := (congrArg (((cfg2.win 1).blk t).view.read (Elt Ideal)) hW).trans (shown2_1 W t)
  have e2 : iblk2 V c 2 t = ev S512x1024 .bf16 (subE (rightF 3072 Q) (512 * t.val)) := (congrArg (((cfg2.win 2).blk t).view.read (Elt Ideal)) hQ).trans (shown2_2 Q t)
  have e3 : iblk2 V c 3 t = ev S512x1024 .bf16 (subE (rightF 4096 Q) (512 * t.val)) := (congrArg (((cfg2.win 3).blk t).view.read (Elt Ideal)) hQ).trans (shown2_3 Q t)
  have e4 : iblk2 V c 4 t = ev S512x1024 .bf16 (subE A (512 * t.val)) := (congrArg (((cfg2.win 4).blk t).view.read (Elt Ideal)) hA).trans (shown2_4 A t)
  have e5 : iblk2 V c 5 t = ev S512x1024 .bf16 (subE B (512 * t.val)) := (congrArg (((cfg2.win 5).blk t).view.read (Elt Ideal)) hB).trans (shown2_5 B t)
  have e : (dat2 V c).after 9 t = ev S512x1024 .bf16 (subE (dgateF (ntF 1024 D W) B (rightF 4096 Q)) (512 * t.val)) := by
    rw [after2_9, e0, e1, e2, e3, e4, e5]
    exact out2_9_ev (subE A (512 * t.val)) (subE B (512 * t.val)) W (subE (rightF 3072 Q) (512 * t.val)) (subE (rightF 4096 Q) (512 * t.val)) (subE D (512 * t.val))
  rw [e, shown2_9]
  rfl

end

end Cert.Ffn.Merge

end
-- ==== Proof.MergeProducts.lean ====
/-
  The last five launches of the sixth program, on extended reals: the gradients of the projection of the merged branches, of the two branch projections, and of what these project.
-/
module

public import proofs.«01_k».proof.Proof.Places
public import proofs.«01_k».proof.Proof.MergeMath
public import proofs.«01_k».proof.Proof.Gen.Kernel6Ideal.Frame
public import Idealize.ShloMosaic.Lib.ValueIdx

@[expose] public section

noncomputable section

namespace Cert.Ffn.Merge

open Cert.Attn (ofBits_one)
open Cert.Kernel6Ideal Cert.Kernel6Ideal.Gen
open Idealize.ShloMosaic Idealize.ShloMosaic.TcCoe
open Idealize.SL.Sem
open Idealize.ShloMosaic.Pipeline (Dat Cfg Window)

/-! ## From one block -/

section
variable (A B : EMat)

theorem pay3_ev : k3_pay1 (F := Ideal) (ev S4096x1024 .bf16 A) (ev S4096x512 .bf16 B) = ev S1024x512 .bf16 (tnF 4096 A B) := by
  unfold k3_pay1
  rw [ev_shapeCast, ev_constant]
  exact congrArg (fun v => truncf .bf16 v bitsLt_bf16_f32) (ev_tn A B dot_S4096x1024_S4096x512_S1024x512_0_0_1_1_n_n rfl rfl (fun _ _ => ⟨rfl, rfl⟩) (fun _ _ => ⟨rfl, rfl⟩))

theorem out3_2_ev : out3_2 (F := Ideal) (ev S4096x1024 .bf16 A) (ev S4096x512 .bf16 B) = ev S1024x512 .bf16 (tnF 4096 A B) := by
  unfold out3_2
  rw [View.canon_unit_zero origin, View.ld_unit_zero (S := S4096x1024) origin, View.ld_unit_zero (S := S4096x512) origin]
  exact pay3_ev A B

theorem pay4_ev : k4_pay1 (F := Ideal) (ev S1024x1024 .bf16 A) (ev S512x1024 .bf16 B) = ev S1024x512 .bf16 (ntF 1024 A B) := by
  unfold k4_pay1
  rw [ev_shapeCast, ev_constant]
  exact congrArg (fun v => truncf .bf16 v bitsLt_bf16_f32) (ev_nt' A B dot_S1024x1024_S512x1024_S1024x512_1_1_0_0_n_n rfl rfl (fun _ _ => ⟨rfl, rfl⟩) (fun _ _ => ⟨rfl, rfl⟩))

theorem out4_2_ev : out4_2 (F := Ideal) (ev S1024x1024 .bf16 A) (ev S512x1024 .bf16 B) = ev S1024x512 .bf16 (ntF 1024 A B) := by
  unfold out4_2
  rw [View.canon_unit_zero origin, View.ld_unit_zero (S := S1024x1024) origin, View.ld_unit_zero (S := S512x1024) origin]
  exact pay4_ev A B

theorem pay5_ev : k5_pay1 (F := Ideal) (ev S4096x512 .bf16 A) (ev S4096x512 .bf16 B) = ev S512x512 .bf16 (tnF 4096 A B) := by
  unfold k5_pay1
  rw [ev_shapeCast, ev_constant]
  exact congrArg (fun v => truncf .bf16 v bitsLt_bf16_f32) (ev_tn A B dot_S4096x512_S4096x512_S512x512_0_0_1_1_n_n rfl rfl (fun _ _ => ⟨rfl, rfl⟩) (fun _ _ => ⟨rfl, rfl⟩))

theorem out5_2_ev : out5_2 (F := Ideal) (ev S4096x512 .bf16 A) (ev S4096x512 .bf16 B) = ev S512x512 .bf16 (tnF 4096 A B) := by
  unfold out5_2
  rw [View.canon_unit_zero origin, View.ld_unit_zero (S := S4096x512) origin, View.ld_unit_zero (S := S4096x512) origin]
  exact pay5_ev A B

theorem pay6_ev : k6_pay1 (F := Ideal) (ev S1024x1024 .bf16 A) (ev S512x1024 .bf16 B) = ev S1024x512 .bf16 (ntF 1024 A B) := by
  unfold k6_pay1
  rw [ev_shapeCast, ev_constant]
  exact congrArg (fun v => truncf .bf16 v bitsLt_bf16_f32) (ev_nt' A B dot_S1024x1024_S512x1024_S1024x512_1_1_0_0_n_n rfl rfl (fun _ _ => ⟨rfl, rfl⟩) (fun _ _ => ⟨rfl, rfl⟩))

theorem out6_2_ev : out6_2 (F := Ideal) (ev S1024x1024 .bf16 A) (ev S512x1024 .bf16 B) = ev S1024x512 .bf16 (ntF 1024 A B) := by
  unfold out6_2
  rw [View.canon_unit_zero origin, View.ld_unit_zero (S := S1024x1024) origin, View.ld_unit_zero (S := S512x1024) origin]
  exact pay6_ev A B

theorem pay7_ev : k7_pay1 (F := Ideal) (ev S4096x512 .bf16 A) (ev S4096x512 .bf16 B) = ev S512x512 .bf16 (tnF 4096 A B) := by
  unfold k7_pay1
  rw [ev_shapeCast, ev_constant]
  exact congrArg (fun v => truncf .bf16 v bitsLt_bf16_f32) (ev_tn A B dot_S4096x512_S4096x512_S512x512_0_0_1_1_n_n rfl rfl (fun _ _ => ⟨rfl, rfl⟩) (fun _ _ => ⟨rfl, rfl⟩))

theorem out7_2_ev : out7_2 (F := Ideal) (ev S4096x512 .bf16 A) (ev S4096x512 .bf16 B) = ev S512x512 .bf16 (tnF 4096 A B) := by
  unfold out7_2
  rw [View.canon_unit_zero origin, View.ld_unit_zero (S := S4096x512) origin, View.ld_unit_zero (S := S4096x512) origin]
  exact pay7_ev A B

end

/-! ## The windows' places -/

theorem place3 : ∀ t : Fin grid3.N, (win3_0.index t 0 = 0 ∧ win3_0.index t 1 = 0) ∧ (win3_1.index t 0 = 0 ∧ win3_1.index t 1 = t.val) ∧ (win3_2.index t 0 = 0 ∧ win3_2.index t 1 = t.val) := by decide +kernel

theorem place4 : ∀ t : Fin grid4.N, (win4_0.index t 0 = t.val ∧ win4_0.index t 1 = 0) ∧ (win4_1.index t 0 = 0 ∧ win4_1.index t 1 = 0) ∧ (win4_2.index t 0 = t.val ∧ win4_2.index t 1 = 0) := by decide +kernel

theorem place5 : ∀ t : Fin grid5.N, (win5_0.index t 0 = 0 ∧ win5_0.index t 1 = 0) ∧ (win5_1.index t 0 = 0 ∧ win5_1.index t 1 = t.val) ∧ (win5_2.index t 0 = 0 ∧ win5_2.index t 1 = t.val) := by decide +kernel

theorem place6 : ∀ t : Fin grid6.N, (win6_0.index t 0 = t.val ∧ win6_0.index t 1 = 0) ∧ (win6_1.index t 0 = 0 ∧ win6_1.index t 1 = 0) ∧ (win6_2.index t 0 = t.val ∧ win6_2.index t 1 = 0) := by decide +kernel

theorem place7 : ∀ t : Fin grid7.N, (win7_0.index t 0 = 0 ∧ win7_0.index t 1 = 0) ∧ (win7_1.index t 0 = 0 ∧ win7_1.index t 1 = t.val) ∧ (win7_2.index t 0 = 0 ∧ win7_2.index t 1 = t.val) := by decide +kernel

/-! ## What the windows show -/

section
variable (X : EMat) (t : Fin cfg3.N)

theorem shown3_0 : ((cfg3.win 0).blk t).view.read (Elt Ideal) (ev S4096x1024 .bf16 X) = ev S4096x1024 .bf16 X :=
  shown_all X (at_place win3_0 rfl (place3 t).1)

theorem shown3_1 : ((cfg3.win 1).blk t).view.read (Elt Ideal) (ev S4096x1024 .bf16 X) = ev S4096x512 .bf16 (rightF (512 * t.val) X) :=
  shown_cols X (at_place win3_1 rfl (place3 t).2.1)

theorem shown3_2 : ((cfg3.win 2).blk t).view.read (Elt Ideal) (ev S1024x1024 .bf16 X) = ev S1024x512 .bf16 (rightF (512 * t.val) X) :=
  shown_cols X (at_place win3_2 rfl (place3 t).2.2)

end

section
variable (X : EMat) (t : Fin cfg4.N)

theorem shown4_0 : ((cfg4.win 0).blk t).view.read (Elt Ideal) (ev S4096x1024 .bf16 X) = ev S1024x1024 .bf16 (subE X (1024 * t.val)) :=
  shown_rows X (at_place win4_0 rfl (place4 t).1)

theorem shown4_1 : ((cfg4.win 1).blk t).view.read (Elt Ideal) (ev S512x1024 .bf16 X) = ev S512x1024 .bf16 X :=
  shown_all X (at_place win4_1 rfl (place4 t).2.1)

theorem shown4_2 : ((cfg4.win 2).blk t).view.read (Elt Ideal) (ev S4096x512 .bf16 X) = ev S1024x512 .bf16 (subE X (1024 * t.val)) :=
  shown_rows X (at_place win4_2 rfl (place4 t).2.2)

end

section
variable (X : EMat) (t : Fin cfg5.N)

theorem shown5_0 : ((cfg5.win 0).blk t).view.read (Elt Ideal) (ev S4096x512 .bf16 X) = ev S4096x512 .bf16 X :=
  shown_all X (at_place win5_0 rfl (place5 t).1)

theorem shown5_1 : ((cfg5.win 1).blk t).view.read (Elt Ideal) (ev S4096x1024 .bf16 X) = ev S4096x512 .bf16 (rightF (512 * t.val) X) :=
  shown_cols X (at_place win5_1 rfl (place5 t).2.1)

theorem shown5_2 : ((cfg5.win 2).blk t).view.read (Elt Ideal) (ev S512x1024 .bf16 X) = ev S512x512 .bf16 (rightF (512 * t.val) X) :=
  shown_cols X (at_place win5_2 rfl (place5 t).2.2)

end

section
variable (X : EMat) (t : Fin cfg6.N)

theorem shown6_0 : ((cfg6.win 0).blk t).view.read (Elt Ideal) (ev S4096x1024 .bf16 X) = ev S1024x1024 .bf16 (subE X (1024 * t.val)) :=
  shown_rows X (at_place win6_0 rfl (place6 t).1)

theorem shown6_1 : ((cfg6.win 1).blk t).view.read (Elt Ideal) (ev S512x1024 .bf16 X) = ev S512x1024 .bf16 X :=
  shown_all X (at_place win6_1 rfl (place6 t).2.1)

theorem shown6_2 : ((cfg6.win 2).blk t).view.read (Elt Ideal) (ev S4096x512 .bf16 X) = ev S1024x512 .bf16 (subE X (1024 * t.val)) :=
  shown_rows X (at_place win6_2 rfl (place6 t).2.2)

end

section
variable (X : EMat) (t : Fin cfg7.N)

theorem shown7_0 : ((cfg7.win 0).blk t).view.read (Elt Ideal) (ev S4096x512 .bf16 X) = ev S4096x512 .bf16 X :=
  shown_all X (at_place win7_0 rfl (place7 t).1)

theorem shown7_1 : ((cfg7.win 1).blk t).view.read (Elt Ideal) (ev S4096x1024 .bf16 X) = ev S4096x512 .bf16 (rightF (512 * t.val) X) :=
  shown_cols X (at_place win7_1 rfl (place7 t).2.1)

theorem shown7_2 : ((cfg7.win 2).blk t).view.read (Elt Ideal) (ev S512x1024 .bf16 X) = ev S512x512 .bf16 (rightF (512 * t.val) X) :=
  shown_cols X (at_place win7_2 rfl (place7 t).2.2)

end

/-! ## Every index lies in some window written back -/

theorem covered3_2 (i : S1024x1024.Idx) : ∃ t : Fin cfg3.N, (cfg3.win 2).flush t = true ∧ i ∈ ((cfg3.win 2).blk t).view.set := by
  have h0 : (i 0).val < 1024 := (i 0).isLt
  have h1 : (i 1).val < 1024 := (i 1).isLt
  have ht : (i 1).val / 512 < 2 := by omega
  refine ⟨⟨(i 1).val / 512, ht⟩, flush3_2 _, ?_⟩
  show i ∈ ((View.whole main_v3).slice (win3_2.rect ⟨(i 1).val / 512, ht⟩)).set
  rw [View.set_slice_whole, Rect.mem_set_unit]
  have hp := (place3 ⟨(i 1).val / 512, ht⟩).2.2
  refine in_place 0 ((i 1).val / 512) 1024 512 ?_ ?_ ?_ ?_ ?_
  exacts [congrArg (· * 1024) hp.1, congrArg (· * 512) hp.2, ⟨rfl, rfl⟩, by omega, by omega]

theorem covered4_2 (i : S4096x512.Idx) : ∃ t : Fin cfg4.N, (cfg4.win 2).flush t = true ∧ i ∈ ((cfg4.win 2).blk t).view.set := by
  have h0 : (i 0).val < 4096 := (i 0).isLt
  have h1 : (i 1).val < 512 := (i 1).isLt
  have ht : (i 0).val / 1024 < 4 := by omega
  refine ⟨⟨(i 0).val / 1024, ht⟩, flush4_2 _, ?_⟩
  show i ∈ ((View.whole main_v4).slice (win4_2.rect ⟨(i 0).val / 1024, ht⟩)).set
  rw [View.set_slice_whole, Rect.mem_set_unit]
  have hp := (place4 ⟨(i 0).val / 1024, ht⟩).2.2
  refine in_place ((i 0).val / 1024) 0 1024 512 ?_ ?_ ?_ ?_ ?_
  exacts [congrArg (· * 1024) hp.1, congrArg (· * 512) hp.2, ⟨rfl, rfl⟩, by omega, by omega]

theorem covered5_2 (i : S512x1024.Idx) : ∃ t : Fin cfg5.N, (cfg5.win 2).flush t = true ∧ i ∈ ((cfg5.win 2).blk t).view.set := by
  have h0 : (i 0).val < 512 := (i 0).isLt
  have h1 : (i 1).val < 1024 := (i 1).isLt
  have ht : (i 1).val / 512 < 2 := by omega
  refine ⟨⟨(i 1).val / 512, ht⟩, flush5_2 _, ?_⟩
  show i ∈ ((View.whole main_v5).slice (win5_2.rect ⟨(i 1).val / 512, ht⟩)).set
  rw [View.set_slice_whole, Rect.mem_set_unit]
  have hp := (place5 ⟨(i 1).val / 512, ht⟩).2.2
  refine in_place 0 ((i 1).val / 512) 512 512 ?_ ?_ ?_ ?_ ?_
  exacts [congrArg (· * 512) hp.1, congrArg (· * 512) hp.2, ⟨rfl, rfl⟩, by omega, by omega]

theorem covered6_2 (i : S4096x512.Idx) : ∃ t : Fin cfg6.N, (cfg6.win 2).flush t = true ∧ i ∈ ((cfg6.win 2).blk t).view.set := by
  have h0 : (i 0).val < 4096 := (i 0).isLt
  have h1 : (i 1).val < 512 := (i 1).isLt
  have ht : (i 0).val / 1024 < 4 := by omega
  refine ⟨⟨(i 0).val / 1024, ht⟩, flush6_2 _, ?_⟩
  show i ∈ ((View.whole main_v6).slice (win6_2.rect ⟨(i 0).val / 1024, ht⟩)).set
  rw [View.set_slice_whole, Rect.mem_set_unit]
  have hp := (place6 ⟨(i 0).val / 1024, ht⟩).2.2
  refine in_place ((i 0).val / 1024) 0 1024 512 ?_ ?_ ?_ ?_ ?_
  exacts [congrArg (· * 1024) hp.1, congrArg (· * 512) hp.2, ⟨rfl, rfl⟩, by omega, by omega]

theorem covered7_2 (i : S512x1024.Idx) : ∃ t : Fin cfg7.N, (cfg7.win 2).flush t = true ∧ i ∈ ((cfg7.win 2).blk t).view.set := by
  have h0 : (i 0).val < 512 := (i 0).isLt
  have h1 : (i 1).val < 1024 := (i 1).isLt
  have ht : (i 1).val / 512 < 2 := by omega
  refine ⟨⟨(i 1).val / 512, ht⟩, flush7_2 _, ?_⟩
  show i ∈ ((View.whole main_v7).slice (win7_2.rect ⟨(i 1).val / 512, ht⟩)).set
  rw [View.set_slice_whole, Rect.mem_set_unit]
  have hp := (place7 ⟨(i 1).val / 512, ht⟩).2.2
  refine in_place 0 ((i 1).val / 512) 512 512 ?_ ?_ ?_ ?_ ?_
  exacts [congrArg (· * 512) hp.1, congrArg (· * 512) hp.2, ⟨rfl, rfl⟩, by omega, by omega]

/-! ## The result arrays -/

section
variable (V : (c : Dev nD) → (b : Ref sig .tc) → Buf (Elt Ideal) ((c : Thread nD τ).loc b)) (c : Dev nD) (A B U W X D Q : EMat)

theorem res3_2 (hA : V c main_v0_2 = ev S4096x1024 .bf16 A) (hB : V c main_arg7 = ev S4096x1024 .bf16 B) : (dat3 V c).arrAt 2 cfg3.N = ev S1024x1024 .bf16 (tnF 4096 A B) := by
  refine (dat3 V c).arrAt_eq_of_cover 2 (ev S1024x1024 .bf16 (tnF 4096 A B)) (fun t _ => ?_) covered3_2
  show (cfg3.win 2).cut (grid3.coords t) ((dat3 V c).after 2 t) = _
  have e0 : iblk3 V c 0 t = ev S4096x1024 .bf16 A := (congrArg (((cfg3.win 0).blk t).view.read (Elt Ideal)) hA).trans (shown3_0 A t)
  have e1 : iblk3 V c 1 t = ev S4096x512 .bf16 (rightF (512 * t.val) B) := (congrArg (((cfg3.win 1).blk t).view.read (Elt Ideal)) hB).trans (shown3_1 B t)
  have e : (dat3 V c).after 2 t = ev S1024x512 .bf16 (rightF (512 * t.val) (tnF 4096 A B)) := by
    rw [after3_2, e0, e1]
    exact out3_2_ev A (rightF (512 * t.val) B)
  rw [e, shown3_2]
  rfl

theorem res4_2 (hA : V c main_v2_0 = ev S4096x1024 .bf16 A) (hB : V c main_arg3 = ev S512x1024 .bf16 B) : (dat4 V c).arrAt 2 cfg4.N = ev S4096x512 .bf16 (ntF 1024 A B) := by
  refine (dat4 V c).arrAt_eq_of_cover 2 (ev S4096x512 .bf16 (ntF 1024 A B)) (fun t _ => ?_) covered4_2
  show (cfg4.win 2).cut (grid4.coords t) ((dat4 V c).after 2 t) = _
  have e0 : iblk4 V c 0 t = ev S1024x1024 .bf16 (subE A (1024 * t.val)) := (congrArg (((cfg4.win 0).blk t).view.read (Elt Ideal)) hA).trans (shown4_0 A t)
  have e1 : iblk4 V c 1 t = ev S512x1024 .bf16 B := (congrArg (((cfg4.win 1).blk t).view.read (Elt Ideal)) hB).trans (shown4_1 B t)
  have e : (dat4 V c).after 2 t = ev S1024x512 .bf16 (subE (ntF 1024 A B) (1024 * t.val)) := by
    rw [after4_2, e0, e1]
    exact out4_2_ev (subE A (1024 * t.val)) B
  rw [e, shown4_2]
  rfl

theorem res5_2 (hA : V c main_arg1 = ev S4096x512 .bf16 A) (hB : V c main_v2_0 = ev S4096x1024 .bf16 B) : (dat5 V c).arrAt 2 cfg5.N = ev S512x1024 .bf16 (tnF 4096 A B) := by
  refine (dat5 V c).arrAt_eq_of_cover 2 (ev S512x1024 .bf16 (tnF 4096 A B)) (fun t _ => ?_) covered5_2
  show (cfg5.win 2).cut (grid5.coords t) ((dat5 V c).after 2 t) = _
  have e0 : iblk5 V c 0 t = ev S4096x512 .bf16 A := (congrArg (((cfg5.win 0).blk t).view.read (Elt Ideal)) hA).trans (shown5_0 A t)
  have e1 : iblk5 V c 1 t = ev S4096x512 .bf16 (rightF (512 * t.val) B) := (congrArg (((cfg5.win 1).blk t).view.read (Elt Ideal)) hB).trans (shown5_1 B t)
  have e : (dat5 V c).after 2 t = ev S512x512 .bf16 (rightF (512 * t.val) (tnF 4096 A B)) := by
    rw [after5_2, e0, e1]
    exact out5_2_ev A (rightF (512 * t.val) B)
  rw [e, shown5_2]
  rfl

theorem res6_2 (hA : V c main_v2_1 = ev S4096x1024 .bf16 A) (hB : V c main_arg4 = ev S512x1024 .bf16 B) : (dat6 V c).arrAt 2 cfg6.N = ev S4096x512 .bf16 (ntF 1024 A B) := by
  refine (dat6 V c).arrAt_eq_of_cover 2 (ev S4096x512 .bf16 (ntF 1024 A B)) (fun t _ => ?_) covered6_2
  show (cfg6.win 2).cut (grid6.coords t) ((dat6 V c).after 2 t) = _
  have e0 : iblk6 V c 0 t = ev S1024x1024 .bf16 (subE A (1024 * t.val)) := (congrArg (((cfg6.win 0).blk t).view.read (Elt Ideal)) hA).trans (shown6_0 A t)
  have e1 : iblk6 V c 1 t = ev S512x1024 .bf16 B := (congrArg (((cfg6.win 1).blk t).view.read (Elt Ideal)) hB).trans (shown6_1 B t)
  have e : (dat6 V c).after 2 t = ev S1024x512 .bf16 (subE (ntF 1024 A B) (1024 * t.val)) := by
    rw [after6_2, e0, e1]
    exact out6_2_ev (subE A (1024 * t.val)) B
  rw [e, shown6_2]
  rfl

theorem res7_2 (hA : V c main_arg2 = ev S4096x512 .bf16 A) (hB : V c main_v2_1 = ev S4096x1024 .bf16 B) : (dat7 V c).arrAt 2 cfg7.N = ev S512x1024 .bf16 (tnF 4096 A B) := by
  refine (dat7 V c).arrAt_eq_of_cover 2 (ev S512x1024 .bf16 (tnF 4096 A B)) (fun t _ => ?_) covered7_2
  show (cfg7.win 2).cut (grid7.coords t) ((dat7 V c).after 2 t) = _
  have e0 : iblk7 V c 0 t = ev S4096x512 .bf16 A := (congrArg (((cfg7.win 0).blk t).view.read (Elt Ideal)) hA).trans (shown7_0 A t)
  have e1 : iblk7 V c 1 t = ev S4096x512 .bf16 (rightF (512 * t.val) B) := (congrArg (((cfg7.win 1).blk t).view.read (Elt Ideal)) hB).trans (shown7_1 B t)
  have e : (dat7 V c).after 2 t = ev S512x512 .bf16 (rightF (512 * t.val) (tnF 4096 A B)) := by
    rw [after7_2, e0, e1]
    exact out7_2_ev A (rightF (512 * t.val) B)
  rw [e, shown7_2]
  rfl

end

end Cert.Ffn.Merge

end
-- ==== Proof.MergeRun.lean ====
/-
  The whole sixth program: what its buffers hold between the launches, and what its eight results hold at the end.
-/
module

public import proofs.«01_k».proof.Proof.MergeGates
public import proofs.«01_k».proof.Proof.MergeProducts
public import Idealize.ShloMosaic.Lib.StableHlo.Run

@[expose] public section

noncomputable section

namespace Cert.Ffn.Merge

open Cert.Kernel6Ideal Cert.Kernel6Ideal.Gen
open Idealize.SL Idealize.SL.RA Idealize.SL.BI
open Idealize.ShloMosaic Idealize.ShloMosaic.TcCoe
open scoped Idealize.SL.BI
open Idealize.SL.BI.BIBase Idealize.SL.BI.Laws Idealize.SL.ProofMode Idealize.SL.Sem
open Idealize.ShloMosaic.Rounds

attribute [local instance] Cert.Kernel6Ideal.Gen.facts

/-! ## The buffers at each boundary -/

/-- What the eight arguments hold on device `c`. -/
structure Args (m : (ℓ : Loc nD τ sig) → Buf (Elt Ideal) ℓ) (c : Dev nD) (P A B U W M X D : EMat) : Prop where
  arg0 : m ((c : Thread nD τ).loc main_arg0) = ev S4096x5120 .bf16 P
  arg1 : m ((c : Thread nD τ).loc main_arg1) = ev S4096x512 .bf16 A
  arg2 : m ((c : Thread nD τ).loc main_arg2) = ev S4096x512 .bf16 B
  arg3 : m ((c : Thread nD τ).loc main_arg3) = ev S512x1024 .bf16 U
  arg4 : m ((c : Thread nD τ).loc main_arg4) = ev S512x1024 .bf16 W
  arg5 : m ((c : Thread nD τ).loc main_arg5) = ev S1024x1024 .bf16 M
  arg6 : m ((c : Thread nD τ).loc main_arg6) = ev S4096x1024 .f32 X
  arg7 : m ((c : Thread nD τ).loc main_arg7) = ev S4096x1024 .bf16 D

section
variable (m : (ℓ : Loc nD τ sig) → Buf (Elt Ideal) ℓ) (ρ : Dev nD → PrngReg) (c : Dev nD) {P A B U W M X D : EMat} (h : Args m c P A B U W M X D)

include h

theorem W1_v0_0 : W1 m ρ c (Proc.devRef .tc main_v0_0) = ev S4096x1024 .bf16 (nnF 512 A U) :=
  (W1_arr m ρ c 6).trans (res0_6 (V0 m ρ) c A B U W P ((W0_args m ρ c main_arg1 (by decide)).trans h.arg1) ((W0_args m ρ c main_arg2 (by decide)).trans h.arg2) ((W0_args m ρ c main_arg3 (by decide)).trans h.arg3) ((W0_args m ρ c main_arg4 (by decide)).trans h.arg4) ((W0_args m ρ c main_arg0 (by decide)).trans h.arg0))

theorem W1_v0_1 : W1 m ρ c (Proc.devRef .tc main_v0_1) = ev S4096x1024 .bf16 (nnF 512 B W) :=
  (W1_arr m ρ c 7).trans (res0_7 (V0 m ρ) c A B U W P ((W0_args m ρ c main_arg1 (by decide)).trans h.arg1) ((W0_args m ρ c main_arg2 (by decide)).trans h.arg2) ((W0_args m ρ c main_arg3 (by decide)).trans h.arg3) ((W0_args m ρ c main_arg4 (by decide)).trans h.arg4) ((W0_args m ρ c main_arg0 (by decide)).trans h.arg0))

theorem W1_v0_2 : W1 m ρ c (Proc.devRef .tc main_v0_2) = ev S4096x1024 .bf16 (mgF P A B U W) :=
  (W1_arr m ρ c 8).trans (res0_8 (V0 m ρ) c A B U W P ((W0_args m ρ c main_arg1 (by decide)).trans h.arg1) ((W0_args m ρ c main_arg2 (by decide)).trans h.arg2) ((W0_args m ρ c main_arg3 (by decide)).trans h.arg3) ((W0_args m ρ c main_arg4 (by decide)).trans h.arg4) ((W0_args m ρ c main_arg0 (by decide)).trans h.arg0))

theorem W2_v1 : W2 m ρ c (Proc.devRef .tc main_v1) = ev S4096x1024 .f32 (X + nnF 1024 (mgF P A B U W) M) :=
  (W2_arr m ρ c 3).trans (res1_3 (V1 m ρ) c (mgF P A B U W) M X (W1_v0_2 m ρ c h) ((W1_args m ρ c main_arg5 (by decide)).trans h.arg5) ((W1_args m ρ c main_arg6 (by decide)).trans h.arg6))

theorem W2_v0_0 : W2 m ρ c (Proc.devRef .tc main_v0_0) = ev S4096x1024 .bf16 (nnF 512 A U) := (W2_of m ρ c main_v0_0 (by decide)).trans (W1_v0_0 m ρ c h)

theorem W2_v0_1 : W2 m ρ c (Proc.devRef .tc main_v0_1) = ev S4096x1024 .bf16 (nnF 512 B W) := (W2_of m ρ c main_v0_1 (by decide)).trans (W1_v0_1 m ρ c h)

theorem W2_v0_2 : W2 m ρ c (Proc.devRef .tc main_v0_2) = ev S4096x1024 .bf16 (mgF P A B U W) := (W2_of m ρ c main_v0_2 (by decide)).trans (W1_v0_2 m ρ c h)

theorem W3_v2_0 : W3 m ρ c (Proc.devRef .tc main_v2_0) = ev S4096x1024 .bf16 (dbranchF (ntF 1024 D M) (rightF 3072 P)) :=
  (W3_arr m ρ c 6).trans (res2_6 (V2 m ρ) c (nnF 512 A U) (nnF 512 B W) M D P ((W2_args m ρ c main_arg7 (by decide)).trans h.arg7) ((W2_args m ρ c main_arg5 (by decide)).trans h.arg5) ((W2_args m ρ c main_arg0 (by decide)).trans h.arg0) (W2_v0_0 m ρ c h) (W2_v0_1 m ρ c h))

theorem W3_v2_1 : W3 m ρ c (Proc.devRef .tc main_v2_1) = ev S4096x1024 .bf16 (dbranchF (ntF 1024 D M) (rightF 4096 P)) :=
  (W3_arr m ρ c 7).trans (res2_7 (V2 m ρ) c (nnF 512 A U) (nnF 512 B W) M D P ((W2_args m ρ c main_arg7 (by decide)).trans h.arg7) ((W2_args m ρ c main_arg5 (by decide)).trans h.arg5) ((W2_args m ρ c main_arg0 (by decide)).trans h.arg0) (W2_v0_0 m ρ c h) (W2_v0_1 m ρ c h))

theorem W3_v2_2 : W3 m ρ c (Proc.devRef .tc main_v2_2) = ev S4096x1024 .bf16 (dgateF (ntF 1024 D M) (nnF 512 A U) (rightF 3072 P)) :=
  (W3_arr m ρ c 8).trans (res2_8 (V2 m ρ) c (nnF 512 A U) (nnF 512 B W) M D P ((W2_args m ρ c main_arg7 (by decide)).trans h.arg7) ((W2_args m ρ c main_arg5 (by decide)).trans h.arg5) ((W2_args m ρ c main_arg0 (by decide)).trans h.arg0) (W2_v0_0 m ρ c h) (W2_v0_1 m ρ c h))

theorem W3_v2_3 : W3 m ρ c (Proc.devRef .tc main_v2_3) = ev S4096x1024 .bf16 (dgateF (ntF 1024 D M) (nnF 512 B W) (rightF 4096 P)) :=
  (W3_arr m ρ c 9).trans (res2_9 (V2 m ρ) c (nnF 512 A U) (nnF 512 B W) M D P ((W2_args m ρ c main_arg7 (by decide)).trans h.arg7) ((W2_args m ρ c main_arg5 (by decide)).trans h.arg5) ((W2_args m ρ c main_arg0 (by decide)).trans h.arg0) (W2_v0_0 m ρ c h) (W2_v0_1 m ρ c h))

theorem W3_v0_2 : W3 m ρ c (Proc.devRef .tc main_v0_2) = ev S4096x1024 .bf16 (mgF P A B U W) := (W3_of m ρ c main_v0_2 (by decide)).trans (W2_v0_2 m ρ c h)

theorem W3_v1 : W3 m ρ c (Proc.devRef .tc main_v1) = ev S4096x1024 .f32 (X + nnF 1024 (mgF P A B U W) M) := (W3_of m ρ c main_v1 (by decide)).trans (W2_v1 m ρ c h)

theorem W4_v3 : W4 m ρ c (Proc.devRef .tc main_v3) = ev S1024x1024 .bf16 (tnF 4096 (mgF P A B U W) D) :=
  (W4_arr m ρ c 2).trans (res3_2 (V3 m ρ) c (mgF P A B U W) D (W3_v0_2 m ρ c h) ((W3_args m ρ c main_arg7 (by decide)).trans h.arg7))

theorem W4_v1 : W4 m ρ c (Proc.devRef .tc main_v1) = ev S4096x1024 .f32 (X + nnF 1024 (mgF P A B U W) M) := (W4_of m ρ c main_v1 (by decide)).trans (W3_v1 m ρ c h)

theorem W4_v2_0 : W4 m ρ c (Proc.devRef .tc main_v2_0) = ev S4096x1024 .bf16 (dbranchF (ntF 1024 D M) (rightF 3072 P)) := (W4_of m ρ c main_v2_0 (by decide)).trans (W3_v2_0 m ρ c h)

theorem W4_v2_1 : W4 m ρ c (Proc.devRef .tc main_v2_1) = ev S4096x1024 .bf16 (dbranchF (ntF 1024 D M) (rightF 4096 P)) := (W4_of m ρ c main_v2_1 (by decide)).trans (W3_v2_1 m ρ c h)

theorem W4_v2_2 : W4 m ρ c (Proc.devRef .tc main_v2_2) = ev S4096x1024 .bf16 (dgateF (ntF 1024 D M) (nnF 512 A U) (rightF 3072 P)) := (W4_of m ρ c main_v2_2 (by decide)).trans (W3_v2_2 m ρ c h)

theorem W4_v2_3 : W4 m ρ c (Proc.devRef .tc main_v2_3) = ev S4096x1024 .bf16 (dgateF (ntF 1024 D M) (nnF 512 B W) (rightF 4096 P)) := (W4_of m ρ c main_v2_3 (by decide)).trans (W3_v2_3 m ρ c h)

theorem W5_v4 : W5 m ρ c (Proc.devRef .tc main_v4) = ev S4096x512 .bf16 (ntF 1024 (dbranchF (ntF 1024 D M) (rightF 3072 P)) U) :=
  (W5_arr m ρ c 2).trans (res4_2 (V4 m ρ) c (dbranchF (ntF 1024 D M) (rightF 3072 P)) U (W4_v2_0 m ρ c h) ((W4_args m ρ c main_arg3 (by decide)).trans h.arg3))

theorem W5_v1 : W5 m ρ c (Proc.devRef .tc main_v1) = ev S4096x1024 .f32 (X + nnF 1024 (mgF P A B U W) M) := (W5_of m ρ c main_v1 (by decide)).trans (W4_v1 m ρ c h)

theorem W5_v2_0 : W5 m ρ c (Proc.devRef .tc main_v2_0) = ev S4096x1024 .bf16 (dbranchF (ntF 1024 D M) (rightF 3072 P)) := (W5_of m ρ c main_v2_0 (by decide)).trans (W4_v2_0 m ρ c h)

theorem W5_v2_1 : W5 m ρ c (Proc.devRef .tc main_v2_1) = ev S4096x1024 .bf16 (dbranchF (ntF 1024 D M) (rightF 4096 P)) := (W5_of m ρ c main_v2_1 (by decide)).trans (W4_v2_1 m ρ c h)

theorem W5_v2_2 : W5 m ρ c (Proc.devRef .tc main_v2_2) = ev S4096x1024 .bf16 (dgateF (ntF 1024 D M) (nnF 512 A U) (rightF 3072 P)) := (W5_of m ρ c main_v2_2 (by decide)).trans (W4_v2_2 m ρ c h)

theorem W5_v2_3 : W5 m ρ c (Proc.devRef .tc main_v2_3) = ev S4096x1024 .bf16 (dgateF (ntF 1024 D M) (nnF 512 B W) (rightF 4096 P)) := (W5_of m ρ c main_v2_3 (by decide)).trans (W4_v2_3 m ρ c h)

theorem W5_v3 : W5 m ρ c (Proc.devRef .tc main_v3) = ev S1024x1024 .bf16 (tnF 4096 (mgF P A B U W) D) := (W5_of m ρ c main_v3 (by decide)).trans (W4_v3 m ρ c h)

theorem W6_v5 : W6 m ρ c (Proc.devRef .tc main_v5) = ev S512x1024 .bf16 (tnF 4096 A (dbranchF (ntF 1024 D M) (rightF 3072 P))) :=
  (W6_arr m ρ c 2).trans (res5_2 (V5 m ρ) c A (dbranchF (ntF 1024 D M) (rightF 3072 P)) ((W5_args m ρ c main_arg1 (by decide)).trans h.arg1) (W5_v2_0 m ρ c h))

theorem W6_v1 : W6 m ρ c (Proc.devRef .tc main_v1) = ev S4096x1024 .f32 (X + nnF 1024 (mgF P A B U W) M) := (W6_of m ρ c main_v1 (by decide)).trans (W5_v1 m ρ c h)

theorem W6_v2_1 : W6 m ρ c (Proc.devRef .tc main_v2_1) = ev S4096x1024 .bf16 (dbranchF (ntF 1024 D M) (rightF 4096 P)) := (W6_of m ρ c main_v2_1 (by decide)).trans (W5_v2_1 m ρ c h)

theorem W6_v2_2 : W6 m ρ c (Proc.devRef .tc main_v2_2) = ev S4096x1024 .bf16 (dgateF (ntF 1024 D M) (nnF 512 A U) (rightF 3072 P)) := (W6_of m ρ c main_v2_2 (by decide)).trans (W5_v2_2 m ρ c h)

theorem W6_v2_3 : W6 m ρ c (Proc.devRef .tc main_v2_3) = ev S4096x1024 .bf16 (dgateF (ntF 1024 D M) (nnF 512 B W) (rightF 4096 P)) := (W6_of m ρ c main_v2_3 (by decide)).trans (W5_v2_3 m ρ c h)

theorem W6_v3 : W6 m ρ c (Proc.devRef .tc main_v3) = ev S1024x1024 .bf16 (tnF 4096 (mgF P A B U W) D) := (W6_of m ρ c main_v3 (by decide)).trans (W5_v3 m ρ c h)

theorem W6_v4 : W6 m ρ c (Proc.devRef .tc main_v4) = ev S4096x512 .bf16 (ntF 1024 (dbranchF (ntF 1024 D M) (rightF 3072 P)) U) := (W6_of m ρ c main_v4 (by decide)).trans (W5_v4 m ρ c h)

theorem W7_v6 : W7 m ρ c (Proc.devRef .tc main_v6) = ev S4096x512 .bf16 (ntF 1024 (dbranchF (ntF 1024 D M) (rightF 4096 P)) W) :=
  (W7_arr m ρ c 2).trans (res6_2 (V6 m ρ) c (dbranchF (ntF 1024 D M) (rightF 4096 P)) W (W6_v2_1 m ρ c h) ((W6_args m ρ c main_arg4 (by decide)).trans h.arg4))

theorem W7_v1 : W7 m ρ c (Proc.devRef .tc main_v1) = ev S4096x1024 .f32 (X + nnF 1024 (mgF P A B U W) M) := (W7_of m ρ c main_v1 (by decide)).trans (W6_v1 m ρ c h)

theorem W7_v2_1 : W7 m ρ c (Proc.devRef .tc main_v2_1) = ev S4096x1024 .bf16 (dbranchF (ntF 1024 D M) (rightF 4096 P)) := (W7_of m ρ c main_v2_1 (by decide)).trans (W6_v2_1 m ρ c h)

theorem W7_v2_2 : W7 m ρ c (Proc.devRef .tc main_v2_2) = ev S4096x1024 .bf16 (dgateF (ntF 1024 D M) (nnF 512 A U) (rightF 3072 P)) := (W7_of m ρ c main_v2_2 (by decide)).trans (W6_v2_2 m ρ c h)

theorem W7_v2_3 : W7 m ρ c (Proc.devRef .tc main_v2_3) = ev S4096x1024 .bf16 (dgateF (ntF 1024 D M) (nnF 512 B W) (rightF 4096 P)) := (W7_of m ρ c main_v2_3 (by decide)).trans (W6_v2_3 m ρ c h)

theorem W7_v3 : W7 m ρ c (Proc.devRef .tc main_v3) = ev S1024x1024 .bf16 (tnF 4096 (mgF P A B U W) D) := (W7_of m ρ c main_v3 (by decide)).trans (W6_v3 m ρ c h)

theorem W7_v4 : W7 m ρ c (Proc.devRef .tc main_v4) = ev S4096x512 .bf16 (ntF 1024 (dbranchF (ntF 1024 D M) (rightF 3072 P)) U) := (W7_of m ρ c main_v4 (by decide)).trans (W6_v4 m ρ c h)

theorem W7_v5 : W7 m ρ c (Proc.devRef .tc main_v5) = ev S512x1024 .bf16 (tnF 4096 A (dbranchF (ntF 1024 D M) (rightF 3072 P))) := (W7_of m ρ c main_v5 (by decide)).trans (W6_v5 m ρ c h)

theorem W8_v7 : W8 m ρ c (Proc.devRef .tc main_v7) = ev S512x1024 .bf16 (tnF 4096 B (dbranchF (ntF 1024 D M) (rightF 4096 P))) :=
  (W8_arr m ρ c 2).trans (res7_2 (V7 m ρ) c B (dbranchF (ntF 1024 D M) (rightF 4096 P)) ((W7_args m ρ c main_arg2 (by decide)).trans h.arg2) (W7_v2_1 m ρ c h))

theorem W8_v1 : W8 m ρ c (Proc.devRef .tc main_v1) = ev S4096x1024 .f32 (X + nnF 1024 (mgF P A B U W) M) := (W8_of m ρ c main_v1 (by decide)).trans (W7_v1 m ρ c h)

theorem W8_v2_2 : W8 m ρ c (Proc.devRef .tc main_v2_2) = ev S4096x1024 .bf16 (dgateF (ntF 1024 D M) (nnF 512 A U) (rightF 3072 P)) := (W8_of m ρ c main_v2_2 (by decide)).trans (W7_v2_2 m ρ c h)

theorem W8_v2_3 : W8 m ρ c (Proc.devRef .tc main_v2_3) = ev S4096x1024 .bf16 (dgateF (ntF 1024 D M) (nnF 512 B W) (rightF 4096 P)) := (W8_of m ρ c main_v2_3 (by decide)).trans (W7_v2_3 m ρ c h)

theorem W8_v3 : W8 m ρ c (Proc.devRef .tc main_v3) = ev S1024x1024 .bf16 (tnF 4096 (mgF P A B U W) D) := (W8_of m ρ c main_v3 (by decide)).trans (W7_v3 m ρ c h)

theorem W8_v4 : W8 m ρ c (Proc.devRef .tc main_v4) = ev S4096x512 .bf16 (ntF 1024 (dbranchF (ntF 1024 D M) (rightF 3072 P)) U) := (W8_of m ρ c main_v4 (by decide)).trans (W7_v4 m ρ c h)

theorem W8_v5 : W8 m ρ c (Proc.devRef .tc main_v5) = ev S512x1024 .bf16 (tnF 4096 A (dbranchF (ntF 1024 D M) (rightF 3072 P))) := (W8_of m ρ c main_v5 (by decide)).trans (W7_v5 m ρ c h)

theorem W8_v6 : W8 m ρ c (Proc.devRef .tc main_v6) = ev S4096x512 .bf16 (ntF 1024 (dbranchF (ntF 1024 D M) (rightF 4096 P)) W) := (W8_of m ρ c main_v6 (by decide)).trans (W7_v6 m ρ c h)

end

/-! ## The launch -/

local notation "𝕄" => MT nD τ sig Unit (Elt Ideal) ℕ (UR sig nD τ) ℕ

set_option backward.isDefEq.respectTransparency.types false in
/-- Every run ends with the eight results, and with the arguments, at the contents of the last boundary. -/
theorem run_contents (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = W8 m ρ c (Proc.devRef .tc main_v1)
      ∧ r.2.mem ((c.tc : Thread nD τ).loc main_v2_2) = W8 m ρ c (Proc.devRef .tc main_v2_2)
      ∧ r.2.mem ((c.tc : Thread nD τ).loc main_v2_3) = W8 m ρ c (Proc.devRef .tc main_v2_3)
      ∧ r.2.mem ((c.tc : Thread nD τ).loc main_v4) = W8 m ρ c (Proc.devRef .tc main_v4)
      ∧ r.2.mem ((c.tc : Thread nD τ).loc main_v6) = W8 m ρ c (Proc.devRef .tc main_v6)
      ∧ r.2.mem ((c.tc : Thread nD τ).loc main_v5) = W8 m ρ c (Proc.devRef .tc main_v5)
      ∧ r.2.mem ((c.tc : Thread nD τ).loc main_v7) = W8 m ρ c (Proc.devRef .tc main_v7)
      ∧ r.2.mem ((c.tc : Thread nD τ).loc main_v3) = W8 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v1 (by decide)),
       h c _ (mem_uc main_v2_2 (by decide)),
       h c _ (mem_uc main_v2_3 (by decide)),
       h c _ (mem_uc main_v4 (by decide)),
       h c _ (mem_uc main_v6 (by decide)),
       h c _ (mem_uc main_v5 (by decide)),
       h c _ (mem_uc main_v7 (by decide)),
       h c _ (mem_uc main_v3 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Ffn.Merge

end
-- ==== Proof.MergeRef.lean ====
/-
  The lines of the sixth program's reference, read on extended reals: the two branches merged through their gates, and the gradients of everything the merge is computed of.
-/
module

public import proofs.«01_k».proof.Proof.MergeMath
public import proofs.«01_k».proof.Proof.MixHost
public import proofs.«01_k».proof.Proof.Gen.Reference6Ideal.Run

@[expose] public section

noncomputable section

namespace Cert.Ffn.Merge.Ref

open Cert.Attn (ofBits_one)
open Cert.Reference6Ideal Cert.Reference6Ideal.Gen
open Idealize.ShloMosaic Idealize.ShloMosaic.TcCoe Idealize.SL.Sem

attribute [local instance] Cert.Reference6Ideal.Gen.facts

abbrev Tok : Type := FVec Ideal S4096x1024 .f32

def ones : Tok := broadcastInDim S4096x1024 ![] bcast_S_S4096x1024 (constant S_ .f32 0x3F800000#32)
def sigs (a : Tok) : Tok := Host.divf ones (addf ones (Host.exp (Host.negf a)))
def gateA (p : FVec Ideal S4096x5120 .bf16) : Tok := sigs (extractStridedSlice S4096x1024 ![0, 3072] (extf .f32 p bitsLt_bf16_f32) slices_S4096x5120_S4096x1024_0_3072)
def gateB (p : FVec Ideal S4096x5120 .bf16) : Tok := sigs (extractStridedSlice S4096x1024 ![0, 4096] (extf .f32 p bitsLt_bf16_f32) slices_S4096x5120_S4096x1024_0_4096)
def branch (o : FVec Ideal S4096x512 .bf16) (w : FVec Ideal S512x1024 .bf16) : Tok :=
  Host.dotGeneral dot_S4096x512_S512x1024_S4096x1024_1_0_0_1_n_n none (extf .f32 o bitsLt_bf16_f32) (extf .f32 w bitsLt_bf16_f32)
def merged (p : FVec Ideal S4096x5120 .bf16) (o y : FVec Ideal S4096x512 .bf16) (u w : FVec Ideal S512x1024 .bf16) : Tok :=
  addf (mulf (gateA p) (branch o u)) (mulf (gateB p) (branch y w))
def after (x : Tok) (g : Tok) (w : FVec Ideal S1024x1024 .bf16) : Tok :=
  addf x (Host.dotGeneral dot_S4096x1024_S1024x1024_S4096x1024_1_0_0_1_n_n none g (extf .f32 w bitsLt_bf16_f32))
def dmerged (d : FVec Ideal S4096x1024 .bf16) (w : FVec Ideal S1024x1024 .bf16) : Tok :=
  Host.dotGeneral dot_S4096x1024_S1024x1024_S4096x1024_1_1_0_0_n_n none (extf .f32 d bitsLt_bf16_f32) (extf .f32 w bitsLt_bf16_f32)
/-- The gradient of what a gate of values `g` is computed of. -/
def dgate (e b g : Tok) : FVec Ideal S4096x1024 .bf16 := truncf .bf16 (mulf (mulf e b) (mulf g (subf ones g))) bitsLt_bf16_f32
def dinput (g e : Tok) (w : FVec Ideal S512x1024 .bf16) : FVec Ideal S4096x512 .bf16 :=
  truncf .bf16 (Host.dotGeneral dot_S4096x1024_S512x1024_S4096x512_1_1_0_0_n_n none (mulf g e) (extf .f32 w bitsLt_bf16_f32)) bitsLt_bf16_f32
def dweight (g e : Tok) (o : FVec Ideal S4096x512 .bf16) : FVec Ideal S512x1024 .bf16 :=
  truncf .bf16 (transpose S512x1024 [1, 0] (Host.dotGeneral dot_S4096x1024_S4096x512_S1024x512_0_0_1_1_n_n none (mulf g e) (extf .f32 o bitsLt_bf16_f32)) transposes_S1024x512_S512x1024_1_0) bitsLt_bf16_f32
def dmix (d : FVec Ideal S4096x1024 .bf16) (g : Tok) : FVec Ideal S1024x1024 .bf16 :=
  truncf .bf16 (transpose S1024x1024 [1, 0] (Host.dotGeneral dot_S4096x1024_S4096x1024_S1024x1024_0_0_1_1_n_n none (extf .f32 d bitsLt_bf16_f32) g) transposes_S1024x1024_S1024x1024_1_0) bitsLt_bf16_f32

section
variable (P A B U W M X D E G : EMat)

theorem ones_ev : ones = ev S4096x1024 .f32 oneF := host_const ofBits_one _

theorem sigs_ev : sigs (ev S4096x1024 .f32 A) = ev S4096x1024 .f32 (logisticF A) := by
  unfold sigs
  rw [ones_ev]
  funext i
  show Ideal.div ((1 : ℝ) : EReal) (((1 : ℝ) : EReal) + Ideal.exp (-(A (i 0).val (i 1).val))) = Ideal.logistic (A (i 0).val (i 1).val)
  rw [EReal.coe_one]
  rfl

theorem gateA_ev : gateA (ev S4096x5120 .bf16 P) = ev S4096x1024 .f32 (logisticF (rightF 3072 P)) :=
  (congrArg sigs (Lines.ev_slice P 3072 slices_S4096x5120_S4096x1024_0_3072)).trans (sigs_ev (rightF 3072 P))

theorem gateB_ev : gateB (ev S4096x5120 .bf16 P) = ev S4096x1024 .f32 (logisticF (rightF 4096 P)) :=
  (congrArg sigs (Lines.ev_slice P 4096 slices_S4096x5120_S4096x1024_0_4096)).trans (sigs_ev (rightF 4096 P))

theorem branch_ev : branch (ev S4096x512 .bf16 A) (ev S512x1024 .bf16 U) = ev S4096x1024 .f32 (nnF 512 A U) :=
  host_nn A U dot_S4096x512_S512x1024_S4096x1024_1_0_0_1_n_n rfl rfl (fun _ _ => ⟨rfl, rfl⟩) (fun _ _ => ⟨rfl, rfl⟩)

theorem merged_ev : merged (ev S4096x5120 .bf16 P) (ev S4096x512 .bf16 A) (ev S4096x512 .bf16 B) (ev S512x1024 .bf16 U) (ev S512x1024 .bf16 W) = ev S4096x1024 .f32 (mgF P A B U W) := by
  unfold merged
  rw [gateA_ev, gateB_ev, branch_ev, branch_ev]
  rfl

theorem after_ev : after (ev S4096x1024 .f32 X) (ev S4096x1024 .f32 A) (ev S1024x1024 .bf16 M) = ev S4096x1024 .f32 (X + nnF 1024 A M) :=
  congrArg (addf (ev S4096x1024 .f32 X)) (host_nn A M dot_S4096x1024_S1024x1024_S4096x1024_1_0_0_1_n_n rfl rfl (fun _ _ => ⟨rfl, rfl⟩) (fun _ _ => ⟨rfl, rfl⟩))

theorem dmerged_ev : dmerged (ev S4096x1024 .bf16 D) (ev S1024x1024 .bf16 M) = ev S4096x1024 .f32 (ntF 1024 D M) :=
  host_nt D M dot_S4096x1024_S1024x1024_S4096x1024_1_1_0_0_n_n rfl rfl (fun _ _ => ⟨rfl, rfl⟩) (fun _ _ => ⟨rfl, rfl⟩)

theorem dgate_ev : dgate (ev S4096x1024 .f32 E) (ev S4096x1024 .f32 B) (ev S4096x1024 .f32 (logisticF G)) = ev S4096x1024 .bf16 (dgateF E B G) := by
  unfold dgate
  rw [ones_ev]
  rfl

theorem scaled_ev : mulf (ev S4096x1024 .f32 (logisticF G)) (ev S4096x1024 .f32 E) = ev S4096x1024 .f32 (dbranchF E G) :=
  congrArg (fun f => ev S4096x1024 .f32 f) (mul_comm (logisticF G) E)

theorem dinput_ev : dinput (ev S4096x1024 .f32 (logisticF G)) (ev S4096x1024 .f32 E) (ev S512x1024 .bf16 U) = ev S4096x512 .bf16 (ntF 1024 (dbranchF E G) U) := by
  unfold dinput
  rw [scaled_ev]
  exact congrArg (fun v => truncf .bf16 v bitsLt_bf16_f32)
    (host_nt (dbranchF E G) U dot_S4096x1024_S512x1024_S4096x512_1_1_0_0_n_n rfl rfl (fun _ _ => ⟨rfl, rfl⟩) (fun _ _ => ⟨rfl, rfl⟩))

theorem dweight_ev : dweight (ev S4096x1024 .f32 (logisticF G)) (ev S4096x1024 .f32 E) (ev S4096x512 .bf16 A) = ev S512x1024 .bf16 (tnF 4096 A (dbranchF E G)) := by
  have e : Host.dotGeneral dot_S4096x1024_S4096x512_S1024x512_0_0_1_1_n_n none (ev S4096x1024 .f32 (dbranchF E G) : Tok) (ev S4096x512 .f32 A : FVec Ideal S4096x512 .f32)
      = ev S1024x512 .f32 (tnF 4096 (dbranchF E G) A) :=
    host_tn (dbranchF E G) A dot_S4096x1024_S4096x512_S1024x512_0_0_1_1_n_n rfl rfl (fun _ _ => ⟨rfl, rfl⟩) (fun _ _ => ⟨rfl, rfl⟩)
  unfold dweight
  rw [scaled_ev, ev_extf, e, ev_transpose, tn_swap]
  rfl

theorem dmix_ev : dmix (ev S4096x1024 .bf16 D) (ev S4096x1024 .f32 A) = ev S1024x1024 .bf16 (tnF 4096 A D) := by
  have e : Host.dotGeneral dot_S4096x1024_S4096x1024_S1024x1024_0_0_1_1_n_n none (ev S4096x1024 .f32 D : Tok) (ev S4096x1024 .f32 A : Tok)
      = ev S1024x1024 .f32 (tnF 4096 D A) :=
    host_tn D A dot_S4096x1024_S4096x1024_S1024x1024_0_0_1_1_n_n rfl rfl (fun _ _ => ⟨rfl, rfl⟩) (fun _ _ => ⟨rfl, rfl⟩)
  unfold dmix
  rw [ev_extf, e, ev_transpose, tn_swap]
  rfl

end

/-! ## The eight results -/

section
variable (P A B U W M X D : EMat)

theorem ref_x1 : after (ev S4096x1024 .f32 X) (merged (ev S4096x5120 .bf16 P) (ev S4096x512 .bf16 A) (ev S4096x512 .bf16 B) (ev S512x1024 .bf16 U) (ev S512x1024 .bf16 W)) (ev S1024x1024 .bf16 M)
    = ev S4096x1024 .f32 (X + nnF 1024 (mgF P A B U W) M) := by
  rw [merged_ev, after_ev]

theorem ref_dga : dgate (dmerged (ev S4096x1024 .bf16 D) (ev S1024x1024 .bf16 M)) (branch (ev S4096x512 .bf16 A) (ev S512x1024 .bf16 U)) (gateA (ev S4096x5120 .bf16 P))
    = ev S4096x1024 .bf16 (dgateF (ntF 1024 D M) (nnF 512 A U) (rightF 3072 P)) := by
  rw [dmerged_ev, branch_ev, gateA_ev, dgate_ev]

theorem ref_dgb : dgate (dmerged (ev S4096x1024 .bf16 D) (ev S1024x1024 .bf16 M)) (branch (ev S4096x512 .bf16 B) (ev S512x1024 .bf16 W)) (gateB (ev S4096x5120 .bf16 P))
    = ev S4096x1024 .bf16 (dgateF (ntF 1024 D M) (nnF 512 B W) (rightF 4096 P)) := by
  rw [dmerged_ev, branch_ev, gateB_ev, dgate_ev]

theorem ref_doa : dinput (gateA (ev S4096x5120 .bf16 P)) (dmerged (ev S4096x1024 .bf16 D) (ev S1024x1024 .bf16 M)) (ev S512x1024 .bf16 U)
    = ev S4096x512 .bf16 (ntF 1024 (dbranchF (ntF 1024 D M) (rightF 3072 P)) U) := by
  rw [gateA_ev, dmerged_ev, dinput_ev]

theorem ref_dyb : dinput (gateB (ev S4096x5120 .bf16 P)) (dmerged (ev S4096x1024 .bf16 D) (ev S1024x1024 .bf16 M)) (ev S512x1024 .bf16 W)
    = ev S4096x512 .bf16 (ntF 1024 (dbranchF (ntF 1024 D M) (rightF 4096 P)) W) := by
  rw [gateB_ev, dmerged_ev, dinput_ev]

theorem ref_gwa : dweight (gateA (ev S4096x5120 .bf16 P)) (dmerged (ev S4096x1024 .bf16 D) (ev S1024x1024 .bf16 M)) (ev S4096x512 .bf16 A)
    = ev S512x1024 .bf16 (tnF 4096 A (dbranchF (ntF 1024 D M) (rightF 3072 P))) := by
  rw [gateA_ev, dmerged_ev, dweight_ev]

theorem ref_gwb : dweight (gateB (ev S4096x5120 .bf16 P)) (dmerged (ev S4096x1024 .bf16 D) (ev S1024x1024 .bf16 M)) (ev S4096x512 .bf16 B)
    = ev S512x1024 .bf16 (tnF 4096 B (dbranchF (ntF 1024 D M) (rightF 4096 P))) := by
  rw [gateB_ev, dmerged_ev, dweight_ev]

theorem ref_gwm : dmix (ev S4096x1024 .bf16 D) (merged (ev S4096x5120 .bf16 P) (ev S4096x512 .bf16 A) (ev S4096x512 .bf16 B) (ev S512x1024 .bf16 U) (ev S512x1024 .bf16 W))
    = ev S1024x1024 .bf16 (tnF 4096 (mgF P A B U W) D) := by
  rw [merged_ev, dmix_ev]

end

end Cert.Ffn.Merge.Ref

end
-- ==== Proof.MergeEnd.lean ====
/-
  The claim of the sixth program that speaks of values. It has no precondition.
-/
module

public import proofs.«01_k».proof.Defs
public import proofs.«01_k».proof.Proof.FwdFrames
public import proofs.«01_k».proof.Proof.MergeRun
public import proofs.«01_k».proof.Proof.MergeRef

@[expose] public section

noncomputable section

namespace Cert.Ffn

open Idealize.ShloMosaic Idealize.ShloMosaic.TcCoe Idealize.SL.Sem

attribute [local instance] Cert.Kernel6.Gen.facts Cert.Kernel6Ideal.Gen.facts Cert.Reference6Ideal.Gen.facts

theorem algebraic6 : Cert.algebraic_Kernel6Ideal_Reference6Ideal := by
  intro m g m' g' _ hargs
  choose P hP using fun c : Dev Cert.Kernel6Ideal.nD => exists_ev (φ := .bf16) (m ((c.tc : Thread Cert.Kernel6Ideal.nD Cert.Kernel6Ideal.τ).loc Cert.Kernel6Ideal.main_arg0))
  choose A hA using fun c : Dev Cert.Kernel6Ideal.nD => exists_ev (φ := .bf16) (m ((c.tc : Thread Cert.Kernel6Ideal.nD Cert.Kernel6Ideal.τ).loc Cert.Kernel6Ideal.main_arg1))
  choose B hB using fun c : Dev Cert.Kernel6Ideal.nD => exists_ev (φ := .bf16) (m ((c.tc : Thread Cert.Kernel6Ideal.nD Cert.Kernel6Ideal.τ).loc Cert.Kernel6Ideal.main_arg2))
  choose U hU using fun c : Dev Cert.Kernel6Ideal.nD => exists_ev (φ := .bf16) (m ((c.tc : Thread Cert.Kernel6Ideal.nD Cert.Kernel6Ideal.τ).loc Cert.Kernel6Ideal.main_arg3))
  choose W hW using fun c : Dev Cert.Kernel6Ideal.nD => exists_ev (φ := .bf16) (m ((c.tc : Thread Cert.Kernel6Ideal.nD Cert.Kernel6Ideal.τ).loc Cert.Kernel6Ideal.main_arg4))
  choose M hM using fun c : Dev Cert.Kernel6Ideal.nD => exists_ev (φ := .bf16) (m ((c.tc : Thread Cert.Kernel6Ideal.nD Cert.Kernel6Ideal.τ).loc Cert.Kernel6Ideal.main_arg5))
  choose X hX using fun c : Dev Cert.Kernel6Ideal.nD => exists_ev (φ := .f32) (m ((c.tc : Thread Cert.Kernel6Ideal.nD Cert.Kernel6Ideal.τ).loc Cert.Kernel6Ideal.main_arg6))
  choose D hD using fun c : Dev Cert.Kernel6Ideal.nD => exists_ev (φ := .bf16) (m ((c.tc : Thread Cert.Kernel6Ideal.nD Cert.Kernel6Ideal.τ).loc Cert.Kernel6Ideal.main_arg7))
  have hm : ∀ c, Merge.Args m c (P c) (A c) (B c) (U c) (W c) (M c) (X c) (D c) := fun c => ⟨hP c, hA c, hB c, hU c, hW c, hM c, hX c, hD c⟩
  refine ⟨fun c => ev Cert.Kernel6Ideal.S4096x1024 .f32 (X c + nnF 1024 (Merge.mgF (P c) (A c) (B c) (U c) (W c)) (M c)),
    fun c => ev Cert.Kernel6Ideal.S4096x1024 .bf16 (Merge.dgateF (ntF 1024 (D c) (M c)) (nnF 512 (A c) (U c)) (rightF 3072 (P c))),
    fun c => ev Cert.Kernel6Ideal.S4096x1024 .bf16 (Merge.dgateF (ntF 1024 (D c) (M c)) (nnF 512 (B c) (W c)) (rightF 4096 (P c))),
    fun c => ev Cert.Kernel6Ideal.S4096x512 .bf16 (ntF 1024 (Merge.dbranchF (ntF 1024 (D c) (M c)) (rightF 3072 (P c))) (U c)),
    fun c => ev Cert.Kernel6Ideal.S4096x512 .bf16 (ntF 1024 (Merge.dbranchF (ntF 1024 (D c) (M c)) (rightF 4096 (P c))) (W c)),
    fun c => ev Cert.Kernel6Ideal.S512x1024 .bf16 (tnF 4096 (A c) (Merge.dbranchF (ntF 1024 (D c) (M c)) (rightF 3072 (P c)))),
    fun c => ev Cert.Kernel6Ideal.S512x1024 .bf16 (tnF 4096 (B c) (Merge.dbranchF (ntF 1024 (D c) (M c)) (rightF 4096 (P c)))),
    fun c => ev Cert.Kernel6Ideal.S1024x1024 .bf16 (tnF 4096 (Merge.mgF (P c) (A c) (B c) (U c) (W c)) (D c)), ?_, ?_⟩
  · refine (θ_run Cert.Kernel6Ideal.defs _ _).mono (fun r h c => ?_) (Merge.run_contents m g)
    obtain ⟨h0, h1, h2, h3, h4, h5, h6, h7, hargs'⟩ := h c
    exact ⟨h0.trans (Merge.W8_v1 m g c (hm c)),
      h1.trans (Merge.W8_v2_2 m g c (hm c)),
      h2.trans (Merge.W8_v2_3 m g c (hm c)),
      h3.trans (Merge.W8_v4 m g c (hm c)),
      h4.trans (Merge.W8_v6 m g c (hm c)),
      h5.trans (Merge.W8_v5 m g c (hm c)),
      h6.trans (Merge.W8_v7 m g c (hm c)),
      h7.trans (Merge.W8_v3 m g c (hm c)), hargs'⟩
  · refine (θ_run Cert.Reference6Ideal.defs _ _).mono (fun r h c => ?_) (Cert.Reference6Ideal.Value.run (F := Ideal) m' g')
    obtain ⟨a0, a1, a2, a3, a4, a5, a6, a7⟩ := hargs c
    have eP := a0.trans (hP c)
    have eA := a1.trans (hA c)
    have eB := a2.trans (hB c)
    have eU := a3.trans (hU c)
    have eW := a4.trans (hW c)
    have eM := a5.trans (hM c)
    have eX := a6.trans (hX c)
    have eD := a7.trans (hD c)
    obtain ⟨h0, h1, h2, h3, h4, h5, h6, h7, hargs'⟩ := h c
    refine ⟨h0.trans (Eq.trans ?_ (Merge.Ref.ref_x1 (P c) (A c) (B c) (U c) (W c) (M c) (X c))),
      h1.trans (Eq.trans ?_ (Merge.Ref.ref_dga (P c) (A c) (U c) (M c) (D c))),
      h2.trans (Eq.trans ?_ (Merge.Ref.ref_dgb (P c) (B c) (W c) (M c) (D c))),
      h3.trans (Eq.trans ?_ (Merge.Ref.ref_doa (P c) (U c) (M c) (D c))),
      h4.trans (Eq.trans ?_ (Merge.Ref.ref_dyb (P c) (W c) (M c) (D c))),
      h5.trans (Eq.trans ?_ (Merge.Ref.ref_gwa (P c) (A c) (M c) (D c))),
      h6.trans (Eq.trans ?_ (Merge.Ref.ref_gwb (P c) (B c) (M c) (D c))),
      h7.trans (Eq.trans ?_ (Merge.Ref.ref_gwm (P c) (A c) (B c) (U c) (W c) (D c))), hargs'⟩
    · rw [← eP, ← eA, ← eB, ← eU, ← eW, ← eM, ← eX]
      rfl
    · rw [← eP, ← eA, ← eU, ← eM, ← eD]
      rfl
    · rw [← eP, ← eB, ← eW, ← eM, ← eD]
      rfl
    · rw [← eP, ← eU, ← eM, ← eD]
      rfl
    · rw [← eP, ← eW, ← eM, ← eD]
      rfl
    · rw [← eP, ← eA, ← eM, ← eD]
      rfl
    · rw [← eP, ← eB, ← eM, ← eD]
      rfl
    · rw [← eP, ← eA, ← eB, ← eU, ← eW, ← eD]
      rfl

end Cert.Ffn

end
-- ==== Proof.LossBlock.lean ====
/-
  The mixer's output projection, the last normalisation and the loss, on one block of rows: what the seventh program's launch computes from the block. `X` is the rows that are normalised, `G` the
  scale of the normalisation and `T` the target.
-/
module

public import proofs.«01_k».proof.Proof.Places
public import proofs.«01_k».proof.Proof.NormRef
public import proofs.«01_k».proof.Proof.InBlock
public import proofs.«01_k».proof.Proof.Gen.Kernel7Ideal.Value

@[expose] public section

noncomputable section

namespace Cert.Ffn.Loss

open Cert.Kernel7Ideal Cert.Kernel7Ideal.Gen
open Idealize.ShloMosaic Idealize.ShloMosaic.TcCoe
open Idealize.SL.Sem
open scoped BigOperators

/-- The rows after the projection, with the residual `R`. -/
def rowsF (k : ℕ) (A W R : EMat) : EMat := R + nnF k A W
/-- The rows, normalised and scaled, less the target. -/
def errN (n : ℕ) (X G T : EMat) : EMat := normN n X * rowF G - T
/-- The gradient of the rows normalised and scaled. -/
def doutN (n : ℕ) (X G T : EMat) : EMat := errN n X G T * constF ((1 / 1024 : ℝ) : EReal)
/-- The gradient of the rows. -/
def dinL (n : ℕ) (X G T : EMat) : EMat := dinP n (doutN n X G T) X G
/-- The gradient of the scale from the first `N` rows. -/
def dgL (n N : ℕ) (X G T : EMat) : EMat := dgP n N (doutN n X G T) X
/-- The loss of a row, doubled. -/
def costN (n : ℕ) (X G T : EMat) : EMat := divF (rsum n (errN n X G T * errN n X G T)) (constF (1024 : ℝ))
/-- The loss of the first `N` rows. -/
def lossL (n N : ℕ) (X G T : EMat) : EMat := constF ((1 / 2 : ℝ) : EReal) * csum N (costN n X G T)

theorem sub_dinL (n k : ℕ) (A W R G T : EMat) (o : ℕ) : dinL n (rowsF k (subE A o) W (subE R o)) G (subE T o) = subE (dinL n (rowsF k A W R) G T) o := rfl

theorem dgL_add (n k N M : ℕ) (A W R G T : EMat) : dgL n N (rowsF k A W R) G T + dgL n M (rowsF k (subE A N) W (subE R N)) G (subE T N) = dgL n (N + M) (rowsF k A W R) G T :=
  dgP_add n N M (doutN n (rowsF k A W R) G T) (rowsF k A W R)

theorem lossL_add (n k N M : ℕ) (A W R G T : EMat) : lossL n N (rowsF k A W R) G T + lossL n M (rowsF k (subE A N) W (subE R N)) G (subE T N) = lossL n (N + M) (rowsF k A W R) G T := by
  funext a b
  have e := Finset.sum_range_add (fun x => costN n (rowsF k A W R) G T x b) N M
  have d := EReal.left_distrib_of_nonneg_of_ne_top (x := ((1 / 2 : ℝ) : EReal)) (EReal.coe_nonneg.2 (by norm_num)) (EReal.coe_ne_top _)
    (∑ x ∈ Finset.range N, costN n (rowsF k A W R) G T x b) (∑ x ∈ Finset.range M, costN n (rowsF k A W R) G T (N + x) b)
  exact d.symm.trans (congrArg (fun s => ((1 / 2 : ℝ) : EReal) * s) e.symm)

/-- From nothing, the first rows. -/
theorem dgL_start (n k N o : ℕ) (ho : o = 0) (A W R G T : EMat) : dgL n N (rowsF k (subE A (512 * o)) W (subE R (512 * o))) G (subE T (512 * o)) = dgL n (512 * o + N) (rowsF k A W R) G T := by
  have e : dgL n 0 (rowsF k A W R) G T = 0 := by funext a b; exact Finset.sum_range_zero (fun x => (doutN n (rowsF k A W R) G T * normN n (rowsF k A W R)) x b)
  rw [ho, mul_zero, ← dgL_add n k 0 N, e, zero_add]

theorem lossL_start (n k N o : ℕ) (ho : o = 0) (A W R G T : EMat) : lossL n N (rowsF k (subE A (512 * o)) W (subE R (512 * o))) G (subE T (512 * o)) = lossL n (512 * o + N) (rowsF k A W R) G T := by
  have e : lossL n 0 (rowsF k A W R) G T = 0 := by
    funext a b
    exact (congrArg (fun s => ((1 / 2 : ℝ) : EReal) * s) (Finset.sum_range_zero (fun x => costN n (rowsF k A W R) G T x b))).trans (mul_zero _)
  rw [ho, mul_zero, ← lossL_add n k 0 N, e, zero_add]

theorem ofBits_inv : (Scalar.ofBits .f32 0x3A800000#32 : Ideal .f32) = ((1 / 1024 : ℝ) : EReal) := by
  simp [Scalar.ofBits, Ideal.ofBits, Ideal.ieee, -EReal.coe_mul]; norm_num

theorem ofBits_pos_half : (Scalar.ofBits .f32 0x3F000000#32 : Ideal .f32) = ((1 / 2 : ℝ) : EReal) := by
  simp [Scalar.ofBits, Ideal.ofBits, Ideal.ieee, -EReal.coe_mul]; norm_num

section
variable (A W X G R T : EMat)

/-- The mean of each row, as a column. -/
def means (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- The sum of each column, as a row. -/
def totals (v : FVec Ideal S512x1024 .f32) : FVec Ideal S1x1024 .f32 :=
  shapeCast S1x1024 (multiReduction .add [0] S1024 v 0x00000000#32 reduces_S512x1024_S1024 (.inl rfl) rfl) shapeCasts_S1024_S1x1024

/-- The sum of a column. -/
def total (v : FVec Ideal S512x1 .f32) : FVec Ideal S1x1 .f32 :=
  shapeCast S1x1 (multiReduction .add [0] S1 v 0x00000000#32 reduces_S512x1_S1 (.inl rfl) rfl) shapeCasts_S1_S1x1

theorem means_ev (f : EMat) : means (ev S512x1024 .f32 f) = ev S512x1 .f32 (divF (rsum 1024 f) (constF (1024 : ℝ))) := by
  refine (congrArg₂ divf (congrArg (fun v => shapeCast S512x1 v shapeCasts_S512_S512x1) (ev_rowSum f _ _ _ _)) (ev_const ofBits_1024)).trans ?_
  rw [ev_asCol, ev_divf]
  rfl

theorem totals_ev (f : EMat) : totals (ev S512x1024 .f32 f) = ev S1x1024 .f32 (csum 512 f) := by
  refine (congrArg (fun v => shapeCast S1x1024 v shapeCasts_S1024_S1x1024) (ev_colSum f _ _ _ _)).trans ?_
  rw [ev_asRow]
  rfl

theorem total_ev (f : EMat) : total (ev S512x1 .f32 f) = ev S1x1 .f32 (csum 512 f) := by
  refine (congrArg (fun v => shapeCast S1x1 v shapeCasts_S1_S1x1) (ev_colSum f _ _ _ _)).trans ?_
  rw [ev_asRow]
  rfl

theorem pay7_ev : k0_pay7 (F := Ideal) (ev S512x1024 .f32 R) (ev S512x2816 .bf16 A) (ev S2816x1024 .bf16 W) = ev S512x1024 .f32 (rowsF 2816 A W R) := by
  unfold k0_pay7
  rw [ev_constant]
  exact congrArg (addf (ev S512x1024 .f32 R))
    (In.ev_nn A W dot_S512x2816_S2816x1024_S512x1024_1_0_0_1_n_n rfl rfl (fun _ _ => ⟨rfl, rfl⟩) (fun _ _ => ⟨rfl, rfl⟩))

theorem pay8_ev : k0_pay8 (F := Ideal) (ev S512x1024 .f32 R) (ev S512x2816 .bf16 A) (ev S2816x1024 .bf16 W) = ev S512x1 .f32 (invN 1024 (rowsF 2816 A W R)) := by
  show rsqrt (addf (means (mulf (k0_pay7 (F := Ideal) (ev S512x1024 .f32 R) (ev S512x2816 .bf16 A) (ev S2816x1024 .bf16 W))
    (k0_pay7 (F := Ideal) (ev S512x1024 .f32 R) (ev S512x2816 .bf16 A) (ev S2816x1024 .bf16 W)))) (broadcast S512x1 (Scalar.ofBits .f32 0x358637BD#32))) = _
  rw [pay7_ev, ev_mulf, means_ev, ev_const ofBits_eps, ev_addf]
  exact ev_rsqrt _

theorem pay9_ev : k0_pay9 (F := Ideal) (ev S512x1024 .f32 R) (ev S512x2816 .bf16 A) (ev S2816x1024 .bf16 W) = ev S512x1024 .f32 (normN 1024 (rowsF 2816 A W R)) := by
  unfold k0_pay9
  rw [pay8_ev, pay7_ev, ev_spreadCol]
  dsimp only
  rw [ev_mulf]
  rfl

theorem pay10_ev : k0_pay10 (F := Ideal) (ev S512x1024 .f32 R) (ev S512x2816 .bf16 A) (ev S2816x1024 .bf16 W) (ev S1x1024 .f32 G) (ev S512x1024 .f32 T)
    = ev S512x1024 .f32 (errN 1024 (rowsF 2816 A W R) G T) := by
  show subf (mulf (k0_pay9 (F := Ideal) (ev S512x1024 .f32 R) (ev S512x2816 .bf16 A) (ev S2816x1024 .bf16 W))
    (broadcastTo S512x1024 (ev S1x1024 .f32 G : FVec Ideal S1x1024 .f32) broadcasts_S1x1024_S512x1024)) (ev S512x1024 .f32 T) = _
  rw [pay9_ev, ev_spreadRow, ev_mulf, ev_subf]
  rfl

theorem pay11_ev : k0_pay11 (F := Ideal) (ev S512x1024 .f32 R) (ev S512x2816 .bf16 A) (ev S2816x1024 .bf16 W) (ev S1x1024 .f32 G) (ev S512x1024 .f32 T)
    = ev S1x1 .f32 (lossL 1024 512 (rowsF 2816 A W R) G T) := by
  show mulf (broadcast S1x1 (Scalar.ofBits .f32 0x3F000000#32))
    (total (means (mulf (k0_pay10 (F := Ideal) (ev S512x1024 .f32 R) (ev S512x2816 .bf16 A) (ev S2816x1024 .bf16 W) (ev S1x1024 .f32 G) (ev S512x1024 .f32 T))
      (k0_pay10 (F := Ideal) (ev S512x1024 .f32 R) (ev S512x2816 .bf16 A) (ev S2816x1024 .bf16 W) (ev S1x1024 .f32 G) (ev S512x1024 .f32 T))))) = _
  rw [pay10_ev, ev_mulf, means_ev, total_ev, ev_const ofBits_pos_half, ev_mulf]
  rfl

theorem pay12_ev : k0_pay12 (F := Ideal) (ev S512x1024 .f32 R) (ev S512x2816 .bf16 A) (ev S2816x1024 .bf16 W) (ev S1x1024 .f32 G) (ev S512x1024 .f32 T)
    = ev S512x1024 .f32 (doutN 1024 (rowsF 2816 A W R) G T) := by
  show mulf (k0_pay10 (F := Ideal) (ev S512x1024 .f32 R) (ev S512x2816 .bf16 A) (ev S2816x1024 .bf16 W) (ev S1x1024 .f32 G) (ev S512x1024 .f32 T))
    (broadcast S512x1024 (Scalar.ofBits .f32 0x3A800000#32)) = _
  rw [pay10_ev, ev_const ofBits_inv, ev_mulf]
  rfl

theorem pay13_ev : k0_pay13 (F := Ideal) (ev S512x1024 .f32 R) (ev S512x2816 .bf16 A) (ev S2816x1024 .bf16 W) (ev S1x1024 .f32 G) (ev S512x1024 .f32 T)
    = ev S512x1024 .f32 (doutN 1024 (rowsF 2816 A W R) G T * rowF G) := by
  unfold k0_pay13
  rw [pay12_ev, ev_spreadRow]
  dsimp only
  rw [ev_mulf]

theorem pay14_ev : k0_pay14 (F := Ideal) (ev S512x1024 .f32 R) (ev S512x2816 .bf16 A) (ev S2816x1024 .bf16 W) (ev S1x1024 .f32 G) (ev S512x1024 .f32 T)
    = ev S512x1 .f32 (divF (rsum 1024 (doutN 1024 (rowsF 2816 A W R) G T * rowF G * normN 1024 (rowsF 2816 A W R))) (constF (1024 : ℝ))) := by
  show means (mulf (k0_pay13 (F := Ideal) (ev S512x1024 .f32 R) (ev S512x2816 .bf16 A) (ev S2816x1024 .bf16 W) (ev S1x1024 .f32 G) (ev S512x1024 .f32 T))
    (k0_pay9 (F := Ideal) (ev S512x1024 .f32 R) (ev S512x2816 .bf16 A) (ev S2816x1024 .bf16 W))) = _
  rw [pay13_ev, pay9_ev, ev_mulf, means_ev]

end

/-! ## The values of a block, from its contents -/

section
variable (a : FVec Ideal S512x2816 .bf16) (w : FVec Ideal S2816x1024 .bf16) (r : FVec Ideal S512x1024 .f32) (g : FVec Ideal S1x1024 .f32) (t : FVec Ideal S512x1024 .f32)

def dinV : FVec Ideal S512x1024 .f32 := k0_pay1 (k0_pay8 r a w) (k0_pay9 r a w) (k0_pay13 r a w g t) (k0_pay14 r a w g t)
def dinbV : FVec Ideal S512x1024 .bf16 := k0_pay2 (k0_pay8 r a w) (k0_pay9 r a w) (k0_pay13 r a w g t) (k0_pay14 r a w g t)
def dgV : FVec Ideal S1x1024 .f32 := k0_pay3 (k0_pay9 r a w) (k0_pay12 r a w g t)
def lossV : FVec Ideal S1x128 .f32 := k0_pay4 (k0_pay11 r a w g t)
def dgV' (o : FVec Ideal S1x1024 .f32) : FVec Ideal S1x1024 .f32 := k0_pay5 (k0_pay9 r a w) (k0_pay12 r a w g t) o
def lossV' (o : FVec Ideal S1x128 .f32) : FVec Ideal S1x128 .f32 := k0_pay6 (k0_pay11 r a w g t) o

end

section
variable (A W G R T : EMat)

theorem dinV_ev : dinV (ev S512x2816 .bf16 A) (ev S2816x1024 .bf16 W) (ev S512x1024 .f32 R) (ev S1x1024 .f32 G) (ev S512x1024 .f32 T)
    = ev S512x1024 .f32 (dinL 1024 (rowsF 2816 A W R) G T) := by
  unfold dinV
  rw [pay8_ev, pay9_ev, pay13_ev, pay14_ev]
  unfold k0_pay1
  rw [ev_spreadCol, ev_spreadCol]
  rfl

theorem dinbV_ev : dinbV (ev S512x2816 .bf16 A) (ev S2816x1024 .bf16 W) (ev S512x1024 .f32 R) (ev S1x1024 .f32 G) (ev S512x1024 .f32 T)
    = ev S512x1024 .bf16 (dinL 1024 (rowsF 2816 A W R) G T) :=
  congrArg (fun v => truncf .bf16 v bitsLt_bf16_f32) (dinV_ev A W G R T)

theorem dgV_ev : dgV (ev S512x2816 .bf16 A) (ev S2816x1024 .bf16 W) (ev S512x1024 .f32 R) (ev S1x1024 .f32 G) (ev S512x1024 .f32 T)
    = ev S1x1024 .f32 (dgL 1024 512 (rowsF 2816 A W R) G T) := by
  show totals (mulf (k0_pay12 (F := Ideal) (ev S512x1024 .f32 R) (ev S512x2816 .bf16 A) (ev S2816x1024 .bf16 W) (ev S1x1024 .f32 G) (ev S512x1024 .f32 T))
    (k0_pay9 (F := Ideal) (ev S512x1024 .f32 R) (ev S512x2816 .bf16 A) (ev S2816x1024 .bf16 W))) = _
  rw [pay9_ev, pay12_ev, ev_mulf, totals_ev]
  rfl

theorem lossV_ev : lossV (ev S512x2816 .bf16 A) (ev S2816x1024 .bf16 W) (ev S512x1024 .f32 R) (ev S1x1024 .f32 G) (ev S512x1024 .f32 T)
    = ev S1x128 .f32 (lossL 1024 512 (rowsF 2816 A W R) G T) := by
  unfold lossV k0_pay4
  rw [pay11_ev, ev_shapeCast]
  dsimp only
  rw [ev_spreadCol]
  rfl

theorem dgV'_ev (f : EMat) : dgV' (ev S512x2816 .bf16 A) (ev S2816x1024 .bf16 W) (ev S512x1024 .f32 R) (ev S1x1024 .f32 G) (ev S512x1024 .f32 T) (ev S1x1024 .f32 f)
    = ev S1x1024 .f32 (f + dgL 1024 512 (rowsF 2816 A W R) G T) := by
  show addf (shapeCast S1x1024 (ev S1x1024 .f32 f : FVec Ideal S1x1024 .f32) shapeCasts_S1x1024_S1x1024)
    (dgV (ev S512x2816 .bf16 A) (ev S2816x1024 .bf16 W) (ev S512x1024 .f32 R) (ev S1x1024 .f32 G) (ev S512x1024 .f32 T)) = _
  rw [ev_shapeCast, dgV_ev, ev_addf]

theorem lossV'_ev (f : EMat) : lossV' (ev S512x2816 .bf16 A) (ev S2816x1024 .bf16 W) (ev S512x1024 .f32 R) (ev S1x1024 .f32 G) (ev S512x1024 .f32 T) (ev S1x128 .f32 f)
    = ev S1x128 .f32 (f + lossL 1024 512 (rowsF 2816 A W R) G T) := by
  show addf (shapeCast S1x128 (ev S1x128 .f32 f : FVec Ideal S1x128 .f32) shapeCasts_S1x128_S1x128)
    (lossV (ev S512x2816 .bf16 A) (ev S2816x1024 .bf16 W) (ev S512x1024 .f32 R) (ev S1x1024 .f32 G) (ev S512x1024 .f32 T)) = _
  rw [ev_shapeCast, lossV_ev, ev_addf]

end

/-! ## What a point of the grid leaves -/

section
variable (m : (ℓ : Loc nD τ sig) → Buf (Elt Ideal) ℓ) (c : Dev nD) (t : Fin cfg0.N)

theorem first_5 (h0 : t.val % 8 = 0) (h1 : ¬1 ≤ t.val) : (outsAt0 m c t.val t.isLt).1 = dinV (iblk m c 0 t) (iblk m c 1 t) (iblk m c 2 t) (iblk m c 3 t) (iblk m c 4 t) := by
  rw [outsAt0_A m c t h0 h1]
  dsimp only
  unfold dinV out0_A_5
  rw [View.read_writes_eq_canon _ _ _ (cover0_A_5 _ _ _ _ _ _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t),
    View.ld_unit_zero (S := S512x2816) origin, View.ld_unit_zero (S := S2816x1024) origin, View.ld_unit_zero (S := S512x1024) origin, View.ld_unit_zero (S := S1x1024) origin]

theorem first_6 (h0 : t.val % 8 = 0) (h1 : ¬1 ≤ t.val) : (outsAt0 m c t.val t.isLt).2.1 = dinbV (iblk m c 0 t) (iblk m c 1 t) (iblk m c 2 t) (iblk m c 3 t) (iblk m c 4 t) := by
  rw [outsAt0_A m c t h0 h1]
  dsimp only
  unfold dinbV out0_A_6
  rw [View.read_writes_eq_canon _ _ _ (cover0_A_6 _ _ _ _ _ _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t),
    View.ld_unit_zero (S := S512x2816) origin, View.ld_unit_zero (S := S2816x1024) origin, View.ld_unit_zero (S := S512x1024) origin, View.ld_unit_zero (S := S1x1024) origin]

theorem first_7 (h0 : t.val % 8 = 0) (h1 : ¬1 ≤ t.val) : (outsAt0 m c t.val t.isLt).2.2.1 = dgV (iblk m c 0 t) (iblk m c 1 t) (iblk m c 2 t) (iblk m c 3 t) (iblk m c 4 t) := by
  rw [outsAt0_A m c t h0 h1]
  dsimp only
  unfold dgV out0_A_7
  rw [View.read_writes_eq_canon _ _ _ (cover0_A_7 _ _ _ _ _ _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t),
    View.ld_unit_zero (S := S512x2816) origin, View.ld_unit_zero (S := S2816x1024) origin, View.ld_unit_zero (S := S512x1024) origin, View.ld_unit_zero (S := S1x1024) origin]

theorem first_8 (h0 : t.val % 8 = 0) (h1 : ¬1 ≤ t.val) : (outsAt0 m c t.val t.isLt).2.2.2 = lossV (iblk m c 0 t) (iblk m c 1 t) (iblk m c 2 t) (iblk m c 3 t) (iblk m c 4 t) := by
  rw [outsAt0_A m c t h0 h1]
  dsimp only
  unfold lossV out0_A_8
  rw [View.read_writes_eq_canon _ _ _ (cover0_A_8 _ _ _ _ _ _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t),
    View.ld_unit_zero (S := S512x2816) origin, View.ld_unit_zero (S := S2816x1024) origin, View.ld_unit_zero (S := S512x1024) origin, View.ld_unit_zero (S := S1x1024) origin]

theorem first (h0 : t.val % 8 = 0) (h1 : ¬1 ≤ t.val) : outsAt0 m c t.val t.isLt
    = (dinV (iblk m c 0 t) (iblk m c 1 t) (iblk m c 2 t) (iblk m c 3 t) (iblk m c 4 t),
       dinbV (iblk m c 0 t) (iblk m c 1 t) (iblk m c 2 t) (iblk m c 3 t) (iblk m c 4 t),
       dgV (iblk m c 0 t) (iblk m c 1 t) (iblk m c 2 t) (iblk m c 3 t) (iblk m c 4 t),
       lossV (iblk m c 0 t) (iblk m c 1 t) (iblk m c 2 t) (iblk m c 3 t) (iblk m c 4 t)) :=
  Prod.ext (first_5 m c t h0 h1) (Prod.ext (first_6 m c t h0 h1) (Prod.ext (first_7 m c t h0 h1) (first_8 m c t h0 h1)))

theorem later_5 (h0 : ¬t.val % 8 = 0) (h1 : 1 ≤ t.val) : (outsAt0 m c t.val t.isLt).1 = dinV (iblk m c 0 t) (iblk m c 1 t) (iblk m c 2 t) (iblk m c 3 t) (iblk m c 4 t) := by
  rw [outsAt0_B m c t h0 h1]
  dsimp only
  unfold dinV out0_B_5
  rw [View.read_writes_eq_canon _ _ _ (cover0_B_5 _ _ _ _ _ _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t),
    View.ld_unit_zero (S := S512x2816) origin, View.ld_unit_zero (S := S2816x1024) origin, View.ld_unit_zero (S := S512x1024) origin, View.ld_unit_zero (S := S1x1024) origin]

theorem later_6 (h0 : ¬t.val % 8 = 0) (h1 : 1 ≤ t.val) : (outsAt0 m c t.val t.isLt).2.1 = dinbV (iblk m c 0 t) (iblk m c 1 t) (iblk m c 2 t) (iblk m c 3 t) (iblk m c 4 t) := by
  rw [outsAt0_B m c t h0 h1]
  dsimp only
  unfold dinbV out0_B_6
  rw [View.read_writes_eq_canon _ _ _ (cover0_B_6 _ _ _ _ _ _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t),
    View.ld_unit_zero (S := S512x2816) origin, View.ld_unit_zero (S := S2816x1024) origin, View.ld_unit_zero (S := S512x1024) origin, View.ld_unit_zero (S := S1x1024) origin]

theorem later_7 (h0 : ¬t.val % 8 = 0) (h1 : 1 ≤ t.val) : (outsAt0 m c t.val t.isLt).2.2.1 = dgV' (iblk m c 0 t) (iblk m c 1 t) (iblk m c 2 t) (iblk m c 3 t) (iblk m c 4 t) (outsAt0 m c (t.val - 1) (Nat.lt_of_le_of_lt (Nat.sub_le _ _) t.isLt)).2.2.1 := by
  rw [outsAt0_B m c t h0 h1]
  dsimp only
  unfold dgV' out0_B_7
  rw [View.read_writes_eq_canon _ _ _ (cover0_B_7 _ _ _ _ _ _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t), Memref.IsWhole.read_unread (hs0_7 t),
    View.ld_unit_zero (S := S512x2816) origin, View.ld_unit_zero (S := S2816x1024) origin, View.ld_unit_zero (S := S512x1024) origin, View.ld_unit_zero (S := S1x1024) origin]

theorem later_8 (h0 : ¬t.val % 8 = 0) (h1 : 1 ≤ t.val) : (outsAt0 m c t.val t.isLt).2.2.2 = lossV' (iblk m c 0 t) (iblk m c 1 t) (iblk m c 2 t) (iblk m c 3 t) (iblk m c 4 t) (outsAt0 m c (t.val - 1) (Nat.lt_of_le_of_lt (Nat.sub_le _ _) t.isLt)).2.2.2 := by
  rw [outsAt0_B m c t h0 h1]
  dsimp only
  unfold lossV' out0_B_8
  rw [View.read_writes_eq_canon _ _ _ (cover0_B_8 _ _ _ _ _ _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_4 t), Memref.IsWhole.read_unread (hs0_8 t),
    View.ld_unit_zero (S := S512x2816) origin, View.ld_unit_zero (S := S2816x1024) origin, View.ld_unit_zero (S := S512x1024) origin, View.ld_unit_zero (S := S1x1024) origin, View.ld_unit_zero (S := S1x128) origin]

theorem later (h0 : ¬t.val % 8 = 0) (h1 : 1 ≤ t.val) : outsAt0 m c t.val t.isLt
    = (dinV (iblk m c 0 t) (iblk m c 1 t) (iblk m c 2 t) (iblk m c 3 t) (iblk m c 4 t),
       dinbV (iblk m c 0 t) (iblk m c 1 t) (iblk m c 2 t) (iblk m c 3 t) (iblk m c 4 t),
       dgV' (iblk m c 0 t) (iblk m c 1 t) (iblk m c 2 t) (iblk m c 3 t) (iblk m c 4 t) (outsAt0 m c (t.val - 1) (Nat.lt_of_le_of_lt (Nat.sub_le _ _) t.isLt)).2.2.1,
       lossV' (iblk m c 0 t) (iblk m c 1 t) (iblk m c 2 t) (iblk m c 3 t) (iblk m c 4 t) (outsAt0 m c (t.val - 1) (Nat.lt_of_le_of_lt (Nat.sub_le _ _) t.isLt)).2.2.2) :=
  Prod.ext (later_5 m c t h0 h1) (Prod.ext (later_6 m c t h0 h1) (Prod.ext (later_7 m c t h0 h1) (later_8 m c t h0 h1)))

end

end Cert.Ffn.Loss

end
-- ==== Proof.LossFinal.lean ====
/-
  The launch of the seventh program, on extended reals: which part of an array each window shows at a point of the grid, and what the four result arrays hold at the end.
-/
module

public import proofs.«01_k».proof.Proof.Places
public import proofs.«01_k».proof.Proof.LossBlock
public import Idealize.ShloMosaic.Lib.ValueIdx

@[expose] public section

noncomputable section

namespace Cert.Ffn.Loss

open Cert.Kernel7Ideal Cert.Kernel7Ideal.Gen
open Idealize.ShloMosaic Idealize.ShloMosaic.TcCoe
open Idealize.SL.Sem
open Idealize.ShloMosaic.Pipeline (Dat Cfg Window)

/-! ## The windows' places -/

theorem place : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0) := by decide +kernel

section
variable (X : EMat) (t : Fin cfg0.N)

theorem shown_0 : ((cfg0.win 0).blk t).view.read (Elt Ideal) (ev S4096x2816 .bf16 X) = ev S512x2816 .bf16 (subE X (512 * t.val)) :=
  shown_rows X (at_place win0_0 rfl (place t).1)

theorem shown_1 : ((cfg0.win 1).blk t).view.read (Elt Ideal) (ev S2816x1024 .bf16 X) = ev S2816x1024 .bf16 X :=
  shown_all X (at_place win0_1 rfl (place t).2.1)

theorem shown_2 : ((cfg0.win 2).blk t).view.read (Elt Ideal) (ev S4096x1024 .f32 X) = ev S512x1024 .f32 (subE X (512 * t.val)) :=
  shown_rows X (at_place win0_2 rfl (place t).2.2.1)

theorem shown_3 : ((cfg0.win 3).blk t).view.read (Elt Ideal) (ev S1x1024 .f32 X) = ev S1x1024 .f32 X :=
  shown_all X (at_place win0_3 rfl (place t).2.2.2.1)

theorem shown_4 : ((cfg0.win 4).blk t).view.read (Elt Ideal) (ev S4096x1024 .f32 X) = ev S512x1024 .f32 (subE X (512 * t.val)) :=
  shown_rows X (at_place win0_4 rfl (place t).2.2.2.2.1)

theorem shown_5 : ((cfg0.win 5).blk t).view.read (Elt Ideal) (ev S4096x1024 .f32 X) = ev S512x1024 .f32 (subE X (512 * t.val)) :=
  shown_rows X (at_place win0_5 rfl (place t).2.2.2.2.2.1)

theorem shown_6 : ((cfg0.win 6).blk t).view.read (Elt Ideal) (ev S4096x1024 .bf16 X) = ev S512x1024 .bf16 (subE X (512 * t.val)) :=
  shown_rows X (at_place win0_6 rfl (place t).2.2.2.2.2.2.1)

theorem shown_7 : ((cfg0.win 7).blk t).view.read (Elt Ideal) (ev S1x1024 .f32 X) = ev S1x1024 .f32 X :=
  shown_all X (at_place win0_7 rfl (place t).2.2.2.2.2.2.2.1)

theorem shown_8 : ((cfg0.win 8).blk t).view.read (Elt Ideal) (ev S1x128 .f32 X) = ev S1x128 .f32 X :=
  shown_all X (at_place win0_8 rfl (place t).2.2.2.2.2.2.2.2)

end

/-! ## Every index lies in some window written back -/

theorem covered_5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 512 < 8 := by omega
  refine ⟨⟨(i 0).val / 512, ht⟩, flush0_5 _, ?_⟩
  show i ∈ ((View.whole main_v0_0).slice (win0_5.rect ⟨(i 0).val / 512, ht⟩)).set
  rw [View.set_slice_whole, Rect.mem_set_unit]
  have hp := (place ⟨(i 0).val / 512, ht⟩).2.2.2.2.2.1
  refine in_place ((i 0).val / 512) 0 512 1024 ?_ ?_ ?_ ?_ ?_
  exacts [congrArg (· * 512) hp.1, congrArg (· * 1024) hp.2, ⟨rfl, rfl⟩, by omega, by omega]

theorem covered_6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : (i 0).val / 512 < 8 := by omega
  refine ⟨⟨(i 0).val / 512, ht⟩, flush0_6 _, ?_⟩
  show i ∈ ((View.whole main_v0_1).slice (win0_6.rect ⟨(i 0).val / 512, ht⟩)).set
  rw [View.set_slice_whole, Rect.mem_set_unit]
  have hp := (place ⟨(i 0).val / 512, ht⟩).2.2.2.2.2.2.1
  refine in_place ((i 0).val / 512) 0 512 1024 ?_ ?_ ?_ ?_ ?_
  exacts [congrArg (· * 512) hp.1, congrArg (· * 1024) hp.2, ⟨rfl, rfl⟩, by omega, by omega]

theorem covered_7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have ht : 7 < grid0.N := by decide
  refine ⟨⟨7, ht⟩, (flush0_7 _).2 rfl, ?_⟩
  show i ∈ ((View.whole main_v0_2).slice (win0_7.rect ⟨7, ht⟩)).set
  rw [View.set_slice_whole, Rect.mem_set_unit]
  have hp := (place ⟨7, ht⟩).2.2.2.2.2.2.2.1
  refine in_place 0 0 1 1024 ?_ ?_ ?_ ?_ ?_
  exacts [congrArg (· * 1) hp.1, congrArg (· * 1024) hp.2, ⟨rfl, rfl⟩, by omega, by omega]

theorem covered_8 (i : S1x128.Idx) : ∃ t : Fin cfg0.N, (cfg0.win 8).flush t = true ∧ i ∈ ((cfg0.win 8).blk t).view.set := by
  have h0 : (i 0).val < 1 := (i 0).isLt
  have h1 : (i 1).val < 128 := (i 1).isLt
  have ht : 7 < grid0.N := by decide
  refine ⟨⟨7, ht⟩, (flush0_8 _).2 rfl, ?_⟩
  show i ∈ ((View.whole main_v0_3).slice (win0_8.rect ⟨7, ht⟩)).set
  rw [View.set_slice_whole, Rect.mem_set_unit]
  have hp := (place ⟨7, ht⟩).2.2.2.2.2.2.2.2
  refine in_place 0 0 1 128 ?_ ?_ ?_ ?_ ?_
  exacts [congrArg (· * 1) hp.1, congrArg (· * 128) hp.2, ⟨rfl, rfl⟩, by omega, by omega]

/-! ## The four results -/

section
variable (m : (ℓ : Loc nD τ sig) → Buf (Elt Ideal) ℓ) (c : Dev nD) (A W R G T : EMat)
variable (hA : m ((c : Thread nD τ).loc main_arg0) = ev S4096x2816 .bf16 A) (hW : m ((c : Thread nD τ).loc main_arg1) = ev S2816x1024 .bf16 W)
  (hR : m ((c : Thread nD τ).loc main_arg2) = ev S4096x1024 .f32 R) (hG : m ((c : Thread nD τ).loc main_arg3) = ev S1x1024 .f32 G)
  (hT : m ((c : Thread nD τ).loc main_arg4) = ev S4096x1024 .f32 T)
include hA hW hR hG hT

theorem shows (t : Fin cfg0.N) : iblk m c 0 t = ev S512x2816 .bf16 (subE A (512 * t.val)) ∧ iblk m c 1 t = ev S2816x1024 .bf16 W
    ∧ iblk m c 2 t = ev S512x1024 .f32 (subE R (512 * t.val)) ∧ iblk m c 3 t = ev S1x1024 .f32 G ∧ iblk m c 4 t = ev S512x1024 .f32 (subE T (512 * t.val)) :=
  ⟨(congrArg (((cfg0.win 0).blk t).view.read (Elt Ideal)) hA).trans (shown_0 A t),
    (congrArg (((cfg0.win 1).blk t).view.read (Elt Ideal)) hW).trans (shown_1 W t),
    (congrArg (((cfg0.win 2).blk t).view.read (Elt Ideal)) hR).trans (shown_2 R t),
    (congrArg (((cfg0.win 3).blk t).view.read (Elt Ideal)) hG).trans (shown_3 G t),
    (congrArg (((cfg0.win 4).blk t).view.read (Elt Ideal)) hT).trans (shown_4 T t)⟩

/-- After the first point. -/
theorem left_first (t : Fin cfg0.N) (ht : t.val = 0) : outsAt0 m c t.val t.isLt = (ev S512x1024 .f32 (subE (dinL 1024 (rowsF 2816 A W R) G T) (512 * t.val)), ev S512x1024 .bf16 (subE (dinL 1024 (rowsF 2816 A W R) G T) (512 * t.val)),
      ev S1x1024 .f32 (dgL 1024 (512 * t.val + 512) (rowsF 2816 A W R) G T), ev S1x128 .f32 (lossL 1024 (512 * t.val + 512) (rowsF 2816 A W R) G T)) := by
  obtain ⟨e0, e1, e2, e3, e4⟩ := shows m c A W R G T hA hW hR hG hT t
  refine (first m c t (by rw [ht]) (by rw [ht]; omega)).trans ?_
  rw [e0, e1, e2, e3, e4]
  refine Prod.ext ((dinV_ev _ W G _ _).trans (congrArg (fun f => ev S512x1024 .f32 f) (sub_dinL 1024 2816 A W R G T _)))
    (Prod.ext ((dinbV_ev _ W G _ _).trans (congrArg (fun f => ev S512x1024 .bf16 f) (sub_dinL 1024 2816 A W R G T _))) (Prod.ext ((dgV_ev _ W G _ _).trans (congrArg (fun f => ev S1x1024 .f32 f) (dgL_start 1024 2816 512 t.val ht A W R G T)))
      ((lossV_ev _ W G _ _).trans (congrArg (fun f => ev S1x128 .f32 f) (lossL_start 1024 2816 512 t.val ht A W R G T)))))

/-- After a point: the block's rows of the gradient, and the gradient of the scale and the loss from the rows so far. -/
theorem left : ∀ (n : ℕ) (hn : n < cfg0.N), outsAt0 m c n hn = (ev S512x1024 .f32 (subE (dinL 1024 (rowsF 2816 A W R) G T) (512 * n)), ev S512x1024 .bf16 (subE (dinL 1024 (rowsF 2816 A W R) G T) (512 * n)),
      ev S1x1024 .f32 (dgL 1024 (512 * n + 512) (rowsF 2816 A W R) G T), ev S1x128 .f32 (lossL 1024 (512 * n + 512) (rowsF 2816 A W R) G T)) := by
  intro n
  induction n with
  | zero => exact fun hn => left_first m c A W R G T hA hW hR hG hT ⟨0, hn⟩ rfl
  | succ n ih =>
    intro hn
    have hN : n + 1 < 8 := hn
    obtain ⟨e0, e1, e2, e3, e4⟩ := shows m c A W R G T hA hW hR hG hT ⟨n + 1, hn⟩
    refine (later m c ⟨n + 1, hn⟩ (by show ¬(n + 1) % 8 = 0; omega) (by show 1 ≤ n + 1; omega)).trans ?_
    rw [e0, e1, e2, e3, e4]
    have ih' := ih (Nat.lt_of_succ_lt hn)
    refine Prod.ext ((dinV_ev _ W G _ _).trans (congrArg (fun f => ev S512x1024 .f32 f) (sub_dinL 1024 2816 A W R G T _)))
      (Prod.ext ((dinbV_ev _ W G _ _).trans (congrArg (fun f => ev S512x1024 .bf16 f) (sub_dinL 1024 2816 A W R G T _))) (Prod.ext ?_ ?_))
    · exact (congrArg (dgV' _ _ _ _ _) (congrArg (fun o => o.2.2.1) ih')).trans ((dgV'_ev (subE A (512 * (n + 1))) W G (subE R (512 * (n + 1))) (subE T (512 * (n + 1))) (dgL 1024 (512 * n + 512) (rowsF 2816 A W R) G T)).trans
        (congrArg (fun f => ev S1x1024 .f32 f) (dgL_add 1024 2816 (512 * n + 512) 512 A W R G T)))
    · exact (congrArg (lossV' _ _ _ _ _) (congrArg (fun o => o.2.2.2) ih')).trans ((lossV'_ev (subE A (512 * (n + 1))) W G (subE R (512 * (n + 1))) (subE T (512 * (n + 1))) (lossL 1024 (512 * n + 512) (rowsF 2816 A W R) G T)).trans
        (congrArg (fun f => ev S1x128 .f32 f) (lossL_add 1024 2816 (512 * n + 512) 512 A W R G T)))

theorem res_dx : (dats m 0 c).arrAt 5 cfg0.N = ev S4096x1024 .f32 (dinL 1024 (rowsF 2816 A W R) G T) := by
  refine (dats m 0 c).arrAt_eq_of_cover 5 (ev S4096x1024 .f32 (dinL 1024 (rowsF 2816 A W R) G T)) (fun t _ => ?_) covered_5
  show (cfg0.win 5).cut (grid0.coords t) ((dats m 0 c).after 5 t) = _
  rw [after0_5, left m c A W R G T hA hW hR hG hT, shown_5]
  rfl

theorem res_dxb : (dats m 0 c).arrAt 6 cfg0.N = ev S4096x1024 .bf16 (dinL 1024 (rowsF 2816 A W R) G T) := by
  refine (dats m 0 c).arrAt_eq_of_cover 6 (ev S4096x1024 .bf16 (dinL 1024 (rowsF 2816 A W R) G T)) (fun t _ => ?_) covered_6
  show (cfg0.win 6).cut (grid0.coords t) ((dats m 0 c).after 6 t) = _
  rw [after0_6, left m c A W R G T hA hW hR hG hT, shown_6]
  rfl

theorem res_dg : (dats m 0 c).arrAt 7 cfg0.N = ev S1x1024 .f32 (dgL 1024 4096 (rowsF 2816 A W R) G T) := by
  refine (dats m 0 c).arrAt_eq_of_cover 7 (ev S1x1024 .f32 (dgL 1024 4096 (rowsF 2816 A W R) G T)) (fun t hf => ?_) covered_7
  show (cfg0.win 7).cut (grid0.coords t) ((dats m 0 c).after 7 t) = _
  have h : t.val = 7 := by have h := (flush0_7 t).1 hf; have h' : t.val < 8 := t.isLt; omega
  rw [after0_7, left m c A W R G T hA hW hR hG hT, shown_7, h]
  rfl

theorem res_loss : (dats m 0 c).arrAt 8 cfg0.N = ev S1x128 .f32 (lossL 1024 4096 (rowsF 2816 A W R) G T) := by
  refine (dats m 0 c).arrAt_eq_of_cover 8 (ev S1x128 .f32 (lossL 1024 4096 (rowsF 2816 A W R) G T)) (fun t hf => ?_) covered_8
  show (cfg0.win 8).cut (grid0.coords t) ((dats m 0 c).after 8 t) = _
  have h : t.val = 7 := by have h := (flush0_8 t).1 hf; have h' : t.val < 8 := t.isLt; omega
  rw [after0_8, left m c A W R G T hA hW hR hG hT, shown_8, h]
  rfl

end

end Cert.Ffn.Loss

end
-- ==== Proof.LossRef.lean ====
/-
  The seventh program's reference, on extended reals: the loss of the rows normalised and scaled, and its gradients. The equation of the norm's gradient with the kernel's is that of the third program.
-/
module

public import proofs.«01_k».proof.Proof.LossBlock
public import proofs.«01_k».proof.Proof.Gen.Reference7Ideal.Run

@[expose] public section

noncomputable section

namespace Cert.Ffn.Loss.Ref

open Cert.Attn (ofBits_one)
open Cert.Ffn.Ref (backP refP_eq slopes slopes_ev inv_ev vars div_num)
open Cert.Reference7Ideal Cert.Reference7Ideal.Gen
open Idealize.ShloMosaic Idealize.ShloMosaic.TcCoe Idealize.SL.Sem
open scoped BigOperators

attribute [local instance] Cert.Reference7Ideal.Gen.facts Cert.Reference3Ideal.Gen.facts

abbrev Tok : Type := FVec Ideal S4096x1024 .f32

/-! ## Single numbers -/

theorem host_total (n : ℕ) (f : EMat) (h hu) : Host.reduceAdd (axes := [0]) (t := ⟨0, ![]⟩) (ev ⟨1, ![n]⟩ .f32 f) (constant ⟨0, ![]⟩ .f32 0x00000000#32 : FVec Ideal ⟨0, ![]⟩ .f32) h hu = ev ⟨0, ![]⟩ .f32 (csum n f) := by
  funext j
  rw [Host.reduceAdd_apply, Ideal.hostReduceAdd_def, Ideal.hostReduceAdd_r1_a0]
  refine (congrArg₂ (· + ·) Cert.Attn.ofBits_zero (fin_sum n (fun k => f k 0))).trans ?_
  rw [EReal.coe_zero, zero_add]; rfl

theorem number {w : BitVec 32} {x : EReal} (h : (Scalar.ofBits .f32 w : Ideal .f32) = x) : (constant ⟨0, ![]⟩ .f32 w : FVec Ideal ⟨0, ![]⟩ .f32) = ev ⟨0, ![]⟩ .f32 (constF x) := by
  funext i; exact h

theorem host_spread0 (s : Shape) (f : EMat) (hb) : broadcastInDim s ![] hb (ev ⟨0, ![]⟩ .f32 f : FVec Ideal ⟨0, ![]⟩ .f32) = ev s .f32 (constF (f 0 0)) := by
  funext i
  exact ValueIdx.broadcastInDim_scalar_apply hb _ i

theorem ofBits_two : (Scalar.ofBits .f32 0x40000000#32 : Ideal .f32) = ((2 : ℝ) : EReal) := by
  simp [Scalar.ofBits, Ideal.ofBits, Ideal.ieee, -EReal.coe_mul]; norm_num

/-! ## The reference's lines -/

def rows (a : FVec Ideal S4096x2816 .bf16) (w : FVec Ideal S2816x1024 .bf16) (x : Tok) : Tok :=
  addf x (Host.dotGeneral dot_S4096x2816_S2816x1024_S4096x1024_1_0_0_1_n_n none (extf .f32 a bitsLt_bf16_f32) (extf .f32 w bitsLt_bf16_f32))
def norms (x : Tok) : Tok := mulf x (broadcastInDim S4096x1024 ![0, 1] bcast_S4096x1_S4096x1024_0_1 (Host.rsqrt (vars x)))
def scaled (p : Tok) (g : FVec Ideal S1x1024 .f32) : Tok := mulf p (broadcastInDim S4096x1024 ![0, 1] bcast_S1x1024_S4096x1024_0_1 g)
def errs (x : Tok) (g : FVec Ideal S1x1024 .f32) (t : Tok) : Tok := subf (scaled (norms x) g) t
/-- One half, divided by the number of columns, for each row. -/
def weights : Tok := broadcastInDim S4096x1024 ![0] bcast_S4096_S4096x1024_0
  (Host.divf (broadcastInDim S4096 ![] bcast_S_S4096 (mulf (constant S_ .f32 0x3F000000#32) (constant S_ .f32 0x3F800000#32))) (broadcastInDim S4096 ![] bcast_S_S4096 (constant S_ .f32 0x44800000#32)))
def douts (e : Tok) : Tok := mulf weights (mulf (broadcastInDim S4096x1024 ![] bcast_S_S4096x1024 (constant S_ .f32 0x40000000#32)) e)
def backs (p x : Tok) (g : FVec Ideal S1x1024 .f32) : Tok :=
  broadcastInDim S4096x1024 ![0] bcast_S4096_S4096x1024_0 (Host.reduceAdd (Host.divf (mulf (shapeCast S4096x1 (Host.reduceAdd (mulf x (scaled p g)) (constant S_ .f32 0x00000000#32) reducesTo_S4096x1024_S4096_d1 h_S_) shapeCasts_S4096_S4096x1) (slopes x))
    (broadcastInDim S4096x1 ![] bcast_S_S4096x1 (constant S_ .f32 0x44800000#32))) (constant S_ .f32 0x00000000#32) reducesTo_S4096x1_S4096_d1 h_S_)
def inputs (p x : Tok) (g : FVec Ideal S1x1024 .f32) : Tok :=
  addf (addf (mulf (scaled p g) (broadcastInDim S4096x1024 ![0, 1] bcast_S4096x1_S4096x1024_0_1 (Host.rsqrt (vars x)))) (mulf x (backs p x g))) (mulf (backs p x g) x)
def scales (p x : Tok) : FVec Ideal S1x1024 .f32 :=
  shapeCast S1x1024 (Host.reduceAdd (mulf (norms x) p) (constant S_ .f32 0x00000000#32) reducesTo_S4096x1024_S1024_d0 h_S_) shapeCasts_S1024_S1x1024
def loss (e : Tok) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))

section
variable (A W R X G T P E : EMat)

theorem rows_ev : rows (ev S4096x2816 .bf16 A) (ev S2816x1024 .bf16 W) (ev S4096x1024 .f32 R) = ev S4096x1024 .f32 (rowsF 2816 A W R) :=
  congrArg (addf (ev S4096x1024 .f32 R)) (host_nn A W dot_S4096x2816_S2816x1024_S4096x1024_1_0_0_1_n_n rfl rfl (fun _ _ => ⟨rfl, rfl⟩) (fun _ _ => ⟨rfl, rfl⟩))

theorem norms_ev : norms (ev S4096x1024 .f32 X) = ev S4096x1024 .f32 (normN 1024 X) := by
  unfold norms
  rw [inv_ev, host_spreadCol, ev_mulf]
  rfl

theorem scaled_ev : scaled (ev S4096x1024 .f32 P) (ev S1x1024 .f32 G) = ev S4096x1024 .f32 (P * rowF G) := by
  unfold scaled
  rw [host_spreadRow, ev_mulf]

theorem errs_ev : errs (ev S4096x1024 .f32 X) (ev S1x1024 .f32 G) (ev S4096x1024 .f32 T) = ev S4096x1024 .f32 (errN 1024 X G T) := by
  unfold errs
  rw [norms_ev, scaled_ev, ev_subf]
  rfl

theorem weights_ev : weights = ev S4096x1024 .f32 (constF (Ideal.div (((1 / 2 : ℝ) : EReal) * ((1 : ℝ) : EReal)) ((1024 : ℝ) : EReal))) := by
  unfold weights
  rw [number ofBits_pos_half, number ofBits_one, ev_mulf, host_spread0, host_const ofBits_1024, host_divf, host_spread1]
  rfl

/-- One half over 1024, times twice the error, is the error over 1024. -/
theorem douts_ev : douts (ev S4096x1024 .f32 E) = ev S4096x1024 .f32 (E * constF ((1 / 1024 : ℝ) : EReal)) := by
  unfold douts
  rw [weights_ev, host_const ofBits_two, ev_mulf, ev_mulf]
  refine congrArg (fun f => ev S4096x1024 .f32 f) ?_
  funext a b
  show Ideal.div (((1 / 2 : ℝ) : EReal) * ((1 : ℝ) : EReal)) ((1024 : ℝ) : EReal) * (((2 : ℝ) : EReal) * E a b) = E a b * ((1 / 1024 : ℝ) : EReal)
  rw [div_num _ 1024 (by norm_num), ← EReal.coe_mul, ← EReal.coe_mul, ← mul_assoc, ← EReal.coe_mul, mul_comm (E a b)]
  exact congrArg (fun r : ℝ => (r : EReal) * E a b) (by norm_num)

theorem backs_ev : backs (ev S4096x1024 .f32 P) (ev S4096x1024 .f32 X) (ev S1x1024 .f32 G) = ev S4096x1024 .f32 (backP 1024 P X G) := by
  unfold backs
  rw [scaled_ev, slopes_ev, ev_mulf, host_rowSum, ev_asCol, ev_mulf, host_const ofBits_1024, host_divf, host_rowSum, host_spread1]
  rfl

theorem inputs_ev : inputs (ev S4096x1024 .f32 P) (ev S4096x1024 .f32 X) (ev S1x1024 .f32 G) = ev S4096x1024 .f32 (dinP 1024 P X G) := by
  have e := refP_eq 1024 P X G 0
  unfold Cert.Ffn.Ref.refP at e
  rw [zero_add, zero_add] at e
  unfold inputs
  rw [scaled_ev, inv_ev, backs_ev, host_spreadCol, ev_mulf, ev_mulf, ev_mulf, ev_addf, ev_addf]
  exact congrArg (fun f => ev S4096x1024 .f32 f) e

theorem scales_ev : scales (ev S4096x1024 .f32 P) (ev S4096x1024 .f32 X) = ev S1x1024 .f32 (dgP 1024 4096 P X) := by
  unfold scales
  rw [norms_ev, ev_mulf, host_colSum, ev_asRow, mul_comm]
  rfl

theorem loss_ev : loss (errs (ev S4096x1024 .f32 X) (ev S1x1024 .f32 G) (ev S4096x1024 .f32 T)) = ev S1x128 .f32 (lossL 1024 4096 X G T) := by
  unfold loss
  rw [errs_ev, ev_mulf, host_rowSum, host_const ofBits_1024, host_divf, host_total, number ofBits_pos_half, ev_mulf, host_spread0]
  rfl

/-! ## The four results, from the arguments -/

theorem ref_loss : loss (errs (rows (ev S4096x2816 .bf16 A) (ev S2816x1024 .bf16 W) (ev S4096x1024 .f32 R)) (ev S1x1024 .f32 G) (ev S4096x1024 .f32 T)) = ev S1x128 .f32 (lossL 1024 4096 (rowsF 2816 A W R) G T) := by
  rw [rows_ev, loss_ev]

theorem ref_dg : scales (douts (errs (rows (ev S4096x2816 .bf16 A) (ev S2816x1024 .bf16 W) (ev S4096x1024 .f32 R)) (ev S1x1024 .f32 G) (ev S4096x1024 .f32 T)))
    (rows (ev S4096x2816 .bf16 A) (ev S2816x1024 .bf16 W) (ev S4096x1024 .f32 R)) = ev S1x1024 .f32 (dgL 1024 4096 (rowsF 2816 A W R) G T) := by
  rw [rows_ev, errs_ev, douts_ev, scales_ev]
  rfl

theorem ref_inputs : inputs (douts (errs (rows (ev S4096x2816 .bf16 A) (ev S2816x1024 .bf16 W) (ev S4096x1024 .f32 R)) (ev S1x1024 .f32 G) (ev S4096x1024 .f32 T)))
    (rows (ev S4096x2816 .bf16 A) (ev S2816x1024 .bf16 W) (ev S4096x1024 .f32 R)) (ev S1x1024 .f32 G) = ev S4096x1024 .f32 (dinL 1024 (rowsF 2816 A W R) G T) := by
  rw [rows_ev, errs_ev, douts_ev, inputs_ev]
  rfl

end

section
variable (m : (ℓ : Loc nD τ sig) → Buf (Elt Ideal) ℓ) (c : Dev nD) (A W R G T : EMat)
variable (hA : m ((c.tc : Thread nD τ).loc main_arg0) = ev S4096x2816 .bf16 A) (hW : m ((c.tc : Thread nD τ).loc main_arg1) = ev S2816x1024 .bf16 W)
  (hR : m ((c.tc : Thread nD τ).loc main_arg2) = ev S4096x1024 .f32 R) (hG : m ((c.tc : Thread nD τ).loc main_arg3) = ev S1x1024 .f32 G)
  (hT : m ((c.tc : Thread nD τ).loc main_arg4) = ev S4096x1024 .f32 T)
include hA hW hR hG hT

theorem ref_dx : Value.res_out0 m c = ev S4096x1024 .f32 (dinL 1024 (rowsF 2816 A W R) G T) := by
  refine Eq.trans ?_ (ref_inputs A W R G T)
  rw [← hA, ← hW, ← hR, ← hG, ← hT]
  rfl

theorem ref_dxb : Value.res_out1 m c = ev S4096x1024 .bf16 (dinL 1024 (rowsF 2816 A W R) G T) := by
  refine Eq.trans ?_ (congrArg (fun v => truncf .bf16 v bitsLt_bf16_f32) (ref_inputs A W R G T))
  rw [← hA, ← hW, ← hR, ← hG, ← hT]
  rfl

end

end Cert.Ffn.Loss.Ref

end
-- ==== Proof.LossEnd.lean ====
/-
  The claim of the seventh program that speaks of values. It has no precondition.
-/
module

public import proofs.«01_k».proof.Defs
public import proofs.«01_k».proof.Proof.FwdFrames
public import proofs.«01_k».proof.Proof.LossFinal
public import proofs.«01_k».proof.Proof.LossRef

@[expose] public section

noncomputable section

namespace Cert.Ffn

open Idealize.ShloMosaic Idealize.ShloMosaic.TcCoe Idealize.SL.Sem

attribute [local instance] Cert.Kernel7.Gen.facts Cert.Kernel7Ideal.Gen.facts Cert.Reference7Ideal.Gen.facts

theorem algebraic7 : Cert.algebraic_Kernel7Ideal_Reference7Ideal := by
  intro m g m' g' _ hargs
  choose A hA using fun c : Dev Cert.Kernel7Ideal.nD => exists_ev (φ := .bf16) (m ((c.tc : Thread Cert.Kernel7Ideal.nD Cert.Kernel7Ideal.τ).loc Cert.Kernel7Ideal.main_arg0))
  choose W hW using fun c : Dev Cert.Kernel7Ideal.nD => exists_ev (φ := .bf16) (m ((c.tc : Thread Cert.Kernel7Ideal.nD Cert.Kernel7Ideal.τ).loc Cert.Kernel7Ideal.main_arg1))
  choose R hR using fun c : Dev Cert.Kernel7Ideal.nD => exists_ev (φ := .f32) (m ((c.tc : Thread Cert.Kernel7Ideal.nD Cert.Kernel7Ideal.τ).loc Cert.Kernel7Ideal.main_arg2))
  choose G hG using fun c : Dev Cert.Kernel7Ideal.nD => exists_ev (φ := .f32) (m ((c.tc : Thread Cert.Kernel7Ideal.nD Cert.Kernel7Ideal.τ).loc Cert.Kernel7Ideal.main_arg3))
  choose T hT using fun c : Dev Cert.Kernel7Ideal.nD => exists_ev (φ := .f32) (m ((c.tc : Thread Cert.Kernel7Ideal.nD Cert.Kernel7Ideal.τ).loc Cert.Kernel7Ideal.main_arg4))
  refine ⟨fun c => ev Cert.Kernel7Ideal.S4096x1024 .f32 (Loss.dinL 1024 (Loss.rowsF 2816 (A c) (W c) (R c)) (G c) (T c)), fun c => ev Cert.Kernel7Ideal.S4096x1024 .bf16 (Loss.dinL 1024 (Loss.rowsF 2816 (A c) (W c) (R c)) (G c) (T c)),
    fun c => ev Cert.Kernel7Ideal.S1x1024 .f32 (Loss.dgL 1024 4096 (Loss.rowsF 2816 (A c) (W c) (R c)) (G c) (T c)), fun c => ev Cert.Kernel7Ideal.S1x128 .f32 (Loss.lossL 1024 4096 (Loss.rowsF 2816 (A c) (W c) (R c)) (G c) (T c)), ?_, ?_⟩
  · refine (θ_run Cert.Kernel7Ideal.defs _ _).mono (fun r h c => ?_) (Cert.Kernel7Ideal.Value.run_blocks (F := Ideal) m g)
    obtain ⟨h5, h6, h7, h8, hargs'⟩ := h c
    exact ⟨h5.trans (Loss.res_dx m c (A c) (W c) (R c) (G c) (T c) (hA c) (hW c) (hR c) (hG c) (hT c)),
      h6.trans (Loss.res_dxb m c (A c) (W c) (R c) (G c) (T c) (hA c) (hW c) (hR c) (hG c) (hT c)),
      h7.trans (Loss.res_dg m c (A c) (W c) (R c) (G c) (T c) (hA c) (hW c) (hR c) (hG c) (hT c)),
      h8.trans (Loss.res_loss m c (A c) (W c) (R c) (G c) (T c) (hA c) (hW c) (hR c) (hG c) (hT c)), hargs'⟩
  · refine (θ_run Cert.Reference7Ideal.defs _ _).mono (fun r h c => ?_) (Cert.Reference7Ideal.Value.run (F := Ideal) m' g')
    obtain ⟨a0, a1, a2, a3, a4⟩ := hargs c
    have eA := a0.trans (hA c)
    have eW := a1.trans (hW c)
    have eR := a2.trans (hR c)
    have eG := a3.trans (hG c)
    have eT := a4.trans (hT c)
    obtain ⟨h5, h6, h7, h8, hargs'⟩ := h c
    refine ⟨h5.trans (Loss.Ref.ref_dx m' c (A c) (W c) (R c) (G c) (T c) eA eW eR eG eT), h6.trans (Loss.Ref.ref_dxb m' c (A c) (W c) (R c) (G c) (T c) eA eW eR eG eT),
      h7.trans (Eq.trans ?_ (Loss.Ref.ref_dg (A c) (W c) (R c) (G c) (T c))), h8.trans (Eq.trans ?_ (Loss.Ref.ref_loss (A c) (W c) (R c) (G c) (T c))), hargs'⟩
    · rw [← eA, ← eW, ← eR, ← eG, ← eT]
      rfl
    · rw [← eA, ← eW, ← eR, ← eG, ← eT]
      rfl

end Cert.Ffn

end
-- ==== Proof.MemMath.lean ====
/-
  The memory attention on extended reals: the maximum of a row, the weights of its softmax and their gradient, arrays put together from heads of 256 columns. The scores are over four
  heads, each with a quarter of the columns of the queries, of the keys and of the values.
-/
module

public import proofs.«01_k».proof.Proof.NormRef
public import proofs.«01_k».proof.Proof.InBlock
public import proofs.«01_k».proof.Proof.MixHost
public import proofs.«01_k».proof.Proof.LossRef
public import Idealize.ShloMosaic.Lib.KernelVsHost
public import Idealize.ShloMosaic.Lib.ValueIdx

@[expose] public section

noncomputable section

namespace Cert.Ffn.Mem

open Cert.Ffn.Ref (div_num sum_scale)
open Idealize.ShloMosaic
open scoped BigOperators

/-- The greatest of the first `n` entries of a row, in every column. -/
def maxF (n : ℕ) (f : EMat) : EMat := fun a _ => (Finset.univ : Finset (Fin n)).fold max ⊥ (fun k => f a k.val)
/-- A row's exponentials, after its maximum is taken off. -/
def eF (n : ℕ) (S : EMat) : EMat := expF (S - maxF n S)
/-- The weights of a row: its softmax. -/
def probF (n : ℕ) (S : EMat) : EMat := divF (eF n S) (rsum n (eF n S))
/-- The scores of the rows `Q` and the keys `K`. -/
def scoreF (d : ℕ) (Q K : EMat) : EMat := ntF d Q K * constF ((1 / 16 : ℝ) : EReal)
/-- The gradient of the scores' products from that of the weights, as the kernel takes it. -/
def backK (n : ℕ) (D S : EMat) : EMat := probF n S * (D - rsum n (D * probF n S)) * constF ((1 / 16 : ℝ) : EReal)
/-- The same, as the reference takes it. -/
def backR (n : ℕ) (D S : EMat) : EMat :=
  divF ((divF D (rsum n (eF n S)) + rsum 1 (-(rsum n (D * divF (constF ((1 : ℝ) : EReal)) (rsum n (eF n S) * rsum n (eF n S)) * eF n S)))) * eF n S) (constF ((16 : ℝ) : EReal))
/-- The heads' matrices, 256 columns each, side by side. -/
def headF (g : ℕ → EMat) : EMat := fun a b => g (b / 256) a (b % 256)

theorem ofBits_least : (Scalar.ofBits .f32 0xFF800000#32 : Ideal .f32) = (⊥ : EReal) := by
  simp [Scalar.ofBits, Ideal.ofBits, Ideal.ieee]

theorem ofBits_sixteenth : (Scalar.ofBits .f32 0x3D800000#32 : Ideal .f32) = ((1 / 16 : ℝ) : EReal) := by
  simp [Scalar.ofBits, Ideal.ofBits, Ideal.ieee, -EReal.coe_mul]; norm_num

theorem ofBits_16 : (Scalar.ofBits .f32 0x41800000#32 : Ideal .f32) = ((16 : ℝ) : EReal) := by
  simp [Scalar.ofBits, Ideal.ofBits, Ideal.ieee, -EReal.coe_mul]; norm_num

/-! ## Operations -/

section
variable {n m : ℕ} (f : EMat)

theorem ev_rowMax (h hφ hacc) : multiReduction .maximumf [1] ⟨1, ![n]⟩ (ev ⟨2, ![n, m]⟩ .f32 f) 0xFF800000#32 h hφ hacc = ev ⟨1, ![n]⟩ .f32 (maxF m f) := by
  funext j
  rw [multiReduction_maximumf_eq_fold, Shape.Reduces.fold_fiber_r2_a1]
  exact congrArg (fun z : EReal => (Finset.univ : Finset (Fin m)).fold max z (fun k => f (j 0).val k.val)) ofBits_least

theorem host_rowMax (h hu) (h' : (⟨2, ![n, m]⟩ : Shape).Reduces [1] ⟨1, ![n]⟩) :
    Host.reduce (axes := [1]) (t := ⟨1, ![n]⟩) FloatOps.maximumf (ev ⟨2, ![n, m]⟩ .f32 f) (constant ⟨0, ![]⟩ .f32 0xFF800000#32 : FVec Ideal ⟨0, ![]⟩ .f32) h hu = ev ⟨1, ![n]⟩ .f32 (maxF m f) :=
  (hostReduce_maximumf_eq_multiReduction _ _ h hu h' (.inl rfl) rfl).trans (ev_rowMax f h' _ _)

theorem least_max {s : Shape} (g : EMat) : maximumf (ev s .f32 (constF ⊥)) (ev s .f32 g) = ev s .f32 g := by
  funext i
  exact max_eq_right bot_le

theorem ev_exp {s : Shape} : exp (ev s .f32 f) = ev s .f32 (expF f) := rfl
theorem host_exp {s : Shape} : Host.exp (ev s .f32 f) = ev s .f32 (expF f) := rfl
theorem host_negf {s : Shape} : Host.negf (ev s .f32 f) = ev s .f32 (-f) := rfl

theorem ev_heads (g : ℕ → EMat) (h : Shape.Concatenates [(⟨2, ![n, 256]⟩ : Shape), ⟨2, ![n, 256]⟩, ⟨2, ![n, 256]⟩, ⟨2, ![n, 256]⟩] ⟨2, ![n, 1024]⟩ 1) :
    concatenate ⟨2, ![n, 1024]⟩ 1 [⟨⟨2, ![n, 256]⟩, ev ⟨2, ![n, 256]⟩ .f32 (g 0)⟩, ⟨⟨2, ![n, 256]⟩, ev ⟨2, ![n, 256]⟩ .f32 (g 1)⟩, ⟨⟨2, ![n, 256]⟩, ev ⟨2, ![n, 256]⟩ .f32 (g 2)⟩, ⟨⟨2, ![n, 256]⟩, ev ⟨2, ![n, 256]⟩ .f32 (g 3)⟩] h
      = ev ⟨2, ![n, 1024]⟩ .f32 (headF g) := by
  funext j
  have h1 : (j 1).val < 1024 := (j 1).isLt
  exact concatenate_ofFn_apply (t := ⟨2, ![n, 1024]⟩) (s₁ := ⟨2, ![n, 256]⟩) (1 : Fin 2) (N := 4) (fun k => ev ⟨2, ![n, 256]⟩ .f32 (g k.val)) h rfl 256 rfl j ⟨(j 1).val / 256, by omega⟩ rfl
    (ValueIdx.ix2 (n0 := n) (n1 := 256) (j 0) ⟨(j 1).val % 256, Nat.mod_lt _ (by norm_num)⟩) rfl
    (fun d hd => by match d, hd with | ⟨0, _⟩, _ => rfl | ⟨1, _⟩, hd => exact absurd rfl hd)

/-- A head's columns of arrays side by side. -/
theorem head_right (N : ℕ) (φ : FTy) (g : ℕ → EMat) (h o : ℕ) : ev ⟨2, ![N, 256]⟩ φ (subE (g h) o) = ev ⟨2, ![N, 256]⟩ φ (subE (rightF (256 * h) (headF g)) o) :=
  ev_congr φ fun a _ b hb => by
    show g h (o + a) b = g ((256 * h + b) / 256) (o + a) ((256 * h + b) % 256)
    rw [show (256 * h + b) / 256 = h by omega, show (256 * h + b) % 256 = b by omega]

theorem head_at (N : ℕ) (φ : FTy) (g : ℕ → EMat) (h : ℕ) : ev ⟨2, ![N, 256]⟩ φ (g h) = ev ⟨2, ![N, 256]⟩ φ (rightF (256 * h) (headF g)) :=
  ev_congr φ fun a _ b hb => by
    show g h a b = g ((256 * h + b) / 256) a ((256 * h + b) % 256)
    rw [show (256 * h + b) / 256 = h by omega, show (256 * h + b) % 256 = b by omega]

theorem tn_swap (N : ℕ) (f g : EMat) : transF (tnF N f g) = tnF N g f := by
  funext a b
  unfold tnF transF
  exact Finset.sum_congr rfl fun x _ => mul_comm _ _

/-- A sum over rows, in two blocks. -/
theorem tn_two (N : ℕ) (f g : EMat) : tnF N (subE f (N * 0)) (subE g (N * 0)) + tnF N (subE f (N * 1)) (subE g (N * 1)) = tnF (N + N) f g := by
  funext a b
  show ∑ x ∈ Finset.range N, f (N * 0 + x) a * g (N * 0 + x) b + ∑ x ∈ Finset.range N, f (N * 1 + x) a * g (N * 1 + x) b = ∑ x ∈ Finset.range (N + N), f x a * g x b
  rw [Finset.sum_range_add, mul_zero, mul_one]
  simp only [zero_add]

theorem dk_two (N n : ℕ) (Q K V O : EMat) :
    tnF N (backK n (ntF n (subE O (N * 0)) V) (scoreF n (subE Q (N * 0)) K)) (subE Q (N * 0)) + tnF N (backK n (ntF n (subE O (N * 1)) V) (scoreF n (subE Q (N * 1)) K)) (subE Q (N * 1))
      = tnF (N + N) (backK n (ntF n O V) (scoreF n Q K)) Q :=
  tn_two N (backK n (ntF n O V) (scoreF n Q K)) Q

theorem dv_two (N n : ℕ) (Q K O : EMat) :
    tnF N (probF n (scoreF n (subE Q (N * 0)) K)) (subE O (N * 0)) + tnF N (probF n (scoreF n (subE Q (N * 1)) K)) (subE O (N * 1)) = tnF (N + N) (probF n (scoreF n Q K)) O :=
  tn_two N (probF n (scoreF n Q K)) O

end

/-! ## Where the scores are real numbers -/

theorem score_eq (d : ℕ) (Q K : EMat) : divF (ntF d Q K) (constF ((16 : ℝ) : EReal)) = scoreF d Q K := by
  funext a b
  exact (div_num _ 16 (by norm_num)).trans (congrArg (fun r : ℝ => ntF d Q K a b * (r : EReal)) (by norm_num))

theorem score_real (d : ℕ) (Q K : EMat) (hQ : ∀ a, ∀ x < d, ∃ r : ℝ, Q a x = r) (hK : ∀ b, ∀ x < d, ∃ r : ℝ, K b x = r) (a b : ℕ) : ∃ r : ℝ, scoreF d Q K a b = r := by
  have h : ∀ k ≤ d, ∃ r : ℝ, ∑ x ∈ Finset.range k, Q a x * K b x = (r : EReal) := by
    intro k
    induction k with
    | zero => exact fun _ => ⟨0, by rw [Finset.sum_range_zero, EReal.coe_zero]⟩
    | succ k ih =>
      intro hk
      obtain ⟨r, hr⟩ := ih (by omega)
      obtain ⟨u, hu⟩ := hQ a k (by omega)
      obtain ⟨v, hv⟩ := hK b k (by omega)
      exact ⟨r + u * v, by rw [Finset.sum_range_succ, hr, hu, hv, ← EReal.coe_mul, ← EReal.coe_add]⟩
  obtain ⟨r, hr⟩ := h d le_rfl
  refine ⟨r * (1 / 16), ?_⟩
  show (∑ x ∈ Finset.range d, Q a x * K b x) * ((1 / 16 : ℝ) : EReal) = _
  rw [hr, ← EReal.coe_mul]

section
variable (n : ℕ) (hn : 0 < n) (S : EMat) (hS : ∀ a b, ∃ r : ℝ, S a b = r)
include hn hS

theorem max_real (a b : ℕ) : ∃ r : ℝ, maxF n S a b = r := by
  have h1 : maxF n S a b ≠ ⊤ := (lt_top_iff_ne_top.1 ((Finset.fold_max_lt _).2 ⟨bot_lt_top, fun k _ => by obtain ⟨r, hr⟩ := hS a k.val; rw [hr]; exact EReal.coe_lt_top r⟩))
  have h2 : maxF n S a b ≠ ⊥ := by
    obtain ⟨r, hr⟩ := hS a 0
    have h : S a 0 ≤ maxF n S a b := (Finset.le_fold_max _).2 (Or.inr ⟨⟨0, hn⟩, Finset.mem_univ _, le_rfl⟩)
    rw [hr] at h
    exact fun e => absurd (e ▸ h) (not_le.2 (EReal.bot_lt_coe r))
  exact ⟨_, (EReal.coe_toReal h1 h2).symm⟩

theorem e_real (a b : ℕ) : ∃ r : ℝ, 0 < r ∧ eF n S a b = r := by
  obtain ⟨u, hu⟩ := hS a b
  obtain ⟨v, hv⟩ := max_real n hn S hS a b
  refine ⟨Real.exp (u - v), Real.exp_pos _, ?_⟩
  show Ideal.exp (S a b - maxF n S a b) = _
  rw [hu, hv, ← EReal.coe_sub, Ideal.exp_coe]

theorem total_real (a b : ℕ) : ∃ r : ℝ, 0 < r ∧ rsum n (eF n S) a b = r := by
  have h : ∀ k, ∃ r : ℝ, 0 ≤ r ∧ ∑ x ∈ Finset.range k, eF n S a x = (r : EReal) := by
    intro k
    induction k with
    | zero => exact ⟨0, le_rfl, by rw [Finset.sum_range_zero, EReal.coe_zero]⟩
    | succ k ih =>
      obtain ⟨r, h0, hr⟩ := ih
      obtain ⟨u, hu, hu'⟩ := e_real n hn S hS a k
      exact ⟨r + u, by linarith, by rw [Finset.sum_range_succ, hr, hu', ← EReal.coe_add]⟩
  obtain ⟨k, rfl⟩ : ∃ k, n = k + 1 := ⟨n - 1, by omega⟩
  obtain ⟨r, h0, hr⟩ := h k
  obtain ⟨u, hu, hu'⟩ := e_real (k + 1) hn S hS a k
  refine ⟨r + u, by linarith, ?_⟩
  show ∑ x ∈ Finset.range (k + 1), eF (k + 1) S a x = _
  rw [Finset.sum_range_succ, hr, hu', ← EReal.coe_add]

/-- The two orders agree: the total of the exponentials is a positive number, so that its reciprocal may be taken out of the sum and of the difference. -/
theorem back_eq (D : EMat) : backR n D S = backK n D S := by
  funext a b
  obtain ⟨z, hz, hz'⟩ := total_real n hn S hS a b
  have hZ : ∀ x, rsum n (eF n S) a x = (z : EReal) := fun _ => hz'
  have hw : 0 ≤ z⁻¹ := (inv_pos.2 hz).le
  have hp : ∀ x, probF n S a x = eF n S a x * ((z⁻¹ : ℝ) : EReal) := fun x => by
    show Ideal.div (eF n S a x) (rsum n (eF n S) a x) = _
    rw [hZ, div_num _ z hz.ne']
  have hT : ∑ x ∈ Finset.range n, D a x * Ideal.div ((1 : ℝ) : EReal) (rsum n (eF n S) a x * rsum n (eF n S) a x) * eF n S a x
      = (∑ x ∈ Finset.range n, D a x * probF n S a x) * ((z⁻¹ : ℝ) : EReal) := by
    rw [← sum_scale n _ _ hw]
    refine Finset.sum_congr rfl fun x _ => ?_
    rw [hZ, hp, ← EReal.coe_mul, div_num _ (z * z) (mul_pos hz hz).ne', ← EReal.coe_mul, one_mul, mul_inv, EReal.coe_mul]
    ac_rfl
  show Ideal.div ((Ideal.div (D a b) (rsum n (eF n S) a b) + ∑ y ∈ Finset.range 1, -(∑ x ∈ Finset.range n, D a x * Ideal.div ((1 : ℝ) : EReal) (rsum n (eF n S) a x * rsum n (eF n S) a x) * eF n S a x)) * eF n S a b) ((16 : ℝ) : EReal)
    = probF n S a b * (D a b - ∑ x ∈ Finset.range n, D a x * probF n S a x) * ((1 / 16 : ℝ) : EReal)
  rw [Finset.sum_range_one, hT, hZ, div_num _ z hz.ne', div_num _ 16 (by norm_num), hp b]
  generalize (∑ x ∈ Finset.range n, D a x * probF n S a x) = T
  have e : D a b * ((z⁻¹ : ℝ) : EReal) + -(T * ((z⁻¹ : ℝ) : EReal)) = ((z⁻¹ : ℝ) : EReal) * (D a b - T) := by
    rw [sub_eq_add_neg, EReal.left_distrib_of_nonneg_of_ne_top (EReal.coe_nonneg.2 hw) (EReal.coe_ne_top _), mul_comm (D a b), ← EReal.neg_mul, mul_comm (-T)]
  rw [e, mul_comm _ (eF n S a b), ← mul_assoc]
  exact congrArg (fun r : ℝ => eF n S a b * ((z⁻¹ : ℝ) : EReal) * (D a b - T) * (r : EReal)) (by norm_num)

end

/-! ## The results of a head -/

section
variable (Q KV O : EMat) (h : ℕ)

/-- The weights of head `h`. -/
def probH : EMat := probF 256 (scoreF 256 (rightF (256 * h) Q) (rightF (256 * h) KV))
/-- The gradient of the scores' products of head `h`. -/
def dsH : EMat := backK 256 (ntF 256 (rightF (256 * h) O) (rightF (256 * (4 + h)) KV)) (scoreF 256 (rightF (256 * h) Q) (rightF (256 * h) KV))
/-- The head's output. -/
def outH : EMat := nnF 256 (probH Q KV h) (rightF (256 * (4 + h)) KV)
def dqH : EMat := nnF 256 (dsH Q KV O h) (rightF (256 * h) KV)
/-- The gradients of the head's keys and values, from the first `N` rows. -/
def dkH (N : ℕ) : EMat := tnF N (dsH Q KV O h) (rightF (256 * h) Q)
def dvH (N : ℕ) : EMat := tnF N (probH Q KV h) (rightF (256 * h) O)

end

end Cert.Ffn.Mem

end
-- ==== Proof.MemFwd.lean ====
/-
  The memory attention's forward call: what a point of the grid computes from a head's columns of a block of rows, what the result array holds, and the reference's lines.
-/
module

public import proofs.«01_k».proof.Proof.Places
public import proofs.«01_k».proof.Proof.MemMath
public import proofs.«01_k».proof.Proof.MergeMath
public import proofs.«01_k».proof.Proof.Gen.Kernel9Ideal.Value
public import proofs.«01_k».proof.Proof.Gen.Reference9Ideal.Run

@[expose] public section

noncomputable section

namespace Cert.Ffn.Mem

open Idealize.ShloMosaic Idealize.ShloMosaic.TcCoe
open Idealize.SL.Sem
open Idealize.ShloMosaic.Pipeline (Dat Cfg Window)

section

open Cert.Kernel9Ideal Cert.Kernel9Ideal.Gen

/-! ## From one block -/

/-- Each row's maximum, and each row's sum, as a column. -/
def tops (f : FVec Ideal S2048x256 .f32) : FVec Ideal S2048x1 .f32 := shapeCast S2048x1 (multiReduction .maximumf [1] S2048 f 0xFF800000#32 reduces_S2048x256_S2048 (.inl rfl) rfl) shapeCasts_S2048_S2048x1
def sums (f : FVec Ideal S2048x256 .f32) : FVec Ideal S2048x1 .f32 := shapeCast S2048x1 (multiReduction .add [1] S2048 f 0x00000000#32 reduces_S2048x256_S2048 (.inl rfl) rfl) shapeCasts_S2048_S2048x1
def scores (q : FVec Ideal S2048x256 .bf16) (k : FVec Ideal S256x256 .bf16) : FVec Ideal S2048x256 .f32 :=
  mulf (matmul dot_S2048x256_S256x256_S2048x256_1_1_0_0_n_n none q k (constant S2048x256 .f32 0x00000000#32)) (broadcast S2048x256 (Scalar.ofBits .f32 0x3D800000#32))
/-- The exponentials of scores, each row's maximum taken off, and the weights. -/
def exps (s : FVec Ideal S2048x256 .f32) : FVec Ideal S2048x256 .f32 := exp (subf s (broadcastTo S2048x256 (tops s) broadcasts_S2048x1_S2048x256))
def probs (q : FVec Ideal S2048x256 .bf16) (k : FVec Ideal S256x256 .bf16) : FVec Ideal S2048x256 .f32 :=
  divf (exps (scores q k)) (broadcastTo S2048x256 (sums (exps (scores q k))) broadcasts_S2048x1_S2048x256)

theorem tops_ev (f : EMat) : tops (ev S2048x256 .f32 f) = ev S2048x1 .f32 (maxF 256 f) := by
  refine (congrArg (fun v => shapeCast S2048x1 v shapeCasts_S2048_S2048x1) (ev_rowMax f _ _ _)).trans ?_
  rw [ev_asCol]
  rfl

theorem sums_ev (f : EMat) : sums (ev S2048x256 .f32 f) = ev S2048x1 .f32 (rsum 256 f) := by
  refine (congrArg (fun v => shapeCast S2048x1 v shapeCasts_S2048_S2048x1) (ev_rowSum f _ _ _ _)).trans ?_
  rw [ev_asCol]
  rfl

section
variable (Q K V S : EMat)

theorem scores_ev : scores (ev S2048x256 .bf16 Q) (ev S256x256 .bf16 K) = ev S2048x256 .f32 (scoreF 256 Q K) := by
  unfold scores
  rw [ev_constant, ev_const ofBits_sixteenth]
  exact congrArg (fun v => mulf v (ev S2048x256 .f32 (constF ((1 / 16 : ℝ) : EReal)))) (Merge.ev_nt' Q K dot_S2048x256_S256x256_S2048x256_1_1_0_0_n_n rfl rfl (fun _ _ => ⟨rfl, rfl⟩) (fun _ _ => ⟨rfl, rfl⟩))

theorem exps_ev : exps (ev S2048x256 .f32 S) = ev S2048x256 .f32 (eF 256 S) := by
  unfold exps
  rw [tops_ev, ev_spreadCol, ev_subf, ev_exp]
  rfl

theorem probs_ev : probs (ev S2048x256 .bf16 Q) (ev S256x256 .bf16 K) = ev S2048x256 .f32 (probF 256 (scoreF 256 Q K)) := by
  unfold probs
  rw [scores_ev, exps_ev, sums_ev, ev_spreadCol, ev_divf]
  rfl

theorem out0_3_ev : out0_3 (F := Ideal) (ev S2048x256 .bf16 Q) (ev S256x256 .bf16 K) (ev S256x256 .bf16 V) = ev S2048x256 .bf16 (nnF 256 (probF 256 (scoreF 256 Q K)) V) := by
  unfold out0_3
  rw [View.canon_unit_zero origin, View.ld_unit_zero (S := S2048x256) origin, View.ld_unit_zero (S := S256x256) origin, View.ld_unit_zero (S := S256x256) origin]
  show truncf .bf16 (matmul dot_S2048x256_S256x256_S2048x256_1_0_0_1_n_n none (truncf .bf16 (probs (ev S2048x256 .bf16 Q) (ev S256x256 .bf16 K)) bitsLt_bf16_f32) (ev S256x256 .bf16 V : FVec Ideal S256x256 .bf16)
    (constant S2048x256 .f32 0x00000000#32)) bitsLt_bf16_f32 = _
  rw [probs_ev, ev_truncf, ev_constant]
  exact congrArg (fun v => truncf .bf16 v bitsLt_bf16_f32) (In.ev_nn _ V dot_S2048x256_S256x256_S2048x256_1_0_0_1_n_n rfl rfl (fun _ _ => ⟨rfl, rfl⟩) (fun _ _ => ⟨rfl, rfl⟩))

end

/-! ## The windows -/

theorem place9 : ∀ t : Fin grid0.N, (win0_0.index t 0 = t.val % 2 ∧ win0_0.index t 1 = t.val / 2) ∧ (win0_1.index t 0 = 0 ∧ win0_1.index t 1 = t.val / 2)
    ∧ (win0_2.index t 0 = 0 ∧ win0_2.index t 1 = 4 + t.val / 2) ∧ (win0_3.index t 0 = t.val % 2 ∧ win0_3.index t 1 = t.val / 2) := by decide +kernel

section
variable (X : EMat) (t : Fin cfg0.N)

theorem shown9_0 : ((cfg0.win 0).blk t).view.read (Elt Ideal) (ev S4096x1024 .bf16 X) = ev S2048x256 .bf16 (subE (rightF (256 * (t.val / 2)) X) (2048 * (t.val % 2))) :=
  shown_part X (at_place win0_0 rfl (place9 t).1)

theorem shown9_1 : ((cfg0.win 1).blk t).view.read (Elt Ideal) (ev S256x2048 .bf16 X) = ev S256x256 .bf16 (rightF (256 * (t.val / 2)) X) :=
  shown_cols X (at_place win0_1 rfl (place9 t).2.1)

theorem shown9_2 : ((cfg0.win 2).blk t).view.read (Elt Ideal) (ev S256x2048 .bf16 X) = ev S256x256 .bf16 (rightF (256 * (4 + t.val / 2)) X) :=
  shown_cols X (at_place win0_2 rfl (place9 t).2.2.1)

theorem shown9_3 : ((cfg0.win 3).blk t).view.read (Elt Ideal) (ev S4096x1024 .bf16 X) = ev S2048x256 .bf16 (subE (rightF (256 * (t.val / 2)) X) (2048 * (t.val % 2))) :=
  shown_part X (at_place win0_3 rfl (place9 t).2.2.2)

end

theorem covered9_3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  obtain ⟨n, hn⟩ : ∃ n, n = (i 1).val / 256 * 2 + (i 0).val / 2048 := ⟨_, rfl⟩
  have ht : n < 8 := by omega
  refine ⟨⟨n, ht⟩, flush0_3 _, ?_⟩
  show i ∈ ((View.whole main_v0).slice (win0_3.rect ⟨n, ht⟩)).set
  rw [View.set_slice_whole, Rect.mem_set_unit]
  have hp := (place9 ⟨n, ht⟩).2.2.2
  refine in_place (n % 2) (n / 2) 2048 256 ?_ ?_ ?_ ?_ ?_
  exacts [congrArg (· * 2048) hp.1, congrArg (· * 256) hp.2, ⟨rfl, rfl⟩, by omega, by omega]

theorem res_out (m : (ℓ : Loc nD τ sig) → Buf (Elt Ideal) ℓ) (c : Dev nD) (Q KV : EMat) (hQ : m ((c : Thread nD τ).loc main_arg0) = ev S4096x1024 .bf16 Q)
    (hKV : m ((c : Thread nD τ).loc main_arg1) = ev S256x2048 .bf16 KV) : (dats m 0 c).arrAt 3 cfg0.N = ev S4096x1024 .bf16 (headF (outH Q KV)) := by
  refine (dats m 0 c).arrAt_eq_of_cover 3 (ev S4096x1024 .bf16 (headF (outH Q KV))) (fun t _ => ?_) covered9_3
  show (cfg0.win 3).cut (grid0.coords t) ((dats m 0 c).after 3 t) = _
  have e0 : iblk m c 0 t = ev S2048x256 .bf16 (subE (rightF (256 * (t.val / 2)) Q) (2048 * (t.val % 2))) := (congrArg (((cfg0.win 0).blk t).view.read (Elt Ideal)) hQ).trans (shown9_0 Q t)
  have e1 : iblk m c 1 t = ev S256x256 .bf16 (rightF (256 * (t.val / 2)) KV) := (congrArg (((cfg0.win 1).blk t).view.read (Elt Ideal)) hKV).trans (shown9_1 KV t)
  have e2 : iblk m c 2 t = ev S256x256 .bf16 (rightF (256 * (4 + t.val / 2)) KV) := (congrArg (((cfg0.win 2).blk t).view.read (Elt Ideal)) hKV).trans (shown9_2 KV t)
  rw [after0_3, e0, e1, e2, out0_3_ev, shown9_3]
  exact head_right 2048 .bf16 (outH Q KV) (t.val / 2) (2048 * (t.val % 2))

end

/-! ## The reference's lines -/

namespace Ref

open Cert.Reference9Ideal Cert.Reference9Ideal.Gen

def score (q : FVec Ideal S4096x256 .f32) (k : FVec Ideal S256x256 .f32) : FVec Ideal S4096x256 .f32 :=
  Host.divf (Host.dotGeneral dot_S4096x256_S256x256_S4096x256_1_0_0_1_n_n none q (transpose S256x256 [1, 0] k transposes_S256x256_S256x256_1_0)) (broadcastInDim S4096x256 ![] bcast_S_S4096x256 (constant S_ .f32 0x41800000#32))
def expo (s : FVec Ideal S4096x256 .f32) : FVec Ideal S4096x256 .f32 :=
  Host.exp (subf s (broadcastInDim S4096x256 ![0, 1] bcast_S4096x1_S4096x256_0_1 (broadcastInDim S4096x1 ![0] bcast_S4096_S4096x1_0
    (maximumf (broadcastInDim S4096 ![] bcast_S_S4096 (constant S_ .f32 0xFF800000#32)) (Host.reduce FloatOps.maximumf s (constant S_ .f32 0xFF800000#32) reducesTo_S4096x256_S4096_d1 h_S_)))))
def total (e : FVec Ideal S4096x256 .f32) : FVec Ideal S4096x1 .f32 :=
  broadcastInDim S4096x1 ![0] bcast_S4096_S4096x1_0 (Host.reduceAdd e (constant S_ .f32 0x00000000#32) reducesTo_S4096x256_S4096_d1 h_S_)
def weight (e : FVec Ideal S4096x256 .f32) : FVec Ideal S4096x256 .f32 :=
  Host.divf e (broadcastInDim S4096x256 ![0, 1] bcast_S4096x1_S4096x256_0_1 (total e))
/-- The output of the head whose columns of the queries, keys and values are given. -/
def out (q : FVec Ideal S4096x256 .f32) (k v : FVec Ideal S256x256 .f32) : FVec Ideal S4096x256 .f32 :=
  Host.dotGeneral dot_S4096x256_S256x256_S4096x256_1_0_0_1_n_n none (weight (expo (score q k))) v

section
variable (Q K V S : EMat)

theorem score_ev : score (ev S4096x256 .f32 Q) (ev S256x256 .f32 K) = ev S4096x256 .f32 (scoreF 256 Q K) := by
  unfold score
  rw [ev_transpose, host_const ofBits_16]
  refine (congrArg (fun v => Host.divf v _) (host_nn Q (transF K) dot_S4096x256_S256x256_S4096x256_1_0_0_1_n_n rfl rfl (fun _ _ => ⟨rfl, rfl⟩) (fun _ _ => ⟨rfl, rfl⟩))).trans ?_
  rw [host_divf]
  exact congrArg (fun f => ev S4096x256 .f32 f) (score_eq 256 Q K)

theorem expo_ev : expo (ev S4096x256 .f32 S) = ev S4096x256 .f32 (eF 256 S) := by
  unfold expo
  rw [host_const ofBits_least, host_rowMax S _ _ (by decide), least_max, host_spread1, host_spreadCol, ev_subf, host_exp]
  rfl

theorem total_ev : total (ev S4096x256 .f32 S) = ev S4096x1 .f32 (rsum 256 S) := by
  unfold total
  rw [host_rowSum, host_spread1]
  rfl

theorem weight_ev : weight (ev S4096x256 .f32 (eF 256 S)) = ev S4096x256 .f32 (probF 256 S) := by
  unfold weight
  rw [total_ev, host_spreadCol, host_divf]
  rfl

theorem out_ev : out (ev S4096x256 .f32 Q) (ev S256x256 .f32 K) (ev S256x256 .f32 V) = ev S4096x256 .f32 (nnF 256 (probF 256 (scoreF 256 Q K)) V) := by
  unfold out
  rw [score_ev, expo_ev, weight_ev]
  exact host_nn _ V dot_S4096x256_S256x256_S4096x256_1_0_0_1_n_n rfl rfl (fun _ _ => ⟨rfl, rfl⟩) (fun _ _ => ⟨rfl, rfl⟩)

end

/-- The four heads' outputs, rounded. -/
def outs (q : FVec Ideal S4096x1024 .bf16) (kv : FVec Ideal S256x2048 .bf16) : FVec Ideal S4096x1024 .bf16 :=
  truncf .bf16 (concatenate S4096x1024 1
    [⟨S4096x256, out (extractStridedSlice S4096x256 ![0, 0] (extf .f32 q bitsLt_bf16_f32) slices_S4096x1024_S4096x256_0_0) (extractStridedSlice S256x256 ![0, 0] (extf .f32 kv bitsLt_bf16_f32) slices_S256x2048_S256x256_0_0)
      (extractStridedSlice S256x256 ![0, 1024] (extf .f32 kv bitsLt_bf16_f32) slices_S256x2048_S256x256_0_1024)⟩,
     ⟨S4096x256, out (extractStridedSlice S4096x256 ![0, 256] (extf .f32 q bitsLt_bf16_f32) slices_S4096x1024_S4096x256_0_256) (extractStridedSlice S256x256 ![0, 256] (extf .f32 kv bitsLt_bf16_f32) slices_S256x2048_S256x256_0_256)
      (extractStridedSlice S256x256 ![0, 1280] (extf .f32 kv bitsLt_bf16_f32) slices_S256x2048_S256x256_0_1280)⟩,
     ⟨S4096x256, out (extractStridedSlice S4096x256 ![0, 512] (extf .f32 q bitsLt_bf16_f32) slices_S4096x1024_S4096x256_0_512) (extractStridedSlice S256x256 ![0, 512] (extf .f32 kv bitsLt_bf16_f32) slices_S256x2048_S256x256_0_512)
      (extractStridedSlice S256x256 ![0, 1536] (extf .f32 kv bitsLt_bf16_f32) slices_S256x2048_S256x256_0_1536)⟩,
     ⟨S4096x256, out (extractStridedSlice S4096x256 ![0, 768] (extf .f32 q bitsLt_bf16_f32) slices_S4096x1024_S4096x256_0_768) (extractStridedSlice S256x256 ![0, 768] (extf .f32 kv bitsLt_bf16_f32) slices_S256x2048_S256x256_0_768)
      (extractStridedSlice S256x256 ![0, 1792] (extf .f32 kv bitsLt_bf16_f32) slices_S256x2048_S256x256_0_1792)⟩]
    concatenates_S4096x256_S4096x256_S4096x256_S4096x256_S4096x1024_d1) bitsLt_bf16_f32

theorem out_head (Q KV : EMat) (h o o' : ℕ) (hq hk hv) (eo : o = 256 * h) (eo' : o' = 256 * (4 + h)) :
    out (extractStridedSlice S4096x256 ![0, o] (ev S4096x1024 .f32 Q : FVec Ideal S4096x1024 .f32) hq) (extractStridedSlice S256x256 ![0, o] (ev S256x2048 .f32 KV : FVec Ideal S256x2048 .f32) hk)
      (extractStridedSlice S256x256 ![0, o'] (ev S256x2048 .f32 KV : FVec Ideal S256x2048 .f32) hv) = ev S4096x256 .f32 (outH Q KV h) := by
  subst eo eo'
  rw [Lines.ev_slice, Lines.ev_slice, Lines.ev_slice]
  exact out_ev _ _ _

theorem outs_ev (Q KV : EMat) : outs (ev S4096x1024 .bf16 Q) (ev S256x2048 .bf16 KV) = ev S4096x1024 .bf16 (headF (outH Q KV)) := by
  unfold outs
  rw [ev_extf, ev_extf, out_head Q KV 0 0 1024 _ _ _ rfl rfl, out_head Q KV 1 256 1280 _ _ _ rfl rfl, out_head Q KV 2 512 1536 _ _ _ rfl rfl, out_head Q KV 3 768 1792 _ _ _ rfl rfl,
    ev_heads (outH Q KV), ev_truncf]

end Ref

end Cert.Ffn.Mem

end
-- ==== Proof.MemBlock.lean ====
/-
  The memory attention's backward call: what a point of the grid computes from a head's columns of a block of rows, and what its result arrays hold. The gradients of a head's keys and values are
  sums over its two blocks of rows, in place.
-/
module

public import proofs.«01_k».proof.Proof.Places
public import proofs.«01_k».proof.Proof.MemFwd
public import proofs.«01_k».proof.Proof.Gen.Kernel8Ideal.Value

@[expose] public section

noncomputable section

namespace Cert.Ffn.Mem

open Cert.Kernel8Ideal Cert.Kernel8Ideal.Gen
open Idealize.ShloMosaic Idealize.ShloMosaic.TcCoe
open Idealize.SL.Sem
open Idealize.ShloMosaic.Pipeline (Dat Cfg Window)

/-! ## From one block -/

section
variable (Q K V O D : EMat)

theorem pay3_ev : k0_pay3 (F := Ideal) (ev S2048x256 .bf16 Q) (ev S256x256 .bf16 K) = ev S2048x256 .f32 (probF 256 (scoreF 256 Q K)) := probs_ev Q K

theorem dprobs_ev : matmul dot_S2048x256_S256x256_S2048x256_1_1_0_0_n_n none (ev S2048x256 .bf16 O : FVec Ideal S2048x256 .bf16) (ev S256x256 .bf16 V : FVec Ideal S256x256 .bf16) (constant S2048x256 .f32 0x00000000#32) = ev S2048x256 .f32 (ntF 256 O V) := by
  rw [ev_constant]
  exact Merge.ev_nt' O V dot_S2048x256_S256x256_S2048x256_1_1_0_0_n_n rfl rfl (fun _ _ => ⟨rfl, rfl⟩) (fun _ _ => ⟨rfl, rfl⟩)

theorem pay4_ev : k0_pay4 (F := Ideal) (ev S2048x256 .bf16 Q) (ev S256x256 .bf16 K) (ev S256x256 .bf16 V) (ev S2048x256 .bf16 O) = ev S2048x256 .bf16 (backK 256 (ntF 256 O V) (scoreF 256 Q K)) := by
  show truncf .bf16 (mulf (mulf (k0_pay3 (F := Ideal) (ev S2048x256 .bf16 Q) (ev S256x256 .bf16 K))
    (subf (matmul dot_S2048x256_S256x256_S2048x256_1_1_0_0_n_n none (ev S2048x256 .bf16 O : FVec Ideal S2048x256 .bf16) (ev S256x256 .bf16 V : FVec Ideal S256x256 .bf16) (constant S2048x256 .f32 0x00000000#32))
      (broadcastTo S2048x256 (sums (mulf (matmul dot_S2048x256_S256x256_S2048x256_1_1_0_0_n_n none (ev S2048x256 .bf16 O : FVec Ideal S2048x256 .bf16) (ev S256x256 .bf16 V : FVec Ideal S256x256 .bf16) (constant S2048x256 .f32 0x00000000#32))
        (k0_pay3 (F := Ideal) (ev S2048x256 .bf16 Q) (ev S256x256 .bf16 K)))) broadcasts_S2048x1_S2048x256)))
    (broadcast S2048x256 (Scalar.ofBits .f32 0x3D800000#32))) bitsLt_bf16_f32 = _
  rw [pay3_ev, dprobs_ev, ev_mulf, sums_ev, ev_spreadCol, ev_subf, ev_mulf, ev_const ofBits_sixteenth, ev_mulf, ev_truncf]
  rfl

theorem pay5_ev : k0_pay5 (F := Ideal) (ev S2048x256 .bf16 Q) (ev S256x256 .bf16 K) (ev S256x256 .bf16 V) (ev S2048x256 .bf16 O) = ev S2048x256 .bf16 (nnF 256 (backK 256 (ntF 256 O V) (scoreF 256 Q K)) K) := by
  unfold k0_pay5
  rw [pay4_ev, ev_constant]
  exact congrArg (fun v => truncf .bf16 v bitsLt_bf16_f32) (In.ev_nn _ K dot_S2048x256_S256x256_S2048x256_1_0_0_1_n_n rfl rfl (fun _ _ => ⟨rfl, rfl⟩) (fun _ _ => ⟨rfl, rfl⟩))

theorem pay6_ev : k0_pay6 (F := Ideal) (ev S2048x256 .bf16 Q) (ev S256x256 .bf16 K) (ev S256x256 .bf16 V) (ev S2048x256 .bf16 O) = ev S256x256 .f32 (tnF 2048 (backK 256 (ntF 256 O V) (scoreF 256 Q K)) Q) := by
  unfold k0_pay6
  rw [pay4_ev, ev_constant]
  exact ev_tn (backK 256 (ntF 256 O V) (scoreF 256 Q K)) Q dot_S2048x256_S2048x256_S256x256_0_0_1_1_n_n rfl rfl (fun _ _ => ⟨rfl, rfl⟩) (fun _ _ => ⟨rfl, rfl⟩)

theorem pay7_ev : k0_pay7 (F := Ideal) (ev S2048x256 .bf16 Q) (ev S256x256 .bf16 K) (ev S2048x256 .bf16 O) = ev S256x256 .f32 (tnF 2048 (probF 256 (scoreF 256 Q K)) O) := by
  unfold k0_pay7
  rw [pay3_ev, ev_constant]
  dsimp only
  rw [ev_truncf]
  exact ev_tn (probF 256 (scoreF 256 Q K)) O dot_S2048x256_S2048x256_S256x256_0_0_1_1_n_n rfl rfl (fun _ _ => ⟨rfl, rfl⟩) (fun _ _ => ⟨rfl, rfl⟩)

theorem pay1_ev : k0_pay1 (F := Ideal) (ev S256x256 .f32 K) (ev S256x256 .f32 D) = ev S256x256 .f32 (D + K) := by
  unfold k0_pay1
  rw [ev_shapeCast]
  rfl

theorem pay2_ev : k0_pay2 (F := Ideal) (ev S256x256 .f32 K) (ev S256x256 .f32 D) = ev S256x256 .f32 (D + K) := pay1_ev K D

end

/-! ## What a point of the grid leaves -/

section
variable (m : (ℓ : Loc nD τ sig) → Buf (Elt Ideal) ℓ) (c : Dev nD) (t : Fin cfg0.N)

theorem first_4 (h0 : t.val % 2 = 0) (h1 : ¬t.val % 2 = 1) : (outsAt0 m c t.val t.isLt).1 = k0_pay5 (iblk m c 0 t) (iblk m c 1 t) (iblk m c 2 t) (iblk m c 3 t) := by
  rw [outsAt0_A m c t h0 h1]
  dsimp only
  unfold out0_A_4
  rw [View.read_writes_eq_canon _ _ _ (cover0_A_4 _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t),
    View.ld_unit_zero (S := S2048x256) origin, View.ld_unit_zero (S := S256x256) origin]

theorem first_5 (h0 : t.val % 2 = 0) (h1 : ¬t.val % 2 = 1) : (outsAt0 m c t.val t.isLt).2.1 = k0_pay6 (iblk m c 0 t) (iblk m c 1 t) (iblk m c 2 t) (iblk m c 3 t) := by
  rw [outsAt0_A m c t h0 h1]
  dsimp only
  unfold out0_A_5
  rw [View.read_writes_eq_canon _ _ _ (cover0_A_5 _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t),
    View.ld_unit_zero (S := S2048x256) origin, View.ld_unit_zero (S := S256x256) origin]

theorem first_6 (h0 : t.val % 2 = 0) (h1 : ¬t.val % 2 = 1) : (outsAt0 m c t.val t.isLt).2.2 = k0_pay7 (iblk m c 0 t) (iblk m c 1 t) (iblk m c 3 t) := by
  rw [outsAt0_A m c t h0 h1]
  dsimp only
  unfold out0_A_6
  rw [View.read_writes_eq_canon _ _ _ (cover0_A_6 _ _ _ _ _ _ _ _ _ _ _ _ _ _ _ _ _ _ _ _ _ _)]
  unfold kernelRun0_A
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t),
    View.ld_unit_zero (S := S2048x256) origin, View.ld_unit_zero (S := S256x256) origin]

theorem later_4 (h0 : ¬t.val % 2 = 0) (h1 : t.val % 2 = 1) : (outsAt0 m c t.val t.isLt).1 = k0_pay5 (iblk m c 0 t) (iblk m c 1 t) (iblk m c 2 t) (iblk m c 3 t) := by
  rw [outsAt0_B m c t h0 h1]
  dsimp only
  unfold out0_B_4
  rw [View.read_writes_eq_canon _ _ _ (cover0_B_4 _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t),
    View.ld_unit_zero (S := S2048x256) origin, View.ld_unit_zero (S := S256x256) origin]

theorem later_5 (h0 : ¬t.val % 2 = 0) (h1 : t.val % 2 = 1) : (outsAt0 m c t.val t.isLt).2.1 = k0_pay1 (k0_pay6 (iblk m c 0 t) (iblk m c 1 t) (iblk m c 2 t) (iblk m c 3 t)) (outsAt0 m c (t.val - 1) (Nat.lt_of_le_of_lt (Nat.sub_le _ _) t.isLt)).2.1 := by
  rw [outsAt0_B m c t h0 h1]
  dsimp only
  unfold out0_B_5
  rw [View.read_writes_eq_canon _ _ _ (cover0_B_5 _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_5 t),
    View.ld_unit_zero (S := S2048x256) origin, View.ld_unit_zero (S := S256x256) origin]

theorem later_6 (h0 : ¬t.val % 2 = 0) (h1 : t.val % 2 = 1) : (outsAt0 m c t.val t.isLt).2.2 = k0_pay2 (k0_pay7 (iblk m c 0 t) (iblk m c 1 t) (iblk m c 3 t)) (outsAt0 m c (t.val - 1) (Nat.lt_of_le_of_lt (Nat.sub_le _ _) t.isLt)).2.2 := by
  rw [outsAt0_B m c t h0 h1]
  dsimp only
  unfold out0_B_6
  rw [View.read_writes_eq_canon _ _ _ (cover0_B_6 _ _ _ _ _ _ _ _ _ _ _ _ _ _ _ _ _ _ _ _ _ _ _ _)]
  unfold kernelRun0_B
  dsimp only
  sl_unfold_words
  rw [View.canon_unit_zero origin]
  simp only [View.readAt_eq_ld, Memref.IsWhole.read_unread (hs0_0 t), Memref.IsWhole.read_unread (hs0_1 t), Memref.IsWhole.read_unread (hs0_2 t), Memref.IsWhole.read_unread (hs0_3 t), Memref.IsWhole.read_unread (hs0_6 t),
    View.ld_unit_zero (S := S2048x256) origin, View.ld_unit_zero (S := S256x256) origin]

end

/-! ## The windows -/

theorem place8 : ∀ t : Fin grid0.N, (win0_0.index t 0 = t.val % 2 ∧ win0_0.index t 1 = t.val / 2) ∧ (win0_1.index t 0 = 0 ∧ win0_1.index t 1 = t.val / 2)
    ∧ (win0_2.index t 0 = 0 ∧ win0_2.index t 1 = 4 + t.val / 2) ∧ (win0_3.index t 0 = t.val % 2 ∧ win0_3.index t 1 = t.val / 2) ∧ (win0_4.index t 0 = t.val % 2 ∧ win0_4.index t 1 = t.val / 2)
    ∧ (win0_5.index t 0 = 0 ∧ win0_5.index t 1 = t.val / 2) ∧ (win0_6.index t 0 = 0 ∧ win0_6.index t 1 = t.val / 2) := by decide +kernel

section
variable (X : EMat) (t : Fin cfg0.N)

theorem shown8_0 : ((cfg0.win 0).blk t).view.read (Elt Ideal) (ev S4096x1024 .bf16 X) = ev S2048x256 .bf16 (subE (rightF (256 * (t.val / 2)) X) (2048 * (t.val % 2))) :=
  shown_part X (at_place win0_0 rfl (place8 t).1)

theorem shown8_1 : ((cfg0.win 1).blk t).view.read (Elt Ideal) (ev S256x2048 .bf16 X) = ev S256x256 .bf16 (rightF (256 * (t.val / 2)) X) :=
  shown_cols X (at_place win0_1 rfl (place8 t).2.1)

theorem shown8_2 : ((cfg0.win 2).blk t).view.read (Elt Ideal) (ev S256x2048 .bf16 X) = ev S256x256 .bf16 (rightF (256 * (4 + t.val / 2)) X) :=
  shown_cols X (at_place win0_2 rfl (place8 t).2.2.1)

theorem shown8_3 : ((cfg0.win 3).blk t).view.read (Elt Ideal) (ev S4096x1024 .bf16 X) = ev S2048x256 .bf16 (subE (rightF (256 * (t.val / 2)) X) (2048 * (t.val % 2))) :=
  shown_part X (at_place win0_3 rfl (place8 t).2.2.2.1)

theorem shown8_4 : ((cfg0.win 4).blk t).view.read (Elt Ideal) (ev S4096x1024 .bf16 X) = ev S2048x256 .bf16 (subE (rightF (256 * (t.val / 2)) X) (2048 * (t.val % 2))) :=
  shown_part X (at_place win0_4 rfl (place8 t).2.2.2.2.1)

theorem shown8_5 : ((cfg0.win 5).blk t).view.read (Elt Ideal) (ev S256x1024 .f32 X) = ev S256x256 .f32 (rightF (256 * (t.val / 2)) X) :=
  shown_cols X (at_place win0_5 rfl (place8 t).2.2.2.2.2.1)

theorem shown8_6 : ((cfg0.win 6).blk t).view.read (Elt Ideal) (ev S256x1024 .f32 X) = ev S256x256 .f32 (rightF (256 * (t.val / 2)) X) :=
  shown_cols X (at_place win0_6 rfl (place8 t).2.2.2.2.2.2)

end

theorem covered8_4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  obtain ⟨n, hn⟩ : ∃ n, n = (i 1).val / 256 * 2 + (i 0).val / 2048 := ⟨_, rfl⟩
  have ht : n < 8 := by omega
  refine ⟨⟨n, ht⟩, flush0_4 _, ?_⟩
  show i ∈ ((View.whole main_v0_0).slice (win0_4.rect ⟨n, ht⟩)).set
  rw [View.set_slice_whole, Rect.mem_set_unit]
  have hp := (place8 ⟨n, ht⟩).2.2.2.2.1
  refine in_place (n % 2) (n / 2) 2048 256 ?_ ?_ ?_ ?_ ?_
  exacts [congrArg (· * 2048) hp.1, congrArg (· * 256) hp.2, ⟨rfl, rfl⟩, by omega, by omega]

theorem covered8_5 (i : S256x1024.Idx) : ∃ t : Fin cfg0.N, (cfg0.win 5).flush t = true ∧ i ∈ ((cfg0.win 5).blk t).view.set := by
  have h0 : (i 0).val < 256 := (i 0).isLt
  have h1 : (i 1).val < 1024 := (i 1).isLt
  obtain ⟨n, hn⟩ : ∃ n, n = (i 1).val / 256 * 2 + 1 := ⟨_, rfl⟩
  have ht : n < 8 := by omega
  refine ⟨⟨n, ht⟩, (flush0_5 _).2 (by show n % 2 = 1; omega), ?_⟩
  show i ∈ ((View.whole main_v0_1).slice (win0_5.rect ⟨n, ht⟩)).set
  rw [View.set_slice_whole, Rect.mem_set_unit]
  have hp := (place8 ⟨n, ht⟩).2.2.2.2.2.1
  refine in_place 0 (n / 2) 256 256 ?_ ?_ ?_ ?_ ?_
  exacts [congrArg (· * 256) hp.1, congrArg (· * 256) hp.2, ⟨rfl, rfl⟩, by omega, by omega]

theorem covered8_6 (i : S256x1024.Idx) : ∃ t : Fin cfg0.N, (cfg0.win 6).flush t = true ∧ i ∈ ((cfg0.win 6).blk t).view.set := by
  have h0 : (i 0).val < 256 := (i 0).isLt
  have h1 : (i 1).val < 1024 := (i 1).isLt
  obtain ⟨n, hn⟩ : ∃ n, n = (i 1).val / 256 * 2 + 1 := ⟨_, rfl⟩
  have ht : n < 8 := by omega
  refine ⟨⟨n, ht⟩, (flush0_6 _).2 (by show n % 2 = 1; omega), ?_⟩
  show i ∈ ((View.whole main_v0_2).slice (win0_6.rect ⟨n, ht⟩)).set
  rw [View.set_slice_whole, Rect.mem_set_unit]
  have hp := (place8 ⟨n, ht⟩).2.2.2.2.2.2
  refine in_place 0 (n / 2) 256 256 ?_ ?_ ?_ ?_ ?_
  exacts [congrArg (· * 256) hp.1, congrArg (· * 256) hp.2, ⟨rfl, rfl⟩, by omega, by omega]

/-! ## The result arrays -/

section
variable (m : (ℓ : Loc nD τ sig) → Buf (Elt Ideal) ℓ) (c : Dev nD) (Q KV O : EMat) (hQ : m ((c : Thread nD τ).loc main_arg0) = ev S4096x1024 .bf16 Q)
  (hKV : m ((c : Thread nD τ).loc main_arg1) = ev S256x2048 .bf16 KV) (hO : m ((c : Thread nD τ).loc main_arg2) = ev S4096x1024 .bf16 O)
include hQ hKV hO

theorem shows8 (t : Fin cfg0.N) : iblk m c 0 t = ev S2048x256 .bf16 (subE (rightF (256 * (t.val / 2)) Q) (2048 * (t.val % 2))) ∧ iblk m c 1 t = ev S256x256 .bf16 (rightF (256 * (t.val / 2)) KV)
    ∧ iblk m c 2 t = ev S256x256 .bf16 (rightF (256 * (4 + t.val / 2)) KV) ∧ iblk m c 3 t = ev S2048x256 .bf16 (subE (rightF (256 * (t.val / 2)) O) (2048 * (t.val % 2))) :=
  ⟨(congrArg (((cfg0.win 0).blk t).view.read (Elt Ideal)) hQ).trans (shown8_0 Q t),
    (congrArg (((cfg0.win 1).blk t).view.read (Elt Ideal)) hKV).trans (shown8_1 KV t),
    (congrArg (((cfg0.win 2).blk t).view.read (Elt Ideal)) hKV).trans (shown8_2 KV t),
    (congrArg (((cfg0.win 3).blk t).view.read (Elt Ideal)) hO).trans (shown8_3 O t)⟩

theorem res_dq : (dats m 0 c).arrAt 4 cfg0.N = ev S4096x1024 .bf16 (headF (dqH Q KV O)) := by
  refine (dats m 0 c).arrAt_eq_of_cover 4 (ev S4096x1024 .bf16 (headF (dqH Q KV O))) (fun t _ => ?_) covered8_4
  show (cfg0.win 4).cut (grid0.coords t) ((dats m 0 c).after 4 t) = _
  have e : (outsAt0 m c t.val t.isLt).1 = k0_pay5 (iblk m c 0 t) (iblk m c 1 t) (iblk m c 2 t) (iblk m c 3 t) := by
    rcases Nat.mod_two_eq_zero_or_one t.val with h | h
    · exact first_4 m c t h (by omega)
    · exact later_4 m c t (by omega) h
  obtain ⟨e0, e1, e2, e3⟩ := shows8 m c Q KV O hQ hKV hO t
  rw [after0_4, e, e0, e1, e2, e3, pay5_ev, shown8_4]
  exact head_right 2048 .bf16 (dqH Q KV O) (t.val / 2) (2048 * (t.val % 2))

/-- After the second point of a head: the gradients of its keys and values from all rows. -/
theorem left8 (t s : Fin cfg0.N) (hs : s.val = t.val - 1) (ht : t.val % 2 = 1) : (outsAt0 m c t.val t.isLt).2 = (ev S256x256 .f32 (dkH Q KV O (t.val / 2) 4096), ev S256x256 .f32 (dvH Q KV O (t.val / 2) 4096)) := by
  obtain ⟨e0, e1, e2, e3⟩ := shows8 m c Q KV O hQ hKV hO t
  obtain ⟨f0, f1, f2, f3⟩ := shows8 m c Q KV O hQ hKV hO s
  have hd : s.val / 2 = t.val / 2 := by omega
  have hm : s.val % 2 = 0 := by omega
  have g5 := first_5 m c s hm (by omega)
  have g6 := first_6 m c s hm (by omega)
  rw [f0, f1, f2, f3, hd, hm, pay6_ev] at g5
  rw [f0, f1, f3, hd, hm, pay7_ev] at g6
  have k5 := later_5 m c t (by omega) ht
  have k6 := later_6 m c t (by omega) ht
  rw [e0, e1, e2, e3, ht, pay6_ev] at k5
  rw [e0, e1, e3, ht, pay7_ev] at k6
  refine Prod.ext (k5.trans ?_) (k6.trans ?_)
  · simp only [← hs]
    rw [g5, pay1_ev]
    exact congrArg (fun f => ev S256x256 .f32 f) (dk_two 2048 256 (rightF (256 * (t.val / 2)) Q) (rightF (256 * (t.val / 2)) KV) (rightF (256 * (4 + t.val / 2)) KV) (rightF (256 * (t.val / 2)) O))
  · simp only [← hs]
    rw [g6, pay2_ev]
    exact congrArg (fun f => ev S256x256 .f32 f) (dv_two 2048 256 (rightF (256 * (t.val / 2)) Q) (rightF (256 * (t.val / 2)) KV) (rightF (256 * (t.val / 2)) O))

theorem res_dk : (dats m 0 c).arrAt 5 cfg0.N = ev S256x1024 .f32 (headF (fun h => dkH Q KV O h 4096)) := by
  refine (dats m 0 c).arrAt_eq_of_cover 5 (ev S256x1024 .f32 (headF (fun h => dkH Q KV O h 4096))) (fun t hf => ?_) covered8_5
  show (cfg0.win 5).cut (grid0.coords t) ((dats m 0 c).after 5 t) = _
  rw [after0_5, left8 m c Q KV O hQ hKV hO t ⟨t.val - 1, Nat.lt_of_le_of_lt (Nat.sub_le _ _) t.isLt⟩ rfl ((flush0_5 t).1 hf), shown8_5]
  exact head_at 256 .f32 (fun h => dkH Q KV O h 4096) (t.val / 2)

theorem res_dv : (dats m 0 c).arrAt 6 cfg0.N = ev S256x1024 .f32 (headF (fun h => dvH Q KV O h 4096)) := by
  refine (dats m 0 c).arrAt_eq_of_cover 6 (ev S256x1024 .f32 (headF (fun h => dvH Q KV O h 4096))) (fun t hf => ?_) covered8_6
  show (cfg0.win 6).cut (grid0.coords t) ((dats m 0 c).after 6 t) = _
  rw [after0_6, left8 m c Q KV O hQ hKV hO t ⟨t.val - 1, Nat.lt_of_le_of_lt (Nat.sub_le _ _) t.isLt⟩ rfl ((flush0_6 t).1 hf), shown8_6]
  exact head_at 256 .f32 (fun h => dvH Q KV O h 4096) (t.val / 2)

end

end Cert.Ffn.Mem

end
-- ==== Proof.MemRef.lean ====
/-
  The memory attention's backward call: the reference's lines. It divides by the total of the exponentials where the kernel multiplies by the weights; `back_eq` says that the two agree where the
  scores are real numbers.
-/
module

public import proofs.«01_k».proof.Proof.MemFwd
public import proofs.«01_k».proof.Proof.Gen.Reference8Ideal.Run

@[expose] public section

noncomputable section

namespace Cert.Ffn.Mem.Ref

open Cert.Reference8Ideal Cert.Reference8Ideal.Gen
open Cert.Attn (ofBits_one)
open Idealize.ShloMosaic Idealize.ShloMosaic.TcCoe

/-- The gradient of the products of rows and keys, from that of the weights and the exponentials. -/
def back (d e : FVec Ideal S4096x256 .f32) : FVec Ideal S4096x256 .f32 :=
  Host.divf (mulf (addf (Host.divf d (broadcastInDim S4096x256 ![0, 1] bcast_S4096x1_S4096x256_0_1 (total e))) (broadcastInDim S4096x256 ![0] bcast_S4096_S4096x256_0 (Host.reduceAdd (Host.negf (shapeCast S4096x1
    (Host.reduceAdd (mulf (mulf d (broadcastInDim S4096x256 ![0, 1] bcast_S4096x1_S4096x256_0_1 (Host.divf (broadcastInDim S4096x1 ![] bcast_S_S4096x1 (constant S_ .f32 0x3F800000#32)) (mulf (total e) (total e))))) e)
      (constant S_ .f32 0x00000000#32) reducesTo_S4096x256_S4096_d1 h_S_) shapeCasts_S4096_S4096x1)) (constant S_ .f32 0x00000000#32) reducesTo_S4096x1_S4096_d1 h_S_))) e) (broadcastInDim S4096x256 ![] bcast_S_S4096x256 (constant S_ .f32 0x41800000#32))
def ds (q : FVec Ideal S4096x256 .f32) (k v : FVec Ideal S256x256 .f32) (o : FVec Ideal S4096x256 .f32) : FVec Ideal S4096x256 .f32 :=
  back (Host.dotGeneral dot_S4096x256_S256x256_S4096x256_1_1_0_0_n_n none o v) (expo (score q k))
def dq (q : FVec Ideal S4096x256 .f32) (k v : FVec Ideal S256x256 .f32) (o : FVec Ideal S4096x256 .f32) : FVec Ideal S4096x256 .f32 :=
  Host.dotGeneral dot_S4096x256_S256x256_S4096x256_1_1_0_0_n_n none (ds q k v o) (transpose S256x256 [1, 0] k transposes_S256x256_S256x256_1_0)
def dk (q : FVec Ideal S4096x256 .f32) (k v : FVec Ideal S256x256 .f32) (o : FVec Ideal S4096x256 .f32) : FVec Ideal S256x256 .f32 :=
  transpose S256x256 [1, 0] (transpose S256x256 [1, 0] (Host.dotGeneral dot_S4096x256_S4096x256_S256x256_0_0_1_1_n_n none (ds q k v o) q) transposes_S256x256_S256x256_1_0) transposes_S256x256_S256x256_1_0
def dv (q : FVec Ideal S4096x256 .f32) (k : FVec Ideal S256x256 .f32) (o : FVec Ideal S4096x256 .f32) : FVec Ideal S256x256 .f32 :=
  transpose S256x256 [1, 0] (Host.dotGeneral dot_S4096x256_S4096x256_S256x256_0_0_1_1_n_n none o (weight (expo (score q k)))) transposes_S256x256_S256x256_1_0

section
variable (Q K V O D S : EMat)

theorem back_ev (hS : ∀ a b, ∃ r : ℝ, S a b = r) : back (ev S4096x256 .f32 D) (ev S4096x256 .f32 (eF 256 S)) = ev S4096x256 .f32 (backK 256 D S) := by
  unfold back
  rw [total_ev, host_spreadCol, host_divf, host_const ofBits_one, ev_mulf, host_divf, host_spreadCol, ev_mulf, ev_mulf, host_rowSum, ev_asCol, host_negf, host_rowSum, host_spread1, ev_addf, ev_mulf,
    host_const ofBits_16, host_divf]
  exact congrArg (fun f => ev S4096x256 .f32 f) (back_eq 256 (by norm_num) S hS D)

theorem ds_ev (hS : ∀ a b, ∃ r : ℝ, scoreF 256 Q K a b = r) : ds (ev S4096x256 .f32 Q) (ev S256x256 .f32 K) (ev S256x256 .f32 V) (ev S4096x256 .f32 O) = ev S4096x256 .f32 (backK 256 (ntF 256 O V) (scoreF 256 Q K)) := by
  unfold ds
  rw [score_ev, expo_ev]
  refine (congrArg (fun d => back d (ev S4096x256 .f32 (eF 256 (scoreF 256 Q K)))) (host_nt O V dot_S4096x256_S256x256_S4096x256_1_1_0_0_n_n rfl rfl (fun _ _ => ⟨rfl, rfl⟩) (fun _ _ => ⟨rfl, rfl⟩))).trans ?_
  exact back_ev (ntF 256 O V) (scoreF 256 Q K) hS

theorem dq_ev (hS : ∀ a b, ∃ r : ℝ, scoreF 256 Q K a b = r) : dq (ev S4096x256 .f32 Q) (ev S256x256 .f32 K) (ev S256x256 .f32 V) (ev S4096x256 .f32 O) = ev S4096x256 .f32 (nnF 256 (backK 256 (ntF 256 O V) (scoreF 256 Q K)) K) := by
  unfold dq
  rw [ds_ev Q K V O hS, ev_transpose]
  exact host_nt (backK 256 (ntF 256 O V) (scoreF 256 Q K)) (transF K) dot_S4096x256_S256x256_S4096x256_1_1_0_0_n_n rfl rfl (fun _ _ => ⟨rfl, rfl⟩) (fun _ _ => ⟨rfl, rfl⟩)

theorem dk_ev (hS : ∀ a b, ∃ r : ℝ, scoreF 256 Q K a b = r) : dk (ev S4096x256 .f32 Q) (ev S256x256 .f32 K) (ev S256x256 .f32 V) (ev S4096x256 .f32 O) = ev S256x256 .f32 (tnF 4096 (backK 256 (ntF 256 O V) (scoreF 256 Q K)) Q) := by
  unfold dk
  rw [ds_ev Q K V O hS]
  refine (congrArg (fun v => transpose S256x256 [1, 0] (transpose S256x256 [1, 0] v transposes_S256x256_S256x256_1_0) transposes_S256x256_S256x256_1_0)
    (host_tn (backK 256 (ntF 256 O V) (scoreF 256 Q K)) Q dot_S4096x256_S4096x256_S256x256_0_0_1_1_n_n rfl rfl (fun _ _ => ⟨rfl, rfl⟩) (fun _ _ => ⟨rfl, rfl⟩))).trans ?_
  rw [ev_transpose, ev_transpose]
  rfl

theorem dv_ev : dv (ev S4096x256 .f32 Q) (ev S256x256 .f32 K) (ev S4096x256 .f32 O) = ev S256x256 .f32 (tnF 4096 (probF 256 (scoreF 256 Q K)) O) := by
  unfold dv
  rw [score_ev, expo_ev, weight_ev]
  refine (congrArg (fun v => transpose S256x256 [1, 0] v transposes_S256x256_S256x256_1_0)
    (host_tn O (probF 256 (scoreF 256 Q K)) dot_S4096x256_S4096x256_S256x256_0_0_1_1_n_n rfl rfl (fun _ _ => ⟨rfl, rfl⟩) (fun _ _ => ⟨rfl, rfl⟩))).trans ?_
  rw [ev_transpose]
  exact congrArg (fun f => ev S256x256 .f32 f) (tn_swap 4096 O (probF 256 (scoreF 256 Q K)))

end

/-! ## The heads -/

/-- A head's columns of rows, and of the keys or the values, in float32. -/
def qh (q : FVec Ideal S4096x1024 .bf16) (o : ℕ) (h : S4096x1024.Slices ![0, o] S4096x256) : FVec Ideal S4096x256 .f32 := extractStridedSlice S4096x256 ![0, o] (extf .f32 q bitsLt_bf16_f32) h
def kh (kv : FVec Ideal S256x2048 .bf16) (o : ℕ) (h : S256x2048.Slices ![0, o] S256x256) : FVec Ideal S256x256 .f32 := extractStridedSlice S256x256 ![0, o] (extf .f32 kv bitsLt_bf16_f32) h

section
variable (q o : FVec Ideal S4096x1024 .bf16) (kv : FVec Ideal S256x2048 .bf16)

def dqs : FVec Ideal S4096x1024 .bf16 := truncf .bf16 (concatenate S4096x1024 1
    [⟨S4096x256, dq (qh q 0 slices_S4096x1024_S4096x256_0_0) (kh kv 0 slices_S256x2048_S256x256_0_0) (kh kv 1024 slices_S256x2048_S256x256_0_1024) (qh o 0 slices_S4096x1024_S4096x256_0_0)⟩,
     ⟨S4096x256, dq (qh q 256 slices_S4096x1024_S4096x256_0_256) (kh kv 256 slices_S256x2048_S256x256_0_256) (kh kv 1280 slices_S256x2048_S256x256_0_1280) (qh o 256 slices_S4096x1024_S4096x256_0_256)⟩,
     ⟨S4096x256, dq (qh q 512 slices_S4096x1024_S4096x256_0_512) (kh kv 512 slices_S256x2048_S256x256_0_512) (kh kv 1536 slices_S256x2048_S256x256_0_1536) (qh o 512 slices_S4096x1024_S4096x256_0_512)⟩,
     ⟨S4096x256, dq (qh q 768 slices_S4096x1024_S4096x256_0_768) (kh kv 768 slices_S256x2048_S256x256_0_768) (kh kv 1792 slices_S256x2048_S256x256_0_1792) (qh o 768 slices_S4096x1024_S4096x256_0_768)⟩] concatenates_S4096x256_S4096x256_S4096x256_S4096x256_S4096x1024_d1) bitsLt_bf16_f32

def dks : FVec Ideal S256x1024 .f32 := concatenate S256x1024 1
    [⟨S256x256, dk (qh q 0 slices_S4096x1024_S4096x256_0_0) (kh kv 0 slices_S256x2048_S256x256_0_0) (kh kv 1024 slices_S256x2048_S256x256_0_1024) (qh o 0 slices_S4096x1024_S4096x256_0_0)⟩,
     ⟨S256x256, dk (qh q 256 slices_S4096x1024_S4096x256_0_256) (kh kv 256 slices_S256x2048_S256x256_0_256) (kh kv 1280 slices_S256x2048_S256x256_0_1280) (qh o 256 slices_S4096x1024_S4096x256_0_256)⟩,
     ⟨S256x256, dk (qh q 512 slices_S4096x1024_S4096x256_0_512) (kh kv 512 slices_S256x2048_S256x256_0_512) (kh kv 1536 slices_S256x2048_S256x256_0_1536) (qh o 512 slices_S4096x1024_S4096x256_0_512)⟩,
     ⟨S256x256, dk (qh q 768 slices_S4096x1024_S4096x256_0_768) (kh kv 768 slices_S256x2048_S256x256_0_768) (kh kv 1792 slices_S256x2048_S256x256_0_1792) (qh o 768 slices_S4096x1024_S4096x256_0_768)⟩] concatenates_S256x256_S256x256_S256x256_S256x256_S256x1024_d1

def dvs : FVec Ideal S256x1024 .f32 := concatenate S256x1024 1
    [⟨S256x256, dv (qh q 0 slices_S4096x1024_S4096x256_0_0) (kh kv 0 slices_S256x2048_S256x256_0_0) (qh o 0 slices_S4096x1024_S4096x256_0_0)⟩,
     ⟨S256x256, dv (qh q 256 slices_S4096x1024_S4096x256_0_256) (kh kv 256 slices_S256x2048_S256x256_0_256) (qh o 256 slices_S4096x1024_S4096x256_0_256)⟩,
     ⟨S256x256, dv (qh q 512 slices_S4096x1024_S4096x256_0_512) (kh kv 512 slices_S256x2048_S256x256_0_512) (qh o 512 slices_S4096x1024_S4096x256_0_512)⟩,
     ⟨S256x256, dv (qh q 768 slices_S4096x1024_S4096x256_0_768) (kh kv 768 slices_S256x2048_S256x256_0_768) (qh o 768 slices_S4096x1024_S4096x256_0_768)⟩] concatenates_S256x256_S256x256_S256x256_S256x256_S256x1024_d1

end

section
variable (Q KV O : EMat)

theorem qh_ev (h o : ℕ) (hs) (eo : o = 256 * h) : qh (ev S4096x1024 .bf16 Q) o hs = ev S4096x256 .f32 (rightF (256 * h) Q) := by
  subst eo
  unfold qh
  rw [ev_extf, Lines.ev_slice]

theorem kh_ev (h o : ℕ) (hs) (eo : o = 256 * h) : kh (ev S256x2048 .bf16 KV) o hs = ev S256x256 .f32 (rightF (256 * h) KV) := by
  subst eo
  unfold kh
  rw [ev_extf, Lines.ev_slice]

theorem dvs_ev : dvs (ev S4096x1024 .bf16 Q) (ev S4096x1024 .bf16 O) (ev S256x2048 .bf16 KV) = ev S256x1024 .f32 (headF (fun h => dvH Q KV O h 4096)) := by
  have e : ∀ h o h1 h2 h3, o = 256 * h → dv (qh (ev S4096x1024 .bf16 Q) o h1) (kh (ev S256x2048 .bf16 KV) o h2) (qh (ev S4096x1024 .bf16 O) o h3) = ev S256x256 .f32 (dvH Q KV O h 4096) := by
    intro h o h1 h2 h3 eo
    rw [qh_ev Q h o h1 eo, kh_ev KV h o h2 eo, qh_ev O h o h3 eo]
    exact dv_ev _ _ _
  unfold dvs
  rw [e 0 0 _ _ _ rfl, e 1 256 _ _ _ rfl, e 2 512 _ _ _ rfl, e 3 768 _ _ _ rfl]
  exact ev_heads (fun h => dvH Q KV O h 4096) _

variable (hS : ∀ h < 4, ∀ a b, ∃ r : ℝ, scoreF 256 (rightF (256 * h) Q) (rightF (256 * h) KV) a b = r)
include hS

theorem dqs_ev : dqs (ev S4096x1024 .bf16 Q) (ev S4096x1024 .bf16 O) (ev S256x2048 .bf16 KV) = ev S4096x1024 .bf16 (headF (dqH Q KV O)) := by
  have e : ∀ h o o' h1 h2 h3 h4, h < 4 → o = 256 * h → o' = 256 * (4 + h) →
      dq (qh (ev S4096x1024 .bf16 Q) o h1) (kh (ev S256x2048 .bf16 KV) o h2) (kh (ev S256x2048 .bf16 KV) o' h3) (qh (ev S4096x1024 .bf16 O) o h4) = ev S4096x256 .f32 (dqH Q KV O h) := by
    intro h o o' h1 h2 h3 h4 hh eo eo'
    rw [qh_ev Q h o h1 eo, kh_ev KV h o h2 eo, kh_ev KV (4 + h) o' h3 eo', qh_ev O h o h4 eo]
    exact dq_ev _ _ _ _ (hS h hh)
  unfold dqs
  rw [e 0 0 1024 _ _ _ _ (by norm_num) rfl rfl, e 1 256 1280 _ _ _ _ (by norm_num) rfl rfl, e 2 512 1536 _ _ _ _ (by norm_num) rfl rfl, e 3 768 1792 _ _ _ _ (by norm_num) rfl rfl, ev_heads (dqH Q KV O), ev_truncf]

theorem dks_ev : dks (ev S4096x1024 .bf16 Q) (ev S4096x1024 .bf16 O) (ev S256x2048 .bf16 KV) = ev S256x1024 .f32 (headF (fun h => dkH Q KV O h 4096)) := by
  have e : ∀ h o o' h1 h2 h3 h4, h < 4 → o = 256 * h → o' = 256 * (4 + h) →
      dk (qh (ev S4096x1024 .bf16 Q) o h1) (kh (ev S256x2048 .bf16 KV) o h2) (kh (ev S256x2048 .bf16 KV) o' h3) (qh (ev S4096x1024 .bf16 O) o h4) = ev S256x256 .f32 (dkH Q KV O h 4096) := by
    intro h o o' h1 h2 h3 h4 hh eo eo'
    rw [qh_ev Q h o h1 eo, kh_ev KV h o h2 eo, kh_ev KV (4 + h) o' h3 eo', qh_ev O h o h4 eo]
    exact dk_ev _ _ _ _ (hS h hh)
  unfold dks
  rw [e 0 0 1024 _ _ _ _ (by norm_num) rfl rfl, e 1 256 1280 _ _ _ _ (by norm_num) rfl rfl, e 2 512 1536 _ _ _ _ (by norm_num) rfl rfl, e 3 768 1792 _ _ _ _ (by norm_num) rfl rfl]
  exact ev_heads (fun h => dkH Q KV O h 4096) _

end

end Cert.Ffn.Mem.Ref

end
-- ==== Proof.MemEnd.lean ====
/-
  The claims of the eighth and the ninth program, the memory attention's backward and forward call. The eighth's values have a precondition: the queries and the keys are real numbers.
-/
module

public import proofs.«01_k».proof.Defs
public import proofs.«01_k».proof.Proof.MixEnd
public import proofs.«01_k».proof.Proof.MemBlock
public import proofs.«01_k».proof.Proof.MemRef
public import proofs.«01_k».proof.Proof.Gen.Kernel8.Frame
public import proofs.«01_k».proof.Proof.Gen.Kernel9.Frame
public import proofs.«01_k».proof.Proof.Gen.Reference9Ideal.Run
public import proofs.«01_k».proof.Proof.Gen.Pre_finite3
public import Idealize.ShloMosaic.Lib.Quiescent

@[expose] public section

noncomputable section

namespace Cert.Ffn

open Cert.Attn (Mat rv and_bits)
open Idealize.ShloMosaic Idealize.ShloMosaic.TcCoe Idealize.SL.Sem

attribute [local instance] Cert.Kernel8.Gen.facts Cert.Kernel8Ideal.Gen.facts Cert.Reference8Ideal.Gen.facts Cert.Kernel9.Gen.facts Cert.Kernel9Ideal.Gen.facts Cert.Reference9Ideal.Gen.facts Cert.Pre_finite3.Gen.facts

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_ideal8_finite : Cert.quiescent_Kernel8Ideal_pre_finite3 := fun m ρ _ => Cert.Kernel8Ideal.Gen.frame m ρ

theorem frame_reference8 : Cert.quiescent_Reference8Ideal := fun m ρ _ =>
  (θ_run Cert.Reference8Ideal.defs _ _).mono (fun r h => ⟨fun c => (h c).2.2.2, sem_eq_zero_of_no_sems (by decide) r.2⟩) (Cert.Reference8Ideal.Value.run (F := Ideal) m ρ)

theorem frame_reference8_finite : Cert.quiescent_Reference8Ideal_pre_finite3 := fun m ρ _ => frame_reference8 m ρ trivial

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

theorem entries_real {N n : ℕ} {φ : FTy} (f : EMat) (K : Mat) (h : ev ⟨2, ![N, n]⟩ φ f = rv ⟨2, ![N, n]⟩ φ K) : ∀ a < N, ∀ b < n, f a b = (K a b : EReal) :=
  fun a ha b hb => congrFun h (ValueIdx.ix2 (⟨a, ha⟩ : Fin N) (⟨b, hb⟩ : Fin n))

/-- An array is the same array of any matrix that agrees with its own in some first columns, where those columns are real numbers the matrix has real ones there in every row. -/
theorem left_real (N n n' : ℕ) (KV : EMat) (K : Mat) (h : ∀ a < N, ∀ b < n, KV a b = (K a b : EReal)) :
    ∃ L : EMat, ev ⟨2, ![N, n']⟩ .bf16 KV = ev ⟨2, ![N, n']⟩ .bf16 L ∧ ∀ a, ∀ b < n, ∃ r : ℝ, L a b = r := by
  refine ⟨fun a b => if b < n then (K a b : EReal) else KV a b, ev_congr _ fun a ha b _ => ?_, fun a b hb => ⟨K a b, if_pos hb⟩⟩
  by_cases hb : b < n
  · exact (h a ha b hb).trans (if_pos hb).symm
  · exact (if_neg hb).symm

section
open Cert.Pre_finite3 Cert.Pre_finite3.Facts

theorem args_real3 (q : FVec Ideal S4096x1024 .bf16) (kv : FVec Ideal S256x2048 .bf16) (o : FVec Ideal S4096x1024 .bf16) (h : fn (F := Ideal) q kv o = fun _ => 1#1) :
    (∃ Q : Mat, q = ev S4096x1024 .bf16 (upF Q)) ∧ ∃ L : EMat, kv = ev S256x2048 .bf16 L ∧ ∀ a, ∀ b < 1024, ∃ r : ℝ, L a b = r := by
  have h1 := and_bits (congrFun h (fun d => d.elim0))
  have h2 : Host.reduce (axes := [0, 1]) IntOp.andi (cmpf .olt (Host.absf (extf .f32 (extractStridedSlice S256x1024 ![0, 0] kv slices_S256x2048_S256x1024_0_0) bitsLt_bf16_f32)) (broadcastInDim S256x1024 ![] bcast_S_S256x1024 (constant S_ .f32 0x7F800000#32))) (constantI S_ 1 1#1) reducesTo_S256x1024_S_d0_1 h_S_ (fun d => d.elim0) = 1#1 := h1.2
  generalize hy : extf .f32 (extractStridedSlice S256x1024 ![0, 0] kv slices_S256x2048_S256x1024_0_0) bitsLt_bf16_f32 = y at h2
  obtain ⟨K, hK⟩ := all_real y _ _ _ _ h2
  rw [← hy] at hK
  obtain ⟨KV, hKV⟩ := exists_ev (φ := .bf16) kv
  refine ⟨all_real (extf .f32 q bitsLt_bf16_f32) _ _ _ _ h1.1, ?_⟩
  rw [hKV, Lines.ev_slice, ev_extf, Lines.rightF_zero] at hK
  obtain ⟨L, e, hL⟩ := left_real 256 1024 2048 KV K (entries_real KV K hK)
  exact ⟨L, hKV.trans e, hL⟩

end

theorem head_scores (Q : Mat) (L : EMat) (hL : ∀ a, ∀ b < 1024, ∃ r : ℝ, L a b = r) (h : ℕ) (hh : h < 4) (a b : ℕ) : ∃ r : ℝ, Mem.scoreF 256 (rightF (256 * h) (upF Q)) (rightF (256 * h) L) a b = r :=
  Mem.score_real 256 _ _ (fun a x _ => ⟨Q a (256 * h + x), rfl⟩) (fun a x hx => hL a (256 * h + x) (by omega)) a b

theorem algebraic8 : Cert.algebraic_Kernel8Ideal_Reference8Ideal_pre_finite3 := by
  intro m g m' g' hpre hargs
  choose Q hQ using fun c => (args_real3 _ _ _ (hpre c)).1
  choose KV hKV hL using fun c => (args_real3 _ _ _ (hpre c)).2
  choose O hO using fun c : Dev Cert.Kernel8Ideal.nD => exists_ev (φ := .bf16) (m ((c.tc : Thread Cert.Kernel8Ideal.nD Cert.Kernel8Ideal.τ).loc Cert.Kernel8Ideal.main_arg2))
  refine ⟨fun c => ev Cert.Kernel8Ideal.S4096x1024 .bf16 (Mem.headF (Mem.dqH (upF (Q c)) (KV c) (O c))), fun c => ev Cert.Kernel8Ideal.S256x1024 .f32 (Mem.headF (fun h => Mem.dkH (upF (Q c)) (KV c) (O c) h 4096)),
    fun c => ev Cert.Kernel8Ideal.S256x1024 .f32 (Mem.headF (fun h => Mem.dvH (upF (Q c)) (KV c) (O c) h 4096)), ?_, ?_⟩
  · refine (θ_run Cert.Kernel8Ideal.defs _ _).mono (fun r h c => ?_) (Cert.Kernel8Ideal.Value.run_blocks (F := Ideal) m g)
    obtain ⟨h4, h5, h6, hargs'⟩ := h c
    exact ⟨h4.trans (Mem.res_dq m c (upF (Q c)) (KV c) (O c) (hQ c) (hKV c) (hO c)), h5.trans (Mem.res_dk m c (upF (Q c)) (KV c) (O c) (hQ c) (hKV c) (hO c)),
      h6.trans (Mem.res_dv m c (upF (Q c)) (KV c) (O c) (hQ c) (hKV c) (hO c)), hargs'⟩
  · refine (θ_run Cert.Reference8Ideal.defs _ _).mono (fun r h c => ?_) (Cert.Reference8Ideal.Value.run (F := Ideal) m' g')
    obtain ⟨a0, a1, a2⟩ := hargs c
    have eQ := a0.trans (hQ c)
    have eKV := a1.trans (hKV c)
    have eO := a2.trans (hO c)
    have hS := head_scores (Q c) (KV c) (hL c)
    obtain ⟨h4, h5, h6, hargs'⟩ := h c
    refine ⟨h4.trans (Eq.trans ?_ (Mem.Ref.dqs_ev (upF (Q c)) (KV c) (O c) hS)), h5.trans (Eq.trans ?_ (Mem.Ref.dks_ev (upF (Q c)) (KV c) (O c) hS)), h6.trans (Eq.trans ?_ (Mem.Ref.dvs_ev (upF (Q c)) (KV c) (O c))), hargs'⟩
    · rw [← eQ, ← eKV, ← eO]
      rfl
    · rw [← eQ, ← eKV, ← eO]
      rfl
    · rw [← eQ, ← eKV, ← eO]
      rfl

theorem algebraic9 : Cert.algebraic_Kernel9Ideal_Reference9Ideal := by
  intro m g m' g' _ hargs
  choose Q hQ using fun c : Dev Cert.Kernel9Ideal.nD => exists_ev (φ := .bf16) (m ((c.tc : Thread Cert.Kernel9Ideal.nD Cert.Kernel9Ideal.τ).loc Cert.Kernel9Ideal.main_arg0))
  choose KV hKV using fun c : Dev Cert.Kernel9Ideal.nD => exists_ev (φ := .bf16) (m ((c.tc : Thread Cert.Kernel9Ideal.nD Cert.Kernel9Ideal.τ).loc Cert.Kernel9Ideal.main_arg1))
  refine ⟨fun c => ev Cert.Kernel9Ideal.S4096x1024 .bf16 (Mem.headF (Mem.outH (Q c) (KV c))), ?_, ?_⟩
  · refine (θ_run Cert.Kernel9Ideal.defs _ _).mono (fun r h c => ?_) (Cert.Kernel9Ideal.Value.run_blocks (F := Ideal) m g)
    exact ⟨(h c).1.trans (Mem.res_out m c (Q c) (KV c) (hQ c) (hKV c)), (h c).2⟩
  · refine (θ_run Cert.Reference9Ideal.defs _ _).mono (fun r h c => ?_) (Cert.Reference9Ideal.Value.run (F := Ideal) m' g')
    obtain ⟨a0, a1⟩ := hargs c
    have eQ := a0.trans (hQ c)
    have eKV := a1.trans (hKV c)
    refine ⟨(h c).1.trans (Eq.trans ?_ (Mem.Ref.outs_ev (Q c) (KV c))), (h c).2⟩
    rw [← eQ, ← eKV]
    rfl

end Cert.Ffn

end
-- ==== Proof.lean ====
/-
  The claims of this directory, put together.
-/
module

public import proofs.«01_k».proof.Defs
public import proofs.«01_k».proof.Proof.Frames
public import proofs.«01_k».proof.Proof.Algebra
public import proofs.«01_k».proof.Proof.MixFrames
public import proofs.«01_k».proof.Proof.MixEnd
public import proofs.«01_k».proof.Proof.NormEnd
public import proofs.«01_k».proof.Proof.InFrames
public import proofs.«01_k».proof.Proof.InEnd
public import proofs.«01_k».proof.Proof.FwdFrames
public import proofs.«01_k».proof.Proof.MergeEnd
public import proofs.«01_k».proof.Proof.LossEnd
public import proofs.«01_k».proof.Proof.MemEnd
public import proofs.«01_k».proof.Proof.Gen.Pre_finite2
public import proofs.«01_k».proof.Proof.Gen.Kernel2Ideal.Frame
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2.Frame
public import proofs.«01_k».proof.Proof.Gen.Kernel3.Frame

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite2.Gen.facts, Cert.Pre_finite3.Gen.facts,
  Cert.Attn.frame_kernel, Cert.Attn.frame_ideal, Cert.Attn.frame_ideal_finite, Cert.Attn.frame_reference, Cert.Attn.frame_reference_finite,
  Cert.Ffn.frame_kernel2, Cert.Ffn.frame_ideal2, Cert.Ffn.frame_ideal2_finite, Cert.Ffn.frame_reference2, Cert.Ffn.frame_reference2_finite, Cert.Ffn.frame_kernel3, Cert.Ffn.frame_ideal3, Cert.Ffn.frame_reference3,
  Cert.Ffn.frame_kernel4, Cert.Ffn.frame_ideal4, Cert.Ffn.frame_reference4, Cert.Ffn.frame_kernel5, Cert.Ffn.frame_ideal5, Cert.Ffn.frame_reference5,
  Cert.Ffn.frame_kernel6, Cert.Ffn.frame_ideal6, Cert.Ffn.frame_reference6, Cert.Ffn.frame_kernel7, Cert.Ffn.frame_ideal7, Cert.Ffn.frame_reference7,
  Cert.Ffn.frame_kernel8, Cert.Ffn.frame_ideal8, Cert.Ffn.frame_ideal8_finite, Cert.Ffn.frame_reference8, Cert.Ffn.frame_reference8_finite, Cert.Ffn.frame_kernel9, Cert.Ffn.frame_ideal9, Cert.Ffn.frame_reference9,
  trivial, Cert.Attn.algebraic, trivial, Cert.Ffn.algebraic2, trivial, Cert.Ffn.algebraic3, trivial, Cert.Ffn.algebraic4, trivial, Cert.Ffn.algebraic5, trivial, Cert.Ffn.algebraic6, trivial, Cert.Ffn.algebraic7, trivial, Cert.Ffn.algebraic8, trivial, Cert.Ffn.algebraic9⟩

end Cert.Proof

end
